-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Kernel29Ideal_finite [hPre_finite : Cert.Pre_finite.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_finite.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_finite [hPre_finite : Cert.Pre_finite.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_finite.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2))) = (fun _ => 1#1)

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Kernel29Ideal_pre_finite [hKernel29Ideal : Cert.Kernel29Ideal.Facts] [hPre_finite : Cert.Pre_finite.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal_finite m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Reference29Ideal_pre_finite [hReference29Ideal : Cert.Reference29Ideal.Facts] [hPre_finite : Cert.Pre_finite.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_finite m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_2)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_4)) (v6 : (c : Dev Cert.KernelIdeal.nD) → Buf (Elt Ideal) ((c.tc : Thread Cert.KernelIdeal.nD Cert.KernelIdeal.τ).loc Cert.KernelIdeal.main_v1_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_2) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_4) = v5 c
          ∧ r.2.mem ((c.tc : Thread Cert.KernelIdeal.nD Cert.KernelIdeal.τ).loc Cert.KernelIdeal.main_v1_5) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v39) = v3 c
          ∧ r.2.mem ((c.tc : Thread Cert.ReferenceIdeal.nD Cert.ReferenceIdeal.τ).loc Cert.ReferenceIdeal.main_v43) = v4 c
          ∧ r.2.mem ((c.tc : Thread Cert.ReferenceIdeal.nD Cert.ReferenceIdeal.τ).loc Cert.ReferenceIdeal.main_v41) = v5 c
          ∧ r.2.mem ((c.tc : Thread Cert.ReferenceIdeal.nD Cert.ReferenceIdeal.τ).loc Cert.ReferenceIdeal.main_v37) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v12) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v35) = v0 c
          ∧ r.2.mem ((c.tc : Thread Cert.Reference17Ideal.nD Cert.Reference17Ideal.τ).loc Cert.Reference17Ideal.main_v36) = v1 c
          ∧ r.2.mem ((c.tc : Thread Cert.Reference17Ideal.nD Cert.Reference17Ideal.τ).loc Cert.Reference17Ideal.main_v37) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1_0) = v0 c
          ∧ r.2.mem ((c.tc : Thread Cert.Kernel18Ideal.nD Cert.Kernel18Ideal.τ).loc Cert.Kernel18Ideal.main_v1_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v63) = v0 c
          ∧ r.2.mem ((c.tc : Thread Cert.Reference18Ideal.nD Cert.Reference18Ideal.τ).loc Cert.Reference18Ideal.main_v65) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v66) = v0 c
          ∧ r.2.mem ((c.tc : Thread Cert.Reference19Ideal.nD Cert.Reference19Ideal.τ).loc Cert.Reference19Ideal.main_v67) = v1 c
          ∧ r.2.mem ((c.tc : Thread Cert.Reference19Ideal.nD Cert.Reference19Ideal.τ).loc Cert.Reference19Ideal.main_v68) = v2 c
          ∧ r.2.mem ((c.tc : Thread Cert.Reference19Ideal.nD Cert.Reference19Ideal.τ).loc Cert.Reference19Ideal.main_v70) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v77) = v0 c
          ∧ r.2.mem ((c.tc : Thread Cert.Reference20Ideal.nD Cert.Reference20Ideal.τ).loc Cert.Reference20Ideal.main_v79) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v23) = v0 c
          ∧ r.2.mem ((c.tc : Thread Cert.Reference21Ideal.nD Cert.Reference21Ideal.τ).loc Cert.Reference21Ideal.main_v4) = v1 c
          ∧ r.2.mem ((c.tc : Thread Cert.Reference21Ideal.nD Cert.Reference21Ideal.τ).loc Cert.Reference21Ideal.main_v10) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v23) = v0 c
          ∧ r.2.mem ((c.tc : Thread Cert.Reference22Ideal.nD Cert.Reference22Ideal.τ).loc Cert.Reference22Ideal.main_v4) = v1 c
          ∧ r.2.mem ((c.tc : Thread Cert.Reference22Ideal.nD Cert.Reference22Ideal.τ).loc Cert.Reference22Ideal.main_v10) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v4) = v1 c
          ∧ r.2.mem ((c.tc : Thread Cert.Reference23Ideal.nD Cert.Reference23Ideal.τ).loc Cert.Reference23Ideal.main_v10) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v23) = v0 c
          ∧ r.2.mem ((c.tc : Thread Cert.Reference24Ideal.nD Cert.Reference24Ideal.τ).loc Cert.Reference24Ideal.main_v4) = v1 c
          ∧ r.2.mem ((c.tc : Thread Cert.Reference24Ideal.nD Cert.Reference24Ideal.τ).loc Cert.Reference24Ideal.main_v10) = v2 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v23) = v0 c
          ∧ r.2.mem ((c.tc : Thread Cert.Reference25Ideal.nD Cert.Reference25Ideal.τ).loc Cert.Reference25Ideal.main_v4) = v1 c
          ∧ r.2.mem ((c.tc : Thread Cert.Reference25Ideal.nD Cert.Reference25Ideal.τ).loc Cert.Reference25Ideal.main_v10) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v23) = v0 c
          ∧ r.2.mem ((c.tc : Thread Cert.Reference27Ideal.nD Cert.Reference27Ideal.τ).loc Cert.Reference27Ideal.main_v4) = v1 c
          ∧ r.2.mem ((c.tc : Thread Cert.Reference27Ideal.nD Cert.Reference27Ideal.τ).loc Cert.Reference27Ideal.main_v10) = v2 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v23) = v0 c
          ∧ r.2.mem ((c.tc : Thread Cert.Reference28Ideal.nD Cert.Reference28Ideal.τ).loc Cert.Reference28Ideal.main_v4) = v1 c
          ∧ r.2.mem ((c.tc : Thread Cert.Reference28Ideal.nD Cert.Reference28Ideal.τ).loc Cert.Reference28Ideal.main_v10) = v2 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal_pre_finite [hKernel29Ideal : Cert.Kernel29Ideal.Facts] [hReference29Ideal : Cert.Reference29Ideal.Facts] [hPre_finite : Cert.Pre_finite.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal_finite m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v11) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v46) = v0 c
          ∧ r.2.mem ((c.tc : Thread Cert.Reference30Ideal.nD Cert.Reference30Ideal.τ).loc Cert.Reference30Ideal.main_v48) = v1 c
          ∧ r.2.mem ((c.tc : Thread Cert.Reference30Ideal.nD Cert.Reference30Ideal.τ).loc Cert.Reference30Ideal.main_v49) = v2 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v6) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v5) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v2) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v3) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v1)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v1) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v13) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v1)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v1) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v13) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v29) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)) →
    ∃ (v0 : (c : Dev Cert.Kernel40Ideal.nD) → Buf (Elt Ideal) ((c.tc : Thread Cert.Kernel40Ideal.nD Cert.Kernel40Ideal.τ).loc Cert.Kernel40Ideal.main_v0)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0) = v0 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v27) = v0 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v1)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v1) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v19) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v0_0)) (v1 : (c : Dev Cert.Kernel42Ideal.nD) → Buf (Elt Ideal) ((c.tc : Thread Cert.Kernel42Ideal.nD Cert.Kernel42Ideal.τ).loc Cert.Kernel42Ideal.main_v0_1)) (v2 : (c : Dev Cert.Kernel42Ideal.nD) → Buf (Elt Ideal) ((c.tc : Thread Cert.Kernel42Ideal.nD Cert.Kernel42Ideal.τ).loc Cert.Kernel42Ideal.main_v0_2)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v0_0) = v0 c
          ∧ r.2.mem ((c.tc : Thread Cert.Kernel42Ideal.nD Cert.Kernel42Ideal.τ).loc Cert.Kernel42Ideal.main_v0_1) = v1 c
          ∧ r.2.mem ((c.tc : Thread Cert.Kernel42Ideal.nD Cert.Kernel42Ideal.τ).loc Cert.Kernel42Ideal.main_v0_2) = v2 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v25) = v0 c
          ∧ r.2.mem ((c.tc : Thread Cert.Reference42Ideal.nD Cert.Reference42Ideal.τ).loc Cert.Reference42Ideal.main_v26) = v1 c
          ∧ r.2.mem ((c.tc : Thread Cert.Reference42Ideal.nD Cert.Reference42Ideal.τ).loc Cert.Reference42Ideal.main_v29) = v2 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Kernel29Ideal_pre_finite (hKernel29Ideal := hKernel29Ideal) (hPre_finite := hPre_finite)
    ∧ quiescent_Reference29Ideal (hReference29Ideal := hReference29Ideal)
    ∧ quiescent_Reference29Ideal_pre_finite (hReference29Ideal := hReference29Ideal) (hPre_finite := hPre_finite)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal_pre_finite (hKernel29Ideal := hKernel29Ideal) (hReference29Ideal := hReference29Ideal) (hPre_finite := hPre_finite)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
-- ==== Pre_finite.lean ====
abbrev S8192x5632 : Shape := ⟨2, ![8192, 5632]⟩
abbrev S_ : Shape := ⟨0, ![]⟩

class Facts : Prop where
  bitsLt_bf16_f32 : FTy.bits .bf16 < FTy.bits .f32
  bcast_S_S8192x5632 : S_.BroadcastsInDim S8192x5632 (![] : Fin 0 → Fin S8192x5632.rank)

variable [Facts]

def fn {F : FTy → Type} [FloatOps F] (main_arg0 : FVec F S8192x5632 .bf16) (main_arg1 : FVec F S8192x5632 .bf16) (main_arg2 : FVec F S8192x5632 .bf16) : IVec S8192x5632 1 :=
  let main_v0 : FVec F S8192x5632 .f32 := (extf .f32 · bitsLt_bf16_f32) main_arg1
  let main_v1 : FVec F S8192x5632 .f32 := Host.absf main_v0
  let main_cst : FVec F S_ .f32 := constant S_ .f32 0x7F800000#32
  let main_v2 : FVec F S8192x5632 .f32 := broadcastInDim S8192x5632 ![] bcast_S_S8192x5632 main_cst
  let main_v3 : IVec S8192x5632 1 := cmpf .olt main_v1 main_v2
  let main_v4 : FVec F S8192x5632 .f32 := (extf .f32 · bitsLt_bf16_f32) main_arg2
  let main_v5 : FVec F S8192x5632 .f32 := Host.absf main_v4
  let main_cst_0 : FVec F S_ .f32 := constant S_ .f32 0x7F800000#32
  let main_v6 : FVec F S8192x5632 .f32 := broadcastInDim S8192x5632 ![] bcast_S_S8192x5632 main_cst_0
  let main_v7 : IVec S8192x5632 1 := cmpf .olt main_v5 main_v6
  let main_v8 : IVec S8192x5632 1 := andi main_v3 main_v7
  main_v8
-- ==== Kernel.lean ====
abbrev S8192x1024 : Shape := ⟨2, ![8192, 1024]⟩
abbrev S8x8192x64 : Shape := ⟨3, ![8, 8192, 64]⟩
abbrev S8x128x1x1 : Shape := ⟨4, ![8, 128, 1, 1]⟩
abbrev S8x128x128x128 : Shape := ⟨4, ![8, 128, 128, 128]⟩
abbrev S256x1024 : Shape := ⟨2, ![256, 1024]⟩
abbrev S8x256x64 : Shape := ⟨3, ![8, 256, 64]⟩
abbrev S8x4x1x1 : Shape := ⟨4, ![8, 4, 1, 1]⟩
abbrev S8x4x128x128 : Shape := ⟨4, ![8, 4, 128, 128]⟩
abbrev S8x128x128 : Shape := ⟨3, ![8, 128, 128]⟩
abbrev S8x1x128x128 : Shape := ⟨4, ![8, 1, 128, 128]⟩
abbrev S64x128 : Shape := ⟨2, ![64, 128]⟩
abbrev S1x64x128 : Shape := ⟨3, ![1, 64, 128]⟩
abbrev S8x64x128 : Shape := ⟨3, ![8, 64, 128]⟩
abbrev S8x64x64 : Shape := ⟨3, ![8, 64, 64]⟩
abbrev S8x1x1x1 : Shape := ⟨4, ![8, 1, 1, 1]⟩
abbrev S8x1x1 : Shape := ⟨3, ![8, 1, 1]⟩
abbrev S8 : Shape := ⟨1, ![8]⟩

abbrev nBuf : Space → Nat
  | .hbm => 15
  | .vmem => 46
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8x8192x64, .bf16⟩
  | .hbm, ⟨3, _⟩ => ⟨S8192x1024, .bf16⟩
  | .hbm, ⟨4, _⟩ => ⟨S8192x1024, .bf16⟩
  | .hbm, ⟨5, _⟩ => ⟨S8x128x1x1, .f32⟩
  | .hbm, ⟨6, _⟩ => ⟨S8192x1024, .f32⟩
  | .hbm, ⟨7, _⟩ => ⟨S8192x1024, .f32⟩
  | .hbm, ⟨8, _⟩ => ⟨S8x128x128x128, .f32⟩
  | .hbm, ⟨9, _⟩ => ⟨S8192x1024, .f32⟩
  | .hbm, ⟨10, _⟩ => ⟨S8192x1024, .f32⟩
  | .hbm, ⟨11, _⟩ => ⟨S8x8192x64, .f32⟩
  | .hbm, ⟨12, _⟩ => ⟨S8192x1024, .f32⟩
  | .hbm, ⟨13, _⟩ => ⟨S8192x1024, .f32⟩
  | .hbm, ⟨14, _⟩ => ⟨S8x128x1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S8x256x64, .bf16⟩
  | .local _ .vmem, ⟨5, _⟩ => ⟨S8x256x64, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x4x1x1, .f32⟩
  | .local _ .vmem, ⟨11, _⟩ => ⟨S8x4x1x1, .f32⟩
  | .local _ .vmem, ⟨12, _⟩ => ⟨S256x1024, .f32⟩
  | .local _ .vmem, ⟨13, _⟩ => ⟨S256x1024, .f32⟩
  | .local _ .vmem, ⟨14, _⟩ => ⟨S8x4x128x128, .f32⟩
  | .local _ .vmem, ⟨15, _⟩ => ⟨S8x4x128x128, .f32⟩
  | .local _ .vmem, ⟨16, _⟩ => ⟨S8x128x128, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S8x256x64, .bf16⟩
  | .local _ .vmem, ⟨22, _⟩ => ⟨S8x256x64, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S8x4x1x1, .f32⟩
  | .local _ .vmem, ⟨28, _⟩ => ⟨S8x4x1x1, .f32⟩
  | .local _ .vmem, ⟨29, _⟩ => ⟨S8x4x128x128, .f32⟩
  | .local _ .vmem, ⟨30, _⟩ => ⟨S8x4x128x128, .f32⟩
  | .local _ .vmem, ⟨31, _⟩ => ⟨S256x1024, .f32⟩
  | .local _ .vmem, ⟨32, _⟩ => ⟨S256x1024, .f32⟩
  | .local _ .vmem, ⟨33, _⟩ => ⟨S256x1024, .f32⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S8x256x64, .f32⟩
  | .local _ .vmem, ⟨38, _⟩ => ⟨S8x256x64, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S8x4x1x1, .f32⟩
  | .local _ .vmem, ⟨44, _⟩ => ⟨S8x4x1x1, .f32⟩
  | .local _ .vmem, ⟨45, _⟩ => ⟨S8x128x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc1_stg13_0 : Ref sig .tc := ⟨.vmem, 43, rfl⟩
abbrev cc1_stg13_1 : Ref sig .tc := ⟨.vmem, 44, rfl⟩
abbrev cc1_scratch0 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33
abbrev cc1_sem9_0 : DmaSem sig := 34
abbrev cc1_sem9_1 : DmaSem sig := 35
abbrev cc1_sem10_0 : DmaSem sig := 36
abbrev cc1_sem10_1 : DmaSem sig := 37
abbrev cc1_sem11_0 : DmaSem sig := 38
abbrev cc1_sem11_1 : DmaSem sig := 39
abbrev cc1_sem12_0 : DmaSem sig := 40
abbrev cc1_sem12_1 : DmaSem sig := 41
abbrev cc1_sem13_0 : DmaSem sig := 42
abbrev cc1_sem13_1 : DmaSem sig := 43

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x4x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev grid1 : Pipeline.Grid := ⟨2, ![1, 32], ![false, false]⟩

def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_2 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_8 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_10 (i : grid1.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc1_transform_11 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_12 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_13 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x4x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x4x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S256x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S8x256x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S256x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x4x1x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S8192x1024 : Shape := ⟨2, ![8192, 1024]⟩
abbrev S8x8192x64 : Shape := ⟨3, ![8, 8192, 64]⟩
abbrev S8x128x1x1 : Shape := ⟨4, ![8, 128, 1, 1]⟩
abbrev S128x64x8x128 : Shape := ⟨4, ![128, 64, 8, 128]⟩
abbrev S128x8x64x128 : Shape := ⟨4, ![128, 8, 64, 128]⟩
abbrev S8x128x64x64 : Shape := ⟨4, ![8, 128, 64, 64]⟩
abbrev S128x8x64x64 : Shape := ⟨4, ![128, 8, 64, 64]⟩
abbrev S8x128 : Shape := ⟨2, ![8, 128]⟩
abbrev S128x8 : Shape := ⟨2, ![128, 8]⟩
abbrev S_ : Shape := ⟨0, ![]⟩
abbrev S8x128x128 : Shape := ⟨3, ![8, 128, 128]⟩
abbrev S128x8x128x128 : Shape := ⟨4, ![128, 8, 128, 128]⟩
abbrev S128x8x1x1 : Shape := ⟨4, ![128, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩

abbrev nBuf : Space → Nat
  | .hbm => 270
  | .vmem => 0
  | .smem => 0
  | _ => 0

abbrev hbmTy0_0 (i : Nat) : BufTy := match i % 128 with
  | 0 => ⟨S8192x1024, .f32⟩
  | 1 => ⟨S8192x1024, .bf16⟩
  | 2 => ⟨S8x8192x64, .bf16⟩
  | 3 => ⟨S8192x1024, .bf16⟩
  | 4 => ⟨S8192x1024, .bf16⟩
  | 5 => ⟨S8x128x1x1, .f32⟩
  | 6 => ⟨S8192x1024, .f32⟩
  | 7 => ⟨S8192x1024, .f32⟩
  | 8 => ⟨S8x8192x64, .f32⟩
  | 9 => ⟨S8192x1024, .f32⟩
  | 10 => ⟨S8192x1024, .f32⟩
  | 11 => ⟨S128x64x8x128, .f32⟩
  | 12 => ⟨S128x8x64x128, .f32⟩
  | 13 => ⟨S128x64x8x128, .f32⟩
  | 14 => ⟨S128x8x64x128, .f32⟩
  | 15 => ⟨S128x64x8x128, .f32⟩
  | 16 => ⟨S128x8x64x128, .f32⟩
  | 17 => ⟨S128x64x8x128, .f32⟩
  | 18 => ⟨S128x8x64x128, .f32⟩
  | 19 => ⟨S8x128x64x64, .f32⟩
  | 20 => ⟨S128x8x64x64, .f32⟩
  | 21 => ⟨S8x128, .f32⟩
  | 22 => ⟨S128x8, .f32⟩
  | 23 => ⟨S_, .f32⟩
  | 24 => ⟨S8x128x128, .f32⟩
  | 25 => ⟨S_, .f32⟩
  | 26 => ⟨S128x8x64x128, .f32⟩
  | 27 => ⟨S_, .f32⟩
  | 28 => ⟨S128x8x128x128, .f32⟩
  | 29 => ⟨S_, .f32⟩
  | 30 => ⟨S128x8x64x128, .f32⟩
  | 31 => ⟨S_, .f32⟩
  | 32 => ⟨S128x8, .f32⟩
  | 33 => ⟨S_, .f32⟩
  | 34 => ⟨S128x8x1x1, .f32⟩
  | 35 => ⟨S_, .i32⟩
  | 36 => ⟨S128x8x64x128, .f32⟩
  | 37 => ⟨S128x8x64x128, .f32⟩
  | 38 => ⟨S128x8x64x128, .f32⟩
  | 39 => ⟨S128x8x64x128, .f32⟩
  | 40 => ⟨S128x8x64x64, .f32⟩
  | 41 => ⟨S128x8, .f32⟩
  | 42 => ⟨S_, .i32⟩
  | 43 => ⟨S8x128x128, .f32⟩
  | 44 => ⟨S128x8x64x128, .f32⟩
  | 45 => ⟨S128x8x128x128, .f32⟩
  | 46 => ⟨S128x8x64x128, .f32⟩
  | 47 => ⟨S128x8, .f32⟩
  | 48 => ⟨S128x8x1x1, .f32⟩
  | 49 => ⟨S_, .i32⟩
  | 50 => ⟨S_, .i1⟩
  | 51 => ⟨S_, .i32⟩
  | 52 => ⟨S_, .i32⟩
  | 53 => ⟨S_, .i32⟩
  | 54 => ⟨S1x8x64x128, .f32⟩
  | 55 => ⟨S8x64x128, .f32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S_, .i32⟩
  | 73 => ⟨S_, .i32⟩
  | 74 => ⟨S1x8x64x64, .f32⟩
  | 75 => ⟨S8x64x64, .f32⟩
  | 76 => ⟨S_, .i32⟩
  | 77 => ⟨S1x8, .f32⟩
  | 78 => ⟨S8, .f32⟩
  | 79 => ⟨S8x64x128, .f32⟩
  | 80 => ⟨S8x64x128, .f32⟩
  | 81 => ⟨S8x64x128, .f32⟩
  | 82 => ⟨S8x64x128, .f32⟩
  | 83 => ⟨S8x64x128, .f32⟩
  | 84 => ⟨S8, .f32⟩
  | 85 => ⟨S8x1x1, .f32⟩
  | 86 => ⟨S8x128x128, .f32⟩
  | 87 => ⟨S8x128x128, .f32⟩
  | 88 => ⟨S8x128x128, .f32⟩
  | 89 => ⟨S8x128x128, .f32⟩
  | 90 => ⟨S1x8x64x128, .f32⟩
  | 91 => ⟨S_, .i32⟩
  | 92 => ⟨S_, .i32⟩
  | 93 => ⟨S_, .i32⟩
  | 94 => ⟨S128x8x64x128, .f32⟩
  | 95 => ⟨S1x8x128x128, .f32⟩
  | 96 => ⟨S_, .i32⟩
  | 97 => ⟨S_, .i32⟩
  | 98 => ⟨S_, .i32⟩
  | 99 => ⟨S128x8x128x128, .f32⟩
  | 100 => ⟨S1x8x64x128, .f32⟩
  | 101 => ⟨S_, .i32⟩
  | 102 => ⟨S_, .i32⟩
  | 103 => ⟨S_, .i32⟩
  | 104 => ⟨S128x8x64x128, .f32⟩
  | 105 => ⟨S1x8, .f32⟩
  | 106 => ⟨S_, .i32⟩
  | 107 => ⟨S128x8, .f32⟩
  | 108 => ⟨S1x8x1x1, .f32⟩
  | 109 => ⟨S_, .i32⟩
  | 110 => ⟨S_, .i32⟩
  | 111 => ⟨S_, .i32⟩
  | 112 => ⟨S128x8x1x1, .f32⟩
  | 113 => ⟨S_, .i32⟩
  | 114 => ⟨S_, .i32⟩
  | 115 => ⟨S128x64x8x128, .f32⟩
  | 116 => ⟨S8192x1024, .f32⟩
  | 117 => ⟨S_, .f32⟩
  | 118 => ⟨S8x128x128, .f32⟩
  | 119 => ⟨S128x64x8x128, .f32⟩
  | 120 => ⟨S128x8x64x128, .f32⟩
  | 121 => ⟨S_, .f32⟩
  | 122 => ⟨S8x128x128, .f32⟩
  | 123 => ⟨S_, .f32⟩
  | 124 => ⟨S128x8x64x128, .f32⟩
  | 125 => ⟨S_, .f32⟩
  | 126 => ⟨S128x8x64x128, .f32⟩
  | 127 => ⟨S_, .f32⟩
  | _ => ⟨S8192x1024, .f32⟩

abbrev hbmTy0_1 (i : Nat) : BufTy := match i % 128 with
  | 0 => ⟨S128x8x64x128, .f32⟩
  | 1 => ⟨S_, .f32⟩
  | 2 => ⟨S128x8x64x128, .f32⟩
  | 3 => ⟨S_, .f32⟩
  | 4 => ⟨S128x8x64x64, .f32⟩
  | 5 => ⟨S_, .f32⟩
  | 6 => ⟨S128x8, .f32⟩
  | 7 => ⟨S_, .i32⟩
  | 8 => ⟨S128x8x64x128, .f32⟩
  | 9 => ⟨S128x8x128x128, .f32⟩
  | 10 => ⟨S128x8x64x128, .f32⟩
  | 11 => ⟨S128x8x64x128, .f32⟩
  | 12 => ⟨S128x8x64x128, .f32⟩
  | 13 => ⟨S128x8x64x64, .f32⟩
  | 14 => ⟨S128x8, .f32⟩
  | 15 => ⟨S128x8x1x1, .f32⟩
  | 16 => ⟨S128x8x64x128, .f32⟩
  | 17 => ⟨S_, .i32⟩
  | 18 => ⟨S8x128x128, .f32⟩
  | 19 => ⟨S128x8x64x128, .f32⟩
  | 20 => ⟨S128x8x64x128, .f32⟩
  | 21 => ⟨S128x8x64x128, .f32⟩
  | 22 => ⟨S128x8x64x128, .f32⟩
  | 23 => ⟨S128x8x64x64, .f32⟩
  | 24 => ⟨S128x8, .f32⟩
  | 25 => ⟨S_, .i32⟩
  | 26 => ⟨S_, .i1⟩
  | 27 => ⟨S_, .i32⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S1x8x64x128, .f32⟩
  | 35 => ⟨S8x64x128, .f32⟩
  | 36 => ⟨S_, .i32⟩
  | 37 => ⟨S_, .i32⟩
  | 38 => ⟨S_, .i32⟩
  | 39 => ⟨S1x8x128x128, .f32⟩
  | 40 => ⟨S8x128x128, .f32⟩
  | 41 => ⟨S_, .i32⟩
  | 42 => ⟨S_, .i32⟩
  | 43 => ⟨S_, .i32⟩
  | 44 => ⟨S1x8x64x128, .f32⟩
  | 45 => ⟨S8x64x128, .f32⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S_, .i32⟩
  | 52 => ⟨S_, .i32⟩
  | 53 => ⟨S_, .i32⟩
  | 54 => ⟨S1x8x64x128, .f32⟩
  | 55 => ⟨S8x64x128, .f32⟩
  | 56 => ⟨S_, .i32⟩
  | 57 => ⟨S_, .i32⟩
  | 58 => ⟨S_, .i32⟩
  | 59 => ⟨S1x8x64x64, .f32⟩
  | 60 => ⟨S8x64x64, .f32⟩
  | 61 => ⟨S_, .i32⟩
  | 62 => ⟨S1x8, .f32⟩
  | 63 => ⟨S8, .f32⟩
  | 64 => ⟨S_, .i32⟩
  | 65 => ⟨S_, .i32⟩
  | 66 => ⟨S_, .i32⟩
  | 67 => ⟨S1x8x1x1, .f32⟩
  | 68 => ⟨S8x1x1, .f32⟩
  | 69 => ⟨S_, .i32⟩
  | 70 => ⟨S_, .i32⟩
  | 71 => ⟨S_, .i32⟩
  | 72 => ⟨S1x8x64x128, .f32⟩
  | 73 => ⟨S8x64x128, .f32⟩
  | 74 => ⟨S8x128x64, .f32⟩
  | 75 => ⟨S8x64x128, .f32⟩
  | 76 => ⟨S8x128x64, .f32⟩
  | 77 => ⟨S8x64x128, .f32⟩
  | 78 => ⟨S8x128x128, .f32⟩
  | 79 => ⟨S_, .f32⟩
  | 80 => ⟨S8, .f32⟩
  | 81 => ⟨S8x1x1, .f32⟩
  | 82 => ⟨S8x128x128, .f32⟩
  | 83 => ⟨S8x128x128, .f32⟩
  | 84 => ⟨S_, .f32⟩
  | 85 => ⟨S8, .f32⟩
  | 86 => ⟨S8, .f32⟩
  | 87 => ⟨S8x128x64, .f32⟩
  | 88 => ⟨S8x64x128, .f32⟩
  | 89 => ⟨S8x64x128, .f32⟩
  | 90 => ⟨S8x64x64, .f32⟩
  | 91 => ⟨S8x128x128, .f32⟩
  | 92 => ⟨S8x128x128, .f32⟩
  | 93 => ⟨S8x128x128, .f32⟩
  | 94 => ⟨S8x64x128, .f32⟩
  | 95 => ⟨S8x64x128, .f32⟩
  | 96 => ⟨S8x128x128, .f32⟩
  | 97 => ⟨S8x128x128, .f32⟩
  | 98 => ⟨S8x128x128, .f32⟩
  | 99 => ⟨S8x64x128, .f32⟩
  | 100 => ⟨S1x8x64x128, .f32⟩
  | 101 => ⟨S_, .i32⟩
  | 102 => ⟨S_, .i32⟩
  | 103 => ⟨S_, .i32⟩
  | 104 => ⟨S128x8x64x128, .f32⟩
  | 105 => ⟨S1x8x64x128, .f32⟩
  | 106 => ⟨S_, .i32⟩
  | 107 => ⟨S_, .i32⟩
  | 108 => ⟨S_, .i32⟩
  | 109 => ⟨S128x8x64x128, .f32⟩
  | 110 => ⟨S1x8x64x128, .f32⟩
  | 111 => ⟨S_, .i32⟩
  | 112 => ⟨S_, .i32⟩
  | 113 => ⟨S_, .i32⟩
  | 114 => ⟨S128x8x64x128, .f32⟩
  | 115 => ⟨S1x8x64x128, .f32⟩
  | 116 => ⟨S_, .i32⟩
  | 117 => ⟨S_, .i32⟩
  | 118 => ⟨S_, .i32⟩
  | 119 => ⟨S128x8x64x128, .f32⟩
  | 120 => ⟨S1x8x64x64, .f32⟩
  | 121 => ⟨S_, .i32⟩
  | 122 => ⟨S_, .i32⟩
  | 123 => ⟨S_, .i32⟩
  | 124 => ⟨S128x8x64x64, .f32⟩
  | 125 => ⟨S1x8, .f32⟩
  | 126 => ⟨S_, .i32⟩
  | 127 => ⟨S128x8, .f32⟩
  | _ => ⟨S8192x1024, .f32⟩

abbrev hbmTy0_2 (i : Nat) : BufTy := match i % 128 with
  | 0 => ⟨S_, .i32⟩
  | 1 => ⟨S_, .i32⟩
  | 2 => ⟨S8x128, .f32⟩
  | 3 => ⟨S8x128x1x1, .f32⟩
  | 4 => ⟨S8x128x64x64, .f32⟩
  | 5 => ⟨S8x8192x64, .f32⟩
  | 6 => ⟨S128x64x8x128, .f32⟩
  | 7 => ⟨S8192x1024, .f32⟩
  | 8 => ⟨S128x64x8x128, .f32⟩
  | 9 => ⟨S8192x1024, .f32⟩
  | 10 => ⟨S128x64x8x128, .f32⟩
  | 11 => ⟨S8192x1024, .f32⟩
  | 12 => ⟨S128x64x8x128, .f32⟩
  | 13 => ⟨S8192x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_c : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_v22_5 : Ref sig .tc := ⟨.hbm, 41, rfl⟩
abbrev main_v22_6 : Ref sig .tc := ⟨.hbm, 42, rfl⟩
abbrev main_v22_7 : Ref sig .tc := ⟨.hbm, 43, rfl⟩
abbrev main_v22_8 : Ref sig .tc := ⟨.hbm, 44, rfl⟩
abbrev main_v22_9 : Ref sig .tc := ⟨.hbm, 45, rfl⟩
abbrev main_v22_10 : Ref sig .tc := ⟨.hbm, 46, rfl⟩
abbrev main_v22_11 : Ref sig .tc := ⟨.hbm, 47, rfl⟩
abbrev main_v22_12 : Ref sig .tc := ⟨.hbm, 48, rfl⟩
abbrev main_while0c_c_26 : Ref sig .tc := ⟨.hbm, 49, rfl⟩
abbrev main_while0c_v48 : Ref sig .tc := ⟨.hbm, 50, rfl⟩
abbrev main_while0b_call0_c : Ref sig .tc := ⟨.hbm, 51, rfl⟩
abbrev main_while0b_call0_c_0 : Ref sig .tc := ⟨.hbm, 52, rfl⟩
abbrev main_while0b_call0_c_1 : Ref sig .tc := ⟨.hbm, 53, rfl⟩
abbrev main_while0b_call0_v0 : Ref sig .tc := ⟨.hbm, 54, rfl⟩
abbrev main_while0b_v48 : Ref sig .tc := ⟨.hbm, 55, rfl⟩
abbrev main_while0b_call1_c : Ref sig .tc := ⟨.hbm, 56, rfl⟩
abbrev main_while0b_call1_c_0 : Ref sig .tc := ⟨.hbm, 57, rfl⟩
abbrev main_while0b_call1_c_1 : Ref sig .tc := ⟨.hbm, 58, rfl⟩
abbrev main_while0b_call1_v0 : Ref sig .tc := ⟨.hbm, 59, rfl⟩
abbrev main_while0b_v49 : Ref sig .tc := ⟨.hbm, 60, rfl⟩
abbrev main_while0b_call2_c : Ref sig .tc := ⟨.hbm, 61, rfl⟩
abbrev main_while0b_call2_c_0 : Ref sig .tc := ⟨.hbm, 62, rfl⟩
abbrev main_while0b_call2_c_1 : Ref sig .tc := ⟨.hbm, 63, rfl⟩
abbrev main_while0b_call2_v0 : Ref sig .tc := ⟨.hbm, 64, rfl⟩
abbrev main_while0b_v50 : Ref sig .tc := ⟨.hbm, 65, rfl⟩
abbrev main_while0b_call3_c : Ref sig .tc := ⟨.hbm, 66, rfl⟩
abbrev main_while0b_call3_c_0 : Ref sig .tc := ⟨.hbm, 67, rfl⟩
abbrev main_while0b_call3_c_1 : Ref sig .tc := ⟨.hbm, 68, rfl⟩
abbrev main_while0b_call3_v0 : Ref sig .tc := ⟨.hbm, 69, rfl⟩
abbrev main_while0b_v51 : Ref sig .tc := ⟨.hbm, 70, rfl⟩
abbrev main_while0b_call4_c : Ref sig .tc := ⟨.hbm, 71, rfl⟩
abbrev main_while0b_call4_c_0 : Ref sig .tc := ⟨.hbm, 72, rfl⟩
abbrev main_while0b_call4_c_1 : Ref sig .tc := ⟨.hbm, 73, rfl⟩
abbrev main_while0b_call4_v0 : Ref sig .tc := ⟨.hbm, 74, rfl⟩
abbrev main_while0b_v52 : Ref sig .tc := ⟨.hbm, 75, rfl⟩
abbrev main_while0b_call5_c : Ref sig .tc := ⟨.hbm, 76, rfl⟩
abbrev main_while0b_call5_v0 : Ref sig .tc := ⟨.hbm, 77, rfl⟩
abbrev main_while0b_v53 : Ref sig .tc := ⟨.hbm, 78, rfl⟩
abbrev main_while0b_v54 : Ref sig .tc := ⟨.hbm, 79, rfl⟩
abbrev main_while0b_v55 : Ref sig .tc := ⟨.hbm, 80, rfl⟩
abbrev main_while0b_v56 : Ref sig .tc := ⟨.hbm, 81, rfl⟩
abbrev main_while0b_v57 : Ref sig .tc := ⟨.hbm, 82, rfl⟩
abbrev main_while0b_v58 : Ref sig .tc := ⟨.hbm, 83, rfl⟩
abbrev main_while0b_v59 : Ref sig .tc := ⟨.hbm, 84, rfl⟩
abbrev main_while0b_v60 : Ref sig .tc := ⟨.hbm, 85, rfl⟩
abbrev main_while0b_v61 : Ref sig .tc := ⟨.hbm, 86, rfl⟩
abbrev main_while0b_v62 : Ref sig .tc := ⟨.hbm, 87, rfl⟩
abbrev main_while0b_v63 : Ref sig .tc := ⟨.hbm, 88, rfl⟩
abbrev main_while0b_v64 : Ref sig .tc := ⟨.hbm, 89, rfl⟩
abbrev main_while0b_call6_v0 : Ref sig .tc := ⟨.hbm, 90, rfl⟩
abbrev main_while0b_call6_c : Ref sig .tc := ⟨.hbm, 91, rfl⟩
abbrev main_while0b_call6_c_0 : Ref sig .tc := ⟨.hbm, 92, rfl⟩
abbrev main_while0b_call6_c_1 : Ref sig .tc := ⟨.hbm, 93, rfl⟩
abbrev main_while0b_v65 : Ref sig .tc := ⟨.hbm, 94, rfl⟩
abbrev main_while0b_call7_v0 : Ref sig .tc := ⟨.hbm, 95, rfl⟩
abbrev main_while0b_call7_c : Ref sig .tc := ⟨.hbm, 96, rfl⟩
abbrev main_while0b_call7_c_0 : Ref sig .tc := ⟨.hbm, 97, rfl⟩
abbrev main_while0b_call7_c_1 : Ref sig .tc := ⟨.hbm, 98, rfl⟩
abbrev main_while0b_v66 : Ref sig .tc := ⟨.hbm, 99, rfl⟩
abbrev main_while0b_call8_v0 : Ref sig .tc := ⟨.hbm, 100, rfl⟩
abbrev main_while0b_call8_c : Ref sig .tc := ⟨.hbm, 101, rfl⟩
abbrev main_while0b_call8_c_0 : Ref sig .tc := ⟨.hbm, 102, rfl⟩
abbrev main_while0b_call8_c_1 : Ref sig .tc := ⟨.hbm, 103, rfl⟩
abbrev main_while0b_v67 : Ref sig .tc := ⟨.hbm, 104, rfl⟩
abbrev main_while0b_call9_v0 : Ref sig .tc := ⟨.hbm, 105, rfl⟩
abbrev main_while0b_call9_c : Ref sig .tc := ⟨.hbm, 106, rfl⟩
abbrev main_while0b_v68 : Ref sig .tc := ⟨.hbm, 107, rfl⟩
abbrev main_while0b_call10_v0 : Ref sig .tc := ⟨.hbm, 108, rfl⟩
abbrev main_while0b_call10_c : Ref sig .tc := ⟨.hbm, 109, rfl⟩
abbrev main_while0b_call10_c_0 : Ref sig .tc := ⟨.hbm, 110, rfl⟩
abbrev main_while0b_call10_c_1 : Ref sig .tc := ⟨.hbm, 111, rfl⟩
abbrev main_while0b_v69 : Ref sig .tc := ⟨.hbm, 112, rfl⟩
abbrev main_while0b_c_26 : Ref sig .tc := ⟨.hbm, 113, rfl⟩
abbrev main_while0b_v70 : Ref sig .tc := ⟨.hbm, 114, rfl⟩
abbrev main_v23 : Ref sig .tc := ⟨.hbm, 115, rfl⟩
abbrev main_v24 : Ref sig .tc := ⟨.hbm, 116, rfl⟩
abbrev main_cst_5 : Ref sig .tc := ⟨.hbm, 117, rfl⟩
abbrev main_v25 : Ref sig .tc := ⟨.hbm, 118, rfl⟩
abbrev main_v26 : Ref sig .tc := ⟨.hbm, 119, rfl⟩
abbrev main_v27 : Ref sig .tc := ⟨.hbm, 120, rfl⟩
abbrev main_cst_6 : Ref sig .tc := ⟨.hbm, 121, rfl⟩
abbrev main_v28 : Ref sig .tc := ⟨.hbm, 122, rfl⟩
abbrev main_cst_7 : Ref sig .tc := ⟨.hbm, 123, rfl⟩
abbrev main_v29 : Ref sig .tc := ⟨.hbm, 124, rfl⟩
abbrev main_cst_8 : Ref sig .tc := ⟨.hbm, 125, rfl⟩
abbrev main_v30 : Ref sig .tc := ⟨.hbm, 126, rfl⟩
abbrev main_cst_9 : Ref sig .tc := ⟨.hbm, 127, rfl⟩
abbrev main_v31 : Ref sig .tc := ⟨.hbm, 128, rfl⟩
abbrev main_cst_10 : Ref sig .tc := ⟨.hbm, 129, rfl⟩
abbrev main_v32 : Ref sig .tc := ⟨.hbm, 130, rfl⟩
abbrev main_cst_11 : Ref sig .tc := ⟨.hbm, 131, rfl⟩
abbrev main_v33 : Ref sig .tc := ⟨.hbm, 132, rfl⟩
abbrev main_cst_12 : Ref sig .tc := ⟨.hbm, 133, rfl⟩
abbrev main_v34 : Ref sig .tc := ⟨.hbm, 134, rfl⟩
abbrev main_c_13 : Ref sig .tc := ⟨.hbm, 135, rfl⟩
abbrev main_v35_0 : Ref sig .tc := ⟨.hbm, 136, rfl⟩
abbrev main_v35_1 : Ref sig .tc := ⟨.hbm, 137, rfl⟩
abbrev main_v35_2 : Ref sig .tc := ⟨.hbm, 138, rfl⟩
abbrev main_v35_3 : Ref sig .tc := ⟨.hbm, 139, rfl⟩
abbrev main_v35_4 : Ref sig .tc := ⟨.hbm, 140, rfl⟩
abbrev main_v35_5 : Ref sig .tc := ⟨.hbm, 141, rfl⟩
abbrev main_v35_6 : Ref sig .tc := ⟨.hbm, 142, rfl⟩
abbrev main_v35_7 : Ref sig .tc := ⟨.hbm, 143, rfl⟩
abbrev main_v35_8 : Ref sig .tc := ⟨.hbm, 144, rfl⟩
abbrev main_v35_9 : Ref sig .tc := ⟨.hbm, 145, rfl⟩
abbrev main_v35_10 : Ref sig .tc := ⟨.hbm, 146, rfl⟩
abbrev main_v35_11 : Ref sig .tc := ⟨.hbm, 147, rfl⟩
abbrev main_v35_12 : Ref sig .tc := ⟨.hbm, 148, rfl⟩
abbrev main_v35_13 : Ref sig .tc := ⟨.hbm, 149, rfl⟩
abbrev main_v35_14 : Ref sig .tc := ⟨.hbm, 150, rfl⟩
abbrev main_v35_15 : Ref sig .tc := ⟨.hbm, 151, rfl⟩
abbrev main_v35_16 : Ref sig .tc := ⟨.hbm, 152, rfl⟩
abbrev main_while1c_c_30 : Ref sig .tc := ⟨.hbm, 153, rfl⟩
abbrev main_while1c_v48 : Ref sig .tc := ⟨.hbm, 154, rfl⟩
abbrev main_while1b_c_30 : Ref sig .tc := ⟨.hbm, 155, rfl⟩
abbrev main_while1b_v48 : Ref sig .tc := ⟨.hbm, 156, rfl⟩
abbrev main_while1b_c_31 : Ref sig .tc := ⟨.hbm, 157, rfl⟩
abbrev main_while1b_v49 : Ref sig .tc := ⟨.hbm, 158, rfl⟩
abbrev main_while1b_call11_c : Ref sig .tc := ⟨.hbm, 159, rfl⟩
abbrev main_while1b_call11_c_0 : Ref sig .tc := ⟨.hbm, 160, rfl⟩
abbrev main_while1b_call11_c_1 : Ref sig .tc := ⟨.hbm, 161, rfl⟩
abbrev main_while1b_call11_v0 : Ref sig .tc := ⟨.hbm, 162, rfl⟩
abbrev main_while1b_v50 : Ref sig .tc := ⟨.hbm, 163, rfl⟩
abbrev main_while1b_call12_c : Ref sig .tc := ⟨.hbm, 164, rfl⟩
abbrev main_while1b_call12_c_0 : Ref sig .tc := ⟨.hbm, 165, rfl⟩
abbrev main_while1b_call12_c_1 : Ref sig .tc := ⟨.hbm, 166, rfl⟩
abbrev main_while1b_call12_v0 : Ref sig .tc := ⟨.hbm, 167, rfl⟩
abbrev main_while1b_v51 : Ref sig .tc := ⟨.hbm, 168, rfl⟩
abbrev main_while1b_call13_c : Ref sig .tc := ⟨.hbm, 169, rfl⟩
abbrev main_while1b_call13_c_0 : Ref sig .tc := ⟨.hbm, 170, rfl⟩
abbrev main_while1b_call13_c_1 : Ref sig .tc := ⟨.hbm, 171, rfl⟩
abbrev main_while1b_call13_v0 : Ref sig .tc := ⟨.hbm, 172, rfl⟩
abbrev main_while1b_v52 : Ref sig .tc := ⟨.hbm, 173, rfl⟩
abbrev main_while1b_call14_c : Ref sig .tc := ⟨.hbm, 174, rfl⟩
abbrev main_while1b_call14_c_0 : Ref sig .tc := ⟨.hbm, 175, rfl⟩
abbrev main_while1b_call14_c_1 : Ref sig .tc := ⟨.hbm, 176, rfl⟩
abbrev main_while1b_call14_v0 : Ref sig .tc := ⟨.hbm, 177, rfl⟩
abbrev main_while1b_v53 : Ref sig .tc := ⟨.hbm, 178, rfl⟩
abbrev main_while1b_call15_c : Ref sig .tc := ⟨.hbm, 179, rfl⟩
abbrev main_while1b_call15_c_0 : Ref sig .tc := ⟨.hbm, 180, rfl⟩
abbrev main_while1b_call15_c_1 : Ref sig .tc := ⟨.hbm, 181, rfl⟩
abbrev main_while1b_call15_v0 : Ref sig .tc := ⟨.hbm, 182, rfl⟩
abbrev main_while1b_v54 : Ref sig .tc := ⟨.hbm, 183, rfl⟩
abbrev main_while1b_call16_c : Ref sig .tc := ⟨.hbm, 184, rfl⟩
abbrev main_while1b_call16_c_0 : Ref sig .tc := ⟨.hbm, 185, rfl⟩
abbrev main_while1b_call16_c_1 : Ref sig .tc := ⟨.hbm, 186, rfl⟩
abbrev main_while1b_call16_v0 : Ref sig .tc := ⟨.hbm, 187, rfl⟩
abbrev main_while1b_v55 : Ref sig .tc := ⟨.hbm, 188, rfl⟩
abbrev main_while1b_call17_c : Ref sig .tc := ⟨.hbm, 189, rfl⟩
abbrev main_while1b_call17_v0 : Ref sig .tc := ⟨.hbm, 190, rfl⟩
abbrev main_while1b_v56 : Ref sig .tc := ⟨.hbm, 191, rfl⟩
abbrev main_while1b_call18_c : Ref sig .tc := ⟨.hbm, 192, rfl⟩
abbrev main_while1b_call18_c_0 : Ref sig .tc := ⟨.hbm, 193, rfl⟩
abbrev main_while1b_call18_c_1 : Ref sig .tc := ⟨.hbm, 194, rfl⟩
abbrev main_while1b_call18_v0 : Ref sig .tc := ⟨.hbm, 195, rfl⟩
abbrev main_while1b_v57 : Ref sig .tc := ⟨.hbm, 196, rfl⟩
abbrev main_while1b_call19_c : Ref sig .tc := ⟨.hbm, 197, rfl⟩
abbrev main_while1b_call19_c_0 : Ref sig .tc := ⟨.hbm, 198, rfl⟩
abbrev main_while1b_call19_c_1 : Ref sig .tc := ⟨.hbm, 199, rfl⟩
abbrev main_while1b_call19_v0 : Ref sig .tc := ⟨.hbm, 200, rfl⟩
abbrev main_while1b_v58 : Ref sig .tc := ⟨.hbm, 201, rfl⟩
abbrev main_while1b_v59 : Ref sig .tc := ⟨.hbm, 202, rfl⟩
abbrev main_while1b_v60 : Ref sig .tc := ⟨.hbm, 203, rfl⟩
abbrev main_while1b_v61 : Ref sig .tc := ⟨.hbm, 204, rfl⟩
abbrev main_while1b_v62 : Ref sig .tc := ⟨.hbm, 205, rfl⟩
abbrev main_while1b_v63 : Ref sig .tc := ⟨.hbm, 206, rfl⟩
abbrev main_while1b_cst_32 : Ref sig .tc := ⟨.hbm, 207, rfl⟩
abbrev main_while1b_v64 : Ref sig .tc := ⟨.hbm, 208, rfl⟩
abbrev main_while1b_v65 : Ref sig .tc := ⟨.hbm, 209, rfl⟩
abbrev main_while1b_v66 : Ref sig .tc := ⟨.hbm, 210, rfl⟩
abbrev main_while1b_v67 : Ref sig .tc := ⟨.hbm, 211, rfl⟩
abbrev main_while1b_cst_33 : Ref sig .tc := ⟨.hbm, 212, rfl⟩
abbrev main_while1b_v68 : Ref sig .tc := ⟨.hbm, 213, rfl⟩
abbrev main_while1b_v69 : Ref sig .tc := ⟨.hbm, 214, rfl⟩
abbrev main_while1b_v70 : Ref sig .tc := ⟨.hbm, 215, rfl⟩
abbrev main_while1b_v71 : Ref sig .tc := ⟨.hbm, 216, rfl⟩
abbrev main_while1b_v72 : Ref sig .tc := ⟨.hbm, 217, rfl⟩
abbrev main_while1b_v73 : Ref sig .tc := ⟨.hbm, 218, rfl⟩
abbrev main_while1b_v74 : Ref sig .tc := ⟨.hbm, 219, rfl⟩
abbrev main_while1b_v75 : Ref sig .tc := ⟨.hbm, 220, rfl⟩
abbrev main_while1b_v76 : Ref sig .tc := ⟨.hbm, 221, rfl⟩
abbrev main_while1b_v77 : Ref sig .tc := ⟨.hbm, 222, rfl⟩
abbrev main_while1b_v78 : Ref sig .tc := ⟨.hbm, 223, rfl⟩
abbrev main_while1b_v79 : Ref sig .tc := ⟨.hbm, 224, rfl⟩
abbrev main_while1b_v80 : Ref sig .tc := ⟨.hbm, 225, rfl⟩
abbrev main_while1b_v81 : Ref sig .tc := ⟨.hbm, 226, rfl⟩
abbrev main_while1b_v82 : Ref sig .tc := ⟨.hbm, 227, rfl⟩
abbrev main_while1b_call20_v0 : Ref sig .tc := ⟨.hbm, 228, rfl⟩
abbrev main_while1b_call20_c : Ref sig .tc := ⟨.hbm, 229, rfl⟩
abbrev main_while1b_call20_c_0 : Ref sig .tc := ⟨.hbm, 230, rfl⟩
abbrev main_while1b_call20_c_1 : Ref sig .tc := ⟨.hbm, 231, rfl⟩
abbrev main_while1b_v83 : Ref sig .tc := ⟨.hbm, 232, rfl⟩
abbrev main_while1b_call21_v0 : Ref sig .tc := ⟨.hbm, 233, rfl⟩
abbrev main_while1b_call21_c : Ref sig .tc := ⟨.hbm, 234, rfl⟩
abbrev main_while1b_call21_c_0 : Ref sig .tc := ⟨.hbm, 235, rfl⟩
abbrev main_while1b_call21_c_1 : Ref sig .tc := ⟨.hbm, 236, rfl⟩
abbrev main_while1b_v84 : Ref sig .tc := ⟨.hbm, 237, rfl⟩
abbrev main_while1b_call22_v0 : Ref sig .tc := ⟨.hbm, 238, rfl⟩
abbrev main_while1b_call22_c : Ref sig .tc := ⟨.hbm, 239, rfl⟩
abbrev main_while1b_call22_c_0 : Ref sig .tc := ⟨.hbm, 240, rfl⟩
abbrev main_while1b_call22_c_1 : Ref sig .tc := ⟨.hbm, 241, rfl⟩
abbrev main_while1b_v85 : Ref sig .tc := ⟨.hbm, 242, rfl⟩
abbrev main_while1b_call23_v0 : Ref sig .tc := ⟨.hbm, 243, rfl⟩
abbrev main_while1b_call23_c : Ref sig .tc := ⟨.hbm, 244, rfl⟩
abbrev main_while1b_call23_c_0 : Ref sig .tc := ⟨.hbm, 245, rfl⟩
abbrev main_while1b_call23_c_1 : Ref sig .tc := ⟨.hbm, 246, rfl⟩
abbrev main_while1b_v86 : Ref sig .tc := ⟨.hbm, 247, rfl⟩
abbrev main_while1b_call24_v0 : Ref sig .tc := ⟨.hbm, 248, rfl⟩
abbrev main_while1b_call24_c : Ref sig .tc := ⟨.hbm, 249, rfl⟩
abbrev main_while1b_call24_c_0 : Ref sig .tc := ⟨.hbm, 250, rfl⟩
abbrev main_while1b_call24_c_1 : Ref sig .tc := ⟨.hbm, 251, rfl⟩
abbrev main_while1b_v87 : Ref sig .tc := ⟨.hbm, 252, rfl⟩
abbrev main_while1b_call25_v0 : Ref sig .tc := ⟨.hbm, 253, rfl⟩
abbrev main_while1b_call25_c : Ref sig .tc := ⟨.hbm, 254, rfl⟩
abbrev main_while1b_v88 : Ref sig .tc := ⟨.hbm, 255, rfl⟩
abbrev main_while1b_c_34 : Ref sig .tc := ⟨.hbm, 256, rfl⟩
abbrev main_while1b_v89 : Ref sig .tc := ⟨.hbm, 257, rfl⟩
abbrev main_v36 : Ref sig .tc := ⟨.hbm, 258, rfl⟩
abbrev main_v37 : Ref sig .tc := ⟨.hbm, 259, rfl⟩
abbrev main_v38 : Ref sig .tc := ⟨.hbm, 260, rfl⟩
abbrev main_v39 : Ref sig .tc := ⟨.hbm, 261, rfl⟩
abbrev main_v40 : Ref sig .tc := ⟨.hbm, 262, rfl⟩
abbrev main_v41 : Ref sig .tc := ⟨.hbm, 263, rfl⟩
abbrev main_v42 : Ref sig .tc := ⟨.hbm, 264, rfl⟩
abbrev main_v43 : Ref sig .tc := ⟨.hbm, 265, rfl⟩
abbrev main_v44 : Ref sig .tc := ⟨.hbm, 266, rfl⟩
abbrev main_v45 : Ref sig .tc := ⟨.hbm, 267, rfl⟩
abbrev main_v46 : Ref sig .tc := ⟨.hbm, 268, rfl⟩
abbrev main_v47 : Ref sig .tc := ⟨.hbm, 269, rfl⟩

abbrev nD : Nat := 1
abbrev τ : Topo := Topo.v7x

variable {F : FTy → Type} [FloatOps F]

abbrev main_while0_count : Scf.Loop 32 := ⟨0#32, 128#32, 1#32⟩

abbrev main_while1_count : Scf.Loop 32 := ⟨0#32, 128#32, 1#32⟩
-- ==== Kernel2.lean ====
abbrev S8192x2048 : Shape := ⟨2, ![8192, 2048]⟩
abbrev S8192x11264 : Shape := ⟨2, ![8192, 11264]⟩
abbrev S2048x11264 : Shape := ⟨2, ![2048, 11264]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S_, .f32⟩
  | .hbm, ⟨3, _⟩ => ⟨S2048x11264, .f32⟩
  | .hbm, ⟨4, _⟩ => ⟨S8192x2048, .f32⟩
  | .hbm, ⟨5, _⟩ => ⟨S8192x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x11264 : Shape := ⟨2, ![8192, 11264]⟩
abbrev S4x2048x2816 : Shape := ⟨3, ![4, 2048, 2816]⟩
abbrev S8192x2048 : Shape := ⟨2, ![8192, 2048]⟩
abbrev S1024x2816 : Shape := ⟨2, ![1024, 2816]⟩
abbrev S1x1024x2816 : Shape := ⟨3, ![1, 1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x11264, .bf16⟩
  | .hbm, ⟨1, _⟩ => ⟨S4x2048x2816, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11264 : Shape := ⟨2, ![8192, 11264]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S_ : Shape := ⟨0, ![]⟩
abbrev S8192x2048 : Shape := ⟨2, ![8192, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S_, .f32⟩
  | .hbm, ⟨12, _⟩ => ⟨S8192x2048, .f32⟩
  | .hbm, ⟨13, _⟩ => ⟨S2048x11264, .f32⟩
  | .hbm, ⟨14, _⟩ => ⟨S8192x11264, .f32⟩
  | .hbm, ⟨15, _⟩ => ⟨S8192x11264, .f32⟩
  | .hbm, ⟨16, _⟩ => ⟨S8192x2048, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel4.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x5632 : Shape := ⟨2, ![8192, 5632]⟩
abbrev S8192x2048 : Shape := ⟨2, ![8192, 2048]⟩
abbrev S5632x2048 : Shape := ⟨2, ![5632, 2048]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S8192x7168 : Shape := ⟨2, ![8192, 7168]⟩
abbrev S2048x7168 : Shape := ⟨2, ![2048, 7168]⟩
abbrev S8192x2048 : Shape := ⟨2, ![8192, 2048]⟩
abbrev S512x7168 : Shape := ⟨2, ![512, 7168]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S8192x2048, .f32⟩
  | .local _ .vmem, ⟨0, _⟩ => ⟨S512x7168, .bf16⟩
  | .local _ .vmem, ⟨1, _⟩ => ⟨S512x7168, .bf16⟩
  | .local _ .vmem, ⟨2, _⟩ => ⟨S512x7168, .bf16⟩
  | .local _ .vmem, ⟨3, _⟩ => ⟨S512x7168, .bf16⟩
  | .local _ .vmem, ⟨4, _⟩ => ⟨S512x512, .f32⟩
  | .local _ .vmem, ⟨5, _⟩ => ⟨S512x512, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x7168 : Shape := ⟨2, ![8192, 7168]⟩
abbrev S2048x7168 : Shape := ⟨2, ![2048, 7168]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S2048x7168, .bf16⟩
  | .hbm, ⟨2, _⟩ => ⟨S_, .f32⟩
  | .hbm, ⟨3, _⟩ => ⟨S8192x2048, .f32⟩
  | .hbm, ⟨4, _⟩ => ⟨S2048x7168, .f32⟩
  | .hbm, ⟨5, _⟩ => ⟨S8192x7168, .f32⟩
  | .hbm, ⟨6, _⟩ => ⟨S8192x7168, .f32⟩
  | .hbm, ⟨7, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S8192x2048 : Shape := ⟨2, ![8192, 2048]⟩
abbrev S8192x7168 : Shape := ⟨2, ![8192, 7168]⟩
abbrev S2048x7168 : Shape := ⟨2, ![2048, 7168]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S2048x7168, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 14, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x7168, .bf16⟩
  | .hbm, ⟨2, _⟩ => ⟨S_, .f32⟩
  | .hbm, ⟨3, _⟩ => ⟨S2048x7168, .f32⟩
  | .hbm, ⟨4, _⟩ => ⟨S8192x2048, .f32⟩
  | .hbm, ⟨5, _⟩ => ⟨S8192x7168, .f32⟩
  | .hbm, ⟨6, _⟩ => ⟨S8192x7168, .f32⟩
  | .hbm, ⟨7, _⟩ => ⟨S7168x2048, .f32⟩
  | .hbm, ⟨8, _⟩ => ⟨S2048x7168, .f32⟩
  | .hbm, ⟨9, _⟩ => ⟨S2048x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S8192x512, .bf16⟩
  | .local _ .vmem, ⟨1, _⟩ => ⟨S8192x512, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x2048 : Shape := ⟨2, ![8192, 2048]⟩
abbrev S4x2048x2816 : Shape := ⟨3, ![4, 2048, 2816]⟩
abbrev S8192x11264 : Shape := ⟨2, ![8192, 11264]⟩
abbrev S1024x2048 : Shape := ⟨2, ![1024, 2048]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S8192x11264, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x1408, .bf16⟩
  | .local _ .vmem, ⟨5, _⟩ => ⟨S1024x1408, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S4x2048x2816 : Shape := ⟨3, ![4, 2048, 2816]⟩
abbrev S1x2048x2816 : Shape := ⟨3, ![1, 2048, 2816]⟩
abbrev S2048x2816 : Shape := ⟨2, ![2048, 2816]⟩
abbrev S2048x11264 : Shape := ⟨2, ![2048, 11264]⟩
abbrev S8192x11264 : Shape := ⟨2, ![8192, 11264]⟩

abbrev nBuf : Space → Nat
  | .hbm => 15
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S4x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S1x2048x2816, .bf16⟩
  | .hbm, ⟨7, _⟩ => ⟨S2048x2816, .bf16⟩
  | .hbm, ⟨8, _⟩ => ⟨S1x2048x2816, .bf16⟩
  | .hbm, ⟨9, _⟩ => ⟨S2048x2816, .bf16⟩
  | .hbm, ⟨10, _⟩ => ⟨S2048x11264, .bf16⟩
  | .hbm, ⟨11, _⟩ => ⟨S8192x2048, .f32⟩
  | .hbm, ⟨12, _⟩ => ⟨S2048x11264, .f32⟩
  | .hbm, ⟨13, _⟩ => ⟨S8192x11264, .f32⟩
  | .hbm, ⟨14, _⟩ => ⟨S8192x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩

abbrev nD : Nat := 1
abbrev τ : Topo := Topo.v7x

variable {F : FTy → Type} [FloatOps F]
-- ==== Kernel12.lean ====
abbrev S8192x5632 : Shape := ⟨2, ![8192, 5632]⟩
abbrev S5632x2048 : Shape := ⟨2, ![5632, 2048]⟩
abbrev S8192x2048 : Shape := ⟨2, ![8192, 2048]⟩
abbrev S1024x5632 : Shape := ⟨2, ![1024, 5632]⟩
abbrev S5632x512 : Shape := ⟨2, ![5632, 512]⟩
abbrev S1024x512 : Shape := ⟨2, ![1024, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x2048 : Shape := ⟨2, ![8192, 2048]⟩
abbrev S2048x7168 : Shape := ⟨2, ![2048, 7168]⟩
abbrev S8192x7168 : Shape := ⟨2, ![8192, 7168]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x7168, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x7168 : Shape := ⟨2, ![2048, 7168]⟩
abbrev S8192x7168 : Shape := ⟨2, ![8192, 7168]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x2048, .f32⟩
  | .hbm, ⟨3, _⟩ => ⟨S2048x7168, .f32⟩
  | .hbm, ⟨4, _⟩ => ⟨S8192x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_19 : BitVec 32 := 0#32
  let v47 : BitVec 1 := Scalar.cmpi .ne v46 c0_i32_19
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 7
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S1x2048, .f32⟩
  | .hbm, ⟨4, _⟩ => ⟨S256x2048, .f32⟩
  | .hbm, ⟨5, _⟩ => ⟨S256x2048, .bf16⟩
  | .hbm, ⟨6, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_16 : BitVec 32 := 0#32
  let v42 : BitVec 1 := Scalar.cmpi .ne v41 c0_i32_16
  v42

def k0_cond2 (i : grid0.Coords) : BitVec 1 :=
  let arg0 : BitVec 32 := BitVec.ofNat 32 (i 0).val
  let c0_i32 : BitVec 32 := 0#32
  let v40 : BitVec 1 := Scalar.cmpi .eq arg0 c0_i32
  let v_true : BitVec 1 := 1#1
  let v43 : BitVec 1 := Scalar.xori v40 v_true
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference17Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 50
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x2048, .f32⟩
  | .hbm, ⟨19, _⟩ => ⟨S256x2048, .f32⟩
  | .hbm, ⟨20, _⟩ => ⟨S1x2048, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S2048, .f32⟩
  | .hbm, ⟨31, _⟩ => ⟨S256x2048, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x2048, .f32⟩
  | .hbm, ⟨36, _⟩ => ⟨S256x2048, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x2048, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S256x2048, .f32⟩
  | .hbm, ⟨48, _⟩ => ⟨S256x2048, .bf16⟩
  | .hbm, ⟨49, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel18.lean ====
abbrev S8192x11264 : Shape := ⟨2, ![8192, 11264]⟩
abbrev S3x11264 : Shape := ⟨2, ![3, 11264]⟩
abbrev S2x8192x5632 : Shape := ⟨3, ![2, 8192, 5632]⟩
abbrev S16384x5632 : Shape := ⟨2, ![16384, 5632]⟩
abbrev S8x11264 : Shape := ⟨2, ![8, 11264]⟩
abbrev S256x2816 : Shape := ⟨2, ![256, 2816]⟩
abbrev S16x2816 : Shape := ⟨2, ![16, 2816]⟩
abbrev S3x2816 : Shape := ⟨2, ![3, 2816]⟩
abbrev S8x2816 : Shape := ⟨2, ![8, 2816]⟩
abbrev S272x2816 : Shape := ⟨2, ![272, 2816]⟩
abbrev S1x2816 : Shape := ⟨2, ![1, 2816]⟩
abbrev S2816 : Shape := ⟨1, ![2816]⟩

abbrev nBuf : Space → Nat
  | .hbm => 6
  | .vmem => 14
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S2x8192x5632, .bf16⟩
  | .hbm, ⟨3, _⟩ => ⟨S16384x5632, .bf16⟩
  | .hbm, ⟨4, _⟩ => ⟨S8192x11264, .bf16⟩
  | .hbm, ⟨5, _⟩ => ⟨S8x11264, .f32⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S3x2816, .f32⟩
  | .local _ .vmem, ⟨5, _⟩ => ⟨S3x2816, .f32⟩
  | .local _ .vmem, ⟨6, _⟩ => ⟨S256x2816, .bf16⟩
  | .local _ .vmem, ⟨7, _⟩ => ⟨S256x2816, .bf16⟩
  | .local _ .vmem, ⟨8, _⟩ => ⟨S16x2816, .bf16⟩
  | .local _ .vmem, ⟨9, _⟩ => ⟨S16x2816, .bf16⟩
  | .local _ .vmem, ⟨10, _⟩ => ⟨S256x2816, .bf16⟩
  | .local _ .vmem, ⟨11, _⟩ => ⟨S256x2816, .bf16⟩
  | .local _ .vmem, ⟨12, _⟩ => ⟨S8x2816, .f32⟩
  | .local _ .vmem, ⟨13, _⟩ => ⟨S8x2816, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32_21 : BitVec 32 := 0#32
  let v70 : BitVec 1 := Scalar.cmpi .eq arg1 c0_i32_21
  let v71 : BitVec 32 := Scalar.extui v70
  let c0_i32_22 : BitVec 32 := 0#32
  let v72 : BitVec 1 := Scalar.cmpi .ne v71 c0_i32_22
  v72

def k0_cond2 (i : grid0.Coords) : BitVec 1 :=
  let arg1 : BitVec 32 := BitVec.ofNat 32 (i 1).val
  let c0_i32_23 : BitVec 32 := 0#32
  let v73 : BitVec 1 := Scalar.cmpi .sgt arg1 c0_i32_23
  let v74 : BitVec 32 := Scalar.extui v73
  let c0_i32_24 : BitVec 32 := 0#32
  let v75 : BitVec 1 := Scalar.cmpi .ne v74 c0_i32_24
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c32_i32 : BitVec 32 := 32#32
  let v17 : BitVec 32 := Scalar.muli v16 c32_i32
  let v18 : BitVec 32 := Scalar.addi v17 arg1
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v18.toNat, v28.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c512_i32 : BitVec 32 := 512#32
  let v17 : BitVec 32 := Scalar.muli v16 c512_i32
  let c1_i32_4 : BitVec 32 := 1#32
  let v18 : BitVec 32 := Scalar.addi arg1 c1_i32_4
  let c16_i32 : BitVec 32 := 16#32
  let v19 : BitVec 32 := Scalar.muli v18 c16_i32
  let c511_i32 : BitVec 32 := 511#32
  let v20 : BitVec 32 := Scalar.minsi v19 c511_i32
  let v21 : BitVec 32 := Scalar.addi v17 v20
  let c2_i32_5 : BitVec 32 := 2#32
  let c0_i32_6 : BitVec 32 := 0#32
  let v22 : BitVec 1 := Scalar.cmpi .eq c2_i32_5 c0_i32_6
  let c1_i32_7 : BitVec 32 := 1#32
  let v23 : BitVec 32 := Scalar.select v22 c1_i32_7 c2_i32_5
  let v24 : BitVec 32 := Scalar.remsi arg0 v23
  let c0_i32_8 : BitVec 32 := 0#32
  let v25 : BitVec 1 := Scalar.cmpi .ne v24 c0_i32_8
  let c0_i32_9 : BitVec 32 := 0#32
  let v26 : BitVec 1 := Scalar.cmpi .slt v24 c0_i32_9
  let c0_i32_10 : BitVec 32 := 0#32
  let v27 : BitVec 1 := Scalar.cmpi .slt v23 c0_i32_10
  let v28 : BitVec 1 := Scalar.xori v26 v27
  let v29 : BitVec 1 := Scalar.andi v28 v25
  let v30 : BitVec 32 := Scalar.addi v24 v23
  let v31 : BitVec 32 := Scalar.select v29 v30 v24
  let c0_i32_11 : BitVec 32 := 0#32
  ![v21.toNat, v31.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference18Ideal.lean ====
abbrev S8192x11264 : Shape := ⟨2, ![8192, 11264]⟩
abbrev S3x11264 : Shape := ⟨2, ![3, 11264]⟩
abbrev S2x8192x5632 : Shape := ⟨3, ![2, 8192, 5632]⟩
abbrev S1x8192x5632 : Shape := ⟨3, ![1, 8192, 5632]⟩
abbrev S8192x5632 : Shape := ⟨2, ![8192, 5632]⟩
abbrev S_ : Shape := ⟨0, ![]⟩
abbrev S2x11264 : Shape := ⟨2, ![2, 11264]⟩
abbrev S8194x11264 : Shape := ⟨2, ![8194, 11264]⟩
abbrev S1x11264 : Shape := ⟨2, ![1, 11264]⟩
abbrev S11264 : Shape := ⟨1, ![11264]⟩
abbrev S5x11264 : Shape := ⟨2, ![5, 11264]⟩
abbrev S8x11264 : Shape := ⟨2, ![8, 11264]⟩

abbrev nBuf : Space → Nat
  | .hbm => 84
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S2x8192x5632, .bf16⟩
  | .hbm, ⟨3, _⟩ => ⟨S1x8192x5632, .bf16⟩
  | .hbm, ⟨4, _⟩ => ⟨S8192x5632, .bf16⟩
  | .hbm, ⟨5, _⟩ => ⟨S1x8192x5632, .bf16⟩
  | .hbm, ⟨6, _⟩ => ⟨S8192x5632, .bf16⟩
  | .hbm, ⟨7, _⟩ => ⟨S8192x11264, .bf16⟩
  | .hbm, ⟨8, _⟩ => ⟨S8192x11264, .f32⟩
  | .hbm, ⟨9, _⟩ => ⟨S8192x11264, .f32⟩
  | .hbm, ⟨10, _⟩ => ⟨S_, .f32⟩
  | .hbm, ⟨11, _⟩ => ⟨S2x11264, .f32⟩
  | .hbm, ⟨12, _⟩ => ⟨S8194x11264, .f32⟩
  | .hbm, ⟨13, _⟩ => ⟨S_, .f32⟩
  | .hbm, ⟨14, _⟩ => ⟨S2x11264, .f32⟩
  | .hbm, ⟨15, _⟩ => ⟨S8192x11264, .f32⟩
  | .hbm, ⟨16, _⟩ => ⟨S1x11264, .f32⟩
  | .hbm, ⟨17, _⟩ => ⟨S11264, .f32⟩
  | .hbm, ⟨18, _⟩ => ⟨S1x11264, .f32⟩
  | .hbm, ⟨19, _⟩ => ⟨S8192x11264, .f32⟩
  | .hbm, ⟨20, _⟩ => ⟨S8192x11264, .f32⟩
  | .hbm, ⟨21, _⟩ => ⟨S8192x11264, .f32⟩
  | .hbm, ⟨22, _⟩ => ⟨S1x11264, .f32⟩
  | .hbm, ⟨23, _⟩ => ⟨S11264, .f32⟩
  | .hbm, ⟨24, _⟩ => ⟨S1x11264, .f32⟩
  | .hbm, ⟨25, _⟩ => ⟨S8192x11264, .f32⟩
  | .hbm, ⟨26, _⟩ => ⟨S8192x11264, .f32⟩
  | .hbm, ⟨27, _⟩ => ⟨S8192x11264, .f32⟩
  | .hbm, ⟨28, _⟩ => ⟨S8192x11264, .f32⟩
  | .hbm, ⟨29, _⟩ => ⟨S1x11264, .f32⟩
  | .hbm, ⟨30, _⟩ => ⟨S11264, .f32⟩
  | .hbm, ⟨31, _⟩ => ⟨S1x11264, .f32⟩
  | .hbm, ⟨32, _⟩ => ⟨S8192x11264, .f32⟩
  | .hbm, ⟨33, _⟩ => ⟨S8192x11264, .f32⟩
  | .hbm, ⟨34, _⟩ => ⟨S8192x11264, .f32⟩
  | .hbm, ⟨35, _⟩ => ⟨S8192x11264, .f32⟩
  | .hbm, ⟨36, _⟩ => ⟨S_, .f32⟩
  | .hbm, ⟨37, _⟩ => ⟨S11264, .f32⟩
  | .hbm, ⟨38, _⟩ => ⟨S1x11264, .f32⟩
  | .hbm, ⟨39, _⟩ => ⟨S8192x11264, .f32⟩
  | .hbm, ⟨40, _⟩ => ⟨S8192x11264, .f32⟩
  | .hbm, ⟨41, _⟩ => ⟨S_, .f32⟩
  | .hbm, ⟨42, _⟩ => ⟨S11264, .f32⟩
  | .hbm, ⟨43, _⟩ => ⟨S1x11264, .f32⟩
  | .hbm, ⟨44, _⟩ => ⟨S_, .f32⟩
  | .hbm, ⟨45, _⟩ => ⟨S3x11264, .f32⟩
  | .hbm, ⟨46, _⟩ => ⟨S_, .f32⟩
  | .hbm, ⟨47, _⟩ => ⟨S8194x11264, .f32⟩
  | .hbm, ⟨48, _⟩ => ⟨S8192x11264, .f32⟩
  | .hbm, ⟨49, _⟩ => ⟨S_, .f32⟩
  | .hbm, ⟨50, _⟩ => ⟨S11264, .f32⟩
  | .hbm, ⟨51, _⟩ => ⟨S1x11264, .f32⟩
  | .hbm, ⟨52, _⟩ => ⟨S8192x11264, .f32⟩
  | .hbm, ⟨53, _⟩ => ⟨S8192x11264, .f32⟩
  | .hbm, ⟨54, _⟩ => ⟨S_, .f32⟩
  | .hbm, ⟨55, _⟩ => ⟨S11264, .f32⟩
  | .hbm, ⟨56, _⟩ => ⟨S1x11264, .f32⟩
  | .hbm, ⟨57, _⟩ => ⟨S_, .f32⟩
  | .hbm, ⟨58, _⟩ => ⟨S3x11264, .f32⟩
  | .hbm, ⟨59, _⟩ => ⟨S3x11264, .f32⟩
  | .hbm, ⟨60, _⟩ => ⟨S_, .f32⟩
  | .hbm, ⟨61, _⟩ => ⟨S8194x11264, .f32⟩
  | .hbm, ⟨62, _⟩ => ⟨S8194x11264, .f32⟩
  | .hbm, ⟨63, _⟩ => ⟨S8192x11264, .f32⟩
  | .hbm, ⟨64, _⟩ => ⟨S_, .f32⟩
  | .hbm, ⟨65, _⟩ => ⟨S11264, .f32⟩
  | .hbm, ⟨66, _⟩ => ⟨S1x11264, .f32⟩
  | .hbm, ⟨67, _⟩ => ⟨S8192x11264, .f32⟩
  | .hbm, ⟨68, _⟩ => ⟨S8192x11264, .f32⟩
  | .hbm, ⟨69, _⟩ => ⟨S_, .f32⟩
  | .hbm, ⟨70, _⟩ => ⟨S11264, .f32⟩
  | .hbm, ⟨71, _⟩ => ⟨S1x11264, .f32⟩
  | .hbm, ⟨72, _⟩ => ⟨S_, .f32⟩
  | .hbm, ⟨73, _⟩ => ⟨S3x11264, .f32⟩
  | .hbm, ⟨74, _⟩ => ⟨S3x11264, .f32⟩
  | .hbm, ⟨75, _⟩ => ⟨S_, .f32⟩
  | .hbm, ⟨76, _⟩ => ⟨S8194x11264, .f32⟩
  | .hbm, ⟨77, _⟩ => ⟨S8194x11264, .f32⟩
  | .hbm, ⟨78, _⟩ => ⟨S2x11264, .f32⟩
  | .hbm, ⟨79, _⟩ => ⟨S8192x11264, .f32⟩
  | .hbm, ⟨80, _⟩ => ⟨S8192x11264, .bf16⟩
  | .hbm, ⟨81, _⟩ => ⟨S_, .f32⟩
  | .hbm, ⟨82, _⟩ => ⟨S5x11264, .f32⟩
  | .hbm, ⟨83, _⟩ => ⟨S8x11264, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_13 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel19.lean ====
abbrev S8192x7168 : Shape := ⟨2, ![8192, 7168]⟩
abbrev S3x1024 : Shape := ⟨2, ![3, 1024]⟩
abbrev S8192x2048 : Shape := ⟨2, ![8192, 2048]⟩
abbrev S8192x1024 : Shape := ⟨2, ![8192, 1024]⟩
abbrev S8x1024 : Shape := ⟨2, ![8, 1024]⟩
abbrev S256x1024 : Shape := ⟨2, ![256, 1024]⟩
abbrev S16x1024 : Shape := ⟨2, ![16, 1024]⟩
abbrev S272x1024 : Shape := ⟨2, ![272, 1024]⟩
abbrev S1x1024 : Shape := ⟨2, ![1, 1024]⟩
abbrev S1024 : Shape := ⟨1, ![1024]⟩

abbrev nBuf : Space → Nat
  | .hbm => 7
  | .vmem => 24
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S8192x2048, .f32⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S16x1024, .f32⟩
  | .local _ .vmem, ⟨8, _⟩ => ⟨S3x1024, .f32⟩
  | .local _ .vmem, ⟨9, _⟩ => ⟨S256x1024, .f32⟩
  | .local _ .vmem, ⟨10, _⟩ => ⟨S256x1024, .f32⟩
  | .local _ .vmem, ⟨11, _⟩ => ⟨S16x1024, .f32⟩
  | .local _ .vmem, ⟨12, _⟩ => ⟨S16x1024, .f32⟩
  | .local _ .vmem, ⟨13, _⟩ => ⟨S256x1024, .f32⟩
  | .local _ .vmem, ⟨14, _⟩ => ⟨S256x1024, .f32⟩
  | .local _ .vmem, ⟨15, _⟩ => ⟨S16x1024, .f32⟩
  | .local _ .vmem, ⟨16, _⟩ => ⟨S16x1024, .f32⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S8x1024, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![1, 32], ![false, false]⟩

def k0_cond1 (i : grid0.Coords) : BitVec 1 :=
  let arg1 : BitVec 32 := BitVec.ofNat 32 (i 1).val
  let c0_i32_35 : BitVec 32 := 0#32
  let v95 : BitVec 1 := Scalar.cmpi .eq arg1 c0_i32_35
  let v96 : BitVec 32 := Scalar.extui v95
  let c0_i32_36 : BitVec 32 := 0#32
  let v97 : BitVec 1 := Scalar.cmpi .ne v96 c0_i32_36
  v97

def k0_cond2 (i : grid0.Coords) : BitVec 1 :=
  let arg1 : BitVec 32 := BitVec.ofNat 32 (i 1).val
  let c0_i32_37 : BitVec 32 := 0#32
  let v98 : BitVec 1 := Scalar.cmpi .sgt arg1 c0_i32_37
  let v99 : BitVec 32 := Scalar.extui v98
  let c0_i32_38 : BitVec 32 := 0#32
  let v100 : BitVec 1 := Scalar.cmpi .ne v99 c0_i32_38
  v100

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c1_i32_0 : BitVec 32 := 1#32
  let v3 : BitVec 32 := Scalar.addi c1_i32_0 arg0
  let c0_i32 : BitVec 32 := 0#32
  ![v2.toNat, v3.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c4_i32 : BitVec 32 := 4#32
  let v3 : BitVec 32 := Scalar.addi c4_i32 arg0
  let c0_i32 : BitVec 32 := 0#32
  ![v2.toNat, v3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]
-- ==== Reference19Ideal.lean ====
abbrev S8192x7168 : Shape := ⟨2, ![8192, 7168]⟩
abbrev S3x1024 : Shape := ⟨2, ![3, 1024]⟩
abbrev S8192x2048 : Shape := ⟨2, ![8192, 2048]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩
abbrev S5x1024 : Shape := ⟨2, ![5, 1024]⟩
abbrev S8x1024 : Shape := ⟨2, ![8, 1024]⟩

abbrev nBuf : Space → Nat
  | .hbm => 89
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S2x1024, .f32⟩
  | .hbm, ⟨9, _⟩ => ⟨S8194x1024, .f32⟩
  | .hbm, ⟨10, _⟩ => ⟨S_, .f32⟩
  | .hbm, ⟨11, _⟩ => ⟨S2x1024, .f32⟩
  | .hbm, ⟨12, _⟩ => ⟨S8192x1024, .f32⟩
  | .hbm, ⟨13, _⟩ => ⟨S1x1024, .f32⟩
  | .hbm, ⟨14, _⟩ => ⟨S1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S_, .f32⟩
  | .hbm, ⟨46, _⟩ => ⟨S3x1024, .f32⟩
  | .hbm, ⟨47, _⟩ => ⟨S_, .f32⟩
  | .hbm, ⟨48, _⟩ => ⟨S8194x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S_, .f32⟩
  | .hbm, ⟨59, _⟩ => ⟨S3x1024, .f32⟩
  | .hbm, ⟨60, _⟩ => ⟨S3x1024, .f32⟩
  | .hbm, ⟨61, _⟩ => ⟨S_, .f32⟩
  | .hbm, ⟨62, _⟩ => ⟨S8194x1024, .f32⟩
  | .hbm, ⟨63, _⟩ => ⟨S8194x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S3x1024, .f32⟩
  | .hbm, ⟨75, _⟩ => ⟨S3x1024, .f32⟩
  | .hbm, ⟨76, _⟩ => ⟨S_, .f32⟩
  | .hbm, ⟨77, _⟩ => ⟨S8194x1024, .f32⟩
  | .hbm, ⟨78, _⟩ => ⟨S8194x1024, .f32⟩
  | .hbm, ⟨79, _⟩ => ⟨S2x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .bf16⟩
  | .hbm, ⟨84, _⟩ => ⟨S8192x1024, .bf16⟩
  | .hbm, ⟨85, _⟩ => ⟨S8192x1024, .bf16⟩
  | .hbm, ⟨86, _⟩ => ⟨S_, .f32⟩
  | .hbm, ⟨87, _⟩ => ⟨S5x1024, .f32⟩
  | .hbm, ⟨88, _⟩ => ⟨S8x1024, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_cst_4 : Ref sig .tc := ⟨.hbm, 47, rfl⟩
abbrev main_v39 : Ref sig .tc := ⟨.hbm, 48, rfl⟩
abbrev main_v40 : Ref sig .tc := ⟨.hbm, 49, rfl⟩
abbrev main_cst_5 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_9 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_10 : Ref sig .tc := ⟨.hbm, 70, rfl⟩
abbrev main_v56 : Ref sig .tc := ⟨.hbm, 71, rfl⟩
abbrev main_v57 : Ref sig .tc := ⟨.hbm, 72, rfl⟩
abbrev main_cst_11 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩

abbrev nD : Nat := 1
abbrev τ : Topo := Topo.v7x

variable {F : FTy → Type} [FloatOps F]
-- ==== Kernel20.lean ====
abbrev S8192x7168 : Shape := ⟨2, ![8192, 7168]⟩
abbrev S4x3072 : Shape := ⟨2, ![4, 3072]⟩
abbrev S8192x3072 : Shape := ⟨2, ![8192, 3072]⟩
abbrev S8x3072 : Shape := ⟨2, ![8, 3072]⟩
abbrev S256x1536 : Shape := ⟨2, ![256, 1536]⟩
abbrev S16x1536 : Shape := ⟨2, ![16, 1536]⟩
abbrev S4x1536 : Shape := ⟨2, ![4, 1536]⟩
abbrev S8x1536 : Shape := ⟨2, ![8, 1536]⟩
abbrev S272x1536 : Shape := ⟨2, ![272, 1536]⟩
abbrev S1x1536 : Shape := ⟨2, ![1, 1536]⟩
abbrev S1536 : Shape := ⟨1, ![1536]⟩

abbrev nBuf : Space → Nat
  | .hbm => 5
  | .vmem => 14
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S8192x3072, .f32⟩
  | .hbm, ⟨3, _⟩ => ⟨S8192x3072, .bf16⟩
  | .hbm, ⟨4, _⟩ => ⟨S8x3072, .f32⟩
  | .local _ .vmem, ⟨0, _⟩ => ⟨S256x1536, .f32⟩
  | .local _ .vmem, ⟨1, _⟩ => ⟨S256x1536, .f32⟩
  | .local _ .vmem, ⟨2, _⟩ => ⟨S16x1536, .f32⟩
  | .local _ .vmem, ⟨3, _⟩ => ⟨S16x1536, .f32⟩
  | .local _ .vmem, ⟨4, _⟩ => ⟨S4x1536, .f32⟩
  | .local _ .vmem, ⟨5, _⟩ => ⟨S4x1536, .f32⟩
  | .local _ .vmem, ⟨6, _⟩ => ⟨S256x1536, .f32⟩
  | .local _ .vmem, ⟨7, _⟩ => ⟨S256x1536, .f32⟩
  | .local _ .vmem, ⟨8, _⟩ => ⟨S16x1536, .f32⟩
  | .local _ .vmem, ⟨9, _⟩ => ⟨S16x1536, .f32⟩
  | .local _ .vmem, ⟨10, _⟩ => ⟨S256x1536, .bf16⟩
  | .local _ .vmem, ⟨11, _⟩ => ⟨S256x1536, .bf16⟩
  | .local _ .vmem, ⟨12, _⟩ => ⟨S8x1536, .f32⟩
  | .local _ .vmem, ⟨13, _⟩ => ⟨S8x1536, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 32], ![false, false]⟩

def k0_cond1 (i : grid0.Coords) : BitVec 1 :=
  let arg1 : BitVec 32 := BitVec.ofNat 32 (i 1).val
  let c0_i32_24 : BitVec 32 := 0#32
  let v82 : BitVec 1 := Scalar.cmpi .eq arg1 c0_i32_24
  let v83 : BitVec 32 := Scalar.extui v82
  let c0_i32_25 : BitVec 32 := 0#32
  let v84 : BitVec 1 := Scalar.cmpi .ne v83 c0_i32_25
  v84

def k0_cond2 (i : grid0.Coords) : BitVec 1 :=
  let arg1 : BitVec 32 := BitVec.ofNat 32 (i 1).val
  let c0_i32_26 : BitVec 32 := 0#32
  let v85 : BitVec 1 := Scalar.cmpi .sgt arg1 c0_i32_26
  let v86 : BitVec 32 := Scalar.extui v85
  let c0_i32_27 : BitVec 32 := 0#32
  let v87 : BitVec 1 := Scalar.cmpi .ne v86 c0_i32_27
  v87

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let v3 : BitVec 32 := Scalar.addi c0_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference20Ideal.lean ====
abbrev S8192x7168 : Shape := ⟨2, ![8192, 7168]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩
abbrev S8x3072 : Shape := ⟨2, ![8, 3072]⟩

abbrev nBuf : Space → Nat
  | .hbm => 102
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S_, .f32⟩
  | .hbm, ⟨8, _⟩ => ⟨S3x3072, .f32⟩
  | .hbm, ⟨9, _⟩ => ⟨S8192x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S_, .f32⟩
  | .hbm, ⟨40, _⟩ => ⟨S3072, .f32⟩
  | .hbm, ⟨41, _⟩ => ⟨S1x3072, .f32⟩
  | .hbm, ⟨42, _⟩ => ⟨S8192x3072, .f32⟩
  | .hbm, ⟨43, _⟩ => ⟨S8192x3072, .f32⟩
  | .hbm, ⟨44, _⟩ => ⟨S_, .f32⟩
  | .hbm, ⟨45, _⟩ => ⟨S3072, .f32⟩
  | .hbm, ⟨46, _⟩ => ⟨S1x3072, .f32⟩
  | .hbm, ⟨47, _⟩ => ⟨S_, .f32⟩
  | .hbm, ⟨48, _⟩ => ⟨S4x3072, .f32⟩
  | .hbm, ⟨49, _⟩ => ⟨S_, .f32⟩
  | .hbm, ⟨50, _⟩ => ⟨S8195x3072, .f32⟩
  | .hbm, ⟨51, _⟩ => ⟨S8192x3072, .f32⟩
  | .hbm, ⟨52, _⟩ => ⟨S_, .f32⟩
  | .hbm, ⟨53, _⟩ => ⟨S3072, .f32⟩
  | .hbm, ⟨54, _⟩ => ⟨S1x3072, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S_, .f32⟩
  | .hbm, ⟨61, _⟩ => ⟨S4x3072, .f32⟩
  | .hbm, ⟨62, _⟩ => ⟨S4x3072, .f32⟩
  | .hbm, ⟨63, _⟩ => ⟨S_, .f32⟩
  | .hbm, ⟨64, _⟩ => ⟨S8195x3072, .f32⟩
  | .hbm, ⟨65, _⟩ => ⟨S8195x3072, .f32⟩
  | .hbm, ⟨66, _⟩ => ⟨S8192x3072, .f32⟩
  | .hbm, ⟨67, _⟩ => ⟨S_, .f32⟩
  | .hbm, ⟨68, _⟩ => ⟨S3072, .f32⟩
  | .hbm, ⟨69, _⟩ => ⟨S1x3072, .f32⟩
  | .hbm, ⟨70, _⟩ => ⟨S8192x3072, .f32⟩
  | .hbm, ⟨71, _⟩ => ⟨S8192x3072, .f32⟩
  | .hbm, ⟨72, _⟩ => ⟨S_, .f32⟩
  | .hbm, ⟨73, _⟩ => ⟨S3072, .f32⟩
  | .hbm, ⟨74, _⟩ => ⟨S1x3072, .f32⟩
  | .hbm, ⟨75, _⟩ => ⟨S_, .f32⟩
  | .hbm, ⟨76, _⟩ => ⟨S4x3072, .f32⟩
  | .hbm, ⟨77, _⟩ => ⟨S4x3072, .f32⟩
  | .hbm, ⟨78, _⟩ => ⟨S_, .f32⟩
  | .hbm, ⟨79, _⟩ => ⟨S8195x3072, .f32⟩
  | .hbm, ⟨80, _⟩ => ⟨S8195x3072, .f32⟩
  | .hbm, ⟨81, _⟩ => ⟨S8192x3072, .f32⟩
  | .hbm, ⟨82, _⟩ => ⟨S_, .f32⟩
  | .hbm, ⟨83, _⟩ => ⟨S3072, .f32⟩
  | .hbm, ⟨84, _⟩ => ⟨S1x3072, .f32⟩
  | .hbm, ⟨85, _⟩ => ⟨S8192x3072, .f32⟩
  | .hbm, ⟨86, _⟩ => ⟨S8192x3072, .f32⟩
  | .hbm, ⟨87, _⟩ => ⟨S_, .f32⟩
  | .hbm, ⟨88, _⟩ => ⟨S3072, .f32⟩
  | .hbm, ⟨89, _⟩ => ⟨S1x3072, .f32⟩
  | .hbm, ⟨90, _⟩ => ⟨S_, .f32⟩
  | .hbm, ⟨91, _⟩ => ⟨S4x3072, .f32⟩
  | .hbm, ⟨92, _⟩ => ⟨S4x3072, .f32⟩
  | .hbm, ⟨93, _⟩ => ⟨S_, .f32⟩
  | .hbm, ⟨94, _⟩ => ⟨S8195x3072, .f32⟩
  | .hbm, ⟨95, _⟩ => ⟨S8195x3072, .f32⟩
  | .hbm, ⟨96, _⟩ => ⟨S3x3072, .f32⟩
  | .hbm, ⟨97, _⟩ => ⟨S8192x3072, .f32⟩
  | .hbm, ⟨98, _⟩ => ⟨S8192x3072, .bf16⟩
  | .hbm, ⟨99, _⟩ => ⟨S_, .f32⟩
  | .hbm, ⟨100, _⟩ => ⟨S4x3072, .f32⟩
  | .hbm, ⟨101, _⟩ => ⟨S8x3072, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_cst_1 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_cst_5 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_6 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_9 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_10 : Ref sig .tc := ⟨.hbm, 72, rfl⟩
abbrev main_v58 : Ref sig .tc := ⟨.hbm, 73, rfl⟩
abbrev main_v59 : Ref sig .tc := ⟨.hbm, 74, rfl⟩
abbrev main_cst_11 : Ref sig .tc := ⟨.hbm, 75, rfl⟩
abbrev main_v60 : Ref sig .tc := ⟨.hbm, 76, rfl⟩
abbrev main_v61 : Ref sig .tc := ⟨.hbm, 77, rfl⟩
abbrev main_cst_12 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_13 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_cst_15 : Ref sig .tc := ⟨.hbm, 90, rfl⟩
abbrev main_v71 : Ref sig .tc := ⟨.hbm, 91, rfl⟩
abbrev main_v72 : Ref sig .tc := ⟨.hbm, 92, rfl⟩
abbrev main_cst_16 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_cst_17 : Ref sig .tc := ⟨.hbm, 99, rfl⟩
abbrev main_v78 : Ref sig .tc := ⟨.hbm, 100, rfl⟩
abbrev main_v79 : Ref sig .tc := ⟨.hbm, 101, rfl⟩

abbrev nD : Nat := 1
abbrev τ : Topo := Topo.v7x

variable {F : FTy → Type} [FloatOps F]
-- ==== Kernel21.lean ====
abbrev S8192x1792 : Shape := ⟨2, ![8192, 1792]⟩
abbrev S128x1792 : Shape := ⟨2, ![128, 1792]⟩

abbrev nBuf : Space → Nat
  | .hbm => 7
  | .vmem => 14
  | .smem => 0
  | _ => 0

abbrev bufTy : (tb : Table) → Fin (tcTables nBuf tb) → BufTy
  | .hbm, ⟨0, _⟩ => ⟨S8192x1792, .f32⟩
  | .hbm, ⟨1, _⟩ => ⟨S8192x1792, .f32⟩
  | .hbm, ⟨2, _⟩ => ⟨S8192x1792, .f32⟩
  | .hbm, ⟨3, _⟩ => ⟨S8192x1792, .f32⟩
  | .hbm, ⟨4, _⟩ => ⟨S8192x1792, .f32⟩
  | .hbm, ⟨5, _⟩ => ⟨S8192x1792, .f32⟩
  | .hbm, ⟨6, _⟩ => ⟨S8192x1792, .f32⟩
  | .local _ .vmem, ⟨0, _⟩ => ⟨S128x1792, .f32⟩
  | .local _ .vmem, ⟨1, _⟩ => ⟨S128x1792, .f32⟩
  | .local _ .vmem, ⟨2, _⟩ => ⟨S128x1792, .f32⟩
  | .local _ .vmem, ⟨3, _⟩ => ⟨S128x1792, .f32⟩
  | .local _ .vmem, ⟨4, _⟩ => ⟨S128x1792, .f32⟩
  | .local _ .vmem, ⟨5, _⟩ => ⟨S128x1792, .f32⟩
  | .local _ .vmem, ⟨6, _⟩ => ⟨S128x1792, .f32⟩
  | .local _ .vmem, ⟨7, _⟩ => ⟨S128x1792, .f32⟩
  | .local _ .vmem, ⟨8, _⟩ => ⟨S128x1792, .f32⟩
  | .local _ .vmem, ⟨9, _⟩ => ⟨S128x1792, .f32⟩
  | .local _ .vmem, ⟨10, _⟩ => ⟨S128x1792, .f32⟩
  | .local _ .vmem, ⟨11, _⟩ => ⟨S128x1792, .f32⟩
  | .local _ .vmem, ⟨12, _⟩ => ⟨S128x1792, .f32⟩
  | .local _ .vmem, ⟨13, _⟩ => ⟨S128x1792, .f32⟩
  | _, _ => ⟨S8192x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S8192x1792 : Shape := ⟨2, ![8192, 1792]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1792, .f32⟩
  | .hbm, ⟨1, _⟩ => ⟨S8192x1792, .f32⟩
  | .hbm, ⟨2, _⟩ => ⟨S8192x1792, .f32⟩
  | .hbm, ⟨3, _⟩ => ⟨S8192x1792, .f32⟩
  | .hbm, ⟨4, _⟩ => ⟨S_, .f32⟩
  | .hbm, ⟨5, _⟩ => ⟨S8192x1792, .f32⟩
  | .hbm, ⟨6, _⟩ => ⟨S8192x1792, .f32⟩
  | .hbm, ⟨7, _⟩ => ⟨S_, .f32⟩
  | .hbm, ⟨8, _⟩ => ⟨S8192x1792, .f32⟩
  | .hbm, ⟨9, _⟩ => ⟨S8192x1792, .f32⟩
  | .hbm, ⟨10, _⟩ => ⟨S8192x1792, .f32⟩
  | .hbm, ⟨11, _⟩ => ⟨S_, .f32⟩
  | .hbm, ⟨12, _⟩ => ⟨S8192x1792, .f32⟩
  | .hbm, ⟨13, _⟩ => ⟨S8192x1792, .f32⟩
  | .hbm, ⟨14, _⟩ => ⟨S8192x1792, .f32⟩
  | .hbm, ⟨15, _⟩ => ⟨S_, .f32⟩
  | .hbm, ⟨16, _⟩ => ⟨S8192x1792, .f32⟩
  | .hbm, ⟨17, _⟩ => ⟨S8192x1792, .f32⟩
  | .hbm, ⟨18, _⟩ => ⟨S8192x1792, .f32⟩
  | .hbm, ⟨19, _⟩ => ⟨S_, .f32⟩
  | .hbm, ⟨20, _⟩ => ⟨S8192x1792, .f32⟩
  | .hbm, ⟨21, _⟩ => ⟨S8192x1792, .f32⟩
  | .hbm, ⟨22, _⟩ => ⟨S_, .f32⟩
  | .hbm, ⟨23, _⟩ => ⟨S8192x1792, .f32⟩
  | .hbm, ⟨24, _⟩ => ⟨S8192x1792, .f32⟩
  | .hbm, ⟨25, _⟩ => ⟨S8192x1792, .f32⟩
  | .hbm, ⟨26, _⟩ => ⟨S_, .f32⟩
  | .hbm, ⟨27, _⟩ => ⟨S8192x1792, .f32⟩
  | .hbm, ⟨28, _⟩ => ⟨S8192x1792, .f32⟩
  | .hbm, ⟨29, _⟩ => ⟨S8192x1792, .f32⟩
  | .hbm, ⟨30, _⟩ => ⟨S_, .f32⟩
  | .hbm, ⟨31, _⟩ => ⟨S8192x1792, .f32⟩
  | .hbm, ⟨32, _⟩ => ⟨S8192x1792, .f32⟩
  | .hbm, ⟨33, _⟩ => ⟨S8192x1792, .f32⟩
  | .hbm, ⟨34, _⟩ => ⟨S_, .f32⟩
  | .hbm, ⟨35, _⟩ => ⟨S8192x1792, .f32⟩
  | .hbm, ⟨36, _⟩ => ⟨S8192x1792, .f32⟩
  | _, _ => ⟨S8192x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S8192x2816 : Shape := ⟨2, ![8192, 2816]⟩
abbrev S64x2816 : Shape := ⟨2, ![64, 2816]⟩

abbrev nBuf : Space → Nat
  | .hbm => 7
  | .vmem => 14
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference22Ideal.lean ====
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x2816, .f32⟩
  | .hbm, ⟨3, _⟩ => ⟨S8192x2816, .f32⟩
  | .hbm, ⟨4, _⟩ => ⟨S_, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S_, .f32⟩
  | .hbm, ⟨20, _⟩ => ⟨S8192x2816, .f32⟩
  | .hbm, ⟨21, _⟩ => ⟨S8192x2816, .f32⟩
  | .hbm, ⟨22, _⟩ => ⟨S_, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S2048x2048 : Shape := ⟨2, ![2048, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S5632x2048 : Shape := ⟨2, ![5632, 2048]⟩
abbrev S128x2048 : Shape := ⟨2, ![128, 2048]⟩

abbrev nBuf : Space → Nat
  | .hbm => 7
  | .vmem => 14
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S5632x2048, .f32⟩
  | .hbm, ⟨5, _⟩ => ⟨S5632x2048, .f32⟩
  | .hbm, ⟨6, _⟩ => ⟨S5632x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S5632x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference24Ideal.lean ====
abbrev S5632x2048 : Shape := ⟨2, ![5632, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S5632x2048, .f32⟩
  | .hbm, ⟨1, _⟩ => ⟨S5632x2048, .f32⟩
  | .hbm, ⟨2, _⟩ => ⟨S5632x2048, .f32⟩
  | .hbm, ⟨3, _⟩ => ⟨S5632x2048, .f32⟩
  | .hbm, ⟨4, _⟩ => ⟨S_, .f32⟩
  | .hbm, ⟨5, _⟩ => ⟨S5632x2048, .f32⟩
  | .hbm, ⟨6, _⟩ => ⟨S5632x2048, .f32⟩
  | .hbm, ⟨7, _⟩ => ⟨S_, .f32⟩
  | .hbm, ⟨8, _⟩ => ⟨S5632x2048, .f32⟩
  | .hbm, ⟨9, _⟩ => ⟨S5632x2048, .f32⟩
  | .hbm, ⟨10, _⟩ => ⟨S5632x2048, .f32⟩
  | .hbm, ⟨11, _⟩ => ⟨S_, .f32⟩
  | .hbm, ⟨12, _⟩ => ⟨S5632x2048, .f32⟩
  | .hbm, ⟨13, _⟩ => ⟨S5632x2048, .f32⟩
  | .hbm, ⟨14, _⟩ => ⟨S5632x2048, .f32⟩
  | .hbm, ⟨15, _⟩ => ⟨S_, .f32⟩
  | .hbm, ⟨16, _⟩ => ⟨S5632x2048, .f32⟩
  | .hbm, ⟨17, _⟩ => ⟨S5632x2048, .f32⟩
  | .hbm, ⟨18, _⟩ => ⟨S5632x2048, .f32⟩
  | .hbm, ⟨19, _⟩ => ⟨S_, .f32⟩
  | .hbm, ⟨20, _⟩ => ⟨S5632x2048, .f32⟩
  | .hbm, ⟨21, _⟩ => ⟨S5632x2048, .f32⟩
  | .hbm, ⟨22, _⟩ => ⟨S_, .f32⟩
  | .hbm, ⟨23, _⟩ => ⟨S5632x2048, .f32⟩
  | .hbm, ⟨24, _⟩ => ⟨S5632x2048, .f32⟩
  | .hbm, ⟨25, _⟩ => ⟨S5632x2048, .f32⟩
  | .hbm, ⟨26, _⟩ => ⟨S_, .f32⟩
  | .hbm, ⟨27, _⟩ => ⟨S5632x2048, .f32⟩
  | .hbm, ⟨28, _⟩ => ⟨S5632x2048, .f32⟩
  | .hbm, ⟨29, _⟩ => ⟨S5632x2048, .f32⟩
  | .hbm, ⟨30, _⟩ => ⟨S_, .f32⟩
  | .hbm, ⟨31, _⟩ => ⟨S5632x2048, .f32⟩
  | .hbm, ⟨32, _⟩ => ⟨S5632x2048, .f32⟩
  | .hbm, ⟨33, _⟩ => ⟨S5632x2048, .f32⟩
  | .hbm, ⟨34, _⟩ => ⟨S_, .f32⟩
  | .hbm, ⟨35, _⟩ => ⟨S5632x2048, .f32⟩
  | .hbm, ⟨36, _⟩ => ⟨S5632x2048, .f32⟩
  | _, _ => ⟨S5632x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S16x768 : Shape := ⟨2, ![16, 768]⟩

abbrev nBuf : Space → Nat
  | .hbm => 7
  | .vmem => 7
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S16x768, .f32⟩
  | .hbm, ⟨5, _⟩ => ⟨S16x768, .f32⟩
  | .hbm, ⟨6, _⟩ => ⟨S16x768, .f32⟩
  | .local _ .vmem, ⟨0, _⟩ => ⟨S16x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x768, .f32⟩
  | .local _ .vmem, ⟨6, _⟩ => ⟨S16x768, .f32⟩
  | _, _ => ⟨S16x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference25Ideal.lean ====
abbrev S16x768 : Shape := ⟨2, ![16, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S16x768, .f32⟩
  | .hbm, ⟨1, _⟩ => ⟨S16x768, .f32⟩
  | .hbm, ⟨2, _⟩ => ⟨S16x768, .f32⟩
  | .hbm, ⟨3, _⟩ => ⟨S16x768, .f32⟩
  | .hbm, ⟨4, _⟩ => ⟨S_, .f32⟩
  | .hbm, ⟨5, _⟩ => ⟨S16x768, .f32⟩
  | .hbm, ⟨6, _⟩ => ⟨S16x768, .f32⟩
  | .hbm, ⟨7, _⟩ => ⟨S_, .f32⟩
  | .hbm, ⟨8, _⟩ => ⟨S16x768, .f32⟩
  | .hbm, ⟨9, _⟩ => ⟨S16x768, .f32⟩
  | .hbm, ⟨10, _⟩ => ⟨S16x768, .f32⟩
  | .hbm, ⟨11, _⟩ => ⟨S_, .f32⟩
  | .hbm, ⟨12, _⟩ => ⟨S16x768, .f32⟩
  | .hbm, ⟨13, _⟩ => ⟨S16x768, .f32⟩
  | .hbm, ⟨14, _⟩ => ⟨S16x768, .f32⟩
  | .hbm, ⟨15, _⟩ => ⟨S_, .f32⟩
  | .hbm, ⟨16, _⟩ => ⟨S16x768, .f32⟩
  | .hbm, ⟨17, _⟩ => ⟨S16x768, .f32⟩
  | .hbm, ⟨18, _⟩ => ⟨S16x768, .f32⟩
  | .hbm, ⟨19, _⟩ => ⟨S_, .f32⟩
  | .hbm, ⟨20, _⟩ => ⟨S16x768, .f32⟩
  | .hbm, ⟨21, _⟩ => ⟨S16x768, .f32⟩
  | .hbm, ⟨22, _⟩ => ⟨S_, .f32⟩
  | .hbm, ⟨23, _⟩ => ⟨S16x768, .f32⟩
  | .hbm, ⟨24, _⟩ => ⟨S16x768, .f32⟩
  | .hbm, ⟨25, _⟩ => ⟨S16x768, .f32⟩
  | .hbm, ⟨26, _⟩ => ⟨S_, .f32⟩
  | .hbm, ⟨27, _⟩ => ⟨S16x768, .f32⟩
  | .hbm, ⟨28, _⟩ => ⟨S16x768, .f32⟩
  | .hbm, ⟨29, _⟩ => ⟨S16x768, .f32⟩
  | .hbm, ⟨30, _⟩ => ⟨S_, .f32⟩
  | .hbm, ⟨31, _⟩ => ⟨S16x768, .f32⟩
  | .hbm, ⟨32, _⟩ => ⟨S16x768, .f32⟩
  | .hbm, ⟨33, _⟩ => ⟨S16x768, .f32⟩
  | .hbm, ⟨34, _⟩ => ⟨S_, .f32⟩
  | .hbm, ⟨35, _⟩ => ⟨S16x768, .f32⟩
  | .hbm, ⟨36, _⟩ => ⟨S16x768, .f32⟩
  | _, _ => ⟨S16x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S12x256 : Shape := ⟨2, ![12, 256]⟩

abbrev nBuf : Space → Nat
  | .hbm => 7
  | .vmem => 7
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S12x256, .f32⟩
  | .hbm, ⟨5, _⟩ => ⟨S12x256, .f32⟩
  | .hbm, ⟨6, _⟩ => ⟨S12x256, .f32⟩
  | .local _ .vmem, ⟨0, _⟩ => ⟨S12x256, .f32⟩
  | .local _ .vmem, ⟨1, _⟩ => ⟨S12x256, .f32⟩
  | .local _ .vmem, ⟨2, _⟩ => ⟨S12x256, .f32⟩
  | .local _ .vmem, ⟨3, _⟩ => ⟨S12x256, .f32⟩
  | .local _ .vmem, ⟨4, _⟩ => ⟨S12x256, .f32⟩
  | .local _ .vmem, ⟨5, _⟩ => ⟨S12x256, .f32⟩
  | .local _ .vmem, ⟨6, _⟩ => ⟨S12x256, .f32⟩
  | _, _ => ⟨S12x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference26Ideal.lean ====
abbrev S12x256 : Shape := ⟨2, ![12, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x256, .f32⟩
  | .hbm, ⟨1, _⟩ => ⟨S12x256, .f32⟩
  | .hbm, ⟨2, _⟩ => ⟨S12x256, .f32⟩
  | .hbm, ⟨3, _⟩ => ⟨S12x256, .f32⟩
  | .hbm, ⟨4, _⟩ => ⟨S_, .f32⟩
  | .hbm, ⟨5, _⟩ => ⟨S12x256, .f32⟩
  | .hbm, ⟨6, _⟩ => ⟨S12x256, .f32⟩
  | .hbm, ⟨7, _⟩ => ⟨S_, .f32⟩
  | .hbm, ⟨8, _⟩ => ⟨S12x256, .f32⟩
  | .hbm, ⟨9, _⟩ => ⟨S12x256, .f32⟩
  | .hbm, ⟨10, _⟩ => ⟨S12x256, .f32⟩
  | .hbm, ⟨11, _⟩ => ⟨S_, .f32⟩
  | .hbm, ⟨12, _⟩ => ⟨S12x256, .f32⟩
  | .hbm, ⟨13, _⟩ => ⟨S12x256, .f32⟩
  | .hbm, ⟨14, _⟩ => ⟨S12x256, .f32⟩
  | .hbm, ⟨15, _⟩ => ⟨S_, .f32⟩
  | .hbm, ⟨16, _⟩ => ⟨S12x256, .f32⟩
  | .hbm, ⟨17, _⟩ => ⟨S12x256, .f32⟩
  | .hbm, ⟨18, _⟩ => ⟨S12x256, .f32⟩
  | .hbm, ⟨19, _⟩ => ⟨S_, .f32⟩
  | .hbm, ⟨20, _⟩ => ⟨S12x256, .f32⟩
  | .hbm, ⟨21, _⟩ => ⟨S12x256, .f32⟩
  | .hbm, ⟨22, _⟩ => ⟨S_, .f32⟩
  | .hbm, ⟨23, _⟩ => ⟨S12x256, .f32⟩
  | .hbm, ⟨24, _⟩ => ⟨S12x256, .f32⟩
  | .hbm, ⟨25, _⟩ => ⟨S12x256, .f32⟩
  | .hbm, ⟨26, _⟩ => ⟨S_, .f32⟩
  | .hbm, ⟨27, _⟩ => ⟨S12x256, .f32⟩
  | .hbm, ⟨28, _⟩ => ⟨S12x256, .f32⟩
  | .hbm, ⟨29, _⟩ => ⟨S12x256, .f32⟩
  | .hbm, ⟨30, _⟩ => ⟨S_, .f32⟩
  | .hbm, ⟨31, _⟩ => ⟨S12x256, .f32⟩
  | .hbm, ⟨32, _⟩ => ⟨S12x256, .f32⟩
  | .hbm, ⟨33, _⟩ => ⟨S12x256, .f32⟩
  | .hbm, ⟨34, _⟩ => ⟨S_, .f32⟩
  | .hbm, ⟨35, _⟩ => ⟨S12x256, .f32⟩
  | .hbm, ⟨36, _⟩ => ⟨S12x256, .f32⟩
  | _, _ => ⟨S12x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S12x2816 : Shape := ⟨2, ![12, 2816]⟩

abbrev nBuf : Space → Nat
  | .hbm => 7
  | .vmem => 7
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S12x2816, .f32⟩
  | .hbm, ⟨5, _⟩ => ⟨S12x2816, .f32⟩
  | .hbm, ⟨6, _⟩ => ⟨S12x2816, .f32⟩
  | .local _ .vmem, ⟨0, _⟩ => ⟨S12x2816, .f32⟩
  | .local _ .vmem, ⟨1, _⟩ => ⟨S12x2816, .f32⟩
  | .local _ .vmem, ⟨2, _⟩ => ⟨S12x2816, .f32⟩
  | .local _ .vmem, ⟨3, _⟩ => ⟨S12x2816, .f32⟩
  | .local _ .vmem, ⟨4, _⟩ => ⟨S12x2816, .f32⟩
  | .local _ .vmem, ⟨5, _⟩ => ⟨S12x2816, .f32⟩
  | .local _ .vmem, ⟨6, _⟩ => ⟨S12x2816, .f32⟩
  | _, _ => ⟨S12x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S12x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S12x2816 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S12x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S12x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S12x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S12x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S12x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference27Ideal.lean ====
abbrev S12x2816 : Shape := ⟨2, ![12, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S12x2816, .f32⟩
  | .hbm, ⟨1, _⟩ => ⟨S12x2816, .f32⟩
  | .hbm, ⟨2, _⟩ => ⟨S12x2816, .f32⟩
  | .hbm, ⟨3, _⟩ => ⟨S12x2816, .f32⟩
  | .hbm, ⟨4, _⟩ => ⟨S_, .f32⟩
  | .hbm, ⟨5, _⟩ => ⟨S12x2816, .f32⟩
  | .hbm, ⟨6, _⟩ => ⟨S12x2816, .f32⟩
  | .hbm, ⟨7, _⟩ => ⟨S_, .f32⟩
  | .hbm, ⟨8, _⟩ => ⟨S12x2816, .f32⟩
  | .hbm, ⟨9, _⟩ => ⟨S12x2816, .f32⟩
  | .hbm, ⟨10, _⟩ => ⟨S12x2816, .f32⟩
  | .hbm, ⟨11, _⟩ => ⟨S_, .f32⟩
  | .hbm, ⟨12, _⟩ => ⟨S12x2816, .f32⟩
  | .hbm, ⟨13, _⟩ => ⟨S12x2816, .f32⟩
  | .hbm, ⟨14, _⟩ => ⟨S12x2816, .f32⟩
  | .hbm, ⟨15, _⟩ => ⟨S_, .f32⟩
  | .hbm, ⟨16, _⟩ => ⟨S12x2816, .f32⟩
  | .hbm, ⟨17, _⟩ => ⟨S12x2816, .f32⟩
  | .hbm, ⟨18, _⟩ => ⟨S12x2816, .f32⟩
  | .hbm, ⟨19, _⟩ => ⟨S_, .f32⟩
  | .hbm, ⟨20, _⟩ => ⟨S12x2816, .f32⟩
  | .hbm, ⟨21, _⟩ => ⟨S12x2816, .f32⟩
  | .hbm, ⟨22, _⟩ => ⟨S_, .f32⟩
  | .hbm, ⟨23, _⟩ => ⟨S12x2816, .f32⟩
  | .hbm, ⟨24, _⟩ => ⟨S12x2816, .f32⟩
  | .hbm, ⟨25, _⟩ => ⟨S12x2816, .f32⟩
  | .hbm, ⟨26, _⟩ => ⟨S_, .f32⟩
  | .hbm, ⟨27, _⟩ => ⟨S12x2816, .f32⟩
  | .hbm, ⟨28, _⟩ => ⟨S12x2816, .f32⟩
  | .hbm, ⟨29, _⟩ => ⟨S12x2816, .f32⟩
  | .hbm, ⟨30, _⟩ => ⟨S_, .f32⟩
  | .hbm, ⟨31, _⟩ => ⟨S12x2816, .f32⟩
  | .hbm, ⟨32, _⟩ => ⟨S12x2816, .f32⟩
  | .hbm, ⟨33, _⟩ => ⟨S12x2816, .f32⟩
  | .hbm, ⟨34, _⟩ => ⟨S_, .f32⟩
  | .hbm, ⟨35, _⟩ => ⟨S12x2816, .f32⟩
  | .hbm, ⟨36, _⟩ => ⟨S12x2816, .f32⟩
  | _, _ => ⟨S12x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S288x128 : Shape := ⟨2, ![288, 128]⟩

abbrev nBuf : Space → Nat
  | .hbm => 7
  | .vmem => 7
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S288x128, .f32⟩
  | .hbm, ⟨5, _⟩ => ⟨S288x128, .f32⟩
  | .hbm, ⟨6, _⟩ => ⟨S288x128, .f32⟩
  | .local _ .vmem, ⟨0, _⟩ => ⟨S288x128, .f32⟩
  | .local _ .vmem, ⟨1, _⟩ => ⟨S288x128, .f32⟩
  | .local _ .vmem, ⟨2, _⟩ => ⟨S288x128, .f32⟩
  | .local _ .vmem, ⟨3, _⟩ => ⟨S288x128, .f32⟩
  | .local _ .vmem, ⟨4, _⟩ => ⟨S288x128, .f32⟩
  | .local _ .vmem, ⟨5, _⟩ => ⟨S288x128, .f32⟩
  | .local _ .vmem, ⟨6, _⟩ => ⟨S288x128, .f32⟩
  | _, _ => ⟨S288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S288x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S288x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S288x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S288x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S288x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S288x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S288x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference28Ideal.lean ====
abbrev S288x128 : Shape := ⟨2, ![288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S288x128, .f32⟩
  | .hbm, ⟨1, _⟩ => ⟨S288x128, .f32⟩
  | .hbm, ⟨2, _⟩ => ⟨S288x128, .f32⟩
  | .hbm, ⟨3, _⟩ => ⟨S288x128, .f32⟩
  | .hbm, ⟨4, _⟩ => ⟨S_, .f32⟩
  | .hbm, ⟨5, _⟩ => ⟨S288x128, .f32⟩
  | .hbm, ⟨6, _⟩ => ⟨S288x128, .f32⟩
  | .hbm, ⟨7, _⟩ => ⟨S_, .f32⟩
  | .hbm, ⟨8, _⟩ => ⟨S288x128, .f32⟩
  | .hbm, ⟨9, _⟩ => ⟨S288x128, .f32⟩
  | .hbm, ⟨10, _⟩ => ⟨S288x128, .f32⟩
  | .hbm, ⟨11, _⟩ => ⟨S_, .f32⟩
  | .hbm, ⟨12, _⟩ => ⟨S288x128, .f32⟩
  | .hbm, ⟨13, _⟩ => ⟨S288x128, .f32⟩
  | .hbm, ⟨14, _⟩ => ⟨S288x128, .f32⟩
  | .hbm, ⟨15, _⟩ => ⟨S_, .f32⟩
  | .hbm, ⟨16, _⟩ => ⟨S288x128, .f32⟩
  | .hbm, ⟨17, _⟩ => ⟨S288x128, .f32⟩
  | .hbm, ⟨18, _⟩ => ⟨S288x128, .f32⟩
  | .hbm, ⟨19, _⟩ => ⟨S_, .f32⟩
  | .hbm, ⟨20, _⟩ => ⟨S288x128, .f32⟩
  | .hbm, ⟨21, _⟩ => ⟨S288x128, .f32⟩
  | .hbm, ⟨22, _⟩ => ⟨S_, .f32⟩
  | .hbm, ⟨23, _⟩ => ⟨S288x128, .f32⟩
  | .hbm, ⟨24, _⟩ => ⟨S288x128, .f32⟩
  | .hbm, ⟨25, _⟩ => ⟨S288x128, .f32⟩
  | .hbm, ⟨26, _⟩ => ⟨S_, .f32⟩
  | .hbm, ⟨27, _⟩ => ⟨S288x128, .f32⟩
  | .hbm, ⟨28, _⟩ => ⟨S288x128, .f32⟩
  | .hbm, ⟨29, _⟩ => ⟨S288x128, .f32⟩
  | .hbm, ⟨30, _⟩ => ⟨S_, .f32⟩
  | .hbm, ⟨31, _⟩ => ⟨S288x128, .f32⟩
  | .hbm, ⟨32, _⟩ => ⟨S288x128, .f32⟩
  | .hbm, ⟨33, _⟩ => ⟨S288x128, .f32⟩
  | .hbm, ⟨34, _⟩ => ⟨S_, .f32⟩
  | .hbm, ⟨35, _⟩ => ⟨S288x128, .f32⟩
  | .hbm, ⟨36, _⟩ => ⟨S288x128, .f32⟩
  | _, _ => ⟨S288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S8192x5632 : Shape := ⟨2, ![8192, 5632]⟩
abbrev S2x8192x5632 : Shape := ⟨3, ![2, 8192, 5632]⟩
abbrev S256x2816 : Shape := ⟨2, ![256, 2816]⟩
abbrev S2x256x2816 : Shape := ⟨3, ![2, 256, 2816]⟩
abbrev S1x256x2816 : Shape := ⟨3, ![1, 256, 2816]⟩

abbrev nBuf : Space → Nat
  | .hbm => 4
  | .vmem => 8
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S2x8192x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S2x256x2816, .bf16⟩
  | .local _ .vmem, ⟨7, _⟩ => ⟨S2x256x2816, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference29Ideal.lean ====
abbrev S8192x5632 : Shape := ⟨2, ![8192, 5632]⟩
abbrev S_ : Shape := ⟨0, ![]⟩
abbrev S1x8192x5632 : Shape := ⟨3, ![1, 8192, 5632]⟩
abbrev S2x8192x5632 : Shape := ⟨3, ![2, 8192, 5632]⟩

abbrev nBuf : Space → Nat
  | .hbm => 30
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .f32⟩
  | .hbm, ⟨4, _⟩ => ⟨S8192x5632, .f32⟩
  | .hbm, ⟨5, _⟩ => ⟨S8192x5632, .f32⟩
  | .hbm, ⟨6, _⟩ => ⟨S8192x5632, .f32⟩
  | .hbm, ⟨7, _⟩ => ⟨S_, .f32⟩
  | .hbm, ⟨8, _⟩ => ⟨S8192x5632, .f32⟩
  | .hbm, ⟨9, _⟩ => ⟨S8192x5632, .f32⟩
  | .hbm, ⟨10, _⟩ => ⟨S_, .f32⟩
  | .hbm, ⟨11, _⟩ => ⟨S8192x5632, .f32⟩
  | .hbm, ⟨12, _⟩ => ⟨S8192x5632, .f32⟩
  | .hbm, ⟨13, _⟩ => ⟨S_, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S1x8192x5632, .f32⟩
  | .hbm, ⟨27, _⟩ => ⟨S1x8192x5632, .f32⟩
  | .hbm, ⟨28, _⟩ => ⟨S2x8192x5632, .f32⟩
  | .hbm, ⟨29, _⟩ => ⟨S2x8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩

abbrev nD : Nat := 1
abbrev τ : Topo := Topo.v7x

variable {F : FTy → Type} [FloatOps F]
-- ==== Kernel30.lean ====
abbrev S8192x1024 : Shape := ⟨2, ![8192, 1024]⟩
abbrev S8192x7168 : Shape := ⟨2, ![8192, 7168]⟩
abbrev S128 : Shape := ⟨1, ![128]⟩
abbrev S8192x2048 : Shape := ⟨2, ![8192, 2048]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S128, .f32⟩
  | .hbm, ⟨3, _⟩ => ⟨S8192x2048, .f32⟩
  | .hbm, ⟨4, _⟩ => ⟨S1x128, .f32⟩
  | .hbm, ⟨5, _⟩ => ⟨S8192x1024, .f32⟩
  | .hbm, ⟨6, _⟩ => ⟨S8192x1024, .bf16⟩
  | .hbm, ⟨7, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v545 : BitVec 1 := Scalar.cmpi .eq arg0 c0_i32
  let v546 : BitVec 32 := Scalar.extui v545
  let c0_i32_208 : BitVec 32 := 0#32
  let v547 : BitVec 1 := Scalar.cmpi .ne v546 c0_i32_208
  v547

def k0_cond2 (i : grid0.Coords) : BitVec 1 :=
  let arg0 : BitVec 32 := BitVec.ofNat 32 (i 0).val
  let c0_i32 : BitVec 32 := 0#32
  let v545 : BitVec 1 := Scalar.cmpi .eq arg0 c0_i32
  let v_true : BitVec 1 := 1#1
  let v548 : BitVec 1 := Scalar.xori v545 v_true
  let v549 : BitVec 32 := Scalar.extui v548
  let c0_i32_209 : BitVec 32 := 0#32
  let v550 : BitVec 1 := Scalar.cmpi .ne v549 c0_i32_209
  v550

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S8192x1024 : Shape := ⟨2, ![8192, 1024]⟩
abbrev S8192x7168 : Shape := ⟨2, ![8192, 7168]⟩
abbrev S128 : Shape := ⟨1, ![128]⟩
abbrev S8192x2048 : Shape := ⟨2, ![8192, 2048]⟩
abbrev S65536x128 : Shape := ⟨2, ![65536, 128]⟩
abbrev S_ : Shape := ⟨0, ![]⟩
abbrev S65536 : Shape := ⟨1, ![65536]⟩
abbrev S65536x1 : Shape := ⟨2, ![65536, 1]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S128, .f32⟩
  | .hbm, ⟨3, _⟩ => ⟨S8192x2048, .f32⟩
  | .hbm, ⟨4, _⟩ => ⟨S65536x128, .f32⟩
  | .hbm, ⟨5, _⟩ => ⟨S8192x1024, .f32⟩
  | .hbm, ⟨6, _⟩ => ⟨S65536x128, .f32⟩
  | .hbm, ⟨7, _⟩ => ⟨S65536x128, .f32⟩
  | .hbm, ⟨8, _⟩ => ⟨S_, .f32⟩
  | .hbm, ⟨9, _⟩ => ⟨S65536, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S65536x1, .f32⟩
  | .hbm, ⟨18, _⟩ => ⟨S65536x1, .f32⟩
  | .hbm, ⟨19, _⟩ => ⟨S_, .f32⟩
  | .hbm, ⟨20, _⟩ => ⟨S65536x1, .f32⟩
  | .hbm, ⟨21, _⟩ => ⟨S65536x1, .f32⟩
  | .hbm, ⟨22, _⟩ => ⟨S65536x128, .f32⟩
  | .hbm, ⟨23, _⟩ => ⟨S65536x128, .f32⟩
  | .hbm, ⟨24, _⟩ => ⟨S1x128, .f32⟩
  | .hbm, ⟨25, _⟩ => ⟨S65536x128, .f32⟩
  | .hbm, ⟨26, _⟩ => ⟨S65536x128, .f32⟩
  | .hbm, ⟨27, _⟩ => ⟨S65536x128, .f32⟩
  | .hbm, ⟨28, _⟩ => ⟨S65536x128, .f32⟩
  | .hbm, ⟨29, _⟩ => ⟨S_, .f32⟩
  | .hbm, ⟨30, _⟩ => ⟨S65536x128, .f32⟩
  | .hbm, ⟨31, _⟩ => ⟨S65536x128, .f32⟩
  | .hbm, ⟨32, _⟩ => ⟨S_, .f32⟩
  | .hbm, ⟨33, _⟩ => ⟨S65536x128, .f32⟩
  | .hbm, ⟨34, _⟩ => ⟨S65536x128, .f32⟩
  | .hbm, ⟨35, _⟩ => ⟨S_, .f32⟩
  | .hbm, ⟨36, _⟩ => ⟨S65536x128, .f32⟩
  | .hbm, ⟨37, _⟩ => ⟨S65536x128, .f32⟩
  | .hbm, ⟨38, _⟩ => ⟨S65536x128, .f32⟩
  | .hbm, ⟨39, _⟩ => ⟨S65536x128, .f32⟩
  | .hbm, ⟨40, _⟩ => ⟨S65536x128, .f32⟩
  | .hbm, ⟨41, _⟩ => ⟨S8192x1024, .f32⟩
  | .hbm, ⟨42, _⟩ => ⟨S65536x128, .f32⟩
  | .hbm, ⟨43, _⟩ => ⟨S65536x128, .f32⟩
  | .hbm, ⟨44, _⟩ => ⟨S65536x128, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S65536x128, .f32⟩
  | .hbm, ⟨49, _⟩ => ⟨S65536x128, .f32⟩
  | .hbm, ⟨50, _⟩ => ⟨S_, .f32⟩
  | .hbm, ⟨51, _⟩ => ⟨S128, .f32⟩
  | .hbm, ⟨52, _⟩ => ⟨S1x128, .f32⟩
  | .hbm, ⟨53, _⟩ => ⟨S65536x128, .f32⟩
  | .hbm, ⟨54, _⟩ => ⟨S65536x128, .f32⟩
  | .hbm, ⟨55, _⟩ => ⟨S_, .f32⟩
  | .hbm, ⟨56, _⟩ => ⟨S128, .f32⟩
  | .hbm, ⟨57, _⟩ => ⟨S65536x128, .f32⟩
  | .hbm, ⟨58, _⟩ => ⟨S_, .f32⟩
  | .hbm, ⟨59, _⟩ => ⟨S65536, .f32⟩
  | .hbm, ⟨60, _⟩ => ⟨S65536x1, .f32⟩
  | .hbm, ⟨61, _⟩ => ⟨S65536x128, .f32⟩
  | .hbm, ⟨62, _⟩ => ⟨S65536x128, .f32⟩
  | .hbm, ⟨63, _⟩ => ⟨S65536x1, .f32⟩
  | .hbm, ⟨64, _⟩ => ⟨S_, .f32⟩
  | .hbm, ⟨65, _⟩ => ⟨S65536x1, .f32⟩
  | .hbm, ⟨66, _⟩ => ⟨S65536x1, .f32⟩
  | .hbm, ⟨67, _⟩ => ⟨S_, .f32⟩
  | .hbm, ⟨68, _⟩ => ⟨S65536, .f32⟩
  | .hbm, ⟨69, _⟩ => ⟨S65536x128, .f32⟩
  | .hbm, ⟨70, _⟩ => ⟨S65536x128, .f32⟩
  | .hbm, ⟨71, _⟩ => ⟨S65536x128, .f32⟩
  | .hbm, ⟨72, _⟩ => ⟨S65536x128, .f32⟩
  | .hbm, ⟨73, _⟩ => ⟨S65536x128, .f32⟩
  | .hbm, ⟨74, _⟩ => ⟨S8192x1024, .f32⟩
  | .hbm, ⟨75, _⟩ => ⟨S8192x1024, .f32⟩
  | .hbm, ⟨76, _⟩ => ⟨S8192x1024, .bf16⟩
  | .hbm, ⟨77, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v19_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v19_1 : Ref sig .tc := ⟨.hbm, 38, rfl⟩
abbrev main_v19_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_4 : Ref sig .tc := ⟨.hbm, 55, rfl⟩
abbrev main_v31 : Ref sig .tc := ⟨.hbm, 56, rfl⟩
abbrev main_v32 : Ref sig .tc := ⟨.hbm, 57, rfl⟩
abbrev main_cst_5 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_6 : Ref sig .tc := ⟨.hbm, 64, rfl⟩
abbrev main_v38 : Ref sig .tc := ⟨.hbm, 65, rfl⟩
abbrev main_v39 : Ref sig .tc := ⟨.hbm, 66, rfl⟩
abbrev main_cst_7 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩

abbrev nD : Nat := 1
abbrev τ : Topo := Topo.v7x

variable {F : FTy → Type} [FloatOps F]
-- ==== Kernel31.lean ====
abbrev S8192x128 : Shape := ⟨2, ![8192, 128]⟩
abbrev S2048x128 : Shape := ⟨2, ![2048, 128]⟩
abbrev S8192x2048 : Shape := ⟨2, ![8192, 2048]⟩
abbrev S1024x128 : Shape := ⟨2, ![1024, 128]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .hbm, ⟨3, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference31Ideal.lean ====
abbrev S8192x128 : Shape := ⟨2, ![8192, 128]⟩
abbrev S2048x128 : Shape := ⟨2, ![2048, 128]⟩
abbrev S8192x2048 : Shape := ⟨2, ![8192, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S2048x128, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x128, .f32⟩
  | .hbm, ⟨6, _⟩ => ⟨S8192x128, .f32⟩
  | .hbm, ⟨7, _⟩ => ⟨S8192x128, .f32⟩
  | .hbm, ⟨8, _⟩ => ⟨S8192x2048, .f32⟩
  | .hbm, ⟨9, _⟩ => ⟨S8192x2048, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel32.lean ====
abbrev S8192x2048 : Shape := ⟨2, ![8192, 2048]⟩
abbrev S8192x128 : Shape := ⟨2, ![8192, 128]⟩
abbrev S2048x128 : Shape := ⟨2, ![2048, 128]⟩
abbrev S8192x512 : Shape := ⟨2, ![8192, 512]⟩
abbrev S512x128 : Shape := ⟨2, ![512, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S2048x128, .bf16⟩
  | .local _ .vmem, ⟨0, _⟩ => ⟨S8192x512, .bf16⟩
  | .local _ .vmem, ⟨1, _⟩ => ⟨S8192x512, .bf16⟩
  | .local _ .vmem, ⟨2, _⟩ => ⟨S8192x128, .bf16⟩
  | .local _ .vmem, ⟨3, _⟩ => ⟨S512x128, .bf16⟩
  | .local _ .vmem, ⟨4, _⟩ => ⟨S512x128, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S8192x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x2048 : Shape := ⟨2, ![8192, 2048]⟩
abbrev S8192x128 : Shape := ⟨2, ![8192, 128]⟩
abbrev S_ : Shape := ⟨0, ![]⟩
abbrev S2048x128 : Shape := ⟨2, ![2048, 128]⟩
abbrev S128x2048 : Shape := ⟨2, ![128, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x128, .bf16⟩
  | .hbm, ⟨2, _⟩ => ⟨S_, .f32⟩
  | .hbm, ⟨3, _⟩ => ⟨S2048x128, .f32⟩
  | .hbm, ⟨4, _⟩ => ⟨S8192x2048, .f32⟩
  | .hbm, ⟨5, _⟩ => ⟨S8192x128, .f32⟩
  | .hbm, ⟨6, _⟩ => ⟨S8192x128, .f32⟩
  | .hbm, ⟨7, _⟩ => ⟨S128x2048, .f32⟩
  | .hbm, ⟨8, _⟩ => ⟨S2048x128, .f32⟩
  | .hbm, ⟨9, _⟩ => ⟨S2048x128, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel33.lean ====
abbrev S256x4096 : Shape := ⟨2, ![256, 4096]⟩
abbrev S2048x4096 : Shape := ⟨2, ![2048, 4096]⟩
abbrev S256x2048 : Shape := ⟨2, ![256, 2048]⟩
abbrev S512x4096 : Shape := ⟨2, ![512, 4096]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x4096, .f32⟩
  | .hbm, ⟨1, _⟩ => ⟨S2048x4096, .bf16⟩
  | .hbm, ⟨2, _⟩ => ⟨S256x2048, .f32⟩
  | .local _ .vmem, ⟨0, _⟩ => ⟨S256x4096, .f32⟩
  | .local _ .vmem, ⟨1, _⟩ => ⟨S512x4096, .bf16⟩
  | .local _ .vmem, ⟨2, _⟩ => ⟨S512x4096, .bf16⟩
  | .local _ .vmem, ⟨3, _⟩ => ⟨S256x512, .f32⟩
  | .local _ .vmem, ⟨4, _⟩ => ⟨S256x512, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference33Ideal.lean ====
abbrev S256x4096 : Shape := ⟨2, ![256, 4096]⟩
abbrev S2048x4096 : Shape := ⟨2, ![2048, 4096]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S2048x4096, .bf16⟩
  | .hbm, ⟨2, _⟩ => ⟨S_, .f32⟩
  | .hbm, ⟨3, _⟩ => ⟨S256x2048, .f32⟩
  | .hbm, ⟨4, _⟩ => ⟨S2048x4096, .f32⟩
  | .hbm, ⟨5, _⟩ => ⟨S256x4096, .f32⟩
  | .hbm, ⟨6, _⟩ => ⟨S256x2048, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel34.lean ====
abbrev S256x2048 : Shape := ⟨2, ![256, 2048]⟩
abbrev S256x4096 : Shape := ⟨2, ![256, 4096]⟩
abbrev S2048x4096 : Shape := ⟨2, ![2048, 4096]⟩
abbrev S256x1024 : Shape := ⟨2, ![256, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x4096, .f32⟩
  | .hbm, ⟨2, _⟩ => ⟨S2048x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S1024x1024, .bf16⟩
  | .local _ .vmem, ⟨5, _⟩ => ⟨S1024x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S256x2048 : Shape := ⟨2, ![256, 2048]⟩
abbrev S256x4096 : Shape := ⟨2, ![256, 4096]⟩
abbrev S_ : Shape := ⟨0, ![]⟩
abbrev S2048x4096 : Shape := ⟨2, ![2048, 4096]⟩
abbrev S4096x2048 : Shape := ⟨2, ![4096, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x4096, .f32⟩
  | .hbm, ⟨2, _⟩ => ⟨S_, .f32⟩
  | .hbm, ⟨3, _⟩ => ⟨S2048x4096, .f32⟩
  | .hbm, ⟨4, _⟩ => ⟨S256x2048, .f32⟩
  | .hbm, ⟨5, _⟩ => ⟨S256x4096, .f32⟩
  | .hbm, ⟨6, _⟩ => ⟨S4096x2048, .f32⟩
  | .hbm, ⟨7, _⟩ => ⟨S2048x4096, .f32⟩
  | .hbm, ⟨8, _⟩ => ⟨S2048x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel35.lean ====
abbrev S8192x2048 : Shape := ⟨2, ![8192, 2048]⟩
abbrev S2048x128 : Shape := ⟨2, ![2048, 128]⟩
abbrev S8192x128 : Shape := ⟨2, ![8192, 128]⟩
abbrev S1024x2048 : Shape := ⟨2, ![1024, 2048]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S2048x128, .bf16⟩
  | .local _ .vmem, ⟨3, _⟩ => ⟨S1024x128, .f32⟩
  | .local _ .vmem, ⟨4, _⟩ => ⟨S1024x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference35Ideal.lean ====
abbrev S8192x2048 : Shape := ⟨2, ![8192, 2048]⟩
abbrev S2048x128 : Shape := ⟨2, ![2048, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x128, .bf16⟩
  | .hbm, ⟨2, _⟩ => ⟨S8192x2048, .f32⟩
  | .hbm, ⟨3, _⟩ => ⟨S2048x128, .f32⟩
  | .hbm, ⟨4, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel36.lean ====
abbrev S256x2048 : Shape := ⟨2, ![256, 2048]⟩
abbrev S2048x4096 : Shape := ⟨2, ![2048, 4096]⟩
abbrev S256x4096 : Shape := ⟨2, ![256, 4096]⟩
abbrev S2048x1024 : Shape := ⟨2, ![2048, 1024]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x4096, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference36Ideal.lean ====
abbrev S256x2048 : Shape := ⟨2, ![256, 2048]⟩
abbrev S2048x4096 : Shape := ⟨2, ![2048, 4096]⟩
abbrev S256x4096 : Shape := ⟨2, ![256, 4096]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x4096, .bf16⟩
  | .hbm, ⟨2, _⟩ => ⟨S256x2048, .f32⟩
  | .hbm, ⟨3, _⟩ => ⟨S2048x4096, .f32⟩
  | .hbm, ⟨4, _⟩ => ⟨S256x4096, .f32⟩
  | .hbm, ⟨5, _⟩ => ⟨S256x4096, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel37.lean ====
abbrev S8192x2048 : Shape := ⟨2, ![8192, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference37Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel38.lean ====
abbrev S256x2048 : Shape := ⟨2, ![256, 2048]⟩
abbrev S2048 : Shape := ⟨1, ![2048]⟩
abbrev S1x2048 : Shape := ⟨2, ![1, 2048]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S1x2048, .f32⟩
  | .hbm, ⟨3, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference38Ideal.lean ====
abbrev S256x2048 : Shape := ⟨2, ![256, 2048]⟩
abbrev S2048 : Shape := ⟨1, ![2048]⟩
abbrev S_ : Shape := ⟨0, ![]⟩
abbrev S256 : Shape := ⟨1, ![256]⟩
abbrev S256x1 : Shape := ⟨2, ![256, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S1x2048, .f32⟩
  | .hbm, ⟨16, _⟩ => ⟨S256x2048, .f32⟩
  | .hbm, ⟨17, _⟩ => ⟨S256x2048, .f32⟩
  | .hbm, ⟨18, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel39.lean ====
abbrev S8192x7168 : Shape := ⟨2, ![8192, 7168]⟩
abbrev S4x3072 : Shape := ⟨2, ![4, 3072]⟩
abbrev S8192x3072 : Shape := ⟨2, ![8192, 3072]⟩
abbrev S256x1536 : Shape := ⟨2, ![256, 1536]⟩
abbrev S16x1536 : Shape := ⟨2, ![16, 1536]⟩
abbrev S4x1536 : Shape := ⟨2, ![4, 1536]⟩
abbrev S272x1536 : Shape := ⟨2, ![272, 1536]⟩
abbrev S1x1536 : Shape := ⟨2, ![1, 1536]⟩

abbrev nBuf : Space → Nat
  | .hbm => 3
  | .vmem => 8
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S8192x3072, .f32⟩
  | .local _ .vmem, ⟨0, _⟩ => ⟨S256x1536, .f32⟩
  | .local _ .vmem, ⟨1, _⟩ => ⟨S256x1536, .f32⟩
  | .local _ .vmem, ⟨2, _⟩ => ⟨S16x1536, .f32⟩
  | .local _ .vmem, ⟨3, _⟩ => ⟨S16x1536, .f32⟩
  | .local _ .vmem, ⟨4, _⟩ => ⟨S4x1536, .f32⟩
  | .local _ .vmem, ⟨5, _⟩ => ⟨S4x1536, .f32⟩
  | .local _ .vmem, ⟨6, _⟩ => ⟨S256x1536, .f32⟩
  | .local _ .vmem, ⟨7, _⟩ => ⟨S256x1536, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference39Ideal.lean ====
abbrev S8192x7168 : Shape := ⟨2, ![8192, 7168]⟩
abbrev S4x3072 : Shape := ⟨2, ![4, 3072]⟩
abbrev S8192x3072 : Shape := ⟨2, ![8192, 3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩
abbrev S3072 : Shape := ⟨1, ![3072]⟩

abbrev nBuf : Space → Nat
  | .hbm => 33
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S4x3072, .f32⟩
  | .hbm, ⟨2, _⟩ => ⟨S8192x3072, .f32⟩
  | .hbm, ⟨3, _⟩ => ⟨S_, .f32⟩
  | .hbm, ⟨4, _⟩ => ⟨S3x3072, .f32⟩
  | .hbm, ⟨5, _⟩ => ⟨S8195x3072, .f32⟩
  | .hbm, ⟨6, _⟩ => ⟨S8192x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S1x3072, .f32⟩
  | .hbm, ⟨14, _⟩ => ⟨S3072, .f32⟩
  | .hbm, ⟨15, _⟩ => ⟨S1x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S8192x3072, .f32⟩
  | .hbm, ⟨20, _⟩ => ⟨S1x3072, .f32⟩
  | .hbm, ⟨21, _⟩ => ⟨S3072, .f32⟩
  | .hbm, ⟨22, _⟩ => ⟨S1x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S1x3072, .f32⟩
  | .hbm, ⟨28, _⟩ => ⟨S3072, .f32⟩
  | .hbm, ⟨29, _⟩ => ⟨S1x3072, .f32⟩
  | .hbm, ⟨30, _⟩ => ⟨S8192x3072, .f32⟩
  | .hbm, ⟨31, _⟩ => ⟨S8192x3072, .f32⟩
  | .hbm, ⟨32, _⟩ => ⟨S8192x3072, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩

abbrev nD : Nat := 1
abbrev τ : Topo := Topo.v7x

variable {F : FTy → Type} [FloatOps F]
-- ==== Kernel40.lean ====
abbrev S8192x7168 : Shape := ⟨2, ![8192, 7168]⟩
abbrev S3x1024 : Shape := ⟨2, ![3, 1024]⟩
abbrev S8192x1024 : Shape := ⟨2, ![8192, 1024]⟩
abbrev S256x1024 : Shape := ⟨2, ![256, 1024]⟩
abbrev S16x1024 : Shape := ⟨2, ![16, 1024]⟩
abbrev S272x1024 : Shape := ⟨2, ![272, 1024]⟩
abbrev S1x1024 : Shape := ⟨2, ![1, 1024]⟩

abbrev nBuf : Space → Nat
  | .hbm => 3
  | .vmem => 13
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S256x1024, .f32⟩
  | .local _ .vmem, ⟨5, _⟩ => ⟨S256x1024, .f32⟩
  | .local _ .vmem, ⟨6, _⟩ => ⟨S16x1024, .f32⟩
  | .local _ .vmem, ⟨7, _⟩ => ⟨S16x1024, .f32⟩
  | .local _ .vmem, ⟨8, _⟩ => ⟨S3x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 32], ![false, false]⟩

def cc0_transform_0 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let v3 : BitVec 32 := Scalar.addi c5_i32 arg0
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let v3 : BitVec 32 := Scalar.addi c6_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference40Ideal.lean ====
abbrev S8192x7168 : Shape := ⟨2, ![8192, 7168]⟩
abbrev S3x1024 : Shape := ⟨2, ![3, 1024]⟩
abbrev S8192x1024 : Shape := ⟨2, ![8192, 1024]⟩
abbrev S_ : Shape := ⟨0, ![]⟩
abbrev S2x1024 : Shape := ⟨2, ![2, 1024]⟩
abbrev S8194x1024 : Shape := ⟨2, ![8194, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S3x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S2x1024, .f32⟩
  | .hbm, ⟨8, _⟩ => ⟨S8194x1024, .f32⟩
  | .hbm, ⟨9, _⟩ => ⟨S8192x1024, .f32⟩
  | .hbm, ⟨10, _⟩ => ⟨S1x1024, .f32⟩
  | .hbm, ⟨11, _⟩ => ⟨S1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩

abbrev nD : Nat := 1
abbrev τ : Topo := Topo.v7x

variable {F : FTy → Type} [FloatOps F]
-- ==== Kernel41.lean ====
abbrev S8192x1024 : Shape := ⟨2, ![8192, 1024]⟩
abbrev S8192x7168 : Shape := ⟨2, ![8192, 7168]⟩
abbrev S128 : Shape := ⟨1, ![128]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S128, .f32⟩
  | .hbm, ⟨3, _⟩ => ⟨S1x128, .f32⟩
  | .hbm, ⟨4, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference41Ideal.lean ====
abbrev S8192x1024 : Shape := ⟨2, ![8192, 1024]⟩
abbrev S8192x7168 : Shape := ⟨2, ![8192, 7168]⟩
abbrev S128 : Shape := ⟨1, ![128]⟩
abbrev S65536x128 : Shape := ⟨2, ![65536, 128]⟩
abbrev S_ : Shape := ⟨0, ![]⟩
abbrev S65536 : Shape := ⟨1, ![65536]⟩
abbrev S65536x1 : Shape := ⟨2, ![65536, 1]⟩
abbrev S1x128 : Shape := ⟨2, ![1, 128]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x7168, .f32⟩
  | .hbm, ⟨2, _⟩ => ⟨S128, .f32⟩
  | .hbm, ⟨3, _⟩ => ⟨S65536x128, .f32⟩
  | .hbm, ⟨4, _⟩ => ⟨S8192x1024, .f32⟩
  | .hbm, ⟨5, _⟩ => ⟨S65536x128, .f32⟩
  | .hbm, ⟨6, _⟩ => ⟨S65536x128, .f32⟩
  | .hbm, ⟨7, _⟩ => ⟨S_, .f32⟩
  | .hbm, ⟨8, _⟩ => ⟨S65536, .f32⟩
  | .hbm, ⟨9, _⟩ => ⟨S65536x1, .f32⟩
  | .hbm, ⟨10, _⟩ => ⟨S_, .f32⟩
  | .hbm, ⟨11, _⟩ => ⟨S65536x1, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1, .f32⟩
  | .hbm, ⟨17, _⟩ => ⟨S65536x128, .f32⟩
  | .hbm, ⟨18, _⟩ => ⟨S65536x128, .f32⟩
  | .hbm, ⟨19, _⟩ => ⟨S1x128, .f32⟩
  | .hbm, ⟨20, _⟩ => ⟨S65536x128, .f32⟩
  | .hbm, ⟨21, _⟩ => ⟨S65536x128, .f32⟩
  | .hbm, ⟨22, _⟩ => ⟨S65536x128, .f32⟩
  | .hbm, ⟨23, _⟩ => ⟨S65536x128, .f32⟩
  | .hbm, ⟨24, _⟩ => ⟨S_, .f32⟩
  | .hbm, ⟨25, _⟩ => ⟨S65536x128, .f32⟩
  | .hbm, ⟨26, _⟩ => ⟨S65536x128, .f32⟩
  | .hbm, ⟨27, _⟩ => ⟨S_, .f32⟩
  | .hbm, ⟨28, _⟩ => ⟨S65536x128, .f32⟩
  | .hbm, ⟨29, _⟩ => ⟨S65536x128, .f32⟩
  | .hbm, ⟨30, _⟩ => ⟨S65536x128, .f32⟩
  | .hbm, ⟨31, _⟩ => ⟨S65536x128, .f32⟩
  | .hbm, ⟨32, _⟩ => ⟨S8192x1024, .f32⟩
  | .hbm, ⟨33, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩

abbrev nD : Nat := 1
abbrev τ : Topo := Topo.v7x

variable {F : FTy → Type} [FloatOps F]
-- ==== Kernel42.lean ====
abbrev S8192x11264 : Shape := ⟨2, ![8192, 11264]⟩
abbrev S3x11264 : Shape := ⟨2, ![3, 11264]⟩
abbrev S8192x5632 : Shape := ⟨2, ![8192, 5632]⟩
abbrev S256x2816 : Shape := ⟨2, ![256, 2816]⟩
abbrev S16x2816 : Shape := ⟨2, ![16, 2816]⟩
abbrev S3x2816 : Shape := ⟨2, ![3, 2816]⟩
abbrev S272x2816 : Shape := ⟨2, ![272, 2816]⟩
abbrev S1x2816 : Shape := ⟨2, ![1, 2816]⟩

abbrev nBuf : Space → Nat
  | .hbm => 5
  | .vmem => 18
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S8192x5632, .bf16⟩
  | .hbm, ⟨3, _⟩ => ⟨S8192x5632, .bf16⟩
  | .hbm, ⟨4, _⟩ => ⟨S8192x5632, .bf16⟩
  | .local _ .vmem, ⟨0, _⟩ => ⟨S256x2816, .bf16⟩
  | .local _ .vmem, ⟨1, _⟩ => ⟨S256x2816, .bf16⟩
  | .local _ .vmem, ⟨2, _⟩ => ⟨S16x2816, .bf16⟩
  | .local _ .vmem, ⟨3, _⟩ => ⟨S16x2816, .bf16⟩
  | .local _ .vmem, ⟨4, _⟩ => ⟨S256x2816, .bf16⟩
  | .local _ .vmem, ⟨5, _⟩ => ⟨S256x2816, .bf16⟩
  | .local _ .vmem, ⟨6, _⟩ => ⟨S16x2816, .bf16⟩
  | .local _ .vmem, ⟨7, _⟩ => ⟨S16x2816, .bf16⟩
  | .local _ .vmem, ⟨8, _⟩ => ⟨S3x2816, .f32⟩
  | .local _ .vmem, ⟨9, _⟩ => ⟨S3x2816, .f32⟩
  | .local _ .vmem, ⟨10, _⟩ => ⟨S3x2816, .f32⟩
  | .local _ .vmem, ⟨11, _⟩ => ⟨S3x2816, .f32⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let v3 : BitVec 32 := Scalar.addi c2_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference42Ideal.lean ====
abbrev S8192x11264 : Shape := ⟨2, ![8192, 11264]⟩
abbrev S3x11264 : Shape := ⟨2, ![3, 11264]⟩
abbrev S_ : Shape := ⟨0, ![]⟩
abbrev S2x11264 : Shape := ⟨2, ![2, 11264]⟩
abbrev S8194x11264 : Shape := ⟨2, ![8194, 11264]⟩
abbrev S1x11264 : Shape := ⟨2, ![1, 11264]⟩
abbrev S11264 : Shape := ⟨1, ![11264]⟩
abbrev S8192x5632 : Shape := ⟨2, ![8192, 5632]⟩

abbrev nBuf : Space → Nat
  | .hbm => 41
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x11264, .f32⟩
  | .hbm, ⟨2, _⟩ => ⟨S8192x11264, .f32⟩
  | .hbm, ⟨3, _⟩ => ⟨S_, .f32⟩
  | .hbm, ⟨4, _⟩ => ⟨S2x11264, .f32⟩
  | .hbm, ⟨5, _⟩ => ⟨S8194x11264, .f32⟩
  | .hbm, ⟨6, _⟩ => ⟨S8192x11264, .f32⟩
  | .hbm, ⟨7, _⟩ => ⟨S1x11264, .f32⟩
  | .hbm, ⟨8, _⟩ => ⟨S11264, .f32⟩
  | .hbm, ⟨9, _⟩ => ⟨S1x11264, .f32⟩
  | .hbm, ⟨10, _⟩ => ⟨S8192x11264, .f32⟩
  | .hbm, ⟨11, _⟩ => ⟨S8192x11264, .f32⟩
  | .hbm, ⟨12, _⟩ => ⟨S8192x11264, .f32⟩
  | .hbm, ⟨13, _⟩ => ⟨S1x11264, .f32⟩
  | .hbm, ⟨14, _⟩ => ⟨S11264, .f32⟩
  | .hbm, ⟨15, _⟩ => ⟨S1x11264, .f32⟩
  | .hbm, ⟨16, _⟩ => ⟨S8192x11264, .f32⟩
  | .hbm, ⟨17, _⟩ => ⟨S8192x11264, .f32⟩
  | .hbm, ⟨18, _⟩ => ⟨S8192x11264, .f32⟩
  | .hbm, ⟨19, _⟩ => ⟨S8192x11264, .f32⟩
  | .hbm, ⟨20, _⟩ => ⟨S1x11264, .f32⟩
  | .hbm, ⟨21, _⟩ => ⟨S11264, .f32⟩
  | .hbm, ⟨22, _⟩ => ⟨S1x11264, .f32⟩
  | .hbm, ⟨23, _⟩ => ⟨S8192x11264, .f32⟩
  | .hbm, ⟨24, _⟩ => ⟨S8192x11264, .f32⟩
  | .hbm, ⟨25, _⟩ => ⟨S8192x11264, .f32⟩
  | .hbm, ⟨26, _⟩ => ⟨S8192x5632, .f32⟩
  | .hbm, ⟨27, _⟩ => ⟨S8192x5632, .f32⟩
  | .hbm, ⟨28, _⟩ => ⟨S8192x5632, .bf16⟩
  | .hbm, ⟨29, _⟩ => ⟨S8192x5632, .bf16⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .bf16⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.FwdRuns.lean ====
/- The forward scan region: its windows' blocks, its branch condition, its memrefs, and its scoped buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

def iblk (c : Dev nD) (w : Fin cfg0.W) (t : Fin cfg0.N) : ((cfg0.win w).xblock (cfg0.grid.coords t)).Idx → Elt F (cfg0.win w).elt :=
  ((cfg0.win w).blk t).view.read (Elt F) (m c (Pipeline.arrRef spec0 w))

theorem before0_0_of {c : Dev nD} (dat : Dat τ (Elt F) Unit ℕ (UR sig nD τ) ℕ cfg0 c) (hA : dat.A 0 = m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 32 = 0 :=
  (fun t => by
    have ht : t.val < 32 := Nat.lt_of_lt_of_eq t.isLt N_0
    have e0 : (grid0.coords t 0).val = t.val / 32 % 1 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

abbrev VO0_6 : View sig .tc .vmem S256x1024 .f32 := (Memref.whole cc0_stg6_0 : Memref sig .tc .vmem S256x1024 .f32).view
abbrev VO0_7 : View sig .tc .vmem S8x4x128x128 .f32 := (Memref.whole cc0_stg7_0 : Memref sig .tc .vmem S8x4x128x128 .f32).view
abbrev ms0_0 (t : Fin cfg0.N) : Memref sig .tc .vmem S256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x256x64 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x4x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x4x128x128 .f32 := win0_7.stage (cfg0.slots t 7)
abbrev hs0_7 (t : Fin cfg0.N) : (ms0_7 t).IsWhole := hstage0_7 ((cfg0.slots t 7).cast nbuf0_7)
abbrev scM0_0 : Memref sig .tc .vmem S8x128x128 .f32 := Memref.whole cc0_scratch0
abbrev VS0_0 : View sig .tc .vmem S8x128x128 .f32 := scM0_0.view

/-- What stays beside the carried scratch: the scoped buffers of the other calls, and the generator register. -/
def Rest (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The region's scoped buffers, split at the carried scratch. -/
theorem PhiA0_eq (c : Dev nD) :
    (Pipeline.ΦA spec0 c : sProp 𝕄)
      = iprop(iprop((∃ d, owns (c : Thread nD τ) scM0_0 fullShare d)) ∗ Rest c) := by
  have h : (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
    Pipeline.scopedRest_split_of_list spec0 c [cc0_scratch0] (by decide) (by decide)
  unfold Pipeline.ΦA Rest
  rw [h, show ∀ X Y Z : sProp 𝕄, iprop((X ∗ Y) ∗ Z) = iprop(X ∗ Y ∗ Z) from fun X Y Z => equiv_iff.mp ⟨BI.sep_assoc, BI.sep_assoc'⟩]
  simp only [scM0_0, owns_whole]; try rfl

end Cert.KernelIdeal.Fwd

end
-- ==== Proof.FwdRunA.lean ====
/- The forward scan body at the first grid point: the pieces its stores leave. -/
module

public import proofs.«01_k».proof.Proof.FwdRuns

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 1092000 in
noncomputable def kernelRun0_A (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S256x1024 .f32) (harg8 : arg8.IsWhole) (arg9 : Memref sig .tc .vmem S8x4x128x128 .f32) (harg9 : arg9.IsWhole) (arg10 : Memref sig .tc .vmem S8x128x128 .f32) (harg10 : arg10.IsWhole) (hc0 : cond0_0 i)
    (x0 : Vec F S256x1024 .f32) (x1 : Vec F S256x1024 .bf16) (x2 : Vec F S8x256x64 .bf16) (x3 : Vec F S256x1024 .bf16) (x4 : Vec F S256x1024 .bf16) (x5 : Vec F S8x4x1x1 .f32) :
    Σ' (L6 : List (View.Piece (Elt F) S256x1024 .f32)), Σ' (L7 : List (View.Piece (Elt F) S8x4x128x128 .f32)), { LS0 : List (View.Piece (Elt F) S8x128x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ (∃ d, owns c.tc arg10 fullShare d)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f LS0)) -∗ K ⟨⟩))
          ⊢ wp frame (wpE (defs₀ (F := F)) Variants.none c none) E (cc0_gdn_scan_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_gdn_scan_fwd_eq_skeleton]; unfold cc0_gdn_scan_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Fwd

end
-- ==== Proof.FwdRunB.lean ====
/- The forward scan body at a later grid point: the pieces its stores leave. -/
module

public import proofs.«01_k».proof.Proof.FwdRuns

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 1080000 in
noncomputable def kernelRun0_B (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S256x1024 .f32) (harg8 : arg8.IsWhole) (arg9 : Memref sig .tc .vmem S8x4x128x128 .f32) (harg9 : arg9.IsWhole) (arg10 : Memref sig .tc .vmem S8x128x128 .f32) (harg10 : arg10.IsWhole) (hc0 : ¬cond0_0 i)
    (x0 : Vec F S256x1024 .f32) (x1 : Vec F S256x1024 .bf16) (x2 : Vec F S8x256x64 .bf16) (x3 : Vec F S256x1024 .bf16) (x4 : Vec F S256x1024 .bf16) (x5 : Vec F S8x4x1x1 .f32) (xs0 : Vec F S8x128x128 .f32) :
    Σ' (L6 : List (View.Piece (Elt F) S256x1024 .f32)), Σ' (L7 : List (View.Piece (Elt F) S8x4x128x128 .f32)), { LS0 : List (View.Piece (Elt F) S8x128x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ d, owns c.tc arg8 fullShare d) ∗ (∃ d, owns c.tc arg9 fullShare d) ∗ owns c.tc arg10 fullShare xs0
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ (∃ f, arg8.view.loc c.tc ↦[arg8.view.set]{fullShare} arg8.view.writes (Elt F) f L6) ∗ (∃ f, arg9.view.loc c.tc ↦[arg9.view.set]{fullShare} arg9.view.writes (Elt F) f L7) ∗ (∃ f, arg10.view.loc c.tc ↦[arg10.view.set]{fullShare} arg10.view.writes (Elt F) f LS0)) -∗ K ⟨⟩))
          ⊢ wp frame (wpE (defs₀ (F := F)) Variants.none c none) E (cc0_gdn_scan_fwd i arg2 harg2 arg3 harg3 arg4 harg4 arg5 harg5 arg6 harg6 arg7 harg7 arg8 harg8 arg9 harg9 arg10 harg10) K } := by
  refine ⟨?_, ?_, ?_, fun E K => ?run⟩
  case run =>
    simp only [cc0_gdn_scan_fwd_eq_skeleton]; unfold cc0_gdn_scan_fwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KernelIdeal.Fwd

end
-- ==== Proof.FwdBody.lean ====
/- The forward scan region: what every grid point leaves, the proof data, and the body obligation. -/
module

public import proofs.«01_k».proof.Proof.FwdRunA
public import proofs.«01_k».proof.Proof.FwdRunB
public import Idealize.ShloMosaic.Lib.Claim

@[expose] public section

set_option maxRecDepth 16384

noncomputable section

namespace Cert.KernelIdeal.Fwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

section CaseA

variable (c : Dev nD) (t : Fin cfg0.N) (hc0 : cond0_0 (grid0.coords t))
  (x0 : Vec F S256x1024 .f32) (x1 : Vec F S256x1024 .bf16) (x2 : Vec F S8x256x64 .bf16) (x3 : Vec F S256x1024 .bf16) (x4 : Vec F S256x1024 .bf16) (x5 : Vec F S8x4x1x1 .f32)

/-- The body's run at grid point `t` in case A (the first point). -/
abbrev runA :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 x0 x1 x2 x3 x4 x5

theorem cover0_A_6 (y : S256x1024.Idx) :
    ∃ pc ∈ (runA c t hc0 x0 x1 x2 x3 x4 x5).1, y ∈ pc.1.set :=
  View.cover_of_tiledL (runA c t hc0 x0 x1 x2 x3 x4 x5).1 S64x128.size (by sl_kernel_rfl) y

def out0_A_6 : Vec F S256x1024 .f32 :=
  VO0_6.read (Elt F) (VO0_6.writes (Elt F) VO0_6.junk (runA c t hc0 x0 x1 x2 x3 x4 x5).1)

theorem cover0_A_7 (y : S8x4x128x128.Idx) :
    ∃ pc ∈ (runA c t hc0 x0 x1 x2 x3 x4 x5).2.1, y ∈ pc.1.set :=
  View.cover_of_tiledL (runA c t hc0 x0 x1 x2 x3 x4 x5).2.1 S8x1x128x128.size (by sl_kernel_rfl) y

def out0_A_7 : Vec F S8x4x128x128 .f32 :=
  VO0_7.read (Elt F) (VO0_7.writes (Elt F) VO0_7.junk (runA c t hc0 x0 x1 x2 x3 x4 x5).2.1)

theorem scover0_A_0 (y : S8x128x128.Idx) :
    ∃ pc ∈ (runA c t hc0 x0 x1 x2 x3 x4 x5).2.2.1, y ∈ pc.1.set :=
  View.cover_of_tiledL (runA c t hc0 x0 x1 x2 x3 x4 x5).2.2.1 S8x128x128.size (by sl_kernel_rfl) y

def sout0_A_0 : Vec F S8x128x128 .f32 :=
  VS0_0.read (Elt F) (VS0_0.writes (Elt F) VS0_0.junk (runA c t hc0 x0 x1 x2 x3 x4 x5).2.2.1)

end CaseA

section CaseB

variable (c : Dev nD) (t : Fin cfg0.N) (hc0 : ¬cond0_0 (grid0.coords t))
  (x0 : Vec F S256x1024 .f32) (x1 : Vec F S256x1024 .bf16) (x2 : Vec F S8x256x64 .bf16) (x3 : Vec F S256x1024 .bf16) (x4 : Vec F S256x1024 .bf16) (x5 : Vec F S8x4x1x1 .f32) (xs0 : Vec F S8x128x128 .f32)

/-- The body's run at grid point `t` in case B (a later point). -/
abbrev runB :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) hc0 x0 x1 x2 x3 x4 x5 xs0

theorem cover0_B_6 (y : S256x1024.Idx) :
    ∃ pc ∈ (runB c t hc0 x0 x1 x2 x3 x4 x5 xs0).1, y ∈ pc.1.set :=
  View.cover_of_tiledL (runB c t hc0 x0 x1 x2 x3 x4 x5 xs0).1 S64x128.size (by sl_kernel_rfl) y

def out0_B_6 : Vec F S256x1024 .f32 :=
  VO0_6.read (Elt F) (VO0_6.writes (Elt F) VO0_6.junk (runB c t hc0 x0 x1 x2 x3 x4 x5 xs0).1)

theorem cover0_B_7 (y : S8x4x128x128.Idx) :
    ∃ pc ∈ (runB c t hc0 x0 x1 x2 x3 x4 x5 xs0).2.1, y ∈ pc.1.set :=
  View.cover_of_tiledL (runB c t hc0 x0 x1 x2 x3 x4 x5 xs0).2.1 S8x1x128x128.size (by sl_kernel_rfl) y

def out0_B_7 : Vec F S8x4x128x128 .f32 :=
  VO0_7.read (Elt F) (VO0_7.writes (Elt F) VO0_7.junk (runB c t hc0 x0 x1 x2 x3 x4 x5 xs0).2.1)

theorem scover0_B_0 (y : S8x128x128.Idx) :
    ∃ pc ∈ (runB c t hc0 x0 x1 x2 x3 x4 x5 xs0).2.2.1, y ∈ pc.1.set :=
  View.cover_of_tiledL (runB c t hc0 x0 x1 x2 x3 x4 x5 xs0).2.2.1 S8x128x128.size (by sl_kernel_rfl) y

def sout0_B_0 : Vec F S8x128x128 .f32 :=
  VS0_0.read (Elt F) (VS0_0.writes (Elt F) VS0_0.junk (runB c t hc0 x0 x1 x2 x3 x4 x5 xs0).2.2.1)

end CaseB

/-- What a first grid point leaves. -/
def ptA (c : Dev nD) (t : Fin cfg0.N) (h : cond0_0 (grid0.coords t)) : Vec F S256x1024 .f32 × Vec F S8x4x128x128 .f32 × Vec F S8x128x128 .f32 :=
  (out0_A_6 c t h (iblk m c 0 t) (iblk m c 1 t) (iblk m c 2 t) (iblk m c 3 t) (iblk m c 4 t) (iblk m c 5 t), out0_A_7 c t h (iblk m c 0 t) (iblk m c 1 t) (iblk m c 2 t) (iblk m c 3 t) (iblk m c 4 t) (iblk m c 5 t), sout0_A_0 c t h (iblk m c 0 t) (iblk m c 1 t) (iblk m c 2 t) (iblk m c 3 t) (iblk m c 4 t) (iblk m c 5 t))

/-- What a later grid point leaves, of the scratch `xs0` before it. -/
def ptB (c : Dev nD) (t : Fin cfg0.N) (h : ¬cond0_0 (grid0.coords t)) (xs0 : Vec F S8x128x128 .f32) : Vec F S256x1024 .f32 × Vec F S8x4x128x128 .f32 × Vec F S8x128x128 .f32 :=
  (out0_B_6 c t h (iblk m c 0 t) (iblk m c 1 t) (iblk m c 2 t) (iblk m c 3 t) (iblk m c 4 t) (iblk m c 5 t) xs0, out0_B_7 c t h (iblk m c 0 t) (iblk m c 1 t) (iblk m c 2 t) (iblk m c 3 t) (iblk m c 4 t) (iblk m c 5 t) xs0, sout0_B_0 c t h (iblk m c 0 t) (iblk m c 1 t) (iblk m c 2 t) (iblk m c 3 t) (iblk m c 4 t) (iblk m c 5 t) xs0)

def outsAt0 (c : Dev nD) : (n : ℕ) → n < cfg0.N → Vec F S256x1024 .f32 × Vec F S8x4x128x128 .f32 × Vec F S8x128x128 .f32
  | 0, hn => ptA m c ⟨0, hn⟩ ((hcond0_0 ⟨0, hn⟩).mpr (Nat.zero_mod _))
  | n + 1, hn =>
    if h0 : (n + 1) % 32 = 0 then
      ptA m c ⟨n + 1, hn⟩ ((hcond0_0 ⟨n + 1, hn⟩).mpr h0)
    else
      ptB m c ⟨n + 1, hn⟩ (fun h => h0 ((hcond0_0 ⟨n + 1, hn⟩).mp h)) (outsAt0 c n (Nat.lt_of_succ_lt hn)).2.2

theorem outsAt0_A (c : Dev nD) (t : Fin cfg0.N) (h0 : t.val % 32 = 0) :
    outsAt0 m c t.val t.isLt = ptA m c t ((hcond0_0 t).mpr h0) := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = ptB m c t (fun h => h0 ((hcond0_0 t).mp h)) (outsAt0 m c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg0.N → sProp 𝕄
  | 0, _ => Pipeline.ΦA spec0 c
  | n + 1, hn => iprop(iprop(owns c.tc scM0_0 fullShare ((outsAt0 m c n hn).2.2)) ∗ Rest c)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns c.tc scM0_0 fullShare ((outsAt0 m c n hn).2.2)) ∗ Rest c) := rfl

theorem PhiS_pos (c : Dev nD) (n : ℕ) (h : n ≤ cfg0.N) (hz : n ≠ 0) :
    PhiS m c n h = iprop(iprop(owns c.tc scM0_0 fullShare ((outsAt0 m c (n - 1) (by omega)).2.2)) ∗ Rest c) := by
  cases n with
  | zero => exact absurd rfl hz
  | succ n => rfl

def dat0 (c : Dev nD) : Dat τ (Elt F) Unit ℕ (UR sig nD τ) ℕ cfg0 c where
  A w := m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).1
    | ⟨7, _⟩ => (outsAt0 m c t.val t.isLt).2.1
  Φ t := PhiS m c t.val (Nat.le_of_lt_succ t.isLt)
  q _ := fullShare
  owed _ := 0

theorem A_eq (c : Dev nD) (w : Fin cfg0.W) : (dat0 m c).A w = m c (Pipeline.arrRef spec0 w) := by
  dsimp only [dat0]

theorem PhiS_castSucc (c : Dev nD) (t : Fin cfg0.N) :
    (dat0 m c).Φ t.castSucc = PhiS m c t.val (Nat.le_of_lt t.isLt) := by
  dsimp only [dat0]; exact Pipeline.Dat.Φ_castSucc (PhiS m c) t

theorem after0_0 (c : Dev nD) (t : Fin cfg0.N) : (dat0 m c).after 0 t = iblk m c 0 t := by dsimp only [dat0]
theorem after0_1 (c : Dev nD) (t : Fin cfg0.N) : (dat0 m c).after 1 t = iblk m c 1 t := by dsimp only [dat0]
theorem after0_2 (c : Dev nD) (t : Fin cfg0.N) : (dat0 m c).after 2 t = iblk m c 2 t := by dsimp only [dat0]
theorem after0_3 (c : Dev nD) (t : Fin cfg0.N) : (dat0 m c).after 3 t = iblk m c 3 t := by dsimp only [dat0]
theorem after0_4 (c : Dev nD) (t : Fin cfg0.N) : (dat0 m c).after 4 t = iblk m c 4 t := by dsimp only [dat0]
theorem after0_5 (c : Dev nD) (t : Fin cfg0.N) : (dat0 m c).after 5 t = iblk m c 5 t := by dsimp only [dat0]
theorem after0_6 (c : Dev nD) (t : Fin cfg0.N) : (dat0 m c).after 6 t = (outsAt0 m c t.val t.isLt).1 := by dsimp only [dat0]
theorem after0_7 (c : Dev nD) (t : Fin cfg0.N) : (dat0 m c).after 7 t = (outsAt0 m c t.val t.isLt).2.1 := by dsimp only [dat0]

theorem before0_0 (c : Dev nD) (t : Fin cfg0.N) (d) : (dat0 m c).before 0 t d = iblk m c 0 t :=
  before0_0_of m (dat0 m c) (A_eq m c 0) (after0_0 m c) t d
theorem before0_1 (c : Dev nD) (t : Fin cfg0.N) (d) : (dat0 m c).before 1 t d = iblk m c 1 t :=
  before0_1_of m (dat0 m c) (A_eq m c 1) (after0_1 m c) t d
theorem before0_2 (c : Dev nD) (t : Fin cfg0.N) (d) : (dat0 m c).before 2 t d = iblk m c 2 t :=
  before0_2_of m (dat0 m c) (A_eq m c 2) (after0_2 m c) t d
theorem before0_3 (c : Dev nD) (t : Fin cfg0.N) (d) : (dat0 m c).before 3 t d = iblk m c 3 t :=
  before0_3_of m (dat0 m c) (A_eq m c 3) (after0_3 m c) t d
theorem before0_4 (c : Dev nD) (t : Fin cfg0.N) (d) : (dat0 m c).before 4 t d = iblk m c 4 t :=
  before0_4_of m (dat0 m c) (A_eq m c 4) (after0_4 m c) t d
theorem before0_5 (c : Dev nD) (t : Fin cfg0.N) (d) : (dat0 m c).before 5 t d = iblk m c 5 t :=
  before0_5_of m (dat0 m c) (A_eq m c 5) (after0_5 m c) t d

def bodyPre (c : Dev nD) (t : Fin cfg0.N) : sProp 𝕄 :=
  iprop((dat0 m c).Φ t.castSucc ∗ (dat0 m c).owesAt () t.castSucc
    ∗ (∃ d, owns c.tc (ms0_0 t) fullShare ((dat0 m c).before 0 t d))
    ∗ (∃ d, owns c.tc (ms0_1 t) fullShare ((dat0 m c).before 1 t d))
    ∗ (∃ d, owns c.tc (ms0_2 t) fullShare ((dat0 m c).before 2 t d))
    ∗ (∃ d, owns c.tc (ms0_3 t) fullShare ((dat0 m c).before 3 t d))
    ∗ (∃ d, owns c.tc (ms0_4 t) fullShare ((dat0 m c).before 4 t d))
    ∗ (∃ d, owns c.tc (ms0_5 t) fullShare ((dat0 m c).before 5 t d))
    ∗ (∃ d, owns c.tc (ms0_6 t) fullShare ((dat0 m c).before 6 t d))
    ∗ (∃ d, owns c.tc (ms0_7 t) fullShare ((dat0 m c).before 7 t d)))

def bodyPost (c : Dev nD) (t : Fin cfg0.N) : sProp 𝕄 :=
  iprop((dat0 m c).Φ t.succ ∗ (dat0 m c).owesAt () t.succ
    ∗ owns c.tc (ms0_0 t) fullShare ((dat0 m c).after 0 t)
    ∗ owns c.tc (ms0_1 t) fullShare ((dat0 m c).after 1 t)
    ∗ owns c.tc (ms0_2 t) fullShare ((dat0 m c).after 2 t)
    ∗ owns c.tc (ms0_3 t) fullShare ((dat0 m c).after 3 t)
    ∗ owns c.tc (ms0_4 t) fullShare ((dat0 m c).after 4 t)
    ∗ owns c.tc (ms0_5 t) fullShare ((dat0 m c).after 5 t)
    ∗ owns c.tc (ms0_6 t) fullShare ((dat0 m c).after 6 t)
    ∗ owns c.tc (ms0_7 t) fullShare ((dat0 m c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dat0 m c).owesAt () t.succ = (dat0 m c).owesAt () t.castSucc from rfl,
    after0_0, after0_1, after0_2, after0_3, after0_4, after0_5, after0_6, after0_7]
  rw [show (dat0 m c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [outsAt0_A m c t h0, ptA]
      unfold out0_A_6 out0_A_7 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c t ((hcond0_0 t).mpr h0) (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_A_0 c t _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_A_6 c t _ _ _ _ _ _ _)
      unfold owns; iexists _; isplitr
      swap; · iexact H7
      ipureintro; exact View.read_writes_of_cover _ _ _ _ _ (cover0_A_7 c t _ _ _ _ _ _ _)
    · exfalso; have hN : t.val < 32 := lt_of_lt_of_eq t.isLt (show cfg0.N = 32 from N_0); omega
  · by_cases hz : t.val = 0
    · exfalso; have hN : t.val < 32 := lt_of_lt_of_eq t.isLt (show cfg0.N = 32 from N_0); omega
    · rw [PhiS_castSucc m c t, PhiS_pos m c _ _ hz]
      rw [outsAt0_B m c t h0, ptB]
      unfold out0_B_6 out0_B_7 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runB c t (fun h => h0 ((hcond0_0 t).mp h)) (iblk m c 0 t) (iblk m c 1 t) (iblk m c 2 t) (iblk m c 3 t) (iblk m c 4 t) (iblk m c 5 t) _).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      iintro ⟨H0, H1, H2, H3, H4, H5, ⟨%e6, H6⟩, ⟨%e7, H7⟩, ⟨%es0, HS0⟩⟩
      isplitl [HS0 Hg]
      · isplitl [HS0]
        · unfold owns; iexists _; isplitr
          swap; · iexact HS0
          ipureintro; exact View.read_writes_of_cover _ _ _ _ _ (scover0_B_0 c t _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (cover0_B_6 c t _ _ _ _ _ _ _ _)
      unfold owns; iexists _; isplitr
      swap; · iexact H7
      ipureintro; exact View.read_writes_of_cover _ _ _ _ _ (cover0_B_7 c t _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dat0 (F := F) m c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dat0 m c).Φ 0 := by
  rw [show (dat0 m c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dat0 m c).Φ t ⊢ Pipeline.ΦA spec0 c := by
  rw [show (dat0 m c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dat0 m c).Φ (Fin.last cfg0.N) ⊢ Pipeline.ΦA spec0 c :=
  Phi_out m c _ (by rw [Fin.val_last]; have : cfg0.N = 32 := N_0; omega)

end Cert.KernelIdeal.Fwd

end
-- ==== Proof.BwdRuns.lean ====
/- The backward scan region: its windows' blocks, its branch condition, its memrefs, and its scoped buffers. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

def iblk (c : Dev nD) (w : Fin cfg1.W) (t : Fin cfg1.N) : ((cfg1.win w).xblock (cfg1.grid.coords t)).Idx → Elt F (cfg1.win w).elt :=
  ((cfg1.win w).blk t).view.read (Elt F) (m c (Pipeline.arrRef spec1 w))

theorem before0_0_of {c : Dev nD} (dat : Dat τ (Elt F) Unit ℕ (UR sig nD τ) ℕ cfg1 c) (hA : dat.A 0 = m c (Pipeline.arrRef spec1 0))
    (hafter : ∀ t, dat.after 0 t = iblk m c 0 t) (t : Fin cfg1.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg1 c) (hA : dat.A 1 = m c (Pipeline.arrRef spec1 1))
    (hafter : ∀ t, dat.after 1 t = iblk m c 1 t) (t : Fin cfg1.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg1 c) (hA : dat.A 2 = m c (Pipeline.arrRef spec1 2))
    (hafter : ∀ t, dat.after 2 t = iblk m c 2 t) (t : Fin cfg1.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg1 c) (hA : dat.A 3 = m c (Pipeline.arrRef spec1 3))
    (hafter : ∀ t, dat.after 3 t = iblk m c 3 t) (t : Fin cfg1.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg1 c) (hA : dat.A 4 = m c (Pipeline.arrRef spec1 4))
    (hafter : ∀ t, dat.after 4 t = iblk m c 4 t) (t : Fin cfg1.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg1 c) (hA : dat.A 5 = m c (Pipeline.arrRef spec1 5))
    (hafter : ∀ t, dat.after 5 t = iblk m c 5 t) (t : Fin cfg1.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg1 c) (hA : dat.A 6 = m c (Pipeline.arrRef spec1 6))
    (hafter : ∀ t, dat.after 6 t = iblk m c 6 t) (t : Fin cfg1.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg1 c) (hA : dat.A 7 = m c (Pipeline.arrRef spec1 7))
    (hafter : ∀ t, dat.after 7 t = iblk m c 7 t) (t : Fin cfg1.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

abbrev cond0_0 (i : grid1.Coords) : Prop := (Scalar.cmpi .ne (Scalar.extui (Scalar.cmpi .eq (BitVec.ofNat 32 (i 1).val) 0#32)) 0#32) = 1#1
theorem hcond0_0 : ∀ t : Fin cfg1.N, cond0_0 (grid1.coords t) ↔ t.val % 32 = 0 :=
  (fun t => by
    have ht : t.val < 32 := Nat.lt_of_lt_of_eq t.isLt N_1
    have e0 : (grid1.coords t 0).val = t.val / 32 % 1 := Pipeline.Grid.coords_val t 0 (by decide) rfl
    have e1 : (grid1.coords t 1).val = t.val / 1 % 32 := Pipeline.Grid.coords_val t 1 (by decide) rfl
    simp only [cond0_0, e0, e1]
    word_cmp
   : ∀ t : Fin grid1.N, cond0_0 (grid1.coords t) ↔ t.val % 32 = 0)

abbrev VO0_8 : View sig .tc .vmem S256x1024 .f32 := (Memref.whole cc1_stg8_0 : Memref sig .tc .vmem S256x1024 .f32).view
abbrev VO0_9 : View sig .tc .vmem S256x1024 .f32 := (Memref.whole cc1_stg9_0 : Memref sig .tc .vmem S256x1024 .f32).view
abbrev VO0_10 : View sig .tc .vmem S8x256x64 .f32 := (Memref.whole cc1_stg10_0 : Memref sig .tc .vmem S8x256x64 .f32).view
abbrev VO0_11 : View sig .tc .vmem S256x1024 .f32 := (Memref.whole cc1_stg11_0 : Memref sig .tc .vmem S256x1024 .f32).view
abbrev VO0_12 : View sig .tc .vmem S256x1024 .f32 := (Memref.whole cc1_stg12_0 : Memref sig .tc .vmem S256x1024 .f32).view
abbrev VO0_13 : View sig .tc .vmem S8x4x1x1 .f32 := (Memref.whole cc1_stg13_0 : Memref sig .tc .vmem S8x4x1x1 .f32).view
abbrev ms0_0 (t : Fin cfg1.N) : Memref sig .tc .vmem S256x1024 .f32 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S256x1024 .bf16 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S8x256x64 .bf16 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S256x1024 .bf16 := win1_3.stage (cfg1.slots t 3)
abbrev hs0_3 (t : Fin cfg1.N) : (ms0_3 t).IsWhole := hstage1_3 ((cfg1.slots t 3).cast nbuf1_3)
abbrev ms0_4 (t : Fin cfg1.N) : Memref sig .tc .vmem S256x1024 .bf16 := win1_4.stage (cfg1.slots t 4)
abbrev hs0_4 (t : Fin cfg1.N) : (ms0_4 t).IsWhole := hstage1_4 ((cfg1.slots t 4).cast nbuf1_4)
abbrev ms0_5 (t : Fin cfg1.N) : Memref sig .tc .vmem S8x4x1x1 .f32 := win1_5.stage (cfg1.slots t 5)
abbrev hs0_5 (t : Fin cfg1.N) : (ms0_5 t).IsWhole := hstage1_5 ((cfg1.slots t 5).cast nbuf1_5)
abbrev ms0_6 (t : Fin cfg1.N) : Memref sig .tc .vmem S8x4x128x128 .f32 := win1_6.stage (cfg1.slots t 6)
abbrev hs0_6 (t : Fin cfg1.N) : (ms0_6 t).IsWhole := hstage1_6 ((cfg1.slots t 6).cast nbuf1_6)
abbrev ms0_7 (t : Fin cfg1.N) : Memref sig .tc .vmem S256x1024 .f32 := win1_7.stage (cfg1.slots t 7)
abbrev hs0_7 (t : Fin cfg1.N) : (ms0_7 t).IsWhole := hstage1_7 ((cfg1.slots t 7).cast nbuf1_7)
abbrev ms0_8 (t : Fin cfg1.N) : Memref sig .tc .vmem S256x1024 .f32 := win1_8.stage (cfg1.slots t 8)
abbrev hs0_8 (t : Fin cfg1.N) : (ms0_8 t).IsWhole := hstage1_8 ((cfg1.slots t 8).cast nbuf1_8)
abbrev ms0_9 (t : Fin cfg1.N) : Memref sig .tc .vmem S256x1024 .f32 := win1_9.stage (cfg1.slots t 9)
abbrev hs0_9 (t : Fin cfg1.N) : (ms0_9 t).IsWhole := hstage1_9 ((cfg1.slots t 9).cast nbuf1_9)
abbrev ms0_10 (t : Fin cfg1.N) : Memref sig .tc .vmem S8x256x64 .f32 := win1_10.stage (cfg1.slots t 10)
abbrev hs0_10 (t : Fin cfg1.N) : (ms0_10 t).IsWhole := hstage1_10 ((cfg1.slots t 10).cast nbuf1_10)
abbrev ms0_11 (t : Fin cfg1.N) : Memref sig .tc .vmem S256x1024 .f32 := win1_11.stage (cfg1.slots t 11)
abbrev hs0_11 (t : Fin cfg1.N) : (ms0_11 t).IsWhole := hstage1_11 ((cfg1.slots t 11).cast nbuf1_11)
abbrev ms0_12 (t : Fin cfg1.N) : Memref sig .tc .vmem S256x1024 .f32 := win1_12.stage (cfg1.slots t 12)
abbrev hs0_12 (t : Fin cfg1.N) : (ms0_12 t).IsWhole := hstage1_12 ((cfg1.slots t 12).cast nbuf1_12)
abbrev ms0_13 (t : Fin cfg1.N) : Memref sig .tc .vmem S8x4x1x1 .f32 := win1_13.stage (cfg1.slots t 13)
abbrev hs0_13 (t : Fin cfg1.N) : (ms0_13 t).IsWhole := hstage1_13 ((cfg1.slots t 13).cast nbuf1_13)
abbrev scM0_0 : Memref sig .tc .vmem S8x128x128 .f32 := Memref.whole cc1_scratch0
abbrev VS0_0 : View sig .tc .vmem S8x128x128 .f32 := scM0_0.view

/-- What stays beside the carried scratch: the scoped buffers of the other calls, and the generator register. -/
def Rest (c : Dev nD) : sProp 𝕄 :=
  iprop(Pipeline.scopedRestBut (Ix := Unit) (Name := ℕ) (U := UR sig nD τ) (Lvl := ℕ) (Val := Elt F) spec1 c [cc1_scratch0] ∗ (∃ r, prngReg c r))

/-- The region's scoped buffers, split at the carried scratch. -/
theorem PhiA0_eq (c : Dev nD) :
    (Pipeline.ΦA spec1 c : sProp 𝕄)
      = iprop(iprop((∃ d, owns (c : Thread nD τ) scM0_0 fullShare d)) ∗ Rest c) := by
  have h : (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
    Pipeline.scopedRest_split_of_list spec1 c [cc1_scratch0] (by decide) (by decide)
  unfold Pipeline.ΦA Rest
  rw [h, show ∀ X Y Z : sProp 𝕄, iprop((X ∗ Y) ∗ Z) = iprop(X ∗ Y ∗ Z) from fun X Y Z => equiv_iff.mp ⟨BI.sep_assoc, BI.sep_assoc'⟩]
  simp only [scM0_0, owns_whole]; try rfl

end Cert.KernelIdeal.Bwd

end
-- ==== Proof.BwdRunA.lean ====
/- The backward scan body at the first grid point: the pieces its stores leave. -/
module

public import proofs.«01_k».proof.Proof.BwdRuns

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 2268000 in
noncomputable def kernelRun0_A (c : Dev nD) (i : grid1.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S8x4x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x256x64 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S8x4x1x1 .f32) (harg15 : arg15.IsWhole) (arg16 : Memref sig .tc .vmem S8x128x128 .f32) (harg16 : arg16.IsWhole) (hc0 : cond0_0 i)
    (x0 : Vec F S256x1024 .f32) (x1 : Vec F S256x1024 .bf16) (x2 : Vec F S8x256x64 .bf16) (x3 : Vec F S256x1024 .bf16) (x4 : Vec F S256x1024 .bf16) (x5 : Vec F S8x4x1x1 .f32) (x6 : Vec F S8x4x128x128 .f32) (x7 : Vec F S256x1024 .f32) :
    Σ' (L8 : List (View.Piece (Elt F) S256x1024 .f32)), Σ' (L9 : List (View.Piece (Elt F) S256x1024 .f32)), Σ' (L10 : List (View.Piece (Elt F) S8x256x64 .f32)), Σ' (L11 : List (View.Piece (Elt F) S256x1024 .f32)), Σ' (L12 : List (View.Piece (Elt F) S256x1024 .f32)), Σ' (L13 : List (View.Piece (Elt F) S8x4x1x1 .f32)), { LS0 : List (View.Piece (Elt F) S8x128x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ (∃ d, owns c.tc arg16 fullShare d)
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ f, arg10.view.loc c.tc ↦[arg10.view.set]{fullShare} arg10.view.writes (Elt F) f L8) ∗ (∃ f, arg11.view.loc c.tc ↦[arg11.view.set]{fullShare} arg11.view.writes (Elt F) f L9) ∗ (∃ f, arg12.view.loc c.tc ↦[arg12.view.set]{fullShare} arg12.view.writes (Elt F) f L10) ∗ (∃ f, arg13.view.loc c.tc ↦[arg13.view.set]{fullShare} arg13.view.writes (Elt F) f L11) ∗ (∃ f, arg14.view.loc c.tc ↦[arg14.view.set]{fullShare} arg14.view.writes (Elt F) f L12) ∗ (∃ f, arg15.view.loc c.tc ↦[arg15.view.set]{fullShare} arg15.view.writes (Elt F) f L13) ∗ (∃ f, arg16.view.loc c.tc ↦[arg16.view.set]{fullShare} arg16.view.writes (Elt F) f LS0)) -∗ K ⟨⟩))
          ⊢ wp frame (wpE (defs₀ (F := F)) Variants.none c none) E (cc1_gdn_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc1_gdn_scan_bwd_eq_skeleton]; unfold cc1_gdn_scan_bwd_skel
    simp only [k1_part32_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdRunB.lean ====
/- The backward scan body at a later grid point: the pieces its stores leave. -/
module

public import proofs.«01_k».proof.Proof.BwdRuns

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

set_option maxHeartbeats 2256000 in
noncomputable def kernelRun0_B (c : Dev nD) (i : grid1.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S8x4x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x256x64 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S8x4x1x1 .f32) (harg15 : arg15.IsWhole) (arg16 : Memref sig .tc .vmem S8x128x128 .f32) (harg16 : arg16.IsWhole) (hc0 : ¬cond0_0 i)
    (x0 : Vec F S256x1024 .f32) (x1 : Vec F S256x1024 .bf16) (x2 : Vec F S8x256x64 .bf16) (x3 : Vec F S256x1024 .bf16) (x4 : Vec F S256x1024 .bf16) (x5 : Vec F S8x4x1x1 .f32) (x6 : Vec F S8x4x128x128 .f32) (x7 : Vec F S256x1024 .f32) (xs0 : Vec F S8x128x128 .f32) :
    Σ' (L8 : List (View.Piece (Elt F) S256x1024 .f32)), Σ' (L9 : List (View.Piece (Elt F) S256x1024 .f32)), Σ' (L10 : List (View.Piece (Elt F) S8x256x64 .f32)), Σ' (L11 : List (View.Piece (Elt F) S256x1024 .f32)), Σ' (L12 : List (View.Piece (Elt F) S256x1024 .f32)), Σ' (L13 : List (View.Piece (Elt F) S8x4x1x1 .f32)), { LS0 : List (View.Piece (Elt F) S8x128x128 .f32) //
      ∀ (E : Set ℕ) (K : PUnit → sProp 𝕄),
        iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ d, owns c.tc arg10 fullShare d) ∗ (∃ d, owns c.tc arg11 fullShare d) ∗ (∃ d, owns c.tc arg12 fullShare d) ∗ (∃ d, owns c.tc arg13 fullShare d) ∗ (∃ d, owns c.tc arg14 fullShare d) ∗ (∃ d, owns c.tc arg15 fullShare d) ∗ owns c.tc arg16 fullShare xs0
            ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6 ∗ owns c.tc arg9 fullShare x7 ∗ (∃ f, arg10.view.loc c.tc ↦[arg10.view.set]{fullShare} arg10.view.writes (Elt F) f L8) ∗ (∃ f, arg11.view.loc c.tc ↦[arg11.view.set]{fullShare} arg11.view.writes (Elt F) f L9) ∗ (∃ f, arg12.view.loc c.tc ↦[arg12.view.set]{fullShare} arg12.view.writes (Elt F) f L10) ∗ (∃ f, arg13.view.loc c.tc ↦[arg13.view.set]{fullShare} arg13.view.writes (Elt F) f L11) ∗ (∃ f, arg14.view.loc c.tc ↦[arg14.view.set]{fullShare} arg14.view.writes (Elt F) f L12) ∗ (∃ f, arg15.view.loc c.tc ↦[arg15.view.set]{fullShare} arg15.view.writes (Elt F) f L13) ∗ (∃ f, arg16.view.loc c.tc ↦[arg16.view.set]{fullShare} arg16.view.writes (Elt F) f LS0)) -∗ K ⟨⟩))
          ⊢ wp frame (wpE (defs₀ (F := F)) Variants.none c none) E (cc1_gdn_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, ?_, ?_, fun E K => ?run⟩
  case run =>
    simp only [cc1_gdn_scan_bwd_eq_skeleton]; unfold cc1_gdn_scan_bwd_skel
    simp only [k1_part32_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton, k1_part31_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact HS0

end Cert.KernelIdeal.Bwd

end
-- ==== Proof.BwdBody.lean ====
/- The backward scan region: what every grid point leaves, the proof data, and the body obligation. -/
module

public import proofs.«01_k».proof.Proof.BwdRunA
public import proofs.«01_k».proof.Proof.BwdRunB
public import Idealize.ShloMosaic.Lib.Claim

@[expose] public section

set_option maxRecDepth 16384

noncomputable section

namespace Cert.KernelIdeal.Bwd

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (c : Dev nD) → (b : Ref sig .tc) → Buf (Elt F) ((c : Thread nD τ).loc b))

section CaseA

variable (c : Dev nD) (t : Fin cfg1.N) (hc0 : cond0_0 (grid1.coords t))
  (x0 : Vec F S256x1024 .f32) (x1 : Vec F S256x1024 .bf16) (x2 : Vec F S8x256x64 .bf16) (x3 : Vec F S256x1024 .bf16) (x4 : Vec F S256x1024 .bf16) (x5 : Vec F S8x4x1x1 .f32) (x6 : Vec F S8x4x128x128 .f32) (x7 : Vec F S256x1024 .f32)

/-- The body's run at grid point `t` in case A (the first point). -/
abbrev runA :=
  kernelRun0_A c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) hc0 x0 x1 x2 x3 x4 x5 x6 x7

theorem cover0_A_8 (y : S256x1024.Idx) :
    ∃ pc ∈ (runA c t hc0 x0 x1 x2 x3 x4 x5 x6 x7).1, y ∈ pc.1.set :=
  View.cover_of_tiledL (runA c t hc0 x0 x1 x2 x3 x4 x5 x6 x7).1 S64x128.size (by sl_kernel_rfl) y

def out0_A_8 : Vec F S256x1024 .f32 :=
  VO0_8.read (Elt F) (VO0_8.writes (Elt F) VO0_8.junk (runA c t hc0 x0 x1 x2 x3 x4 x5 x6 x7).1)

theorem cover0_A_9 (y : S256x1024.Idx) :
    ∃ pc ∈ (runA c t hc0 x0 x1 x2 x3 x4 x5 x6 x7).2.1, y ∈ pc.1.set :=
  View.cover_of_tiledL (runA c t hc0 x0 x1 x2 x3 x4 x5 x6 x7).2.1 S64x128.size (by sl_kernel_rfl) y

def out0_A_9 : Vec F S256x1024 .f32 :=
  VO0_9.read (Elt F) (VO0_9.writes (Elt F) VO0_9.junk (runA c t hc0 x0 x1 x2 x3 x4 x5 x6 x7).2.1)

theorem cover0_A_10 (y : S8x256x64.Idx) :
    ∃ pc ∈ (runA c t hc0 x0 x1 x2 x3 x4 x5 x6 x7).2.2.1, y ∈ pc.1.set :=
  View.cover_of_tiledL (runA c t hc0 x0 x1 x2 x3 x4 x5 x6 x7).2.2.1 S8x64x64.size (by sl_kernel_rfl) y

def out0_A_10 : Vec F S8x256x64 .f32 :=
  VO0_10.read (Elt F) (VO0_10.writes (Elt F) VO0_10.junk (runA c t hc0 x0 x1 x2 x3 x4 x5 x6 x7).2.2.1)

theorem cover0_A_11 (y : S256x1024.Idx) :
    ∃ pc ∈ (runA c t hc0 x0 x1 x2 x3 x4 x5 x6 x7).2.2.2.1, y ∈ pc.1.set :=
  View.cover_of_tiledL (runA c t hc0 x0 x1 x2 x3 x4 x5 x6 x7).2.2.2.1 S64x128.size (by sl_kernel_rfl) y

def out0_A_11 : Vec F S256x1024 .f32 :=
  VO0_11.read (Elt F) (VO0_11.writes (Elt F) VO0_11.junk (runA c t hc0 x0 x1 x2 x3 x4 x5 x6 x7).2.2.2.1)

theorem cover0_A_12 (y : S256x1024.Idx) :
    ∃ pc ∈ (runA c t hc0 x0 x1 x2 x3 x4 x5 x6 x7).2.2.2.2.1, y ∈ pc.1.set :=
  View.cover_of_tiledL (runA c t hc0 x0 x1 x2 x3 x4 x5 x6 x7).2.2.2.2.1 S64x128.size (by sl_kernel_rfl) y

def out0_A_12 : Vec F S256x1024 .f32 :=
  VO0_12.read (Elt F) (VO0_12.writes (Elt F) VO0_12.junk (runA c t hc0 x0 x1 x2 x3 x4 x5 x6 x7).2.2.2.2.1)

theorem cover0_A_13 (y : S8x4x1x1.Idx) :
    ∃ pc ∈ (runA c t hc0 x0 x1 x2 x3 x4 x5 x6 x7).2.2.2.2.2.1, y ∈ pc.1.set :=
  View.cover_of_tiledL (runA c t hc0 x0 x1 x2 x3 x4 x5 x6 x7).2.2.2.2.2.1 S8x1x1x1.size (by sl_kernel_rfl) y

def out0_A_13 : Vec F S8x4x1x1 .f32 :=
  VO0_13.read (Elt F) (VO0_13.writes (Elt F) VO0_13.junk (runA c t hc0 x0 x1 x2 x3 x4 x5 x6 x7).2.2.2.2.2.1)

theorem scover0_A_0 (y : S8x128x128.Idx) :
    ∃ pc ∈ (runA c t hc0 x0 x1 x2 x3 x4 x5 x6 x7).2.2.2.2.2.2.1, y ∈ pc.1.set :=
  View.cover_of_tiledL (runA c t hc0 x0 x1 x2 x3 x4 x5 x6 x7).2.2.2.2.2.2.1 S8x128x128.size (by sl_kernel_rfl) y

def sout0_A_0 : Vec F S8x128x128 .f32 :=
  VS0_0.read (Elt F) (VS0_0.writes (Elt F) VS0_0.junk (runA c t hc0 x0 x1 x2 x3 x4 x5 x6 x7).2.2.2.2.2.2.1)

end CaseA

section CaseB

variable (c : Dev nD) (t : Fin cfg1.N) (hc0 : ¬cond0_0 (grid1.coords t))
  (x0 : Vec F S256x1024 .f32) (x1 : Vec F S256x1024 .bf16) (x2 : Vec F S8x256x64 .bf16) (x3 : Vec F S256x1024 .bf16) (x4 : Vec F S256x1024 .bf16) (x5 : Vec F S8x4x1x1 .f32) (x6 : Vec F S8x4x128x128 .f32) (x7 : Vec F S256x1024 .f32) (xs0 : Vec F S8x128x128 .f32)

/-- The body's run at grid point `t` in case B (a later point). -/
abbrev runB :=
  kernelRun0_B c (grid1.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) hc0 x0 x1 x2 x3 x4 x5 x6 x7 xs0

theorem cover0_B_8 (y : S256x1024.Idx) :
    ∃ pc ∈ (runB c t hc0 x0 x1 x2 x3 x4 x5 x6 x7 xs0).1, y ∈ pc.1.set :=
  View.cover_of_tiledL (runB c t hc0 x0 x1 x2 x3 x4 x5 x6 x7 xs0).1 S64x128.size (by sl_kernel_rfl) y

def out0_B_8 : Vec F S256x1024 .f32 :=
  VO0_8.read (Elt F) (VO0_8.writes (Elt F) VO0_8.junk (runB c t hc0 x0 x1 x2 x3 x4 x5 x6 x7 xs0).1)

theorem cover0_B_9 (y : S256x1024.Idx) :
    ∃ pc ∈ (runB c t hc0 x0 x1 x2 x3 x4 x5 x6 x7 xs0).2.1, y ∈ pc.1.set :=
  View.cover_of_tiledL (runB c t hc0 x0 x1 x2 x3 x4 x5 x6 x7 xs0).2.1 S64x128.size (by sl_kernel_rfl) y

def out0_B_9 : Vec F S256x1024 .f32 :=
  VO0_9.read (Elt F) (VO0_9.writes (Elt F) VO0_9.junk (runB c t hc0 x0 x1 x2 x3 x4 x5 x6 x7 xs0).2.1)

theorem cover0_B_10 (y : S8x256x64.Idx) :
    ∃ pc ∈ (runB c t hc0 x0 x1 x2 x3 x4 x5 x6 x7 xs0).2.2.1, y ∈ pc.1.set :=
  View.cover_of_tiledL (runB c t hc0 x0 x1 x2 x3 x4 x5 x6 x7 xs0).2.2.1 S8x64x64.size (by sl_kernel_rfl) y

def out0_B_10 : Vec F S8x256x64 .f32 :=
  VO0_10.read (Elt F) (VO0_10.writes (Elt F) VO0_10.junk (runB c t hc0 x0 x1 x2 x3 x4 x5 x6 x7 xs0).2.2.1)

theorem cover0_B_11 (y : S256x1024.Idx) :
    ∃ pc ∈ (runB c t hc0 x0 x1 x2 x3 x4 x5 x6 x7 xs0).2.2.2.1, y ∈ pc.1.set :=
  View.cover_of_tiledL (runB c t hc0 x0 x1 x2 x3 x4 x5 x6 x7 xs0).2.2.2.1 S64x128.size (by sl_kernel_rfl) y

def out0_B_11 : Vec F S256x1024 .f32 :=
  VO0_11.read (Elt F) (VO0_11.writes (Elt F) VO0_11.junk (runB c t hc0 x0 x1 x2 x3 x4 x5 x6 x7 xs0).2.2.2.1)

theorem cover0_B_12 (y : S256x1024.Idx) :
    ∃ pc ∈ (runB c t hc0 x0 x1 x2 x3 x4 x5 x6 x7 xs0).2.2.2.2.1, y ∈ pc.1.set :=
  View.cover_of_tiledL (runB c t hc0 x0 x1 x2 x3 x4 x5 x6 x7 xs0).2.2.2.2.1 S64x128.size (by sl_kernel_rfl) y

def out0_B_12 : Vec F S256x1024 .f32 :=
  VO0_12.read (Elt F) (VO0_12.writes (Elt F) VO0_12.junk (runB c t hc0 x0 x1 x2 x3 x4 x5 x6 x7 xs0).2.2.2.2.1)

theorem cover0_B_13 (y : S8x4x1x1.Idx) :
    ∃ pc ∈ (runB c t hc0 x0 x1 x2 x3 x4 x5 x6 x7 xs0).2.2.2.2.2.1, y ∈ pc.1.set :=
  View.cover_of_tiledL (runB c t hc0 x0 x1 x2 x3 x4 x5 x6 x7 xs0).2.2.2.2.2.1 S8x1x1x1.size (by sl_kernel_rfl) y

def out0_B_13 : Vec F S8x4x1x1 .f32 :=
  VO0_13.read (Elt F) (VO0_13.writes (Elt F) VO0_13.junk (runB c t hc0 x0 x1 x2 x3 x4 x5 x6 x7 xs0).2.2.2.2.2.1)

theorem scover0_B_0 (y : S8x128x128.Idx) :
    ∃ pc ∈ (runB c t hc0 x0 x1 x2 x3 x4 x5 x6 x7 xs0).2.2.2.2.2.2.1, y ∈ pc.1.set :=
  View.cover_of_tiledL (runB c t hc0 x0 x1 x2 x3 x4 x5 x6 x7 xs0).2.2.2.2.2.2.1 S8x128x128.size (by sl_kernel_rfl) y

def sout0_B_0 : Vec F S8x128x128 .f32 :=
  VS0_0.read (Elt F) (VS0_0.writes (Elt F) VS0_0.junk (runB c t hc0 x0 x1 x2 x3 x4 x5 x6 x7 xs0).2.2.2.2.2.2.1)

end CaseB

/-- What a first grid point leaves. -/
def ptA (c : Dev nD) (t : Fin cfg1.N) (h : cond0_0 (grid1.coords t)) : Vec F S256x1024 .f32 × Vec F S256x1024 .f32 × Vec F S8x256x64 .f32 × Vec F S256x1024 .f32 × Vec F S256x1024 .f32 × Vec F S8x4x1x1 .f32 × Vec F S8x128x128 .f32 :=
  (out0_A_8 c t h (iblk m c 0 t) (iblk m c 1 t) (iblk m c 2 t) (iblk m c 3 t) (iblk m c 4 t) (iblk m c 5 t) (iblk m c 6 t) (iblk m c 7 t), out0_A_9 c t h (iblk m c 0 t) (iblk m c 1 t) (iblk m c 2 t) (iblk m c 3 t) (iblk m c 4 t) (iblk m c 5 t) (iblk m c 6 t) (iblk m c 7 t), out0_A_10 c t h (iblk m c 0 t) (iblk m c 1 t) (iblk m c 2 t) (iblk m c 3 t) (iblk m c 4 t) (iblk m c 5 t) (iblk m c 6 t) (iblk m c 7 t), out0_A_11 c t h (iblk m c 0 t) (iblk m c 1 t) (iblk m c 2 t) (iblk m c 3 t) (iblk m c 4 t) (iblk m c 5 t) (iblk m c 6 t) (iblk m c 7 t), out0_A_12 c t h (iblk m c 0 t) (iblk m c 1 t) (iblk m c 2 t) (iblk m c 3 t) (iblk m c 4 t) (iblk m c 5 t) (iblk m c 6 t) (iblk m c 7 t), out0_A_13 c t h (iblk m c 0 t) (iblk m c 1 t) (iblk m c 2 t) (iblk m c 3 t) (iblk m c 4 t) (iblk m c 5 t) (iblk m c 6 t) (iblk m c 7 t), sout0_A_0 c t h (iblk m c 0 t) (iblk m c 1 t) (iblk m c 2 t) (iblk m c 3 t) (iblk m c 4 t) (iblk m c 5 t) (iblk m c 6 t) (iblk m c 7 t))

/-- What a later grid point leaves, of the scratch `xs0` before it. -/
def ptB (c : Dev nD) (t : Fin cfg1.N) (h : ¬cond0_0 (grid1.coords t)) (xs0 : Vec F S8x128x128 .f32) : Vec F S256x1024 .f32 × Vec F S256x1024 .f32 × Vec F S8x256x64 .f32 × Vec F S256x1024 .f32 × Vec F S256x1024 .f32 × Vec F S8x4x1x1 .f32 × Vec F S8x128x128 .f32 :=
  (out0_B_8 c t h (iblk m c 0 t) (iblk m c 1 t) (iblk m c 2 t) (iblk m c 3 t) (iblk m c 4 t) (iblk m c 5 t) (iblk m c 6 t) (iblk m c 7 t) xs0, out0_B_9 c t h (iblk m c 0 t) (iblk m c 1 t) (iblk m c 2 t) (iblk m c 3 t) (iblk m c 4 t) (iblk m c 5 t) (iblk m c 6 t) (iblk m c 7 t) xs0, out0_B_10 c t h (iblk m c 0 t) (iblk m c 1 t) (iblk m c 2 t) (iblk m c 3 t) (iblk m c 4 t) (iblk m c 5 t) (iblk m c 6 t) (iblk m c 7 t) xs0, out0_B_11 c t h (iblk m c 0 t) (iblk m c 1 t) (iblk m c 2 t) (iblk m c 3 t) (iblk m c 4 t) (iblk m c 5 t) (iblk m c 6 t) (iblk m c 7 t) xs0, out0_B_12 c t h (iblk m c 0 t) (iblk m c 1 t) (iblk m c 2 t) (iblk m c 3 t) (iblk m c 4 t) (iblk m c 5 t) (iblk m c 6 t) (iblk m c 7 t) xs0, out0_B_13 c t h (iblk m c 0 t) (iblk m c 1 t) (iblk m c 2 t) (iblk m c 3 t) (iblk m c 4 t) (iblk m c 5 t) (iblk m c 6 t) (iblk m c 7 t) xs0, sout0_B_0 c t h (iblk m c 0 t) (iblk m c 1 t) (iblk m c 2 t) (iblk m c 3 t) (iblk m c 4 t) (iblk m c 5 t) (iblk m c 6 t) (iblk m c 7 t) xs0)

def outsAt0 (c : Dev nD) : (n : ℕ) → n < cfg1.N → Vec F S256x1024 .f32 × Vec F S256x1024 .f32 × Vec F S8x256x64 .f32 × Vec F S256x1024 .f32 × Vec F S256x1024 .f32 × Vec F S8x4x1x1 .f32 × Vec F S8x128x128 .f32
  | 0, hn => ptA m c ⟨0, hn⟩ ((hcond0_0 ⟨0, hn⟩).mpr (Nat.zero_mod _))
  | n + 1, hn =>
    if h0 : (n + 1) % 32 = 0 then
      ptA m c ⟨n + 1, hn⟩ ((hcond0_0 ⟨n + 1, hn⟩).mpr h0)
    else
      ptB m c ⟨n + 1, hn⟩ (fun h => h0 ((hcond0_0 ⟨n + 1, hn⟩).mp h)) (outsAt0 c n (Nat.lt_of_succ_lt hn)).2.2.2.2.2.2

theorem outsAt0_A (c : Dev nD) (t : Fin cfg1.N) (h0 : t.val % 32 = 0) :
    outsAt0 m c t.val t.isLt = ptA m c t ((hcond0_0 t).mpr h0) := by
  obtain ⟨n, hn⟩ := t
  cases n with
  | zero => exact rfl
  | succ n => exact (dif_pos h0).trans rfl

theorem outsAt0_B (c : Dev nD) (t : Fin cfg1.N) (h0 : ¬t.val % 32 = 0) :
    outsAt0 m c t.val t.isLt = ptB m c t (fun h => h0 ((hcond0_0 t).mp h)) (outsAt0 m c (t.val - 1) (Nat.lt_of_le_of_lt (Nat.sub_le _ _) t.isLt)).2.2.2.2.2.2 := by
  obtain ⟨n, hn⟩ := t
  cases n with
  | zero => exact (by exfalso; (try dsimp only at h0); exact absurd (Nat.zero_mod _) h0)
  | succ n => exact (dif_neg h0).trans rfl

def PhiS (c : Dev nD) : (n : ℕ) → n ≤ cfg1.N → sProp 𝕄
  | 0, _ => Pipeline.ΦA spec1 c
  | n + 1, hn => iprop(iprop(owns c.tc scM0_0 fullShare ((outsAt0 m c n hn).2.2.2.2.2.2)) ∗ Rest c)

theorem PhiS_zero (c : Dev nD) (n : ℕ) (h : n ≤ cfg1.N) (hz : n = 0) : PhiS m c n h = Pipeline.ΦA spec1 c := by
  subst hz; rfl

theorem PhiS_succ (c : Dev nD) (n : ℕ) (hn : n < cfg1.N) :
    PhiS m c (n + 1) hn = iprop(iprop(owns c.tc scM0_0 fullShare ((outsAt0 m c n hn).2.2.2.2.2.2)) ∗ Rest c) := rfl

theorem PhiS_pos (c : Dev nD) (n : ℕ) (h : n ≤ cfg1.N) (hz : n ≠ 0) :
    PhiS m c n h = iprop(iprop(owns c.tc scM0_0 fullShare ((outsAt0 m c (n - 1) (by omega)).2.2.2.2.2.2)) ∗ Rest c) := by
  cases n with
  | zero => exact absurd rfl hz
  | succ n => rfl

def dat0 (c : Dev nD) : Dat τ (Elt F) Unit ℕ (UR sig nD τ) ℕ cfg1 c where
  A w := m c (Pipeline.arrRef spec1 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
    | ⟨11, _⟩ => (outsAt0 m c t.val t.isLt).2.2.2.1
    | ⟨12, _⟩ => (outsAt0 m c t.val t.isLt).2.2.2.2.1
    | ⟨13, _⟩ => (outsAt0 m c t.val t.isLt).2.2.2.2.2.1
  Φ t := PhiS m c t.val (Nat.le_of_lt_succ t.isLt)
  q _ := fullShare
  owed _ := 0

theorem A_eq (c : Dev nD) (w : Fin cfg1.W) : (dat0 m c).A w = m c (Pipeline.arrRef spec1 w) := by
  dsimp only [dat0]

theorem PhiS_castSucc (c : Dev nD) (t : Fin cfg1.N) :
    (dat0 m c).Φ t.castSucc = PhiS m c t.val (Nat.le_of_lt t.isLt) := by
  dsimp only [dat0]; exact Pipeline.Dat.Φ_castSucc (PhiS m c) t

theorem after0_0 (c : Dev nD) (t : Fin cfg1.N) : (dat0 m c).after 0 t = iblk m c 0 t := by dsimp only [dat0]
theorem after0_1 (c : Dev nD) (t : Fin cfg1.N) : (dat0 m c).after 1 t = iblk m c 1 t := by dsimp only [dat0]
theorem after0_2 (c : Dev nD) (t : Fin cfg1.N) : (dat0 m c).after 2 t = iblk m c 2 t := by dsimp only [dat0]
theorem after0_3 (c : Dev nD) (t : Fin cfg1.N) : (dat0 m c).after 3 t = iblk m c 3 t := by dsimp only [dat0]
theorem after0_4 (c : Dev nD) (t : Fin cfg1.N) : (dat0 m c).after 4 t = iblk m c 4 t := by dsimp only [dat0]
theorem after0_5 (c : Dev nD) (t : Fin cfg1.N) : (dat0 m c).after 5 t = iblk m c 5 t := by dsimp only [dat0]
theorem after0_6 (c : Dev nD) (t : Fin cfg1.N) : (dat0 m c).after 6 t = iblk m c 6 t := by dsimp only [dat0]
theorem after0_7 (c : Dev nD) (t : Fin cfg1.N) : (dat0 m c).after 7 t = iblk m c 7 t := by dsimp only [dat0]
theorem after0_8 (c : Dev nD) (t : Fin cfg1.N) : (dat0 m c).after 8 t = (outsAt0 m c t.val t.isLt).1 := by dsimp only [dat0]
theorem after0_9 (c : Dev nD) (t : Fin cfg1.N) : (dat0 m c).after 9 t = (outsAt0 m c t.val t.isLt).2.1 := by dsimp only [dat0]
theorem after0_10 (c : Dev nD) (t : Fin cfg1.N) : (dat0 m c).after 10 t = (outsAt0 m c t.val t.isLt).2.2.1 := by dsimp only [dat0]
theorem after0_11 (c : Dev nD) (t : Fin cfg1.N) : (dat0 m c).after 11 t = (outsAt0 m c t.val t.isLt).2.2.2.1 := by dsimp only [dat0]
theorem after0_12 (c : Dev nD) (t : Fin cfg1.N) : (dat0 m c).after 12 t = (outsAt0 m c t.val t.isLt).2.2.2.2.1 := by dsimp only [dat0]
theorem after0_13 (c : Dev nD) (t : Fin cfg1.N) : (dat0 m c).after 13 t = (outsAt0 m c t.val t.isLt).2.2.2.2.2.1 := by dsimp only [dat0]

theorem before0_0 (c : Dev nD) (t : Fin cfg1.N) (d) : (dat0 m c).before 0 t d = iblk m c 0 t :=
  before0_0_of m (dat0 m c) (A_eq m c 0) (after0_0 m c) t d
theorem before0_1 (c : Dev nD) (t : Fin cfg1.N) (d) : (dat0 m c).before 1 t d = iblk m c 1 t :=
  before0_1_of m (dat0 m c) (A_eq m c 1) (after0_1 m c) t d
theorem before0_2 (c : Dev nD) (t : Fin cfg1.N) (d) : (dat0 m c).before 2 t d = iblk m c 2 t :=
  before0_2_of m (dat0 m c) (A_eq m c 2) (after0_2 m c) t d
theorem before0_3 (c : Dev nD) (t : Fin cfg1.N) (d) : (dat0 m c).before 3 t d = iblk m c 3 t :=
  before0_3_of m (dat0 m c) (A_eq m c 3) (after0_3 m c) t d
theorem before0_4 (c : Dev nD) (t : Fin cfg1.N) (d) : (dat0 m c).before 4 t d = iblk m c 4 t :=
  before0_4_of m (dat0 m c) (A_eq m c 4) (after0_4 m c) t d
theorem before0_5 (c : Dev nD) (t : Fin cfg1.N) (d) : (dat0 m c).before 5 t d = iblk m c 5 t :=
  before0_5_of m (dat0 m c) (A_eq m c 5) (after0_5 m c) t d
theorem before0_6 (c : Dev nD) (t : Fin cfg1.N) (d) : (dat0 m c).before 6 t d = iblk m c 6 t :=
  before0_6_of m (dat0 m c) (A_eq m c 6) (after0_6 m c) t d
theorem before0_7 (c : Dev nD) (t : Fin cfg1.N) (d) : (dat0 m c).before 7 t d = iblk m c 7 t :=
  before0_7_of m (dat0 m c) (A_eq m c 7) (after0_7 m c) t d

def bodyPre (c : Dev nD) (t : Fin cfg1.N) : sProp 𝕄 :=
  iprop((dat0 m c).Φ t.castSucc ∗ (dat0 m c).owesAt () t.castSucc
    ∗ (∃ d, owns c.tc (ms0_0 t) fullShare ((dat0 m c).before 0 t d))
    ∗ (∃ d, owns c.tc (ms0_1 t) fullShare ((dat0 m c).before 1 t d))
    ∗ (∃ d, owns c.tc (ms0_2 t) fullShare ((dat0 m c).before 2 t d))
    ∗ (∃ d, owns c.tc (ms0_3 t) fullShare ((dat0 m c).before 3 t d))
    ∗ (∃ d, owns c.tc (ms0_4 t) fullShare ((dat0 m c).before 4 t d))
    ∗ (∃ d, owns c.tc (ms0_5 t) fullShare ((dat0 m c).before 5 t d))
    ∗ (∃ d, owns c.tc (ms0_6 t) fullShare ((dat0 m c).before 6 t d))
    ∗ (∃ d, owns c.tc (ms0_7 t) fullShare ((dat0 m c).before 7 t d))
    ∗ (∃ d, owns c.tc (ms0_8 t) fullShare ((dat0 m c).before 8 t d))
    ∗ (∃ d, owns c.tc (ms0_9 t) fullShare ((dat0 m c).before 9 t d))
    ∗ (∃ d, owns c.tc (ms0_10 t) fullShare ((dat0 m c).before 10 t d))
    ∗ (∃ d, owns c.tc (ms0_11 t) fullShare ((dat0 m c).before 11 t d))
    ∗ (∃ d, owns c.tc (ms0_12 t) fullShare ((dat0 m c).before 12 t d))
    ∗ (∃ d, owns c.tc (ms0_13 t) fullShare ((dat0 m c).before 13 t d)))

def bodyPost (c : Dev nD) (t : Fin cfg1.N) : sProp 𝕄 :=
  iprop((dat0 m c).Φ t.succ ∗ (dat0 m c).owesAt () t.succ
    ∗ owns c.tc (ms0_0 t) fullShare ((dat0 m c).after 0 t)
    ∗ owns c.tc (ms0_1 t) fullShare ((dat0 m c).after 1 t)
    ∗ owns c.tc (ms0_2 t) fullShare ((dat0 m c).after 2 t)
    ∗ owns c.tc (ms0_3 t) fullShare ((dat0 m c).after 3 t)
    ∗ owns c.tc (ms0_4 t) fullShare ((dat0 m c).after 4 t)
    ∗ owns c.tc (ms0_5 t) fullShare ((dat0 m c).after 5 t)
    ∗ owns c.tc (ms0_6 t) fullShare ((dat0 m c).after 6 t)
    ∗ owns c.tc (ms0_7 t) fullShare ((dat0 m c).after 7 t)
    ∗ owns c.tc (ms0_8 t) fullShare ((dat0 m c).after 8 t)
    ∗ owns c.tc (ms0_9 t) fullShare ((dat0 m c).after 9 t)
    ∗ owns c.tc (ms0_10 t) fullShare ((dat0 m c).after 10 t)
    ∗ owns c.tc (ms0_11 t) fullShare ((dat0 m c).after 11 t)
    ∗ owns c.tc (ms0_12 t) fullShare ((dat0 m c).after 12 t)
    ∗ owns c.tc (ms0_13 t) fullShare ((dat0 m c).after 13 t))

set_option maxHeartbeats 9600000 in
theorem sound_body (c : Dev nD) (t : Fin cfg1.N) :
    bodyPre m c t ⊢ wp frame (wpE (defs₀ (F := F)) Variants.none c none) Set.univ (bodyAt1 t) (fun _ => bodyPost m c t) := by
  unfold bodyPre bodyPost bodyAt1
  simp only [before0_0, before0_1, before0_2, before0_3, before0_4, before0_5, before0_6, before0_7]
  rw [show (dat0 m c).owesAt () t.succ = (dat0 m c).owesAt () t.castSucc from rfl,
    after0_0, after0_1, after0_2, after0_3, after0_4, after0_5, after0_6, after0_7, after0_8, after0_9, after0_10, after0_11, after0_12, after0_13]
  rw [show (dat0 m c).Φ t.succ = PhiS m c (t.val + 1) t.isLt from rfl, PhiS_succ]
  have hN : t.val < 32 := lt_of_lt_of_eq t.isLt (show cfg1.N = 32 from N_1)
  by_cases h0 : t.val % 32 = 0
  · by_cases hz : t.val = 0
    · rw [PhiS_castSucc m c t, PhiS_zero m c _ _ hz, PhiA0_eq]
      rw [outsAt0_A m c t h0, ptA]
      unfold out0_A_8 out0_A_9 out0_A_10 out0_A_11 out0_A_12 out0_A_13 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runA c t ((hcond0_0 t).mpr h0) (iblk m c 0 t) (iblk m c 1 t) (iblk m c 2 t) (iblk m c 3 t) (iblk m c 4 t) (iblk m c 5 t) (iblk m c 6 t) (iblk m c 7 t)).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_A_0 c t _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c t _ _ _ _ _ _ _ _ _)
      isplitl [H9]
      · unfold owns; iexists _; isplitr
        swap; · iexact H9
        ipureintro; exact View.read_writes_of_cover _ _ _ _ _ (cover0_A_9 c t _ _ _ _ _ _ _ _ _)
      isplitl [H10]
      · unfold owns; iexists _; isplitr
        swap; · iexact H10
        ipureintro; exact View.read_writes_of_cover _ _ _ _ _ (cover0_A_10 c t _ _ _ _ _ _ _ _ _)
      isplitl [H11]
      · unfold owns; iexists _; isplitr
        swap; · iexact H11
        ipureintro; exact View.read_writes_of_cover _ _ _ _ _ (cover0_A_11 c t _ _ _ _ _ _ _ _ _)
      isplitl [H12]
      · unfold owns; iexists _; isplitr
        swap; · iexact H12
        ipureintro; exact View.read_writes_of_cover _ _ _ _ _ (cover0_A_12 c t _ _ _ _ _ _ _ _ _)
      unfold owns; iexists _; isplitr
      swap; · iexact H13
      ipureintro; exact View.read_writes_of_cover _ _ _ _ _ (cover0_A_13 c t _ _ _ _ _ _ _ _ _)
    · exfalso; have hN : t.val < 32 := lt_of_lt_of_eq t.isLt (show cfg1.N = 32 from N_1); omega
  · by_cases hz : t.val = 0
    · exfalso; have hN : t.val < 32 := lt_of_lt_of_eq t.isLt (show cfg1.N = 32 from N_1); omega
    · rw [PhiS_castSucc m c t, PhiS_pos m c _ _ hz]
      rw [outsAt0_B m c t h0, ptB]
      unfold out0_B_8 out0_B_9 out0_B_10 out0_B_11 out0_B_12 out0_B_13 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((runB c t (fun h => h0 ((hcond0_0 t).mp h)) (iblk m c 0 t) (iblk m c 1 t) (iblk m c 2 t) (iblk m c 3 t) (iblk m c 4 t) (iblk m c 5 t) (iblk m c 6 t) (iblk m c 7 t) _).2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [H11]; · iexists _; iexact H11
      isplitl [H12]; · iexists _; iexact H12
      isplitl [H13]; · iexists _; iexact H13
      isplitl [HS0]; · iexact HS0
      iintro ⟨H0, H1, H2, H3, H4, H5, H6, H7, ⟨%e8, H8⟩, ⟨%e9, H9⟩, ⟨%e10, H10⟩, ⟨%e11, H11⟩, ⟨%e12, H12⟩, ⟨%e13, H13⟩, ⟨%es0, HS0⟩⟩
      isplitl [HS0 Hg]
      · isplitl [HS0]
        · unfold owns; iexists _; isplitr
          swap; · iexact HS0
          ipureintro; exact View.read_writes_of_cover _ _ _ _ _ (scover0_B_0 c t _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c t _ _ _ _ _ _ _ _ _ _)
      isplitl [H9]
      · unfold owns; iexists _; isplitr
        swap; · iexact H9
        ipureintro; exact View.read_writes_of_cover _ _ _ _ _ (cover0_B_9 c t _ _ _ _ _ _ _ _ _ _)
      isplitl [H10]
      · unfold owns; iexists _; isplitr
        swap; · iexact H10
        ipureintro; exact View.read_writes_of_cover _ _ _ _ _ (cover0_B_10 c t _ _ _ _ _ _ _ _ _ _)
      isplitl [H11]
      · unfold owns; iexists _; isplitr
        swap; · iexact H11
        ipureintro; exact View.read_writes_of_cover _ _ _ _ _ (cover0_B_11 c t _ _ _ _ _ _ _ _ _ _)
      isplitl [H12]
      · unfold owns; iexists _; isplitr
        swap; · iexact H12
        ipureintro; exact View.read_writes_of_cover _ _ _ _ _ (cover0_B_12 c t _ _ _ _ _ _ _ _ _ _)
      unfold owns; iexists _; isplitr
      swap; · iexact H13
      ipureintro; exact View.read_writes_of_cover _ _ _ _ _ (cover0_B_13 c t _ _ _ _ _ _ _ _ _ _)

theorem defs₀_row (t : Fin cfg1.N) :
    defs₀ (F := F) .tc cfg1.body (cfg1.bodyArgs t (cfg1.slots t)) = bodyAt1 t := by
  unfold defs₀; rw [Defs.onTc_tc]

theorem body_obligation (c : Dev nD) : BodyObligation (dat0 (F := F) m c) (defs₀ (F := F)) Variants.none () Set.univ := fun t => by
  rw [bigSep_W1, bigSep_W1, defs₀_row]
  exact triple_restated (sound_body m c t) rfl .rfl fun _ => .rfl

theorem hin (c : Dev nD) : Pipeline.ΦA spec1 c ⊢ (dat0 m c).Φ 0 := by
  rw [show (dat0 m c).Φ 0 = PhiS m c 0 (Nat.zero_le _) from rfl, PhiS_zero m c 0 _ rfl]
  try exact Idealize.SL.BI.Entails.refl _

theorem Phi_out (c : Dev nD) (t : Fin (cfg1.N + 1)) (ht : t.val ≠ 0) : (dat0 m c).Φ t ⊢ Pipeline.ΦA spec1 c := by
  rw [show (dat0 m c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dat0 m c).Φ (Fin.last cfg1.N) ⊢ Pipeline.ΦA spec1 c :=
  Phi_out m c _ (by rw [Fin.val_last]; have : cfg1.N = 32 := N_1; omega)

end Cert.KernelIdeal.Bwd

end
-- ==== Proof.Both.lean ====
/- The forward and the backward region composed: one run of the whole program, with every buffer's final contents. -/
module

public import proofs.«01_k».proof.Proof.FwdBody
public import proofs.«01_k».proof.Proof.BwdBody
public import Idealize.ShloMosaic.Lib.Pipeline.RegionsLoop
public import Idealize.ShloMosaic.Lib.Pipeline.FrameSuffix

@[expose] public section

set_option maxRecDepth 16384

noncomputable section

namespace Cert.KernelIdeal.Both

open Cert.KernelIdeal.Gen
open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6]

/-- The buffers at launch. -/
abbrev W0 : Dev nD → Valuation τ sig (Elt F) := fun c b => (s₀ m ρ).mem ((c : Dev nD), b)
theorem W0_args (c : Dev nD) : ∀ a ∈ argRefs, W0 m ρ c (Proc.devRef .tc a) = m (c.tc.loc a) := fun _ _ => rfl
abbrev V0 : (c : Dev nD) → (b : Ref sig .tc) → Buf (Elt F) ((c : Thread nD τ).loc b) := fun c b => W0 m ρ c b
/-- The buffers after the forward region: its arrays at what the pipeline leaves, the others as launched. -/
def W1 (c : Dev nD) : Valuation τ sig (Elt F) :=
  Pipeline.withArrays spec0 c (W0 m ρ c) fun w => (Fwd.dat0 (V0 m ρ) c).arrAt w cfg0.N
theorem W1_arr (c : Dev nD) (w : Fin cfg0.W) :
    W1 m ρ c (Proc.devRef .tc (Pipeline.arrRef spec0 w)) = (Fwd.dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((Fwd.dat0 (V0 m ρ) c).arrAt_in w (h w rfl) _).trans (Fwd.A_eq (V0 m ρ) c w))
  · exact W1_of_ne m ρ c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m ρ c (Proc.devRef .tc a) = m (c.tc.loc a) :=
  fun a ha => (W1_of m ρ c a (argsIn0 a ha)).trans (W0_args m ρ c a ha)
abbrev V1 : (c : Dev nD) → (b : Ref sig .tc) → Buf (Elt F) ((c : Thread nD τ).loc b) := fun c b => W1 m ρ c b
theorem hF0 (c : Dev nD) (w : Fin cfg0.W) : (Fwd.dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- The buffers after the backward region. -/
def W2 (c : Dev nD) : Valuation τ sig (Elt F) :=
  Pipeline.withArrays spec1 c (W1 m ρ c) fun w => (Bwd.dat0 (V1 m ρ) c).arrAt w cfg1.N
theorem W2_arr (c : Dev nD) (w : Fin cfg1.W) :
    W2 m ρ c (Proc.devRef .tc (Pipeline.arrRef spec1 w)) = (Bwd.dat0 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((Bwd.dat0 (V1 m ρ) c).arrAt_in w (h w rfl) _).trans (Bwd.A_eq (V1 m ρ) c w))
  · exact W2_of_ne m ρ c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m ρ c (Proc.devRef .tc a) = m (c.tc.loc a) :=
  fun a ha => (W2_of m ρ c a (argsIn1 a ha)).trans (W1_args m ρ c a ha)
abbrev V2 : (c : Dev nD) → (b : Ref sig .tc) → Buf (Elt F) ((c : Thread nD τ).loc b) := fun c b => W2 m ρ c b
theorem hF1 (c : Dev nD) (w : Fin cfg1.W) : (Bwd.dat0 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

abbrev adm : (p : Fin 2) → (pcfgs (F := F) p).Adm := fun p => (cfgs p).toPCfg_adm
/-- Both regions' proof data, each at its entry contents. -/
def pdats : (p : Fin 2) → (c : Dev nD) → Dat τ (Elt F) Unit ℕ (UR sig nD τ) ℕ (Pipeline.pin (pcfgs (F := F)) adm p) c
  | ⟨0, _⟩ => fun c => Fwd.dat0 (V0 m ρ) c
  | ⟨1, _⟩ => fun c => Bwd.dat0 (V1 m ρ) c
abbrev 𝒱₀ : Variants := Variants.none
abbrev L : GSem nD τ sig → Finset Unit := fun _ => ∅
abbrev lv : GSem nD τ sig → Unit → ℕ := fun _ _ => 0
/-- What rides beside the buffers: the generator register, and that the core owes nothing. -/
abbrev R (c : Dev nD) : sProp 𝕄 := iprop((∃ r, prngReg c r) ∗ ∃ W, owes c.tc (0 : CellTallies nD τ sig Unit) W)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the buffers and the generator register. -/
abbrev Tₙ (c : Dev nD) : sProp 𝕄 := iprop(StableHlo.held c.tc (Pipeline.ucRefs τ sig) (W2 m ρ c) ∗ ∃ r, prngReg c r)

set_option backward.isDefEq.respectTransparency.types false in
/-- The forward region as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Fwd.body_obligation (V0 m ρ) c).loose
  hwaits := Pipeline.hwaits_of_owed_zero _ _ _ _ L lv 0 fun _ _ => rfl
  pre c := iprop(StableHlo.held c.tc (Pipeline.ucRefs τ sig) (W0 m ρ c) ∗ R c)
  post c := iprop(StableHlo.held c.tc (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (Fwd.A_eq (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    have h : (pdats m ρ 0 c).Φ (Fin.last _) ⊢ Pipeline.ΦA spec0 c := Fwd.hout (V0 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The backward region as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Bwd.body_obligation (V1 m ρ) c).loose
  hwaits := Pipeline.hwaits_of_owed_zero _ _ _ _ L lv 1 fun _ _ => rfl
  pre c := iprop(StableHlo.held c.tc (Pipeline.ucRefs τ sig) (W1 m ρ c) ∗ R c)
  post c := iprop(Tₙ m ρ c ∗ ∃ W, owes c.tc (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (Bwd.A_eq (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (pdats m ρ 1 c).Φ (Fin.last _) ⊢ Pipeline.ΦA spec1 c := Bwd.hout (V1 m ρ) c
    unfold Pipeline.ΦA at h
    iintro H
    ihave H' := h $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide

set_option backward.isDefEq.respectTransparency.types false in
/-- Every run ends with each unscoped buffer at `W2` and every semaphore counter at zero. -/
theorem run : θ_run defs (onTc (τ := τ) (main (F := F))) ⟨m, fun _ => 0, ρ⟩ (fun r =>
      (∀ c : Dev nD, ∀ b ∈ Pipeline.ucRefs τ sig, r.2.mem ((c : Thread nD τ).1, b) = W2 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held c.tc (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held c.tc (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (no_unscoped g.2))⟩)

/-- Each argument ends as launched, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    have e : ∀ a ∈ argRefs, ¬ (Proc.devRef .tc a : DevRef τ sig).isScoped → r.2.mem ((c.tc : Thread nD τ).loc a) = m ((c.tc : Thread nD τ).loc a) :=
      fun a ha hs => (h.1 c _ (mem_uc a hs)).trans (W2_args m ρ c a ha)
    ⟨e main_arg0 (by decide) (by decide), e main_arg1 (by decide) (by decide), e main_arg2 (by decide) (by decide), e main_arg3 (by decide) (by decide), e main_arg4 (by decide) (by decide), e main_arg5 (by decide) (by decide), e main_arg6 (by decide) (by decide)⟩, h.2⟩) (run m ρ)

end Cert.KernelIdeal.Both

end
-- ==== Proof.RefOps.lean ====
/- The reference program cut into stretches of host operations: three stretches of @main around its two loops, and each
   loop body as its stretches, with the equations that join them. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.ReferenceIdeal.Run

open Cert.ReferenceIdeal Cert.ReferenceIdeal.Gen
open Idealize.ShloMosaic Idealize.ShloMosaic.TcCoe
open Idealize.SL.Sem
open StableHlo

variable {F : FTy → Type} [FloatOps F]

/-- A counter's buffer. -/
abbrev I32 : Type := TRef sig ⟨S_, .i32⟩

/-- The operations' type. -/
abbrev Ops (F : FTy → Type) [FloatOps F] : Type := List (HloOp τ sig (Elt F))

/-- The operations read and write buffers of the core alone. -/
abbrev Own (l : Ops F) : Prop := l.Forall fun op => op.bufs ⊆ tcRefs τ sig

/-- The contents of an array of shape `s`. -/
abbrev Arr (F : FTy → Type) [FloatOps F] (s : Shape) (e : EltTy) : Type := (⟨s, e⟩ : BufTy).Contents (Elt F)

abbrev main_part0_ops0 : Ops F :=
  [ unary main_arg1 main_v0 ((extf .f32 · bitsLt_bf16_f32) : Arr F S8192x1024 .bf16 → Arr F S8192x1024 .f32),
    unary main_arg2 main_v1 ((extf .f32 · bitsLt_bf16_f32) : Arr F S8x8192x64 .bf16 → Arr F S8x8192x64 .f32),
    unary main_arg3 main_v2 ((extf .f32 · bitsLt_bf16_f32) : Arr F S8192x1024 .bf16 → Arr F S8192x1024 .f32),
    unary main_arg4 main_v3 ((extf .f32 · bitsLt_bf16_f32) : Arr F S8192x1024 .bf16 → Arr F S8192x1024 .f32),
    reshape main_arg0 main_v4 rfl shapeCasts_S8192x1024_S128x64x8x128,
    unary main_v4 main_v5 ((transpose S128x8x64x128 [0, 2, 1, 3] · transposes_S128x64x8x128_S128x8x64x128_0_2_1_3) : Arr F S128x64x8x128 .f32 → Arr F S128x8x64x128 .f32),
    reshape main_v0 main_v6 rfl shapeCasts_S8192x1024_S128x64x8x128,
    unary main_v6 main_v7 ((transpose S128x8x64x128 [0, 2, 1, 3] · transposes_S128x64x8x128_S128x8x64x128_0_2_1_3) : Arr F S128x64x8x128 .f32 → Arr F S128x8x64x128 .f32),
    reshape main_v2 main_v8 rfl shapeCasts_S8192x1024_S128x64x8x128,
    unary main_v8 main_v9 ((transpose S128x8x64x128 [0, 2, 1, 3] · transposes_S128x64x8x128_S128x8x64x128_0_2_1_3) : Arr F S128x64x8x128 .f32 → Arr F S128x8x64x128 .f32),
    reshape main_v3 main_v10 rfl shapeCasts_S8192x1024_S128x64x8x128,
    unary main_v10 main_v11 ((transpose S128x8x64x128 [0, 2, 1, 3] · transposes_S128x64x8x128_S128x8x64x128_0_2_1_3) : Arr F S128x64x8x128 .f32 → Arr F S128x8x64x128 .f32),
    reshape main_v1 main_v12 rfl shapeCasts_S8x8192x64_S8x128x64x64,
    unary main_v12 main_v13 ((transpose S128x8x64x64 [1, 0, 2, 3] · transposes_S8x128x64x64_S128x8x64x64_1_0_2_3) : Arr F S8x128x64x64 .f32 → Arr F S128x8x64x64 .f32),
    reshape main_arg5 main_v14 rfl shapeCasts_S8x128x1x1_S8x128,
    unary main_v14 main_v15 ((transpose S128x8 [1, 0] · transposes_S8x128_S128x8_1_0) : Arr F S8x128 .f32 → Arr F S128x8 .f32),
    nullary main_cst (constant S_ .f32 0x00000000#32),
    unary main_cst main_v16 (broadcastInDim S8x128x128 ![] bcast_S_S8x128x128 : Arr F S_ .f32 → Arr F S8x128x128 .f32),
    nullary main_cst_0 (constant S_ .f32 0x00000000#32),
    unary main_cst_0 main_v17 (broadcastInDim S128x8x64x128 ![] bcast_S_S128x8x64x128 : Arr F S_ .f32 → Arr F S128x8x64x128 .f32),
    nullary main_cst_1 (constant S_ .f32 0x00000000#32),
    unary main_cst_1 main_v18 (broadcastInDim S128x8x128x128 ![] bcast_S_S128x8x128x128 : Arr F S_ .f32 → Arr F S128x8x128x128 .f32),
    nullary main_cst_2 (constant S_ .f32 0x00000000#32),
    unary main_cst_2 main_v19 (broadcastInDim S128x8x64x128 ![] bcast_S_S128x8x64x128 : Arr F S_ .f32 → Arr F S128x8x64x128 .f32),
    nullary main_cst_3 (constant S_ .f32 0x00000000#32),
    unary main_cst_3 main_v20 (broadcastInDim S128x8 ![] bcast_S_S128x8 : Arr F S_ .f32 → Arr F S128x8 .f32),
    nullary main_cst_4 (constant S_ .f32 0x00000000#32),
    unary main_cst_4 main_v21 (broadcastInDim S128x8x1x1 ![] bcast_S_S128x8x1x1 : Arr F S_ .f32 → Arr F S128x8x1x1 .f32),
    nullary main_c (constantI S_ 32 0#32),
    unary main_v9 main_v22_0 id,
    unary main_v11 main_v22_1 id,
    unary main_v5 main_v22_2 id,
    unary main_v7 main_v22_3 id,
    unary main_v13 main_v22_4 id,
    unary main_v15 main_v22_5 id,
    unary main_c main_v22_6 id,
    unary main_v16 main_v22_7 id,
    unary main_v17 main_v22_8 id,
    unary main_v18 main_v22_9 id,
    unary main_v19 main_v22_10 id,
    unary main_v20 main_v22_11 id,
    unary main_v21 main_v22_12 id ]
theorem main_part0_ops0_sub : Own (main_part0_ops0 : Ops F) :=
  ⟨unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

abbrev main_part0_ops1 : Ops F :=
  [ unary main_v22_8 main_v23 ((transpose S128x64x8x128 [0, 2, 1, 3] · transposes_S128x8x64x128_S128x64x8x128_0_2_1_3) : Arr F S128x8x64x128 .f32 → Arr F S128x64x8x128 .f32),
    reshape main_v23 main_v24 rfl shapeCasts_S128x64x8x128_S8192x1024,
    nullary main_cst_5 (constant S_ .f32 0x00000000#32),
    unary main_cst_5 main_v25 (broadcastInDim S8x128x128 ![] bcast_S_S8x128x128 : Arr F S_ .f32 → Arr F S8x128x128 .f32),
    reshape main_arg6 main_v26 rfl shapeCasts_S8192x1024_S128x64x8x128,
    unary main_v26 main_v27 ((transpose S128x8x64x128 [0, 2, 1, 3] · transposes_S128x64x8x128_S128x8x64x128_0_2_1_3) : Arr F S128x64x8x128 .f32 → Arr F S128x8x64x128 .f32),
    nullary main_cst_6 (constant S_ .f32 0x00000000#32),
    unary main_cst_6 main_v28 (broadcastInDim S8x128x128 ![] bcast_S_S8x128x128 : Arr F S_ .f32 → Arr F S8x128x128 .f32),
    nullary main_cst_7 (constant S_ .f32 0x00000000#32),
    unary main_cst_7 main_v29 (broadcastInDim S128x8x64x128 ![] bcast_S_S128x8x64x128 : Arr F S_ .f32 → Arr F S128x8x64x128 .f32),
    nullary main_cst_8 (constant S_ .f32 0x00000000#32),
    unary main_cst_8 main_v30 (broadcastInDim S128x8x64x128 ![] bcast_S_S128x8x64x128 : Arr F S_ .f32 → Arr F S128x8x64x128 .f32),
    nullary main_cst_9 (constant S_ .f32 0x00000000#32),
    unary main_cst_9 main_v31 (broadcastInDim S128x8x64x128 ![] bcast_S_S128x8x64x128 : Arr F S_ .f32 → Arr F S128x8x64x128 .f32),
    nullary main_cst_10 (constant S_ .f32 0x00000000#32),
    unary main_cst_10 main_v32 (broadcastInDim S128x8x64x128 ![] bcast_S_S128x8x64x128 : Arr F S_ .f32 → Arr F S128x8x64x128 .f32),
    nullary main_cst_11 (constant S_ .f32 0x00000000#32) ]
theorem main_part0_ops1_sub : Own (main_part0_ops1 : Ops F) :=
  ⟨unary_bufs_sub .., reshape_bufs_sub .., nullary_bufs_sub .., unary_bufs_sub .., reshape_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub ..⟩

abbrev main_part1_ops0 : Ops F :=
  [ unary main_cst_11 main_v33 (broadcastInDim S128x8x64x64 ![] bcast_S_S128x8x64x64 : Arr F S_ .f32 → Arr F S128x8x64x64 .f32),
    nullary main_cst_12 (constant S_ .f32 0x00000000#32),
    unary main_cst_12 main_v34 (broadcastInDim S128x8 ![] bcast_S_S128x8 : Arr F S_ .f32 → Arr F S128x8 .f32),
    nullary main_c_13 (constantI S_ 32 0#32),
    unary main_v27 main_v35_0 id,
    unary main_v22_9 main_v35_1 id,
    unary main_v7 main_v35_2 id,
    unary main_v9 main_v35_3 id,
    unary main_v22_10 main_v35_4 id,
    unary main_v13 main_v35_5 id,
    unary main_v22_11 main_v35_6 id,
    unary main_v22_12 main_v35_7 id,
    unary main_v11 main_v35_8 id,
    unary main_c_13 main_v35_9 id,
    unary main_v28 main_v35_10 id,
    unary main_v29 main_v35_11 id,
    unary main_v30 main_v35_12 id,
    unary main_v31 main_v35_13 id,
    unary main_v32 main_v35_14 id,
    unary main_v33 main_v35_15 id,
    unary main_v34 main_v35_16 id ]
theorem main_part1_ops0_sub : Own (main_part1_ops0 : Ops F) :=
  ⟨unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩

abbrev main_part1_ops1 : Ops F :=
  [ unary main_v35_16 main_v36 ((transpose S8x128 [1, 0] · transposes_S128x8_S8x128_1_0) : Arr F S128x8 .f32 → Arr F S8x128 .f32),
    reshape main_v36 main_v37 rfl shapeCasts_S8x128_S8x128x1x1,
    unary main_v35_15 main_v38 ((transpose S8x128x64x64 [1, 0, 2, 3] · transposes_S128x8x64x64_S8x128x64x64_1_0_2_3) : Arr F S128x8x64x64 .f32 → Arr F S8x128x64x64 .f32),
    reshape main_v38 main_v39 rfl shapeCasts_S8x128x64x64_S8x8192x64,
    unary main_v35_12 main_v40 ((transpose S128x64x8x128 [0, 2, 1, 3] · transposes_S128x8x64x128_S128x64x8x128_0_2_1_3) : Arr F S128x8x64x128 .f32 → Arr F S128x64x8x128 .f32),
    reshape main_v40 main_v41 rfl shapeCasts_S128x64x8x128_S8192x1024,
    unary main_v35_11 main_v42 ((transpose S128x64x8x128 [0, 2, 1, 3] · transposes_S128x8x64x128_S128x64x8x128_0_2_1_3) : Arr F S128x8x64x128 .f32 → Arr F S128x64x8x128 .f32),
    reshape main_v42 main_v43 rfl shapeCasts_S128x64x8x128_S8192x1024,
    unary main_v35_14 main_v44 ((transpose S128x64x8x128 [0, 2, 1, 3] · transposes_S128x8x64x128_S128x64x8x128_0_2_1_3) : Arr F S128x8x64x128 .f32 → Arr F S128x64x8x128 .f32),
    reshape main_v44 main_v45 rfl shapeCasts_S128x64x8x128_S8192x1024,
    unary main_v35_13 main_v46 ((transpose S128x64x8x128 [0, 2, 1, 3] · transposes_S128x8x64x128_S128x64x8x128_0_2_1_3) : Arr F S128x8x64x128 .f32 → Arr F S128x64x8x128 .f32),
    reshape main_v46 main_v47 rfl shapeCasts_S128x64x8x128_S8192x1024 ]
theorem main_part1_ops1_sub : Own (main_part1_ops1 : Ops F) :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub ..⟩

abbrev while0Ops0 : Ops F :=
  [ TRef.nullary (.of main_while0b_call0_c : I32) (constantI S_ 32 0#32),
    TRef.nullary (.of main_while0b_call0_c_0 : I32) (constantI S_ 32 0#32),
    TRef.nullary (.of main_while0b_call0_c_1 : I32) (constantI S_ 32 0#32),
    TRef.unaryIndexed (.of main_v22_0 : TRef sig ⟨S128x8x64x128, .f32⟩) ![(.of main_v22_6 : I32), (.of main_while0b_call0_c : I32), (.of main_while0b_call0_c_0 : I32), (.of main_while0b_call0_c_1 : I32)] (.of main_while0b_call0_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call0_v0 : TRef sig ⟨S1x8x64x128, .f32⟩) (.of main_while0b_v48 : TRef sig ⟨S8x64x128, .f32⟩) rfl shapeCasts_S1x8x64x128_S8x64x128 ]
theorem while0Ops0_sub : Own (while0Ops0 : Ops F) :=
  ⟨nullary_bufs_sub .., nullary_bufs_sub .., nullary_bufs_sub .., unaryIndexed_bufs_sub .., reshape_bufs_sub ..⟩

abbrev while0Ops0_1 : Ops F :=
  [ TRef.nullary (.of main_while0b_call1_c : I32) (constantI S_ 32 0#32),
    TRef.nullary (.of main_while0b_call1_c_0 : I32) (constantI S_ 32 0#32),
    TRef.nullary (.of main_while0b_call1_c_1 : I32) (constantI S_ 32 0#32),
    TRef.unaryIndexed (.of main_v22_1 : TRef sig ⟨S128x8x64x128, .f32⟩) ![(.of main_v22_6 : I32), (.of main_while0b_call1_c : I32), (.of main_while0b_call1_c_0 : I32), (.of main_while0b_call1_c_1 : I32)] (.of main_while0b_call1_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call1_v0 : TRef sig ⟨S1x8x64x128, .f32⟩) (.of main_while0b_v49 : TRef sig ⟨S8x64x128, .f32⟩) rfl shapeCasts_S1x8x64x128_S8x64x128 ]
theorem while0Ops0_1_sub : Own (while0Ops0_1 : Ops F) :=
  ⟨nullary_bufs_sub .., nullary_bufs_sub .., nullary_bufs_sub .., unaryIndexed_bufs_sub .., reshape_bufs_sub ..⟩

abbrev while0Ops0_2 : Ops F :=
  [ TRef.nullary (.of main_while0b_call2_c : I32) (constantI S_ 32 0#32),
    TRef.nullary (.of main_while0b_call2_c_0 : I32) (constantI S_ 32 0#32),
    TRef.nullary (.of main_while0b_call2_c_1 : I32) (constantI S_ 32 0#32),
    TRef.unaryIndexed (.of main_v22_2 : TRef sig ⟨S128x8x64x128, .f32⟩) ![(.of main_v22_6 : I32), (.of main_while0b_call2_c : I32), (.of main_while0b_call2_c_0 : I32), (.of main_while0b_call2_c_1 : I32)] (.of main_while0b_call2_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call2_v0 : TRef sig ⟨S1x8x64x128, .f32⟩) (.of main_while0b_v50 : TRef sig ⟨S8x64x128, .f32⟩) rfl shapeCasts_S1x8x64x128_S8x64x128 ]
theorem while0Ops0_2_sub : Own (while0Ops0_2 : Ops F) :=
  ⟨nullary_bufs_sub .., nullary_bufs_sub .., nullary_bufs_sub .., unaryIndexed_bufs_sub .., reshape_bufs_sub ..⟩

abbrev while0Ops0_3 : Ops F :=
  [ TRef.nullary (.of main_while0b_call3_c : I32) (constantI S_ 32 0#32),
    TRef.nullary (.of main_while0b_call3_c_0 : I32) (constantI S_ 32 0#32),
    TRef.nullary (.of main_while0b_call3_c_1 : I32) (constantI S_ 32 0#32),
    TRef.unaryIndexed (.of main_v22_3 : TRef sig ⟨S128x8x64x128, .f32⟩) ![(.of main_v22_6 : I32), (.of main_while0b_call3_c : I32), (.of main_while0b_call3_c_0 : I32), (.of main_while0b_call3_c_1 : I32)] (.of main_while0b_call3_v0 : TRef sig ⟨S1x8x64x128, .f32⟩) (fun x i => Host.dynamicSlice S1x8x64x128 x (fun k => (i k (Shape.Idx.first h_S_)).toInt) sliceFits_S128x8x64x128_S1x8x64x128),
    TRef.reshape (.of main_while0b_call3_v0 : TRef sig ⟨S1x8x64x128, .f32⟩) (.of main_while0b_v51 : TRef sig ⟨S8x64x128, .f32⟩) rfl shapeCasts_S1x8x64x128_S8x64x128 ]
theorem while0Ops0_3_sub : Own (while0Ops0_3 : Ops F) :=
  ⟨nullary_bufs_sub .., nullary_bufs_sub .., nullary_bufs_sub .., unaryIndexed_bufs_sub .., reshape_bufs_sub ..⟩

abbrev while0Ops0_4 : Ops F :=
  [ TRef.nullary (.of main_while0b_call4_c : I32) (constantI S_ 32 0#32),
    TRef.nullary (.of main_while0b_call4_c_0 : I32) (constantI S_ 32 0#32),
    TRef.nullary (.of main_while0b_call4_c_1 : I32) (constantI S_ 32 0#32),
    TRef.unaryIndexed (.of main_v22_4 : TRef sig ⟨S128x8x64x64, .f32⟩) ![(.of main_v22_6 : I32), (.of main_while0b_call4_c : I32), (.of main_while0b_call4_c_0 : I32), (.of main_while0b_call4_c_1 : I32)] (.of main_while0b_call4_v0 : TRef sig ⟨S1x8x64x64, .f32⟩) (fun x i => Host.dynamicSlice S1x8x64x64 x (fun k => (i k (Shape.Idx.first h_S_)).toInt) sliceFits_S128x8x64x64_S1x8x64x64),
    TRef.reshape (.of main_while0b_call4_v0 : TRef sig ⟨S1x8x64x64, .f32⟩) (.of main_while0b_v52 : TRef sig ⟨S8x64x64, .f32⟩) rfl shapeCasts_S1x8x64x64_S8x64x64 ]
theorem while0Ops0_4_sub : Own (while0Ops0_4 : Ops F) :=
  ⟨nullary_bufs_sub .., nullary_bufs_sub .., nullary_bufs_sub .., unaryIndexed_bufs_sub .., reshape_bufs_sub ..⟩

abbrev while0Ops0_5 : Ops F :=
  [ TRef.nullary (.of main_while0b_call5_c : I32) (constantI S_ 32 0#32),
    TRef.unaryIndexed (.of main_v22_5 : TRef sig ⟨S128x8, .f32⟩) ![(.of main_v22_6 : I32), (.of main_while0b_call5_c : I32)] (.of main_while0b_call5_v0 : TRef sig ⟨S1x8, .f32⟩) (fun x i => Host.dynamicSlice S1x8 x (fun k => (i k (Shape.Idx.first h_S_)).toInt) sliceFits_S128x8_S1x8),
    TRef.reshape (.of main_while0b_call5_v0 : TRef sig ⟨S1x8, .f32⟩) (.of main_while0b_v53 : TRef sig ⟨S8, .f32⟩) rfl shapeCasts_S1x8_S8 ]
theorem while0Ops0_5_sub : Own (while0Ops0_5 : Ops F) :=
  ⟨nullary_bufs_sub .., unaryIndexed_bufs_sub .., reshape_bufs_sub ..⟩

abbrev while0Ops0_6 : Ops F :=
  [ binary main_while0b_v51 main_v22_7 main_while0b_v54 ((fun l r => Host.dotGeneral dot_S8x64x128_S8x128x128_S8x64x128_2_1_1_2_0_0 none l r) : Arr F S8x64x128 .f32 → Arr F S8x128x128 .f32 → Arr F S8x64x128 .f32),
    binary main_while0b_v50 main_while0b_v54 main_while0b_v55 (subf : Arr F S8x64x128 .f32 → Arr F S8x64x128 .f32 → Arr F S8x64x128 .f32),
    binary main_while0b_v48 main_v22_7 main_while0b_v56 ((fun l r => Host.dotGeneral dot_S8x64x128_S8x128x128_S8x64x128_2_1_1_2_0_0 none l r) : Arr F S8x64x128 .f32 → Arr F S8x128x128 .f32 → Arr F S8x64x128 .f32),
    binary main_while0b_v52 main_while0b_v55 main_while0b_v57 ((fun l r => Host.dotGeneral dot_S8x64x64_S8x64x128_S8x64x128_2_1_1_2_0_0 none l r) : Arr F S8x64x64 .f32 → Arr F S8x64x128 .f32 → Arr F S8x64x128 .f32),
    binary main_while0b_v56 main_while0b_v57 main_while0b_v58 (addf : Arr F S8x64x128 .f32 → Arr F S8x64x128 .f32 → Arr F S8x64x128 .f32),
    unary main_while0b_v53 main_while0b_v59 (Host.exp : Arr F S8 .f32 → Arr F S8 .f32),
    unary main_while0b_v59 main_while0b_v60 (broadcastInDim S8x1x1 ![0] bcast_S8_S8x1x1_0 : Arr F S8 .f32 → Arr F S8x1x1 .f32),
    unary main_while0b_v60 main_while0b_v61 (broadcastInDim S8x128x128 ![0, 1, 2] bcast_S8x1x1_S8x128x128_0_1_2 : Arr F S8x1x1 .f32 → Arr F S8x128x128 .f32),
    binary main_v22_7 main_while0b_v61 main_while0b_v62 (mulf : Arr F S8x128x128 .f32 → Arr F S8x128x128 .f32 → Arr F S8x128x128 .f32),
    binary main_while0b_v49 main_while0b_v55 main_while0b_v63 ((fun l r => Host.dotGeneral dot_S8x64x128_S8x64x128_S8x128x128_1_1_2_2_0_0 none l r) : Arr F S8x64x128 .f32 → Arr F S8x64x128 .f32 → Arr F S8x128x128 .f32),
    binary main_while0b_v62 main_while0b_v63 main_while0b_v64 (addf : Arr F S8x128x128 .f32 → Arr F S8x128x128 .f32 → Arr F S8x128x128 .f32) ]
theorem while0Ops0_6_sub : Own (while0Ops0_6 : Ops F) :=
  ⟨binary_bufs_sub .., binary_bufs_sub .., binary_bufs_sub .., binary_bufs_sub .., binary_bufs_sub .., unary_bufs_sub .., unary_bufs_sub .., unary_bufs_sub .., binary_bufs_sub .., binary_bufs_sub .., binary_bufs_sub ..⟩

abbrev while0Ops0_7 : Ops F :=
  [ TRef.unary (.of main_while0b_v58 : TRef sig ⟨S8x64x128, .f32⟩) (.of main_while0b_call6_v0 : TRef sig ⟨S1x8x64x128, .f32⟩) (broadcastInDim S1x8x64x128 ![1, 2, 3] bcast_S8x64x128_S1x8x64x128_1_2_3),
    TRef.nullary (.of main_while0b_call6_c : I32) (constantI S_ 32 0#32),
    TRef.nullary (.of main_while0b_call6_c_0 : I32) (constantI S_ 32 0#32),
    TRef.nullary (.of main_while0b_call6_c_1 : I32) (constantI S_ 32 0#32),
    TRef.binaryIndexed (.of main_v22_8 : TRef sig ⟨S128x8x64x128, .f32⟩) (.of main_while0b_call6_v0 : TRef sig ⟨S1x8x64x128, .f32⟩) ![(.of main_v22_6 : I32), (.of main_while0b_call6_c : I32), (.of main_while0b_call6_c_0 : I32), (.of main_while0b_call6_c_1 : I32)] (.of main_while0b_v65 : TRef sig ⟨S128x8x64x128, .f32⟩) (fun x u i => Host.dynamicUpdateSlice x u (fun k => (i k (Shape.Idx.first h_S_)).toInt) updateFits_S128x8x64x128_S1x8x64x128) ]
theorem while0Ops0_7_sub : Own (while0Ops0_7 : Ops F) :=
  ⟨unary_bufs_sub .., nullary_bufs_sub .., nullary_bufs_sub .., nullary_bufs_sub .., binaryIndexed_bufs_sub ..⟩

abbrev while0Ops0_8 : Ops F :=
  [ TRef.unary (.of main_v22_7 : TRef sig ⟨S8x128x128, .f32⟩) (.of main_while0b_call7_v0 : TRef sig ⟨S1x8x128x128, .f32⟩) (broadcastInDim S1x8x128x128 ![1, 2, 3] bcast_S8x128x128_S1x8x128x128_1_2_3),
    TRef.nullary (.of main_while0b_call7_c : I32) (constantI S_ 32 0#32),
    TRef.nullary (.of main_while0b_call7_c_0 : I32) (constantI S_ 32 0#32),
    TRef.nullary (.of main_while0b_call7_c_1 : I32) (constantI S_ 32 0#32),
    TRef.binaryIndexed (.of main_v22_9 : TRef sig ⟨S128x8x128x128, .f32⟩) (.of main_while0b_call7_v0 : TRef sig ⟨S1x8x128x128, .f32⟩) ![(.of main_v22_6 : I32), (.of main_while0b_call7_c : I32), (.of main_while0b_call7_c_0 : I32), (.of main_while0b_call7_c_1 : I32)] (.of main_while0b_v66 : TRef sig ⟨S128x8x128x128, .f32⟩) (fun x u i => Host.dynamicUpdateSlice x u (fun k => (i k (Shape.Idx.first h_S_)).toInt) updateFits_S128x8x128x128_S1x8x128x128) ]
theorem while0Ops0_8_sub : Own (while0Ops0_8 : Ops F) :=
  ⟨unary_bufs_sub .., nullary_bufs_sub .., nullary_bufs_sub .., nullary_bufs_sub .., binaryIndexed_bufs_sub ..⟩

abbrev while0Ops0_9 : Ops F :=
  [ TRef.unary (.of main_while0b_v55 : TRef sig ⟨S8x64x128, .f32⟩) (.of main_while0b_call8_v0 : TRef sig ⟨S1x8x64x128, .f32⟩) (broadcastInDim S1x8x64x128 ![1, 2, 3] bcast_S8x64x128_S1x8x64x128_1_2_3),
    TRef.nullary (.of main_while0b_call8_c : I32) (constantI S_ 32 0#32),
    TRef.nullary (.of main_while0b_call8_c_0 : I32) (constantI S_ 32 0#32),
    TRef.nullary (.of main_while0b_call8_c_1 : I32) (constantI S_ 32 0#32),
    TRef.binaryIndexed (.of main_v22_10 : TRef sig ⟨S128x8x64x128, .f32⟩) (.of main_while0b_call8_v0 : TRef sig ⟨S1x8x64x128, .f32⟩) ![(.of main_v22_6 : I32), (.of main_while0b_call8_c : I32), (.of main_while0b_call8_c_0 : I32), (.of main_while0b_call8_c_1 : I32)] (.of main_while0b_v67 : TRef sig ⟨S128x8x64x128, .f32⟩) (fun x u i => Host.dynamicUpdateSlice x u (fun k => (i k (Shape.Idx.first h_S_)).toInt) updateFits_S128x8x64x128_S1x8x64x128) ]
theorem while0Ops0_9_sub : Own (while0Ops0_9 : Ops F) :=
  ⟨unary_bufs_sub .., nullary_bufs_sub .., nullary_bufs_sub .., nullary_bufs_sub .., binaryIndexed_bufs_sub ..⟩

abbrev while0Ops0_10 : Ops F :=
  [ TRef.unary (.of main_while0b_v59 : TRef sig ⟨S8, .f32⟩) (.of main_while0b_call9_v0 : TRef sig ⟨S1x8, .f32⟩) (broadcastInDim S1x8 ![1] bcast_S8_S1x8_1),
    TRef.nullary (.of main_while0b_call9_c : I32) (constantI S_ 32 0#32),
    TRef.binaryIndexed (.of main_v22_11 : TRef sig ⟨S128x8, .f32⟩) (.of main_while0b_call9_v0 : TRef sig ⟨S1x8, .f32⟩) ![(.of main_v22_6 : I32), (.of main_while0b_call9_c : I32)] (.of main_while0b_v68 : TRef sig ⟨S128x8, .f32⟩) (fun x u i => Host.dynamicUpdateSlice x u (fun k => (i k (Shape.Idx.first h_S_)).toInt) updateFits_S128x8_S1x8) ]
theorem while0Ops0_10_sub : Own (while0Ops0_10 : Ops F) :=
  ⟨unary_bufs_sub .., nullary_bufs_sub .., binaryIndexed_bufs_sub ..⟩

abbrev while0Ops0_11 : Ops F :=
  [ TRef.unary (.of main_while0b_v60 : TRef sig ⟨S8x1x1, .f32⟩) (.of main_while0b_call10_v0 : TRef sig ⟨S1x8x1x1, .f32⟩) (broadcastInDim S1x8x1x1 ![1, 2, 3] bcast_S8x1x1_S1x8x1x1_1_2_3),
    TRef.nullary (.of main_while0b_call10_c : I32) (constantI S_ 32 0#32),
    TRef.nullary (.of main_while0b_call10_c_0 : I32) (constantI S_ 32 0#32),
    TRef.nullary (.of main_while0b_call10_c_1 : I32) (constantI S_ 32 0#32),
    TRef.binaryIndexed (.of main_v22_12 : TRef sig ⟨S128x8x1x1, .f32⟩) (.of main_while0b_call10_v0 : TRef sig ⟨S1x8x1x1, .f32⟩) ![(.of main_v22_6 : I32), (.of main_while0b_call10_c : I32), (.of main_while0b_call10_c_0 : I32), (.of main_while0b_call10_c_1 : I32)] (.of main_while0b_v69 : TRef sig ⟨S128x8x1x1, .f32⟩) (fun x u i => Host.dynamicUpdateSlice x u (fun k => (i k (Shape.Idx.first h_S_)).toInt) updateFits_S128x8x1x1_S1x8x1x1) ]
theorem while0Ops0_11_sub : Own (while0Ops0_11 : Ops F) :=
  ⟨unary_bufs_sub .., nullary_bufs_sub .., nullary_bufs_sub .., nullary_bufs_sub .., binaryIndexed_bufs_sub ..⟩

abbrev while0Ops0_12 : Ops F :=
  [ nullary main_while0b_c_26 (constantI S_ 32 1#32),
    binary main_v22_6 main_while0b_c_26 main_while0b_v70 (addi : Arr F S_ .i32 → Arr F S_ .i32 → Arr F S_ .i32),
    unary main_while0b_v70 main_v22_6 id,
    unary main_while0b_v64 main_v22_7 id,
    unary main_while0b_v65 main_v22_8 id,
    unary main_while0b_v66 main_v22_9 id,
    unary main_while0b_v67 main_v22_10 id,
    unary main_while0b_v68 main_v22_11 id,
    unary main_while0b_v69 main_v22_12 id ]
theorem while0Ops0_12_sub : Own (while0Ops0_12 : Ops F) :=
  ⟨nullary_bufs_sub .., binary_bufs_sub .., unary_bufs_sub .., unary_bufs_sub .., unary_bufs_sub .., unary_bufs_sub .., unary_bufs_sub .., unary_bufs_sub .., unary_bufs_sub ..⟩

abbrev while1Ops0 : Ops F :=
  [ nullary main_while1b_c_30 (constantI S_ 32 128#32),
    binary main_while1b_c_30 main_v35_9 main_while1b_v48 (subi : Arr F S_ .i32 → Arr F S_ .i32 → Arr F S_ .i32),
    nullary main_while1b_c_31 (constantI S_ 32 1#32),
    binary main_while1b_v48 main_while1b_c_31 main_while1b_v49 (subi : Arr F S_ .i32 → Arr F S_ .i32 → Arr F S_ .i32) ]
theorem while1Ops0_sub : Own (while1Ops0 : Ops F) :=
  ⟨nullary_bufs_sub .., binary_bufs_sub .., nullary_bufs_sub .., binary_bufs_sub ..⟩

abbrev while1Ops0_1 : Ops F :=
  [ TRef.nullary (.of main_while1b_call11_c : I32) (constantI S_ 32 0#32),
    TRef.nullary (.of main_while1b_call11_c_0 : I32) (constantI S_ 32 0#32),
    TRef.nullary (.of main_while1b_call11_c_1 : I32) (constantI S_ 32 0#32),
    TRef.unaryIndexed (.of main_v35_0 : TRef sig ⟨S128x8x64x128, .f32⟩) ![(.of main_while1b_v49 : I32), (.of main_while1b_call11_c : I32), (.of main_while1b_call11_c_0 : I32), (.of main_while1b_call11_c_1 : I32)] (.of main_while1b_call11_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call11_v0 : TRef sig ⟨S1x8x64x128, .f32⟩) (.of main_while1b_v50 : TRef sig ⟨S8x64x128, .f32⟩) rfl shapeCasts_S1x8x64x128_S8x64x128 ]
theorem while1Ops0_1_sub : Own (while1Ops0_1 : Ops F) :=
  ⟨nullary_bufs_sub .., nullary_bufs_sub .., nullary_bufs_sub .., unaryIndexed_bufs_sub .., reshape_bufs_sub ..⟩

abbrev while1Ops0_2 : Ops F :=
  [ TRef.nullary (.of main_while1b_call12_c : I32) (constantI S_ 32 0#32),
    TRef.nullary (.of main_while1b_call12_c_0 : I32) (constantI S_ 32 0#32),
    TRef.nullary (.of main_while1b_call12_c_1 : I32) (constantI S_ 32 0#32),
    TRef.unaryIndexed (.of main_v35_1 : TRef sig ⟨S128x8x128x128, .f32⟩) ![(.of main_while1b_v49 : I32), (.of main_while1b_call12_c : I32), (.of main_while1b_call12_c_0 : I32), (.of main_while1b_call12_c_1 : I32)] (.of main_while1b_call12_v0 : TRef sig ⟨S1x8x128x128, .f32⟩) (fun x i => Host.dynamicSlice S1x8x128x128 x (fun k => (i k (Shape.Idx.first h_S_)).toInt) sliceFits_S128x8x128x128_S1x8x128x128),
    TRef.reshape (.of main_while1b_call12_v0 : TRef sig ⟨S1x8x128x128, .f32⟩) (.of main_while1b_v51 : TRef sig ⟨S8x128x128, .f32⟩) rfl shapeCasts_S1x8x128x128_S8x128x128 ]
theorem while1Ops0_2_sub : Own (while1Ops0_2 : Ops F) :=
  ⟨nullary_bufs_sub .., nullary_bufs_sub .., nullary_bufs_sub .., unaryIndexed_bufs_sub .., reshape_bufs_sub ..⟩

abbrev while1Ops0_3 : Ops F :=
  [ TRef.nullary (.of main_while1b_call13_c : I32) (constantI S_ 32 0#32),
    TRef.nullary (.of main_while1b_call13_c_0 : I32) (constantI S_ 32 0#32),
    TRef.nullary (.of main_while1b_call13_c_1 : I32) (constantI S_ 32 0#32),
    TRef.unaryIndexed (.of main_v35_2 : TRef sig ⟨S128x8x64x128, .f32⟩) ![(.of main_while1b_v49 : I32), (.of main_while1b_call13_c : I32), (.of main_while1b_call13_c_0 : I32), (.of main_while1b_call13_c_1 : I32)] (.of main_while1b_call13_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call13_v0 : TRef sig ⟨S1x8x64x128, .f32⟩) (.of main_while1b_v52 : TRef sig ⟨S8x64x128, .f32⟩) rfl shapeCasts_S1x8x64x128_S8x64x128 ]
theorem while1Ops0_3_sub : Own (while1Ops0_3 : Ops F) :=
  ⟨nullary_bufs_sub .., nullary_bufs_sub .., nullary_bufs_sub .., unaryIndexed_bufs_sub .., reshape_bufs_sub ..⟩

abbrev while1Ops0_4 : Ops F :=
  [ TRef.nullary (.of main_while1b_call14_c : I32) (constantI S_ 32 0#32),
    TRef.nullary (.of main_while1b_call14_c_0 : I32) (constantI S_ 32 0#32),
    TRef.nullary (.of main_while1b_call14_c_1 : I32) (constantI S_ 32 0#32),
    TRef.unaryIndexed (.of main_v35_3 : TRef sig ⟨S128x8x64x128, .f32⟩) ![(.of main_while1b_v49 : I32), (.of main_while1b_call14_c : I32), (.of main_while1b_call14_c_0 : I32), (.of main_while1b_call14_c_1 : I32)] (.of main_while1b_call14_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call14_v0 : TRef sig ⟨S1x8x64x128, .f32⟩) (.of main_while1b_v53 : TRef sig ⟨S8x64x128, .f32⟩) rfl shapeCasts_S1x8x64x128_S8x64x128 ]
theorem while1Ops0_4_sub : Own (while1Ops0_4 : Ops F) :=
  ⟨nullary_bufs_sub .., nullary_bufs_sub .., nullary_bufs_sub .., unaryIndexed_bufs_sub .., reshape_bufs_sub ..⟩

abbrev while1Ops0_5 : Ops F :=
  [ TRef.nullary (.of main_while1b_call15_c : I32) (constantI S_ 32 0#32),
    TRef.nullary (.of main_while1b_call15_c_0 : I32) (constantI S_ 32 0#32),
    TRef.nullary (.of main_while1b_call15_c_1 : I32) (constantI S_ 32 0#32),
    TRef.unaryIndexed (.of main_v35_4 : TRef sig ⟨S128x8x64x128, .f32⟩) ![(.of main_while1b_v49 : I32), (.of main_while1b_call15_c : I32), (.of main_while1b_call15_c_0 : I32), (.of main_while1b_call15_c_1 : I32)] (.of main_while1b_call15_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call15_v0 : TRef sig ⟨S1x8x64x128, .f32⟩) (.of main_while1b_v54 : TRef sig ⟨S8x64x128, .f32⟩) rfl shapeCasts_S1x8x64x128_S8x64x128 ]
theorem while1Ops0_5_sub : Own (while1Ops0_5 : Ops F) :=
  ⟨nullary_bufs_sub .., nullary_bufs_sub .., nullary_bufs_sub .., unaryIndexed_bufs_sub .., reshape_bufs_sub ..⟩

abbrev while1Ops0_6 : Ops F :=
  [ TRef.nullary (.of main_while1b_call16_c : I32) (constantI S_ 32 0#32),
    TRef.nullary (.of main_while1b_call16_c_0 : I32) (constantI S_ 32 0#32),
    TRef.nullary (.of main_while1b_call16_c_1 : I32) (constantI S_ 32 0#32),
    TRef.unaryIndexed (.of main_v35_5 : TRef sig ⟨S128x8x64x64, .f32⟩) ![(.of main_while1b_v49 : I32), (.of main_while1b_call16_c : I32), (.of main_while1b_call16_c_0 : I32), (.of main_while1b_call16_c_1 : I32)] (.of main_while1b_call16_v0 : TRef sig ⟨S1x8x64x64, .f32⟩) (fun x i => Host.dynamicSlice S1x8x64x64 x (fun k => (i k (Shape.Idx.first h_S_)).toInt) sliceFits_S128x8x64x64_S1x8x64x64),
    TRef.reshape (.of main_while1b_call16_v0 : TRef sig ⟨S1x8x64x64, .f32⟩) (.of main_while1b_v55 : TRef sig ⟨S8x64x64, .f32⟩) rfl shapeCasts_S1x8x64x64_S8x64x64 ]
theorem while1Ops0_6_sub : Own (while1Ops0_6 : Ops F) :=
  ⟨nullary_bufs_sub .., nullary_bufs_sub .., nullary_bufs_sub .., unaryIndexed_bufs_sub .., reshape_bufs_sub ..⟩

abbrev while1Ops0_7 : Ops F :=
  [ TRef.nullary (.of main_while1b_call17_c : I32) (constantI S_ 32 0#32),
    TRef.unaryIndexed (.of main_v35_6 : TRef sig ⟨S128x8, .f32⟩) ![(.of main_while1b_v49 : I32), (.of main_while1b_call17_c : I32)] (.of main_while1b_call17_v0 : TRef sig ⟨S1x8, .f32⟩) (fun x i => Host.dynamicSlice S1x8 x (fun k => (i k (Shape.Idx.first h_S_)).toInt) sliceFits_S128x8_S1x8),
    TRef.reshape (.of main_while1b_call17_v0 : TRef sig ⟨S1x8, .f32⟩) (.of main_while1b_v56 : TRef sig ⟨S8, .f32⟩) rfl shapeCasts_S1x8_S8 ]
theorem while1Ops0_7_sub : Own (while1Ops0_7 : Ops F) :=
  ⟨nullary_bufs_sub .., unaryIndexed_bufs_sub .., reshape_bufs_sub ..⟩

abbrev while1Ops0_8 : Ops F :=
  [ TRef.nullary (.of main_while1b_call18_c : I32) (constantI S_ 32 0#32),
    TRef.nullary (.of main_while1b_call18_c_0 : I32) (constantI S_ 32 0#32),
    TRef.nullary (.of main_while1b_call18_c_1 : I32) (constantI S_ 32 0#32),
    TRef.unaryIndexed (.of main_v35_7 : TRef sig ⟨S128x8x1x1, .f32⟩) ![(.of main_while1b_v49 : I32), (.of main_while1b_call18_c : I32), (.of main_while1b_call18_c_0 : I32), (.of main_while1b_call18_c_1 : I32)] (.of main_while1b_call18_v0 : TRef sig ⟨S1x8x1x1, .f32⟩) (fun x i => Host.dynamicSlice S1x8x1x1 x (fun k => (i k (Shape.Idx.first h_S_)).toInt) sliceFits_S128x8x1x1_S1x8x1x1),
    TRef.reshape (.of main_while1b_call18_v0 : TRef sig ⟨S1x8x1x1, .f32⟩) (.of main_while1b_v57 : TRef sig ⟨S8x1x1, .f32⟩) rfl shapeCasts_S1x8x1x1_S8x1x1 ]
theorem while1Ops0_8_sub : Own (while1Ops0_8 : Ops F) :=
  ⟨nullary_bufs_sub .., nullary_bufs_sub .., nullary_bufs_sub .., unaryIndexed_bufs_sub .., reshape_bufs_sub ..⟩

abbrev while1Ops0_9 : Ops F :=
  [ TRef.nullary (.of main_while1b_call19_c : I32) (constantI S_ 32 0#32),
    TRef.nullary (.of main_while1b_call19_c_0 : I32) (constantI S_ 32 0#32),
    TRef.nullary (.of main_while1b_call19_c_1 : I32) (constantI S_ 32 0#32),
    TRef.unaryIndexed (.of main_v35_8 : TRef sig ⟨S128x8x64x128, .f32⟩) ![(.of main_while1b_v49 : I32), (.of main_while1b_call19_c : I32), (.of main_while1b_call19_c_0 : I32), (.of main_while1b_call19_c_1 : I32)] (.of main_while1b_call19_v0 : TRef sig ⟨S1x8x64x128, .f32⟩) (fun x i => Host.dynamicSlice S1x8x64x128 x (fun k => (i k (Shape.Idx.first h_S_)).toInt) sliceFits_S128x8x64x128_S1x8x64x128),
    TRef.reshape (.of main_while1b_call19_v0 : TRef sig ⟨S1x8x64x128, .f32⟩) (.of main_while1b_v58 : TRef sig ⟨S8x64x128, .f32⟩) rfl shapeCasts_S1x8x64x128_S8x64x128 ]
theorem while1Ops0_9_sub : Own (while1Ops0_9 : Ops F) :=
  ⟨nullary_bufs_sub .., nullary_bufs_sub .., nullary_bufs_sub .., unaryIndexed_bufs_sub .., reshape_bufs_sub ..⟩

abbrev while1Ops0_10 : Ops F :=
  [ binary main_v35_10 main_while1b_v58 main_while1b_v59 ((fun l r => Host.dotGeneral dot_S8x128x128_S8x64x128_S8x128x64_1_2_2_1_0_0 none l r) : Arr F S8x128x128 .f32 → Arr F S8x64x128 .f32 → Arr F S8x128x64 .f32),
    unary main_while1b_v59 main_while1b_v60 ((transpose S8x64x128 [0, 2, 1] · transposes_S8x128x64_S8x64x128_0_2_1) : Arr F S8x128x64 .f32 → Arr F S8x64x128 .f32),
    binary main_v35_10 main_while1b_v54 main_while1b_v61 ((fun l r => Host.dotGeneral dot_S8x128x128_S8x64x128_S8x128x64_2_2_1_1_0_0 none l r) : Arr F S8x128x128 .f32 → Arr F S8x64x128 .f32 → Arr F S8x128x64 .f32),
    unary main_while1b_v61 main_while1b_v62 ((transpose S8x64x128 [0, 2, 1] · transposes_S8x128x64_S8x64x128_0_2_1) : Arr F S8x128x64 .f32 → Arr F S8x64x128 .f32),
    binary main_while1b_v51 main_v35_10 main_while1b_v63 (mulf : Arr F S8x128x128 .f32 → Arr F S8x128x128 .f32 → Arr F S8x128x128 .f32),
    nullary main_while1b_cst_32 (constant S_ .f32 0x00000000#32),
    binary main_while1b_v63 main_while1b_cst_32 main_while1b_v64 ((fun x v => Host.reduceAdd x v reducesTo_S8x128x128_S8_d1_2 h_S_) : Arr F S8x128x128 .f32 → Arr F S_ .f32 → Arr F S8 .f32),
    reshape main_while1b_v64 main_while1b_v65 rfl shapeCasts_S8_S8x1x1,
    unary main_while1b_v57 main_while1b_v66 (broadcastInDim S8x128x128 ![0, 1, 2] bcast_S8x1x1_S8x128x128_0_1_2 : Arr F S8x1x1 .f32 → Arr F S8x128x128 .f32),
    binary main_v35_10 main_while1b_v66 main_while1b_v67 (mulf : Arr F S8x128x128 .f32 → Arr F S8x128x128 .f32 → Arr F S8x128x128 .f32),
    nullary main_while1b_cst_33 (constant S_ .f32 0x00000000#32),
    binary main_while1b_v65 main_while1b_cst_33 main_while1b_v68 ((fun x v => Host.reduceAdd x v reducesTo_S8x1x1_S8_d1_2 h_S_) : Arr F S8x1x1 .f32 → Arr F S_ .f32 → Arr F S8 .f32),
    binary main_while1b_v68 main_while1b_v56 main_while1b_v69 (mulf : Arr F S8 .f32 → Arr F S8 .f32 → Arr F S8 .f32),
    binary main_while1b_v50 main_while1b_v55 main_while1b_v70 ((fun l r => Host.dotGeneral dot_S8x64x128_S8x64x64_S8x128x64_1_1_2_2_0_0 none l r) : Arr F S8x64x128 .f32 → Arr F S8x64x64 .f32 → Arr F S8x128x64 .f32),
    unary main_while1b_v70 main_while1b_v71 ((transpose S8x64x128 [0, 2, 1] · transposes_S8x128x64_S8x64x128_0_2_1) : Arr F S8x128x64 .f32 → Arr F S8x64x128 .f32),
    binary main_while1b_v60 main_while1b_v71 main_while1b_v72 (addf : Arr F S8x64x128 .f32 → Arr F S8x64x128 .f32 → Arr F S8x64x128 .f32),
    binary main_while1b_v50 main_while1b_v54 main_while1b_v73 ((fun l r => Host.dotGeneral dot_S8x64x128_S8x64x128_S8x64x64_2_2_1_1_0_0 none l r) : Arr F S8x64x128 .f32 → Arr F S8x64x128 .f32 → Arr F S8x64x64 .f32),
    binary main_while1b_v50 main_while1b_v53 main_while1b_v74 ((fun l r => Host.dotGeneral dot_S8x64x128_S8x64x128_S8x128x128_1_1_2_2_0_0 none l r) : Arr F S8x64x128 .f32 → Arr F S8x64x128 .f32 → Arr F S8x128x128 .f32),
    unary main_while1b_v74 main_while1b_v75 ((transpose S8x128x128 [0, 2, 1] · transposes_S8x128x128_S8x128x128_0_2_1) : Arr F S8x128x128 .f32 → Arr F S8x128x128 .f32),
    binary main_while1b_v67 main_while1b_v75 main_while1b_v76 (addf : Arr F S8x128x128 .f32 → Arr F S8x128x128 .f32 → Arr F S8x128x128 .f32),
    binary main_while1b_v50 main_while1b_v51 main_while1b_v77 ((fun l r => Host.dotGeneral dot_S8x64x128_S8x128x128_S8x64x128_2_2_1_1_0_0 none l r) : Arr F S8x64x128 .f32 → Arr F S8x128x128 .f32 → Arr F S8x64x128 .f32),
    unary main_while1b_v72 main_while1b_v78 (Host.negf : Arr F S8x64x128 .f32 → Arr F S8x64x128 .f32),
    binary main_while1b_v78 main_while1b_v52 main_while1b_v79 ((fun l r => Host.dotGeneral dot_S8x64x128_S8x64x128_S8x128x128_1_1_2_2_0_0 none l r) : Arr F S8x64x128 .f32 → Arr F S8x64x128 .f32 → Arr F S8x128x128 .f32),
    unary main_while1b_v79 main_while1b_v80 ((transpose S8x128x128 [0, 2, 1] · transposes_S8x128x128_S8x128x128_0_2_1) : Arr F S8x128x128 .f32 → Arr F S8x128x128 .f32),
    binary main_while1b_v76 main_while1b_v80 main_while1b_v81 (addf : Arr F S8x128x128 .f32 → Arr F S8x128x128 .f32 → Arr F S8x128x128 .f32),
    binary main_while1b_v78 main_while1b_v51 main_while1b_v82 ((fun l r => Host.dotGeneral dot_S8x64x128_S8x128x128_S8x64x128_2_2_1_1_0_0 none l r) : Arr F S8x64x128 .f32 → Arr F S8x128x128 .f32 → Arr F S8x64x128 .f32) ]
theorem while1Ops0_10_sub : Own (while1Ops0_10 : Ops F) :=
  ⟨binary_bufs_sub .., unary_bufs_sub .., binary_bufs_sub .., unary_bufs_sub .., binary_bufs_sub .., nullary_bufs_sub .., binary_bufs_sub .., reshape_bufs_sub .., unary_bufs_sub .., binary_bufs_sub .., nullary_bufs_sub .., binary_bufs_sub .., binary_bufs_sub .., binary_bufs_sub .., unary_bufs_sub .., binary_bufs_sub .., binary_bufs_sub .., binary_bufs_sub .., unary_bufs_sub .., binary_bufs_sub .., binary_bufs_sub .., unary_bufs_sub .., binary_bufs_sub .., unary_bufs_sub .., binary_bufs_sub .., binary_bufs_sub ..⟩

abbrev while1Ops0_11 : Ops F :=
  [ TRef.unary (.of main_while1b_v77 : TRef sig ⟨S8x64x128, .f32⟩) (.of main_while1b_call20_v0 : TRef sig ⟨S1x8x64x128, .f32⟩) (broadcastInDim S1x8x64x128 ![1, 2, 3] bcast_S8x64x128_S1x8x64x128_1_2_3),
    TRef.nullary (.of main_while1b_call20_c : I32) (constantI S_ 32 0#32),
    TRef.nullary (.of main_while1b_call20_c_0 : I32) (constantI S_ 32 0#32),
    TRef.nullary (.of main_while1b_call20_c_1 : I32) (constantI S_ 32 0#32),
    TRef.binaryIndexed (.of main_v35_11 : TRef sig ⟨S128x8x64x128, .f32⟩) (.of main_while1b_call20_v0 : TRef sig ⟨S1x8x64x128, .f32⟩) ![(.of main_while1b_v49 : I32), (.of main_while1b_call20_c : I32), (.of main_while1b_call20_c_0 : I32), (.of main_while1b_call20_c_1 : I32)] (.of main_while1b_v83 : TRef sig ⟨S128x8x64x128, .f32⟩) (fun x u i => Host.dynamicUpdateSlice x u (fun k => (i k (Shape.Idx.first h_S_)).toInt) updateFits_S128x8x64x128_S1x8x64x128) ]
theorem while1Ops0_11_sub : Own (while1Ops0_11 : Ops F) :=
  ⟨unary_bufs_sub .., nullary_bufs_sub .., nullary_bufs_sub .., nullary_bufs_sub .., binaryIndexed_bufs_sub ..⟩

abbrev while1Ops0_12 : Ops F :=
  [ TRef.unary (.of main_while1b_v62 : TRef sig ⟨S8x64x128, .f32⟩) (.of main_while1b_call21_v0 : TRef sig ⟨S1x8x64x128, .f32⟩) (broadcastInDim S1x8x64x128 ![1, 2, 3] bcast_S8x64x128_S1x8x64x128_1_2_3),
    TRef.nullary (.of main_while1b_call21_c : I32) (constantI S_ 32 0#32),
    TRef.nullary (.of main_while1b_call21_c_0 : I32) (constantI S_ 32 0#32),
    TRef.nullary (.of main_while1b_call21_c_1 : I32) (constantI S_ 32 0#32),
    TRef.binaryIndexed (.of main_v35_12 : TRef sig ⟨S128x8x64x128, .f32⟩) (.of main_while1b_call21_v0 : TRef sig ⟨S1x8x64x128, .f32⟩) ![(.of main_while1b_v49 : I32), (.of main_while1b_call21_c : I32), (.of main_while1b_call21_c_0 : I32), (.of main_while1b_call21_c_1 : I32)] (.of main_while1b_v84 : TRef sig ⟨S128x8x64x128, .f32⟩) (fun x u i => Host.dynamicUpdateSlice x u (fun k => (i k (Shape.Idx.first h_S_)).toInt) updateFits_S128x8x64x128_S1x8x64x128) ]
theorem while1Ops0_12_sub : Own (while1Ops0_12 : Ops F) :=
  ⟨unary_bufs_sub .., nullary_bufs_sub .., nullary_bufs_sub .., nullary_bufs_sub .., binaryIndexed_bufs_sub ..⟩

abbrev while1Ops0_13 : Ops F :=
  [ TRef.unary (.of main_while1b_v72 : TRef sig ⟨S8x64x128, .f32⟩) (.of main_while1b_call22_v0 : TRef sig ⟨S1x8x64x128, .f32⟩) (broadcastInDim S1x8x64x128 ![1, 2, 3] bcast_S8x64x128_S1x8x64x128_1_2_3),
    TRef.nullary (.of main_while1b_call22_c : I32) (constantI S_ 32 0#32),
    TRef.nullary (.of main_while1b_call22_c_0 : I32) (constantI S_ 32 0#32),
    TRef.nullary (.of main_while1b_call22_c_1 : I32) (constantI S_ 32 0#32),
    TRef.binaryIndexed (.of main_v35_13 : TRef sig ⟨S128x8x64x128, .f32⟩) (.of main_while1b_call22_v0 : TRef sig ⟨S1x8x64x128, .f32⟩) ![(.of main_while1b_v49 : I32), (.of main_while1b_call22_c : I32), (.of main_while1b_call22_c_0 : I32), (.of main_while1b_call22_c_1 : I32)] (.of main_while1b_v85 : TRef sig ⟨S128x8x64x128, .f32⟩) (fun x u i => Host.dynamicUpdateSlice x u (fun k => (i k (Shape.Idx.first h_S_)).toInt) updateFits_S128x8x64x128_S1x8x64x128) ]
theorem while1Ops0_13_sub : Own (while1Ops0_13 : Ops F) :=
  ⟨unary_bufs_sub .., nullary_bufs_sub .., nullary_bufs_sub .., nullary_bufs_sub .., binaryIndexed_bufs_sub ..⟩

abbrev while1Ops0_14 : Ops F :=
  [ TRef.unary (.of main_while1b_v82 : TRef sig ⟨S8x64x128, .f32⟩) (.of main_while1b_call23_v0 : TRef sig ⟨S1x8x64x128, .f32⟩) (broadcastInDim S1x8x64x128 ![1, 2, 3] bcast_S8x64x128_S1x8x64x128_1_2_3),
    TRef.nullary (.of main_while1b_call23_c : I32) (constantI S_ 32 0#32),
    TRef.nullary (.of main_while1b_call23_c_0 : I32) (constantI S_ 32 0#32),
    TRef.nullary (.of main_while1b_call23_c_1 : I32) (constantI S_ 32 0#32),
    TRef.binaryIndexed (.of main_v35_14 : TRef sig ⟨S128x8x64x128, .f32⟩) (.of main_while1b_call23_v0 : TRef sig ⟨S1x8x64x128, .f32⟩) ![(.of main_while1b_v49 : I32), (.of main_while1b_call23_c : I32), (.of main_while1b_call23_c_0 : I32), (.of main_while1b_call23_c_1 : I32)] (.of main_while1b_v86 : TRef sig ⟨S128x8x64x128, .f32⟩) (fun x u i => Host.dynamicUpdateSlice x u (fun k => (i k (Shape.Idx.first h_S_)).toInt) updateFits_S128x8x64x128_S1x8x64x128) ]
theorem while1Ops0_14_sub : Own (while1Ops0_14 : Ops F) :=
  ⟨unary_bufs_sub .., nullary_bufs_sub .., nullary_bufs_sub .., nullary_bufs_sub .., binaryIndexed_bufs_sub ..⟩

abbrev while1Ops0_15 : Ops F :=
  [ TRef.unary (.of main_while1b_v73 : TRef sig ⟨S8x64x64, .f32⟩) (.of main_while1b_call24_v0 : TRef sig ⟨S1x8x64x64, .f32⟩) (broadcastInDim S1x8x64x64 ![1, 2, 3] bcast_S8x64x64_S1x8x64x64_1_2_3),
    TRef.nullary (.of main_while1b_call24_c : I32) (constantI S_ 32 0#32),
    TRef.nullary (.of main_while1b_call24_c_0 : I32) (constantI S_ 32 0#32),
    TRef.nullary (.of main_while1b_call24_c_1 : I32) (constantI S_ 32 0#32),
    TRef.binaryIndexed (.of main_v35_15 : TRef sig ⟨S128x8x64x64, .f32⟩) (.of main_while1b_call24_v0 : TRef sig ⟨S1x8x64x64, .f32⟩) ![(.of main_while1b_v49 : I32), (.of main_while1b_call24_c : I32), (.of main_while1b_call24_c_0 : I32), (.of main_while1b_call24_c_1 : I32)] (.of main_while1b_v87 : TRef sig ⟨S128x8x64x64, .f32⟩) (fun x u i => Host.dynamicUpdateSlice x u (fun k => (i k (Shape.Idx.first h_S_)).toInt) updateFits_S128x8x64x64_S1x8x64x64) ]
theorem while1Ops0_15_sub : Own (while1Ops0_15 : Ops F) :=
  ⟨unary_bufs_sub .., nullary_bufs_sub .., nullary_bufs_sub .., nullary_bufs_sub .., binaryIndexed_bufs_sub ..⟩

abbrev while1Ops0_16 : Ops F :=
  [ TRef.unary (.of main_while1b_v69 : TRef sig ⟨S8, .f32⟩) (.of main_while1b_call25_v0 : TRef sig ⟨S1x8, .f32⟩) (broadcastInDim S1x8 ![1] bcast_S8_S1x8_1),
    TRef.nullary (.of main_while1b_call25_c : I32) (constantI S_ 32 0#32),
    TRef.binaryIndexed (.of main_v35_16 : TRef sig ⟨S128x8, .f32⟩) (.of main_while1b_call25_v0 : TRef sig ⟨S1x8, .f32⟩) ![(.of main_while1b_v49 : I32), (.of main_while1b_call25_c : I32)] (.of main_while1b_v88 : TRef sig ⟨S128x8, .f32⟩) (fun x u i => Host.dynamicUpdateSlice x u (fun k => (i k (Shape.Idx.first h_S_)).toInt) updateFits_S128x8_S1x8) ]
theorem while1Ops0_16_sub : Own (while1Ops0_16 : Ops F) :=
  ⟨unary_bufs_sub .., nullary_bufs_sub .., binaryIndexed_bufs_sub ..⟩

abbrev while1Ops0_17 : Ops F :=
  [ nullary main_while1b_c_34 (constantI S_ 32 1#32),
    binary main_v35_9 main_while1b_c_34 main_while1b_v89 (addi : Arr F S_ .i32 → Arr F S_ .i32 → Arr F S_ .i32),
    unary main_while1b_v89 main_v35_9 id,
    unary main_while1b_v81 main_v35_10 id,
    unary main_while1b_v83 main_v35_11 id,
    unary main_while1b_v84 main_v35_12 id,
    unary main_while1b_v85 main_v35_13 id,
    unary main_while1b_v86 main_v35_14 id,
    unary main_while1b_v87 main_v35_15 id,
    unary main_while1b_v88 main_v35_16 id ]
theorem while1Ops0_17_sub : Own (while1Ops0_17 : Ops F) :=
  ⟨nullary_bufs_sub .., binary_bufs_sub .., unary_bufs_sub .., unary_bufs_sub .., unary_bufs_sub .., unary_bufs_sub .., unary_bufs_sub .., unary_bufs_sub .., unary_bufs_sub .., unary_bufs_sub ..⟩

theorem main_part0_chain (c : Dev nD) : main_part0 (F := F) c = (Pipeline.chainK
  [ seq main_part0_ops0,
    HostLoop.enter 0 ]
  (seq main_part0_ops1) : Prog (TpuEff nD τ sig (Elt F) (HostLoop.Sig (Pipeline.Sig Λ₀ (Fin 0) fun p => (pcfgs (F := F) p).Adm) 2) .tc) PUnit) := by
  rewrite [chainK_seq_cons, Pipeline.chainK_cons]
  chain_rfl

theorem main_part1_chain (c : Dev nD) : main_part1 (F := F) c = (Pipeline.chain
  [ seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons]
  chain_rfl

theorem main_chain_windows (c : Dev nD) : main (F := F) c = (Pipeline.chain
  [ seq main_part0_ops0,
    HostLoop.enter 0,
    seq main_part0_ops1,
    seq main_part1_ops0,
    HostLoop.enter 1,
    seq main_part1_ops1 ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [main_part1_chain, main_part0_chain, Pipeline.chainK_bind_chain]
  chain_rfl

theorem while0_body_chain : main_while0_body (F := F) = (Pipeline.chain
  [ seq while0Ops0,
    seq while0Ops0_1,
    seq while0Ops0_2,
    seq while0Ops0_3,
    seq while0Ops0_4,
    seq while0Ops0_5,
    seq while0Ops0_6,
    seq while0Ops0_7,
    seq while0Ops0_8,
    seq while0Ops0_9,
    seq while0Ops0_10,
    seq while0Ops0_11,
    seq while0Ops0_12 ] : Prog (TpuEff nD τ sig (Elt F) (HostLoop.Sig (Pipeline.Sig Λ₀ (Fin 0) fun p => (pcfgs (F := F) p).Adm) 2) .tc) PUnit) := by
  rewrite [Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, chain_seq_cons]
  chain_rfl

theorem while1_body_chain : main_while1_body (F := F) = (Pipeline.chain
  [ seq while1Ops0,
    seq while1Ops0_1,
    seq while1Ops0_2,
    seq while1Ops0_3,
    seq while1Ops0_4,
    seq while1Ops0_5,
    seq while1Ops0_6,
    seq while1Ops0_7,
    seq while1Ops0_8,
    seq while1Ops0_9,
    seq while1Ops0_10,
    seq while1Ops0_11,
    seq while1Ops0_12,
    seq while1Ops0_13,
    seq while1Ops0_14,
    seq while1Ops0_15,
    seq while1Ops0_16,
    seq while1Ops0_17 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, Pipeline.chain_cons, Pipeline.chain_cons, Pipeline.chain_cons, Pipeline.chain_cons, Pipeline.chain_cons, chain_seq_cons, Pipeline.chain_cons, Pipeline.chain_cons, Pipeline.chain_cons, Pipeline.chain_cons, Pipeline.chain_cons, Pipeline.chain_cons, chain_seq_cons]
  chain_rfl

end Cert.ReferenceIdeal.Run

end
-- ==== Proof.RefRun.lean ====
/- The run of the reference program: stretches of host operations around two counted loops of 128 trips. Every buffer's
   contents are followed by folds (`entry0`, `at0`, `entry1`, `at1`, `final`), and the frame is read off them. -/
module

public import proofs.«01_k».proof.Proof.RefOps
public import Idealize.ShloMosaic.Lib.Pipeline.RegionsLoop
public import Idealize.ShloMosaic.Lib.Scf.ExitTest
public import Idealize.ShloMosaic.Lib.Scf.Counter
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.Tactic
open Idealize.ShloMosaic.Proc (devRef)
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)

variable {F : FTy → Type} [FloatOps F]

/-! ## The stretches, grouped -/

/-- @main before the first loop. -/
abbrev preI : List (List (HloOp τ sig (Elt F))) := [main_part0_ops0]
/-- @main between the loops. -/
abbrev midI : List (List (HloOp τ sig (Elt F))) := [main_part0_ops1, main_part1_ops0]
/-- @main after the second loop. -/
abbrev postI : List (List (HloOp τ sig (Elt F))) := [main_part1_ops1]
/-- The first loop's body up to its last stretch, which steps the counter and moves the results into the carried buffers. -/
abbrev headI0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11]
/-- The first loop's body. -/
abbrev bodyI0 : List (List (HloOp τ sig (Elt F))) := [while0Ops0, while0Ops0_1, while0Ops0_2, while0Ops0_3, while0Ops0_4, while0Ops0_5, while0Ops0_6, while0Ops0_7, while0Ops0_8, while0Ops0_9, while0Ops0_10, while0Ops0_11, while0Ops0_12]
/-- The second loop's body up to its last stretch. -/
abbrev headI1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16]
/-- The second loop's body. -/
abbrev bodyI1 : List (List (HloOp τ sig (Elt F))) := [while1Ops0, while1Ops0_1, while1Ops0_2, while1Ops0_3, while1Ops0_4, while1Ops0_5, while1Ops0_6, while1Ops0_7, while1Ops0_8, while1Ops0_9, while1Ops0_10, while1Ops0_11, while1Ops0_12, while1Ops0_13, while1Ops0_14, while1Ops0_15, while1Ops0_16, while1Ops0_17]

/-- The condition of each loop: the bound, and the counter compared with it. -/
abbrev condOps0 : List (HloOp τ sig (Elt F)) :=
  [ nullary main_while0c_c_26 (constantI S_ 32 128#32),
    binary main_v22_6 main_while0c_c_26 main_while0c_v48 (cmpi .slt) ]
abbrev condOps1 : List (HloOp τ sig (Elt F)) :=
  [ nullary main_while1c_c_30 (constantI S_ 32 128#32),
    binary main_v35_9 main_while1c_c_30 main_while1c_v48 (cmpi .slt) ]

/-- No operation of a list writes a buffer fresh, from one check of the list. -/
theorem fresh {l : Ops F} (h : l.map HloOp.fresh = l.map fun _ => ∅) : ∀ op ∈ l, op.fresh = ∅ := List.forall_iff_forall_mem.mp (forall_fresh_of_map h)

theorem preI_plain : Plain (preI (F := F)) := .cons main_part0_ops0_sub (hf := fresh rfl) (.nil)
theorem midI_plain : Plain (midI (F := F)) := .cons main_part0_ops1_sub (hf := fresh rfl) (.cons main_part1_ops0_sub (hf := fresh rfl) (.nil))
theorem postI_plain : Plain (postI (F := F)) := .cons main_part1_ops1_sub (hf := fresh rfl) (.nil)
theorem bodyI0_plain : Plain (bodyI0 (F := F)) := .cons while0Ops0_sub (hf := fresh rfl) (.cons while0Ops0_1_sub (hf := fresh rfl) (.cons while0Ops0_2_sub (hf := fresh rfl) (.cons while0Ops0_3_sub (hf := fresh rfl) (.cons while0Ops0_4_sub (hf := fresh rfl) (.cons while0Ops0_5_sub (hf := fresh rfl) (.cons while0Ops0_6_sub (hf := fresh rfl) (.cons while0Ops0_7_sub (hf := fresh rfl) (.cons while0Ops0_8_sub (hf := fresh rfl) (.cons while0Ops0_9_sub (hf := fresh rfl) (.cons while0Ops0_10_sub (hf := fresh rfl) (.cons while0Ops0_11_sub (hf := fresh rfl) (.cons while0Ops0_12_sub (hf := fresh rfl) (.nil)))))))))))))
theorem bodyI1_plain : Plain (bodyI1 (F := F)) := .cons while1Ops0_sub (hf := fresh rfl) (.cons while1Ops0_1_sub (hf := fresh rfl) (.cons while1Ops0_2_sub (hf := fresh rfl) (.cons while1Ops0_3_sub (hf := fresh rfl) (.cons while1Ops0_4_sub (hf := fresh rfl) (.cons while1Ops0_5_sub (hf := fresh rfl) (.cons while1Ops0_6_sub (hf := fresh rfl) (.cons while1Ops0_7_sub (hf := fresh rfl) (.cons while1Ops0_8_sub (hf := fresh rfl) (.cons while1Ops0_9_sub (hf := fresh rfl) (.cons while1Ops0_10_sub (hf := fresh rfl) (.cons while1Ops0_11_sub (hf := fresh rfl) (.cons while1Ops0_12_sub (hf := fresh rfl) (.cons while1Ops0_13_sub (hf := fresh rfl) (.cons while1Ops0_14_sub (hf := fresh rfl) (.cons while1Ops0_15_sub (hf := fresh rfl) (.cons while1Ops0_16_sub (hf := fresh rfl) (.cons while1Ops0_17_sub (hf := fresh rfl) (.nil))))))))))))))))))

/-! ## What each group writes -/

/-- A group of stretches leaves a buffer none of its operations writes as it was. -/
theorem keep_of {items : List (List (HloOp τ sig (Elt F)))} (W : List (Ref sig .tc))
    (h : items.flatten.map HloOp.writes = W.map fun w => {devRef (τ := τ) .tc w}) {r : Ref sig .tc} (hr : r ∉ W)
    (V : Valuation τ sig (Elt F)) : afterL items V (devRef .tc r) = V (devRef .tc r) := by
  rw [afterL_eq_after_flatten]; exact after_unwritten W h hr V

/-- The buffers `preI` writes, in order. -/
abbrev preI_W : List (Ref sig .tc) := [main_v0, main_v1, main_v2, main_v3, main_v4, main_v5, main_v6, main_v7, main_v8, main_v9, main_v10, main_v11, main_v12, main_v13, main_v14, main_v15, main_cst, main_v16, main_cst_0, main_v17, main_cst_1, main_v18, main_cst_2, main_v19, main_cst_3, main_v20, main_cst_4, main_v21, main_c, main_v22_0, main_v22_1, main_v22_2, main_v22_3, main_v22_4, main_v22_5, main_v22_6, main_v22_7, main_v22_8, main_v22_9, main_v22_10, main_v22_11, main_v22_12]
theorem preI_keep {r : Ref sig .tc} (hr : r ∉ preI_W) (V : Valuation τ sig (Elt F)) :
    afterL preI V (devRef .tc r) = V (devRef .tc r) := keep_of preI_W rfl hr V
/-- The buffers `midI` writes, in order. -/
abbrev midI_W : List (Ref sig .tc) := [main_v23, main_v24, main_cst_5, main_v25, main_v26, main_v27, main_cst_6, main_v28, main_cst_7, main_v29, main_cst_8, main_v30, main_cst_9, main_v31, main_cst_10, main_v32, main_cst_11, main_v33, main_cst_12, main_v34, main_c_13, main_v35_0, main_v35_1, main_v35_2, main_v35_3, main_v35_4, main_v35_5, main_v35_6, main_v35_7, main_v35_8, main_v35_9, main_v35_10, main_v35_11, main_v35_12, main_v35_13, main_v35_14, main_v35_15, main_v35_16]
theorem midI_keep {r : Ref sig .tc} (hr : r ∉ midI_W) (V : Valuation τ sig (Elt F)) :
    afterL midI V (devRef .tc r) = V (devRef .tc r) := keep_of midI_W rfl hr V
/-- The buffers `postI` writes, in order. -/
abbrev postI_W : List (Ref sig .tc) := [main_v36, main_v37, main_v38, main_v39, main_v40, main_v41, main_v42, main_v43, main_v44, main_v45, main_v46, main_v47]
theorem postI_keep {r : Ref sig .tc} (hr : r ∉ postI_W) (V : Valuation τ sig (Elt F)) :
    afterL postI V (devRef .tc r) = V (devRef .tc r) := keep_of postI_W rfl hr V
/-- The buffers `headI0` writes, in order. -/
abbrev headI0_W : List (Ref sig .tc) := [main_while0b_call0_c, main_while0b_call0_c_0, main_while0b_call0_c_1, main_while0b_call0_v0, main_while0b_v48, main_while0b_call1_c, main_while0b_call1_c_0, main_while0b_call1_c_1, main_while0b_call1_v0, main_while0b_v49, main_while0b_call2_c, main_while0b_call2_c_0, main_while0b_call2_c_1, main_while0b_call2_v0, main_while0b_v50, main_while0b_call3_c, main_while0b_call3_c_0, main_while0b_call3_c_1, main_while0b_call3_v0, main_while0b_v51, main_while0b_call4_c, main_while0b_call4_c_0, main_while0b_call4_c_1, main_while0b_call4_v0, main_while0b_v52, main_while0b_call5_c, main_while0b_call5_v0, main_while0b_v53, main_while0b_v54, main_while0b_v55, main_while0b_v56, main_while0b_v57, main_while0b_v58, main_while0b_v59, main_while0b_v60, main_while0b_v61, main_while0b_v62, main_while0b_v63, main_while0b_v64, main_while0b_call6_v0, main_while0b_call6_c, main_while0b_call6_c_0, main_while0b_call6_c_1, main_while0b_v65, main_while0b_call7_v0, main_while0b_call7_c, main_while0b_call7_c_0, main_while0b_call7_c_1, main_while0b_v66, main_while0b_call8_v0, main_while0b_call8_c, main_while0b_call8_c_0, main_while0b_call8_c_1, main_while0b_v67, main_while0b_call9_v0, main_while0b_call9_c, main_while0b_v68, main_while0b_call10_v0, main_while0b_call10_c, main_while0b_call10_c_0, main_while0b_call10_c_1, main_while0b_v69]
theorem headI0_keep {r : Ref sig .tc} (hr : r ∉ headI0_W) (V : Valuation τ sig (Elt F)) :
    afterL headI0 V (devRef .tc r) = V (devRef .tc r) := keep_of headI0_W rfl hr V
/-- The buffers `headI1` writes, in order. -/
abbrev headI1_W : List (Ref sig .tc) := [main_while1b_c_30, main_while1b_v48, main_while1b_c_31, main_while1b_v49, main_while1b_call11_c, main_while1b_call11_c_0, main_while1b_call11_c_1, main_while1b_call11_v0, main_while1b_v50, main_while1b_call12_c, main_while1b_call12_c_0, main_while1b_call12_c_1, main_while1b_call12_v0, main_while1b_v51, main_while1b_call13_c, main_while1b_call13_c_0, main_while1b_call13_c_1, main_while1b_call13_v0, main_while1b_v52, main_while1b_call14_c, main_while1b_call14_c_0, main_while1b_call14_c_1, main_while1b_call14_v0, main_while1b_v53, main_while1b_call15_c, main_while1b_call15_c_0, main_while1b_call15_c_1, main_while1b_call15_v0, main_while1b_v54, main_while1b_call16_c, main_while1b_call16_c_0, main_while1b_call16_c_1, main_while1b_call16_v0, main_while1b_v55, main_while1b_call17_c, main_while1b_call17_v0, main_while1b_v56, main_while1b_call18_c, main_while1b_call18_c_0, main_while1b_call18_c_1, main_while1b_call18_v0, main_while1b_v57, main_while1b_call19_c, main_while1b_call19_c_0, main_while1b_call19_c_1, main_while1b_call19_v0, main_while1b_v58, main_while1b_v59, main_while1b_v60, main_while1b_v61, main_while1b_v62, main_while1b_v63, main_while1b_cst_32, main_while1b_v64, main_while1b_v65, main_while1b_v66, main_while1b_v67, main_while1b_cst_33, main_while1b_v68, main_while1b_v69, main_while1b_v70, main_while1b_v71, main_while1b_v72, main_while1b_v73, main_while1b_v74, main_while1b_v75, main_while1b_v76, main_while1b_v77, main_while1b_v78, main_while1b_v79, main_while1b_v80, main_while1b_v81, main_while1b_v82, main_while1b_call20_v0, main_while1b_call20_c, main_while1b_call20_c_0, main_while1b_call20_c_1, main_while1b_v83, main_while1b_call21_v0, main_while1b_call21_c, main_while1b_call21_c_0, main_while1b_call21_c_1, main_while1b_v84, main_while1b_call22_v0, main_while1b_call22_c, main_while1b_call22_c_0, main_while1b_call22_c_1, main_while1b_v85, main_while1b_call23_v0, main_while1b_call23_c, main_while1b_call23_c_0, main_while1b_call23_c_1, main_while1b_v86, main_while1b_call24_v0, main_while1b_call24_c, main_while1b_call24_c_0, main_while1b_call24_c_1, main_while1b_v87, main_while1b_call25_v0, main_while1b_call25_c, main_while1b_v88]
theorem headI1_keep {r : Ref sig .tc} (hr : r ∉ headI1_W) (V : Valuation τ sig (Elt F)) :
    afterL headI1 V (devRef .tc r) = V (devRef .tc r) := keep_of headI1_W rfl hr V
/-- The buffers `while0Ops0_12` writes, in order. -/
abbrev last0_W : List (Ref sig .tc) := [main_while0b_c_26, main_while0b_v70, main_v22_6, main_v22_7, main_v22_8, main_v22_9, main_v22_10, main_v22_11, main_v22_12]
theorem last0_keep {r : Ref sig .tc} (hr : r ∉ last0_W) (V : Valuation τ sig (Elt F)) :
    after while0Ops0_12 V (devRef .tc r) = V (devRef .tc r) := after_unwritten last0_W rfl hr V
/-- The buffers `while1Ops0_17` writes, in order. -/
abbrev last1_W : List (Ref sig .tc) := [main_while1b_c_34, main_while1b_v89, main_v35_9, main_v35_10, main_v35_11, main_v35_12, main_v35_13, main_v35_14, main_v35_15, main_v35_16]
theorem last1_keep {r : Ref sig .tc} (hr : r ∉ last1_W) (V : Valuation τ sig (Elt F)) :
    after while1Ops0_17 V (devRef .tc r) = V (devRef .tc r) := after_unwritten last1_W rfl hr V
theorem cond0_keep {r : Ref sig .tc} (hr : r ∉ [main_while0c_c_26, main_while0c_v48]) (V : Valuation τ sig (Elt F)) :
    after condOps0 V (devRef .tc r) = V (devRef .tc r) := after_unwritten [main_while0c_c_26, main_while0c_v48] rfl hr V
theorem cond1_keep {r : Ref sig .tc} (hr : r ∉ [main_while1c_c_30, main_while1c_v48]) (V : Valuation τ sig (Elt F)) :
    after condOps1 V (devRef .tc r) = V (devRef .tc r) := after_unwritten [main_while1c_c_30, main_while1c_v48] rfl hr V
theorem body0_split (V : Valuation τ sig (Elt F)) : afterL bodyI0 V = after while0Ops0_12 (afterL headI0 V) := rfl
theorem body1_split (V : Valuation τ sig (Elt F)) : afterL bodyI1 V = after while1Ops0_17 (afterL headI1 V) := rfl

variable (m : (ℓ : Loc nD τ sig) → Buf (Elt F) ℓ) (ρ : Dev nD → PrngReg)

/-! ## The folds -/

/-- Every buffer at the first loop's entry. -/
def entry0 (c : Dev nD) : Valuation τ sig (Elt F) := afterL preI (launchContents m c)
/-- Every buffer before the `k`-th run of the first loop's condition. -/
def at0 (k : ℕ) (c : Dev nD) : Valuation τ sig (Elt F) := atTrip condOps0 bodyI0 (entry0 m) k c
/-- Every buffer after the first loop. -/
def left0 (c : Dev nD) : Valuation τ sig (Elt F) := after condOps0 (at0 m 128 c)
/-- Every buffer at the second loop's entry. -/
def entry1 (c : Dev nD) : Valuation τ sig (Elt F) := afterL midI (left0 m c)
def at1 (k : ℕ) (c : Dev nD) : Valuation τ sig (Elt F) := atTrip condOps1 bodyI1 (entry1 m) k c
def left1 (c : Dev nD) : Valuation τ sig (Elt F) := after condOps1 (at1 m 128 c)
/-- Every buffer at the end of @main. -/
def final (c : Dev nD) : Valuation τ sig (Elt F) := afterL postI (left1 m c)

theorem at0_zero (c : Dev nD) : at0 m 0 c = entry0 m c := rfl
theorem at1_zero (c : Dev nD) : at1 m 0 c = entry1 m c := rfl
theorem at0_succ (k : ℕ) (c : Dev nD) : at0 m (k + 1) c = after while0Ops0_12 (afterL headI0 (after condOps0 (at0 m k c))) := rfl
theorem at1_succ (k : ℕ) (c : Dev nD) : at1 m (k + 1) c = after while1Ops0_17 (afterL headI1 (after condOps1 (at1 m k c))) := rfl

/-- A buffer no operation of the first loop writes is at every trip as at the entry. -/
theorem at0_keep {r : Ref sig .tc} (hc : r ∉ [main_while0c_c_26, main_while0c_v48]) (hh : r ∉ headI0_W) (hl : r ∉ last0_W) (c : Dev nD) :
    ∀ k, at0 m k c (devRef .tc r) = entry0 m c (devRef .tc r)
  | 0 => rfl
  | k + 1 => by rw [at0_succ, last0_keep hl, headI0_keep hh, cond0_keep hc, at0_keep hc hh hl c k]
theorem at1_keep {r : Ref sig .tc} (hc : r ∉ [main_while1c_c_30, main_while1c_v48]) (hh : r ∉ headI1_W) (hl : r ∉ last1_W) (c : Dev nD) :
    ∀ k, at1 m k c (devRef .tc r) = entry1 m c (devRef .tc r)
  | 0 => rfl
  | k + 1 => by rw [at1_succ, last1_keep hl, headI1_keep hh, cond1_keep hc, at1_keep hc hh hl c k]

/-! ## The counters -/

set_option maxRecDepth 100000 in
theorem ctr0_step (X : Valuation τ sig (Elt F)) :
    after while0Ops0_12 X (devRef .tc main_v22_6) = addi (X (devRef .tc main_v22_6)) (constantI S_ 32 1#32) := by
  after_results
  rfl
set_option maxRecDepth 100000 in
theorem ctr1_step (X : Valuation τ sig (Elt F)) :
    after while1Ops0_17 X (devRef .tc main_v35_9) = addi (X (devRef .tc main_v35_9)) (constantI S_ 32 1#32) := by
  after_results
  rfl
theorem ctr0_entry (c : Dev nD) : entry0 m c (devRef .tc main_v22_6) = fun _ => (0#32 : BitVec 32) := by
  simp only [entry0, afterL_cons, afterL_nil]
  after_reads_simp
  rfl
theorem ctr1_entry (c : Dev nD) : entry1 m c (devRef .tc main_v35_9) = fun _ => (0#32 : BitVec 32) := by
  simp only [entry1, afterL_cons, afterL_nil]
  after_reads_simp
  rfl
/-- Before the `k`-th condition the counter is the induction variable at `k`. -/
theorem at0_ctr (c : Dev nD) : ∀ k, at0 m k c (devRef .tc main_v22_6) = fun _ => Scf.iv 0#32 1#32 k
  | 0 => by rw [at0_zero, ctr0_entry, Scf.iv_zero]
  | k + 1 => by
    rw [at0_succ, ctr0_step, headI0_keep (by decide +kernel), cond0_keep (by decide +kernel), at0_ctr c k, Scf.iv_succ]
    rfl
theorem at1_ctr (c : Dev nD) : ∀ k, at1 m k c (devRef .tc main_v35_9) = fun _ => Scf.iv 0#32 1#32 k
  | 0 => by rw [at1_zero, ctr1_entry, Scf.iv_zero]
  | k + 1 => by
    rw [at1_succ, ctr1_step, headI1_keep (by decide +kernel), cond1_keep (by decide +kernel), at1_ctr c k, Scf.iv_succ]
    rfl

/-! ## The two loops and the stretches as segments -/

local notation "𝕄" => MT nD τ sig Unit (Elt F) ℕ (Option PUnit) ℕ

abbrev adm : (p : Fin 0) → (pcfgs (F := F) p).Adm := fun p => p.elim0
abbrev tk : Fin 0 → Pipeline.Ticket (Ix := Unit) (Name := ℕ) (U := Option PUnit) (Lvl := ℕ) (nD := nD) (τ := τ) (pcfgs (F := F)) adm := fun j => j.elim0
abbrev L₀ : GSem nD τ sig → Finset Unit := fun _ => ∅
abbrev lv₀ : GSem nD τ sig → Unit → ℕ := fun _ _ => 0
theorem cells_inj : Function.Injective (Pipeline.cellOf (nD := nD) (τ := τ) (Pipeline.pin (pcfgs (F := F)) adm)) := fun k => k.1.elim0

/-- What each segment carries unchanged beside the buffers. -/
abbrev Rw (c : Dev nD) : sProp 𝕄 := iprop(∃ W, owes c.tc (0 : CellTallies nD τ sig Unit) W)

set_option backward.isDefEq.respectTransparency.types false in
/-- Loop 0's condition, run for the `k`-th time, holds exactly when `k < 128`. -/
theorem cond0_spec : LoopCond (Ix := Unit) (Name := ℕ) (U := Option PUnit) (Lvl := ℕ) (pcfgs (F := F)) defs₀ Variants.none loops Rw (main_while0_cond (F := F)) condOps0 bodyI0 (entry0 m) 128 := by
  intro k hk c bd
  have hctr := at0_ctr m c k
  unfold at0 at hctr
  unfold main_while0_cond
  rw [wp_bind]
  iintro ⟨Hb, Hh, HR⟩
  iapply (wp_hlo_within (Variants.lift Variants.none) c.tc bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) c.tc bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 bodyI0 (entry0 m) k c) main_v22_6 HostLoop.idx0)
        (HloOp.result _ (atTrip condOps0 bodyI0 (entry0 m) k c) main_while0c_c_26 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]
  isplitl [Hh] <;> iassumption

set_option backward.isDefEq.respectTransparency.types false in
/-- Loop 1's condition, run for the `k`-th time, holds exactly when `k < 128`. -/
theorem cond1_spec : LoopCond (Ix := Unit) (Name := ℕ) (U := Option PUnit) (Lvl := ℕ) (pcfgs (F := F)) defs₀ Variants.none loops Rw (main_while1_cond (F := F)) condOps1 bodyI1 (entry1 m) 128 := by
  intro k hk c bd
  have hctr := at1_ctr m c k
  unfold at1 at hctr
  unfold main_while1_cond
  rw [wp_bind]
  iintro ⟨Hb, Hh, HR⟩
  iapply (wp_hlo_within (Variants.lift Variants.none) c.tc bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) c.tc bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 bodyI1 (entry1 m) k c) main_v35_9 HostLoop.idx0)
        (HloOp.result _ (atTrip condOps1 bodyI1 (entry1 m) k c) main_while1c_c_30 HostLoop.idx0) = 1#1) (k < 128)
    rw [nullary_result_ne _ _ _ _ (by decide), nullary_result, hctr]
    exact Scf.cmpi_slt_iv_ub_iff (lb := 0#32) (ub := 128#32) (st := 1#32) (by decide) (show k ≤ Scf.trips 0#32 128#32 1#32 from hk)
  isplitl [Hb]; · iexact Hb
  rw [after_cons, after_cons, after_nil]
  isplitl [Hh] <;> iassumption

abbrev segs : List (CSeg (Ix := Unit) (Name := ℕ) (U := Option PUnit) (Lvl := ℕ) (pcfgs (F := F)) adm defs₀ Variants.none L₀ lv₀ loops tk) :=
  segsOf _ _ _ _ _ _ _ _ Rw preI preI_plain (launchContents m)
    ++ (loopSeg _ _ _ _ _ _ _ _ 0 main_while0_cond main_while0_body rfl condOps0 bodyI0 bodyI0_plain (by rw [while0_body_chain]; rfl) 128 (entry0 m) Rw (cond0_spec m)
    :: (segsOf _ _ _ _ _ _ _ _ Rw midI midI_plain (left0 m)
    ++ (loopSeg _ _ _ _ _ _ _ _ 1 main_while1_cond main_while1_body rfl condOps1 bodyI1 bodyI1_plain (by rw [while1_body_chain]; rfl) 128 (entry1 m) Rw (cond1_spec m)
    :: segsOf _ _ _ _ _ _ _ _ Rw postI postI_plain (left1 m))))

theorem segs_chains : CSeg.Chains (fun c => iprop(held c.tc (ucRefs τ sig) (launchContents m c) ∗ Rw c)) (segs m)
      (fun c => iprop(iprop(held c.tc (ucRefs τ sig) (final m c)) ∗ ∃ W, owes c.tc (0 : CellTallies nD τ sig Unit) W)) :=
  CSeg.Chains.append (segsOf_chains _ _ _ _ _ _ _ _ Rw preI preI_plain _)
    ⟨fun _ => .rfl, CSeg.Chains.append (segsOf_chains _ _ _ _ _ _ _ _ Rw midI midI_plain _)
      ⟨fun _ => .rfl, segsOf_chains _ _ _ _ _ _ _ _ Rw postI postI_plain _⟩⟩

theorem segs_prog : (segs m).map CSeg.prog = (preI.map fun ops => (seq ops : Prog _ PUnit)) ++ HostLoop.enter 0 ::
    ((midI.map fun ops => (seq ops : Prog _ PUnit)) ++ HostLoop.enter 1 :: postI.map fun ops => (seq ops : Prog _ PUnit)) := by
  unfold segs
  rw [List.map_append, List.map_cons, List.map_append, List.map_cons, segsOf_prog, segsOf_prog, segsOf_prog]
  rfl

theorem segs_tickets : (segs m).Pairwise fun s s' => Disjoint s.T s'.T :=
  CSeg.pairwise_disjoint_of_T_empty _ fun s _ => Finset.eq_empty_of_isEmpty s.T

/-- No semaphore of a TensorCore outlives a region in this program. -/
theorem no_unscoped : ∀ sm : SemLoc sig, sm.isScoped .tc = true := by decide

set_option maxRecDepth 100000 in
/-- THE RUN: every execution terminates with each buffer that holds a value of the program at `final`, and every counter zero. -/
theorem run : θ_run (defs (F := F)) (onTc (τ := τ) (main (F := F))) ⟨m, fun _ => 0, ρ⟩ (fun r =>
      (∀ c : Dev nD, ∀ b ∈ ucRefs τ sig, r.2.mem ((c : Dev nD), b) = final m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cells_inj defs₀ Variants.none L₀ lv₀ loops tk m ρ main (segs m)
    (fun c Q => by
      rw [main_chain_windows c]
      show wp _ _ _ (Pipeline.chain ((segs m).map CSeg.prog)) Q ⊢ _
      rw [segs_prog]
      exact .rfl)
    (segs_tickets m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held c.tc (ucRefs τ sig) (launchContents m c) ∗ Rw c))
    (Tₙ := fun c => iprop(held c.tc (ucRefs τ sig) (final m c)))
    (hch := segs_chains m)
    (hinit := by
      refine Pipeline.initEach L₀ lv₀ fun c => ?_
      rw [show unscopedBufs c (fun b => m (c.tc.loc b)) = held c.tc (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun s h hz => ⟨h, funext fun g => hz g (.inr (no_unscoped g.2))⟩)

/-- The contents of a buffer that holds a value of the program, at the end. -/
theorem run_at : θ_run (defs (F := F)) (onTc (τ := τ) (main (F := F))) ⟨m, fun _ => 0, ρ⟩ (fun r =>
      (∀ (c : Dev nD) (b : Ref sig .tc), (devRef .tc b : DevRef τ sig).isScoped = false →
        r.2.mem ((c.tc : Thread nD τ).loc b) = final m c (devRef .tc b)) ∧ r.2.sem = fun _ => 0) :=
  (θ_run _ _ _).mono (fun _ h => ⟨fun c b hb => h.1 c _ (devRef_mem_ucRefs b hb), h.2⟩) (run m ρ)

/-! ## The frame -/

/-- A buffer nothing writes ends as launched. -/
theorem final_keep {r : Ref sig .tc} (h : r ∉ preI_W ++ midI_W ++ postI_W) (h0 : r ∉ [main_while0c_c_26, main_while0c_v48] ++ headI0_W ++ last0_W)
    (h1 : r ∉ [main_while1c_c_30, main_while1c_v48] ++ headI1_W ++ last1_W) (c : Dev nD) :
    final m c (devRef .tc r) = launchContents m c (devRef .tc r) := by
  simp only [List.mem_append, not_or] at h h0 h1
  rw [final, postI_keep h.2, left1, cond1_keep h1.1.1, at1_keep m h1.1.1 h1.1.2 h1.2, entry1, midI_keep h.1.2, left0, cond0_keep h0.1.1,
    at0_keep m h0.1.1 h0.1.2 h0.2, entry0, preI_keep h.1.1]

theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun _ h => ⟨fun c => ⟨(h.1 c main_arg0 rfl).trans (final_keep m (by decide +kernel) (by decide +kernel) (by decide +kernel) c),
    (h.1 c main_arg1 rfl).trans (final_keep m (by decide +kernel) (by decide +kernel) (by decide +kernel) c),
    (h.1 c main_arg2 rfl).trans (final_keep m (by decide +kernel) (by decide +kernel) (by decide +kernel) c),
    (h.1 c main_arg3 rfl).trans (final_keep m (by decide +kernel) (by decide +kernel) (by decide +kernel) c),
    (h.1 c main_arg4 rfl).trans (final_keep m (by decide +kernel) (by decide +kernel) (by decide +kernel) c),
    (h.1 c main_arg5 rfl).trans (final_keep m (by decide +kernel) (by decide +kernel) (by decide +kernel) c),
    (h.1 c main_arg6 rfl).trans (final_keep m (by decide +kernel) (by decide +kernel) (by decide +kernel) c)⟩, h.2⟩) (run_at m ρ)

end Cert.ReferenceIdeal.Run

end
-- ==== Proof.Scan.lean ====
/- The gated delta-rule scan, one chunk at a time: the chunk's new values, its output, the state after it, and the
   gradients of the chunk's inputs, as sums over extended reals. -/
module

public import Idealize.ShloMosaic.Lib.Pipeline.ValueKit

@[expose] public section

noncomputable section

namespace Cert.Scan

open Idealize.ShloMosaic

/-- One chunk of 64 rows for eight heads of 128 lanes. -/
abbrev Chunk := (⟨3, ![8, 64, 128]⟩ : Shape).Idx → EReal
/-- The state of eight heads. -/
abbrev State := (⟨3, ![8, 128, 128]⟩ : Shape).Idx → EReal
/-- One chunk's 64 by 64 products for eight heads. -/
abbrev Square := (⟨3, ![8, 64, 64]⟩ : Shape).Idx → EReal

/-- The chunk's new values: `u - w S`. -/
def newV (S : State) (u w : Chunk) : Chunk :=
  fun j => u j - ∑ d : Fin 128, w (ix3 (j 0) (j 1) d) * S (ix3 (j 0) d (j 2))

/-- The chunk's output: `q S + p v`. -/
def out (S : State) (q : Chunk) (p : Square) (v : Chunk) : Chunk :=
  fun j => (∑ d : Fin 128, q (ix3 (j 0) (j 1) d) * S (ix3 (j 0) d (j 2)))
    + ∑ m : Fin 64, p (ix3 (j 0) (j 1) m) * v (ix3 (j 0) m (j 2))

/-- The state after the chunk: `exp(g) S + kᵀ v`. -/
def next (S : State) (k : Chunk) (g : Fin 8 → EReal) (v : Chunk) : State :=
  fun j => S j * Ideal.exp (g (j 0)) + ∑ r : Fin 64, k (ix3 (j 0) r (j 1)) * v (ix3 (j 0) r (j 2))

/-- The gradient of the new values: `k D + pᵀ o`, for `D` the gradient of the state after the chunk and `o` that of the output. -/
def dV (D : State) (k : Chunk) (p : Square) (o : Chunk) : Chunk :=
  fun j => (∑ d : Fin 128, k (ix3 (j 0) (j 1) d) * D (ix3 (j 0) d (j 2)))
    + ∑ m : Fin 64, p (ix3 (j 0) m (j 1)) * o (ix3 (j 0) m (j 2))

/-- The product of a chunk's rows with the state's rows: `a Sᵀ`. -/
def timesT (S : State) (a : Chunk) : Chunk :=
  fun j => ∑ e : Fin 128, a (ix3 (j 0) (j 1) e) * S (ix3 (j 0) (j 2) e)

/-- The products of the rows of two chunks: `o vᵀ`. -/
def rows (o v : Chunk) : Square :=
  fun j => ∑ e : Fin 128, o (ix3 (j 0) (j 1) e) * v (ix3 (j 0) (j 2) e)

/-- The gradient of the decay's exponent. -/
def dG (S D : State) (g : Fin 8 → EReal) : Fin 8 → EReal :=
  fun h => (∑ d : Fin 128, ∑ e : Fin 128, S (ix3 h d e) * D (ix3 h d e)) * Ideal.exp (g h)

/-- The gradient of the state before the chunk: `exp(g) D + qᵀ o + wᵀ n`, for `n` the new values' gradient, its sign changed. -/
def prev (D : State) (q w o n : Chunk) (g : Fin 8 → EReal) : State :=
  fun j => D j * Ideal.exp (g (j 0)) + (∑ r : Fin 64, q (ix3 (j 0) r (j 1)) * o (ix3 (j 0) r (j 2)))
    + ∑ r : Fin 64, w (ix3 (j 0) r (j 1)) * n (ix3 (j 0) r (j 2))

/-- A chunk, its sign changed. -/
def minus (a : Chunk) : Chunk := fun j => - a j

/-- Chunk `n` of an array of 8192 rows, its lanes split into heads. -/
def chunk (X : (⟨2, ![8192, 1024]⟩ : Shape).Idx → EReal) (n : ℕ) : Chunk :=
  fun j => X (ix2 ⟨(64 * n + (j 1).val) % 8192, Nat.mod_lt _ (by norm_num)⟩
    ⟨128 * (j 0).val + (j 2).val, by have h0 : (j 0).val < 8 := (j 0).isLt; have h2 : (j 2).val < 128 := (j 2).isLt; omega⟩)

/-- Chunk `n` of the array of products. -/
def square (P : (⟨3, ![8, 8192, 64]⟩ : Shape).Idx → EReal) (n : ℕ) : Square :=
  fun j => P (ix3 (j 0) ⟨(64 * n + (j 1).val) % 8192, Nat.mod_lt _ (by norm_num)⟩ (j 2))

/-- Chunk `n` of the array of decays. -/
def decay (G : (⟨4, ![8, 128, 1, 1]⟩ : Shape).Idx → EReal) (n : ℕ) : Fin 8 → EReal :=
  fun h => G (ix4 h ⟨n % 128, Nat.mod_lt _ (by norm_num)⟩ 0 0)

section

variable (U W : (⟨2, ![8192, 1024]⟩ : Shape).Idx → EReal) (P : (⟨3, ![8, 8192, 64]⟩ : Shape).Idx → EReal)
  (Q K : (⟨2, ![8192, 1024]⟩ : Shape).Idx → EReal) (G : (⟨4, ![8, 128, 1, 1]⟩ : Shape).Idx → EReal)
  (O : (⟨2, ![8192, 1024]⟩ : Shape).Idx → EReal)

/-- The state before chunk `n`. -/
def state : ℕ → State
  | 0 => fun _ => 0
  | n + 1 => next (state n) (chunk K n) (decay G n) (newV (state n) (chunk U n) (chunk W n))

/-- The new values of chunk `n`. -/
def value (n : ℕ) : Chunk := newV (state U W K G n) (chunk U n) (chunk W n)

/-- The output of chunk `n`. -/
def output (n : ℕ) : Chunk := out (state U W K G n) (chunk Q n) (square P n) (value U W K G n)

/-- The gradient of the state with the last `i` chunks behind it: the state before chunk `128 - i`. -/
def dstate : ℕ → State
  | 0 => fun _ => 0
  | i + 1 => prev (dstate i) (chunk Q (127 - i)) (chunk W (127 - i)) (chunk O (127 - i))
      (minus (dV (dstate i) (chunk K (127 - i)) (square P (127 - i)) (chunk O (127 - i)))) (decay G (127 - i))

/-- The gradient of the new values, and so of `u`, of chunk `127 - i`. -/
def du (i : ℕ) : Chunk := dV (dstate W P Q K G O i) (chunk K (127 - i)) (square P (127 - i)) (chunk O (127 - i))

/-- The gradient of `w` of chunk `127 - i`. -/
def dw (i : ℕ) : Chunk := timesT (state U W K G (127 - i)) (minus (du W P Q K G O i))

/-- The gradient of `p` of chunk `127 - i`. -/
def dp (i : ℕ) : Square := rows (chunk O (127 - i)) (value U W K G (127 - i))

/-- The gradient of `q` of chunk `127 - i`. -/
def dq (i : ℕ) : Chunk := timesT (state U W K G (127 - i)) (chunk O (127 - i))

/-- The gradient of `k` of chunk `127 - i`. -/
def dk (i : ℕ) : Chunk := timesT (dstate W P Q K G O i) (value U W K G (127 - i))

/-- The gradient of the decay's exponent of chunk `127 - i`. -/
def dg (i : ℕ) : Fin 8 → EReal := dG (state U W K G (127 - i)) (dstate W P Q K G O i) (decay G (127 - i))

end

/-- Two readings at equal places. -/
theorem at_congr {a b d : ℕ} (f : ℕ → (⟨3, ![a, b, d]⟩ : Shape).Idx → EReal) {n n' : ℕ} {i i' : Fin a} {j j' : Fin b} {k k' : Fin d}
    (hn : n = n') (hi : i.val = i'.val) (hj : j.val = j'.val) (hk : k.val = k'.val) : f n (ix3 i j k) = f n' (ix3 i' j' k') := by
  rw [hn, Fin.ext hi, Fin.ext hj, Fin.ext hk]

/-- Chunks laid out as an array of rows: chunk `n` at rows `64 n` and on, head `h` at lanes `128 h` and on. -/
def rowsOf (f : ℕ → Chunk) : (⟨2, ![8192, 1024]⟩ : Shape).Idx → EReal := fun r =>
  f ((r 0).val / 64) (ix3 (⟨(r 1).val / 128, by have h : (r 1).val < 1024 := (r 1).isLt; omega⟩ : Fin 8)
    (⟨(r 0).val % 64, Nat.mod_lt _ (by norm_num)⟩ : Fin 64) (⟨(r 1).val % 128, Nat.mod_lt _ (by norm_num)⟩ : Fin 128))

/-- Chunks of products laid out as an array. -/
def squaresOf (f : ℕ → Square) : (⟨3, ![8, 8192, 64]⟩ : Shape).Idx → EReal := fun r =>
  f ((r 1).val / 64) (ix3 (⟨(r 0).val, (r 0).isLt⟩ : Fin 8) (⟨(r 1).val % 64, Nat.mod_lt _ (by norm_num)⟩ : Fin 64) (⟨(r 2).val, (r 2).isLt⟩ : Fin 64))

/-- Chunks of decays laid out as an array. -/
def decaysOf (f : ℕ → Fin 8 → EReal) : (⟨4, ![8, 128, 1, 1]⟩ : Shape).Idx → EReal := fun r => f (r 1).val ⟨(r 0).val, (r 0).isLt⟩

end Cert.Scan

end
-- ==== Proof.KOps.lean ====
/- What the two scan bodies compute from one chunk, read as the chunk functions of the scan. -/
module

public import proofs.«01_k».proof.Proof.Gen.KernelIdeal.Skeleton
public import proofs.«01_k».proof.Proof.Scan
public import Idealize.ShloMosaic.Lib.Pipeline.ValueKit
public import Idealize.ShloMosaic.Lib.WholeRead

@[expose] public section

set_option maxRecDepth 16384

noncomputable section

namespace Cert.KernelIdeal.Scan

open Cert.KernelIdeal.Gen Cert.Scan
open Idealize.ShloMosaic Idealize.ShloMosaic.TcCoe Idealize.ShloMosaic.Tactic

theorem pay0_value (S : Vec Ideal S8x128x128 .f32) (u w : FVec Ideal S8x64x128 .f32) :
    k0_pay14 (F := Ideal) S u w = newV S u w := by
  funext j; idx_vars j; pointwise [k0_pay14, newV]

theorem pay0_out (S : Vec Ideal S8x128x128 .f32) (u w : FVec Ideal S8x64x128 .f32) (p : Vec Ideal S8x64x64 .bf16) (q : FVec Ideal S8x64x128 .f32) :
    k0_pay15 (F := Ideal) S u w p q = out S q p (newV S u w) := by
  funext j; idx_vars j; pointwise [k0_pay15, pay0_value, out]

theorem pay0_next (S : Vec Ideal S8x128x128 .f32) (u w k : FVec Ideal S8x64x128 .f32) (g : Vec Ideal S8x1x1x1 .f32) :
    k0_pay16 (F := Ideal) S u w k g = next S k (fun h => g (ix4 h 0 0 0)) (newV S u w) := by
  funext j; idx_vars j; pointwise [k0_pay16, pay0_value, next]

theorem pay1_value (S : FVec Ideal S8x128x128 .f32) (u w : FVec Ideal S8x64x128 .f32) :
    k1_pay19 (F := Ideal) S u w = newV S u w := by
  funext j; idx_vars j; pointwise [k1_pay19, newV]

theorem pay1_dk (S : FVec Ideal S8x128x128 .f32) (u w : FVec Ideal S8x64x128 .f32) (D : Vec Ideal S8x128x128 .f32) :
    k1_pay24 (F := Ideal) S u w D = timesT D (newV S u w) := by
  funext j; idx_vars j; pointwise [k1_pay24, k1_pay23, k1_pay22, pay1_value, timesT]

theorem pay1_dv (p : FVec Ideal S8x64x64 .f32) (o k : FVec Ideal S8x64x128 .f32) (D : Vec Ideal S8x128x128 .f32) :
    k1_pay30 (F := Ideal) p o (k1_pay25 k D) = dV D k p o := by
  funext j; idx_vars j; pointwise [k1_pay30, k1_pay25, k1_pay23, k1_pay22, dV]

theorem pay1_dg (S : FVec Ideal S8x128x128 .f32) (D : Vec Ideal S8x128x128 .f32) (g : Vec Ideal S8x1x1x1 .f32) :
    k1_pay28 (F := Ideal) (k1_pay20 g) (k1_pay26 S D) = fun j => dG S D (fun h => g (ix4 h 0 0 0)) (j 0) := by
  funext j; idx_vars j; pointwise [k1_pay28, k1_pay20, k1_pay26, k1_pay23, k1_pay22, dG]

theorem pay1_dp (v o : FVec Ideal S8x64x128 .f32) : k1_pay29 (F := Ideal) v o = rows o v := by
  funext j; idx_vars j; pointwise [k1_pay29, rows]

theorem pay1_dq (S : FVec Ideal S8x128x128 .f32) (o : FVec Ideal S8x64x128 .f32) : k1_pay31 (F := Ideal) S o = timesT S o := by
  funext j; idx_vars j; pointwise [k1_pay31, timesT]

theorem pay1_minus (p : FVec Ideal S8x64x64 .f32) (o k : FVec Ideal S8x64x128 .f32) (D : Vec Ideal S8x128x128 .f32) :
    k1_pay32 (F := Ideal) p o (k1_pay25 k D) = minus (dV D k p o) := by
  funext j; pointwise [k1_pay32, pay1_dv, minus]; exact zero_sub _

theorem pay1_dw (S : FVec Ideal S8x128x128 .f32) (p : FVec Ideal S8x64x64 .f32) (o k : FVec Ideal S8x64x128 .f32) (D : Vec Ideal S8x128x128 .f32) :
    k1_pay33 (F := Ideal) S p o (k1_pay25 k D) = timesT S (minus (dV D k p o)) := by
  funext j; idx_vars j; pointwise [k1_pay33, pay1_minus, timesT]

theorem pay1_prev (w q o k : FVec Ideal S8x64x128 .f32) (p : FVec Ideal S8x64x64 .f32) (D : Vec Ideal S8x128x128 .f32) (g : Vec Ideal S8x1x1x1 .f32) :
    k1_pay34 (F := Ideal) w p q o (k1_pay25 k D) (k1_pay27 g D) = prev D q w o (minus (dV D k p o)) (fun h => g (ix4 h 0 0 0)) := by
  funext j; idx_vars j; pointwise [k1_pay34, k1_pay27, k1_pay20, k1_pay22, pay1_minus, prev]

/-- Eight heads' rows, stacked. -/
def stack (a0 a1 a2 a3 a4 a5 a6 a7 : FVec Ideal S64x128 .f32) : FVec Ideal S8x64x128 .f32 := k0_pay4 (F := Ideal) a0 a1 a2 a3 a4 a5 a6 a7

/-- Rows `64 i` to `64 i + 63` of a block of 256 rows, its lanes split into heads. -/
def part (X : (⟨2, ![256, 1024]⟩ : Shape).Idx → EReal) (i : ℕ) : Chunk :=
  fun j => X (ix2 ⟨(64 * i + (j 1).val) % 256, Nat.mod_lt _ (by norm_num)⟩
    ⟨128 * (j 0).val + (j 2).val, by have h0 : (j 0).val < 8 := (j 0).isLt; have h2 : (j 2).val < 128 := (j 2).isLt; omega⟩)

def partP (X : (⟨3, ![8, 256, 64]⟩ : Shape).Idx → EReal) (i : ℕ) : Square :=
  fun j => X (ix3 (j 0) ⟨(64 * i + (j 1).val) % 256, Nat.mod_lt _ (by norm_num)⟩ (j 2))

def partG (X : (⟨4, ![8, 4, 1, 1]⟩ : Shape).Idx → EReal) (i : ℕ) : Fin 8 → EReal :=
  fun h => X (ix4 h ⟨i % 4, Nat.mod_lt _ (by norm_num)⟩ 0 0)

def partS (X : (⟨4, ![8, 4, 128, 128]⟩ : Shape).Idx → EReal) (i : ℕ) : State :=
  fun j => X (ix4 (j 0) ⟨i % 4, Nat.mod_lt _ (by norm_num)⟩ (j 1) (j 2))

theorem inside {o l : ℕ} (ho : o + 64 ≤ 256) (hl : l + 128 ≤ 1024) (a : Fin 2) : (![o, l] : Fin 2 → ℕ) a + S64x128.size a ≤ S256x1024.size a := by
  fin_cases a
  · exact ho
  · exact hl

/-- The rows from `o` of a block of f32 rows, read head by head and stacked. -/
def headsF (M : Memref sig .tc .vmem S256x1024 .f32) (hM : M.IsWhole) (X : Vec Ideal S256x1024 .f32) (o : ℕ) (ho : o + 64 ≤ 256) : FVec Ideal S8x64x128 .f32 :=
  stack
    (View.readAt (Elt Ideal) M.view (Rect.unit (s := S256x1024) ![o, 0] S64x128.size (inside ho (by norm_num))).toLoadRect (hM.unread X))
    (View.readAt (Elt Ideal) M.view (Rect.unit (s := S256x1024) ![o, 128] S64x128.size (inside ho (by norm_num))).toLoadRect (hM.unread X))
    (View.readAt (Elt Ideal) M.view (Rect.unit (s := S256x1024) ![o, 256] S64x128.size (inside ho (by norm_num))).toLoadRect (hM.unread X))
    (View.readAt (Elt Ideal) M.view (Rect.unit (s := S256x1024) ![o, 384] S64x128.size (inside ho (by norm_num))).toLoadRect (hM.unread X))
    (View.readAt (Elt Ideal) M.view (Rect.unit (s := S256x1024) ![o, 512] S64x128.size (inside ho (by norm_num))).toLoadRect (hM.unread X))
    (View.readAt (Elt Ideal) M.view (Rect.unit (s := S256x1024) ![o, 640] S64x128.size (inside ho (by norm_num))).toLoadRect (hM.unread X))
    (View.readAt (Elt Ideal) M.view (Rect.unit (s := S256x1024) ![o, 768] S64x128.size (inside ho (by norm_num))).toLoadRect (hM.unread X))
    (View.readAt (Elt Ideal) M.view (Rect.unit (s := S256x1024) ![o, 896] S64x128.size (inside ho (by norm_num))).toLoadRect (hM.unread X))

theorem headsF_eq (M : Memref sig .tc .vmem S256x1024 .f32) (hM : M.IsWhole) (X : Vec Ideal S256x1024 .f32) (o i : ℕ) (ho : o + 64 ≤ 256) (hi : o = 64 * i) :
    headsF M hM X o ho = part X i := by
  subst hi
  funext j; idx_vars j
  simp only [headsF, View.readAt_eq_ld, Memref.IsWhole.read_unread]
  pointwise [stack, k0_pay4, part]
  blk_point []

/-- The rows from `o` of a block of bf16 rows, read head by head and stacked. -/
def headsB (M : Memref sig .tc .vmem S256x1024 .bf16) (hM : M.IsWhole) (X : Vec Ideal S256x1024 .bf16) (o : ℕ) (ho : o + 64 ≤ 256) : FVec Ideal S8x64x128 .f32 :=
  stack
    (extf .f32 (View.readAt (Elt Ideal) M.view (Rect.unit (s := S256x1024) ![o, 0] S64x128.size (inside ho (by norm_num))).toLoadRect (hM.unread X)) bitsLt_bf16_f32)
    (extf .f32 (View.readAt (Elt Ideal) M.view (Rect.unit (s := S256x1024) ![o, 128] S64x128.size (inside ho (by norm_num))).toLoadRect (hM.unread X)) bitsLt_bf16_f32)
    (extf .f32 (View.readAt (Elt Ideal) M.view (Rect.unit (s := S256x1024) ![o, 256] S64x128.size (inside ho (by norm_num))).toLoadRect (hM.unread X)) bitsLt_bf16_f32)
    (extf .f32 (View.readAt (Elt Ideal) M.view (Rect.unit (s := S256x1024) ![o, 384] S64x128.size (inside ho (by norm_num))).toLoadRect (hM.unread X)) bitsLt_bf16_f32)
    (extf .f32 (View.readAt (Elt Ideal) M.view (Rect.unit (s := S256x1024) ![o, 512] S64x128.size (inside ho (by norm_num))).toLoadRect (hM.unread X)) bitsLt_bf16_f32)
    (extf .f32 (View.readAt (Elt Ideal) M.view (Rect.unit (s := S256x1024) ![o, 640] S64x128.size (inside ho (by norm_num))).toLoadRect (hM.unread X)) bitsLt_bf16_f32)
    (extf .f32 (View.readAt (Elt Ideal) M.view (Rect.unit (s := S256x1024) ![o, 768] S64x128.size (inside ho (by norm_num))).toLoadRect (hM.unread X)) bitsLt_bf16_f32)
    (extf .f32 (View.readAt (Elt Ideal) M.view (Rect.unit (s := S256x1024) ![o, 896] S64x128.size (inside ho (by norm_num))).toLoadRect (hM.unread X)) bitsLt_bf16_f32)

theorem headsB_eq (M : Memref sig .tc .vmem S256x1024 .bf16) (hM : M.IsWhole) (X : Vec Ideal S256x1024 .bf16) (o i : ℕ) (ho : o + 64 ≤ 256) (hi : o = 64 * i) :
    headsB M hM X o ho = part X i := by
  subst hi
  funext j; idx_vars j
  simp only [headsB, View.readAt_eq_ld, Memref.IsWhole.read_unread]
  pointwise [stack, k0_pay4, part]
  blk_point []

theorem read_p (M : Memref sig .tc .vmem S8x256x64 .bf16) (hM : M.IsWhole) (X : Vec Ideal S8x256x64 .bf16) (o i : ℕ) (hi : o = 64 * i) (hi' : i < 4)
    (h : ∀ a, (![0, o, 0] : Fin 3 → ℕ) a + S8x64x64.size a ≤ S8x256x64.size a) :
    View.readAt (Elt Ideal) M.view (Rect.unit (s := S8x256x64) ![0, o, 0] S8x64x64.size h).toLoadRect (hM.unread X) = partP X i := by
  subst hi
  funext j; idx_vars j
  simp only [View.readAt_eq_ld, Memref.IsWhole.read_unread]
  pointwise [partP]
  blk_point []

theorem read_g (M : Memref sig .tc .vmem S8x4x1x1 .f32) (hM : M.IsWhole) (X : Vec Ideal S8x4x1x1 .f32) (i : ℕ) (hi' : i < 4)
    (h : ∀ a, (![0, i, 0, 0] : Fin 4 → ℕ) a + S8x1x1x1.size a ≤ S8x4x1x1.size a) :
    (fun e => View.readAt (Elt Ideal) M.view (Rect.unit (s := S8x4x1x1) ![0, i, 0, 0] S8x1x1x1.size h).toLoadRect (hM.unread X) (ix4 e 0 0 0)) = partG X i := by
  funext e
  simp only [View.readAt_eq_ld, Memref.IsWhole.read_unread]
  pointwise [partG]
  blk_point []

theorem read_s (M : Memref sig .tc .vmem S8x4x128x128 .f32) (hM : M.IsWhole) (X : Vec Ideal S8x4x128x128 .f32) (i : ℕ) (hi' : i < 4)
    (h : ∀ a, (![0, i, 0, 0] : Fin 4 → ℕ) a + S8x1x128x128.size a ≤ S8x4x128x128.size a) :
    k1_pay4 (F := Ideal) (View.readAt (Elt Ideal) M.view (Rect.unit (s := S8x4x128x128) ![0, i, 0, 0] S8x1x128x128.size h).toLoadRect (hM.unread X)) = partS X i := by
  funext j; idx_vars j
  simp only [View.readAt_eq_ld, Memref.IsWhole.read_unread]
  pointwise [k1_pay4, partS]
  simp only [Nat.mod_eq_of_lt hi']

theorem read_whole (M : Memref sig .tc .vmem S8x128x128 .f32) (hM : M.IsWhole) (X : Vec Ideal S8x128x128 .f32)
    (h : ∀ a, (![0, 0, 0] : Fin 3 → ℕ) a + S8x128x128.size a ≤ S8x128x128.size a) :
    View.readAt (Elt Ideal) M.view (Rect.unit (s := S8x128x128) ![0, 0, 0] S8x128x128.size h).toLoadRect (hM.unread X) = X := by
  simp only [View.readAt_eq_ld, Memref.IsWhole.read_unread]
  exact View.ld_unit_lit' h X (by decide)

theorem same_shape (x : FVec Ideal S8x128x128 .f32) : shapeCast S8x128x128 x shapeCasts_S8x128x128_S8x128x128 = x := by
  funext j; pointwise []

end Cert.KernelIdeal.Scan

end
-- ==== Proof.KTiles.lean ====
/- Blocks written tile by tile, read at an index. -/
module

public import proofs.«01_k».proof.Proof.KOps

@[expose] public section

set_option maxRecDepth 16384

noncomputable section

namespace Cert.KernelIdeal.Scan

open Cert.KernelIdeal.Gen Cert.Scan
open Idealize.ShloMosaic Idealize.ShloMosaic.TcCoe Idealize.ShloMosaic.Tactic

/-- One head's rows of a chunk. -/
def head (T : FVec Ideal S8x64x128 .f32) (off : Fin 3 → ℕ) (h : S8x64x128.Slices off S1x64x128) : FVec Ideal S64x128 .f32 :=
  shapeCast S64x128 (extractStridedSlice S1x64x128 off T h) shapeCasts_S1x64x128_S64x128

/-- Four chunks stored in order, head by head. -/
def tilesUp (T0 T1 T2 T3 : FVec Ideal S8x64x128 .f32) : List (View.Piece (Elt Ideal) S256x1024 .f32) :=
  [⟨Rect.unit (s := S256x1024) ![192, 896] S64x128.size inb_S256x1024_S64x128_192_896, head T3 ![7, 0, 0] slices_S8x64x128_o7_0_0_S1x64x128⟩,
    ⟨Rect.unit (s := S256x1024) ![192, 768] S64x128.size inb_S256x1024_S64x128_192_768, head T3 ![6, 0, 0] slices_S8x64x128_o6_0_0_S1x64x128⟩,
    ⟨Rect.unit (s := S256x1024) ![192, 640] S64x128.size inb_S256x1024_S64x128_192_640, head T3 ![5, 0, 0] slices_S8x64x128_o5_0_0_S1x64x128⟩,
    ⟨Rect.unit (s := S256x1024) ![192, 512] S64x128.size inb_S256x1024_S64x128_192_512, head T3 ![4, 0, 0] slices_S8x64x128_o4_0_0_S1x64x128⟩,
    ⟨Rect.unit (s := S256x1024) ![192, 384] S64x128.size inb_S256x1024_S64x128_192_384, head T3 ![3, 0, 0] slices_S8x64x128_o3_0_0_S1x64x128⟩,
    ⟨Rect.unit (s := S256x1024) ![192, 256] S64x128.size inb_S256x1024_S64x128_192_256, head T3 ![2, 0, 0] slices_S8x64x128_o2_0_0_S1x64x128⟩,
    ⟨Rect.unit (s := S256x1024) ![192, 128] S64x128.size inb_S256x1024_S64x128_192_128, head T3 ![1, 0, 0] slices_S8x64x128_o1_0_0_S1x64x128⟩,
    ⟨Rect.unit (s := S256x1024) ![192, 0] S64x128.size inb_S256x1024_S64x128_192_0, head T3 ![0, 0, 0] slices_S8x64x128_o0_0_0_S1x64x128⟩,
    ⟨Rect.unit (s := S256x1024) ![128, 896] S64x128.size inb_S256x1024_S64x128_128_896, head T2 ![7, 0, 0] slices_S8x64x128_o7_0_0_S1x64x128⟩,
    ⟨Rect.unit (s := S256x1024) ![128, 768] S64x128.size inb_S256x1024_S64x128_128_768, head T2 ![6, 0, 0] slices_S8x64x128_o6_0_0_S1x64x128⟩,
    ⟨Rect.unit (s := S256x1024) ![128, 640] S64x128.size inb_S256x1024_S64x128_128_640, head T2 ![5, 0, 0] slices_S8x64x128_o5_0_0_S1x64x128⟩,
    ⟨Rect.unit (s := S256x1024) ![128, 512] S64x128.size inb_S256x1024_S64x128_128_512, head T2 ![4, 0, 0] slices_S8x64x128_o4_0_0_S1x64x128⟩,
    ⟨Rect.unit (s := S256x1024) ![128, 384] S64x128.size inb_S256x1024_S64x128_128_384, head T2 ![3, 0, 0] slices_S8x64x128_o3_0_0_S1x64x128⟩,
    ⟨Rect.unit (s := S256x1024) ![128, 256] S64x128.size inb_S256x1024_S64x128_128_256, head T2 ![2, 0, 0] slices_S8x64x128_o2_0_0_S1x64x128⟩,
    ⟨Rect.unit (s := S256x1024) ![128, 128] S64x128.size inb_S256x1024_S64x128_128_128, head T2 ![1, 0, 0] slices_S8x64x128_o1_0_0_S1x64x128⟩,
    ⟨Rect.unit (s := S256x1024) ![128, 0] S64x128.size inb_S256x1024_S64x128_128_0, head T2 ![0, 0, 0] slices_S8x64x128_o0_0_0_S1x64x128⟩,
    ⟨Rect.unit (s := S256x1024) ![64, 896] S64x128.size inb_S256x1024_S64x128_64_896, head T1 ![7, 0, 0] slices_S8x64x128_o7_0_0_S1x64x128⟩,
    ⟨Rect.unit (s := S256x1024) ![64, 768] S64x128.size inb_S256x1024_S64x128_64_768, head T1 ![6, 0, 0] slices_S8x64x128_o6_0_0_S1x64x128⟩,
    ⟨Rect.unit (s := S256x1024) ![64, 640] S64x128.size inb_S256x1024_S64x128_64_640, head T1 ![5, 0, 0] slices_S8x64x128_o5_0_0_S1x64x128⟩,
    ⟨Rect.unit (s := S256x1024) ![64, 512] S64x128.size inb_S256x1024_S64x128_64_512, head T1 ![4, 0, 0] slices_S8x64x128_o4_0_0_S1x64x128⟩,
    ⟨Rect.unit (s := S256x1024) ![64, 384] S64x128.size inb_S256x1024_S64x128_64_384, head T1 ![3, 0, 0] slices_S8x64x128_o3_0_0_S1x64x128⟩,
    ⟨Rect.unit (s := S256x1024) ![64, 256] S64x128.size inb_S256x1024_S64x128_64_256, head T1 ![2, 0, 0] slices_S8x64x128_o2_0_0_S1x64x128⟩,
    ⟨Rect.unit (s := S256x1024) ![64, 128] S64x128.size inb_S256x1024_S64x128_64_128, head T1 ![1, 0, 0] slices_S8x64x128_o1_0_0_S1x64x128⟩,
    ⟨Rect.unit (s := S256x1024) ![64, 0] S64x128.size inb_S256x1024_S64x128_64_0, head T1 ![0, 0, 0] slices_S8x64x128_o0_0_0_S1x64x128⟩,
    ⟨Rect.unit (s := S256x1024) ![0, 896] S64x128.size inb_S256x1024_S64x128_0_896, head T0 ![7, 0, 0] slices_S8x64x128_o7_0_0_S1x64x128⟩,
    ⟨Rect.unit (s := S256x1024) ![0, 768] S64x128.size inb_S256x1024_S64x128_0_768, head T0 ![6, 0, 0] slices_S8x64x128_o6_0_0_S1x64x128⟩,
    ⟨Rect.unit (s := S256x1024) ![0, 640] S64x128.size inb_S256x1024_S64x128_0_640, head T0 ![5, 0, 0] slices_S8x64x128_o5_0_0_S1x64x128⟩,
    ⟨Rect.unit (s := S256x1024) ![0, 512] S64x128.size inb_S256x1024_S64x128_0_512, head T0 ![4, 0, 0] slices_S8x64x128_o4_0_0_S1x64x128⟩,
    ⟨Rect.unit (s := S256x1024) ![0, 384] S64x128.size inb_S256x1024_S64x128_0_384, head T0 ![3, 0, 0] slices_S8x64x128_o3_0_0_S1x64x128⟩,
    ⟨Rect.unit (s := S256x1024) ![0, 256] S64x128.size inb_S256x1024_S64x128_0_256, head T0 ![2, 0, 0] slices_S8x64x128_o2_0_0_S1x64x128⟩,
    ⟨Rect.unit (s := S256x1024) ![0, 128] S64x128.size inb_S256x1024_S64x128_0_128, head T0 ![1, 0, 0] slices_S8x64x128_o1_0_0_S1x64x128⟩,
    ⟨Rect.unit (s := S256x1024) ![0, 0] S64x128.size inb_S256x1024_S64x128_0_0, head T0 ![0, 0, 0] slices_S8x64x128_o0_0_0_S1x64x128⟩]

theorem tilesUp_apply (T : ℕ → Chunk) (y : S256x1024.Idx) :
    View.canon (tilesUp (T 0) (T 1) (T 2) (T 3)) y
      = T ((y 0).val / 64) (ix3 (⟨(y 1).val / 128, by have h : (y 1).val < 1024 := (y 1).isLt; omega⟩ : Fin 8) (⟨(y 0).val % 64, Nat.mod_lt _ (by norm_num)⟩ : Fin 64)
        (⟨(y 1).val % 128, Nat.mod_lt _ (by norm_num)⟩ : Fin 128)) := by
  idx_vars y
  unfold tilesUp
  canon_tiles x h

  all_goals
    first
    | (have e : (y0 : ℕ) / 64 = 0 := by (simp only [ix2_0] at h0; omega)
       simp only [ix2_0, ix2_1] at h0 h1
       simp only [ix2_0, e]
       pointwise [head]; blk_ext)
    | (have e : (y0 : ℕ) / 64 = 1 := by (simp only [ix2_0] at h0; omega)
       simp only [ix2_0, ix2_1] at h0 h1
       simp only [ix2_0, e]
       pointwise [head]; blk_ext)
    | (have e : (y0 : ℕ) / 64 = 2 := by (simp only [ix2_0] at h0; omega)
       simp only [ix2_0, ix2_1] at h0 h1
       simp only [ix2_0, e]
       pointwise [head]; blk_ext)
    | (have e : (y0 : ℕ) / 64 = 3 := by (simp only [ix2_0] at h0; omega)
       simp only [ix2_0, ix2_1] at h0 h1
       simp only [ix2_0, e]
       pointwise [head]; blk_ext)

/-- Four chunks stored from the last to the first, head by head. -/
def tilesDown (T0 T1 T2 T3 : FVec Ideal S8x64x128 .f32) : List (View.Piece (Elt Ideal) S256x1024 .f32) :=
  [⟨Rect.unit (s := S256x1024) ![0, 896] S64x128.size inb_S256x1024_S64x128_0_896, head T0 ![7, 0, 0] slices_S8x64x128_o7_0_0_S1x64x128⟩,
    ⟨Rect.unit (s := S256x1024) ![0, 768] S64x128.size inb_S256x1024_S64x128_0_768, head T0 ![6, 0, 0] slices_S8x64x128_o6_0_0_S1x64x128⟩,
    ⟨Rect.unit (s := S256x1024) ![0, 640] S64x128.size inb_S256x1024_S64x128_0_640, head T0 ![5, 0, 0] slices_S8x64x128_o5_0_0_S1x64x128⟩,
    ⟨Rect.unit (s := S256x1024) ![0, 512] S64x128.size inb_S256x1024_S64x128_0_512, head T0 ![4, 0, 0] slices_S8x64x128_o4_0_0_S1x64x128⟩,
    ⟨Rect.unit (s := S256x1024) ![0, 384] S64x128.size inb_S256x1024_S64x128_0_384, head T0 ![3, 0, 0] slices_S8x64x128_o3_0_0_S1x64x128⟩,
    ⟨Rect.unit (s := S256x1024) ![0, 256] S64x128.size inb_S256x1024_S64x128_0_256, head T0 ![2, 0, 0] slices_S8x64x128_o2_0_0_S1x64x128⟩,
    ⟨Rect.unit (s := S256x1024) ![0, 128] S64x128.size inb_S256x1024_S64x128_0_128, head T0 ![1, 0, 0] slices_S8x64x128_o1_0_0_S1x64x128⟩,
    ⟨Rect.unit (s := S256x1024) ![0, 0] S64x128.size inb_S256x1024_S64x128_0_0, head T0 ![0, 0, 0] slices_S8x64x128_o0_0_0_S1x64x128⟩,
    ⟨Rect.unit (s := S256x1024) ![64, 896] S64x128.size inb_S256x1024_S64x128_64_896, head T1 ![7, 0, 0] slices_S8x64x128_o7_0_0_S1x64x128⟩,
    ⟨Rect.unit (s := S256x1024) ![64, 768] S64x128.size inb_S256x1024_S64x128_64_768, head T1 ![6, 0, 0] slices_S8x64x128_o6_0_0_S1x64x128⟩,
    ⟨Rect.unit (s := S256x1024) ![64, 640] S64x128.size inb_S256x1024_S64x128_64_640, head T1 ![5, 0, 0] slices_S8x64x128_o5_0_0_S1x64x128⟩,
    ⟨Rect.unit (s := S256x1024) ![64, 512] S64x128.size inb_S256x1024_S64x128_64_512, head T1 ![4, 0, 0] slices_S8x64x128_o4_0_0_S1x64x128⟩,
    ⟨Rect.unit (s := S256x1024) ![64, 384] S64x128.size inb_S256x1024_S64x128_64_384, head T1 ![3, 0, 0] slices_S8x64x128_o3_0_0_S1x64x128⟩,
    ⟨Rect.unit (s := S256x1024) ![64, 256] S64x128.size inb_S256x1024_S64x128_64_256, head T1 ![2, 0, 0] slices_S8x64x128_o2_0_0_S1x64x128⟩,
    ⟨Rect.unit (s := S256x1024) ![64, 128] S64x128.size inb_S256x1024_S64x128_64_128, head T1 ![1, 0, 0] slices_S8x64x128_o1_0_0_S1x64x128⟩,
    ⟨Rect.unit (s := S256x1024) ![64, 0] S64x128.size inb_S256x1024_S64x128_64_0, head T1 ![0, 0, 0] slices_S8x64x128_o0_0_0_S1x64x128⟩,
    ⟨Rect.unit (s := S256x1024) ![128, 896] S64x128.size inb_S256x1024_S64x128_128_896, head T2 ![7, 0, 0] slices_S8x64x128_o7_0_0_S1x64x128⟩,
    ⟨Rect.unit (s := S256x1024) ![128, 768] S64x128.size inb_S256x1024_S64x128_128_768, head T2 ![6, 0, 0] slices_S8x64x128_o6_0_0_S1x64x128⟩,
    ⟨Rect.unit (s := S256x1024) ![128, 640] S64x128.size inb_S256x1024_S64x128_128_640, head T2 ![5, 0, 0] slices_S8x64x128_o5_0_0_S1x64x128⟩,
    ⟨Rect.unit (s := S256x1024) ![128, 512] S64x128.size inb_S256x1024_S64x128_128_512, head T2 ![4, 0, 0] slices_S8x64x128_o4_0_0_S1x64x128⟩,
    ⟨Rect.unit (s := S256x1024) ![128, 384] S64x128.size inb_S256x1024_S64x128_128_384, head T2 ![3, 0, 0] slices_S8x64x128_o3_0_0_S1x64x128⟩,
    ⟨Rect.unit (s := S256x1024) ![128, 256] S64x128.size inb_S256x1024_S64x128_128_256, head T2 ![2, 0, 0] slices_S8x64x128_o2_0_0_S1x64x128⟩,
    ⟨Rect.unit (s := S256x1024) ![128, 128] S64x128.size inb_S256x1024_S64x128_128_128, head T2 ![1, 0, 0] slices_S8x64x128_o1_0_0_S1x64x128⟩,
    ⟨Rect.unit (s := S256x1024) ![128, 0] S64x128.size inb_S256x1024_S64x128_128_0, head T2 ![0, 0, 0] slices_S8x64x128_o0_0_0_S1x64x128⟩,
    ⟨Rect.unit (s := S256x1024) ![192, 896] S64x128.size inb_S256x1024_S64x128_192_896, head T3 ![7, 0, 0] slices_S8x64x128_o7_0_0_S1x64x128⟩,
    ⟨Rect.unit (s := S256x1024) ![192, 768] S64x128.size inb_S256x1024_S64x128_192_768, head T3 ![6, 0, 0] slices_S8x64x128_o6_0_0_S1x64x128⟩,
    ⟨Rect.unit (s := S256x1024) ![192, 640] S64x128.size inb_S256x1024_S64x128_192_640, head T3 ![5, 0, 0] slices_S8x64x128_o5_0_0_S1x64x128⟩,
    ⟨Rect.unit (s := S256x1024) ![192, 512] S64x128.size inb_S256x1024_S64x128_192_512, head T3 ![4, 0, 0] slices_S8x64x128_o4_0_0_S1x64x128⟩,
    ⟨Rect.unit (s := S256x1024) ![192, 384] S64x128.size inb_S256x1024_S64x128_192_384, head T3 ![3, 0, 0] slices_S8x64x128_o3_0_0_S1x64x128⟩,
    ⟨Rect.unit (s := S256x1024) ![192, 256] S64x128.size inb_S256x1024_S64x128_192_256, head T3 ![2, 0, 0] slices_S8x64x128_o2_0_0_S1x64x128⟩,
    ⟨Rect.unit (s := S256x1024) ![192, 128] S64x128.size inb_S256x1024_S64x128_192_128, head T3 ![1, 0, 0] slices_S8x64x128_o1_0_0_S1x64x128⟩,
    ⟨Rect.unit (s := S256x1024) ![192, 0] S64x128.size inb_S256x1024_S64x128_192_0, head T3 ![0, 0, 0] slices_S8x64x128_o0_0_0_S1x64x128⟩]

theorem tilesDown_apply (T : ℕ → Chunk) (y : S256x1024.Idx) :
    View.canon (tilesDown (T 0) (T 1) (T 2) (T 3)) y
      = T ((y 0).val / 64) (ix3 (⟨(y 1).val / 128, by have h : (y 1).val < 1024 := (y 1).isLt; omega⟩ : Fin 8) (⟨(y 0).val % 64, Nat.mod_lt _ (by norm_num)⟩ : Fin 64)
        (⟨(y 1).val % 128, Nat.mod_lt _ (by norm_num)⟩ : Fin 128)) := by
  idx_vars y
  unfold tilesDown
  canon_tiles x h

  all_goals
    first
    | (have e : (y0 : ℕ) / 64 = 0 := by (simp only [ix2_0] at h0; omega)
       simp only [ix2_0, ix2_1] at h0 h1
       simp only [ix2_0, e]
       pointwise [head]; blk_ext)
    | (have e : (y0 : ℕ) / 64 = 1 := by (simp only [ix2_0] at h0; omega)
       simp only [ix2_0, ix2_1] at h0 h1
       simp only [ix2_0, e]
       pointwise [head]; blk_ext)
    | (have e : (y0 : ℕ) / 64 = 2 := by (simp only [ix2_0] at h0; omega)
       simp only [ix2_0, ix2_1] at h0 h1
       simp only [ix2_0, e]
       pointwise [head]; blk_ext)
    | (have e : (y0 : ℕ) / 64 = 3 := by (simp only [ix2_0] at h0; omega)
       simp only [ix2_0, ix2_1] at h0 h1
       simp only [ix2_0, e]
       pointwise [head]; blk_ext)

/-- Four chunks' products stored from the last to the first. -/
def squares (T0 T1 T2 T3 : FVec Ideal S8x64x64 .f32) : List (View.Piece (Elt Ideal) S8x256x64 .f32) :=
  [⟨Rect.unit (s := S8x256x64) ![0, 0, 0] S8x64x64.size inb_S8x256x64_S8x64x64_0_0_0, T0⟩,
    ⟨Rect.unit (s := S8x256x64) ![0, 64, 0] S8x64x64.size inb_S8x256x64_S8x64x64_0_64_0, T1⟩,
    ⟨Rect.unit (s := S8x256x64) ![0, 128, 0] S8x64x64.size inb_S8x256x64_S8x64x64_0_128_0, T2⟩,
    ⟨Rect.unit (s := S8x256x64) ![0, 192, 0] S8x64x64.size inb_S8x256x64_S8x64x64_0_192_0, T3⟩]

theorem squares_apply (T : ℕ → Square) (y : S8x256x64.Idx) :
    View.canon (squares (T 0) (T 1) (T 2) (T 3)) y
      = T ((y 1).val / 64) (ix3 (⟨(y 0).val, (y 0).isLt⟩ : Fin 8) (⟨(y 1).val % 64, Nat.mod_lt _ (by norm_num)⟩ : Fin 64) (⟨(y 2).val, (y 2).isLt⟩ : Fin 64)) := by
  idx_vars y
  unfold squares
  canon_tiles x h
  all_goals
    first
    | (have e : (y1 : ℕ) / 64 = 0 := by (simp only [ix3_1] at h1; omega)
       simp only [ix3_0, ix3_1, ix3_2] at h0 h1 h2
       simp only [ix3_1, e]
       blk_ext)
    | (have e : (y1 : ℕ) / 64 = 1 := by (simp only [ix3_1] at h1; omega)
       simp only [ix3_0, ix3_1, ix3_2] at h0 h1 h2
       simp only [ix3_1, e]
       blk_ext)
    | (have e : (y1 : ℕ) / 64 = 2 := by (simp only [ix3_1] at h1; omega)
       simp only [ix3_0, ix3_1, ix3_2] at h0 h1 h2
       simp only [ix3_1, e]
       blk_ext)
    | (have e : (y1 : ℕ) / 64 = 3 := by (simp only [ix3_1] at h1; omega)
       simp only [ix3_0, ix3_1, ix3_2] at h0 h1 h2
       simp only [ix3_1, e]
       blk_ext)

/-- Four chunks' decay gradients stored from the last to the first. -/
def decays (T0 T1 T2 T3 : FVec Ideal S8x1x1 .f32) : List (View.Piece (Elt Ideal) S8x4x1x1 .f32) :=
  [⟨Rect.unit (s := S8x4x1x1) ![0, 0, 0, 0] S8x1x1x1.size inb_S8x4x1x1_S8x1x1x1_0_0_0_0, shapeCast S8x1x1x1 T0 shapeCasts_S8x1x1_S8x1x1x1⟩,
    ⟨Rect.unit (s := S8x4x1x1) ![0, 1, 0, 0] S8x1x1x1.size inb_S8x4x1x1_S8x1x1x1_0_1_0_0, shapeCast S8x1x1x1 T1 shapeCasts_S8x1x1_S8x1x1x1⟩,
    ⟨Rect.unit (s := S8x4x1x1) ![0, 2, 0, 0] S8x1x1x1.size inb_S8x4x1x1_S8x1x1x1_0_2_0_0, shapeCast S8x1x1x1 T2 shapeCasts_S8x1x1_S8x1x1x1⟩,
    ⟨Rect.unit (s := S8x4x1x1) ![0, 3, 0, 0] S8x1x1x1.size inb_S8x4x1x1_S8x1x1x1_0_3_0_0, shapeCast S8x1x1x1 T3 shapeCasts_S8x1x1_S8x1x1x1⟩]

theorem decays_apply (T : ℕ → Fin 8 → EReal) (y : S8x4x1x1.Idx) :
    View.canon (decays (fun j => T 0 (j 0)) (fun j => T 1 (j 0)) (fun j => T 2 (j 0)) (fun j => T 3 (j 0))) y
      = T (y 1).val ⟨(y 0).val, (y 0).isLt⟩ := by
  idx_vars y
  unfold decays
  canon_tiles x h
  all_goals
    first
    | (have e : (y1 : ℕ) = 0 := by (simp only [ix4_1] at h1; omega)
       simp only [ix4_0, ix4_1] at h0 h1
       simp only [ix4_1, e]
       pointwise; refine congrArg _ (Fin.ext ?_); simp only [ix4_0, h0])
    | (have e : (y1 : ℕ) = 1 := by (simp only [ix4_1] at h1; omega)
       simp only [ix4_0, ix4_1] at h0 h1
       simp only [ix4_1, e]
       pointwise; refine congrArg _ (Fin.ext ?_); simp only [ix4_0, h0])
    | (have e : (y1 : ℕ) = 2 := by (simp only [ix4_1] at h1; omega)
       simp only [ix4_0, ix4_1] at h0 h1
       simp only [ix4_1, e]
       pointwise; refine congrArg _ (Fin.ext ?_); simp only [ix4_0, h0])
    | (have e : (y1 : ℕ) = 3 := by (simp only [ix4_1] at h1; omega)
       simp only [ix4_0, ix4_1] at h0 h1
       simp only [ix4_1, e]
       pointwise; refine congrArg _ (Fin.ext ?_); simp only [ix4_0, h0])

/-- Four chunks' states stored in order. -/
def states (T0 T1 T2 T3 : FVec Ideal S8x128x128 .f32) : List (View.Piece (Elt Ideal) S8x4x128x128 .f32) :=
  [⟨Rect.unit (s := S8x4x128x128) ![0, 3, 0, 0] S8x1x128x128.size inb_S8x4x128x128_S8x1x128x128_0_3_0_0, shapeCast S8x1x128x128 T3 shapeCasts_S8x128x128_S8x1x128x128⟩,
    ⟨Rect.unit (s := S8x4x128x128) ![0, 2, 0, 0] S8x1x128x128.size inb_S8x4x128x128_S8x1x128x128_0_2_0_0, shapeCast S8x1x128x128 T2 shapeCasts_S8x128x128_S8x1x128x128⟩,
    ⟨Rect.unit (s := S8x4x128x128) ![0, 1, 0, 0] S8x1x128x128.size inb_S8x4x128x128_S8x1x128x128_0_1_0_0, shapeCast S8x1x128x128 T1 shapeCasts_S8x128x128_S8x1x128x128⟩,
    ⟨Rect.unit (s := S8x4x128x128) ![0, 0, 0, 0] S8x1x128x128.size inb_S8x4x128x128_S8x1x128x128_0_0_0_0, shapeCast S8x1x128x128 T0 shapeCasts_S8x128x128_S8x1x128x128⟩]

theorem states_apply (T : ℕ → State) (y : S8x4x128x128.Idx) :
    View.canon (states (T 0) (T 1) (T 2) (T 3)) y
      = T (y 1).val (ix3 (⟨(y 0).val, (y 0).isLt⟩ : Fin 8) (⟨(y 2).val, (y 2).isLt⟩ : Fin 128) (⟨(y 3).val, (y 3).isLt⟩ : Fin 128)) := by
  idx_vars y
  unfold states
  canon_tiles x h
  all_goals
    first
    | (have e : (y1 : ℕ) = 3 := by (simp only [ix4_1] at h1; omega)
       simp only [ix4_0, ix4_1, ix4_2, ix4_3] at h0 h1 h2 h3
       simp only [ix4_1, e]
       pointwise; blk_ext)
    | (have e : (y1 : ℕ) = 2 := by (simp only [ix4_1] at h1; omega)
       simp only [ix4_0, ix4_1, ix4_2, ix4_3] at h0 h1 h2 h3
       simp only [ix4_1, e]
       pointwise; blk_ext)
    | (have e : (y1 : ℕ) = 1 := by (simp only [ix4_1] at h1; omega)
       simp only [ix4_0, ix4_1, ix4_2, ix4_3] at h0 h1 h2 h3
       simp only [ix4_1, e]
       pointwise; blk_ext)
    | (have e : (y1 : ℕ) = 0 := by (simp only [ix4_1] at h1; omega)
       simp only [ix4_0, ix4_1, ix4_2, ix4_3] at h0 h1 h2 h3
       simp only [ix4_1, e]
       pointwise; blk_ext)

end Cert.KernelIdeal.Scan

end
-- ==== Proof.BwdChunk.lean ====
/- The backward scan at one grid point: its four chunks, last to first, each as its loads and operations leave it. -/
module

public import proofs.«01_k».proof.Proof.BwdBody
public import proofs.«01_k».proof.Proof.KOps
public import proofs.«01_k».proof.Proof.KTiles

@[expose] public section

set_option maxRecDepth 16384

noncomputable section

namespace Cert.KernelIdeal.Bwd

open Cert.KernelIdeal.Gen Cert.Scan Cert.KernelIdeal.Scan
open Idealize.ShloMosaic Idealize.ShloMosaic.TcCoe Idealize.ShloMosaic.Tactic

/- The blocks, the windows they lie in, and that a chunk's piece lies in its block. -/
abbrev BlF := Vec Ideal S256x1024 .f32
abbrev WiF := Memref sig .tc .vmem S256x1024 .f32
abbrev BlB := Vec Ideal S256x1024 .bf16
abbrev WiB := Memref sig .tc .vmem S256x1024 .bf16
abbrev BlP := Vec Ideal S8x256x64 .bf16
abbrev WiP := Memref sig .tc .vmem S8x256x64 .bf16
abbrev BlG := Vec Ideal S8x4x1x1 .f32
abbrev WiG := Memref sig .tc .vmem S8x4x1x1 .f32
abbrev BlS := Vec Ideal S8x4x128x128 .f32
abbrev WiS := Memref sig .tc .vmem S8x4x128x128 .f32
abbrev InG (i : ℕ) : Prop := ∀ a, (![0, i, 0, 0] : Fin 4 → ℕ) a + S8x1x1x1.size a ≤ S8x4x1x1.size a
abbrev InP (o : ℕ) : Prop := ∀ a, (![0, o, 0] : Fin 3 → ℕ) a + S8x64x64.size a ≤ S8x256x64.size a
abbrev InS (i : ℕ) : Prop := ∀ a, (![0, i, 0, 0] : Fin 4 → ℕ) a + S8x1x128x128.size a ≤ S8x4x128x128.size a

/-- The state's gradient after the last `n` chunks of a block that is entered with gradient `D`. -/
def bd (D : State) (x0 : BlF) (x1 : BlB) (x2 : BlP) (x3 : BlB) (x4 : BlB) (x5 : BlG) (x6 : BlS) (x7 : BlF) : ℕ → State
  | 0 => D
  | n + 1 => prev (bd D x0 x1 x2 x3 x4 x5 x6 x7 n) (part x3 (3 - n)) (part x1 (3 - n)) (part x7 (3 - n))
      (minus (dV (bd D x0 x1 x2 x3 x4 x5 x6 x7 n) (part x4 (3 - n)) (partP x2 (3 - n)) (part x7 (3 - n)))) (partG x5 (3 - n))

/-- In a block entered with gradient `D`, the gradient of u of chunk `i`. -/
def bU (D : State) (x0 : BlF) (x1 : BlB) (x2 : BlP) (x3 : BlB) (x4 : BlB) (x5 : BlG) (x6 : BlS) (x7 : BlF) (i : ℕ) : Chunk :=
  dV (bd D x0 x1 x2 x3 x4 x5 x6 x7 (3 - i)) (part x4 i) (partP x2 i) (part x7 i)

/-- In a block entered with gradient `D`, the gradient of w of chunk `i`. -/
def bW (D : State) (x0 : BlF) (x1 : BlB) (x2 : BlP) (x3 : BlB) (x4 : BlB) (x5 : BlG) (x6 : BlS) (x7 : BlF) (i : ℕ) : Chunk :=
  timesT (partS x6 i) (minus (dV (bd D x0 x1 x2 x3 x4 x5 x6 x7 (3 - i)) (part x4 i) (partP x2 i) (part x7 i)))

/-- In a block entered with gradient `D`, the gradient of p of chunk `i`. -/
def bP (D : State) (x0 : BlF) (x1 : BlB) (x2 : BlP) (x3 : BlB) (x4 : BlB) (x5 : BlG) (x6 : BlS) (x7 : BlF) (i : ℕ) : Square :=
  rows (part x7 i) (newV (partS x6 i) (part x0 i) (part x1 i))

/-- In a block entered with gradient `D`, the gradient of qd of chunk `i`. -/
def bQ (D : State) (x0 : BlF) (x1 : BlB) (x2 : BlP) (x3 : BlB) (x4 : BlB) (x5 : BlG) (x6 : BlS) (x7 : BlF) (i : ℕ) : Chunk :=
  timesT (partS x6 i) (part x7 i)

/-- In a block entered with gradient `D`, the gradient of kd of chunk `i`. -/
def bK (D : State) (x0 : BlF) (x1 : BlB) (x2 : BlP) (x3 : BlB) (x4 : BlB) (x5 : BlG) (x6 : BlS) (x7 : BlF) (i : ℕ) : Chunk :=
  timesT (bd D x0 x1 x2 x3 x4 x5 x6 x7 (3 - i)) (newV (partS x6 i) (part x0 i) (part x1 i))

/-- In a block entered with gradient `D`, the gradient of the decay's exponent of chunk `i`. -/
def bG (D : State) (x0 : BlF) (x1 : BlB) (x2 : BlP) (x3 : BlB) (x4 : BlB) (x5 : BlG) (x6 : BlS) (x7 : BlF) (i : ℕ) : Fin 8 → EReal :=
  dG (partS x6 i) (bd D x0 x1 x2 x3 x4 x5 x6 x7 (3 - i)) (partG x5 i)

theorem bf_p (x : Vec Ideal S8x64x64 .bf16) : k1_pay10 (F := Ideal) x = x := by
  funext j; pointwise [k1_pay10]

theorem zeroGrad : k1_pay3 (F := Ideal) = fun _ => (0 : EReal) := by
  funext j; pointwise [k1_pay3]

/-- The gradient of the state before the chunk as the loads and operations give it: chunk `i` of the block starts at row `o`. -/
def rawPrev (M3 : WiB) (h3 : M3.IsWhole) (M4 : WiP) (h4 : M4.IsWhole) (M5 : WiB) (h5 : M5.IsWhole) (M6 : WiB) (h6 : M6.IsWhole) (M7 : WiG) (h7 : M7.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o)  : FVec Ideal S8x128x128 .f32 :=
  k1_pay34 (F := Ideal) (headsB M3 h3 x1 o ho) (k1_pay10 (F := Ideal) (View.readAt (Elt Ideal) M4.view (Rect.unit (s := S8x256x64) ![0, o, 0] S8x64x64.size hp).toLoadRect (h4.unread x2))) (headsB M5 h5 x3 o ho) (headsF M9 h9 x7 o ho) (k1_pay25 (F := Ideal) (headsB M6 h6 x4 o ho) D) (k1_pay27 (F := Ideal) (View.readAt (Elt Ideal) M7.view (Rect.unit (s := S8x4x1x1) ![0, i, 0, 0] S8x1x1x1.size hg).toLoadRect (h7.unread x5)) D)

theorem rawPrev_eq (M3 : WiB) (h3 : M3.IsWhole) (M4 : WiP) (h4 : M4.IsWhole) (M5 : WiB) (h5 : M5.IsWhole) (M6 : WiB) (h6 : M6.IsWhole) (M7 : WiG) (h7 : M7.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o)  (hi : o = 64 * i) (hj : i < 4) :
    rawPrev M3 h3 M4 h4 M5 h5 M6 h6 M7 h7 M9 h9 x0 x1 x2 x3 x4 x5 x6 x7 D o i ho hg hp = prev D (part x3 i) (part x1 i) (part x7 i) (minus (dV D (part x4 i) (partP x2 i) (part x7 i))) (partG x5 i) := by
  unfold rawPrev
  simp only [pay1_prev, bf_p, headsF_eq _ _ _ _ i ho hi, headsB_eq _ _ _ _ i ho hi, read_g _ _ _ i hj, read_p _ _ _ o i hi hj, read_s _ _ _ i hj]

/-- The gradient of u as the loads and operations give it: chunk `i` of the block starts at row `o`. -/
def rawU (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) : FVec Ideal S8x64x128 .f32 :=
  k1_pay30 (F := Ideal) (k1_pay10 (F := Ideal) (View.readAt (Elt Ideal) M4.view (Rect.unit (s := S8x256x64) ![0, o, 0] S8x64x64.size hp).toLoadRect (h4.unread x2))) (headsF M9 h9 x7 o ho) (k1_pay25 (F := Ideal) (headsB M6 h6 x4 o ho) D)

theorem rawU_eq (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) (hi : o = 64 * i) (hj : i < 4) :
    rawU M2 h2 M3 h3 M4 h4 M5 h5 M6 h6 M7 h7 M8 h8 M9 h9 x0 x1 x2 x3 x4 x5 x6 x7 D o i ho hg hp hs = dV D (part x4 i) (partP x2 i) (part x7 i) := by
  unfold rawU
  simp only [pay1_dv, bf_p, headsF_eq _ _ _ _ i ho hi, headsB_eq _ _ _ _ i ho hi, read_g _ _ _ i hj, read_p _ _ _ o i hi hj, read_s _ _ _ i hj]

/-- The gradient of w as the loads and operations give it: chunk `i` of the block starts at row `o`. -/
def rawW (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) : FVec Ideal S8x64x128 .f32 :=
  k1_pay33 (F := Ideal) (k1_pay4 (F := Ideal) (View.readAt (Elt Ideal) M8.view (Rect.unit (s := S8x4x128x128) ![0, i, 0, 0] S8x1x128x128.size hs).toLoadRect (h8.unread x6))) (k1_pay10 (F := Ideal) (View.readAt (Elt Ideal) M4.view (Rect.unit (s := S8x256x64) ![0, o, 0] S8x64x64.size hp).toLoadRect (h4.unread x2))) (headsF M9 h9 x7 o ho) (k1_pay25 (F := Ideal) (headsB M6 h6 x4 o ho) D)

theorem rawW_eq (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) (hi : o = 64 * i) (hj : i < 4) :
    rawW M2 h2 M3 h3 M4 h4 M5 h5 M6 h6 M7 h7 M8 h8 M9 h9 x0 x1 x2 x3 x4 x5 x6 x7 D o i ho hg hp hs = timesT (partS x6 i) (minus (dV D (part x4 i) (partP x2 i) (part x7 i))) := by
  unfold rawW
  simp only [pay1_dw, bf_p, headsF_eq _ _ _ _ i ho hi, headsB_eq _ _ _ _ i ho hi, read_g _ _ _ i hj, read_p _ _ _ o i hi hj, read_s _ _ _ i hj]

/-- The gradient of p as the loads and operations give it: chunk `i` of the block starts at row `o`. -/
def rawP (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) : FVec Ideal S8x64x64 .f32 :=
  k1_pay29 (F := Ideal) (k1_pay19 (F := Ideal) (k1_pay4 (F := Ideal) (View.readAt (Elt Ideal) M8.view (Rect.unit (s := S8x4x128x128) ![0, i, 0, 0] S8x1x128x128.size hs).toLoadRect (h8.unread x6))) (headsF M2 h2 x0 o ho) (headsB M3 h3 x1 o ho)) (headsF M9 h9 x7 o ho)

theorem rawP_eq (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) (hi : o = 64 * i) (hj : i < 4) :
    rawP M2 h2 M3 h3 M4 h4 M5 h5 M6 h6 M7 h7 M8 h8 M9 h9 x0 x1 x2 x3 x4 x5 x6 x7 D o i ho hg hp hs = rows (part x7 i) (newV (partS x6 i) (part x0 i) (part x1 i)) := by
  unfold rawP
  simp only [pay1_dp, pay1_value, bf_p, headsF_eq _ _ _ _ i ho hi, headsB_eq _ _ _ _ i ho hi, read_g _ _ _ i hj, read_p _ _ _ o i hi hj, read_s _ _ _ i hj]

/-- The gradient of qd as the loads and operations give it: chunk `i` of the block starts at row `o`. -/
def rawQ (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) : FVec Ideal S8x64x128 .f32 :=
  k1_pay31 (F := Ideal) (k1_pay4 (F := Ideal) (View.readAt (Elt Ideal) M8.view (Rect.unit (s := S8x4x128x128) ![0, i, 0, 0] S8x1x128x128.size hs).toLoadRect (h8.unread x6))) (headsF M9 h9 x7 o ho)

theorem rawQ_eq (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) (hi : o = 64 * i) (hj : i < 4) :
    rawQ M2 h2 M3 h3 M4 h4 M5 h5 M6 h6 M7 h7 M8 h8 M9 h9 x0 x1 x2 x3 x4 x5 x6 x7 D o i ho hg hp hs = timesT (partS x6 i) (part x7 i) := by
  unfold rawQ
  simp only [pay1_dq, bf_p, headsF_eq _ _ _ _ i ho hi, headsB_eq _ _ _ _ i ho hi, read_g _ _ _ i hj, read_p _ _ _ o i hi hj, read_s _ _ _ i hj]

/-- The gradient of kd as the loads and operations give it: chunk `i` of the block starts at row `o`. -/
def rawK (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) : FVec Ideal S8x64x128 .f32 :=
  k1_pay24 (F := Ideal) (k1_pay4 (F := Ideal) (View.readAt (Elt Ideal) M8.view (Rect.unit (s := S8x4x128x128) ![0, i, 0, 0] S8x1x128x128.size hs).toLoadRect (h8.unread x6))) (headsF M2 h2 x0 o ho) (headsB M3 h3 x1 o ho) D

theorem rawK_eq (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) (hi : o = 64 * i) (hj : i < 4) :
    rawK M2 h2 M3 h3 M4 h4 M5 h5 M6 h6 M7 h7 M8 h8 M9 h9 x0 x1 x2 x3 x4 x5 x6 x7 D o i ho hg hp hs = timesT D (newV (partS x6 i) (part x0 i) (part x1 i)) := by
  unfold rawK
  simp only [pay1_dk, bf_p, headsF_eq _ _ _ _ i ho hi, headsB_eq _ _ _ _ i ho hi, read_g _ _ _ i hj, read_p _ _ _ o i hi hj, read_s _ _ _ i hj]

/-- The gradient of the decay's exponent as the loads and operations give it: chunk `i` of the block starts at row `o`. -/
def rawG (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) : FVec Ideal S8x1x1 .f32 :=
  k1_pay28 (F := Ideal) (k1_pay20 (F := Ideal) (View.readAt (Elt Ideal) M7.view (Rect.unit (s := S8x4x1x1) ![0, i, 0, 0] S8x1x1x1.size hg).toLoadRect (h7.unread x5))) (k1_pay26 (F := Ideal) (k1_pay4 (F := Ideal) (View.readAt (Elt Ideal) M8.view (Rect.unit (s := S8x4x128x128) ![0, i, 0, 0] S8x1x128x128.size hs).toLoadRect (h8.unread x6))) D)

theorem rawG_eq (M2 : WiF) (h2 : M2.IsWhole) (M3 : WiB) (h3 : M3.IsWhole) (M4 : WiP) (h4 : M4.IsWhole) (M5 : WiB) (h5 : M5.IsWhole) (M6 : WiB) (h6 : M6.IsWhole) (M7 : WiG) (h7 : M7.IsWhole) (M8 : WiS) (h8 : M8.IsWhole) (M9 : WiF) (h9 : M9.IsWhole)
    (x0 : BlF) (x1 : BlB) (x2 : BlP) (x3 : BlB) (x4 : BlB) (x5 : BlG) (x6 : BlS) (x7 : BlF) (D : FVec Ideal S8x128x128 .f32) (o i : ℕ) (ho : o + 64 ≤ 256) (hg : InG i) (hp : InP o) (hs : InS i) (hi : o = 64 * i) (hj : i < 4) :
    rawG M2 h2 M3 h3 M4 h4 M5 h5 M6 h6 M7 h7 M8 h8 M9 h9 x0 x1 x2 x3 x4 x5 x6 x7 D o i ho hg hp hs = (fun j => dG (partS x6 i) D (partG x5 i) (j 0)) := by
  unfold rawG
  simp only [pay1_dg, bf_p, headsF_eq _ _ _ _ i ho hi, headsB_eq _ _ _ _ i ho hi, read_g _ _ _ i hj, read_p _ _ _ o i hi hj, read_s _ _ _ i hj]

/-- A block's four chunks put together, each from the gradient that enters it; the last chunk comes first. -/
def four {α β : Type} (f : FVec Ideal S8x128x128 .f32 → (o i : ℕ) → o + 64 ≤ 256 → InG i → InP o → InS i → α) (put : α → α → α → α → β)
    (D0 D1 D2 D3 : FVec Ideal S8x128x128 .f32) : β :=
  put (f D3 0 0 (by norm_num) inb_S8x4x1x1_S8x1x1x1_0_0_0_0 inb_S8x256x64_S8x64x64_0_0_0 inb_S8x4x128x128_S8x1x128x128_0_0_0_0)
    (f D2 64 1 (by norm_num) inb_S8x4x1x1_S8x1x1x1_0_1_0_0 inb_S8x256x64_S8x64x64_0_64_0 inb_S8x4x128x128_S8x1x128x128_0_1_0_0)
    (f D1 128 2 (by norm_num) inb_S8x4x1x1_S8x1x1x1_0_2_0_0 inb_S8x256x64_S8x64x64_0_128_0 inb_S8x4x128x128_S8x1x128x128_0_2_0_0)
    (f D0 192 3 (by norm_num) inb_S8x4x1x1_S8x1x1x1_0_3_0_0 inb_S8x256x64_S8x64x64_0_192_0 inb_S8x4x128x128_S8x1x128x128_0_3_0_0)

theorem four_eq {α β : Type} {f : FVec Ideal S8x128x128 .f32 → (o i : ℕ) → o + 64 ≤ 256 → InG i → InP o → InS i → α} {g : FVec Ideal S8x128x128 .f32 → ℕ → α}
    (h : ∀ D o i ho hg hp hs, o = 64 * i → i < 4 → f D o i ho hg hp hs = g D i) (put : α → α → α → α → β) (D0 D1 D2 D3 : FVec Ideal S8x128x128 .f32) :
    four f put D0 D1 D2 D3 = put (g D3 0) (g D2 1) (g D1 2) (g D0 3) := by
  unfold four
  rw [h _ 0 0 _ _ _ _ rfl (by norm_num), h _ 64 1 _ _ _ _ rfl (by norm_num), h _ 128 2 _ _ _ _ rfl (by norm_num), h _ 192 3 _ _ _ _ rfl (by norm_num)]

end Cert.KernelIdeal.Bwd

end
-- ==== Proof.BwdValA.lean ====
/- The backward scan's run at the first grid point: gradients of its four chunks. -/
module

public import proofs.«01_k».proof.Proof.BwdChunk
public import proofs.«01_k».proof.Proof.BwdBody
public import proofs.«01_k».proof.Proof.KTiles

@[expose] public section

set_option maxRecDepth 16384

noncomputable section

namespace Cert.KernelIdeal.Bwd

open Cert.KernelIdeal.Gen Cert.Scan Cert.KernelIdeal.Scan
open Idealize.ShloMosaic Idealize.ShloMosaic.TcCoe Idealize.ShloMosaic.Tactic

variable (c : Dev nD) (i : grid1.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S8x4x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x256x64 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S8x4x1x1 .f32) (harg15 : arg15.IsWhole) (arg16 : Memref sig .tc .vmem S8x128x128 .f32) (harg16 : arg16.IsWhole) (hc0 : cond0_0 i)
  (x0 : Vec Ideal S256x1024 .f32) (x1 : Vec Ideal S256x1024 .bf16) (x2 : Vec Ideal S8x256x64 .bf16) (x3 : Vec Ideal S256x1024 .bf16) (x4 : Vec Ideal S256x1024 .bf16) (x5 : Vec Ideal S8x4x1x1 .f32) (x6 : Vec Ideal S8x4x128x128 .f32) (x7 : Vec Ideal S256x1024 .f32)

theorem A_0 : (kernelRun0_A.sl.v123 (F := Ideal) c arg16) = bd (fun _ => 0) x0 x1 x2 x3 x4 x5 x6 x7 0 := by
  unfold kernelRun0_A.sl.v123 kernelRun0_A.sl.HS0_1
  rw [View.readCov_unit_lit' _ _ _ (by decide)]
  exact zeroGrad

theorem A_1 : (kernelRun0_A.sl.v384 (F := Ideal) c arg3 harg3 arg4 harg4 arg5 harg5 arg6 harg6 arg7 harg7 arg9 harg9 arg16 x1 x2 x3 x4 x5 x7) = bd (fun _ => 0) x0 x1 x2 x3 x4 x5 x6 x7 1 := by
  unfold kernelRun0_A.sl.v384 kernelRun0_A.sl.HS0_2
  rw [View.readCov_cons_unit_lit' _ _ _ _ _ (by decide) (by decide)]
  refine (show _ = (rawPrev arg3 harg3 arg4 harg4 arg5 harg5 arg6 harg6 arg7 harg7 arg9 harg9 x0 x1 x2 x3 x4 x5 x6 x7 (kernelRun0_A.sl.v123 (F := Ideal) c arg16) 192 3 (by norm_num) inb_S8x4x1x1_S8x1x1x1_0_3_0_0 inb_S8x256x64_S8x64x64_0_192_0) from by chain_rfl).trans ?_
  rw [rawPrev_eq _ _ _ _ _ _ _ _ _ _ _ _ _ _ _ _ _ _ _ _ _ 192 3 _ _ _ rfl (by norm_num), A_0]
  rfl

theorem A_2 : (kernelRun0_A.sl.v645 (F := Ideal) c arg3 harg3 arg4 harg4 arg5 harg5 arg6 harg6 arg7 harg7 arg9 harg9 arg16 x1 x2 x3 x4 x5 x7) = bd (fun _ => 0) x0 x1 x2 x3 x4 x5 x6 x7 2 := by
  unfold kernelRun0_A.sl.v645 kernelRun0_A.sl.HS0_3
  rw [View.readCov_cons_unit_lit' _ _ _ _ _ (by decide) (by decide)]
  refine (show _ = (rawPrev arg3 harg3 arg4 harg4 arg5 harg5 arg6 harg6 arg7 harg7 arg9 harg9 x0 x1 x2 x3 x4 x5 x6 x7 (kernelRun0_A.sl.v384 (F := Ideal) c arg3 harg3 arg4 harg4 arg5 harg5 arg6 harg6 arg7 harg7 arg9 harg9 arg16 x1 x2 x3 x4 x5 x7) 128 2 (by norm_num) inb_S8x4x1x1_S8x1x1x1_0_2_0_0 inb_S8x256x64_S8x64x64_0_128_0) from by chain_rfl).trans ?_
  rw [rawPrev_eq _ _ _ _ _ _ _ _ _ _ _ _ _ _ _ _ _ _ _ _ _ 128 2 _ _ _ rfl (by norm_num), A_1]
  rfl

theorem A_3 : (kernelRun0_A.sl.v906 (F := Ideal) c arg3 harg3 arg4 harg4 arg5 harg5 arg6 harg6 arg7 harg7 arg9 harg9 arg16 x1 x2 x3 x4 x5 x7) = bd (fun _ => 0) x0 x1 x2 x3 x4 x5 x6 x7 3 := by
  unfold kernelRun0_A.sl.v906 kernelRun0_A.sl.HS0_4
  rw [View.readCov_cons_unit_lit' _ _ _ _ _ (by decide) (by decide)]
  refine (show _ = (rawPrev arg3 harg3 arg4 harg4 arg5 harg5 arg6 harg6 arg7 harg7 arg9 harg9 x0 x1 x2 x3 x4 x5 x6 x7 (kernelRun0_A.sl.v645 (F := Ideal) c arg3 harg3 arg4 harg4 arg5 harg5 arg6 harg6 arg7 harg7 arg9 harg9 arg16 x1 x2 x3 x4 x5 x7) 64 1 (by norm_num) inb_S8x4x1x1_S8x1x1x1_0_1_0_0 inb_S8x256x64_S8x64x64_0_64_0) from by chain_rfl).trans ?_
  rw [rawPrev_eq _ _ _ _ _ _ _ _ _ _ _ _ _ _ _ _ _ _ _ _ _ 64 1 _ _ _ rfl (by norm_num), A_2]
  rfl

theorem A_U : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).1 = tilesDown (bU (fun _ => 0) x0 x1 x2 x3 x4 x5 x6 x7 0) (bU (fun _ => 0) x0 x1 x2 x3 x4 x5 x6 x7 1) (bU (fun _ => 0) x0 x1 x2 x3 x4 x5 x6 x7 2) (bU (fun _ => 0) x0 x1 x2 x3 x4 x5 x6 x7 3) := by
  refine (show _ = four (rawU arg2 harg2 arg3 harg3 arg4 harg4 arg5 harg5 arg6 harg6 arg7 harg7 arg8 harg8 arg9 harg9 x0 x1 x2 x3 x4 x5 x6 x7) tilesDown
    (kernelRun0_A.sl.v123 (F := Ideal) c arg16)
    (kernelRun0_A.sl.v384 (F := Ideal) c arg3 harg3 arg4 harg4 arg5 harg5 arg6 harg6 arg7 harg7 arg9 harg9 arg16 x1 x2 x3 x4 x5 x7)
    (kernelRun0_A.sl.v645 (F := Ideal) c arg3 harg3 arg4 harg4 arg5 harg5 arg6 harg6 arg7 harg7 arg9 harg9 arg16 x1 x2 x3 x4 x5 x7)
    (kernelRun0_A.sl.v906 (F := Ideal) c arg3 harg3 arg4 harg4 arg5 harg5 arg6 harg6 arg7 harg7 arg9 harg9 arg16 x1 x2 x3 x4 x5 x7) from ?_).trans ?_
  · unfold four; chain_rfl
  rw [four_eq (rawU_eq _ _ _ _ _ _ _ _ _ _ _ _ _ _ _ _ _ _ _ _ _ _ _ _)]
  rw [A_0, A_1, A_2, A_3]
  rfl

theorem A_W : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.1 = tilesDown (bW (fun _ => 0) x0 x1 x2 x3 x4 x5 x6 x7 0) (bW (fun _ => 0) x0 x1 x2 x3 x4 x5 x6 x7 1) (bW (fun _ => 0) x0 x1 x2 x3 x4 x5 x6 x7 2) (bW (fun _ => 0) x0 x1 x2 x3 x4 x5 x6 x7 3) := by
  refine (show _ = four (rawW arg2 harg2 arg3 harg3 arg4 harg4 arg5 harg5 arg6 harg6 arg7 harg7 arg8 harg8 arg9 harg9 x0 x1 x2 x3 x4 x5 x6 x7) tilesDown
    (kernelRun0_A.sl.v123 (F := Ideal) c arg16)
    (kernelRun0_A.sl.v384 (F := Ideal) c arg3 harg3 arg4 harg4 arg5 harg5 arg6 harg6 arg7 harg7 arg9 harg9 arg16 x1 x2 x3 x4 x5 x7)
    (kernelRun0_A.sl.v645 (F := Ideal) c arg3 harg3 arg4 harg4 arg5 harg5 arg6 harg6 arg7 harg7 arg9 harg9 arg16 x1 x2 x3 x4 x5 x7)
    (kernelRun0_A.sl.v906 (F := Ideal) c arg3 harg3 arg4 harg4 arg5 harg5 arg6 harg6 arg7 harg7 arg9 harg9 arg16 x1 x2 x3 x4 x5 x7) from ?_).trans ?_
  · unfold four; chain_rfl
  rw [four_eq (rawW_eq _ _ _ _ _ _ _ _ _ _ _ _ _ _ _ _ _ _ _ _ _ _ _ _)]
  rw [A_0, A_1, A_2, A_3]
  rfl

theorem A_P : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.1 = squares (bP (fun _ => 0) x0 x1 x2 x3 x4 x5 x6 x7 0) (bP (fun _ => 0) x0 x1 x2 x3 x4 x5 x6 x7 1) (bP (fun _ => 0) x0 x1 x2 x3 x4 x5 x6 x7 2) (bP (fun _ => 0) x0 x1 x2 x3 x4 x5 x6 x7 3) := by
  refine (show _ = four (rawP arg2 harg2 arg3 harg3 arg4 harg4 arg5 harg5 arg6 harg6 arg7 harg7 arg8 harg8 arg9 harg9 x0 x1 x2 x3 x4 x5 x6 x7) squares
    (kernelRun0_A.sl.v123 (F := Ideal) c arg16)
    (kernelRun0_A.sl.v384 (F := Ideal) c arg3 harg3 arg4 harg4 arg5 harg5 arg6 harg6 arg7 harg7 arg9 harg9 arg16 x1 x2 x3 x4 x5 x7)
    (kernelRun0_A.sl.v645 (F := Ideal) c arg3 harg3 arg4 harg4 arg5 harg5 arg6 harg6 arg7 harg7 arg9 harg9 arg16 x1 x2 x3 x4 x5 x7)
    (kernelRun0_A.sl.v906 (F := Ideal) c arg3 harg3 arg4 harg4 arg5 harg5 arg6 harg6 arg7 harg7 arg9 harg9 arg16 x1 x2 x3 x4 x5 x7) from ?_).trans ?_
  · unfold four; chain_rfl
  rw [four_eq (rawP_eq _ _ _ _ _ _ _ _ _ _ _ _ _ _ _ _ _ _ _ _ _ _ _ _)]
  rfl

theorem A_Q : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.1 = tilesDown (bQ (fun _ => 0) x0 x1 x2 x3 x4 x5 x6 x7 0) (bQ (fun _ => 0) x0 x1 x2 x3 x4 x5 x6 x7 1) (bQ (fun _ => 0) x0 x1 x2 x3 x4 x5 x6 x7 2) (bQ (fun _ => 0) x0 x1 x2 x3 x4 x5 x6 x7 3) := by
  refine (show _ = four (rawQ arg2 harg2 arg3 harg3 arg4 harg4 arg5 harg5 arg6 harg6 arg7 harg7 arg8 harg8 arg9 harg9 x0 x1 x2 x3 x4 x5 x6 x7) tilesDown
    (kernelRun0_A.sl.v123 (F := Ideal) c arg16)
    (kernelRun0_A.sl.v384 (F := Ideal) c arg3 harg3 arg4 harg4 arg5 harg5 arg6 harg6 arg7 harg7 arg9 harg9 arg16 x1 x2 x3 x4 x5 x7)
    (kernelRun0_A.sl.v645 (F := Ideal) c arg3 harg3 arg4 harg4 arg5 harg5 arg6 harg6 arg7 harg7 arg9 harg9 arg16 x1 x2 x3 x4 x5 x7)
    (kernelRun0_A.sl.v906 (F := Ideal) c arg3 harg3 arg4 harg4 arg5 harg5 arg6 harg6 arg7 harg7 arg9 harg9 arg16 x1 x2 x3 x4 x5 x7) from ?_).trans ?_
  · unfold four; chain_rfl
  rw [four_eq (rawQ_eq _ _ _ _ _ _ _ _ _ _ _ _ _ _ _ _ _ _ _ _ _ _ _ _)]
  rfl

theorem A_K : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.1 = tilesDown (bK (fun _ => 0) x0 x1 x2 x3 x4 x5 x6 x7 0) (bK (fun _ => 0) x0 x1 x2 x3 x4 x5 x6 x7 1) (bK (fun _ => 0) x0 x1 x2 x3 x4 x5 x6 x7 2) (bK (fun _ => 0) x0 x1 x2 x3 x4 x5 x6 x7 3) := by
  refine (show _ = four (rawK arg2 harg2 arg3 harg3 arg4 harg4 arg5 harg5 arg6 harg6 arg7 harg7 arg8 harg8 arg9 harg9 x0 x1 x2 x3 x4 x5 x6 x7) tilesDown
    (kernelRun0_A.sl.v123 (F := Ideal) c arg16)
    (kernelRun0_A.sl.v384 (F := Ideal) c arg3 harg3 arg4 harg4 arg5 harg5 arg6 harg6 arg7 harg7 arg9 harg9 arg16 x1 x2 x3 x4 x5 x7)
    (kernelRun0_A.sl.v645 (F := Ideal) c arg3 harg3 arg4 harg4 arg5 harg5 arg6 harg6 arg7 harg7 arg9 harg9 arg16 x1 x2 x3 x4 x5 x7)
    (kernelRun0_A.sl.v906 (F := Ideal) c arg3 harg3 arg4 harg4 arg5 harg5 arg6 harg6 arg7 harg7 arg9 harg9 arg16 x1 x2 x3 x4 x5 x7) from ?_).trans ?_
  · unfold four; chain_rfl
  rw [four_eq (rawK_eq _ _ _ _ _ _ _ _ _ _ _ _ _ _ _ _ _ _ _ _ _ _ _ _)]
  rw [A_0, A_1, A_2, A_3]
  rfl

theorem A_G : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.1 = decays (fun j => bG (fun _ => 0) x0 x1 x2 x3 x4 x5 x6 x7 0 (j 0)) (fun j => bG (fun _ => 0) x0 x1 x2 x3 x4 x5 x6 x7 1 (j 0)) (fun j => bG (fun _ => 0) x0 x1 x2 x3 x4 x5 x6 x7 2 (j 0)) (fun j => bG (fun _ => 0) x0 x1 x2 x3 x4 x5 x6 x7 3 (j 0)) := by
  refine (show _ = four (rawG arg2 harg2 arg3 harg3 arg4 harg4 arg5 harg5 arg6 harg6 arg7 harg7 arg8 harg8 arg9 harg9 x0 x1 x2 x3 x4 x5 x6 x7) decays
    (kernelRun0_A.sl.v123 (F := Ideal) c arg16)
    (kernelRun0_A.sl.v384 (F := Ideal) c arg3 harg3 arg4 harg4 arg5 harg5 arg6 harg6 arg7 harg7 arg9 harg9 arg16 x1 x2 x3 x4 x5 x7)
    (kernelRun0_A.sl.v645 (F := Ideal) c arg3 harg3 arg4 harg4 arg5 harg5 arg6 harg6 arg7 harg7 arg9 harg9 arg16 x1 x2 x3 x4 x5 x7)
    (kernelRun0_A.sl.v906 (F := Ideal) c arg3 harg3 arg4 harg4 arg5 harg5 arg6 harg6 arg7 harg7 arg9 harg9 arg16 x1 x2 x3 x4 x5 x7) from ?_).trans ?_
  · unfold four; chain_rfl
  rw [four_eq (rawG_eq _ _ _ _ _ _ _ _ _ _ _ _ _ _ _ _ _ _ _ _ _ _ _ _)]
  rw [A_0, A_1, A_2, A_3]
  rfl

theorem A_scratch : View.canon (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7).2.2.2.2.2.2.1 = bd (fun _ => 0) x0 x1 x2 x3 x4 x5 x6 x7 4 := by
  refine (show _ = View.canon (⟨Rect.unit (s := S8x128x128) ![0, 0, 0] S8x128x128.size inb_S8x128x128_S8x128x128_0_0_0, (rawPrev arg3 harg3 arg4 harg4 arg5 harg5 arg6 harg6 arg7 harg7 arg9 harg9 x0 x1 x2 x3 x4 x5 x6 x7 (kernelRun0_A.sl.v906 (F := Ideal) c arg3 harg3 arg4 harg4 arg5 harg5 arg6 harg6 arg7 harg7 arg9 harg9 arg16 x1 x2 x3 x4 x5 x7) 0 0 (by norm_num) inb_S8x4x1x1_S8x1x1x1_0_0_0_0 inb_S8x256x64_S8x64x64_0_0_0)⟩ :: (kernelRun0_A.sl.HS0_4 (F := Ideal) c arg3 harg3 arg4 harg4 arg5 harg5 arg6 harg6 arg7 harg7 arg9 harg9 arg16 x1 x2 x3 x4 x5 x7)) from by chain_rfl).trans ?_
  rw [View.canon_cons_unit_lit' _ _ _ (by decide), rawPrev_eq _ _ _ _ _ _ _ _ _ _ _ _ _ _ _ _ _ _ _ _ _ 0 0 _ _ _ rfl (by norm_num), A_3]
  rfl

end Cert.KernelIdeal.Bwd

end
-- ==== Proof.BwdValB.lean ====
/- The backward scan's run at a later grid point: gradients of its four chunks. -/
module

public import proofs.«01_k».proof.Proof.BwdChunk
public import proofs.«01_k».proof.Proof.BwdBody
public import proofs.«01_k».proof.Proof.KTiles

@[expose] public section

set_option maxRecDepth 16384

noncomputable section

namespace Cert.KernelIdeal.Bwd

open Cert.KernelIdeal.Gen Cert.Scan Cert.KernelIdeal.Scan
open Idealize.ShloMosaic Idealize.ShloMosaic.TcCoe Idealize.ShloMosaic.Tactic

variable (c : Dev nD) (i : grid1.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S8x4x128x128 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S8x256x64 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S8x4x1x1 .f32) (harg15 : arg15.IsWhole) (arg16 : Memref sig .tc .vmem S8x128x128 .f32) (harg16 : arg16.IsWhole) (hc0 : ¬cond0_0 i)
  (x0 : Vec Ideal S256x1024 .f32) (x1 : Vec Ideal S256x1024 .bf16) (x2 : Vec Ideal S8x256x64 .bf16) (x3 : Vec Ideal S256x1024 .bf16) (x4 : Vec Ideal S256x1024 .bf16) (x5 : Vec Ideal S8x4x1x1 .f32) (x6 : Vec Ideal S8x4x128x128 .f32) (x7 : Vec Ideal S256x1024 .f32) (xs0 : Vec Ideal S8x128x128 .f32)

theorem B_0 : (View.readAt (Elt Ideal) arg16.view (Rect.unit (s := S8x128x128) ![0, 0, 0] S8x128x128.size inb_S8x128x128_S8x128x128_0_0_0).toLoadRect (harg16.unread xs0)) = bd xs0 x0 x1 x2 x3 x4 x5 x6 x7 0 := read_whole _ _ _ _

theorem B_1 : (kernelRun0_B.sl.v384 (F := Ideal) c arg3 harg3 arg4 harg4 arg5 harg5 arg6 harg6 arg7 harg7 arg9 harg9 arg16 harg16 x1 x2 x3 x4 x5 x7 xs0) = bd xs0 x0 x1 x2 x3 x4 x5 x6 x7 1 := by
  unfold kernelRun0_B.sl.v384 kernelRun0_B.sl.HS0_1
  rw [View.readCov_unit_lit' _ _ _ (by decide)]
  refine (show _ = (rawPrev arg3 harg3 arg4 harg4 arg5 harg5 arg6 harg6 arg7 harg7 arg9 harg9 x0 x1 x2 x3 x4 x5 x6 x7 (View.readAt (Elt Ideal) arg16.view (Rect.unit (s := S8x128x128) ![0, 0, 0] S8x128x128.size inb_S8x128x128_S8x128x128_0_0_0).toLoadRect (harg16.unread xs0)) 192 3 (by norm_num) inb_S8x4x1x1_S8x1x1x1_0_3_0_0 inb_S8x256x64_S8x64x64_0_192_0) from by chain_rfl).trans ?_
  rw [rawPrev_eq _ _ _ _ _ _ _ _ _ _ _ _ _ _ _ _ _ _ _ _ _ 192 3 _ _ _ rfl (by norm_num), B_0]
  rfl

theorem B_2 : (kernelRun0_B.sl.v645 (F := Ideal) c arg3 harg3 arg4 harg4 arg5 harg5 arg6 harg6 arg7 harg7 arg9 harg9 arg16 harg16 x1 x2 x3 x4 x5 x7 xs0) = bd xs0 x0 x1 x2 x3 x4 x5 x6 x7 2 := by
  unfold kernelRun0_B.sl.v645 kernelRun0_B.sl.HS0_2
  rw [View.readCov_cons_unit_lit' _ _ _ _ _ (by decide) (by decide)]
  refine (show _ = (rawPrev arg3 harg3 arg4 harg4 arg5 harg5 arg6 harg6 arg7 harg7 arg9 harg9 x0 x1 x2 x3 x4 x5 x6 x7 (kernelRun0_B.sl.v384 (F := Ideal) c arg3 harg3 arg4 harg4 arg5 harg5 arg6 harg6 arg7 harg7 arg9 harg9 arg16 harg16 x1 x2 x3 x4 x5 x7 xs0) 128 2 (by norm_num) inb_S8x4x1x1_S8x1x1x1_0_2_0_0 inb_S8x256x64_S8x64x64_0_128_0) from by chain_rfl).trans ?_
  rw [rawPrev_eq _ _ _ _ _ _ _ _ _ _ _ _ _ _ _ _ _ _ _ _ _ 128 2 _ _ _ rfl (by norm_num), B_1]
  rfl

theorem B_3 : (kernelRun0_B.sl.v906 (F := Ideal) c arg3 harg3 arg4 harg4 arg5 harg5 arg6 harg6 arg7 harg7 arg9 harg9 arg16 harg16 x1 x2 x3 x4 x5 x7 xs0) = bd xs0 x0 x1 x2 x3 x4 x5 x6 x7 3 := by
  unfold kernelRun0_B.sl.v906 kernelRun0_B.sl.HS0_3
  rw [View.readCov_cons_unit_lit' _ _ _ _ _ (by decide) (by decide)]
  refine (show _ = (rawPrev arg3 harg3 arg4 harg4 arg5 harg5 arg6 harg6 arg7 harg7 arg9 harg9 x0 x1 x2 x3 x4 x5 x6 x7 (kernelRun0_B.sl.v645 (F := Ideal) c arg3 harg3 arg4 harg4 arg5 harg5 arg6 harg6 arg7 harg7 arg9 harg9 arg16 harg16 x1 x2 x3 x4 x5 x7 xs0) 64 1 (by norm_num) inb_S8x4x1x1_S8x1x1x1_0_1_0_0 inb_S8x256x64_S8x64x64_0_64_0) from by chain_rfl).trans ?_
  rw [rawPrev_eq _ _ _ _ _ _ _ _ _ _ _ _ _ _ _ _ _ _ _ _ _ 64 1 _ _ _ rfl (by norm_num), B_2]
  rfl

theorem B_U : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).1 = tilesDown (bU xs0 x0 x1 x2 x3 x4 x5 x6 x7 0) (bU xs0 x0 x1 x2 x3 x4 x5 x6 x7 1) (bU xs0 x0 x1 x2 x3 x4 x5 x6 x7 2) (bU xs0 x0 x1 x2 x3 x4 x5 x6 x7 3) := by
  refine (show _ = four (rawU arg2 harg2 arg3 harg3 arg4 harg4 arg5 harg5 arg6 harg6 arg7 harg7 arg8 harg8 arg9 harg9 x0 x1 x2 x3 x4 x5 x6 x7) tilesDown
    (View.readAt (Elt Ideal) arg16.view (Rect.unit (s := S8x128x128) ![0, 0, 0] S8x128x128.size inb_S8x128x128_S8x128x128_0_0_0).toLoadRect (harg16.unread xs0))
    (kernelRun0_B.sl.v384 (F := Ideal) c arg3 harg3 arg4 harg4 arg5 harg5 arg6 harg6 arg7 harg7 arg9 harg9 arg16 harg16 x1 x2 x3 x4 x5 x7 xs0)
    (kernelRun0_B.sl.v645 (F := Ideal) c arg3 harg3 arg4 harg4 arg5 harg5 arg6 harg6 arg7 harg7 arg9 harg9 arg16 harg16 x1 x2 x3 x4 x5 x7 xs0)
    (kernelRun0_B.sl.v906 (F := Ideal) c arg3 harg3 arg4 harg4 arg5 harg5 arg6 harg6 arg7 harg7 arg9 harg9 arg16 harg16 x1 x2 x3 x4 x5 x7 xs0) from ?_).trans ?_
  · unfold four; chain_rfl
  rw [four_eq (rawU_eq _ _ _ _ _ _ _ _ _ _ _ _ _ _ _ _ _ _ _ _ _ _ _ _)]
  rw [B_0, B_1, B_2, B_3]
  rfl

theorem B_W : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.1 = tilesDown (bW xs0 x0 x1 x2 x3 x4 x5 x6 x7 0) (bW xs0 x0 x1 x2 x3 x4 x5 x6 x7 1) (bW xs0 x0 x1 x2 x3 x4 x5 x6 x7 2) (bW xs0 x0 x1 x2 x3 x4 x5 x6 x7 3) := by
  refine (show _ = four (rawW arg2 harg2 arg3 harg3 arg4 harg4 arg5 harg5 arg6 harg6 arg7 harg7 arg8 harg8 arg9 harg9 x0 x1 x2 x3 x4 x5 x6 x7) tilesDown
    (View.readAt (Elt Ideal) arg16.view (Rect.unit (s := S8x128x128) ![0, 0, 0] S8x128x128.size inb_S8x128x128_S8x128x128_0_0_0).toLoadRect (harg16.unread xs0))
    (kernelRun0_B.sl.v384 (F := Ideal) c arg3 harg3 arg4 harg4 arg5 harg5 arg6 harg6 arg7 harg7 arg9 harg9 arg16 harg16 x1 x2 x3 x4 x5 x7 xs0)
    (kernelRun0_B.sl.v645 (F := Ideal) c arg3 harg3 arg4 harg4 arg5 harg5 arg6 harg6 arg7 harg7 arg9 harg9 arg16 harg16 x1 x2 x3 x4 x5 x7 xs0)
    (kernelRun0_B.sl.v906 (F := Ideal) c arg3 harg3 arg4 harg4 arg5 harg5 arg6 harg6 arg7 harg7 arg9 harg9 arg16 harg16 x1 x2 x3 x4 x5 x7 xs0) from ?_).trans ?_
  · unfold four; chain_rfl
  rw [four_eq (rawW_eq _ _ _ _ _ _ _ _ _ _ _ _ _ _ _ _ _ _ _ _ _ _ _ _)]
  rw [B_0, B_1, B_2, B_3]
  rfl

theorem B_P : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.1 = squares (bP xs0 x0 x1 x2 x3 x4 x5 x6 x7 0) (bP xs0 x0 x1 x2 x3 x4 x5 x6 x7 1) (bP xs0 x0 x1 x2 x3 x4 x5 x6 x7 2) (bP xs0 x0 x1 x2 x3 x4 x5 x6 x7 3) := by
  refine (show _ = four (rawP arg2 harg2 arg3 harg3 arg4 harg4 arg5 harg5 arg6 harg6 arg7 harg7 arg8 harg8 arg9 harg9 x0 x1 x2 x3 x4 x5 x6 x7) squares
    (View.readAt (Elt Ideal) arg16.view (Rect.unit (s := S8x128x128) ![0, 0, 0] S8x128x128.size inb_S8x128x128_S8x128x128_0_0_0).toLoadRect (harg16.unread xs0))
    (kernelRun0_B.sl.v384 (F := Ideal) c arg3 harg3 arg4 harg4 arg5 harg5 arg6 harg6 arg7 harg7 arg9 harg9 arg16 harg16 x1 x2 x3 x4 x5 x7 xs0)
    (kernelRun0_B.sl.v645 (F := Ideal) c arg3 harg3 arg4 harg4 arg5 harg5 arg6 harg6 arg7 harg7 arg9 harg9 arg16 harg16 x1 x2 x3 x4 x5 x7 xs0)
    (kernelRun0_B.sl.v906 (F := Ideal) c arg3 harg3 arg4 harg4 arg5 harg5 arg6 harg6 arg7 harg7 arg9 harg9 arg16 harg16 x1 x2 x3 x4 x5 x7 xs0) from ?_).trans ?_
  · unfold four; chain_rfl
  rw [four_eq (rawP_eq _ _ _ _ _ _ _ _ _ _ _ _ _ _ _ _ _ _ _ _ _ _ _ _)]
  rfl

theorem B_Q : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.1 = tilesDown (bQ xs0 x0 x1 x2 x3 x4 x5 x6 x7 0) (bQ xs0 x0 x1 x2 x3 x4 x5 x6 x7 1) (bQ xs0 x0 x1 x2 x3 x4 x5 x6 x7 2) (bQ xs0 x0 x1 x2 x3 x4 x5 x6 x7 3) := by
  refine (show _ = four (rawQ arg2 harg2 arg3 harg3 arg4 harg4 arg5 harg5 arg6 harg6 arg7 harg7 arg8 harg8 arg9 harg9 x0 x1 x2 x3 x4 x5 x6 x7) tilesDown
    (View.readAt (Elt Ideal) arg16.view (Rect.unit (s := S8x128x128) ![0, 0, 0] S8x128x128.size inb_S8x128x128_S8x128x128_0_0_0).toLoadRect (harg16.unread xs0))
    (kernelRun0_B.sl.v384 (F := Ideal) c arg3 harg3 arg4 harg4 arg5 harg5 arg6 harg6 arg7 harg7 arg9 harg9 arg16 harg16 x1 x2 x3 x4 x5 x7 xs0)
    (kernelRun0_B.sl.v645 (F := Ideal) c arg3 harg3 arg4 harg4 arg5 harg5 arg6 harg6 arg7 harg7 arg9 harg9 arg16 harg16 x1 x2 x3 x4 x5 x7 xs0)
    (kernelRun0_B.sl.v906 (F := Ideal) c arg3 harg3 arg4 harg4 arg5 harg5 arg6 harg6 arg7 harg7 arg9 harg9 arg16 harg16 x1 x2 x3 x4 x5 x7 xs0) from ?_).trans ?_
  · unfold four; chain_rfl
  rw [four_eq (rawQ_eq _ _ _ _ _ _ _ _ _ _ _ _ _ _ _ _ _ _ _ _ _ _ _ _)]
  rfl

theorem B_K : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.1 = tilesDown (bK xs0 x0 x1 x2 x3 x4 x5 x6 x7 0) (bK xs0 x0 x1 x2 x3 x4 x5 x6 x7 1) (bK xs0 x0 x1 x2 x3 x4 x5 x6 x7 2) (bK xs0 x0 x1 x2 x3 x4 x5 x6 x7 3) := by
  refine (show _ = four (rawK arg2 harg2 arg3 harg3 arg4 harg4 arg5 harg5 arg6 harg6 arg7 harg7 arg8 harg8 arg9 harg9 x0 x1 x2 x3 x4 x5 x6 x7) tilesDown
    (View.readAt (Elt Ideal) arg16.view (Rect.unit (s := S8x128x128) ![0, 0, 0] S8x128x128.size inb_S8x128x128_S8x128x128_0_0_0).toLoadRect (harg16.unread xs0))
    (kernelRun0_B.sl.v384 (F := Ideal) c arg3 harg3 arg4 harg4 arg5 harg5 arg6 harg6 arg7 harg7 arg9 harg9 arg16 harg16 x1 x2 x3 x4 x5 x7 xs0)
    (kernelRun0_B.sl.v645 (F := Ideal) c arg3 harg3 arg4 harg4 arg5 harg5 arg6 harg6 arg7 harg7 arg9 harg9 arg16 harg16 x1 x2 x3 x4 x5 x7 xs0)
    (kernelRun0_B.sl.v906 (F := Ideal) c arg3 harg3 arg4 harg4 arg5 harg5 arg6 harg6 arg7 harg7 arg9 harg9 arg16 harg16 x1 x2 x3 x4 x5 x7 xs0) from ?_).trans ?_
  · unfold four; chain_rfl
  rw [four_eq (rawK_eq _ _ _ _ _ _ _ _ _ _ _ _ _ _ _ _ _ _ _ _ _ _ _ _)]
  rw [B_0, B_1, B_2, B_3]
  rfl

theorem B_G : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.1 = decays (fun j => bG xs0 x0 x1 x2 x3 x4 x5 x6 x7 0 (j 0)) (fun j => bG xs0 x0 x1 x2 x3 x4 x5 x6 x7 1 (j 0)) (fun j => bG xs0 x0 x1 x2 x3 x4 x5 x6 x7 2 (j 0)) (fun j => bG xs0 x0 x1 x2 x3 x4 x5 x6 x7 3 (j 0)) := by
  refine (show _ = four (rawG arg2 harg2 arg3 harg3 arg4 harg4 arg5 harg5 arg6 harg6 arg7 harg7 arg8 harg8 arg9 harg9 x0 x1 x2 x3 x4 x5 x6 x7) decays
    (View.readAt (Elt Ideal) arg16.view (Rect.unit (s := S8x128x128) ![0, 0, 0] S8x128x128.size inb_S8x128x128_S8x128x128_0_0_0).toLoadRect (harg16.unread xs0))
    (kernelRun0_B.sl.v384 (F := Ideal) c arg3 harg3 arg4 harg4 arg5 harg5 arg6 harg6 arg7 harg7 arg9 harg9 arg16 harg16 x1 x2 x3 x4 x5 x7 xs0)
    (kernelRun0_B.sl.v645 (F := Ideal) c arg3 harg3 arg4 harg4 arg5 harg5 arg6 harg6 arg7 harg7 arg9 harg9 arg16 harg16 x1 x2 x3 x4 x5 x7 xs0)
    (kernelRun0_B.sl.v906 (F := Ideal) c arg3 harg3 arg4 harg4 arg5 harg5 arg6 harg6 arg7 harg7 arg9 harg9 arg16 harg16 x1 x2 x3 x4 x5 x7 xs0) from ?_).trans ?_
  · unfold four; chain_rfl
  rw [four_eq (rawG_eq _ _ _ _ _ _ _ _ _ _ _ _ _ _ _ _ _ _ _ _ _ _ _ _)]
  rw [B_0, B_1, B_2, B_3]
  rfl

theorem B_scratch : View.canon (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0).2.2.2.2.2.2.1 = bd xs0 x0 x1 x2 x3 x4 x5 x6 x7 4 := by
  refine (show _ = View.canon (⟨Rect.unit (s := S8x128x128) ![0, 0, 0] S8x128x128.size inb_S8x128x128_S8x128x128_0_0_0, (rawPrev arg3 harg3 arg4 harg4 arg5 harg5 arg6 harg6 arg7 harg7 arg9 harg9 x0 x1 x2 x3 x4 x5 x6 x7 (kernelRun0_B.sl.v906 (F := Ideal) c arg3 harg3 arg4 harg4 arg5 harg5 arg6 harg6 arg7 harg7 arg9 harg9 arg16 harg16 x1 x2 x3 x4 x5 x7 xs0) 0 0 (by norm_num) inb_S8x4x1x1_S8x1x1x1_0_0_0_0 inb_S8x256x64_S8x64x64_0_0_0)⟩ :: (kernelRun0_B.sl.HS0_3 (F := Ideal) c arg3 harg3 arg4 harg4 arg5 harg5 arg6 harg6 arg7 harg7 arg9 harg9 arg16 harg16 x1 x2 x3 x4 x5 x7 xs0)) from by chain_rfl).trans ?_
  rw [View.canon_cons_unit_lit' _ _ _ (by decide), rawPrev_eq _ _ _ _ _ _ _ _ _ _ _ _ _ _ _ _ _ _ _ _ _ 0 0 _ _ _ rfl (by norm_num), B_3]
  rfl

end Cert.KernelIdeal.Bwd

end
-- ==== Proof.BwdGrid.lean ====
/- The backward scan over its grid, last block first: the gradients are those of the recursion over all chunks. -/
module

public import proofs.«01_k».proof.Proof.BwdValA
public import proofs.«01_k».proof.Proof.BwdValB
public import Idealize.ShloMosaic.Lib.Pipeline.ValueKit

@[expose] public section

set_option maxRecDepth 16384

noncomputable section

namespace Cert.KernelIdeal.Bwd

open Cert.KernelIdeal.Gen Cert.Scan Cert.KernelIdeal.Scan
open Idealize.ShloMosaic Idealize.ShloMosaic.TcCoe Idealize.ShloMosaic.Tactic
open Idealize.ShloMosaic.Pipeline (Dat)

variable (m : (c : Dev nD) → (b : Ref sig .tc) → Buf (Elt Ideal) ((c : Thread nD τ).loc b)) (c : Dev nD)

theorem idx : ∀ t : Fin cfg1.N, win1_0.index t = ![31 - t.val, 0] ∧ win1_1.index t = ![31 - t.val, 0] ∧ win1_2.index t = ![0, 31 - t.val, 0]
    ∧ win1_3.index t = ![31 - t.val, 0] ∧ win1_4.index t = ![31 - t.val, 0] ∧ win1_5.index t = ![0, 31 - t.val, 0, 0]
    ∧ win1_6.index t = ![0, 31 - t.val, 0, 0] ∧ win1_7.index t = ![31 - t.val, 0] ∧ win1_8.index t = ![31 - t.val, 0] ∧ win1_9.index t = ![31 - t.val, 0]
    ∧ win1_10.index t = ![0, 31 - t.val, 0] ∧ win1_11.index t = ![31 - t.val, 0] ∧ win1_12.index t = ![31 - t.val, 0] ∧ win1_13.index t = ![0, 31 - t.val, 0, 0] :=
  (by decide +kernel : ∀ t : Fin grid1.N, _)

theorem lt32 (t : Fin cfg1.N) : t.val < 32 := lt_of_lt_of_eq t.isLt (show cfg1.N = 32 from N_1)

/-- The arrays the scan reads. -/
abbrev arr0 : (⟨2, ![8192, 1024]⟩ : Shape).Idx → EReal := m c main_arg0
abbrev arr1 : (⟨2, ![8192, 1024]⟩ : Shape).Idx → EReal := m c main_arg1
abbrev arr2 : (⟨3, ![8, 8192, 64]⟩ : Shape).Idx → EReal := m c main_arg2
abbrev arr3 : (⟨2, ![8192, 1024]⟩ : Shape).Idx → EReal := m c main_arg3
abbrev arr4 : (⟨2, ![8192, 1024]⟩ : Shape).Idx → EReal := m c main_arg4
abbrev arr5 : (⟨4, ![8, 128, 1, 1]⟩ : Shape).Idx → EReal := m c main_arg5
abbrev arr6 : (⟨4, ![8, 128, 128, 128]⟩ : Shape).Idx → EReal := m c main_v0_1
abbrev arr7 : (⟨2, ![8192, 1024]⟩ : Shape).Idx → EReal := m c main_arg6

/-- Chunk `n` of the array of states. -/
def stored (n : ℕ) : State := fun j => arr6 m c (ix4 (j 0) ⟨n % 128, Nat.mod_lt _ (by norm_num)⟩ (j 1) (j 2))

theorem part0 (t : Fin cfg1.N) (i : ℕ) (hi : i < 4) : part (iblk m c 0 t) i = chunk (arr0 m c) (4 * (31 - t.val) + i) := by
  have ht := lt32 t
  funext j; idx_vars j
  pointwise [part, chunk, arr0]
  blk_point [iblk, idx t]

theorem part1 (t : Fin cfg1.N) (i : ℕ) (hi : i < 4) : part (iblk m c 1 t) i = chunk (arr1 m c) (4 * (31 - t.val) + i) := by
  have ht := lt32 t
  funext j; idx_vars j
  pointwise [part, chunk, arr1]
  blk_point [iblk, idx t]

theorem part2 (t : Fin cfg1.N) (i : ℕ) (hi : i < 4) : partP (iblk m c 2 t) i = square (arr2 m c) (4 * (31 - t.val) + i) := by
  have ht := lt32 t
  funext j; idx_vars j
  pointwise [partP, square, arr2]
  blk_point [iblk, idx t]

theorem part3 (t : Fin cfg1.N) (i : ℕ) (hi : i < 4) : part (iblk m c 3 t) i = chunk (arr3 m c) (4 * (31 - t.val) + i) := by
  have ht := lt32 t
  funext j; idx_vars j
  pointwise [part, chunk, arr3]
  blk_point [iblk, idx t]

theorem part4 (t : Fin cfg1.N) (i : ℕ) (hi : i < 4) : part (iblk m c 4 t) i = chunk (arr4 m c) (4 * (31 - t.val) + i) := by
  have ht := lt32 t
  funext j; idx_vars j
  pointwise [part, chunk, arr4]
  blk_point [iblk, idx t]

theorem part5 (t : Fin cfg1.N) (i : ℕ) (hi : i < 4) : partG (iblk m c 5 t) i = decay (arr5 m c) (4 * (31 - t.val) + i) := by
  have ht := lt32 t
  funext h
  pointwise [partG, decay, arr5]
  blk_point [iblk, idx t]

theorem part6 (t : Fin cfg1.N) (i : ℕ) (hi : i < 4) : partS (iblk m c 6 t) i = stored m c (4 * (31 - t.val) + i) := by
  have ht := lt32 t
  funext j; idx_vars j
  pointwise [partS, stored, arr6]
  blk_point [iblk, idx t]

theorem part7 (t : Fin cfg1.N) (i : ℕ) (hi : i < 4) : part (iblk m c 7 t) i = chunk (arr7 m c) (4 * (31 - t.val) + i) := by
  have ht := lt32 t
  funext j; idx_vars j
  pointwise [part, chunk, arr7]
  blk_point [iblk, idx t]

/-- The state's gradient with the last `i` chunks behind it, of the arrays at the scan's entry. -/
abbrev dst (i : ℕ) : State := dstate (arr1 m c) (arr2 m c) (arr3 m c) (arr4 m c) (arr5 m c) (arr7 m c) i

theorem bd_eq (t : Fin cfg1.N) : ∀ n, n ≤ 4 → bd (dst m c (4 * t.val)) (iblk m c 0 t) (iblk m c 1 t) (iblk m c 2 t) (iblk m c 3 t) (iblk m c 4 t) (iblk m c 5 t) (iblk m c 6 t) (iblk m c 7 t) n = dst m c (4 * t.val + n)
  | 0, _ => rfl
  | n + 1, hn => by
      have ht := lt32 t
      have e : 4 * (31 - t.val) + (3 - n) = 127 - (4 * t.val + n) := by omega
      rw [← Nat.add_assoc]
      unfold bd dst
      show _ = prev (dst m c (4 * t.val + n)) (chunk (arr3 m c) (127 - (4 * t.val + n))) (chunk (arr1 m c) (127 - (4 * t.val + n))) (chunk (arr7 m c) (127 - (4 * t.val + n)))
        (minus (dV (dst m c (4 * t.val + n)) (chunk (arr4 m c) (127 - (4 * t.val + n))) (square (arr2 m c) (127 - (4 * t.val + n))) (chunk (arr7 m c) (127 - (4 * t.val + n))))) (decay (arr5 m c) (127 - (4 * t.val + n)))
      rw [bd_eq t n (by omega), part1 m c t _ (by omega), part2 m c t _ (by omega), part3 m c t _ (by omega), part4 m c t _ (by omega), part5 m c t _ (by omega), part7 m c t _ (by omega), e]

/-- What a grid point leaves as the state's gradient. -/
theorem scratch (t : Fin cfg1.N) : (outsAt0 m c t.val t.isLt).2.2.2.2.2.2 = dst m c (4 * (t.val + 1)) := by
  obtain ⟨n, hn⟩ := t
  induction n with
  | zero =>
    rw [outsAt0_A m c ⟨0, hn⟩ rfl, ptA]
    dsimp only
    frame_out
    rw [A_scratch]
    exact bd_eq m c ⟨0, hn⟩ 4 le_rfl
  | succ n ih =>
    have h32 := lt32 ⟨n + 1, hn⟩
    rw [outsAt0_B m c ⟨n + 1, hn⟩ (by dsimp only at h32 ⊢; omega), ptB]
    dsimp only
    frame_out
    rw [B_scratch]
    have e := ih (Nat.lt_of_succ_lt hn)
    dsimp only at e
    simp only [Nat.add_sub_cancel]
    rw [e]
    exact bd_eq m c ⟨n + 1, hn⟩ 4 le_rfl

/-- The states read are those of the recursion. -/
def Stored : Prop := arr6 m c = fun r => state (arr0 m c) (arr1 m c) (arr4 m c) (arr5 m c) (r 1).val
  (ix3 (⟨(r 0).val, (r 0).isLt⟩ : Fin 8) (⟨(r 2).val, (r 2).isLt⟩ : Fin 128) (⟨(r 3).val, (r 3).isLt⟩ : Fin 128))

theorem stored_eq (hs : Stored m c) (n : ℕ) (hn : n < 128) : stored m c n = state (arr0 m c) (arr1 m c) (arr4 m c) (arr5 m c) n := by
  funext j
  idx_vars j
  unfold stored
  rw [hs]
  exact at_congr _ (Nat.mod_eq_of_lt hn) rfl rfl rfl

/-- What `f` makes of the state's gradient and the blocks at a grid point. -/
abbrev at_ {β : Type} (t : Fin cfg1.N) (f : Vec Ideal S8x128x128 .f32 → Vec Ideal S256x1024 .f32 → Vec Ideal S256x1024 .bf16 → Vec Ideal S8x256x64 .bf16 → Vec Ideal S256x1024 .bf16 → Vec Ideal S256x1024 .bf16 → Vec Ideal S8x4x1x1 .f32 → Vec Ideal S8x4x128x128 .f32 → Vec Ideal S256x1024 .f32 → β) : β :=
  f (dst m c (4 * t.val)) (iblk m c 0 t) (iblk m c 1 t) (iblk m c 2 t) (iblk m c 3 t) (iblk m c 4 t) (iblk m c 5 t) (iblk m c 6 t) (iblk m c 7 t)

theorem bU_eq (t : Fin cfg1.N) (i : ℕ) (hi : i < 4) :
    at_ m c t bU i = du (arr1 m c) (arr2 m c) (arr3 m c) (arr4 m c) (arr5 m c) (arr7 m c) (4 * t.val + (3 - i)) := by
  have ht := lt32 t
  have e : 4 * (31 - t.val) + i = 127 - (4 * t.val + (3 - i)) := by omega
  unfold at_ bU du
  rw [bd_eq m c t _ (by omega), part4 m c t _ hi, part2 m c t _ hi, part7 m c t _ hi, e]

/-- Of window 8, what a grid point leaves. -/
theorem left8 (t : Fin cfg1.N) (y : S256x1024.Idx) : (outsAt0 m c t.val t.isLt).1 y
    = du (arr1 m c) (arr2 m c) (arr3 m c) (arr4 m c) (arr5 m c) (arr7 m c) (4 * t.val + (3 - (y 0).val / 64)) (ix3 (⟨(y 1).val / 128, by have h := (y 1).isLt; dsimp at h; omega⟩ : Fin 8) (⟨(y 0).val % 64, Nat.mod_lt _ (by norm_num)⟩ : Fin 64) (⟨(y 1).val % 128, Nat.mod_lt _ (by norm_num)⟩ : Fin 128)) := by
  have hy : (y 0).val / 64 < 4 := by have h := (y 0).isLt; dsimp at h; omega
  have key : (outsAt0 m c t.val t.isLt).1 = View.canon (tilesDown
      (at_ m c t bU 0)
      (at_ m c t bU 1)
      (at_ m c t bU 2)
      (at_ m c t bU 3)) := by
    obtain ⟨n, hn⟩ := t
    cases n with
    | zero =>
      rw [outsAt0_A m c ⟨0, hn⟩ rfl, ptA]
      dsimp only
      frame_out
      rw [A_U]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_U]
      dsimp only at e
      simp only [Nat.add_sub_cancel]
      rw [e]
  rw [key, tilesDown_apply (at_ m c t bU) y, bU_eq m c t _ hy]

/-- The array of window 8 after the scan. -/
theorem array8 : (dat0 m c).arrAt 8 cfg1.N = fun r : S8192x1024.Idx =>
    du (arr1 m c) (arr2 m c) (arr3 m c) (arr4 m c) (arr5 m c) (arr7 m c) (127 - (r 0).val / 64) (ix3 (⟨(r 1).val / 128, by have h := (r 1).isLt; dsimp at h; omega⟩ : Fin 8) (⟨(r 0).val % 64, Nat.mod_lt _ (by norm_num)⟩ : Fin 64) (⟨(r 1).val % 128, Nat.mod_lt _ (by norm_num)⟩ : Fin 128)) := by
  refine (dat0 m c).arrAt_eq_of_covers 8 _ (by decide +kernel) fun t _ y => ?_
  have ht := lt32 t
  blk_simp
  rw [after0_8, left8 m c]
  have e := (idx t).2.2.2.2.2.2.2.2.1
  have e0 : win1_8.index t 0 = 31 - t.val := by rw [e]; rfl
  have e1 : win1_8.index t 1 = 0 := by rw [e]; rfl
  have hv : (y 0).val < 256 := (y 0).isLt
  refine at_congr _ ?_ ?_ ?_ ?_ <;> simp only [e0, e1] <;> omega

theorem bW_eq (hs : Stored m c) (t : Fin cfg1.N) (i : ℕ) (hi : i < 4) :
    at_ m c t bW i = dw (arr0 m c) (arr1 m c) (arr2 m c) (arr3 m c) (arr4 m c) (arr5 m c) (arr7 m c) (4 * t.val + (3 - i)) := by
  have ht := lt32 t
  have e : 4 * (31 - t.val) + i = 127 - (4 * t.val + (3 - i)) := by omega
  unfold at_ bW dw du
  rw [bd_eq m c t _ (by omega), part6 m c t _ hi, part4 m c t _ hi, part2 m c t _ hi, part7 m c t _ hi, stored_eq m c hs _ (by omega), e]

/-- Of window 9, what a grid point leaves. -/
theorem left9 (hs : Stored m c) (t : Fin cfg1.N) (y : S256x1024.Idx) : (outsAt0 m c t.val t.isLt).2.1 y
    = dw (arr0 m c) (arr1 m c) (arr2 m c) (arr3 m c) (arr4 m c) (arr5 m c) (arr7 m c) (4 * t.val + (3 - (y 0).val / 64)) (ix3 (⟨(y 1).val / 128, by have h := (y 1).isLt; dsimp at h; omega⟩ : Fin 8) (⟨(y 0).val % 64, Nat.mod_lt _ (by norm_num)⟩ : Fin 64) (⟨(y 1).val % 128, Nat.mod_lt _ (by norm_num)⟩ : Fin 128)) := by
  have hy : (y 0).val / 64 < 4 := by have h := (y 0).isLt; dsimp at h; omega
  have key : (outsAt0 m c t.val t.isLt).2.1 = View.canon (tilesDown
      (at_ m c t bW 0)
      (at_ m c t bW 1)
      (at_ m c t bW 2)
      (at_ m c t bW 3)) := by
    obtain ⟨n, hn⟩ := t
    cases n with
    | zero =>
      rw [outsAt0_A m c ⟨0, hn⟩ rfl, ptA]
      dsimp only
      frame_out
      rw [A_W]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_W]
      dsimp only at e
      simp only [Nat.add_sub_cancel]
      rw [e]
  rw [key, tilesDown_apply (at_ m c t bW) y, bW_eq m c hs t _ hy]

/-- The array of window 9 after the scan. -/
theorem array9 (hs : Stored m c) : (dat0 m c).arrAt 9 cfg1.N = fun r : S8192x1024.Idx =>
    dw (arr0 m c) (arr1 m c) (arr2 m c) (arr3 m c) (arr4 m c) (arr5 m c) (arr7 m c) (127 - (r 0).val / 64) (ix3 (⟨(r 1).val / 128, by have h := (r 1).isLt; dsimp at h; omega⟩ : Fin 8) (⟨(r 0).val % 64, Nat.mod_lt _ (by norm_num)⟩ : Fin 64) (⟨(r 1).val % 128, Nat.mod_lt _ (by norm_num)⟩ : Fin 128)) := by
  refine (dat0 m c).arrAt_eq_of_covers 9 _ (by decide +kernel) fun t _ y => ?_
  have ht := lt32 t
  blk_simp
  rw [after0_9, left9 m c hs]
  have e := (idx t).2.2.2.2.2.2.2.2.2.1
  have e0 : win1_9.index t 0 = 31 - t.val := by rw [e]; rfl
  have e1 : win1_9.index t 1 = 0 := by rw [e]; rfl
  have hv : (y 0).val < 256 := (y 0).isLt
  refine at_congr _ ?_ ?_ ?_ ?_ <;> simp only [e0, e1] <;> omega

theorem bP_eq (hs : Stored m c) (t : Fin cfg1.N) (i : ℕ) (hi : i < 4) :
    at_ m c t bP i = dp (arr0 m c) (arr1 m c) (arr4 m c) (arr5 m c) (arr7 m c) (4 * t.val + (3 - i)) := by
  have ht := lt32 t
  have e : 4 * (31 - t.val) + i = 127 - (4 * t.val + (3 - i)) := by omega
  unfold at_ bP dp value
  rw [part7 m c t _ hi, part6 m c t _ hi, part0 m c t _ hi, part1 m c t _ hi, stored_eq m c hs _ (by omega), e]

/-- Of window 10, what a grid point leaves. -/
theorem left10 (hs : Stored m c) (t : Fin cfg1.N) (y : S8x256x64.Idx) : (outsAt0 m c t.val t.isLt).2.2.1 y
    = dp (arr0 m c) (arr1 m c) (arr4 m c) (arr5 m c) (arr7 m c) (4 * t.val + (3 - (y 1).val / 64)) (ix3 (⟨(y 0).val, (y 0).isLt⟩ : Fin 8) (⟨(y 1).val % 64, Nat.mod_lt _ (by norm_num)⟩ : Fin 64) (⟨(y 2).val, (y 2).isLt⟩ : Fin 64)) := by
  have hy : (y 1).val / 64 < 4 := by have h := (y 1).isLt; dsimp at h; omega
  have key : (outsAt0 m c t.val t.isLt).2.2.1 = View.canon (squares
      (at_ m c t bP 0)
      (at_ m c t bP 1)
      (at_ m c t bP 2)
      (at_ m c t bP 3)) := by
    obtain ⟨n, hn⟩ := t
    cases n with
    | zero =>
      rw [outsAt0_A m c ⟨0, hn⟩ rfl, ptA]
      dsimp only
      frame_out
      rw [A_P]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_P]
      dsimp only at e
      simp only [Nat.add_sub_cancel]
      rw [e]
  rw [key, squares_apply (at_ m c t bP) y, bP_eq m c hs t _ hy]

/-- The array of window 10 after the scan. -/
theorem array10 (hs : Stored m c) : (dat0 m c).arrAt 10 cfg1.N = fun r : S8x8192x64.Idx =>
    dp (arr0 m c) (arr1 m c) (arr4 m c) (arr5 m c) (arr7 m c) (127 - (r 1).val / 64) (ix3 (⟨(r 0).val, (r 0).isLt⟩ : Fin 8) (⟨(r 1).val % 64, Nat.mod_lt _ (by norm_num)⟩ : Fin 64) (⟨(r 2).val, (r 2).isLt⟩ : Fin 64)) := by
  refine (dat0 m c).arrAt_eq_of_covers 10 _ (by decide +kernel) fun t _ y => ?_
  have ht := lt32 t
  blk_simp
  rw [after0_10, left10 m c hs]
  have e := (idx t).2.2.2.2.2.2.2.2.2.2.1
  have e0 : win1_10.index t 0 = 0 := by rw [e]; rfl
  have e1 : win1_10.index t 1 = 31 - t.val := by rw [e]; rfl
  have e2 : win1_10.index t 2 = 0 := by rw [e]; rfl
  have hv : (y 1).val < 256 := (y 1).isLt
  refine at_congr _ ?_ ?_ ?_ ?_ <;> simp only [e0, e1, e2] <;> omega

theorem bQ_eq (hs : Stored m c) (t : Fin cfg1.N) (i : ℕ) (hi : i < 4) :
    at_ m c t bQ i = dq (arr0 m c) (arr1 m c) (arr4 m c) (arr5 m c) (arr7 m c) (4 * t.val + (3 - i)) := by
  have ht := lt32 t
  have e : 4 * (31 - t.val) + i = 127 - (4 * t.val + (3 - i)) := by omega
  unfold at_ bQ dq
  rw [part6 m c t _ hi, part7 m c t _ hi, stored_eq m c hs _ (by omega), e]

/-- Of window 11, what a grid point leaves. -/
theorem left11 (hs : Stored m c) (t : Fin cfg1.N) (y : S256x1024.Idx) : (outsAt0 m c t.val t.isLt).2.2.2.1 y
    = dq (arr0 m c) (arr1 m c) (arr4 m c) (arr5 m c) (arr7 m c) (4 * t.val + (3 - (y 0).val / 64)) (ix3 (⟨(y 1).val / 128, by have h := (y 1).isLt; dsimp at h; omega⟩ : Fin 8) (⟨(y 0).val % 64, Nat.mod_lt _ (by norm_num)⟩ : Fin 64) (⟨(y 1).val % 128, Nat.mod_lt _ (by norm_num)⟩ : Fin 128)) := by
  have hy : (y 0).val / 64 < 4 := by have h := (y 0).isLt; dsimp at h; omega
  have key : (outsAt0 m c t.val t.isLt).2.2.2.1 = View.canon (tilesDown
      (at_ m c t bQ 0)
      (at_ m c t bQ 1)
      (at_ m c t bQ 2)
      (at_ m c t bQ 3)) := by
    obtain ⟨n, hn⟩ := t
    cases n with
    | zero =>
      rw [outsAt0_A m c ⟨0, hn⟩ rfl, ptA]
      dsimp only
      frame_out
      rw [A_Q]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_Q]
      dsimp only at e
      simp only [Nat.add_sub_cancel]
      rw [e]
  rw [key, tilesDown_apply (at_ m c t bQ) y, bQ_eq m c hs t _ hy]

/-- The array of window 11 after the scan. -/
theorem array11 (hs : Stored m c) : (dat0 m c).arrAt 11 cfg1.N = fun r : S8192x1024.Idx =>
    dq (arr0 m c) (arr1 m c) (arr4 m c) (arr5 m c) (arr7 m c) (127 - (r 0).val / 64) (ix3 (⟨(r 1).val / 128, by have h := (r 1).isLt; dsimp at h; omega⟩ : Fin 8) (⟨(r 0).val % 64, Nat.mod_lt _ (by norm_num)⟩ : Fin 64) (⟨(r 1).val % 128, Nat.mod_lt _ (by norm_num)⟩ : Fin 128)) := by
  refine (dat0 m c).arrAt_eq_of_covers 11 _ (by decide +kernel) fun t _ y => ?_
  have ht := lt32 t
  blk_simp
  rw [after0_11, left11 m c hs]
  have e := (idx t).2.2.2.2.2.2.2.2.2.2.2.1
  have e0 : win1_11.index t 0 = 31 - t.val := by rw [e]; rfl
  have e1 : win1_11.index t 1 = 0 := by rw [e]; rfl
  have hv : (y 0).val < 256 := (y 0).isLt
  refine at_congr _ ?_ ?_ ?_ ?_ <;> simp only [e0, e1] <;> omega

theorem bK_eq (hs : Stored m c) (t : Fin cfg1.N) (i : ℕ) (hi : i < 4) :
    at_ m c t bK i = dk (arr0 m c) (arr1 m c) (arr2 m c) (arr3 m c) (arr4 m c) (arr5 m c) (arr7 m c) (4 * t.val + (3 - i)) := by
  have ht := lt32 t
  have e : 4 * (31 - t.val) + i = 127 - (4 * t.val + (3 - i)) := by omega
  unfold at_ bK dk value
  rw [bd_eq m c t _ (by omega), part6 m c t _ hi, part0 m c t _ hi, part1 m c t _ hi, stored_eq m c hs _ (by omega), e]

/-- Of window 12, what a grid point leaves. -/
theorem left12 (hs : Stored m c) (t : Fin cfg1.N) (y : S256x1024.Idx) : (outsAt0 m c t.val t.isLt).2.2.2.2.1 y
    = dk (arr0 m c) (arr1 m c) (arr2 m c) (arr3 m c) (arr4 m c) (arr5 m c) (arr7 m c) (4 * t.val + (3 - (y 0).val / 64)) (ix3 (⟨(y 1).val / 128, by have h := (y 1).isLt; dsimp at h; omega⟩ : Fin 8) (⟨(y 0).val % 64, Nat.mod_lt _ (by norm_num)⟩ : Fin 64) (⟨(y 1).val % 128, Nat.mod_lt _ (by norm_num)⟩ : Fin 128)) := by
  have hy : (y 0).val / 64 < 4 := by have h := (y 0).isLt; dsimp at h; omega
  have key : (outsAt0 m c t.val t.isLt).2.2.2.2.1 = View.canon (tilesDown
      (at_ m c t bK 0)
      (at_ m c t bK 1)
      (at_ m c t bK 2)
      (at_ m c t bK 3)) := by
    obtain ⟨n, hn⟩ := t
    cases n with
    | zero =>
      rw [outsAt0_A m c ⟨0, hn⟩ rfl, ptA]
      dsimp only
      frame_out
      rw [A_K]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_K]
      dsimp only at e
      simp only [Nat.add_sub_cancel]
      rw [e]
  rw [key, tilesDown_apply (at_ m c t bK) y, bK_eq m c hs t _ hy]

/-- The array of window 12 after the scan. -/
theorem array12 (hs : Stored m c) : (dat0 m c).arrAt 12 cfg1.N = fun r : S8192x1024.Idx =>
    dk (arr0 m c) (arr1 m c) (arr2 m c) (arr3 m c) (arr4 m c) (arr5 m c) (arr7 m c) (127 - (r 0).val / 64) (ix3 (⟨(r 1).val / 128, by have h := (r 1).isLt; dsimp at h; omega⟩ : Fin 8) (⟨(r 0).val % 64, Nat.mod_lt _ (by norm_num)⟩ : Fin 64) (⟨(r 1).val % 128, Nat.mod_lt _ (by norm_num)⟩ : Fin 128)) := by
  refine (dat0 m c).arrAt_eq_of_covers 12 _ (by decide +kernel) fun t _ y => ?_
  have ht := lt32 t
  blk_simp
  rw [after0_12, left12 m c hs]
  have e := (idx t).2.2.2.2.2.2.2.2.2.2.2.2.1
  have e0 : win1_12.index t 0 = 31 - t.val := by rw [e]; rfl
  have e1 : win1_12.index t 1 = 0 := by rw [e]; rfl
  have hv : (y 0).val < 256 := (y 0).isLt
  refine at_congr _ ?_ ?_ ?_ ?_ <;> simp only [e0, e1] <;> omega

theorem bG_eq (hs : Stored m c) (t : Fin cfg1.N) (i : ℕ) (hi : i < 4) :
    at_ m c t bG i = dg (arr0 m c) (arr1 m c) (arr2 m c) (arr3 m c) (arr4 m c) (arr5 m c) (arr7 m c) (4 * t.val + (3 - i)) := by
  have ht := lt32 t
  have e : 4 * (31 - t.val) + i = 127 - (4 * t.val + (3 - i)) := by omega
  unfold at_ bG dg
  rw [bd_eq m c t _ (by omega), part6 m c t _ hi, part5 m c t _ hi, stored_eq m c hs _ (by omega), e]

/-- Of window 13, what a grid point leaves. -/
theorem left13 (hs : Stored m c) (t : Fin cfg1.N) (y : S8x4x1x1.Idx) : (outsAt0 m c t.val t.isLt).2.2.2.2.2.1 y
    = dg (arr0 m c) (arr1 m c) (arr2 m c) (arr3 m c) (arr4 m c) (arr5 m c) (arr7 m c) (4 * t.val + (3 - (y 1).val)) ⟨(y 0).val, (y 0).isLt⟩ := by
  have hy : (y 1).val < 4 := by have h := (y 1).isLt; dsimp at h; omega
  have key : (outsAt0 m c t.val t.isLt).2.2.2.2.2.1 = View.canon (decays
      (fun j => at_ m c t bG 0 (j 0))
      (fun j => at_ m c t bG 1 (j 0))
      (fun j => at_ m c t bG 2 (j 0))
      (fun j => at_ m c t bG 3 (j 0))) := by
    obtain ⟨n, hn⟩ := t
    cases n with
    | zero =>
      rw [outsAt0_A m c ⟨0, hn⟩ rfl, ptA]
      dsimp only
      frame_out
      rw [A_G]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_G]
      dsimp only at e
      simp only [Nat.add_sub_cancel]
      rw [e]
  rw [key, decays_apply (at_ m c t bG) y, bG_eq m c hs t _ hy]

/-- The array of window 13 after the scan. -/
theorem array13 (hs : Stored m c) : (dat0 m c).arrAt 13 cfg1.N = fun r : S8x128x1x1.Idx =>
    dg (arr0 m c) (arr1 m c) (arr2 m c) (arr3 m c) (arr4 m c) (arr5 m c) (arr7 m c) (127 - (r 1).val) ⟨(r 0).val, (r 0).isLt⟩ := by
  refine (dat0 m c).arrAt_eq_of_covers 13 _ (by decide +kernel) fun t _ y => ?_
  have ht := lt32 t
  blk_simp
  rw [after0_13, left13 m c hs]
  have e := (idx t).2.2.2.2.2.2.2.2.2.2.2.2.2
  have e0 : win1_13.index t 0 = 0 := by rw [e]; rfl
  have e1 : win1_13.index t 1 = 31 - t.val := by rw [e]; rfl
  have e2 : win1_13.index t 2 = 0 := by rw [e]; rfl
  have e3 : win1_13.index t 3 = 0 := by rw [e]; rfl
  have hv : (y 1).val < 4 := (y 1).isLt
  simp only [e0, e1]
  refine congrArg₂ _ ?_ (Fin.ext ?_) <;> (try dsimp only) <;> omega

end Cert.KernelIdeal.Bwd

end
-- ==== Proof.FwdChunk.lean ====
/- The forward scan at one grid point: its four chunks, each as its loads and operations leave it. -/
module

public import proofs.«01_k».proof.Proof.FwdBody
public import proofs.«01_k».proof.Proof.KOps
public import proofs.«01_k».proof.Proof.KTiles

@[expose] public section

set_option maxRecDepth 16384

noncomputable section

namespace Cert.KernelIdeal.Fwd

open Cert.KernelIdeal.Gen Cert.Scan Cert.KernelIdeal.Scan
open Idealize.ShloMosaic Idealize.ShloMosaic.TcCoe Idealize.ShloMosaic.Tactic

/-- The state after the first `i` chunks of a block whose first state is `S`. -/
def bstate (S : State) (x0 : Vec Ideal S256x1024 .f32) (x1 : Vec Ideal S256x1024 .bf16) (x4 : Vec Ideal S256x1024 .bf16) (x5 : Vec Ideal S8x4x1x1 .f32) : ℕ → State
  | 0 => S
  | i + 1 => next (bstate S x0 x1 x4 x5 i) (part x4 i) (partG x5 i) (newV (bstate S x0 x1 x4 x5 i) (part x0 i) (part x1 i))

/-- The output of chunk `i` of a block whose first state is `S`. -/
def bout (S : State) (x0 : Vec Ideal S256x1024 .f32) (x1 : Vec Ideal S256x1024 .bf16) (x2 : Vec Ideal S8x256x64 .bf16) (x3 : Vec Ideal S256x1024 .bf16) (x4 : Vec Ideal S256x1024 .bf16) (x5 : Vec Ideal S8x4x1x1 .f32) (i : ℕ) : Chunk :=
  out (bstate S x0 x1 x4 x5 i) (part x3 i) (partP x2 i) (newV (bstate S x0 x1 x4 x5 i) (part x0 i) (part x1 i))

variable (M2 : Memref sig .tc .vmem S256x1024 .f32) (h2 : M2.IsWhole) (M3 : Memref sig .tc .vmem S256x1024 .bf16) (h3 : M3.IsWhole) (M4 : Memref sig .tc .vmem S8x256x64 .bf16) (h4 : M4.IsWhole) (M5 : Memref sig .tc .vmem S256x1024 .bf16) (h5 : M5.IsWhole) (M6 : Memref sig .tc .vmem S256x1024 .bf16) (h6 : M6.IsWhole) (M7 : Memref sig .tc .vmem S8x4x1x1 .f32) (h7 : M7.IsWhole)
  (x0 : Vec Ideal S256x1024 .f32) (x1 : Vec Ideal S256x1024 .bf16) (x2 : Vec Ideal S8x256x64 .bf16) (x3 : Vec Ideal S256x1024 .bf16) (x4 : Vec Ideal S256x1024 .bf16) (x5 : Vec Ideal S8x4x1x1 .f32)

/-- The next state as the loads and operations give it: chunk `i` of the block starts at row `o`. -/
def fwdStep (S : FVec Ideal S8x128x128 .f32) (o i : ℕ) (ho : o + 64 ≤ 256) (hg : ∀ a, (![0, i, 0, 0] : Fin 4 → ℕ) a + S8x1x1x1.size a ≤ S8x4x1x1.size a) : FVec Ideal S8x128x128 .f32 :=
  shapeCast S8x128x128 (k0_pay16 (F := Ideal) S (headsF M2 h2 x0 o ho) (headsB M3 h3 x1 o ho) (headsB M6 h6 x4 o ho) (View.readAt (Elt Ideal) M7.view (Rect.unit (s := S8x4x1x1) ![0, i, 0, 0] S8x1x1x1.size hg).toLoadRect (h7.unread x5))) shapeCasts_S8x128x128_S8x128x128

theorem fwdStep_eq (S : FVec Ideal S8x128x128 .f32) (o i : ℕ) (ho : o + 64 ≤ 256) (hi : o = 64 * i) (hg : ∀ a, (![0, i, 0, 0] : Fin 4 → ℕ) a + S8x1x1x1.size a ≤ S8x4x1x1.size a) :
    fwdStep M2 h2 M3 h3 M6 h6 M7 h7 x0 x1 x4 x5 S o i ho hg = next S (part x4 i) (partG x5 i) (newV S (part x0 i) (part x1 i)) := by
  unfold fwdStep
  rw [same_shape, pay0_next, headsF_eq _ _ _ _ i ho hi, headsB_eq _ _ _ _ i ho hi, headsB_eq _ _ _ _ i ho hi, read_g _ _ _ i (by omega)]

/-- The output as the loads and operations give it. -/
def fwdOut (S : FVec Ideal S8x128x128 .f32) (o : ℕ) (ho : o + 64 ≤ 256) (hp : ∀ a, (![0, o, 0] : Fin 3 → ℕ) a + S8x64x64.size a ≤ S8x256x64.size a) : FVec Ideal S8x64x128 .f32 :=
  k0_pay15 (F := Ideal) S (headsF M2 h2 x0 o ho) (headsB M3 h3 x1 o ho) (View.readAt (Elt Ideal) M4.view (Rect.unit (s := S8x256x64) ![0, o, 0] S8x64x64.size hp).toLoadRect (h4.unread x2)) (headsB M5 h5 x3 o ho)

theorem fwdOut_eq (S : FVec Ideal S8x128x128 .f32) (o i : ℕ) (ho : o + 64 ≤ 256) (hi : o = 64 * i) (hp : ∀ a, (![0, o, 0] : Fin 3 → ℕ) a + S8x64x64.size a ≤ S8x256x64.size a) :
    fwdOut M2 h2 M3 h3 M4 h4 M5 h5 x0 x1 x2 x3 S o ho hp = out S (part x3 i) (partP x2 i) (newV S (part x0 i) (part x1 i)) := by
  unfold fwdOut
  rw [pay0_out, headsF_eq _ _ _ _ i ho hi, headsB_eq _ _ _ _ i ho hi, headsB_eq _ _ _ _ i ho hi, read_p _ _ _ o i hi (by omega)]

theorem zeroState : k0_pay2 (F := Ideal) = fun _ => (0 : EReal) := by
  funext j; pointwise [k0_pay2]

end Cert.KernelIdeal.Fwd

end
-- ==== Proof.FwdValA.lean ====
/- The forward scan's run at the first grid point: states and outputs of its four chunks. -/
module

public import proofs.«01_k».proof.Proof.FwdChunk
public import proofs.«01_k».proof.Proof.FwdBody
public import proofs.«01_k».proof.Proof.KTiles

@[expose] public section

set_option maxRecDepth 16384

noncomputable section

namespace Cert.KernelIdeal.Fwd

open Cert.KernelIdeal.Gen Cert.Scan Cert.KernelIdeal.Scan
open Idealize.ShloMosaic Idealize.ShloMosaic.TcCoe Idealize.ShloMosaic.Tactic

variable (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S256x1024 .f32) (harg8 : arg8.IsWhole) (arg9 : Memref sig .tc .vmem S8x4x128x128 .f32) (harg9 : arg9.IsWhole) (arg10 : Memref sig .tc .vmem S8x128x128 .f32) (harg10 : arg10.IsWhole) (hc0 : cond0_0 i)
  (x0 : Vec Ideal S256x1024 .f32) (x1 : Vec Ideal S256x1024 .bf16) (x2 : Vec Ideal S8x256x64 .bf16) (x3 : Vec Ideal S256x1024 .bf16) (x4 : Vec Ideal S256x1024 .bf16) (x5 : Vec Ideal S8x4x1x1 .f32)

theorem A_0 : (kernelRun0_A.sl.v3 (F := Ideal) c arg10) = bstate (fun _ => 0) x0 x1 x4 x5 0 := by
  unfold kernelRun0_A.sl.v3 kernelRun0_A.sl.HS0_1
  rw [View.readCov_unit_lit' _ _ _ (by decide)]
  exact zeroState

theorem A_1 : kernelRun0_A.sl.v146 (F := Ideal) c arg2 harg2 arg3 harg3 arg6 harg6 arg7 harg7 arg10 x0 x1 x4 x5 = bstate (fun _ => 0) x0 x1 x4 x5 1 := by
  unfold kernelRun0_A.sl.v146 kernelRun0_A.sl.HS0_2
  rw [View.readCov_cons_unit_lit' _ _ _ _ _ (by decide) (by decide)]
  refine (show _ = fwdStep arg2 harg2 arg3 harg3 arg6 harg6 arg7 harg7 x0 x1 x4 x5 (kernelRun0_A.sl.v3 (F := Ideal) c arg10) 0 0 (by norm_num) inb_S8x4x1x1_S8x1x1x1_0_0_0_0 from by chain_rfl).trans ?_
  rw [fwdStep_eq _ _ _ _ _ _ _ _ _ _ _ _ _ 0 0 _ rfl, A_0]
  rfl

theorem A_2 : kernelRun0_A.sl.v289 (F := Ideal) c arg2 harg2 arg3 harg3 arg6 harg6 arg7 harg7 arg10 x0 x1 x4 x5 = bstate (fun _ => 0) x0 x1 x4 x5 2 := by
  unfold kernelRun0_A.sl.v289 kernelRun0_A.sl.HS0_3
  rw [View.readCov_cons_unit_lit' _ _ _ _ _ (by decide) (by decide)]
  refine (show _ = fwdStep arg2 harg2 arg3 harg3 arg6 harg6 arg7 harg7 x0 x1 x4 x5 (kernelRun0_A.sl.v146 (F := Ideal) c arg2 harg2 arg3 harg3 arg6 harg6 arg7 harg7 arg10 x0 x1 x4 x5) 64 1 (by norm_num) inb_S8x4x1x1_S8x1x1x1_0_1_0_0 from by chain_rfl).trans ?_
  rw [fwdStep_eq _ _ _ _ _ _ _ _ _ _ _ _ _ 64 1 _ rfl, A_1]
  rfl

theorem A_3 : kernelRun0_A.sl.v432 (F := Ideal) c arg2 harg2 arg3 harg3 arg6 harg6 arg7 harg7 arg10 x0 x1 x4 x5 = bstate (fun _ => 0) x0 x1 x4 x5 3 := by
  unfold kernelRun0_A.sl.v432 kernelRun0_A.sl.HS0_4
  rw [View.readCov_cons_unit_lit' _ _ _ _ _ (by decide) (by decide)]
  refine (show _ = fwdStep arg2 harg2 arg3 harg3 arg6 harg6 arg7 harg7 x0 x1 x4 x5 (kernelRun0_A.sl.v289 (F := Ideal) c arg2 harg2 arg3 harg3 arg6 harg6 arg7 harg7 arg10 x0 x1 x4 x5) 128 2 (by norm_num) inb_S8x4x1x1_S8x1x1x1_0_2_0_0 from by chain_rfl).trans ?_
  rw [fwdStep_eq _ _ _ _ _ _ _ _ _ _ _ _ _ 128 2 _ rfl, A_2]
  rfl

theorem A_out : (kernelRun0_A c i arg2 harg2 arg3 harg3 arg4 harg4 arg5 harg5 arg6 harg6 arg7 harg7 arg8 harg8 arg9 harg9 arg10 harg10 hc0 x0 x1 x2 x3 x4 x5).1 = tilesUp (bout (fun _ => 0) x0 x1 x2 x3 x4 x5 0) (bout (fun _ => 0) x0 x1 x2 x3 x4 x5 1) (bout (fun _ => 0) x0 x1 x2 x3 x4 x5 2) (bout (fun _ => 0) x0 x1 x2 x3 x4 x5 3) := by
  refine (show _ = tilesUp
    (fwdOut arg2 harg2 arg3 harg3 arg4 harg4 arg5 harg5 x0 x1 x2 x3 (kernelRun0_A.sl.v3 (F := Ideal) c arg10) 0 (by norm_num) inb_S8x256x64_S8x64x64_0_0_0)
    (fwdOut arg2 harg2 arg3 harg3 arg4 harg4 arg5 harg5 x0 x1 x2 x3 (kernelRun0_A.sl.v146 (F := Ideal) c arg2 harg2 arg3 harg3 arg6 harg6 arg7 harg7 arg10 x0 x1 x4 x5) 64 (by norm_num) inb_S8x256x64_S8x64x64_0_64_0)
    (fwdOut arg2 harg2 arg3 harg3 arg4 harg4 arg5 harg5 x0 x1 x2 x3 (kernelRun0_A.sl.v289 (F := Ideal) c arg2 harg2 arg3 harg3 arg6 harg6 arg7 harg7 arg10 x0 x1 x4 x5) 128 (by norm_num) inb_S8x256x64_S8x64x64_0_128_0)
    (fwdOut arg2 harg2 arg3 harg3 arg4 harg4 arg5 harg5 x0 x1 x2 x3 (kernelRun0_A.sl.v432 (F := Ideal) c arg2 harg2 arg3 harg3 arg6 harg6 arg7 harg7 arg10 x0 x1 x4 x5) 192 (by norm_num) inb_S8x256x64_S8x64x64_0_192_0) from by chain_rfl).trans ?_
  rw [fwdOut_eq _ _ _ _ _ _ _ _ _ _ _ _ _ 0 0 _ rfl, fwdOut_eq _ _ _ _ _ _ _ _ _ _ _ _ _ 64 1 _ rfl, fwdOut_eq _ _ _ _ _ _ _ _ _ _ _ _ _ 128 2 _ rfl, fwdOut_eq _ _ _ _ _ _ _ _ _ _ _ _ _ 192 3 _ rfl, A_0, A_1, A_2, A_3]
  rfl

theorem A_states : (kernelRun0_A c i arg2 harg2 arg3 harg3 arg4 harg4 arg5 harg5 arg6 harg6 arg7 harg7 arg8 harg8 arg9 harg9 arg10 harg10 hc0 x0 x1 x2 x3 x4 x5).2.1 = states (bstate (fun _ => 0) x0 x1 x4 x5 0) (bstate (fun _ => 0) x0 x1 x4 x5 1) (bstate (fun _ => 0) x0 x1 x4 x5 2) (bstate (fun _ => 0) x0 x1 x4 x5 3) := by
  refine (show _ = states (kernelRun0_A.sl.v3 (F := Ideal) c arg10) (kernelRun0_A.sl.v146 (F := Ideal) c arg2 harg2 arg3 harg3 arg6 harg6 arg7 harg7 arg10 x0 x1 x4 x5) (kernelRun0_A.sl.v289 (F := Ideal) c arg2 harg2 arg3 harg3 arg6 harg6 arg7 harg7 arg10 x0 x1 x4 x5) (kernelRun0_A.sl.v432 (F := Ideal) c arg2 harg2 arg3 harg3 arg6 harg6 arg7 harg7 arg10 x0 x1 x4 x5) from by chain_rfl).trans ?_
  rw [A_0, A_1, A_2, A_3]

theorem A_scratch : View.canon (kernelRun0_A c i arg2 harg2 arg3 harg3 arg4 harg4 arg5 harg5 arg6 harg6 arg7 harg7 arg8 harg8 arg9 harg9 arg10 harg10 hc0 x0 x1 x2 x3 x4 x5).2.2.1 = bstate (fun _ => 0) x0 x1 x4 x5 4 := by
  refine (show _ = View.canon (⟨Rect.unit (s := S8x128x128) ![0, 0, 0] S8x128x128.size inb_S8x128x128_S8x128x128_0_0_0, fwdStep arg2 harg2 arg3 harg3 arg6 harg6 arg7 harg7 x0 x1 x4 x5 (kernelRun0_A.sl.v432 (F := Ideal) c arg2 harg2 arg3 harg3 arg6 harg6 arg7 harg7 arg10 x0 x1 x4 x5) 192 3 (by norm_num) inb_S8x4x1x1_S8x1x1x1_0_3_0_0⟩ :: (kernelRun0_A.sl.HS0_4 (F := Ideal) c arg2 harg2 arg3 harg3 arg6 harg6 arg7 harg7 arg10 x0 x1 x4 x5)) from by chain_rfl).trans ?_
  rw [View.canon_cons_unit_lit' _ _ _ (by decide), fwdStep_eq _ _ _ _ _ _ _ _ _ _ _ _ _ 192 3 _ rfl, A_3]
  rfl

end Cert.KernelIdeal.Fwd

end
-- ==== Proof.FwdValB.lean ====
/- The forward scan's run at a later grid point: states and outputs of its four chunks. -/
module

public import proofs.«01_k».proof.Proof.FwdChunk
public import proofs.«01_k».proof.Proof.FwdBody
public import proofs.«01_k».proof.Proof.KTiles

@[expose] public section

set_option maxRecDepth 16384

noncomputable section

namespace Cert.KernelIdeal.Fwd

open Cert.KernelIdeal.Gen Cert.Scan Cert.KernelIdeal.Scan
open Idealize.ShloMosaic Idealize.ShloMosaic.TcCoe Idealize.ShloMosaic.Tactic

variable (c : Dev nD) (i : grid0.Coords) (arg2 : Memref sig .tc .vmem S256x1024 .f32) (harg2 : arg2.IsWhole) (arg3 : Memref sig .tc .vmem S256x1024 .bf16) (harg3 : arg3.IsWhole) (arg4 : Memref sig .tc .vmem S8x256x64 .bf16) (harg4 : arg4.IsWhole) (arg5 : Memref sig .tc .vmem S256x1024 .bf16) (harg5 : arg5.IsWhole) (arg6 : Memref sig .tc .vmem S256x1024 .bf16) (harg6 : arg6.IsWhole) (arg7 : Memref sig .tc .vmem S8x4x1x1 .f32) (harg7 : arg7.IsWhole) (arg8 : Memref sig .tc .vmem S256x1024 .f32) (harg8 : arg8.IsWhole) (arg9 : Memref sig .tc .vmem S8x4x128x128 .f32) (harg9 : arg9.IsWhole) (arg10 : Memref sig .tc .vmem S8x128x128 .f32) (harg10 : arg10.IsWhole) (hc0 : ¬cond0_0 i)
  (x0 : Vec Ideal S256x1024 .f32) (x1 : Vec Ideal S256x1024 .bf16) (x2 : Vec Ideal S8x256x64 .bf16) (x3 : Vec Ideal S256x1024 .bf16) (x4 : Vec Ideal S256x1024 .bf16) (x5 : Vec Ideal S8x4x1x1 .f32) (xs0 : Vec Ideal S8x128x128 .f32)

theorem B_0 : (kernelRun0_B.sl.r (F := Ideal) c arg10 harg10 xs0) = bstate xs0 x0 x1 x4 x5 0 := read_whole _ _ _ _

theorem B_1 : kernelRun0_B.sl.v146 (F := Ideal) c arg2 harg2 arg3 harg3 arg6 harg6 arg7 harg7 arg10 harg10 x0 x1 x4 x5 xs0 = bstate xs0 x0 x1 x4 x5 1 := by
  unfold kernelRun0_B.sl.v146 kernelRun0_B.sl.HS0_1
  rw [View.readCov_unit_lit' _ _ _ (by decide)]
  refine (show _ = fwdStep arg2 harg2 arg3 harg3 arg6 harg6 arg7 harg7 x0 x1 x4 x5 (kernelRun0_B.sl.r (F := Ideal) c arg10 harg10 xs0) 0 0 (by norm_num) inb_S8x4x1x1_S8x1x1x1_0_0_0_0 from by chain_rfl).trans ?_
  rw [fwdStep_eq _ _ _ _ _ _ _ _ _ _ _ _ _ 0 0 _ rfl, B_0]
  rfl

theorem B_2 : kernelRun0_B.sl.v289 (F := Ideal) c arg2 harg2 arg3 harg3 arg6 harg6 arg7 harg7 arg10 harg10 x0 x1 x4 x5 xs0 = bstate xs0 x0 x1 x4 x5 2 := by
  unfold kernelRun0_B.sl.v289 kernelRun0_B.sl.HS0_2
  rw [View.readCov_cons_unit_lit' _ _ _ _ _ (by decide) (by decide)]
  refine (show _ = fwdStep arg2 harg2 arg3 harg3 arg6 harg6 arg7 harg7 x0 x1 x4 x5 (kernelRun0_B.sl.v146 (F := Ideal) c arg2 harg2 arg3 harg3 arg6 harg6 arg7 harg7 arg10 harg10 x0 x1 x4 x5 xs0) 64 1 (by norm_num) inb_S8x4x1x1_S8x1x1x1_0_1_0_0 from by chain_rfl).trans ?_
  rw [fwdStep_eq _ _ _ _ _ _ _ _ _ _ _ _ _ 64 1 _ rfl, B_1]
  rfl

theorem B_3 : kernelRun0_B.sl.v432 (F := Ideal) c arg2 harg2 arg3 harg3 arg6 harg6 arg7 harg7 arg10 harg10 x0 x1 x4 x5 xs0 = bstate xs0 x0 x1 x4 x5 3 := by
  unfold kernelRun0_B.sl.v432 kernelRun0_B.sl.HS0_3
  rw [View.readCov_cons_unit_lit' _ _ _ _ _ (by decide) (by decide)]
  refine (show _ = fwdStep arg2 harg2 arg3 harg3 arg6 harg6 arg7 harg7 x0 x1 x4 x5 (kernelRun0_B.sl.v289 (F := Ideal) c arg2 harg2 arg3 harg3 arg6 harg6 arg7 harg7 arg10 harg10 x0 x1 x4 x5 xs0) 128 2 (by norm_num) inb_S8x4x1x1_S8x1x1x1_0_2_0_0 from by chain_rfl).trans ?_
  rw [fwdStep_eq _ _ _ _ _ _ _ _ _ _ _ _ _ 128 2 _ rfl, B_2]
  rfl

theorem B_out : (kernelRun0_B c i arg2 harg2 arg3 harg3 arg4 harg4 arg5 harg5 arg6 harg6 arg7 harg7 arg8 harg8 arg9 harg9 arg10 harg10 hc0 x0 x1 x2 x3 x4 x5 xs0).1 = tilesUp (bout xs0 x0 x1 x2 x3 x4 x5 0) (bout xs0 x0 x1 x2 x3 x4 x5 1) (bout xs0 x0 x1 x2 x3 x4 x5 2) (bout xs0 x0 x1 x2 x3 x4 x5 3) := by
  refine (show _ = tilesUp
    (fwdOut arg2 harg2 arg3 harg3 arg4 harg4 arg5 harg5 x0 x1 x2 x3 (kernelRun0_B.sl.r (F := Ideal) c arg10 harg10 xs0) 0 (by norm_num) inb_S8x256x64_S8x64x64_0_0_0)
    (fwdOut arg2 harg2 arg3 harg3 arg4 harg4 arg5 harg5 x0 x1 x2 x3 (kernelRun0_B.sl.v146 (F := Ideal) c arg2 harg2 arg3 harg3 arg6 harg6 arg7 harg7 arg10 harg10 x0 x1 x4 x5 xs0) 64 (by norm_num) inb_S8x256x64_S8x64x64_0_64_0)
    (fwdOut arg2 harg2 arg3 harg3 arg4 harg4 arg5 harg5 x0 x1 x2 x3 (kernelRun0_B.sl.v289 (F := Ideal) c arg2 harg2 arg3 harg3 arg6 harg6 arg7 harg7 arg10 harg10 x0 x1 x4 x5 xs0) 128 (by norm_num) inb_S8x256x64_S8x64x64_0_128_0)
    (fwdOut arg2 harg2 arg3 harg3 arg4 harg4 arg5 harg5 x0 x1 x2 x3 (kernelRun0_B.sl.v432 (F := Ideal) c arg2 harg2 arg3 harg3 arg6 harg6 arg7 harg7 arg10 harg10 x0 x1 x4 x5 xs0) 192 (by norm_num) inb_S8x256x64_S8x64x64_0_192_0) from by chain_rfl).trans ?_
  rw [fwdOut_eq _ _ _ _ _ _ _ _ _ _ _ _ _ 0 0 _ rfl, fwdOut_eq _ _ _ _ _ _ _ _ _ _ _ _ _ 64 1 _ rfl, fwdOut_eq _ _ _ _ _ _ _ _ _ _ _ _ _ 128 2 _ rfl, fwdOut_eq _ _ _ _ _ _ _ _ _ _ _ _ _ 192 3 _ rfl, B_0, B_1, B_2, B_3]
  rfl

theorem B_states : (kernelRun0_B c i arg2 harg2 arg3 harg3 arg4 harg4 arg5 harg5 arg6 harg6 arg7 harg7 arg8 harg8 arg9 harg9 arg10 harg10 hc0 x0 x1 x2 x3 x4 x5 xs0).2.1 = states (bstate xs0 x0 x1 x4 x5 0) (bstate xs0 x0 x1 x4 x5 1) (bstate xs0 x0 x1 x4 x5 2) (bstate xs0 x0 x1 x4 x5 3) := by
  refine (show _ = states (kernelRun0_B.sl.r (F := Ideal) c arg10 harg10 xs0) (kernelRun0_B.sl.v146 (F := Ideal) c arg2 harg2 arg3 harg3 arg6 harg6 arg7 harg7 arg10 harg10 x0 x1 x4 x5 xs0) (kernelRun0_B.sl.v289 (F := Ideal) c arg2 harg2 arg3 harg3 arg6 harg6 arg7 harg7 arg10 harg10 x0 x1 x4 x5 xs0) (kernelRun0_B.sl.v432 (F := Ideal) c arg2 harg2 arg3 harg3 arg6 harg6 arg7 harg7 arg10 harg10 x0 x1 x4 x5 xs0) from by chain_rfl).trans ?_
  rw [B_0, B_1, B_2, B_3]

theorem B_scratch : View.canon (kernelRun0_B c i arg2 harg2 arg3 harg3 arg4 harg4 arg5 harg5 arg6 harg6 arg7 harg7 arg8 harg8 arg9 harg9 arg10 harg10 hc0 x0 x1 x2 x3 x4 x5 xs0).2.2.1 = bstate xs0 x0 x1 x4 x5 4 := by
  refine (show _ = View.canon (⟨Rect.unit (s := S8x128x128) ![0, 0, 0] S8x128x128.size inb_S8x128x128_S8x128x128_0_0_0, fwdStep arg2 harg2 arg3 harg3 arg6 harg6 arg7 harg7 x0 x1 x4 x5 (kernelRun0_B.sl.v432 (F := Ideal) c arg2 harg2 arg3 harg3 arg6 harg6 arg7 harg7 arg10 harg10 x0 x1 x4 x5 xs0) 192 3 (by norm_num) inb_S8x4x1x1_S8x1x1x1_0_3_0_0⟩ :: (kernelRun0_B.sl.HS0_3 (F := Ideal) c arg2 harg2 arg3 harg3 arg6 harg6 arg7 harg7 arg10 harg10 x0 x1 x4 x5 xs0)) from by chain_rfl).trans ?_
  rw [View.canon_cons_unit_lit' _ _ _ (by decide), fwdStep_eq _ _ _ _ _ _ _ _ _ _ _ _ _ 192 3 _ rfl, B_3]
  rfl

end Cert.KernelIdeal.Fwd

end
-- ==== Proof.FwdGrid.lean ====
/- The forward scan over its grid: block by block the states and outputs are those of the recursion over all chunks. -/
module

public import proofs.«01_k».proof.Proof.FwdValA
public import proofs.«01_k».proof.Proof.FwdValB
public import Idealize.ShloMosaic.Lib.Pipeline.ValueKit

@[expose] public section

set_option maxRecDepth 16384

noncomputable section

namespace Cert.KernelIdeal.Fwd

open Cert.KernelIdeal.Gen Cert.Scan Cert.KernelIdeal.Scan
open Idealize.ShloMosaic Idealize.ShloMosaic.TcCoe Idealize.ShloMosaic.Tactic
open Idealize.ShloMosaic.Pipeline (Dat)

variable (m : (c : Dev nD) → (b : Ref sig .tc) → Buf (Elt Ideal) ((c : Thread nD τ).loc b)) (c : Dev nD)

theorem idx : ∀ t : Fin cfg0.N, win0_0.index t = ![t.val, 0] ∧ win0_1.index t = ![t.val, 0] ∧ win0_2.index t = ![0, t.val, 0]
    ∧ win0_3.index t = ![t.val, 0] ∧ win0_4.index t = ![t.val, 0] ∧ win0_5.index t = ![0, t.val, 0, 0]
    ∧ win0_6.index t = ![t.val, 0] ∧ win0_7.index t = ![0, t.val, 0, 0] :=
  (by decide +kernel : ∀ t : Fin grid0.N, _)

theorem lt32 (t : Fin cfg0.N) : t.val < 32 := lt_of_lt_of_eq t.isLt (show cfg0.N = 32 from N_0)

/-- The arrays the scan reads. -/
abbrev arr0 : (⟨2, ![8192, 1024]⟩ : Shape).Idx → EReal := m c main_arg0
abbrev arr1 : (⟨2, ![8192, 1024]⟩ : Shape).Idx → EReal := m c main_arg1
abbrev arr2 : (⟨3, ![8, 8192, 64]⟩ : Shape).Idx → EReal := m c main_arg2
abbrev arr3 : (⟨2, ![8192, 1024]⟩ : Shape).Idx → EReal := m c main_arg3
abbrev arr4 : (⟨2, ![8192, 1024]⟩ : Shape).Idx → EReal := m c main_arg4
abbrev arr5 : (⟨4, ![8, 128, 1, 1]⟩ : Shape).Idx → EReal := m c main_arg5

theorem part0 (t : Fin cfg0.N) (i : ℕ) (hi : i < 4) : part (iblk m c 0 t) i = chunk (arr0 m c) (4 * t.val + i) := by
  have ht := lt32 t
  funext j; idx_vars j
  pointwise [part, chunk, arr0]
  blk_point [iblk, idx t]

theorem part1 (t : Fin cfg0.N) (i : ℕ) (hi : i < 4) : part (iblk m c 1 t) i = chunk (arr1 m c) (4 * t.val + i) := by
  have ht := lt32 t
  funext j; idx_vars j
  pointwise [part, chunk, arr1]
  blk_point [iblk, idx t]

theorem part2 (t : Fin cfg0.N) (i : ℕ) (hi : i < 4) : partP (iblk m c 2 t) i = square (arr2 m c) (4 * t.val + i) := by
  have ht := lt32 t
  funext j; idx_vars j
  pointwise [partP, square, arr2]
  blk_point [iblk, idx t]

theorem part3 (t : Fin cfg0.N) (i : ℕ) (hi : i < 4) : part (iblk m c 3 t) i = chunk (arr3 m c) (4 * t.val + i) := by
  have ht := lt32 t
  funext j; idx_vars j
  pointwise [part, chunk, arr3]
  blk_point [iblk, idx t]

theorem part4 (t : Fin cfg0.N) (i : ℕ) (hi : i < 4) : part (iblk m c 4 t) i = chunk (arr4 m c) (4 * t.val + i) := by
  have ht := lt32 t
  funext j; idx_vars j
  pointwise [part, chunk, arr4]
  blk_point [iblk, idx t]

theorem part5 (t : Fin cfg0.N) (i : ℕ) (hi : i < 4) : partG (iblk m c 5 t) i = decay (arr5 m c) (4 * t.val + i) := by
  have ht := lt32 t
  funext h
  pointwise [partG, decay, arr5]
  blk_point [iblk, idx t]

/-- The state before chunk `n`, of the arrays at the scan's entry. -/
abbrev st (n : ℕ) : State := state (arr0 m c) (arr1 m c) (arr4 m c) (arr5 m c) n

theorem bstate_eq (t : Fin cfg0.N) : ∀ i, i ≤ 4 →
    bstate (st m c (4 * t.val)) (iblk m c 0 t) (iblk m c 1 t) (iblk m c 4 t) (iblk m c 5 t) i = st m c (4 * t.val + i)
  | 0, _ => rfl
  | i + 1, hi => by
      rw [← Nat.add_assoc]
      show next (bstate _ _ _ _ _ i) _ _ (newV (bstate _ _ _ _ _ i) _ _)
        = next (st m c (4 * t.val + i)) (chunk (arr4 m c) (4 * t.val + i)) (decay (arr5 m c) (4 * t.val + i))
          (newV (st m c (4 * t.val + i)) (chunk (arr0 m c) (4 * t.val + i)) (chunk (arr1 m c) (4 * t.val + i)))
      rw [bstate_eq t i (by omega), part0 m c t i (by omega), part1 m c t i (by omega), part4 m c t i (by omega), part5 m c t i (by omega)]

theorem bout_eq (t : Fin cfg0.N) (i : ℕ) (hi : i < 4) :
    bout (st m c (4 * t.val)) (iblk m c 0 t) (iblk m c 1 t) (iblk m c 2 t) (iblk m c 3 t) (iblk m c 4 t) (iblk m c 5 t) i
      = output (arr0 m c) (arr1 m c) (arr2 m c) (arr3 m c) (arr4 m c) (arr5 m c) (4 * t.val + i) := by
  unfold bout output value
  rw [bstate_eq m c t i (by omega), part0 m c t i hi, part1 m c t i hi, part2 m c t i hi, part3 m c t i hi]

/-- What a grid point leaves as state, given what it found. -/
theorem scratch (t : Fin cfg0.N) : (outsAt0 m c t.val t.isLt).2.2 = st m c (4 * (t.val + 1)) := by
  obtain ⟨n, hn⟩ := t
  induction n with
  | zero =>
    rw [outsAt0_A m c ⟨0, hn⟩ rfl, ptA]
    dsimp only
    frame_out
    rw [A_scratch]
    exact bstate_eq m c ⟨0, hn⟩ 4 le_rfl
  | succ n ih =>
    have h32 := lt32 ⟨n + 1, hn⟩
    rw [outsAt0_B m c ⟨n + 1, hn⟩ (by dsimp only at h32 ⊢; omega), ptB]
    dsimp only
    frame_out
    rw [B_scratch]
    have e := ih (Nat.lt_of_succ_lt hn)
    dsimp only at e
    simp only [Nat.add_sub_cancel]
    rw [e]
    exact bstate_eq m c ⟨n + 1, hn⟩ 4 le_rfl

/-- The outputs a grid point leaves. -/
theorem left6 (t : Fin cfg0.N) (y : S256x1024.Idx) : (outsAt0 m c t.val t.isLt).1 y
    = output (arr0 m c) (arr1 m c) (arr2 m c) (arr3 m c) (arr4 m c) (arr5 m c) (4 * t.val + (y 0).val / 64)
        (ix3 (⟨(y 1).val / 128, by have h := (y 1).isLt; dsimp at h; omega⟩ : Fin 8) (⟨(y 0).val % 64, Nat.mod_lt _ (by norm_num)⟩ : Fin 64) (⟨(y 1).val % 128, Nat.mod_lt _ (by norm_num)⟩ : Fin 128)) := by
  have hy : (y 0).val / 64 < 4 := by have h := (y 0).isLt; dsimp at h; omega
  have key : (outsAt0 m c t.val t.isLt).1 = View.canon (tilesUp
      (bout (st m c (4 * t.val)) (iblk m c 0 t) (iblk m c 1 t) (iblk m c 2 t) (iblk m c 3 t) (iblk m c 4 t) (iblk m c 5 t) 0)
      (bout (st m c (4 * t.val)) (iblk m c 0 t) (iblk m c 1 t) (iblk m c 2 t) (iblk m c 3 t) (iblk m c 4 t) (iblk m c 5 t) 1)
      (bout (st m c (4 * t.val)) (iblk m c 0 t) (iblk m c 1 t) (iblk m c 2 t) (iblk m c 3 t) (iblk m c 4 t) (iblk m c 5 t) 2)
      (bout (st m c (4 * t.val)) (iblk m c 0 t) (iblk m c 1 t) (iblk m c 2 t) (iblk m c 3 t) (iblk m c 4 t) (iblk m c 5 t) 3)) := by
    obtain ⟨n, hn⟩ := t
    cases n with
    | zero =>
      rw [outsAt0_A m c ⟨0, hn⟩ rfl, ptA]
      dsimp only
      frame_out
      rw [A_out]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_out]
      dsimp only at e
      simp only [Nat.add_sub_cancel]
      rw [e]
  rw [key, tilesUp_apply (bout (st m c (4 * t.val)) (iblk m c 0 t) (iblk m c 1 t) (iblk m c 2 t) (iblk m c 3 t) (iblk m c 4 t) (iblk m c 5 t)) y, bout_eq m c t _ hy]

/-- The states a grid point leaves. -/
theorem left7 (t : Fin cfg0.N) (y : S8x4x128x128.Idx) : (outsAt0 m c t.val t.isLt).2.1 y
    = st m c (4 * t.val + (y 1).val) (ix3 (⟨(y 0).val, (y 0).isLt⟩ : Fin 8) (⟨(y 2).val, (y 2).isLt⟩ : Fin 128) (⟨(y 3).val, (y 3).isLt⟩ : Fin 128)) := by
  have hy : (y 1).val ≤ 4 := by have h := (y 1).isLt; dsimp at h; omega
  have key : (outsAt0 m c t.val t.isLt).2.1 = View.canon (states
      (bstate (st m c (4 * t.val)) (iblk m c 0 t) (iblk m c 1 t) (iblk m c 4 t) (iblk m c 5 t) 0)
      (bstate (st m c (4 * t.val)) (iblk m c 0 t) (iblk m c 1 t) (iblk m c 4 t) (iblk m c 5 t) 1)
      (bstate (st m c (4 * t.val)) (iblk m c 0 t) (iblk m c 1 t) (iblk m c 4 t) (iblk m c 5 t) 2)
      (bstate (st m c (4 * t.val)) (iblk m c 0 t) (iblk m c 1 t) (iblk m c 4 t) (iblk m c 5 t) 3)) := by
    obtain ⟨n, hn⟩ := t
    cases n with
    | zero =>
      rw [outsAt0_A m c ⟨0, hn⟩ rfl, ptA]
      dsimp only
      frame_out
      rw [A_states]
      rfl
    | succ n =>
      have h32 := lt32 ⟨n + 1, hn⟩
      have e := scratch m c ⟨n, Nat.lt_of_succ_lt hn⟩
      rw [outsAt0_B m c ⟨n + 1, hn⟩ (by dsimp only at h32 ⊢; omega), ptB]
      dsimp only
      frame_out
      rw [B_states]
      dsimp only at e
      simp only [Nat.add_sub_cancel]
      rw [e]
  rw [key, states_apply (bstate (st m c (4 * t.val)) (iblk m c 0 t) (iblk m c 1 t) (iblk m c 4 t) (iblk m c 5 t)) y, bstate_eq m c t _ hy]

/-- The output array after the scan. -/
theorem array6 : (dat0 m c).arrAt 6 cfg0.N = fun r : S8192x1024.Idx =>
    output (arr0 m c) (arr1 m c) (arr2 m c) (arr3 m c) (arr4 m c) (arr5 m c) ((r 0).val / 64)
      (ix3 (⟨(r 1).val / 128, by have h := (r 1).isLt; dsimp at h; omega⟩ : Fin 8) (⟨(r 0).val % 64, Nat.mod_lt _ (by norm_num)⟩ : Fin 64) (⟨(r 1).val % 128, Nat.mod_lt _ (by norm_num)⟩ : Fin 128)) := by
  refine (dat0 m c).arrAt_eq_of_covers 6 _ (by decide +kernel) fun t _ y => ?_
  blk_simp
  rw [after0_6, left6]
  have e := (idx t).2.2.2.2.2.2.1
  have e0 : win0_6.index t 0 = t.val := by rw [e]; rfl
  have e1 : win0_6.index t 1 = 0 := by rw [e]; rfl
  refine at_congr _ ?_ ?_ ?_ ?_ <;> simp only [e0, e1] <;> omega

/-- The array of states after the scan. -/
theorem array7 : (dat0 m c).arrAt 7 cfg0.N = fun r : S8x128x128x128.Idx =>
    st m c (r 1).val (ix3 (⟨(r 0).val, (r 0).isLt⟩ : Fin 8) (⟨(r 2).val, (r 2).isLt⟩ : Fin 128) (⟨(r 3).val, (r 3).isLt⟩ : Fin 128)) := by
  refine (dat0 m c).arrAt_eq_of_covers 7 _ (by decide +kernel) fun t _ y => ?_
  blk_simp
  rw [after0_7, left7]
  have e := (idx t).2.2.2.2.2.2.2
  have e0 : win0_7.index t 0 = 0 := by rw [e]; rfl
  have e1 : win0_7.index t 1 = t.val := by rw [e]; rfl
  have e2 : win0_7.index t 2 = 0 := by rw [e]; rfl
  have e3 : win0_7.index t 3 = 0 := by rw [e]; rfl
  refine at_congr _ ?_ ?_ ?_ ?_ <;> simp only [e0, e1, e2, e3] <;> omega

end Cert.KernelIdeal.Fwd

end
-- ==== Proof.KFinal.lean ====
/- The results of the two scans as functions of the arguments. -/
module

public import proofs.«01_k».proof.Proof.BwdGrid
public import proofs.«01_k».proof.Proof.FwdGrid
public import proofs.«01_k».proof.Proof.Both
public import Idealize.ShloMosaic.Lib.Pipeline.ValueKit

@[expose] public section

set_option maxRecDepth 16384

noncomputable section

namespace Cert.KernelIdeal.Both

open Cert.KernelIdeal.Gen Cert.Scan Cert.KernelIdeal.Scan
open Idealize.ShloMosaic Idealize.ShloMosaic.TcCoe Idealize.ShloMosaic.Tactic
open Idealize.ShloMosaic.Pipeline (Dat)

variable (m : (ℓ : Loc nD τ sig) → Buf (Elt Ideal) ℓ) (ρ : Dev nD → PrngReg) (c : Dev nD)

/-- The argument arrays. -/
abbrev a0 : (⟨2, ![8192, 1024]⟩ : Shape).Idx → EReal := m (c.tc.loc main_arg0)
abbrev a1 : (⟨2, ![8192, 1024]⟩ : Shape).Idx → EReal := m (c.tc.loc main_arg1)
abbrev a2 : (⟨3, ![8, 8192, 64]⟩ : Shape).Idx → EReal := m (c.tc.loc main_arg2)
abbrev a3 : (⟨2, ![8192, 1024]⟩ : Shape).Idx → EReal := m (c.tc.loc main_arg3)
abbrev a4 : (⟨2, ![8192, 1024]⟩ : Shape).Idx → EReal := m (c.tc.loc main_arg4)
abbrev a5 : (⟨4, ![8, 128, 1, 1]⟩ : Shape).Idx → EReal := m (c.tc.loc main_arg5)
abbrev a6 : (⟨2, ![8192, 1024]⟩ : Shape).Idx → EReal := m (c.tc.loc main_arg6)

theorem in0 : Bwd.arr0 (V1 m ρ) c = a0 m c := W1_args m ρ c main_arg0 (by decide)
theorem in1 : Bwd.arr1 (V1 m ρ) c = a1 m c := W1_args m ρ c main_arg1 (by decide)
theorem in2 : Bwd.arr2 (V1 m ρ) c = a2 m c := W1_args m ρ c main_arg2 (by decide)
theorem in3 : Bwd.arr3 (V1 m ρ) c = a3 m c := W1_args m ρ c main_arg3 (by decide)
theorem in4 : Bwd.arr4 (V1 m ρ) c = a4 m c := W1_args m ρ c main_arg4 (by decide)
theorem in5 : Bwd.arr5 (V1 m ρ) c = a5 m c := W1_args m ρ c main_arg5 (by decide)
theorem in6 : Bwd.arr7 (V1 m ρ) c = a6 m c := W1_args m ρ c main_arg6 (by decide)

theorem stored : Bwd.Stored (V1 m ρ) c := by
  unfold Bwd.Stored
  rw [in0, in1, in4, in5]
  exact (W1_arr m ρ c 7).trans (Fwd.array7 (V0 m ρ) c)

theorem val_o : W2 m ρ c (Proc.devRef .tc main_v0_0) = rowsOf (output (a0 m c) (a1 m c) (a2 m c) (a3 m c) (a4 m c) (a5 m c)) :=
  (W2_of m ρ c main_v0_0 (by decide +kernel)).trans ((W1_arr m ρ c 6).trans (Fwd.array6 (V0 m ρ) c))

theorem val_du : W2 m ρ c (Proc.devRef .tc main_v1_0) = rowsOf (fun n => du (a1 m c) (a2 m c) (a3 m c) (a4 m c) (a5 m c) (a6 m c) (127 - n)) := by
  refine (W2_arr m ρ c 8).trans ?_
  rw [Bwd.array8 (V1 m ρ) c, in1, in2, in3, in4, in5, in6]
  rfl

theorem val_dw : W2 m ρ c (Proc.devRef .tc main_v1_1) = rowsOf (fun n => dw (a0 m c) (a1 m c) (a2 m c) (a3 m c) (a4 m c) (a5 m c) (a6 m c) (127 - n)) := by
  refine (W2_arr m ρ c 9).trans ?_
  rw [Bwd.array9 (V1 m ρ) c (stored m ρ c), in0, in1, in2, in3, in4, in5, in6]
  rfl

theorem val_dp : W2 m ρ c (Proc.devRef .tc main_v1_2) = squaresOf (fun n => dp (a0 m c) (a1 m c) (a4 m c) (a5 m c) (a6 m c) (127 - n)) := by
  refine (W2_arr m ρ c 10).trans ?_
  rw [Bwd.array10 (V1 m ρ) c (stored m ρ c), in0, in1, in4, in5, in6]
  rfl

theorem val_dq : W2 m ρ c (Proc.devRef .tc main_v1_3) = rowsOf (fun n => dq (a0 m c) (a1 m c) (a4 m c) (a5 m c) (a6 m c) (127 - n)) := by
  refine (W2_arr m ρ c 11).trans ?_
  rw [Bwd.array11 (V1 m ρ) c (stored m ρ c), in0, in1, in4, in5, in6]
  rfl

theorem val_dk : W2 m ρ c (Proc.devRef .tc main_v1_4) = rowsOf (fun n => dk (a0 m c) (a1 m c) (a2 m c) (a3 m c) (a4 m c) (a5 m c) (a6 m c) (127 - n)) := by
  refine (W2_arr m ρ c 12).trans ?_
  rw [Bwd.array12 (V1 m ρ) c (stored m ρ c), in0, in1, in2, in3, in4, in5, in6]
  rfl

theorem val_dg : W2 m ρ c (Proc.devRef .tc main_v1_5) = decaysOf (fun n => dg (a0 m c) (a1 m c) (a2 m c) (a3 m c) (a4 m c) (a5 m c) (a6 m c) (127 - n)) := by
  refine (W2_arr m ρ c 13).trans ?_
  rw [Bwd.array13 (V1 m ρ) c (stored m ρ c), in0, in1, in2, in3, in4, in5, in6]
  rfl

end Cert.KernelIdeal.Both

end
-- ==== Proof.RefPick.lean ====
/- Slices of a stack of chunks at a counted place, and stacks written there, read at an index. -/
module

public import proofs.«01_k».proof.Proof.RefRun
public import proofs.«01_k».proof.Proof.Scan
public import Idealize.ShloMosaic.Lib.Pipeline.ValueKit

@[expose] public section

set_option maxRecDepth 16384

noncomputable section

namespace Cert.ReferenceIdeal.Run

open Cert.ReferenceIdeal Cert.ReferenceIdeal.Gen Cert.Scan
open Idealize.ShloMosaic Idealize.ShloMosaic.TcCoe Idealize.ShloMosaic.Tactic

/-- The word that stands for a counter. -/
abbrev word (n : ℕ) : IVec S_ 32 := fun _ => BitVec.ofNat 32 n

theorem word_toInt (n : ℕ) (hn : n < 128) : (BitVec.ofNat 32 n).toInt = n := by
  rw [BitVec.toInt_eq_toNat_of_lt (by rw [BitVec.toNat_ofNat]; omega), BitVec.toNat_ofNat, Nat.mod_eq_of_lt (by omega)]

theorem iv_word (k : ℕ) : (fun _ => Scf.iv 0#32 1#32 k : IVec S_ 32) = word k := by
  funext _; simp only [Scf.iv, BitVec.zero_add, BitVec.mul_one]

variable {n : ℕ}

/-- The places of a slice of a stack: the counted chunk, and all of it. -/
abbrev starts4 (n : ℕ) : Fin 4 → IVec S_ 32 := ![word n, constantI S_ 32 0#32, constantI S_ 32 0#32, constantI S_ 32 0#32]
abbrev starts2 (n : ℕ) : Fin 2 → IVec S_ 32 := ![word n, constantI S_ 32 0#32]

theorem starts4_eq (i : Fin 4 → IVec S_ 32) (h0 : i 0 = word n) (h1 : i 1 = constantI S_ 32 0#32) (h2 : i 2 = constantI S_ 32 0#32)
    (h3 : i 3 = constantI S_ 32 0#32) : i = starts4 n := by
  funext k; fin_cases k
  exacts [h0, h1, h2, h3]

theorem starts2_eq (i : Fin 2 → IVec S_ 32) (h0 : i 0 = word n) (h1 : i 1 = constantI S_ 32 0#32) : i = starts2 n := by
  funext k; fin_cases k
  exacts [h0, h1]

/-- A slice of a stack, read at an index. -/
theorem pick_chunk (X : FVec Ideal S128x8x64x128 .f32) (hn : n < 128) (i : Fin 4 → IVec S_ 32) (hi : i = starts4 n) :
    (shapeCast S8x64x128 (Host.dynamicSlice S1x8x64x128 X (fun k => (i k (Shape.Idx.first h_S_)).toInt) sliceFits_S128x8x64x128_S1x8x64x128)
      shapeCasts_S1x8x64x128_S8x64x128 : FVec Ideal S8x64x128 .f32) = fun j => X (ix4 ⟨n, hn⟩ (j 0) (j 1) (j 2)) := by
  subst hi
  have h0 : Host.clampedStart S128x8x64x128 S1x8x64x128 sliceFits_S128x8x64x128_S1x8x64x128.1 (fun k => (starts4 n k (Shape.Idx.first h_S_)).toInt) 0 = n :=
    Host.clampedStart_of_le _ _ 0 n (word_toInt n hn) (show n + 1 ≤ 128 by omega)
  have h1 : Host.clampedStart S128x8x64x128 S1x8x64x128 sliceFits_S128x8x64x128_S1x8x64x128.1 (fun k => (starts4 n k (Shape.Idx.first h_S_)).toInt) 1 = 0 :=
    Host.clampedStart_of_le _ _ 1 0 rfl (show 0 + 8 ≤ 8 by norm_num)
  have h2 : Host.clampedStart S128x8x64x128 S1x8x64x128 sliceFits_S128x8x64x128_S1x8x64x128.1 (fun k => (starts4 n k (Shape.Idx.first h_S_)).toInt) 2 = 0 :=
    Host.clampedStart_of_le _ _ 2 0 rfl (show 0 + 64 ≤ 64 by norm_num)
  have h3 : Host.clampedStart S128x8x64x128 S1x8x64x128 sliceFits_S128x8x64x128_S1x8x64x128.1 (fun k => (starts4 n k (Shape.Idx.first h_S_)).toInt) 3 = 0 :=
    Host.clampedStart_of_le _ _ 3 0 rfl (show 0 + 128 ≤ 128 by norm_num)
  funext j; idx_vars j
  pointwise []
  simp only [h0, h1, h2, h3, Nat.zero_add]

/-- A stack written at the counted chunk, read at an index. -/
theorem put_chunk (X : FVec Ideal S128x8x64x128 .f32) (v : FVec Ideal S8x64x128 .f32) (hn : n < 128) (i : Fin 4 → IVec S_ 32) (hi : i = starts4 n) (a : Fin 128) (b : Fin 8) (c : Fin 64) (d : Fin 128) :
    (Host.dynamicUpdateSlice X (broadcastInDim S1x8x64x128 ![1, 2, 3] bcast_S8x64x128_S1x8x64x128_1_2_3 v)
      (fun k => (i k (Shape.Idx.first h_S_)).toInt) updateFits_S128x8x64x128_S1x8x64x128 : FVec Ideal S128x8x64x128 .f32) (ix4 a b c d)
      = if a.val = n then v (ix3 b c d) else X (ix4 a b c d) := by
  subst hi
  have h0 : Host.clampedStart S128x8x64x128 S1x8x64x128 updateFits_S128x8x64x128_S1x8x64x128.1 (fun k => (starts4 n k (Shape.Idx.first h_S_)).toInt) 0 = n :=
    Host.clampedStart_of_le _ _ 0 n (word_toInt n hn) (show n + 1 ≤ 128 by omega)
  have h1 : Host.clampedStart S128x8x64x128 S1x8x64x128 updateFits_S128x8x64x128_S1x8x64x128.1 (fun k => (starts4 n k (Shape.Idx.first h_S_)).toInt) 1 = 0 :=
    Host.clampedStart_of_le _ _ 1 0 rfl (show 0 + 8 ≤ 8 by norm_num)
  have h2 : Host.clampedStart S128x8x64x128 S1x8x64x128 updateFits_S128x8x64x128_S1x8x64x128.1 (fun k => (starts4 n k (Shape.Idx.first h_S_)).toInt) 2 = 0 :=
    Host.clampedStart_of_le _ _ 2 0 rfl (show 0 + 64 ≤ 64 by norm_num)
  have h3 : Host.clampedStart S128x8x64x128 S1x8x64x128 updateFits_S128x8x64x128_S1x8x64x128.1 (fun k => (starts4 n k (Shape.Idx.first h_S_)).toInt) 3 = 0 :=
    Host.clampedStart_of_le _ _ 3 0 rfl (show 0 + 128 ≤ 128 by norm_num)
  pointwise []
  simp only [h0, h1, h2, h3, Nat.sub_zero, Nat.zero_add, Nat.zero_le, true_and, and_true, Nat.lt_one_iff, Nat.zero_lt_one]
  by_cases ha : a.val = n
  · rw [dif_pos (by omega), if_pos ha]
  · rw [dif_neg (by omega), if_neg ha]

/-- A slice of a stack, read at an index. -/
theorem pick_square (X : FVec Ideal S128x8x64x64 .f32) (hn : n < 128) (i : Fin 4 → IVec S_ 32) (hi : i = starts4 n) :
    (shapeCast S8x64x64 (Host.dynamicSlice S1x8x64x64 X (fun k => (i k (Shape.Idx.first h_S_)).toInt) sliceFits_S128x8x64x64_S1x8x64x64)
      shapeCasts_S1x8x64x64_S8x64x64 : FVec Ideal S8x64x64 .f32) = fun j => X (ix4 ⟨n, hn⟩ (j 0) (j 1) (j 2)) := by
  subst hi
  have h0 : Host.clampedStart S128x8x64x64 S1x8x64x64 sliceFits_S128x8x64x64_S1x8x64x64.1 (fun k => (starts4 n k (Shape.Idx.first h_S_)).toInt) 0 = n :=
    Host.clampedStart_of_le _ _ 0 n (word_toInt n hn) (show n + 1 ≤ 128 by omega)
  have h1 : Host.clampedStart S128x8x64x64 S1x8x64x64 sliceFits_S128x8x64x64_S1x8x64x64.1 (fun k => (starts4 n k (Shape.Idx.first h_S_)).toInt) 1 = 0 :=
    Host.clampedStart_of_le _ _ 1 0 rfl (show 0 + 8 ≤ 8 by norm_num)
  have h2 : Host.clampedStart S128x8x64x64 S1x8x64x64 sliceFits_S128x8x64x64_S1x8x64x64.1 (fun k => (starts4 n k (Shape.Idx.first h_S_)).toInt) 2 = 0 :=
    Host.clampedStart_of_le _ _ 2 0 rfl (show 0 + 64 ≤ 64 by norm_num)
  have h3 : Host.clampedStart S128x8x64x64 S1x8x64x64 sliceFits_S128x8x64x64_S1x8x64x64.1 (fun k => (starts4 n k (Shape.Idx.first h_S_)).toInt) 3 = 0 :=
    Host.clampedStart_of_le _ _ 3 0 rfl (show 0 + 64 ≤ 64 by norm_num)
  funext j; idx_vars j
  pointwise []
  simp only [h0, h1, h2, h3, Nat.zero_add]

/-- A stack written at the counted chunk, read at an index. -/
theorem put_square (X : FVec Ideal S128x8x64x64 .f32) (v : FVec Ideal S8x64x64 .f32) (hn : n < 128) (i : Fin 4 → IVec S_ 32) (hi : i = starts4 n) (a : Fin 128) (b : Fin 8) (c : Fin 64) (d : Fin 64) :
    (Host.dynamicUpdateSlice X (broadcastInDim S1x8x64x64 ![1, 2, 3] bcast_S8x64x64_S1x8x64x64_1_2_3 v)
      (fun k => (i k (Shape.Idx.first h_S_)).toInt) updateFits_S128x8x64x64_S1x8x64x64 : FVec Ideal S128x8x64x64 .f32) (ix4 a b c d)
      = if a.val = n then v (ix3 b c d) else X (ix4 a b c d) := by
  subst hi
  have h0 : Host.clampedStart S128x8x64x64 S1x8x64x64 updateFits_S128x8x64x64_S1x8x64x64.1 (fun k => (starts4 n k (Shape.Idx.first h_S_)).toInt) 0 = n :=
    Host.clampedStart_of_le _ _ 0 n (word_toInt n hn) (show n + 1 ≤ 128 by omega)
  have h1 : Host.clampedStart S128x8x64x64 S1x8x64x64 updateFits_S128x8x64x64_S1x8x64x64.1 (fun k => (starts4 n k (Shape.Idx.first h_S_)).toInt) 1 = 0 :=
    Host.clampedStart_of_le _ _ 1 0 rfl (show 0 + 8 ≤ 8 by norm_num)
  have h2 : Host.clampedStart S128x8x64x64 S1x8x64x64 updateFits_S128x8x64x64_S1x8x64x64.1 (fun k => (starts4 n k (Shape.Idx.first h_S_)).toInt) 2 = 0 :=
    Host.clampedStart_of_le _ _ 2 0 rfl (show 0 + 64 ≤ 64 by norm_num)
  have h3 : Host.clampedStart S128x8x64x64 S1x8x64x64 updateFits_S128x8x64x64_S1x8x64x64.1 (fun k => (starts4 n k (Shape.Idx.first h_S_)).toInt) 3 = 0 :=
    Host.clampedStart_of_le _ _ 3 0 rfl (show 0 + 64 ≤ 64 by norm_num)
  pointwise []
  simp only [h0, h1, h2, h3, Nat.sub_zero, Nat.zero_add, Nat.zero_le, true_and, and_true, Nat.lt_one_iff, Nat.zero_lt_one]
  by_cases ha : a.val = n
  · rw [dif_pos (by omega), if_pos ha]
  · rw [dif_neg (by omega), if_neg ha]

/-- A slice of a stack, read at an index. -/
theorem pick_state (X : FVec Ideal S128x8x128x128 .f32) (hn : n < 128) (i : Fin 4 → IVec S_ 32) (hi : i = starts4 n) :
    (shapeCast S8x128x128 (Host.dynamicSlice S1x8x128x128 X (fun k => (i k (Shape.Idx.first h_S_)).toInt) sliceFits_S128x8x128x128_S1x8x128x128)
      shapeCasts_S1x8x128x128_S8x128x128 : FVec Ideal S8x128x128 .f32) = fun j => X (ix4 ⟨n, hn⟩ (j 0) (j 1) (j 2)) := by
  subst hi
  have h0 : Host.clampedStart S128x8x128x128 S1x8x128x128 sliceFits_S128x8x128x128_S1x8x128x128.1 (fun k => (starts4 n k (Shape.Idx.first h_S_)).toInt) 0 = n :=
    Host.clampedStart_of_le _ _ 0 n (word_toInt n hn) (show n + 1 ≤ 128 by omega)
  have h1 : Host.clampedStart S128x8x128x128 S1x8x128x128 sliceFits_S128x8x128x128_S1x8x128x128.1 (fun k => (starts4 n k (Shape.Idx.first h_S_)).toInt) 1 = 0 :=
    Host.clampedStart_of_le _ _ 1 0 rfl (show 0 + 8 ≤ 8 by norm_num)
  have h2 : Host.clampedStart S128x8x128x128 S1x8x128x128 sliceFits_S128x8x128x128_S1x8x128x128.1 (fun k => (starts4 n k (Shape.Idx.first h_S_)).toInt) 2 = 0 :=
    Host.clampedStart_of_le _ _ 2 0 rfl (show 0 + 128 ≤ 128 by norm_num)
  have h3 : Host.clampedStart S128x8x128x128 S1x8x128x128 sliceFits_S128x8x128x128_S1x8x128x128.1 (fun k => (starts4 n k (Shape.Idx.first h_S_)).toInt) 3 = 0 :=
    Host.clampedStart_of_le _ _ 3 0 rfl (show 0 + 128 ≤ 128 by norm_num)
  funext j; idx_vars j
  pointwise []
  simp only [h0, h1, h2, h3, Nat.zero_add]

/-- A stack written at the counted chunk, read at an index. -/
theorem put_state (X : FVec Ideal S128x8x128x128 .f32) (v : FVec Ideal S8x128x128 .f32) (hn : n < 128) (i : Fin 4 → IVec S_ 32) (hi : i = starts4 n) (a : Fin 128) (b : Fin 8) (c : Fin 128) (d : Fin 128) :
    (Host.dynamicUpdateSlice X (broadcastInDim S1x8x128x128 ![1, 2, 3] bcast_S8x128x128_S1x8x128x128_1_2_3 v)
      (fun k => (i k (Shape.Idx.first h_S_)).toInt) updateFits_S128x8x128x128_S1x8x128x128 : FVec Ideal S128x8x128x128 .f32) (ix4 a b c d)
      = if a.val = n then v (ix3 b c d) else X (ix4 a b c d) := by
  subst hi
  have h0 : Host.clampedStart S128x8x128x128 S1x8x128x128 updateFits_S128x8x128x128_S1x8x128x128.1 (fun k => (starts4 n k (Shape.Idx.first h_S_)).toInt) 0 = n :=
    Host.clampedStart_of_le _ _ 0 n (word_toInt n hn) (show n + 1 ≤ 128 by omega)
  have h1 : Host.clampedStart S128x8x128x128 S1x8x128x128 updateFits_S128x8x128x128_S1x8x128x128.1 (fun k => (starts4 n k (Shape.Idx.first h_S_)).toInt) 1 = 0 :=
    Host.clampedStart_of_le _ _ 1 0 rfl (show 0 + 8 ≤ 8 by norm_num)
  have h2 : Host.clampedStart S128x8x128x128 S1x8x128x128 updateFits_S128x8x128x128_S1x8x128x128.1 (fun k => (starts4 n k (Shape.Idx.first h_S_)).toInt) 2 = 0 :=
    Host.clampedStart_of_le _ _ 2 0 rfl (show 0 + 128 ≤ 128 by norm_num)
  have h3 : Host.clampedStart S128x8x128x128 S1x8x128x128 updateFits_S128x8x128x128_S1x8x128x128.1 (fun k => (starts4 n k (Shape.Idx.first h_S_)).toInt) 3 = 0 :=
    Host.clampedStart_of_le _ _ 3 0 rfl (show 0 + 128 ≤ 128 by norm_num)
  pointwise []
  simp only [h0, h1, h2, h3, Nat.sub_zero, Nat.zero_add, Nat.zero_le, true_and, and_true, Nat.lt_one_iff, Nat.zero_lt_one]
  by_cases ha : a.val = n
  · rw [dif_pos (by omega), if_pos ha]
  · rw [dif_neg (by omega), if_neg ha]

/-- A slice of a stack, read at an index. -/
theorem pick_one (X : FVec Ideal S128x8x1x1 .f32) (hn : n < 128) (i : Fin 4 → IVec S_ 32) (hi : i = starts4 n) :
    (shapeCast S8x1x1 (Host.dynamicSlice S1x8x1x1 X (fun k => (i k (Shape.Idx.first h_S_)).toInt) sliceFits_S128x8x1x1_S1x8x1x1)
      shapeCasts_S1x8x1x1_S8x1x1 : FVec Ideal S8x1x1 .f32) = fun j => X (ix4 ⟨n, hn⟩ (j 0) (j 1) (j 2)) := by
  subst hi
  have h0 : Host.clampedStart S128x8x1x1 S1x8x1x1 sliceFits_S128x8x1x1_S1x8x1x1.1 (fun k => (starts4 n k (Shape.Idx.first h_S_)).toInt) 0 = n :=
    Host.clampedStart_of_le _ _ 0 n (word_toInt n hn) (show n + 1 ≤ 128 by omega)
  have h1 : Host.clampedStart S128x8x1x1 S1x8x1x1 sliceFits_S128x8x1x1_S1x8x1x1.1 (fun k => (starts4 n k (Shape.Idx.first h_S_)).toInt) 1 = 0 :=
    Host.clampedStart_of_le _ _ 1 0 rfl (show 0 + 8 ≤ 8 by norm_num)
  have h2 : Host.clampedStart S128x8x1x1 S1x8x1x1 sliceFits_S128x8x1x1_S1x8x1x1.1 (fun k => (starts4 n k (Shape.Idx.first h_S_)).toInt) 2 = 0 :=
    Host.clampedStart_of_le _ _ 2 0 rfl (show 0 + 1 ≤ 1 by norm_num)
  have h3 : Host.clampedStart S128x8x1x1 S1x8x1x1 sliceFits_S128x8x1x1_S1x8x1x1.1 (fun k => (starts4 n k (Shape.Idx.first h_S_)).toInt) 3 = 0 :=
    Host.clampedStart_of_le _ _ 3 0 rfl (show 0 + 1 ≤ 1 by norm_num)
  funext j; idx_vars j
  pointwise []
  simp only [h0, h1, h2, h3, Nat.zero_add]
  congr 1; exact congrArg₂ (ix4 _ _) (Subsingleton.elim _ _) (Subsingleton.elim _ _)

/-- A stack written at the counted chunk, read at an index. -/
theorem put_one (X : FVec Ideal S128x8x1x1 .f32) (v : FVec Ideal S8x1x1 .f32) (hn : n < 128) (i : Fin 4 → IVec S_ 32) (hi : i = starts4 n) (a : Fin 128) (b : Fin 8) (c : Fin 1) (d : Fin 1) :
    (Host.dynamicUpdateSlice X (broadcastInDim S1x8x1x1 ![1, 2, 3] bcast_S8x1x1_S1x8x1x1_1_2_3 v)
      (fun k => (i k (Shape.Idx.first h_S_)).toInt) updateFits_S128x8x1x1_S1x8x1x1 : FVec Ideal S128x8x1x1 .f32) (ix4 a b c d)
      = if a.val = n then v (ix3 b c d) else X (ix4 a b c d) := by
  subst hi
  have h0 : Host.clampedStart S128x8x1x1 S1x8x1x1 updateFits_S128x8x1x1_S1x8x1x1.1 (fun k => (starts4 n k (Shape.Idx.first h_S_)).toInt) 0 = n :=
    Host.clampedStart_of_le _ _ 0 n (word_toInt n hn) (show n + 1 ≤ 128 by omega)
  have h1 : Host.clampedStart S128x8x1x1 S1x8x1x1 updateFits_S128x8x1x1_S1x8x1x1.1 (fun k => (starts4 n k (Shape.Idx.first h_S_)).toInt) 1 = 0 :=
    Host.clampedStart_of_le _ _ 1 0 rfl (show 0 + 8 ≤ 8 by norm_num)
  have h2 : Host.clampedStart S128x8x1x1 S1x8x1x1 updateFits_S128x8x1x1_S1x8x1x1.1 (fun k => (starts4 n k (Shape.Idx.first h_S_)).toInt) 2 = 0 :=
    Host.clampedStart_of_le _ _ 2 0 rfl (show 0 + 1 ≤ 1 by norm_num)
  have h3 : Host.clampedStart S128x8x1x1 S1x8x1x1 updateFits_S128x8x1x1_S1x8x1x1.1 (fun k => (starts4 n k (Shape.Idx.first h_S_)).toInt) 3 = 0 :=
    Host.clampedStart_of_le _ _ 3 0 rfl (show 0 + 1 ≤ 1 by norm_num)
  pointwise []
  simp only [h0, h1, h2, h3, Nat.sub_zero, Nat.zero_add, Nat.zero_le, true_and, and_true, Nat.lt_one_iff, Nat.zero_lt_one]
  by_cases ha : a.val = n
  · rw [dif_pos (by omega), if_pos ha]; congr 1; exact congrArg₂ (ix3 _) (Subsingleton.elim _ _) (Subsingleton.elim _ _)
  · rw [dif_neg (by omega), if_neg ha]

/-- A slice of a stack, read at an index. -/
theorem pick_eight (X : FVec Ideal S128x8 .f32) (hn : n < 128) (i : Fin 2 → IVec S_ 32) (hi : i = starts2 n) :
    (shapeCast S8 (Host.dynamicSlice S1x8 X (fun k => (i k (Shape.Idx.first h_S_)).toInt) sliceFits_S128x8_S1x8)
      shapeCasts_S1x8_S8 : FVec Ideal S8 .f32) = fun j => X (ix2 ⟨n, hn⟩ (j 0)) := by
  subst hi
  have h0 : Host.clampedStart S128x8 S1x8 sliceFits_S128x8_S1x8.1 (fun k => (starts2 n k (Shape.Idx.first h_S_)).toInt) 0 = n :=
    Host.clampedStart_of_le _ _ 0 n (word_toInt n hn) (show n + 1 ≤ 128 by omega)
  have h1 : Host.clampedStart S128x8 S1x8 sliceFits_S128x8_S1x8.1 (fun k => (starts2 n k (Shape.Idx.first h_S_)).toInt) 1 = 0 :=
    Host.clampedStart_of_le _ _ 1 0 rfl (show 0 + 8 ≤ 8 by norm_num)
  funext j; idx_vars j
  pointwise []
  simp only [h0, h1, Nat.zero_add]

/-- A stack written at the counted chunk, read at an index. -/
theorem put_eight (X : FVec Ideal S128x8 .f32) (v : FVec Ideal S8 .f32) (hn : n < 128) (i : Fin 2 → IVec S_ 32) (hi : i = starts2 n) (a : Fin 128) (b : Fin 8) :
    (Host.dynamicUpdateSlice X (broadcastInDim S1x8 ![1] bcast_S8_S1x8_1 v)
      (fun k => (i k (Shape.Idx.first h_S_)).toInt) updateFits_S128x8_S1x8 : FVec Ideal S128x8 .f32) (ix2 a b)
      = if a.val = n then v (ix1 b) else X (ix2 a b) := by
  subst hi
  have h0 : Host.clampedStart S128x8 S1x8 updateFits_S128x8_S1x8.1 (fun k => (starts2 n k (Shape.Idx.first h_S_)).toInt) 0 = n :=
    Host.clampedStart_of_le _ _ 0 n (word_toInt n hn) (show n + 1 ≤ 128 by omega)
  have h1 : Host.clampedStart S128x8 S1x8 updateFits_S128x8_S1x8.1 (fun k => (starts2 n k (Shape.Idx.first h_S_)).toInt) 1 = 0 :=
    Host.clampedStart_of_le _ _ 1 0 rfl (show 0 + 8 ≤ 8 by norm_num)
  pointwise []
  simp only [h0, h1, Nat.sub_zero, Nat.zero_add, Nat.zero_le, true_and, and_true, Nat.lt_one_iff, Nat.zero_lt_one]
  by_cases ha : a.val = n
  · rw [dif_pos (by omega), if_pos ha]
  · rw [dif_neg (by omega), if_neg ha]

end Cert.ReferenceIdeal.Run
end
-- ==== Proof.RefSlice1.lean ====
/- The stretches of one trip of the backward loop: the slices it takes at its counter, and the stacks it writes there. -/
module

public import proofs.«01_k».proof.Proof.RefPick

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable {n : ℕ}

theorem while1Ops0_keep {r : Ref sig .tc} (hr : r ∉ [main_while1b_c_30, main_while1b_v48, main_while1b_c_31, main_while1b_v49]) (V : Valuation τ sig (Elt Ideal)) :
    after while1Ops0 V (devRef .tc r) = V (devRef .tc r) := after_unwritten _ rfl hr V

theorem while1Ops0_1_keep {r : Ref sig .tc} (hr : r ∉ [main_while1b_call11_c, main_while1b_call11_c_0, main_while1b_call11_c_1, main_while1b_call11_v0, main_while1b_v50]) (V : Valuation τ sig (Elt Ideal)) :
    after while1Ops0_1 V (devRef .tc r) = V (devRef .tc r) := after_unwritten _ rfl hr V

theorem while1Ops0_2_keep {r : Ref sig .tc} (hr : r ∉ [main_while1b_call12_c, main_while1b_call12_c_0, main_while1b_call12_c_1, main_while1b_call12_v0, main_while1b_v51]) (V : Valuation τ sig (Elt Ideal)) :
    after while1Ops0_2 V (devRef .tc r) = V (devRef .tc r) := after_unwritten _ rfl hr V

theorem while1Ops0_3_keep {r : Ref sig .tc} (hr : r ∉ [main_while1b_call13_c, main_while1b_call13_c_0, main_while1b_call13_c_1, main_while1b_call13_v0, main_while1b_v52]) (V : Valuation τ sig (Elt Ideal)) :
    after while1Ops0_3 V (devRef .tc r) = V (devRef .tc r) := after_unwritten _ rfl hr V

theorem while1Ops0_4_keep {r : Ref sig .tc} (hr : r ∉ [main_while1b_call14_c, main_while1b_call14_c_0, main_while1b_call14_c_1, main_while1b_call14_v0, main_while1b_v53]) (V : Valuation τ sig (Elt Ideal)) :
    after while1Ops0_4 V (devRef .tc r) = V (devRef .tc r) := after_unwritten _ rfl hr V

theorem while1Ops0_5_keep {r : Ref sig .tc} (hr : r ∉ [main_while1b_call15_c, main_while1b_call15_c_0, main_while1b_call15_c_1, main_while1b_call15_v0, main_while1b_v54]) (V : Valuation τ sig (Elt Ideal)) :
    after while1Ops0_5 V (devRef .tc r) = V (devRef .tc r) := after_unwritten _ rfl hr V

theorem while1Ops0_6_keep {r : Ref sig .tc} (hr : r ∉ [main_while1b_call16_c, main_while1b_call16_c_0, main_while1b_call16_c_1, main_while1b_call16_v0, main_while1b_v55]) (V : Valuation τ sig (Elt Ideal)) :
    after while1Ops0_6 V (devRef .tc r) = V (devRef .tc r) := after_unwritten _ rfl hr V

theorem while1Ops0_7_keep {r : Ref sig .tc} (hr : r ∉ [main_while1b_call17_c, main_while1b_call17_v0, main_while1b_v56]) (V : Valuation τ sig (Elt Ideal)) :
    after while1Ops0_7 V (devRef .tc r) = V (devRef .tc r) := after_unwritten _ rfl hr V

theorem while1Ops0_8_keep {r : Ref sig .tc} (hr : r ∉ [main_while1b_call18_c, main_while1b_call18_c_0, main_while1b_call18_c_1, main_while1b_call18_v0, main_while1b_v57]) (V : Valuation τ sig (Elt Ideal)) :
    after while1Ops0_8 V (devRef .tc r) = V (devRef .tc r) := after_unwritten _ rfl hr V

theorem while1Ops0_9_keep {r : Ref sig .tc} (hr : r ∉ [main_while1b_call19_c, main_while1b_call19_c_0, main_while1b_call19_c_1, main_while1b_call19_v0, main_while1b_v58]) (V : Valuation τ sig (Elt Ideal)) :
    after while1Ops0_9 V (devRef .tc r) = V (devRef .tc r) := after_unwritten _ rfl hr V

theorem while1Ops0_10_keep {r : Ref sig .tc} (hr : r ∉ [main_while1b_v59, main_while1b_v60, main_while1b_v61, main_while1b_v62, main_while1b_v63, main_while1b_cst_32, main_while1b_v64, main_while1b_v65, main_while1b_v66, main_while1b_v67, main_while1b_cst_33, main_while1b_v68, main_while1b_v69, main_while1b_v70, main_while1b_v71, main_while1b_v72, main_while1b_v73, main_while1b_v74, main_while1b_v75, main_while1b_v76, main_while1b_v77, main_while1b_v78, main_while1b_v79, main_while1b_v80, main_while1b_v81, main_while1b_v82]) (V : Valuation τ sig (Elt Ideal)) :
    after while1Ops0_10 V (devRef .tc r) = V (devRef .tc r) := after_unwritten _ rfl hr V

theorem while1Ops0_11_keep {r : Ref sig .tc} (hr : r ∉ [main_while1b_call20_v0, main_while1b_call20_c, main_while1b_call20_c_0, main_while1b_call20_c_1, main_while1b_v83]) (V : Valuation τ sig (Elt Ideal)) :
    after while1Ops0_11 V (devRef .tc r) = V (devRef .tc r) := after_unwritten _ rfl hr V

theorem while1Ops0_12_keep {r : Ref sig .tc} (hr : r ∉ [main_while1b_call21_v0, main_while1b_call21_c, main_while1b_call21_c_0, main_while1b_call21_c_1, main_while1b_v84]) (V : Valuation τ sig (Elt Ideal)) :
    after while1Ops0_12 V (devRef .tc r) = V (devRef .tc r) := after_unwritten _ rfl hr V

theorem while1Ops0_13_keep {r : Ref sig .tc} (hr : r ∉ [main_while1b_call22_v0, main_while1b_call22_c, main_while1b_call22_c_0, main_while1b_call22_c_1, main_while1b_v85]) (V : Valuation τ sig (Elt Ideal)) :
    after while1Ops0_13 V (devRef .tc r) = V (devRef .tc r) := after_unwritten _ rfl hr V

theorem while1Ops0_14_keep {r : Ref sig .tc} (hr : r ∉ [main_while1b_call23_v0, main_while1b_call23_c, main_while1b_call23_c_0, main_while1b_call23_c_1, main_while1b_v86]) (V : Valuation τ sig (Elt Ideal)) :
    after while1Ops0_14 V (devRef .tc r) = V (devRef .tc r) := after_unwritten _ rfl hr V

theorem while1Ops0_15_keep {r : Ref sig .tc} (hr : r ∉ [main_while1b_call24_v0, main_while1b_call24_c, main_while1b_call24_c_0, main_while1b_call24_c_1, main_while1b_v87]) (V : Valuation τ sig (Elt Ideal)) :
    after while1Ops0_15 V (devRef .tc r) = V (devRef .tc r) := after_unwritten _ rfl hr V

theorem while1Ops0_16_keep {r : Ref sig .tc} (hr : r ∉ [main_while1b_call25_v0, main_while1b_call25_c, main_while1b_v88]) (V : Valuation τ sig (Elt Ideal)) :
    after while1Ops0_16 V (devRef .tc r) = V (devRef .tc r) := after_unwritten _ rfl hr V

theorem while1Ops0_1_slice (V : Valuation τ sig (Elt Ideal)) (hn : n < 128) (hc : V (devRef .tc main_while1b_v49) = word n) :
    after while1Ops0_1 V (devRef .tc main_while1b_v50) = fun j => V (devRef .tc main_v35_0) (ix4 ⟨n, hn⟩ (j 0) (j 1) (j 2)) := by
  after_results
  exact pick_chunk _ hn _ (starts4_eq _ hc rfl rfl rfl)

theorem while1Ops0_2_slice (V : Valuation τ sig (Elt Ideal)) (hn : n < 128) (hc : V (devRef .tc main_while1b_v49) = word n) :
    after while1Ops0_2 V (devRef .tc main_while1b_v51) = fun j => V (devRef .tc main_v35_1) (ix4 ⟨n, hn⟩ (j 0) (j 1) (j 2)) := by
  after_results
  exact pick_state _ hn _ (starts4_eq _ hc rfl rfl rfl)

theorem while1Ops0_3_slice (V : Valuation τ sig (Elt Ideal)) (hn : n < 128) (hc : V (devRef .tc main_while1b_v49) = word n) :
    after while1Ops0_3 V (devRef .tc main_while1b_v52) = fun j => V (devRef .tc main_v35_2) (ix4 ⟨n, hn⟩ (j 0) (j 1) (j 2)) := by
  after_results
  exact pick_chunk _ hn _ (starts4_eq _ hc rfl rfl rfl)

theorem while1Ops0_4_slice (V : Valuation τ sig (Elt Ideal)) (hn : n < 128) (hc : V (devRef .tc main_while1b_v49) = word n) :
    after while1Ops0_4 V (devRef .tc main_while1b_v53) = fun j => V (devRef .tc main_v35_3) (ix4 ⟨n, hn⟩ (j 0) (j 1) (j 2)) := by
  after_results
  exact pick_chunk _ hn _ (starts4_eq _ hc rfl rfl rfl)

theorem while1Ops0_5_slice (V : Valuation τ sig (Elt Ideal)) (hn : n < 128) (hc : V (devRef .tc main_while1b_v49) = word n) :
    after while1Ops0_5 V (devRef .tc main_while1b_v54) = fun j => V (devRef .tc main_v35_4) (ix4 ⟨n, hn⟩ (j 0) (j 1) (j 2)) := by
  after_results
  exact pick_chunk _ hn _ (starts4_eq _ hc rfl rfl rfl)

theorem while1Ops0_6_slice (V : Valuation τ sig (Elt Ideal)) (hn : n < 128) (hc : V (devRef .tc main_while1b_v49) = word n) :
    after while1Ops0_6 V (devRef .tc main_while1b_v55) = fun j => V (devRef .tc main_v35_5) (ix4 ⟨n, hn⟩ (j 0) (j 1) (j 2)) := by
  after_results
  exact pick_square _ hn _ (starts4_eq _ hc rfl rfl rfl)

theorem while1Ops0_7_slice (V : Valuation τ sig (Elt Ideal)) (hn : n < 128) (hc : V (devRef .tc main_while1b_v49) = word n) :
    after while1Ops0_7 V (devRef .tc main_while1b_v56) = fun j => V (devRef .tc main_v35_6) (ix2 ⟨n, hn⟩ (j 0)) := by
  after_results
  exact pick_eight _ hn _ (starts2_eq _ hc rfl)

theorem while1Ops0_8_slice (V : Valuation τ sig (Elt Ideal)) (hn : n < 128) (hc : V (devRef .tc main_while1b_v49) = word n) :
    after while1Ops0_8 V (devRef .tc main_while1b_v57) = fun j => V (devRef .tc main_v35_7) (ix4 ⟨n, hn⟩ (j 0) (j 1) (j 2)) := by
  after_results
  exact pick_one _ hn _ (starts4_eq _ hc rfl rfl rfl)

theorem while1Ops0_9_slice (V : Valuation τ sig (Elt Ideal)) (hn : n < 128) (hc : V (devRef .tc main_while1b_v49) = word n) :
    after while1Ops0_9 V (devRef .tc main_while1b_v58) = fun j => V (devRef .tc main_v35_8) (ix4 ⟨n, hn⟩ (j 0) (j 1) (j 2)) := by
  after_results
  exact pick_chunk _ hn _ (starts4_eq _ hc rfl rfl rfl)

theorem while1Ops0_11_put (V : Valuation τ sig (Elt Ideal)) (hn : n < 128) (hc : V (devRef .tc main_while1b_v49) = word n) (a : Fin 128) (b : Fin 8) (c : Fin 64) (d : Fin 128) :
    after while1Ops0_11 V (devRef .tc main_while1b_v83) (ix4 a b c d) = if a.val = n then V (devRef .tc main_while1b_v77) (ix3 b c d) else V (devRef .tc main_v35_11) (ix4 a b c d) := by
  after_results
  exact put_chunk _ _ hn _ (starts4_eq _ hc rfl rfl rfl) a b c d

theorem while1Ops0_12_put (V : Valuation τ sig (Elt Ideal)) (hn : n < 128) (hc : V (devRef .tc main_while1b_v49) = word n) (a : Fin 128) (b : Fin 8) (c : Fin 64) (d : Fin 128) :
    after while1Ops0_12 V (devRef .tc main_while1b_v84) (ix4 a b c d) = if a.val = n then V (devRef .tc main_while1b_v62) (ix3 b c d) else V (devRef .tc main_v35_12) (ix4 a b c d) := by
  after_results
  exact put_chunk _ _ hn _ (starts4_eq _ hc rfl rfl rfl) a b c d

theorem while1Ops0_13_put (V : Valuation τ sig (Elt Ideal)) (hn : n < 128) (hc : V (devRef .tc main_while1b_v49) = word n) (a : Fin 128) (b : Fin 8) (c : Fin 64) (d : Fin 128) :
    after while1Ops0_13 V (devRef .tc main_while1b_v85) (ix4 a b c d) = if a.val = n then V (devRef .tc main_while1b_v72) (ix3 b c d) else V (devRef .tc main_v35_13) (ix4 a b c d) := by
  after_results
  exact put_chunk _ _ hn _ (starts4_eq _ hc rfl rfl rfl) a b c d

theorem while1Ops0_14_put (V : Valuation τ sig (Elt Ideal)) (hn : n < 128) (hc : V (devRef .tc main_while1b_v49) = word n) (a : Fin 128) (b : Fin 8) (c : Fin 64) (d : Fin 128) :
    after while1Ops0_14 V (devRef .tc main_while1b_v86) (ix4 a b c d) = if a.val = n then V (devRef .tc main_while1b_v82) (ix3 b c d) else V (devRef .tc main_v35_14) (ix4 a b c d) := by
  after_results
  exact put_chunk _ _ hn _ (starts4_eq _ hc rfl rfl rfl) a b c d

theorem while1Ops0_15_put (V : Valuation τ sig (Elt Ideal)) (hn : n < 128) (hc : V (devRef .tc main_while1b_v49) = word n) (a : Fin 128) (b : Fin 8) (c : Fin 64) (d : Fin 64) :
    after while1Ops0_15 V (devRef .tc main_while1b_v87) (ix4 a b c d) = if a.val = n then V (devRef .tc main_while1b_v73) (ix3 b c d) else V (devRef .tc main_v35_15) (ix4 a b c d) := by
  after_results
  exact put_square _ _ hn _ (starts4_eq _ hc rfl rfl rfl) a b c d

theorem while1Ops0_16_put (V : Valuation τ sig (Elt Ideal)) (hn : n < 128) (hc : V (devRef .tc main_while1b_v49) = word n) (a : Fin 128) (b : Fin 8) :
    after while1Ops0_16 V (devRef .tc main_while1b_v88) (ix2 a b) = if a.val = n then V (devRef .tc main_while1b_v69) (ix1 b) else V (devRef .tc main_v35_16) (ix2 a b) := by
  after_results
  exact put_eight _ _ hn _ (starts2_eq _ hc rfl) a b

end Cert.ReferenceIdeal.Run

end
-- ==== Proof.RefCore1.lean ====
/- What one trip of the backward loop computes from its slices. -/
module

public import proofs.«01_k».proof.Proof.RefSlice1

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable {n : ℕ}

theorem core1_72 (V : Valuation τ sig (Elt Ideal)) :
    after while1Ops0_10 V (devRef .tc main_while1b_v72) = dV (V (devRef .tc main_v35_10)) (V (devRef .tc main_while1b_v58)) (V (devRef .tc main_while1b_v55)) (V (devRef .tc main_while1b_v50)) := by
  have e : after while1Ops0_10 V (devRef .tc main_while1b_v72) = ((addf : FVec Ideal S8x64x128 .f32 → FVec Ideal S8x64x128 .f32 → FVec Ideal S8x64x128 .f32) (((transpose S8x64x128 [0, 2, 1] · transposes_S8x128x64_S8x64x128_0_2_1) : FVec Ideal S8x128x64 .f32 → FVec Ideal S8x64x128 .f32) (((fun l r => Host.dotGeneral dot_S8x128x128_S8x64x128_S8x128x64_1_2_2_1_0_0 none l r) : FVec Ideal S8x128x128 .f32 → FVec Ideal S8x64x128 .f32 → FVec Ideal S8x128x64 .f32) (V (devRef .tc main_v35_10)) (V (devRef .tc main_while1b_v58)))) (((transpose S8x64x128 [0, 2, 1] · transposes_S8x128x64_S8x64x128_0_2_1) : FVec Ideal S8x128x64 .f32 → FVec Ideal S8x64x128 .f32) (((fun l r => Host.dotGeneral dot_S8x64x128_S8x64x64_S8x128x64_1_1_2_2_0_0 none l r) : FVec Ideal S8x64x128 .f32 → FVec Ideal S8x64x64 .f32 → FVec Ideal S8x128x64 .f32) (V (devRef .tc main_while1b_v50)) (V (devRef .tc main_while1b_v55))))) := by
    after_results
  rw [e]
  funext j; idx_vars j
  pointwise [dV]
  simp only [EReal.mul_comm (V (devRef .tc main_v35_10) _), EReal.mul_comm (V (devRef .tc main_while1b_v50) _)]

theorem core1_77 (V : Valuation τ sig (Elt Ideal)) :
    after while1Ops0_10 V (devRef .tc main_while1b_v77) = timesT (V (devRef .tc main_while1b_v51)) (V (devRef .tc main_while1b_v50)) := by
  have e : after while1Ops0_10 V (devRef .tc main_while1b_v77) = (((fun l r => Host.dotGeneral dot_S8x64x128_S8x128x128_S8x64x128_2_2_1_1_0_0 none l r) : FVec Ideal S8x64x128 .f32 → FVec Ideal S8x128x128 .f32 → FVec Ideal S8x64x128 .f32) (V (devRef .tc main_while1b_v50)) (V (devRef .tc main_while1b_v51))) := by
    after_results
  rw [e]
  funext j; idx_vars j
  pointwise [timesT]

theorem core1_62 (V : Valuation τ sig (Elt Ideal)) :
    after while1Ops0_10 V (devRef .tc main_while1b_v62) = timesT (V (devRef .tc main_v35_10)) (V (devRef .tc main_while1b_v54)) := by
  have e : after while1Ops0_10 V (devRef .tc main_while1b_v62) = (((transpose S8x64x128 [0, 2, 1] · transposes_S8x128x64_S8x64x128_0_2_1) : FVec Ideal S8x128x64 .f32 → FVec Ideal S8x64x128 .f32) (((fun l r => Host.dotGeneral dot_S8x128x128_S8x64x128_S8x128x64_2_2_1_1_0_0 none l r) : FVec Ideal S8x128x128 .f32 → FVec Ideal S8x64x128 .f32 → FVec Ideal S8x128x64 .f32) (V (devRef .tc main_v35_10)) (V (devRef .tc main_while1b_v54)))) := by
    after_results
  rw [e]
  funext j; idx_vars j
  pointwise [timesT]
  exact Finset.sum_congr rfl fun _ _ => EReal.mul_comm _ _

theorem core1_73 (V : Valuation τ sig (Elt Ideal)) :
    after while1Ops0_10 V (devRef .tc main_while1b_v73) = rows (V (devRef .tc main_while1b_v50)) (V (devRef .tc main_while1b_v54)) := by
  have e : after while1Ops0_10 V (devRef .tc main_while1b_v73) = (((fun l r => Host.dotGeneral dot_S8x64x128_S8x64x128_S8x64x64_2_2_1_1_0_0 none l r) : FVec Ideal S8x64x128 .f32 → FVec Ideal S8x64x128 .f32 → FVec Ideal S8x64x64 .f32) (V (devRef .tc main_while1b_v50)) (V (devRef .tc main_while1b_v54))) := by
    after_results
  rw [e]
  funext j; idx_vars j
  pointwise [rows]

theorem core1_82 (V : Valuation τ sig (Elt Ideal)) :
    after while1Ops0_10 V (devRef .tc main_while1b_v82) = timesT (V (devRef .tc main_while1b_v51)) (minus (dV (V (devRef .tc main_v35_10)) (V (devRef .tc main_while1b_v58)) (V (devRef .tc main_while1b_v55)) (V (devRef .tc main_while1b_v50)))) := by
  have e : after while1Ops0_10 V (devRef .tc main_while1b_v82) = (((fun l r => Host.dotGeneral dot_S8x64x128_S8x128x128_S8x64x128_2_2_1_1_0_0 none l r) : FVec Ideal S8x64x128 .f32 → FVec Ideal S8x128x128 .f32 → FVec Ideal S8x64x128 .f32) ((Host.negf : FVec Ideal S8x64x128 .f32 → FVec Ideal S8x64x128 .f32) ((addf : FVec Ideal S8x64x128 .f32 → FVec Ideal S8x64x128 .f32 → FVec Ideal S8x64x128 .f32) (((transpose S8x64x128 [0, 2, 1] · transposes_S8x128x64_S8x64x128_0_2_1) : FVec Ideal S8x128x64 .f32 → FVec Ideal S8x64x128 .f32) (((fun l r => Host.dotGeneral dot_S8x128x128_S8x64x128_S8x128x64_1_2_2_1_0_0 none l r) : FVec Ideal S8x128x128 .f32 → FVec Ideal S8x64x128 .f32 → FVec Ideal S8x128x64 .f32) (V (devRef .tc main_v35_10)) (V (devRef .tc main_while1b_v58)))) (((transpose S8x64x128 [0, 2, 1] · transposes_S8x128x64_S8x64x128_0_2_1) : FVec Ideal S8x128x64 .f32 → FVec Ideal S8x64x128 .f32) (((fun l r => Host.dotGeneral dot_S8x64x128_S8x64x64_S8x128x64_1_1_2_2_0_0 none l r) : FVec Ideal S8x64x128 .f32 → FVec Ideal S8x64x64 .f32 → FVec Ideal S8x128x64 .f32) (V (devRef .tc main_while1b_v50)) (V (devRef .tc main_while1b_v55)))))) (V (devRef .tc main_while1b_v51))) := by
    after_results
  rw [e]
  funext j; idx_vars j
  pointwise [timesT, minus, dV]
  simp only [EReal.mul_comm (V (devRef .tc main_v35_10) _), EReal.mul_comm (V (devRef .tc main_while1b_v50) _)]

theorem core1_81 (V : Valuation τ sig (Elt Ideal)) (g : Fin 8 → EReal) (h6 : V (devRef .tc main_while1b_v56) = fun j => Ideal.exp (g (j 0))) (h7 : V (devRef .tc main_while1b_v57) = fun j => Ideal.exp (g (j 0))) :
    after while1Ops0_10 V (devRef .tc main_while1b_v81) = prev (V (devRef .tc main_v35_10)) (V (devRef .tc main_while1b_v53)) (V (devRef .tc main_while1b_v52)) (V (devRef .tc main_while1b_v50)) (minus (dV (V (devRef .tc main_v35_10)) (V (devRef .tc main_while1b_v58)) (V (devRef .tc main_while1b_v55)) (V (devRef .tc main_while1b_v50)))) g := by
  have e : after while1Ops0_10 V (devRef .tc main_while1b_v81) = ((addf : FVec Ideal S8x128x128 .f32 → FVec Ideal S8x128x128 .f32 → FVec Ideal S8x128x128 .f32) ((addf : FVec Ideal S8x128x128 .f32 → FVec Ideal S8x128x128 .f32 → FVec Ideal S8x128x128 .f32) ((mulf : FVec Ideal S8x128x128 .f32 → FVec Ideal S8x128x128 .f32 → FVec Ideal S8x128x128 .f32) (V (devRef .tc main_v35_10)) ((broadcastInDim S8x128x128 ![0, 1, 2] bcast_S8x1x1_S8x128x128_0_1_2 : FVec Ideal S8x1x1 .f32 → FVec Ideal S8x128x128 .f32) (V (devRef .tc main_while1b_v57)))) (((transpose S8x128x128 [0, 2, 1] · transposes_S8x128x128_S8x128x128_0_2_1) : FVec Ideal S8x128x128 .f32 → FVec Ideal S8x128x128 .f32) (((fun l r => Host.dotGeneral dot_S8x64x128_S8x64x128_S8x128x128_1_1_2_2_0_0 none l r) : FVec Ideal S8x64x128 .f32 → FVec Ideal S8x64x128 .f32 → FVec Ideal S8x128x128 .f32) (V (devRef .tc main_while1b_v50)) (V (devRef .tc main_while1b_v53))))) (((transpose S8x128x128 [0, 2, 1] · transposes_S8x128x128_S8x128x128_0_2_1) : FVec Ideal S8x128x128 .f32 → FVec Ideal S8x128x128 .f32) (((fun l r => Host.dotGeneral dot_S8x64x128_S8x64x128_S8x128x128_1_1_2_2_0_0 none l r) : FVec Ideal S8x64x128 .f32 → FVec Ideal S8x64x128 .f32 → FVec Ideal S8x128x128 .f32) ((Host.negf : FVec Ideal S8x64x128 .f32 → FVec Ideal S8x64x128 .f32) ((addf : FVec Ideal S8x64x128 .f32 → FVec Ideal S8x64x128 .f32 → FVec Ideal S8x64x128 .f32) (((transpose S8x64x128 [0, 2, 1] · transposes_S8x128x64_S8x64x128_0_2_1) : FVec Ideal S8x128x64 .f32 → FVec Ideal S8x64x128 .f32) (((fun l r => Host.dotGeneral dot_S8x128x128_S8x64x128_S8x128x64_1_2_2_1_0_0 none l r) : FVec Ideal S8x128x128 .f32 → FVec Ideal S8x64x128 .f32 → FVec Ideal S8x128x64 .f32) (V (devRef .tc main_v35_10)) (V (devRef .tc main_while1b_v58)))) (((transpose S8x64x128 [0, 2, 1] · transposes_S8x128x64_S8x64x128_0_2_1) : FVec Ideal S8x128x64 .f32 → FVec Ideal S8x64x128 .f32) (((fun l r => Host.dotGeneral dot_S8x64x128_S8x64x64_S8x128x64_1_1_2_2_0_0 none l r) : FVec Ideal S8x64x128 .f32 → FVec Ideal S8x64x64 .f32 → FVec Ideal S8x128x64 .f32) (V (devRef .tc main_while1b_v50)) (V (devRef .tc main_while1b_v55)))))) (V (devRef .tc main_while1b_v52))))) := by
    after_results
  rw [e, h7]
  funext j; idx_vars j
  pointwise [prev, minus, dV]
  simp only [EReal.mul_comm (V (devRef .tc main_v35_10) _), EReal.mul_comm (V (devRef .tc main_while1b_v50) _), EReal.mul_comm (-_)]

theorem core1_69 (V : Valuation τ sig (Elt Ideal)) (g : Fin 8 → EReal) (h6 : V (devRef .tc main_while1b_v56) = fun j => Ideal.exp (g (j 0))) (h7 : V (devRef .tc main_while1b_v57) = fun j => Ideal.exp (g (j 0))) :
    after while1Ops0_10 V (devRef .tc main_while1b_v69) = fun j => dG (V (devRef .tc main_while1b_v51)) (V (devRef .tc main_v35_10)) g (j 0) := by
  have e : after while1Ops0_10 V (devRef .tc main_while1b_v69) = ((mulf : FVec Ideal S8 .f32 → FVec Ideal S8 .f32 → FVec Ideal S8 .f32) (((fun x v => Host.reduceAdd x v reducesTo_S8x1x1_S8_d1_2 h_S_) : FVec Ideal S8x1x1 .f32 → FVec Ideal S_ .f32 → FVec Ideal S8 .f32) (shapeCast S8x1x1 (((fun x v => Host.reduceAdd x v reducesTo_S8x128x128_S8_d1_2 h_S_) : FVec Ideal S8x128x128 .f32 → FVec Ideal S_ .f32 → FVec Ideal S8 .f32) ((mulf : FVec Ideal S8x128x128 .f32 → FVec Ideal S8x128x128 .f32 → FVec Ideal S8x128x128 .f32) (V (devRef .tc main_while1b_v51)) (V (devRef .tc main_v35_10))) ((constant (F := Ideal) S_ .f32 0x00000000#32) )) shapeCasts_S8_S8x1x1 : FVec Ideal S8x1x1 .f32) ((constant (F := Ideal) S_ .f32 0x00000000#32) )) (V (devRef .tc main_while1b_v56))) := by
    after_results
    rfl
  rw [e, h6]
  funext j; idx_vars j
  pointwise [dG]
  simp only [Finset.univ_unique, Finset.sum_singleton]

end Cert.ReferenceIdeal.Run

end
-- ==== Proof.RefTrip1.lean ====
/- One trip of the backward loop: the gradient of the state after it, and the stacks with the trip's chunk written. -/
module

public import proofs.«01_k».proof.Proof.RefCore1

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable {n : ℕ}

theorem last1_v35_10 (V : Valuation τ sig (Elt Ideal)) : after while1Ops0_17 V (devRef .tc main_v35_10) = V (devRef .tc main_while1b_v81) := by
  after_results
  rfl

theorem last1_v35_11 (V : Valuation τ sig (Elt Ideal)) : after while1Ops0_17 V (devRef .tc main_v35_11) = V (devRef .tc main_while1b_v83) := by
  after_results
  rfl

theorem last1_v35_12 (V : Valuation τ sig (Elt Ideal)) : after while1Ops0_17 V (devRef .tc main_v35_12) = V (devRef .tc main_while1b_v84) := by
  after_results
  rfl

theorem last1_v35_13 (V : Valuation τ sig (Elt Ideal)) : after while1Ops0_17 V (devRef .tc main_v35_13) = V (devRef .tc main_while1b_v85) := by
  after_results
  rfl

theorem last1_v35_14 (V : Valuation τ sig (Elt Ideal)) : after while1Ops0_17 V (devRef .tc main_v35_14) = V (devRef .tc main_while1b_v86) := by
  after_results
  rfl

theorem last1_v35_15 (V : Valuation τ sig (Elt Ideal)) : after while1Ops0_17 V (devRef .tc main_v35_15) = V (devRef .tc main_while1b_v87) := by
  after_results
  rfl

theorem last1_v35_16 (V : Valuation τ sig (Elt Ideal)) : after while1Ops0_17 V (devRef .tc main_v35_16) = V (devRef .tc main_while1b_v88) := by
  after_results
  rfl

theorem place1 (V : Valuation τ sig (Elt Ideal)) (i : ℕ) (hi : i < 128) (hc : V (devRef .tc main_v35_9) = word i) :
    after while1Ops0 V (devRef .tc main_while1b_v49) = word (127 - i) := by
  have e : after while1Ops0 V (devRef .tc main_while1b_v49)
      = subi (subi (constantI S_ 32 128#32) (V (devRef .tc main_v35_9))) (constantI S_ 32 1#32) := by
    after_results
  rw [e, hc]
  funext j
  pointwise [word]
  apply BitVec.eq_of_toNat_eq
  simp only [IntOp.subi, BitVec.toNat_sub, BitVec.toNat_ofNat]
  omega

theorem trip1 (X Y : Valuation τ sig (Elt Ideal)) (hY0 : Y = after while1Ops0_17 (afterL headI1 X)) (i : ℕ) (hi : i < 128) (hn : n < 128) (hni : n = 127 - i) (hc : X (devRef .tc main_v35_9) = word i)
    (S D : State) (w q o v k : Chunk) (p : Square) (g : Fin 8 → EReal)
    (ho : (fun j : S8x64x128.Idx => (X (devRef .tc main_v35_0) (ix4 ⟨n, hn⟩ (j 0) (j 1) (j 2)) : EReal)) = o)
    (hS : (fun j : S8x128x128.Idx => (X (devRef .tc main_v35_1) (ix4 ⟨n, hn⟩ (j 0) (j 1) (j 2)) : EReal)) = S)
    (hw : (fun j : S8x64x128.Idx => (X (devRef .tc main_v35_2) (ix4 ⟨n, hn⟩ (j 0) (j 1) (j 2)) : EReal)) = w)
    (hq : (fun j : S8x64x128.Idx => (X (devRef .tc main_v35_3) (ix4 ⟨n, hn⟩ (j 0) (j 1) (j 2)) : EReal)) = q)
    (hv : (fun j : S8x64x128.Idx => (X (devRef .tc main_v35_4) (ix4 ⟨n, hn⟩ (j 0) (j 1) (j 2)) : EReal)) = v)
    (hp : (fun j : S8x64x64.Idx => (X (devRef .tc main_v35_5) (ix4 ⟨n, hn⟩ (j 0) (j 1) (j 2)) : EReal)) = p)
    (hg6 : (fun j : S8.Idx => (X (devRef .tc main_v35_6) (ix2 ⟨n, hn⟩ (j 0)) : EReal)) = fun j => Ideal.exp (g (j 0)))
    (hg7 : (fun j : S8x1x1.Idx => (X (devRef .tc main_v35_7) (ix4 ⟨n, hn⟩ (j 0) (j 1) (j 2)) : EReal)) = fun j => Ideal.exp (g (j 0)))
    (hk : (fun j : S8x64x128.Idx => (X (devRef .tc main_v35_8) (ix4 ⟨n, hn⟩ (j 0) (j 1) (j 2)) : EReal)) = k)
    (hDst : X (devRef .tc main_v35_10) = D) :
    Y (devRef .tc main_v35_10) = prev D q w o (minus (dV D k p o)) g
    ∧ (∀ a b c d, Y (devRef .tc main_v35_11) (ix4 a b c d) = if a.val = n then (timesT S o) (ix3 b c d) else X (devRef .tc main_v35_11) (ix4 a b c d))
    ∧ (∀ a b c d, Y (devRef .tc main_v35_12) (ix4 a b c d) = if a.val = n then (timesT D v) (ix3 b c d) else X (devRef .tc main_v35_12) (ix4 a b c d))
    ∧ (∀ a b c d, Y (devRef .tc main_v35_13) (ix4 a b c d) = if a.val = n then (dV D k p o) (ix3 b c d) else X (devRef .tc main_v35_13) (ix4 a b c d))
    ∧ (∀ a b c d, Y (devRef .tc main_v35_14) (ix4 a b c d) = if a.val = n then (timesT S (minus (dV D k p o))) (ix3 b c d) else X (devRef .tc main_v35_14) (ix4 a b c d))
    ∧ (∀ a b c d, Y (devRef .tc main_v35_15) (ix4 a b c d) = if a.val = n then (rows o v) (ix3 b c d) else X (devRef .tc main_v35_15) (ix4 a b c d))
    ∧ (∀ a b, Y (devRef .tc main_v35_16) (ix2 a b) = if a.val = n then (fun j => dG S D g (j 0)) (ix1 b) else X (devRef .tc main_v35_16) (ix2 a b)) := by
  obtain ⟨V0, e0⟩ : ∃ V, V = X := ⟨_, rfl⟩
  subst e0
  obtain ⟨V1, e1⟩ : ∃ V, V = after while1Ops0 V0 := ⟨_, rfl⟩
  obtain ⟨V2, e2⟩ : ∃ V, V = after while1Ops0_1 V1 := ⟨_, rfl⟩
  obtain ⟨V3, e3⟩ : ∃ V, V = after while1Ops0_2 V2 := ⟨_, rfl⟩
  obtain ⟨V4, e4⟩ : ∃ V, V = after while1Ops0_3 V3 := ⟨_, rfl⟩
  obtain ⟨V5, e5⟩ : ∃ V, V = after while1Ops0_4 V4 := ⟨_, rfl⟩
  obtain ⟨V6, e6⟩ : ∃ V, V = after while1Ops0_5 V5 := ⟨_, rfl⟩
  obtain ⟨V7, e7⟩ : ∃ V, V = after while1Ops0_6 V6 := ⟨_, rfl⟩
  obtain ⟨V8, e8⟩ : ∃ V, V = after while1Ops0_7 V7 := ⟨_, rfl⟩
  obtain ⟨V9, e9⟩ : ∃ V, V = after while1Ops0_8 V8 := ⟨_, rfl⟩
  obtain ⟨V10, e10⟩ : ∃ V, V = after while1Ops0_9 V9 := ⟨_, rfl⟩
  obtain ⟨V11, e11⟩ : ∃ V, V = after while1Ops0_10 V10 := ⟨_, rfl⟩
  obtain ⟨V12, e12⟩ : ∃ V, V = after while1Ops0_11 V11 := ⟨_, rfl⟩
  obtain ⟨V13, e13⟩ : ∃ V, V = after while1Ops0_12 V12 := ⟨_, rfl⟩
  obtain ⟨V14, e14⟩ : ∃ V, V = after while1Ops0_13 V13 := ⟨_, rfl⟩
  obtain ⟨V15, e15⟩ : ∃ V, V = after while1Ops0_14 V14 := ⟨_, rfl⟩
  obtain ⟨V16, e16⟩ : ∃ V, V = after while1Ops0_15 V15 := ⟨_, rfl⟩
  obtain ⟨V17, e17⟩ : ∃ V, V = after while1Ops0_16 V16 := ⟨_, rfl⟩
  have hY : Y = after while1Ops0_17 V17 := by
    rw [hY0, e17, e16, e15, e14, e13, e12, e11, e10, e9, e8, e7, e6, e5, e4, e3, e2, e1]
    chain_rfl
  obtain ⟨k_v35_0_1_0, k_while1b_v49_2_1, k_v35_1_2_0, k_while1b_v49_3_1, k_v35_2_3_0, k_while1b_v49_4_1, k_v35_3_4_0, k_while1b_v49_5_1, k_v35_4_5_0, k_while1b_v49_6_1, k_v35_5_6_0, k_while1b_v49_7_1, k_v35_6_7_0, k_while1b_v49_8_1, k_v35_7_8_0, k_while1b_v49_9_1, k_v35_8_9_0, k_while1b_v50_10_2, k_while1b_v51_10_3, k_while1b_v52_10_4, k_while1b_v53_10_5, k_while1b_v54_10_6, k_while1b_v55_10_7, k_while1b_v56_10_8, k_while1b_v57_10_9, k_v35_10_10_0, k_while1b_v81_17_11, k_while1b_v83_17_12, k_while1b_v49_11_1, k_v35_11_11_0, k_while1b_v84_17_13, k_while1b_v49_12_1, k_v35_12_12_0, k_while1b_v62_12_11, k_while1b_v85_17_14, k_while1b_v49_13_1, k_v35_13_13_0, k_while1b_v72_13_11, k_while1b_v86_17_15, k_while1b_v49_14_1, k_v35_14_14_0, k_while1b_v82_14_11, k_while1b_v87_17_16, k_while1b_v49_15_1, k_v35_15_15_0, k_while1b_v73_15_11, k_while1b_v49_16_1, k_v35_16_16_0, k_while1b_v69_16_11⟩ :
      V1 (devRef .tc main_v35_0) = V0 (devRef .tc main_v35_0)
      ∧ V2 (devRef .tc main_while1b_v49) = V1 (devRef .tc main_while1b_v49)
      ∧ V2 (devRef .tc main_v35_1) = V0 (devRef .tc main_v35_1)
      ∧ V3 (devRef .tc main_while1b_v49) = V1 (devRef .tc main_while1b_v49)
      ∧ V3 (devRef .tc main_v35_2) = V0 (devRef .tc main_v35_2)
      ∧ V4 (devRef .tc main_while1b_v49) = V1 (devRef .tc main_while1b_v49)
      ∧ V4 (devRef .tc main_v35_3) = V0 (devRef .tc main_v35_3)
      ∧ V5 (devRef .tc main_while1b_v49) = V1 (devRef .tc main_while1b_v49)
      ∧ V5 (devRef .tc main_v35_4) = V0 (devRef .tc main_v35_4)
      ∧ V6 (devRef .tc main_while1b_v49) = V1 (devRef .tc main_while1b_v49)
      ∧ V6 (devRef .tc main_v35_5) = V0 (devRef .tc main_v35_5)
      ∧ V7 (devRef .tc main_while1b_v49) = V1 (devRef .tc main_while1b_v49)
      ∧ V7 (devRef .tc main_v35_6) = V0 (devRef .tc main_v35_6)
      ∧ V8 (devRef .tc main_while1b_v49) = V1 (devRef .tc main_while1b_v49)
      ∧ V8 (devRef .tc main_v35_7) = V0 (devRef .tc main_v35_7)
      ∧ V9 (devRef .tc main_while1b_v49) = V1 (devRef .tc main_while1b_v49)
      ∧ V9 (devRef .tc main_v35_8) = V0 (devRef .tc main_v35_8)
      ∧ V10 (devRef .tc main_while1b_v50) = V2 (devRef .tc main_while1b_v50)
      ∧ V10 (devRef .tc main_while1b_v51) = V3 (devRef .tc main_while1b_v51)
      ∧ V10 (devRef .tc main_while1b_v52) = V4 (devRef .tc main_while1b_v52)
      ∧ V10 (devRef .tc main_while1b_v53) = V5 (devRef .tc main_while1b_v53)
      ∧ V10 (devRef .tc main_while1b_v54) = V6 (devRef .tc main_while1b_v54)
      ∧ V10 (devRef .tc main_while1b_v55) = V7 (devRef .tc main_while1b_v55)
      ∧ V10 (devRef .tc main_while1b_v56) = V8 (devRef .tc main_while1b_v56)
      ∧ V10 (devRef .tc main_while1b_v57) = V9 (devRef .tc main_while1b_v57)
      ∧ V10 (devRef .tc main_v35_10) = V0 (devRef .tc main_v35_10)
      ∧ V17 (devRef .tc main_while1b_v81) = V11 (devRef .tc main_while1b_v81)
      ∧ V17 (devRef .tc main_while1b_v83) = V12 (devRef .tc main_while1b_v83)
      ∧ V11 (devRef .tc main_while1b_v49) = V1 (devRef .tc main_while1b_v49)
      ∧ V11 (devRef .tc main_v35_11) = V0 (devRef .tc main_v35_11)
      ∧ V17 (devRef .tc main_while1b_v84) = V13 (devRef .tc main_while1b_v84)
      ∧ V12 (devRef .tc main_while1b_v49) = V1 (devRef .tc main_while1b_v49)
      ∧ V12 (devRef .tc main_v35_12) = V0 (devRef .tc main_v35_12)
      ∧ V12 (devRef .tc main_while1b_v62) = V11 (devRef .tc main_while1b_v62)
      ∧ V17 (devRef .tc main_while1b_v85) = V14 (devRef .tc main_while1b_v85)
      ∧ V13 (devRef .tc main_while1b_v49) = V1 (devRef .tc main_while1b_v49)
      ∧ V13 (devRef .tc main_v35_13) = V0 (devRef .tc main_v35_13)
      ∧ V13 (devRef .tc main_while1b_v72) = V11 (devRef .tc main_while1b_v72)
      ∧ V17 (devRef .tc main_while1b_v86) = V15 (devRef .tc main_while1b_v86)
      ∧ V14 (devRef .tc main_while1b_v49) = V1 (devRef .tc main_while1b_v49)
      ∧ V14 (devRef .tc main_v35_14) = V0 (devRef .tc main_v35_14)
      ∧ V14 (devRef .tc main_while1b_v82) = V11 (devRef .tc main_while1b_v82)
      ∧ V17 (devRef .tc main_while1b_v87) = V16 (devRef .tc main_while1b_v87)
      ∧ V15 (devRef .tc main_while1b_v49) = V1 (devRef .tc main_while1b_v49)
      ∧ V15 (devRef .tc main_v35_15) = V0 (devRef .tc main_v35_15)
      ∧ V15 (devRef .tc main_while1b_v73) = V11 (devRef .tc main_while1b_v73)
      ∧ V16 (devRef .tc main_while1b_v49) = V1 (devRef .tc main_while1b_v49)
      ∧ V16 (devRef .tc main_v35_16) = V0 (devRef .tc main_v35_16)
      ∧ V16 (devRef .tc main_while1b_v69) = V11 (devRef .tc main_while1b_v69) := by
    and_intros
    all_goals try rw [e17, while1Ops0_16_keep (by decide +kernel)]
    all_goals try rw [e16, while1Ops0_15_keep (by decide +kernel)]
    all_goals try rw [e15, while1Ops0_14_keep (by decide +kernel)]
    all_goals try rw [e14, while1Ops0_13_keep (by decide +kernel)]
    all_goals try rw [e13, while1Ops0_12_keep (by decide +kernel)]
    all_goals try rw [e12, while1Ops0_11_keep (by decide +kernel)]
    all_goals try rw [e11, while1Ops0_10_keep (by decide +kernel)]
    all_goals try rw [e10, while1Ops0_9_keep (by decide +kernel)]
    all_goals try rw [e9, while1Ops0_8_keep (by decide +kernel)]
    all_goals try rw [e8, while1Ops0_7_keep (by decide +kernel)]
    all_goals try rw [e7, while1Ops0_6_keep (by decide +kernel)]
    all_goals try rw [e6, while1Ops0_5_keep (by decide +kernel)]
    all_goals try rw [e5, while1Ops0_4_keep (by decide +kernel)]
    all_goals try rw [e4, while1Ops0_3_keep (by decide +kernel)]
    all_goals try rw [e3, while1Ops0_2_keep (by decide +kernel)]
    all_goals try rw [e2, while1Ops0_1_keep (by decide +kernel)]
    all_goals try rw [e1, while1Ops0_keep (by decide +kernel)]
  have hplace : V1 (devRef .tc main_while1b_v49) = word n := by rw [e1, hni]; exact place1 _ i hi hc
  have s_o : V2 (devRef .tc main_while1b_v50) = o := by
    rw [e2, while1Ops0_1_slice _ hn (hplace), k_v35_0_1_0]; exact ho
  have s_S : V3 (devRef .tc main_while1b_v51) = S := by
    rw [e3, while1Ops0_2_slice _ hn (k_while1b_v49_2_1.trans hplace), k_v35_1_2_0]; exact hS
  have s_w : V4 (devRef .tc main_while1b_v52) = w := by
    rw [e4, while1Ops0_3_slice _ hn (k_while1b_v49_3_1.trans hplace), k_v35_2_3_0]; exact hw
  have s_q : V5 (devRef .tc main_while1b_v53) = q := by
    rw [e5, while1Ops0_4_slice _ hn (k_while1b_v49_4_1.trans hplace), k_v35_3_4_0]; exact hq
  have s_v : V6 (devRef .tc main_while1b_v54) = v := by
    rw [e6, while1Ops0_5_slice _ hn (k_while1b_v49_5_1.trans hplace), k_v35_4_5_0]; exact hv
  have s_p : V7 (devRef .tc main_while1b_v55) = p := by
    rw [e7, while1Ops0_6_slice _ hn (k_while1b_v49_6_1.trans hplace), k_v35_5_6_0]; exact hp
  have s_g6 : V8 (devRef .tc main_while1b_v56) = fun j => Ideal.exp (g (j 0)) := by
    rw [e8, while1Ops0_7_slice _ hn (k_while1b_v49_7_1.trans hplace), k_v35_6_7_0]; exact hg6
  have s_g7 : V9 (devRef .tc main_while1b_v57) = fun j => Ideal.exp (g (j 0)) := by
    rw [e9, while1Ops0_8_slice _ hn (k_while1b_v49_8_1.trans hplace), k_v35_7_8_0]; exact hg7
  have s_k : V10 (devRef .tc main_while1b_v58) = k := by
    rw [e10, while1Ops0_9_slice _ hn (k_while1b_v49_9_1.trans hplace), k_v35_8_9_0]; exact hk
  have s_Dst : V10 (devRef .tc main_v35_10) = D := k_v35_10_10_0.trans hDst
  have c_72 : V11 (devRef .tc main_while1b_v72) = dV D k p o := by
    rw [e11, core1_72 _, s_k, k_while1b_v55_10_7, s_p, k_while1b_v50_10_2, s_o, s_Dst]
  have c_77 : V11 (devRef .tc main_while1b_v77) = timesT S o := by
    rw [e11, core1_77 _, k_while1b_v51_10_3, s_S, k_while1b_v50_10_2, s_o]
  have c_62 : V11 (devRef .tc main_while1b_v62) = timesT D v := by
    rw [e11, core1_62 _, k_while1b_v54_10_6, s_v, s_Dst]
  have c_73 : V11 (devRef .tc main_while1b_v73) = rows o v := by
    rw [e11, core1_73 _, k_while1b_v50_10_2, s_o, k_while1b_v54_10_6, s_v]
  have c_82 : V11 (devRef .tc main_while1b_v82) = timesT S (minus (dV D k p o)) := by
    rw [e11, core1_82 _, k_while1b_v51_10_3, s_S, s_k, k_while1b_v55_10_7, s_p, k_while1b_v50_10_2, s_o, s_Dst]
  have c_81 : V11 (devRef .tc main_while1b_v81) = prev D q w o (minus (dV D k p o)) g := by
    rw [e11, core1_81 _ g (k_while1b_v56_10_8.trans s_g6) (k_while1b_v57_10_9.trans s_g7), k_while1b_v53_10_5, s_q, k_while1b_v52_10_4, s_w, k_while1b_v50_10_2, s_o, s_k, k_while1b_v55_10_7, s_p, s_Dst]
  have c_69 : V11 (devRef .tc main_while1b_v69) = fun j => dG S D g (j 0) := by
    rw [e11, core1_69 _ g (k_while1b_v56_10_8.trans s_g6) (k_while1b_v57_10_9.trans s_g7), k_while1b_v51_10_3, s_S, s_Dst]
  exact ⟨by rw [hY, last1_v35_10, k_while1b_v81_17_11, c_81],
    fun a b c d => by rw [hY, last1_v35_11, k_while1b_v83_17_12, e12, while1Ops0_11_put _ hn (k_while1b_v49_11_1.trans hplace), c_77, k_v35_11_11_0],
    fun a b c d => by rw [hY, last1_v35_12, k_while1b_v84_17_13, e13, while1Ops0_12_put _ hn (k_while1b_v49_12_1.trans hplace), k_while1b_v62_12_11, c_62, k_v35_12_12_0],
    fun a b c d => by rw [hY, last1_v35_13, k_while1b_v85_17_14, e14, while1Ops0_13_put _ hn (k_while1b_v49_13_1.trans hplace), k_while1b_v72_13_11, c_72, k_v35_13_13_0],
    fun a b c d => by rw [hY, last1_v35_14, k_while1b_v86_17_15, e15, while1Ops0_14_put _ hn (k_while1b_v49_14_1.trans hplace), k_while1b_v82_14_11, c_82, k_v35_14_14_0],
    fun a b c d => by rw [hY, last1_v35_15, k_while1b_v87_17_16, e16, while1Ops0_15_put _ hn (k_while1b_v49_15_1.trans hplace), k_while1b_v73_15_11, c_73, k_v35_15_15_0],
    fun a b => by rw [hY, last1_v35_16, e17, while1Ops0_16_put _ hn (k_while1b_v49_16_1.trans hplace), k_while1b_v69_16_11, c_69, k_v35_16_16_0]⟩

end Cert.ReferenceIdeal.Run

end
-- ==== Proof.RefSlice0.lean ====
/- The stretches of one trip of the forward loop: the slices it takes at its counter, and the stacks it writes there. -/
module

public import proofs.«01_k».proof.Proof.RefPick

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable {n : ℕ}

theorem while0Ops0_keep {r : Ref sig .tc} (hr : r ∉ [main_while0b_call0_c, main_while0b_call0_c_0, main_while0b_call0_c_1, main_while0b_call0_v0, main_while0b_v48]) (V : Valuation τ sig (Elt Ideal)) :
    after while0Ops0 V (devRef .tc r) = V (devRef .tc r) := after_unwritten _ rfl hr V

theorem while0Ops0_1_keep {r : Ref sig .tc} (hr : r ∉ [main_while0b_call1_c, main_while0b_call1_c_0, main_while0b_call1_c_1, main_while0b_call1_v0, main_while0b_v49]) (V : Valuation τ sig (Elt Ideal)) :
    after while0Ops0_1 V (devRef .tc r) = V (devRef .tc r) := after_unwritten _ rfl hr V

theorem while0Ops0_2_keep {r : Ref sig .tc} (hr : r ∉ [main_while0b_call2_c, main_while0b_call2_c_0, main_while0b_call2_c_1, main_while0b_call2_v0, main_while0b_v50]) (V : Valuation τ sig (Elt Ideal)) :
    after while0Ops0_2 V (devRef .tc r) = V (devRef .tc r) := after_unwritten _ rfl hr V

theorem while0Ops0_3_keep {r : Ref sig .tc} (hr : r ∉ [main_while0b_call3_c, main_while0b_call3_c_0, main_while0b_call3_c_1, main_while0b_call3_v0, main_while0b_v51]) (V : Valuation τ sig (Elt Ideal)) :
    after while0Ops0_3 V (devRef .tc r) = V (devRef .tc r) := after_unwritten _ rfl hr V

theorem while0Ops0_4_keep {r : Ref sig .tc} (hr : r ∉ [main_while0b_call4_c, main_while0b_call4_c_0, main_while0b_call4_c_1, main_while0b_call4_v0, main_while0b_v52]) (V : Valuation τ sig (Elt Ideal)) :
    after while0Ops0_4 V (devRef .tc r) = V (devRef .tc r) := after_unwritten _ rfl hr V

theorem while0Ops0_5_keep {r : Ref sig .tc} (hr : r ∉ [main_while0b_call5_c, main_while0b_call5_v0, main_while0b_v53]) (V : Valuation τ sig (Elt Ideal)) :
    after while0Ops0_5 V (devRef .tc r) = V (devRef .tc r) := after_unwritten _ rfl hr V

theorem while0Ops0_6_keep {r : Ref sig .tc} (hr : r ∉ [main_while0b_v54, main_while0b_v55, main_while0b_v56, main_while0b_v57, main_while0b_v58, main_while0b_v59, main_while0b_v60, main_while0b_v61, main_while0b_v62, main_while0b_v63, main_while0b_v64]) (V : Valuation τ sig (Elt Ideal)) :
    after while0Ops0_6 V (devRef .tc r) = V (devRef .tc r) := after_unwritten _ rfl hr V

theorem while0Ops0_7_keep {r : Ref sig .tc} (hr : r ∉ [main_while0b_call6_v0, main_while0b_call6_c, main_while0b_call6_c_0, main_while0b_call6_c_1, main_while0b_v65]) (V : Valuation τ sig (Elt Ideal)) :
    after while0Ops0_7 V (devRef .tc r) = V (devRef .tc r) := after_unwritten _ rfl hr V

theorem while0Ops0_8_keep {r : Ref sig .tc} (hr : r ∉ [main_while0b_call7_v0, main_while0b_call7_c, main_while0b_call7_c_0, main_while0b_call7_c_1, main_while0b_v66]) (V : Valuation τ sig (Elt Ideal)) :
    after while0Ops0_8 V (devRef .tc r) = V (devRef .tc r) := after_unwritten _ rfl hr V

theorem while0Ops0_9_keep {r : Ref sig .tc} (hr : r ∉ [main_while0b_call8_v0, main_while0b_call8_c, main_while0b_call8_c_0, main_while0b_call8_c_1, main_while0b_v67]) (V : Valuation τ sig (Elt Ideal)) :
    after while0Ops0_9 V (devRef .tc r) = V (devRef .tc r) := after_unwritten _ rfl hr V

theorem while0Ops0_10_keep {r : Ref sig .tc} (hr : r ∉ [main_while0b_call9_v0, main_while0b_call9_c, main_while0b_v68]) (V : Valuation τ sig (Elt Ideal)) :
    after while0Ops0_10 V (devRef .tc r) = V (devRef .tc r) := after_unwritten _ rfl hr V

theorem while0Ops0_11_keep {r : Ref sig .tc} (hr : r ∉ [main_while0b_call10_v0, main_while0b_call10_c, main_while0b_call10_c_0, main_while0b_call10_c_1, main_while0b_v69]) (V : Valuation τ sig (Elt Ideal)) :
    after while0Ops0_11 V (devRef .tc r) = V (devRef .tc r) := after_unwritten _ rfl hr V

theorem while0Ops0_slice (V : Valuation τ sig (Elt Ideal)) (hn : n < 128) (hc : V (devRef .tc main_v22_6) = word n) :
    after while0Ops0 V (devRef .tc main_while0b_v48) = fun j => V (devRef .tc main_v22_0) (ix4 ⟨n, hn⟩ (j 0) (j 1) (j 2)) := by
  after_results
  exact pick_chunk _ hn _ (starts4_eq _ hc rfl rfl rfl)

theorem while0Ops0_1_slice (V : Valuation τ sig (Elt Ideal)) (hn : n < 128) (hc : V (devRef .tc main_v22_6) = word n) :
    after while0Ops0_1 V (devRef .tc main_while0b_v49) = fun j => V (devRef .tc main_v22_1) (ix4 ⟨n, hn⟩ (j 0) (j 1) (j 2)) := by
  after_results
  exact pick_chunk _ hn _ (starts4_eq _ hc rfl rfl rfl)

theorem while0Ops0_2_slice (V : Valuation τ sig (Elt Ideal)) (hn : n < 128) (hc : V (devRef .tc main_v22_6) = word n) :
    after while0Ops0_2 V (devRef .tc main_while0b_v50) = fun j => V (devRef .tc main_v22_2) (ix4 ⟨n, hn⟩ (j 0) (j 1) (j 2)) := by
  after_results
  exact pick_chunk _ hn _ (starts4_eq _ hc rfl rfl rfl)

theorem while0Ops0_3_slice (V : Valuation τ sig (Elt Ideal)) (hn : n < 128) (hc : V (devRef .tc main_v22_6) = word n) :
    after while0Ops0_3 V (devRef .tc main_while0b_v51) = fun j => V (devRef .tc main_v22_3) (ix4 ⟨n, hn⟩ (j 0) (j 1) (j 2)) := by
  after_results
  exact pick_chunk _ hn _ (starts4_eq _ hc rfl rfl rfl)

theorem while0Ops0_4_slice (V : Valuation τ sig (Elt Ideal)) (hn : n < 128) (hc : V (devRef .tc main_v22_6) = word n) :
    after while0Ops0_4 V (devRef .tc main_while0b_v52) = fun j => V (devRef .tc main_v22_4) (ix4 ⟨n, hn⟩ (j 0) (j 1) (j 2)) := by
  after_results
  exact pick_square _ hn _ (starts4_eq _ hc rfl rfl rfl)

theorem while0Ops0_5_slice (V : Valuation τ sig (Elt Ideal)) (hn : n < 128) (hc : V (devRef .tc main_v22_6) = word n) :
    after while0Ops0_5 V (devRef .tc main_while0b_v53) = fun j => V (devRef .tc main_v22_5) (ix2 ⟨n, hn⟩ (j 0)) := by
  after_results
  exact pick_eight _ hn _ (starts2_eq _ hc rfl)

theorem while0Ops0_7_put (V : Valuation τ sig (Elt Ideal)) (hn : n < 128) (hc : V (devRef .tc main_v22_6) = word n) (a : Fin 128) (b : Fin 8) (c : Fin 64) (d : Fin 128) :
    after while0Ops0_7 V (devRef .tc main_while0b_v65) (ix4 a b c d) = if a.val = n then V (devRef .tc main_while0b_v58) (ix3 b c d) else V (devRef .tc main_v22_8) (ix4 a b c d) := by
  after_results
  exact put_chunk _ _ hn _ (starts4_eq _ hc rfl rfl rfl) a b c d

theorem while0Ops0_8_put (V : Valuation τ sig (Elt Ideal)) (hn : n < 128) (hc : V (devRef .tc main_v22_6) = word n) (a : Fin 128) (b : Fin 8) (c : Fin 128) (d : Fin 128) :
    after while0Ops0_8 V (devRef .tc main_while0b_v66) (ix4 a b c d) = if a.val = n then V (devRef .tc main_v22_7) (ix3 b c d) else V (devRef .tc main_v22_9) (ix4 a b c d) := by
  after_results
  exact put_state _ _ hn _ (starts4_eq _ hc rfl rfl rfl) a b c d

theorem while0Ops0_9_put (V : Valuation τ sig (Elt Ideal)) (hn : n < 128) (hc : V (devRef .tc main_v22_6) = word n) (a : Fin 128) (b : Fin 8) (c : Fin 64) (d : Fin 128) :
    after while0Ops0_9 V (devRef .tc main_while0b_v67) (ix4 a b c d) = if a.val = n then V (devRef .tc main_while0b_v55) (ix3 b c d) else V (devRef .tc main_v22_10) (ix4 a b c d) := by
  after_results
  exact put_chunk _ _ hn _ (starts4_eq _ hc rfl rfl rfl) a b c d

theorem while0Ops0_10_put (V : Valuation τ sig (Elt Ideal)) (hn : n < 128) (hc : V (devRef .tc main_v22_6) = word n) (a : Fin 128) (b : Fin 8) :
    after while0Ops0_10 V (devRef .tc main_while0b_v68) (ix2 a b) = if a.val = n then V (devRef .tc main_while0b_v59) (ix1 b) else V (devRef .tc main_v22_11) (ix2 a b) := by
  after_results
  exact put_eight _ _ hn _ (starts2_eq _ hc rfl) a b

theorem while0Ops0_11_put (V : Valuation τ sig (Elt Ideal)) (hn : n < 128) (hc : V (devRef .tc main_v22_6) = word n) (a : Fin 128) (b : Fin 8) (c : Fin 1) (d : Fin 1) :
    after while0Ops0_11 V (devRef .tc main_while0b_v69) (ix4 a b c d) = if a.val = n then V (devRef .tc main_while0b_v60) (ix3 b c d) else V (devRef .tc main_v22_12) (ix4 a b c d) := by
  after_results
  exact put_one _ _ hn _ (starts4_eq _ hc rfl rfl rfl) a b c d

end Cert.ReferenceIdeal.Run

end
-- ==== Proof.RefCore0.lean ====
/- What one trip of the forward loop computes from its slices. -/
module

public import proofs.«01_k».proof.Proof.RefSlice0

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable {n : ℕ}

theorem core0_55 (V : Valuation τ sig (Elt Ideal)) : after while0Ops0_6 V (devRef .tc main_while0b_v55) = (newV (V (devRef .tc main_v22_7)) (V (devRef .tc main_while0b_v50)) (V (devRef .tc main_while0b_v51))) := by
  have e : after while0Ops0_6 V (devRef .tc main_while0b_v55) = ((subf : FVec Ideal S8x64x128 .f32 → FVec Ideal S8x64x128 .f32 → FVec Ideal S8x64x128 .f32) (V (devRef .tc main_while0b_v50)) (((fun l r => Host.dotGeneral dot_S8x64x128_S8x128x128_S8x64x128_2_1_1_2_0_0 none l r) : FVec Ideal S8x64x128 .f32 → FVec Ideal S8x128x128 .f32 → FVec Ideal S8x64x128 .f32) (V (devRef .tc main_while0b_v51)) (V (devRef .tc main_v22_7)))) := by
    after_results
  rw [e]
  funext j; idx_vars j
  pointwise [newV]

theorem core0_58 (V : Valuation τ sig (Elt Ideal)) : after while0Ops0_6 V (devRef .tc main_while0b_v58) = out (V (devRef .tc main_v22_7)) (V (devRef .tc main_while0b_v48)) (V (devRef .tc main_while0b_v52)) (newV (V (devRef .tc main_v22_7)) (V (devRef .tc main_while0b_v50)) (V (devRef .tc main_while0b_v51))) := by
  have e : after while0Ops0_6 V (devRef .tc main_while0b_v58) = ((addf : FVec Ideal S8x64x128 .f32 → FVec Ideal S8x64x128 .f32 → FVec Ideal S8x64x128 .f32) (((fun l r => Host.dotGeneral dot_S8x64x128_S8x128x128_S8x64x128_2_1_1_2_0_0 none l r) : FVec Ideal S8x64x128 .f32 → FVec Ideal S8x128x128 .f32 → FVec Ideal S8x64x128 .f32) (V (devRef .tc main_while0b_v48)) (V (devRef .tc main_v22_7))) (((fun l r => Host.dotGeneral dot_S8x64x64_S8x64x128_S8x64x128_2_1_1_2_0_0 none l r) : FVec Ideal S8x64x64 .f32 → FVec Ideal S8x64x128 .f32 → FVec Ideal S8x64x128 .f32) (V (devRef .tc main_while0b_v52)) ((subf : FVec Ideal S8x64x128 .f32 → FVec Ideal S8x64x128 .f32 → FVec Ideal S8x64x128 .f32) (V (devRef .tc main_while0b_v50)) (((fun l r => Host.dotGeneral dot_S8x64x128_S8x128x128_S8x64x128_2_1_1_2_0_0 none l r) : FVec Ideal S8x64x128 .f32 → FVec Ideal S8x128x128 .f32 → FVec Ideal S8x64x128 .f32) (V (devRef .tc main_while0b_v51)) (V (devRef .tc main_v22_7)))))) := by
    after_results
  rw [e]
  funext j; idx_vars j
  pointwise [out, newV]

theorem core0_64 (V : Valuation τ sig (Elt Ideal)) : after while0Ops0_6 V (devRef .tc main_while0b_v64) = next (V (devRef .tc main_v22_7)) (V (devRef .tc main_while0b_v49)) (fun h => V (devRef .tc main_while0b_v53) (ix1 h)) (newV (V (devRef .tc main_v22_7)) (V (devRef .tc main_while0b_v50)) (V (devRef .tc main_while0b_v51))) := by
  have e : after while0Ops0_6 V (devRef .tc main_while0b_v64) = ((addf : FVec Ideal S8x128x128 .f32 → FVec Ideal S8x128x128 .f32 → FVec Ideal S8x128x128 .f32) ((mulf : FVec Ideal S8x128x128 .f32 → FVec Ideal S8x128x128 .f32 → FVec Ideal S8x128x128 .f32) (V (devRef .tc main_v22_7)) ((broadcastInDim S8x128x128 ![0, 1, 2] bcast_S8x1x1_S8x128x128_0_1_2 : FVec Ideal S8x1x1 .f32 → FVec Ideal S8x128x128 .f32) ((broadcastInDim S8x1x1 ![0] bcast_S8_S8x1x1_0 : FVec Ideal S8 .f32 → FVec Ideal S8x1x1 .f32) ((Host.exp : FVec Ideal S8 .f32 → FVec Ideal S8 .f32) (V (devRef .tc main_while0b_v53)))))) (((fun l r => Host.dotGeneral dot_S8x64x128_S8x64x128_S8x128x128_1_1_2_2_0_0 none l r) : FVec Ideal S8x64x128 .f32 → FVec Ideal S8x64x128 .f32 → FVec Ideal S8x128x128 .f32) (V (devRef .tc main_while0b_v49)) ((subf : FVec Ideal S8x64x128 .f32 → FVec Ideal S8x64x128 .f32 → FVec Ideal S8x64x128 .f32) (V (devRef .tc main_while0b_v50)) (((fun l r => Host.dotGeneral dot_S8x64x128_S8x128x128_S8x64x128_2_1_1_2_0_0 none l r) : FVec Ideal S8x64x128 .f32 → FVec Ideal S8x128x128 .f32 → FVec Ideal S8x64x128 .f32) (V (devRef .tc main_while0b_v51)) (V (devRef .tc main_v22_7)))))) := by
    after_results
  rw [e]
  funext j; idx_vars j
  pointwise [next, newV]

theorem core0_59 (V : Valuation τ sig (Elt Ideal)) : after while0Ops0_6 V (devRef .tc main_while0b_v59) = fun j => Ideal.exp (V (devRef .tc main_while0b_v53) (ix1 (j 0))) := by
  have e : after while0Ops0_6 V (devRef .tc main_while0b_v59) = ((Host.exp : FVec Ideal S8 .f32 → FVec Ideal S8 .f32) (V (devRef .tc main_while0b_v53))) := by
    after_results
  rw [e]
  funext j; idx_vars j
  pointwise []

theorem core0_60 (V : Valuation τ sig (Elt Ideal)) : after while0Ops0_6 V (devRef .tc main_while0b_v60) = fun j => Ideal.exp (V (devRef .tc main_while0b_v53) (ix1 (j 0))) := by
  have e : after while0Ops0_6 V (devRef .tc main_while0b_v60) = ((broadcastInDim S8x1x1 ![0] bcast_S8_S8x1x1_0 : FVec Ideal S8 .f32 → FVec Ideal S8x1x1 .f32) ((Host.exp : FVec Ideal S8 .f32 → FVec Ideal S8 .f32) (V (devRef .tc main_while0b_v53)))) := by
    after_results
  rw [e]
  funext j; idx_vars j
  pointwise []

end Cert.ReferenceIdeal.Run

end
-- ==== Proof.RefTrip0.lean ====
/- One trip of the forward loop: the state after it, and the stacks with the trip's chunk written. -/
module

public import proofs.«01_k».proof.Proof.RefCore0

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable {n : ℕ}

theorem last0_v22_7 (V : Valuation τ sig (Elt Ideal)) : after while0Ops0_12 V (devRef .tc main_v22_7) = V (devRef .tc main_while0b_v64) := by
  after_results
  rfl

theorem last0_v22_8 (V : Valuation τ sig (Elt Ideal)) : after while0Ops0_12 V (devRef .tc main_v22_8) = V (devRef .tc main_while0b_v65) := by
  after_results
  rfl

theorem last0_v22_9 (V : Valuation τ sig (Elt Ideal)) : after while0Ops0_12 V (devRef .tc main_v22_9) = V (devRef .tc main_while0b_v66) := by
  after_results
  rfl

theorem last0_v22_10 (V : Valuation τ sig (Elt Ideal)) : after while0Ops0_12 V (devRef .tc main_v22_10) = V (devRef .tc main_while0b_v67) := by
  after_results
  rfl

theorem last0_v22_11 (V : Valuation τ sig (Elt Ideal)) : after while0Ops0_12 V (devRef .tc main_v22_11) = V (devRef .tc main_while0b_v68) := by
  after_results
  rfl

theorem last0_v22_12 (V : Valuation τ sig (Elt Ideal)) : after while0Ops0_12 V (devRef .tc main_v22_12) = V (devRef .tc main_while0b_v69) := by
  after_results
  rfl

theorem trip0 (X Y : Valuation τ sig (Elt Ideal)) (hY0 : Y = after while0Ops0_12 (afterL headI0 X)) (hn : n < 128) (hc : X (devRef .tc main_v22_6) = word n)
    (S : State) (u w q k : Chunk) (p : Square) (g : Fin 8 → EReal)
    (hq : (fun j : S8x64x128.Idx => (X (devRef .tc main_v22_0) (ix4 ⟨n, hn⟩ (j 0) (j 1) (j 2)) : EReal)) = q)
    (hk : (fun j : S8x64x128.Idx => (X (devRef .tc main_v22_1) (ix4 ⟨n, hn⟩ (j 0) (j 1) (j 2)) : EReal)) = k)
    (hu : (fun j : S8x64x128.Idx => (X (devRef .tc main_v22_2) (ix4 ⟨n, hn⟩ (j 0) (j 1) (j 2)) : EReal)) = u)
    (hw : (fun j : S8x64x128.Idx => (X (devRef .tc main_v22_3) (ix4 ⟨n, hn⟩ (j 0) (j 1) (j 2)) : EReal)) = w)
    (hp : (fun j : S8x64x64.Idx => (X (devRef .tc main_v22_4) (ix4 ⟨n, hn⟩ (j 0) (j 1) (j 2)) : EReal)) = p)
    (hg : (fun j : S8.Idx => (X (devRef .tc main_v22_5) (ix2 ⟨n, hn⟩ (j 0)) : EReal)) = fun j => g (j 0))
    (hSst : X (devRef .tc main_v22_7) = S) :
    Y (devRef .tc main_v22_7) = next S k g (newV S u w)
    ∧ (∀ a b c d, Y (devRef .tc main_v22_8) (ix4 a b c d) = if a.val = n then (out S q p (newV S u w)) (ix3 b c d) else X (devRef .tc main_v22_8) (ix4 a b c d))
    ∧ (∀ a b c d, Y (devRef .tc main_v22_9) (ix4 a b c d) = if a.val = n then S (ix3 b c d) else X (devRef .tc main_v22_9) (ix4 a b c d))
    ∧ (∀ a b c d, Y (devRef .tc main_v22_10) (ix4 a b c d) = if a.val = n then (newV S u w) (ix3 b c d) else X (devRef .tc main_v22_10) (ix4 a b c d))
    ∧ (∀ a b, Y (devRef .tc main_v22_11) (ix2 a b) = if a.val = n then (fun j => Ideal.exp (g (j 0))) (ix1 b) else X (devRef .tc main_v22_11) (ix2 a b))
    ∧ (∀ a b c d, Y (devRef .tc main_v22_12) (ix4 a b c d) = if a.val = n then (fun j => Ideal.exp (g (j 0))) (ix3 b c d) else X (devRef .tc main_v22_12) (ix4 a b c d)) := by
  obtain ⟨V0, e0⟩ : ∃ V, V = X := ⟨_, rfl⟩
  subst e0
  obtain ⟨V1, e1⟩ : ∃ V, V = after while0Ops0 V0 := ⟨_, rfl⟩
  obtain ⟨V2, e2⟩ : ∃ V, V = after while0Ops0_1 V1 := ⟨_, rfl⟩
  obtain ⟨V3, e3⟩ : ∃ V, V = after while0Ops0_2 V2 := ⟨_, rfl⟩
  obtain ⟨V4, e4⟩ : ∃ V, V = after while0Ops0_3 V3 := ⟨_, rfl⟩
  obtain ⟨V5, e5⟩ : ∃ V, V = after while0Ops0_4 V4 := ⟨_, rfl⟩
  obtain ⟨V6, e6⟩ : ∃ V, V = after while0Ops0_5 V5 := ⟨_, rfl⟩
  obtain ⟨V7, e7⟩ : ∃ V, V = after while0Ops0_6 V6 := ⟨_, rfl⟩
  obtain ⟨V8, e8⟩ : ∃ V, V = after while0Ops0_7 V7 := ⟨_, rfl⟩
  obtain ⟨V9, e9⟩ : ∃ V, V = after while0Ops0_8 V8 := ⟨_, rfl⟩
  obtain ⟨V10, e10⟩ : ∃ V, V = after while0Ops0_9 V9 := ⟨_, rfl⟩
  obtain ⟨V11, e11⟩ : ∃ V, V = after while0Ops0_10 V10 := ⟨_, rfl⟩
  obtain ⟨V12, e12⟩ : ∃ V, V = after while0Ops0_11 V11 := ⟨_, rfl⟩
  have hY : Y = after while0Ops0_12 V12 := by
    rw [hY0, e12, e11, e10, e9, e8, e7, e6, e5, e4, e3, e2, e1]
    chain_rfl
  obtain ⟨k_v22_6_1_0, k_v22_1_1_0, k_v22_6_2_0, k_v22_2_2_0, k_v22_6_3_0, k_v22_3_3_0, k_v22_6_4_0, k_v22_4_4_0, k_v22_6_5_0, k_v22_5_5_0, k_while0b_v48_6_1, k_while0b_v49_6_2, k_while0b_v50_6_3, k_while0b_v51_6_4, k_while0b_v52_6_5, k_v22_7_6_0, k_while0b_v64_12_7, k_while0b_v65_12_8, k_v22_6_7_0, k_v22_8_7_0, k_while0b_v66_12_9, k_v22_6_8_0, k_v22_9_8_0, k_v22_7_8_0, k_while0b_v67_12_10, k_v22_6_9_0, k_v22_10_9_0, k_while0b_v55_9_7, k_while0b_v68_12_11, k_v22_6_10_0, k_v22_11_10_0, k_while0b_v59_10_7, k_v22_6_11_0, k_v22_12_11_0, k_while0b_v60_11_7⟩ :
      V1 (devRef .tc main_v22_6) = V0 (devRef .tc main_v22_6)
      ∧ V1 (devRef .tc main_v22_1) = V0 (devRef .tc main_v22_1)
      ∧ V2 (devRef .tc main_v22_6) = V0 (devRef .tc main_v22_6)
      ∧ V2 (devRef .tc main_v22_2) = V0 (devRef .tc main_v22_2)
      ∧ V3 (devRef .tc main_v22_6) = V0 (devRef .tc main_v22_6)
      ∧ V3 (devRef .tc main_v22_3) = V0 (devRef .tc main_v22_3)
      ∧ V4 (devRef .tc main_v22_6) = V0 (devRef .tc main_v22_6)
      ∧ V4 (devRef .tc main_v22_4) = V0 (devRef .tc main_v22_4)
      ∧ V5 (devRef .tc main_v22_6) = V0 (devRef .tc main_v22_6)
      ∧ V5 (devRef .tc main_v22_5) = V0 (devRef .tc main_v22_5)
      ∧ V6 (devRef .tc main_while0b_v48) = V1 (devRef .tc main_while0b_v48)
      ∧ V6 (devRef .tc main_while0b_v49) = V2 (devRef .tc main_while0b_v49)
      ∧ V6 (devRef .tc main_while0b_v50) = V3 (devRef .tc main_while0b_v50)
      ∧ V6 (devRef .tc main_while0b_v51) = V4 (devRef .tc main_while0b_v51)
      ∧ V6 (devRef .tc main_while0b_v52) = V5 (devRef .tc main_while0b_v52)
      ∧ V6 (devRef .tc main_v22_7) = V0 (devRef .tc main_v22_7)
      ∧ V12 (devRef .tc main_while0b_v64) = V7 (devRef .tc main_while0b_v64)
      ∧ V12 (devRef .tc main_while0b_v65) = V8 (devRef .tc main_while0b_v65)
      ∧ V7 (devRef .tc main_v22_6) = V0 (devRef .tc main_v22_6)
      ∧ V7 (devRef .tc main_v22_8) = V0 (devRef .tc main_v22_8)
      ∧ V12 (devRef .tc main_while0b_v66) = V9 (devRef .tc main_while0b_v66)
      ∧ V8 (devRef .tc main_v22_6) = V0 (devRef .tc main_v22_6)
      ∧ V8 (devRef .tc main_v22_9) = V0 (devRef .tc main_v22_9)
      ∧ V8 (devRef .tc main_v22_7) = V0 (devRef .tc main_v22_7)
      ∧ V12 (devRef .tc main_while0b_v67) = V10 (devRef .tc main_while0b_v67)
      ∧ V9 (devRef .tc main_v22_6) = V0 (devRef .tc main_v22_6)
      ∧ V9 (devRef .tc main_v22_10) = V0 (devRef .tc main_v22_10)
      ∧ V9 (devRef .tc main_while0b_v55) = V7 (devRef .tc main_while0b_v55)
      ∧ V12 (devRef .tc main_while0b_v68) = V11 (devRef .tc main_while0b_v68)
      ∧ V10 (devRef .tc main_v22_6) = V0 (devRef .tc main_v22_6)
      ∧ V10 (devRef .tc main_v22_11) = V0 (devRef .tc main_v22_11)
      ∧ V10 (devRef .tc main_while0b_v59) = V7 (devRef .tc main_while0b_v59)
      ∧ V11 (devRef .tc main_v22_6) = V0 (devRef .tc main_v22_6)
      ∧ V11 (devRef .tc main_v22_12) = V0 (devRef .tc main_v22_12)
      ∧ V11 (devRef .tc main_while0b_v60) = V7 (devRef .tc main_while0b_v60) := by
    and_intros
    all_goals try rw [e12, while0Ops0_11_keep (by decide +kernel)]
    all_goals try rw [e11, while0Ops0_10_keep (by decide +kernel)]
    all_goals try rw [e10, while0Ops0_9_keep (by decide +kernel)]
    all_goals try rw [e9, while0Ops0_8_keep (by decide +kernel)]
    all_goals try rw [e8, while0Ops0_7_keep (by decide +kernel)]
    all_goals try rw [e7, while0Ops0_6_keep (by decide +kernel)]
    all_goals try rw [e6, while0Ops0_5_keep (by decide +kernel)]
    all_goals try rw [e5, while0Ops0_4_keep (by decide +kernel)]
    all_goals try rw [e4, while0Ops0_3_keep (by decide +kernel)]
    all_goals try rw [e3, while0Ops0_2_keep (by decide +kernel)]
    all_goals try rw [e2, while0Ops0_1_keep (by decide +kernel)]
    all_goals try rw [e1, while0Ops0_keep (by decide +kernel)]
  have s_q : V1 (devRef .tc main_while0b_v48) = q := by
    rw [e1, while0Ops0_slice _ hn (hc)]; exact hq
  have s_k : V2 (devRef .tc main_while0b_v49) = k := by
    rw [e2, while0Ops0_1_slice _ hn (k_v22_6_1_0.trans hc), k_v22_1_1_0]; exact hk
  have s_u : V3 (devRef .tc main_while0b_v50) = u := by
    rw [e3, while0Ops0_2_slice _ hn (k_v22_6_2_0.trans hc), k_v22_2_2_0]; exact hu
  have s_w : V4 (devRef .tc main_while0b_v51) = w := by
    rw [e4, while0Ops0_3_slice _ hn (k_v22_6_3_0.trans hc), k_v22_3_3_0]; exact hw
  have s_p : V5 (devRef .tc main_while0b_v52) = p := by
    rw [e5, while0Ops0_4_slice _ hn (k_v22_6_4_0.trans hc), k_v22_4_4_0]; exact hp
  have s_g : V6 (devRef .tc main_while0b_v53) = fun j => g (j 0) := by
    rw [e6, while0Ops0_5_slice _ hn (k_v22_6_5_0.trans hc), k_v22_5_5_0]; exact hg
  have s_Sst : V6 (devRef .tc main_v22_7) = S := k_v22_7_6_0.trans hSst
  have c_55 : V7 (devRef .tc main_while0b_v55) = newV S u w := by
    rw [e7, core0_55 _, k_while0b_v50_6_3, s_u, k_while0b_v51_6_4, s_w, s_Sst]
  have c_58 : V7 (devRef .tc main_while0b_v58) = out S q p (newV S u w) := by
    rw [e7, core0_58 _, k_while0b_v48_6_1, s_q, k_while0b_v52_6_5, s_p, k_while0b_v50_6_3, s_u, k_while0b_v51_6_4, s_w, s_Sst]
  have c_64 : V7 (devRef .tc main_while0b_v64) = next S k g (newV S u w) := by
    rw [e7, core0_64 _, k_while0b_v49_6_2, s_k, s_g, k_while0b_v50_6_3, s_u, k_while0b_v51_6_4, s_w, s_Sst]
    rfl
  have c_59 : V7 (devRef .tc main_while0b_v59) = fun j => Ideal.exp (g (j 0)) := by
    rw [e7, core0_59 _, s_g]
    rfl
  have c_60 : V7 (devRef .tc main_while0b_v60) = fun j => Ideal.exp (g (j 0)) := by
    rw [e7, core0_60 _, s_g]
    rfl
  exact ⟨by rw [hY, last0_v22_7, k_while0b_v64_12_7, c_64],
    fun a b c d => by rw [hY, last0_v22_8, k_while0b_v65_12_8, e8, while0Ops0_7_put _ hn (k_v22_6_7_0.trans hc), c_58, k_v22_8_7_0],
    fun a b c d => by rw [hY, last0_v22_9, k_while0b_v66_12_9, e9, while0Ops0_8_put _ hn (k_v22_6_8_0.trans hc), k_v22_7_8_0, hSst, k_v22_9_8_0],
    fun a b c d => by rw [hY, last0_v22_10, k_while0b_v67_12_10, e10, while0Ops0_9_put _ hn (k_v22_6_9_0.trans hc), k_while0b_v55_9_7, c_55, k_v22_10_9_0],
    fun a b => by rw [hY, last0_v22_11, k_while0b_v68_12_11, e11, while0Ops0_10_put _ hn (k_v22_6_10_0.trans hc), k_while0b_v59_10_7, c_59, k_v22_11_10_0],
    fun a b c d => by rw [hY, last0_v22_12, e12, while0Ops0_11_put _ hn (k_v22_6_11_0.trans hc), k_while0b_v60_11_7, c_60, k_v22_12_11_0]⟩

end Cert.ReferenceIdeal.Run

end
-- ==== Proof.RefLayout.lean ====
/- An array of rows split into a stack of chunks, and a stack of chunks joined into an array of rows. -/
module

public import proofs.«01_k».proof.Proof.RefPick

@[expose] public section

set_option maxRecDepth 16384

noncomputable section

namespace Cert.ReferenceIdeal.Run

open Cert.ReferenceIdeal Cert.ReferenceIdeal.Gen Cert.Scan
open Idealize.ShloMosaic Idealize.ShloMosaic.TcCoe Idealize.ShloMosaic.Tactic

variable {n : ℕ}

theorem split_rows (A : FVec Ideal S8192x1024 .f32) (hn : n < 128) :
    (fun j : S8x64x128.Idx => (transpose S128x8x64x128 [0, 2, 1, 3] (shapeCast S128x64x8x128 A shapeCasts_S8192x1024_S128x64x8x128 : FVec Ideal S128x64x8x128 .f32)
      transposes_S128x64x8x128_S128x8x64x128_0_2_1_3 : FVec Ideal S128x8x64x128 .f32) (ix4 ⟨n, hn⟩ (j 0) (j 1) (j 2))) = chunk A n := by
  funext j; idx_vars j
  pointwise [chunk]
  congr 2 <;> apply Fin.ext <;> (try dsimp only) <;> omega

theorem split_squares (A : FVec Ideal S8x8192x64 .f32) (hn : n < 128) :
    (fun j : S8x64x64.Idx => (transpose S128x8x64x64 [1, 0, 2, 3] (shapeCast S8x128x64x64 A shapeCasts_S8x8192x64_S8x128x64x64 : FVec Ideal S8x128x64x64 .f32)
      transposes_S8x128x64x64_S128x8x64x64_1_0_2_3 : FVec Ideal S128x8x64x64 .f32) (ix4 ⟨n, hn⟩ (j 0) (j 1) (j 2))) = square A n := by
  funext j; idx_vars j
  pointwise [square]
  congr 2 <;> apply Fin.ext <;> (try dsimp only) <;> omega

theorem split_decays (A : FVec Ideal S8x128x1x1 .f32) (hn : n < 128) :
    (fun j : S8.Idx => (transpose S128x8 [1, 0] (shapeCast S8x128 A shapeCasts_S8x128x1x1_S8x128 : FVec Ideal S8x128 .f32)
      transposes_S8x128_S128x8_1_0 : FVec Ideal S128x8 .f32) (ix2 ⟨n, hn⟩ (j 0))) = fun j => decay A n (j 0) := by
  funext j; idx_vars j
  pointwise [decay]
  congr 2 <;> apply Fin.ext <;> (try dsimp only) <;> omega

theorem join_rows (X : FVec Ideal S128x8x64x128 .f32) (f : ℕ → Chunk) (h : ∀ a b c d, X (ix4 a b c d) = f a.val (ix3 b c d)) :
    (shapeCast S8192x1024 (transpose S128x64x8x128 [0, 2, 1, 3] X transposes_S128x8x64x128_S128x64x8x128_0_2_1_3 : FVec Ideal S128x64x8x128 .f32)
      shapeCasts_S128x64x8x128_S8192x1024 : FVec Ideal S8192x1024 .f32) = rowsOf f := by
  funext j; idx_vars j
  pointwise [rowsOf, h]

theorem join_squares (X : FVec Ideal S128x8x64x64 .f32) (f : ℕ → Square) (h : ∀ a b c d, X (ix4 a b c d) = f a.val (ix3 b c d)) :
    (shapeCast S8x8192x64 (transpose S8x128x64x64 [1, 0, 2, 3] X transposes_S128x8x64x64_S8x128x64x64_1_0_2_3 : FVec Ideal S8x128x64x64 .f32)
      shapeCasts_S8x128x64x64_S8x8192x64 : FVec Ideal S8x8192x64 .f32) = squaresOf f := by
  funext j; idx_vars j
  pointwise [squaresOf, h]

theorem join_decays (X : FVec Ideal S128x8 .f32) (f : ℕ → Fin 8 → EReal) (h : ∀ a b, X (ix2 a b) = f a.val b) :
    (shapeCast S8x128x1x1 (transpose S8x128 [1, 0] X transposes_S128x8_S8x128_1_0 : FVec Ideal S8x128 .f32)
      shapeCasts_S8x128_S8x128x1x1 : FVec Ideal S8x128x1x1 .f32) = decaysOf f := by
  funext j; idx_vars j
  pointwise [decaysOf, h]

end Cert.ReferenceIdeal.Run

end
-- ==== Proof.RefEntry.lean ====
/- What the two loops of the reference find in their buffers when they begin, and what is read from them at the end. -/
module

public import proofs.«01_k».proof.Proof.RefLayout

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable (m : (ℓ : Loc nD τ sig) → Buf (Elt Ideal) ℓ) (c : Dev nD)

/-- The argument arrays. -/
abbrev b0 : (⟨2, ![8192, 1024]⟩ : Shape).Idx → EReal := m (c.tc.loc main_arg0)
abbrev b1 : (⟨2, ![8192, 1024]⟩ : Shape).Idx → EReal := m (c.tc.loc main_arg1)
abbrev b2 : (⟨3, ![8, 8192, 64]⟩ : Shape).Idx → EReal := m (c.tc.loc main_arg2)
abbrev b3 : (⟨2, ![8192, 1024]⟩ : Shape).Idx → EReal := m (c.tc.loc main_arg3)
abbrev b4 : (⟨2, ![8192, 1024]⟩ : Shape).Idx → EReal := m (c.tc.loc main_arg4)
abbrev b5 : (⟨4, ![8, 128, 1, 1]⟩ : Shape).Idx → EReal := m (c.tc.loc main_arg5)
abbrev b6 : (⟨2, ![8192, 1024]⟩ : Shape).Idx → EReal := m (c.tc.loc main_arg6)

theorem entry0_v22_0 {n : ℕ} (hn : n < 128) :
    (fun j : S8x64x128.Idx => (entry0 m c (devRef .tc main_v22_0) (ix4 ⟨n, hn⟩ (j 0) (j 1) (j 2)) : EReal)) = chunk (b3 m c) n := by
  have e : entry0 m c (devRef .tc main_v22_0) = (transpose S128x8x64x128 [0, 2, 1, 3] (shapeCast S128x64x8x128 (b3 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v22_1 {n : ℕ} (hn : n < 128) :
    (fun j : S8x64x128.Idx => (entry0 m c (devRef .tc main_v22_1) (ix4 ⟨n, hn⟩ (j 0) (j 1) (j 2)) : EReal)) = chunk (b4 m c) n := by
  have e : entry0 m c (devRef .tc main_v22_1) = (transpose S128x8x64x128 [0, 2, 1, 3] (shapeCast S128x64x8x128 (b4 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v22_2 {n : ℕ} (hn : n < 128) :
    (fun j : S8x64x128.Idx => (entry0 m c (devRef .tc main_v22_2) (ix4 ⟨n, hn⟩ (j 0) (j 1) (j 2)) : EReal)) = chunk (b0 m c) n := by
  have e : entry0 m c (devRef .tc main_v22_2) = (transpose S128x8x64x128 [0, 2, 1, 3] (shapeCast S128x64x8x128 (b0 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v22_3 {n : ℕ} (hn : n < 128) :
    (fun j : S8x64x128.Idx => (entry0 m c (devRef .tc main_v22_3) (ix4 ⟨n, hn⟩ (j 0) (j 1) (j 2)) : EReal)) = chunk (b1 m c) n := by
  have e : entry0 m c (devRef .tc main_v22_3) = (transpose S128x8x64x128 [0, 2, 1, 3] (shapeCast S128x64x8x128 (b1 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v7 {n : ℕ} (hn : n < 128) :
    (fun j : S8x64x128.Idx => (entry0 m c (devRef .tc main_v7) (ix4 ⟨n, hn⟩ (j 0) (j 1) (j 2)) : EReal)) = chunk (b1 m c) n := by
  have e : entry0 m c (devRef .tc main_v7) = (transpose S128x8x64x128 [0, 2, 1, 3] (shapeCast S128x64x8x128 (b1 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v9 {n : ℕ} (hn : n < 128) :
    (fun j : S8x64x128.Idx => (entry0 m c (devRef .tc main_v9) (ix4 ⟨n, hn⟩ (j 0) (j 1) (j 2)) : EReal)) = chunk (b3 m c) n := by
  have e : entry0 m c (devRef .tc main_v9) = (transpose S128x8x64x128 [0, 2, 1, 3] (shapeCast S128x64x8x128 (b3 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v11 {n : ℕ} (hn : n < 128) :
    (fun j : S8x64x128.Idx => (entry0 m c (devRef .tc main_v11) (ix4 ⟨n, hn⟩ (j 0) (j 1) (j 2)) : EReal)) = chunk (b4 m c) n := by
  have e : entry0 m c (devRef .tc main_v11) = (transpose S128x8x64x128 [0, 2, 1, 3] (shapeCast S128x64x8x128 (b4 m c) shapeCasts_S8192x1024_S128x64x8x128 : FVec Ideal S128x64x8x128 .f32) transposes_S128x64x8x128_S128x8x64x128_0_2_1_3 : FVec Ideal S128x8x64x128 .f32) := by
    simp only [entry0, afterL_cons, afterL_nil]
    after_reads_simp
    rfl
  rw [e]
  exact split_rows _ hn

theorem entry0_v22_4 {n : ℕ} (hn : n < 128) :
    (fun j : S8x64x64.Idx => (entry0 m c (devRef .tc main_v22_4) (ix4 ⟨n, hn⟩ (j 0) (j 1) (j 2)) : EReal)) = square (b2 m c) n := by
  have e : entry0 m c (devRef .tc main_v22_4) = (transpose S128x8x64x64 [1, 0, 2, 3] (shapeCast S8x128x64x64 (b2 m c) shapeCasts_S8x8192x64_S8x128x64x64 : FVec Ideal S8x128x64x64 .f32) transposes_S8x128x64x64_S128x8x64x64_1_0_2_3 : FVec Ideal S128x8x64x64 .f32) := by
    simp only [entry0, afterL_cons, afterL_nil]
    after_reads_simp
    rfl
  rw [e]
  exact split_squares _ hn

theorem entry0_v13 {n : ℕ} (hn : n < 128) :
    (fun j : S8x64x64.Idx => (entry0 m c (devRef .tc main_v13) (ix4 ⟨n, hn⟩ (j 0) (j 1) (j 2)) : EReal)) = square (b2 m c) n := by
  have e : entry0 m c (devRef .tc main_v13) = (transpose S128x8x64x64 [1, 0, 2, 3] (shapeCast S8x128x64x64 (b2 m c) shapeCasts_S8x8192x64_S8x128x64x64 : FVec Ideal S8x128x64x64 .f32) transposes_S8x128x64x64_S128x8x64x64_1_0_2_3 : FVec Ideal S128x8x64x64 .f32) := by
    simp only [entry0, afterL_cons, afterL_nil]
    after_reads_simp
    rfl
  rw [e]
  exact split_squares _ hn

theorem entry0_v22_5 {n : ℕ} (hn : n < 128) :
    (fun j : S8.Idx => (entry0 m c (devRef .tc main_v22_5) (ix2 ⟨n, hn⟩ (j 0)) : EReal)) = fun j => decay (b5 m c) n (j 0) := by
  have e : entry0 m c (devRef .tc main_v22_5) = (transpose S128x8 [1, 0] (shapeCast S8x128 (b5 m c) shapeCasts_S8x128x1x1_S8x128 : FVec Ideal S8x128 .f32) transposes_S8x128_S128x8_1_0 : FVec Ideal S128x8 .f32) := by
    simp only [entry0, afterL_cons, afterL_nil]
    after_reads_simp
    rfl
  rw [e]
  exact split_decays _ hn

theorem entry0_state : entry0 m c (devRef .tc main_v22_7) = fun _ => (0 : EReal) := by
  have e : entry0 m c (devRef .tc main_v22_7) = broadcastInDim S8x128x128 ![] bcast_S_S8x128x128 (constant (F := Ideal) S_ .f32 0x00000000#32) := by
    simp only [entry0, afterL_cons, afterL_nil]
    after_reads_simp
    rfl
  rw [e]
  funext j; idx_vars j
  pointwise []

theorem entry1_state : entry1 m c (devRef .tc main_v35_10) = fun _ => (0 : EReal) := by
  have e : entry1 m c (devRef .tc main_v35_10) = broadcastInDim S8x128x128 ![] bcast_S_S8x128x128 (constant (F := Ideal) S_ .f32 0x00000000#32) := by
    simp only [entry1, afterL_cons, afterL_nil]
    after_reads_simp
    rfl
  rw [e]
  funext j; idx_vars j
  pointwise []

theorem mid_v35_1 (V : Valuation τ sig (Elt Ideal)) : afterL midI V (devRef .tc main_v35_1) = V (devRef .tc main_v22_9) := by
  simp only [afterL_cons, afterL_nil]
  after_reads_simp
  rfl

theorem mid_v35_2 (V : Valuation τ sig (Elt Ideal)) : afterL midI V (devRef .tc main_v35_2) = V (devRef .tc main_v7) := by
  simp only [afterL_cons, afterL_nil]
  after_reads_simp
  rfl

theorem mid_v35_3 (V : Valuation τ sig (Elt Ideal)) : afterL midI V (devRef .tc main_v35_3) = V (devRef .tc main_v9) := by
  simp only [afterL_cons, afterL_nil]
  after_reads_simp
  rfl

theorem mid_v35_4 (V : Valuation τ sig (Elt Ideal)) : afterL midI V (devRef .tc main_v35_4) = V (devRef .tc main_v22_10) := by
  simp only [afterL_cons, afterL_nil]
  after_reads_simp
  rfl

theorem mid_v35_5 (V : Valuation τ sig (Elt Ideal)) : afterL midI V (devRef .tc main_v35_5) = V (devRef .tc main_v13) := by
  simp only [afterL_cons, afterL_nil]
  after_reads_simp
  rfl

theorem mid_v35_6 (V : Valuation τ sig (Elt Ideal)) : afterL midI V (devRef .tc main_v35_6) = V (devRef .tc main_v22_11) := by
  simp only [afterL_cons, afterL_nil]
  after_reads_simp
  rfl

theorem mid_v35_7 (V : Valuation τ sig (Elt Ideal)) : afterL midI V (devRef .tc main_v35_7) = V (devRef .tc main_v22_12) := by
  simp only [afterL_cons, afterL_nil]
  after_reads_simp
  rfl

theorem mid_v35_8 (V : Valuation τ sig (Elt Ideal)) : afterL midI V (devRef .tc main_v35_8) = V (devRef .tc main_v11) := by
  simp only [afterL_cons, afterL_nil]
  after_reads_simp
  rfl

theorem mid_v35_0 (V : Valuation τ sig (Elt Ideal)) {n : ℕ} (hn : n < 128) (h : V (devRef .tc main_arg6) = b6 m c) :
    (fun j : S8x64x128.Idx => (afterL midI V (devRef .tc main_v35_0) (ix4 ⟨n, hn⟩ (j 0) (j 1) (j 2)) : EReal)) = chunk (b6 m c) n := by
  have e : afterL midI V (devRef .tc main_v35_0) = (transpose S128x8x64x128 [0, 2, 1, 3] (shapeCast S128x64x8x128 (V (devRef .tc main_arg6)) shapeCasts_S8192x1024_S128x64x8x128 : FVec Ideal S128x64x8x128 .f32) transposes_S128x64x8x128_S128x8x64x128_0_2_1_3 : FVec Ideal S128x8x64x128 .f32) := by
    simp only [afterL_cons, afterL_nil]
    after_reads_simp
    rfl
  rw [e, h]
  exact split_rows _ hn

theorem read_v24 (V : Valuation τ sig (Elt Ideal)) (f : ℕ → Chunk)
    (h : ∀ a b c d, (V (devRef .tc main_v22_8) : FVec Ideal S128x8x64x128 .f32) (ix4 a b c d) = f a.val (ix3 b c d)) :
    afterL midI V (devRef .tc main_v24) = rowsOf f := by
  have e : afterL midI V (devRef .tc main_v24) = (shapeCast S8192x1024 (transpose S128x64x8x128 [0, 2, 1, 3] (V (devRef .tc main_v22_8)) transposes_S128x8x64x128_S128x64x8x128_0_2_1_3 : FVec Ideal S128x64x8x128 .f32)
      shapeCasts_S128x64x8x128_S8192x1024 : FVec Ideal S8192x1024 .f32) := by
    simp only [afterL_cons, afterL_nil]
    after_reads_simp
    rfl
  rw [e]
  exact join_rows _ f h

theorem read_v41 (V : Valuation τ sig (Elt Ideal)) (f : ℕ → Chunk)
    (h : ∀ a b c d, (V (devRef .tc main_v35_12) : FVec Ideal S128x8x64x128 .f32) (ix4 a b c d) = f a.val (ix3 b c d)) :
    afterL postI V (devRef .tc main_v41) = rowsOf f := by
  have e : afterL postI V (devRef .tc main_v41) = (shapeCast S8192x1024 (transpose S128x64x8x128 [0, 2, 1, 3] (V (devRef .tc main_v35_12)) transposes_S128x8x64x128_S128x64x8x128_0_2_1_3 : FVec Ideal S128x64x8x128 .f32)
      shapeCasts_S128x64x8x128_S8192x1024 : FVec Ideal S8192x1024 .f32) := by
    simp only [afterL_cons, afterL_nil]
    after_reads_simp
    rfl
  rw [e]
  exact join_rows _ f h

theorem read_v43 (V : Valuation τ sig (Elt Ideal)) (f : ℕ → Chunk)
    (h : ∀ a b c d, (V (devRef .tc main_v35_11) : FVec Ideal S128x8x64x128 .f32) (ix4 a b c d) = f a.val (ix3 b c d)) :
    afterL postI V (devRef .tc main_v43) = rowsOf f := by
  have e : afterL postI V (devRef .tc main_v43) = (shapeCast S8192x1024 (transpose S128x64x8x128 [0, 2, 1, 3] (V (devRef .tc main_v35_11)) transposes_S128x8x64x128_S128x64x8x128_0_2_1_3 : FVec Ideal S128x64x8x128 .f32)
      shapeCasts_S128x64x8x128_S8192x1024 : FVec Ideal S8192x1024 .f32) := by
    simp only [afterL_cons, afterL_nil]
    after_reads_simp
    rfl
  rw [e]
  exact join_rows _ f h

theorem read_v45 (V : Valuation τ sig (Elt Ideal)) (f : ℕ → Chunk)
    (h : ∀ a b c d, (V (devRef .tc main_v35_14) : FVec Ideal S128x8x64x128 .f32) (ix4 a b c d) = f a.val (ix3 b c d)) :
    afterL postI V (devRef .tc main_v45) = rowsOf f := by
  have e : afterL postI V (devRef .tc main_v45) = (shapeCast S8192x1024 (transpose S128x64x8x128 [0, 2, 1, 3] (V (devRef .tc main_v35_14)) transposes_S128x8x64x128_S128x64x8x128_0_2_1_3 : FVec Ideal S128x64x8x128 .f32)
      shapeCasts_S128x64x8x128_S8192x1024 : FVec Ideal S8192x1024 .f32) := by
    simp only [afterL_cons, afterL_nil]
    after_reads_simp
    rfl
  rw [e]
  exact join_rows _ f h

theorem read_v47 (V : Valuation τ sig (Elt Ideal)) (f : ℕ → Chunk)
    (h : ∀ a b c d, (V (devRef .tc main_v35_13) : FVec Ideal S128x8x64x128 .f32) (ix4 a b c d) = f a.val (ix3 b c d)) :
    afterL postI V (devRef .tc main_v47) = rowsOf f := by
  have e : afterL postI V (devRef .tc main_v47) = (shapeCast S8192x1024 (transpose S128x64x8x128 [0, 2, 1, 3] (V (devRef .tc main_v35_13)) transposes_S128x8x64x128_S128x64x8x128_0_2_1_3 : FVec Ideal S128x64x8x128 .f32)
      shapeCasts_S128x64x8x128_S8192x1024 : FVec Ideal S8192x1024 .f32) := by
    simp only [afterL_cons, afterL_nil]
    after_reads_simp
    rfl
  rw [e]
  exact join_rows _ f h

theorem read_v39 (V : Valuation τ sig (Elt Ideal)) (f : ℕ → Square)
    (h : ∀ a b c d, (V (devRef .tc main_v35_15) : FVec Ideal S128x8x64x64 .f32) (ix4 a b c d) = f a.val (ix3 b c d)) :
    afterL postI V (devRef .tc main_v39) = squaresOf f := by
  have e : afterL postI V (devRef .tc main_v39) = (shapeCast S8x8192x64 (transpose S8x128x64x64 [1, 0, 2, 3] (V (devRef .tc main_v35_15)) transposes_S128x8x64x64_S8x128x64x64_1_0_2_3 : FVec Ideal S8x128x64x64 .f32)
      shapeCasts_S8x128x64x64_S8x8192x64 : FVec Ideal S8x8192x64 .f32) := by
    simp only [afterL_cons, afterL_nil]
    after_reads_simp
    rfl
  rw [e]
  exact join_squares _ f h

theorem read_v37 (V : Valuation τ sig (Elt Ideal)) (f : ℕ → Fin 8 → EReal)
    (h : ∀ a b, (V (devRef .tc main_v35_16) : FVec Ideal S128x8 .f32) (ix2 a b) = f a.val b) :
    afterL postI V (devRef .tc main_v37) = decaysOf f := by
  have e : afterL postI V (devRef .tc main_v37) = (shapeCast S8x128x1x1 (transpose S8x128 [1, 0] (V (devRef .tc main_v35_16)) transposes_S128x8_S8x128_1_0 : FVec Ideal S8x128 .f32)
      shapeCasts_S8x128_S8x128x1x1 : FVec Ideal S8x128x1x1 .f32) := by
    simp only [afterL_cons, afterL_nil]
    after_reads_simp
    rfl
  rw [e]
  exact join_decays _ f h

end Cert.ReferenceIdeal.Run

end
-- ==== Proof.RefLoop0.lean ====
/- The forward loop of the reference: the state at every trip, and the stacks it leaves. -/
module

public import proofs.«01_k».proof.Proof.RefTrip0
public import proofs.«01_k».proof.Proof.RefEntry

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable (m : (ℓ : Loc nD τ sig) → Buf (Elt Ideal) ℓ) (c : Dev nD)

theorem loop0_arg {r : Ref sig .tc} (h1 : r ∉ [main_while0c_c_26, main_while0c_v48]) (h2 : r ∉ headI0_W) (h3 : r ∉ last0_W) (k : ℕ) :
    after condOps0 (at0 m k c) (devRef .tc r) = entry0 m c (devRef .tc r) := by
  rw [cond0_keep h1, at0_keep m h1 h2 h3]

/-- Before the trip `k` the state is that of the scan, and the stacks hold what the scan gives for the chunks before `k`. -/
theorem loop0 : ∀ k ≤ 128, at0 m k c (devRef .tc main_v22_7) = state (b0 m c) (b1 m c) (b4 m c) (b5 m c) k
    ∧ (∀ a b x y, a.val < k → at0 m k c (devRef .tc main_v22_8) (ix4 a b x y) = output (b0 m c) (b1 m c) (b2 m c) (b3 m c) (b4 m c) (b5 m c) a.val (ix3 b x y))
    ∧ (∀ a b x y, a.val < k → at0 m k c (devRef .tc main_v22_9) (ix4 a b x y) = state (b0 m c) (b1 m c) (b4 m c) (b5 m c) a.val (ix3 b x y))
    ∧ (∀ a b x y, a.val < k → at0 m k c (devRef .tc main_v22_10) (ix4 a b x y) = value (b0 m c) (b1 m c) (b4 m c) (b5 m c) a.val (ix3 b x y))
    ∧ (∀ a b, a.val < k → at0 m k c (devRef .tc main_v22_11) (ix2 a b) = Ideal.exp (decay (b5 m c) a.val b))
    ∧ (∀ a b x y, a.val < k → at0 m k c (devRef .tc main_v22_12) (ix4 a b x y) = Ideal.exp (decay (b5 m c) a.val b))
  | 0, _ => ⟨by rw [at0_zero, entry0_state]; rfl, fun _ _ _ _ h => absurd h (Nat.not_lt_zero _), fun _ _ _ _ h => absurd h (Nat.not_lt_zero _),
      fun _ _ _ _ h => absurd h (Nat.not_lt_zero _), fun _ _ h => absurd h (Nat.not_lt_zero _), fun _ _ _ _ h => absurd h (Nat.not_lt_zero _)⟩
  | k + 1, hk => by
    obtain ⟨i7, i8, i9, i10, i11, i12⟩ := loop0 k (by omega)
    have hn : k < 128 := by omega
    obtain ⟨t7, t8, t9, t10, t11, t12⟩ := trip0 (n := k) (after condOps0 (at0 m k c)) (at0 m (k + 1) c) (at0_succ m k c) hn
      (by rw [cond0_keep (by decide +kernel), at0_ctr]; exact iv_word k)
      (state (b0 m c) (b1 m c) (b4 m c) (b5 m c) k) (chunk (b0 m c) k) (chunk (b1 m c) k) (chunk (b3 m c) k) (chunk (b4 m c) k) (square (b2 m c) k) (decay (b5 m c) k)
      (by rw [loop0_arg m c (by decide +kernel) (by decide +kernel) (by decide +kernel)]; exact entry0_v22_0 m c hn)
      (by rw [loop0_arg m c (by decide +kernel) (by decide +kernel) (by decide +kernel)]; exact entry0_v22_1 m c hn)
      (by rw [loop0_arg m c (by decide +kernel) (by decide +kernel) (by decide +kernel)]; exact entry0_v22_2 m c hn)
      (by rw [loop0_arg m c (by decide +kernel) (by decide +kernel) (by decide +kernel)]; exact entry0_v22_3 m c hn)
      (by rw [loop0_arg m c (by decide +kernel) (by decide +kernel) (by decide +kernel)]; exact entry0_v22_4 m c hn)
      (by rw [loop0_arg m c (by decide +kernel) (by decide +kernel) (by decide +kernel)]; exact entry0_v22_5 m c hn)
      (by rw [cond0_keep (by decide +kernel), i7])
    refine ⟨t7, ?_, ?_, ?_, ?_, ?_⟩
    · intro a b x y h
      rw [t8 a b x y]
      by_cases ha : a.val = k
      · rw [if_pos ha, ha]
        try rfl
      · rw [if_neg ha, cond0_keep (by decide +kernel)]
        exact i8 a b x y (by omega)
    · intro a b x y h
      rw [t9 a b x y]
      by_cases ha : a.val = k
      · rw [if_pos ha, ha]
        try rfl
      · rw [if_neg ha, cond0_keep (by decide +kernel)]
        exact i9 a b x y (by omega)
    · intro a b x y h
      rw [t10 a b x y]
      by_cases ha : a.val = k
      · rw [if_pos ha, ha]
        try rfl
      · rw [if_neg ha, cond0_keep (by decide +kernel)]
        exact i10 a b x y (by omega)
    · intro a b h
      rw [t11 a b]
      by_cases ha : a.val = k
      · rw [if_pos ha, ha]
        try rfl
      · rw [if_neg ha, cond0_keep (by decide +kernel)]
        exact i11 a b (by omega)
    · intro a b x y h
      rw [t12 a b x y]
      by_cases ha : a.val = k
      · rw [if_pos ha, ha]
        try rfl
      · rw [if_neg ha, cond0_keep (by decide +kernel)]
        exact i12 a b x y (by omega)

end Cert.ReferenceIdeal.Run

end
-- ==== Proof.RefLoop1.lean ====
/- The backward loop of the reference: the gradient of the state at every trip, and the stacks of gradients it leaves. -/
module

public import proofs.«01_k».proof.Proof.RefTrip1
public import proofs.«01_k».proof.Proof.RefLoop0

@[expose] public section

set_option maxRecDepth 100000

noncomputable section

namespace Cert.ReferenceIdeal.Run

open Cert.ReferenceIdeal Cert.ReferenceIdeal.Gen Cert.Scan
open Idealize.ShloMosaic Idealize.ShloMosaic.TcCoe Idealize.ShloMosaic.Tactic
open Idealize.ShloMosaic.Proc (devRef)
open Idealize.ShloMosaic.StableHlo

variable (m : (ℓ : Loc nD τ sig) → Buf (Elt Ideal) ℓ) (c : Dev nD)

theorem loop1_arg {r : Ref sig .tc} (h1 : r ∉ [main_while1c_c_30, main_while1c_v48]) (h2 : r ∉ headI1_W) (h3 : r ∉ last1_W) (k : ℕ) :
    after condOps1 (at1 m k c) (devRef .tc r) = entry1 m c (devRef .tc r) := by
  rw [cond1_keep h1, at1_keep m h1 h2 h3]

theorem left0_keep {r : Ref sig .tc} (h1 : r ∉ [main_while0c_c_26, main_while0c_v48]) (h2 : r ∉ headI0_W) (h3 : r ∉ last0_W) :
    left0 m c (devRef .tc r) = entry0 m c (devRef .tc r) := loop0_arg m c h1 h2 h3 128

theorem ix3_eta {x y z : ℕ} (j : (⟨3, ![x, y, z]⟩ : Shape).Idx) : ix3 (j 0) (j 1) (j 2) = j := by
  funext k; fin_cases k <;> rfl

theorem entry1_v35_0 {n : ℕ} (hn : n < 128) :
    (fun j : S8x64x128.Idx => (entry1 m c (devRef .tc main_v35_0) (ix4 ⟨n, hn⟩ (j 0) (j 1) (j 2)) : EReal)) = chunk (b6 m c) n := by
  unfold entry1
  exact mid_v35_0 m c _ hn (by rw [left0_keep m c (by decide +kernel) (by decide +kernel) (by decide +kernel), entry0, preI_keep (by decide +kernel)])

theorem entry1_v35_1 {n : ℕ} (hn : n < 128) :
    (fun j : S8x128x128.Idx => (entry1 m c (devRef .tc main_v35_1) (ix4 ⟨n, hn⟩ (j 0) (j 1) (j 2)) : EReal)) = state (b0 m c) (b1 m c) (b4 m c) (b5 m c) n := by
  unfold entry1
  rw [mid_v35_1, left0, cond0_keep (by decide +kernel)]
  funext j
  obtain ⟨i7, i8, i9, i10, i11, i12⟩ := loop0 m c 128 le_rfl
  exact (i9 ⟨n, hn⟩ (j 0) (j 1) (j 2) hn).trans (congrArg _ (ix3_eta j))

theorem entry1_v35_2 {n : ℕ} (hn : n < 128) :
    (fun j : S8x64x128.Idx => (entry1 m c (devRef .tc main_v35_2) (ix4 ⟨n, hn⟩ (j 0) (j 1) (j 2)) : EReal)) = chunk (b1 m c) n := by
  unfold entry1
  rw [mid_v35_2, left0_keep m c (by decide +kernel) (by decide +kernel) (by decide +kernel)]; exact entry0_v7 m c hn

theorem entry1_v35_3 {n : ℕ} (hn : n < 128) :
    (fun j : S8x64x128.Idx => (entry1 m c (devRef .tc main_v35_3) (ix4 ⟨n, hn⟩ (j 0) (j 1) (j 2)) : EReal)) = chunk (b3 m c) n := by
  unfold entry1
  rw [mid_v35_3, left0_keep m c (by decide +kernel) (by decide +kernel) (by decide +kernel)]; exact entry0_v9 m c hn

theorem entry1_v35_4 {n : ℕ} (hn : n < 128) :
    (fun j : S8x64x128.Idx => (entry1 m c (devRef .tc main_v35_4) (ix4 ⟨n, hn⟩ (j 0) (j 1) (j 2)) : EReal)) = value (b0 m c) (b1 m c) (b4 m c) (b5 m c) n := by
  unfold entry1
  rw [mid_v35_4, left0, cond0_keep (by decide +kernel)]
  funext j
  obtain ⟨i7, i8, i9, i10, i11, i12⟩ := loop0 m c 128 le_rfl
  exact (i10 ⟨n, hn⟩ (j 0) (j 1) (j 2) hn).trans (congrArg _ (ix3_eta j))

theorem entry1_v35_5 {n : ℕ} (hn : n < 128) :
    (fun j : S8x64x64.Idx => (entry1 m c (devRef .tc main_v35_5) (ix4 ⟨n, hn⟩ (j 0) (j 1) (j 2)) : EReal)) = square (b2 m c) n := by
  unfold entry1
  rw [mid_v35_5, left0_keep m c (by decide +kernel) (by decide +kernel) (by decide +kernel)]; exact entry0_v13 m c hn

theorem entry1_v35_6 {n : ℕ} (hn : n < 128) :
    (fun j : S8.Idx => (entry1 m c (devRef .tc main_v35_6) (ix2 ⟨n, hn⟩ (j 0)) : EReal)) = fun j => Ideal.exp (decay (b5 m c) n (j 0)) := by
  unfold entry1
  rw [mid_v35_6, left0, cond0_keep (by decide +kernel)]
  funext j
  obtain ⟨i7, i8, i9, i10, i11, i12⟩ := loop0 m c 128 le_rfl
  exact i11 ⟨n, hn⟩ (j 0) hn

theorem entry1_v35_7 {n : ℕ} (hn : n < 128) :
    (fun j : S8x1x1.Idx => (entry1 m c (devRef .tc main_v35_7) (ix4 ⟨n, hn⟩ (j 0) (j 1) (j 2)) : EReal)) = fun j => Ideal.exp (decay (b5 m c) n (j 0)) := by
  unfold entry1
  rw [mid_v35_7, left0, cond0_keep (by decide +kernel)]
  funext j
  obtain ⟨i7, i8, i9, i10, i11, i12⟩ := loop0 m c 128 le_rfl
  exact i12 ⟨n, hn⟩ (j 0) (j 1) (j 2) hn

theorem entry1_v35_8 {n : ℕ} (hn : n < 128) :
    (fun j : S8x64x128.Idx => (entry1 m c (devRef .tc main_v35_8) (ix4 ⟨n, hn⟩ (j 0) (j 1) (j 2)) : EReal)) = chunk (b4 m c) n := by
  unfold entry1
  rw [mid_v35_8, left0_keep m c (by decide +kernel) (by decide +kernel) (by decide +kernel)]; exact entry0_v11 m c hn

/-- Before the trip `i` the gradient of the state is that of the scan, and the stacks hold the gradients of the last `i` chunks. -/
theorem loop1 : ∀ i ≤ 128, at1 m i c (devRef .tc main_v35_10) = dstate (b1 m c) (b2 m c) (b3 m c) (b4 m c) (b5 m c) (b6 m c) i
    ∧ (∀ a b x y, 128 ≤ a.val + i → at1 m i c (devRef .tc main_v35_11) (ix4 a b x y) = dq (b0 m c) (b1 m c) (b4 m c) (b5 m c) (b6 m c) (127 - a.val) (ix3 b x y))
    ∧ (∀ a b x y, 128 ≤ a.val + i → at1 m i c (devRef .tc main_v35_12) (ix4 a b x y) = dk (b0 m c) (b1 m c) (b2 m c) (b3 m c) (b4 m c) (b5 m c) (b6 m c) (127 - a.val) (ix3 b x y))
    ∧ (∀ a b x y, 128 ≤ a.val + i → at1 m i c (devRef .tc main_v35_13) (ix4 a b x y) = du (b1 m c) (b2 m c) (b3 m c) (b4 m c) (b5 m c) (b6 m c) (127 - a.val) (ix3 b x y))
    ∧ (∀ a b x y, 128 ≤ a.val + i → at1 m i c (devRef .tc main_v35_14) (ix4 a b x y) = dw (b0 m c) (b1 m c) (b2 m c) (b3 m c) (b4 m c) (b5 m c) (b6 m c) (127 - a.val) (ix3 b x y))
    ∧ (∀ a b x y, 128 ≤ a.val + i → at1 m i c (devRef .tc main_v35_15) (ix4 a b x y) = dp (b0 m c) (b1 m c) (b4 m c) (b5 m c) (b6 m c) (127 - a.val) (ix3 b x y))
    ∧ (∀ a b, 128 ≤ a.val + i → at1 m i c (devRef .tc main_v35_16) (ix2 a b) = dg (b0 m c) (b1 m c) (b2 m c) (b3 m c) (b4 m c) (b5 m c) (b6 m c) (127 - a.val) b)
  | 0, _ => ⟨by rw [at1_zero, entry1_state]; rfl, fun a _ _ _ h => absurd a.isLt (by omega), fun a _ _ _ h => absurd a.isLt (by omega), fun a _ _ _ h => absurd a.isLt (by omega), fun a _ _ _ h => absurd a.isLt (by omega), fun a _ _ _ h => absurd a.isLt (by omega), fun a _ h => absurd a.isLt (by omega)⟩
  | i + 1, hi => by
    obtain ⟨i10, i11, i12, i13, i14, i15, i16⟩ := loop1 i (by omega)
    have hn : 127 - i < 128 := by omega
    obtain ⟨t10, t11, t12, t13, t14, t15, t16⟩ := trip1 (n := 127 - i) (after condOps1 (at1 m i c)) (at1 m (i + 1) c) (at1_succ m i c) i (by omega) hn rfl
      (by rw [cond1_keep (by decide +kernel), at1_ctr]; exact iv_word i)
      (state (b0 m c) (b1 m c) (b4 m c) (b5 m c) (127 - i)) (dstate (b1 m c) (b2 m c) (b3 m c) (b4 m c) (b5 m c) (b6 m c) i) (chunk (b1 m c) (127 - i)) (chunk (b3 m c) (127 - i)) (chunk (b6 m c) (127 - i)) (value (b0 m c) (b1 m c) (b4 m c) (b5 m c) (127 - i)) (chunk (b4 m c) (127 - i)) (square (b2 m c) (127 - i)) (decay (b5 m c) (127 - i))
      (by rw [loop1_arg m c (by decide +kernel) (by decide +kernel) (by decide +kernel)]; exact entry1_v35_0 m c hn)
      (by rw [loop1_arg m c (by decide +kernel) (by decide +kernel) (by decide +kernel)]; exact entry1_v35_1 m c hn)
      (by rw [loop1_arg m c (by decide +kernel) (by decide +kernel) (by decide +kernel)]; exact entry1_v35_2 m c hn)
      (by rw [loop1_arg m c (by decide +kernel) (by decide +kernel) (by decide +kernel)]; exact entry1_v35_3 m c hn)
      (by rw [loop1_arg m c (by decide +kernel) (by decide +kernel) (by decide +kernel)]; exact entry1_v35_4 m c hn)
      (by rw [loop1_arg m c (by decide +kernel) (by decide +kernel) (by decide +kernel)]; exact entry1_v35_5 m c hn)
      (by rw [loop1_arg m c (by decide +kernel) (by decide +kernel) (by decide +kernel)]; exact entry1_v35_6 m c hn)
      (by rw [loop1_arg m c (by decide +kernel) (by decide +kernel) (by decide +kernel)]; exact entry1_v35_7 m c hn)
      (by rw [loop1_arg m c (by decide +kernel) (by decide +kernel) (by decide +kernel)]; exact entry1_v35_8 m c hn)
      (by rw [cond1_keep (by decide +kernel), i10])
    refine ⟨t10, ?_, ?_, ?_, ?_, ?_, ?_⟩
    · intro a b x y h
      rw [t11 a b x y]
      by_cases ha : a.val = 127 - i
      · have hb : 127 - a.val = i := by omega
        rw [if_pos ha, hb]
        try rfl
      · rw [if_neg ha, cond1_keep (by decide +kernel)]
        exact i11 a b x y (by omega)
    · intro a b x y h
      rw [t12 a b x y]
      by_cases ha : a.val = 127 - i
      · have hb : 127 - a.val = i := by omega
        rw [if_pos ha, hb]
        try rfl
      · rw [if_neg ha, cond1_keep (by decide +kernel)]
        exact i12 a b x y (by omega)
    · intro a b x y h
      rw [t13 a b x y]
      by_cases ha : a.val = 127 - i
      · have hb : 127 - a.val = i := by omega
        rw [if_pos ha, hb]
        try rfl
      · rw [if_neg ha, cond1_keep (by decide +kernel)]
        exact i13 a b x y (by omega)
    · intro a b x y h
      rw [t14 a b x y]
      by_cases ha : a.val = 127 - i
      · have hb : 127 - a.val = i := by omega
        rw [if_pos ha, hb]
        try rfl
      · rw [if_neg ha, cond1_keep (by decide +kernel)]
        exact i14 a b x y (by omega)
    · intro a b x y h
      rw [t15 a b x y]
      by_cases ha : a.val = 127 - i
      · have hb : 127 - a.val = i := by omega
        rw [if_pos ha, hb]
        try rfl
      · rw [if_neg ha, cond1_keep (by decide +kernel)]
        exact i15 a b x y (by omega)
    · intro a b h
      rw [t16 a b]
      by_cases ha : a.val = 127 - i
      · have hb : 127 - a.val = i := by omega
        rw [if_pos ha, hb]
        try rfl
      · rw [if_neg ha, cond1_keep (by decide +kernel)]
        exact i16 a b (by omega)

theorem final_v47 : final m c (devRef .tc main_v47) = rowsOf (fun n => du (b1 m c) (b2 m c) (b3 m c) (b4 m c) (b5 m c) (b6 m c) (127 - n)) :=
  read_v47 (left1 m c) _ (fun a b x y => by
    rw [left1, cond1_keep (by decide +kernel)]
    obtain ⟨i10, i11, i12, i13, i14, i15, i16⟩ := loop1 m c 128 le_rfl
    exact i13 a b x y (by omega))

theorem final_v45 : final m c (devRef .tc main_v45) = rowsOf (fun n => dw (b0 m c) (b1 m c) (b2 m c) (b3 m c) (b4 m c) (b5 m c) (b6 m c) (127 - n)) :=
  read_v45 (left1 m c) _ (fun a b x y => by
    rw [left1, cond1_keep (by decide +kernel)]
    obtain ⟨i10, i11, i12, i13, i14, i15, i16⟩ := loop1 m c 128 le_rfl
    exact i14 a b x y (by omega))

theorem final_v39 : final m c (devRef .tc main_v39) = squaresOf (fun n => dp (b0 m c) (b1 m c) (b4 m c) (b5 m c) (b6 m c) (127 - n)) :=
  read_v39 (left1 m c) _ (fun a b x y => by
    rw [left1, cond1_keep (by decide +kernel)]
    obtain ⟨i10, i11, i12, i13, i14, i15, i16⟩ := loop1 m c 128 le_rfl
    exact i15 a b x y (by omega))

theorem final_v43 : final m c (devRef .tc main_v43) = rowsOf (fun n => dq (b0 m c) (b1 m c) (b4 m c) (b5 m c) (b6 m c) (127 - n)) :=
  read_v43 (left1 m c) _ (fun a b x y => by
    rw [left1, cond1_keep (by decide +kernel)]
    obtain ⟨i10, i11, i12, i13, i14, i15, i16⟩ := loop1 m c 128 le_rfl
    exact i11 a b x y (by omega))

theorem final_v41 : final m c (devRef .tc main_v41) = rowsOf (fun n => dk (b0 m c) (b1 m c) (b2 m c) (b3 m c) (b4 m c) (b5 m c) (b6 m c) (127 - n)) :=
  read_v41 (left1 m c) _ (fun a b x y => by
    rw [left1, cond1_keep (by decide +kernel)]
    obtain ⟨i10, i11, i12, i13, i14, i15, i16⟩ := loop1 m c 128 le_rfl
    exact i12 a b x y (by omega))

theorem final_v37 : final m c (devRef .tc main_v37) = decaysOf (fun n => dg (b0 m c) (b1 m c) (b2 m c) (b3 m c) (b4 m c) (b5 m c) (b6 m c) (127 - n)) :=
  read_v37 (left1 m c) _ (fun a b => by
    rw [left1, cond1_keep (by decide +kernel)]
    obtain ⟨i10, i11, i12, i13, i14, i15, i16⟩ := loop1 m c 128 le_rfl
    exact i16 a b (by omega))

theorem final_v24 : final m c (devRef .tc main_v24) = rowsOf (output (b0 m c) (b1 m c) (b2 m c) (b3 m c) (b4 m c) (b5 m c)) := by
  rw [final, postI_keep (by decide +kernel), left1, cond1_keep (by decide +kernel), at1_keep m (by decide +kernel) (by decide +kernel) (by decide +kernel), entry1]
  refine read_v24 (left0 m c) _ (fun a b x y => ?_)
  rw [left0, cond0_keep (by decide +kernel)]
  obtain ⟨i7, i8, i9, i10, i11, i12⟩ := loop0 m c 128 le_rfl
  exact i8 a b x y a.isLt

end Cert.ReferenceIdeal.Run

end
-- ==== Proof.Pair.lean ====
/- The kernel and the reference end with the same seven arrays: both are those of the scan over the chunks. -/
module

public import proofs.«01_k».proof.Defs
public import proofs.«01_k».proof.Proof.KFinal
public import proofs.«01_k».proof.Proof.RefLoop1

@[expose] public section

noncomputable section

namespace Cert.Proof

open Idealize.ShloMosaic Idealize.ShloMosaic.TcCoe Idealize.SL.Sem Cert.Scan

section

open Cert.KernelIdeal Cert.KernelIdeal.Both

theorem kernel_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
r.2.mem ((c.tc : Thread nD τ).loc main_v0_0) = rowsOf (output (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c))
      ∧ r.2.mem ((c.tc : Thread nD τ).loc main_v1_0) = rowsOf (fun n => du (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n))
      ∧ r.2.mem ((c.tc : Thread nD τ).loc main_v1_1) = rowsOf (fun n => dw (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n))
      ∧ r.2.mem ((c.tc : Thread nD τ).loc main_v1_2) = squaresOf (fun n => dp (Cert.KernelIdeal.Both.a0 m c) (Cert.KernelIdeal.Both.a1 m c) (Cert.KernelIdeal.Both.a4 m c) (Cert.KernelIdeal.Both.a5 m c) (Cert.KernelIdeal.Both.a6 m c) (127 - n))
      ∧ r.2.mem ((c.tc : Thread nD τ).loc main_v1_3) = rowsOf (fun n => dq (Cert.KernelIdeal.Both.a0 m c) (Cert.KernelIdeal.Both.a1 m c) (Cert.KernelIdeal.Both.a4 m c) (Cert.KernelIdeal.Both.a5 m c) (Cert.KernelIdeal.Both.a6 m c) (127 - n))
      ∧ r.2.mem ((c.tc : Thread nD τ).loc main_v1_4) = rowsOf (fun n => dk (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n))
      ∧ r.2.mem ((c.tc : Thread nD τ).loc main_v1_5) = decaysOf (fun n => dg (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run _ _ _).mono (fun r h c =>
    have e : ∀ a ∈ argRefs, ¬ (Proc.devRef .tc a : DevRef τ sig).isScoped → r.2.mem ((c.tc : Thread nD τ).loc a) = m ((c.tc : Thread nD τ).loc a) :=
      fun a ha hs => (h.1 c _ (mem_uc a hs)).trans (W2_args m ρ c a ha)
    ⟨(h.1 c _ (mem_uc main_v0_0 (by decide))).trans (val_o m ρ c),
      (h.1 c _ (mem_uc main_v1_0 (by decide))).trans (val_du m ρ c),
      (h.1 c _ (mem_uc main_v1_1 (by decide))).trans (val_dw m ρ c),
      (h.1 c _ (mem_uc main_v1_2 (by decide))).trans (val_dp m ρ c),
      (h.1 c _ (mem_uc main_v1_3 (by decide))).trans (val_dq m ρ c),
      (h.1 c _ (mem_uc main_v1_4 (by decide))).trans (val_dk m ρ c),
      (h.1 c _ (mem_uc main_v1_5 (by decide))).trans (val_dg m ρ c),
      e main_arg0 (by decide) (by decide),
      e main_arg1 (by decide) (by decide),
      e main_arg2 (by decide) (by decide),
      e main_arg3 (by decide) (by decide),
      e main_arg4 (by decide) (by decide),
      e main_arg5 (by decide) (by decide),
      e main_arg6 (by decide) (by decide)⟩) (run (F := Ideal) m ρ)

end

section

open Cert.ReferenceIdeal Cert.ReferenceIdeal.Run

theorem reference_values (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
r.2.mem ((c.tc : Thread nD τ).loc main_v24) = rowsOf (output (Cert.ReferenceIdeal.Run.b0 m c) (Cert.ReferenceIdeal.Run.b1 m c) (Cert.ReferenceIdeal.Run.b2 m c) (Cert.ReferenceIdeal.Run.b3 m c) (Cert.ReferenceIdeal.Run.b4 m c) (Cert.ReferenceIdeal.Run.b5 m c))
      ∧ r.2.mem ((c.tc : Thread nD τ).loc main_v47) = rowsOf (fun n => du (Cert.ReferenceIdeal.Run.b1 m c) (Cert.ReferenceIdeal.Run.b2 m c) (Cert.ReferenceIdeal.Run.b3 m c) (Cert.ReferenceIdeal.Run.b4 m c) (Cert.ReferenceIdeal.Run.b5 m c) (Cert.ReferenceIdeal.Run.b6 m c) (127 - n))
      ∧ r.2.mem ((c.tc : Thread nD τ).loc main_v45) = rowsOf (fun n => dw (Cert.ReferenceIdeal.Run.b0 m c) (Cert.ReferenceIdeal.Run.b1 m c) (Cert.ReferenceIdeal.Run.b2 m c) (Cert.ReferenceIdeal.Run.b3 m c) (Cert.ReferenceIdeal.Run.b4 m c) (Cert.ReferenceIdeal.Run.b5 m c) (Cert.ReferenceIdeal.Run.b6 m c) (127 - n))
      ∧ r.2.mem ((c.tc : Thread nD τ).loc main_v39) = squaresOf (fun n => dp (Cert.ReferenceIdeal.Run.b0 m c) (Cert.ReferenceIdeal.Run.b1 m c) (Cert.ReferenceIdeal.Run.b4 m c) (Cert.ReferenceIdeal.Run.b5 m c) (Cert.ReferenceIdeal.Run.b6 m c) (127 - n))
      ∧ r.2.mem ((c.tc : Thread nD τ).loc main_v43) = rowsOf (fun n => dq (Cert.ReferenceIdeal.Run.b0 m c) (Cert.ReferenceIdeal.Run.b1 m c) (Cert.ReferenceIdeal.Run.b4 m c) (Cert.ReferenceIdeal.Run.b5 m c) (Cert.ReferenceIdeal.Run.b6 m c) (127 - n))
      ∧ r.2.mem ((c.tc : Thread nD τ).loc main_v41) = rowsOf (fun n => dk (Cert.ReferenceIdeal.Run.b0 m c) (Cert.ReferenceIdeal.Run.b1 m c) (Cert.ReferenceIdeal.Run.b2 m c) (Cert.ReferenceIdeal.Run.b3 m c) (Cert.ReferenceIdeal.Run.b4 m c) (Cert.ReferenceIdeal.Run.b5 m c) (Cert.ReferenceIdeal.Run.b6 m c) (127 - n))
      ∧ r.2.mem ((c.tc : Thread nD τ).loc main_v37) = decaysOf (fun n => dg (Cert.ReferenceIdeal.Run.b0 m c) (Cert.ReferenceIdeal.Run.b1 m c) (Cert.ReferenceIdeal.Run.b2 m c) (Cert.ReferenceIdeal.Run.b3 m c) (Cert.ReferenceIdeal.Run.b4 m c) (Cert.ReferenceIdeal.Run.b5 m c) (Cert.ReferenceIdeal.Run.b6 m c) (127 - n))) :=
  (θ_run _ _ _).mono (fun r h c =>
    ⟨(h.1 c main_v24 rfl).trans (final_v24 m c),
      (h.1 c main_v47 rfl).trans (final_v47 m c),
      (h.1 c main_v45 rfl).trans (final_v45 m c),
      (h.1 c main_v39 rfl).trans (final_v39 m c),
      (h.1 c main_v43 rfl).trans (final_v43 m c),
      (h.1 c main_v41 rfl).trans (final_v41 m c),
      (h.1 c main_v37 rfl).trans (final_v37 m c)⟩) (run_at (F := Ideal) m ρ)

end

theorem algebraic : Cert.algebraic_KernelIdeal_ReferenceIdeal := by
  intro m g m' g' _ hagree
  refine ⟨fun c => rowsOf (output (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c)), fun c => rowsOf (fun n => du (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n)), fun c => rowsOf (fun n => dw (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n)), fun c => squaresOf (fun n => dp (Cert.KernelIdeal.Both.a0 m c) (Cert.KernelIdeal.Both.a1 m c) (Cert.KernelIdeal.Both.a4 m c) (Cert.KernelIdeal.Both.a5 m c) (Cert.KernelIdeal.Both.a6 m c) (127 - n)), fun c => rowsOf (fun n => dq (Cert.KernelIdeal.Both.a0 m c) (Cert.KernelIdeal.Both.a1 m c) (Cert.KernelIdeal.Both.a4 m c) (Cert.KernelIdeal.Both.a5 m c) (Cert.KernelIdeal.Both.a6 m c) (127 - n)), fun c => rowsOf (fun n => dk (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n)), fun c => decaysOf (fun n => dg (Cert.KernelIdeal.Both.a0 m c) (Cert.KernelIdeal.Both.a1 m c) (Cert.KernelIdeal.Both.a2 m c) (Cert.KernelIdeal.Both.a3 m c) (Cert.KernelIdeal.Both.a4 m c) (Cert.KernelIdeal.Both.a5 m c) (Cert.KernelIdeal.Both.a6 m c) (127 - n)),
    kernel_values m g, ?_⟩
  refine (θ_run _ _ _).mono (fun r h c => ?_) (θ_run_and (reference_values m' g') (Cert.ReferenceIdeal.Run.frame (F := Ideal) m' g'))
  obtain ⟨h0, h1, h2, h3, h4, h5, h6⟩ := hagree c
  obtain ⟨v, f, -⟩ := h
  have v := v c
  simp only [Cert.ReferenceIdeal.Run.b0, Cert.ReferenceIdeal.Run.b1, Cert.ReferenceIdeal.Run.b2, Cert.ReferenceIdeal.Run.b3,
    Cert.ReferenceIdeal.Run.b4, Cert.ReferenceIdeal.Run.b5, Cert.ReferenceIdeal.Run.b6] at v
  rw [h0, h1, h2, h3, h4, h5, h6] at v
  obtain ⟨v0, v1, v2, v3, v4, v5, v6⟩ := v
  exact ⟨v0, v1, v2, v3, v4, v5, v6, f c⟩

end Cert.Proof

end
-- ==== Proof.Prod.lean ====
/- Products of two arrays, entry by entry. -/
module

public import Idealize.ShloMosaic.Lib.Pipeline.ValueKit

@[expose] public section

noncomputable section

namespace Cert.Prod

open Idealize.ShloMosaic Idealize.ShloMosaic.Tactic

variable {a b n : ℕ}

/-- The product of `A` and `B`. -/
def nn (A : (⟨2, ![a, n]⟩ : Shape).Idx → EReal) (B : (⟨2, ![n, b]⟩ : Shape).Idx → EReal) : (⟨2, ![a, b]⟩ : Shape).Idx → EReal :=
  fun i => ∑ k : Fin n, A (ix2 (i 0) k) * B (ix2 k (i 1))

/-- The product of `A` and the transpose of `B`. -/
def nt (A : (⟨2, ![a, n]⟩ : Shape).Idx → EReal) (B : (⟨2, ![b, n]⟩ : Shape).Idx → EReal) : (⟨2, ![a, b]⟩ : Shape).Idx → EReal :=
  fun i => ∑ k : Fin n, A (ix2 (i 0) k) * B (ix2 (i 1) k)

/-- The product of the transpose of `A` and `B`. -/
def tn (A : (⟨2, ![n, a]⟩ : Shape).Idx → EReal) (B : (⟨2, ![n, b]⟩ : Shape).Idx → EReal) : (⟨2, ![a, b]⟩ : Shape).Idx → EReal :=
  fun i => ∑ k : Fin n, A (ix2 k (i 0)) * B (ix2 k (i 1))

/-- Four shards of columns side by side. -/
def whole (W : (⟨3, ![4, a, 2816]⟩ : Shape).Idx → EReal) : (⟨2, ![a, 11264]⟩ : Shape).Idx → EReal :=
  fun i => W (ix3 (⟨(i 1).val / 2816, by have h : (i 1).val < 11264 := (i 1).isLt; omega⟩ : Fin 4) (i 0)
    (⟨(i 1).val % 2816, Nat.mod_lt _ (by norm_num)⟩ : Fin 2816))

/-- A product added to an array. -/
def addnn (X : (⟨2, ![a, b]⟩ : Shape).Idx → EReal) (A : (⟨2, ![a, n]⟩ : Shape).Idx → EReal) (B : (⟨2, ![n, b]⟩ : Shape).Idx → EReal) :
    (⟨2, ![a, b]⟩ : Shape).Idx → EReal :=
  fun i => X i + nn A B i

/-- A product with a transpose, added to an array. -/
def addnt (X : (⟨2, ![a, b]⟩ : Shape).Idx → EReal) (A : (⟨2, ![a, n]⟩ : Shape).Idx → EReal) (B : (⟨2, ![b, n]⟩ : Shape).Idx → EReal) :
    (⟨2, ![a, b]⟩ : Shape).Idx → EReal :=
  fun i => X i + nt A B i

/-- The shards one after another: which one holds column `j`. -/
theorem shard_of (f : Fin 4 → Fin 2816 → EReal) (j : Fin 11264) :
    (if h : j.val < 2816 then f 0 ⟨j.val, h⟩
      else if h : j.val - 2816 < 2816 then f 1 ⟨j.val - 2816, h⟩
      else if h : j.val - 2816 - 2816 < 2816 then f 2 ⟨j.val - 2816 - 2816, h⟩
      else f 3 ⟨j.val - 2816 - 2816 - 2816, by have := j.isLt; omega⟩)
      = f ⟨j.val / 2816, by have := j.isLt; omega⟩ ⟨j.val % 2816, Nat.mod_lt _ (by norm_num)⟩ := by
  have hj := j.isLt
  split
  · exact congr (congrArg f (Fin.ext (by show 0 = j.val / 2816; omega))) (Fin.ext (by show j.val = j.val % 2816; omega))
  split
  · exact congr (congrArg f (Fin.ext (by show 1 = j.val / 2816; omega))) (Fin.ext (by show j.val - 2816 = j.val % 2816; omega))
  split
  · exact congr (congrArg f (Fin.ext (by show 2 = j.val / 2816; omega))) (Fin.ext (by show j.val - 2816 - 2816 = j.val % 2816; omega))
  · exact congr (congrArg f (Fin.ext (by show 3 = j.val / 2816; omega))) (Fin.ext (by show j.val - 2816 - 2816 - 2816 = j.val % 2816; omega))

end Cert.Prod

end
-- ==== Proof.MmDw.lean ====
/- The gradients of the weights of products: the blocks of each kernel are those of the whole product. -/
module

public import proofs.«01_k».proof.Defs
public import proofs.«01_k».proof.Proof.Prod
public import proofs.«01_k».proof.Proof.Gen.Kernel2Ideal.Value
public import proofs.«01_k».proof.Proof.Gen.Reference2Ideal.Run
public import proofs.«01_k».proof.Proof.Gen.Kernel5Ideal.Value
public import proofs.«01_k».proof.Proof.Gen.Reference5Ideal.Run
public import proofs.«01_k».proof.Proof.Gen.Kernel7Ideal.Value
public import proofs.«01_k».proof.Proof.Gen.Reference7Ideal.Run
public import proofs.«01_k».proof.Proof.Gen.Kernel9Ideal.Value
public import proofs.«01_k».proof.Proof.Gen.Reference9Ideal.Run
public import proofs.«01_k».proof.Proof.Gen.Kernel32Ideal.Value
public import proofs.«01_k».proof.Proof.Gen.Reference32Ideal.Run
public import proofs.«01_k».proof.Proof.Gen.Kernel34Ideal.Value
public import proofs.«01_k».proof.Proof.Gen.Reference34Ideal.Run

@[expose] public section

set_option maxRecDepth 16384

noncomputable section

open Cert.Prod
open Idealize.ShloMosaic Idealize.ShloMosaic.TcCoe Idealize.ShloMosaic.Tactic Idealize.SL.Sem

/-! The gradient of the up-projection's weights. -/

namespace Cert.Kernel2Ideal.Value

open Cert.Kernel2Ideal.Gen

variable (m : (ℓ : Loc nD τ sig) → Buf (Elt Ideal) ℓ) (c : Dev nD)

theorem idx : ∀ t : Fin cfg0.N, win0_0.index t = ![0, t.val / 22] ∧ win0_1.index t = ![0, t.val % 22] ∧ win0_2.index t = ![t.val / 22, t.val % 22] :=
  (by decide +kernel : ∀ t : Fin grid0.N, _)

/-- The array the kernel leaves is the whole product. -/
theorem array : (dats m 0 c).arrAt 2 cfg0.N = tn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, tn]
  blk_point [iblk, V, idx t]

end Cert.Kernel2Ideal.Value

/-! The gradient of the down-projection's weights. -/

namespace Cert.Kernel5Ideal.Value

open Cert.Kernel5Ideal.Gen

variable (m : (ℓ : Loc nD τ sig) → Buf (Elt Ideal) ℓ) (c : Dev nD)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The array the kernel leaves is the whole product. -/
theorem array : (dats m 0 c).arrAt 2 cfg0.N = tn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, tn]
  blk_point [iblk, V, idx t]

end Cert.Kernel5Ideal.Value

/-! The gradient of the mixer's input projection's weights. -/

namespace Cert.Kernel7Ideal.Value

open Cert.Kernel7Ideal.Gen

variable (m : (ℓ : Loc nD τ sig) → Buf (Elt Ideal) ℓ) (c : Dev nD)

theorem idx : ∀ t : Fin cfg0.N, win0_0.index t = ![0, t.val / 14] ∧ win0_1.index t = ![0, t.val % 14] ∧ win0_2.index t = ![t.val / 14, t.val % 14] :=
  (by decide +kernel : ∀ t : Fin grid0.N, _)

/-- The array the kernel leaves is the whole product. -/
theorem array : (dats m 0 c).arrAt 2 cfg0.N = tn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, tn]
  blk_point [iblk, V, idx t]

end Cert.Kernel7Ideal.Value

/-! The gradient of a square projection's weights. -/

namespace Cert.Kernel9Ideal.Value

open Cert.Kernel9Ideal.Gen

variable (m : (ℓ : Loc nD τ sig) → Buf (Elt Ideal) ℓ) (c : Dev nD)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The array the kernel leaves is the whole product. -/
theorem array : (dats m 0 c).arrAt 2 cfg0.N = tn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, tn]
  blk_point [iblk, V, idx t]

end Cert.Kernel9Ideal.Value

/-! The gradient of the gates' projection's weights. -/

namespace Cert.Kernel32Ideal.Value

open Cert.Kernel32Ideal.Gen

variable (m : (ℓ : Loc nD τ sig) → Buf (Elt Ideal) ℓ) (c : Dev nD)

theorem idx : ∀ t : Fin cfg0.N, win0_0.index t = ![0, t.val] ∧ win0_1.index t = ![0, 0] ∧ win0_2.index t = ![t.val, 0] :=
  (by decide +kernel : ∀ t : Fin grid0.N, _)

/-- The array the kernel leaves is the whole product. -/
theorem array : (dats m 0 c).arrAt 2 cfg0.N = tn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, tn]
  blk_point [iblk, V, idx t]

end Cert.Kernel32Ideal.Value

/-! The gradient of the memory's projection's weights. -/

namespace Cert.Kernel34Ideal.Value

open Cert.Kernel34Ideal.Gen

variable (m : (ℓ : Loc nD τ sig) → Buf (Elt Ideal) ℓ) (c : Dev nD)

theorem idx : ∀ t : Fin cfg0.N, win0_0.index t = ![0, t.val / 4] ∧ win0_1.index t = ![0, t.val % 4] ∧ win0_2.index t = ![t.val / 4, t.val % 4] :=
  (by decide +kernel : ∀ t : Fin grid0.N, _)

/-- The array the kernel leaves is the whole product. -/
theorem array : (dats m 0 c).arrAt 2 cfg0.N = tn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, tn]
  blk_point [iblk, V, idx t]

end Cert.Kernel34Ideal.Value

namespace Cert.Proof

theorem algebraic2 : Cert.algebraic_Kernel2Ideal_Reference2Ideal := by
  pair_intro
  · run_from Cert.Kernel2Ideal.Gen.run_main m g
  · run_from Cert.Reference2Ideal.Value.run m' g'
    rw [Cert.Kernel2Ideal.Value.array]
    funext i; idx_vars i
    pointwise [tn]
    exact Finset.sum_congr rfl fun k _ => mul_comm _ _

theorem frame_r2 : Cert.quiescent_Reference2Ideal := fun m g _ =>
  (θ_run _ _ _).mono (fun r h => ⟨fun c => ⟨(h c).2.1, (h c).2.2⟩, sem_eq_zero_of_no_sems (by decide) r.2⟩) (Cert.Reference2Ideal.Value.run (F := Ideal) m g)

theorem algebraic5 : Cert.algebraic_Kernel5Ideal_Reference5Ideal := by
  pair_intro
  · run_from Cert.Kernel5Ideal.Gen.run_main m g
  · run_from Cert.Reference5Ideal.Value.run m' g'
    rw [Cert.Kernel5Ideal.Value.array]
    funext i; idx_vars i
    pointwise [tn]
    exact Finset.sum_congr rfl fun k _ => mul_comm _ _

theorem frame_r5 : Cert.quiescent_Reference5Ideal := fun m g _ =>
  (θ_run _ _ _).mono (fun r h => ⟨fun c => ⟨(h c).2.1, (h c).2.2⟩, sem_eq_zero_of_no_sems (by decide) r.2⟩) (Cert.Reference5Ideal.Value.run (F := Ideal) m g)

theorem algebraic7 : Cert.algebraic_Kernel7Ideal_Reference7Ideal := by
  pair_intro
  · run_from Cert.Kernel7Ideal.Gen.run_main m g
  · run_from Cert.Reference7Ideal.Value.run m' g'
    rw [Cert.Kernel7Ideal.Value.array]
    funext i; idx_vars i
    pointwise [tn]
    exact Finset.sum_congr rfl fun k _ => mul_comm _ _

theorem frame_r7 : Cert.quiescent_Reference7Ideal := fun m g _ =>
  (θ_run _ _ _).mono (fun r h => ⟨fun c => ⟨(h c).2.1, (h c).2.2⟩, sem_eq_zero_of_no_sems (by decide) r.2⟩) (Cert.Reference7Ideal.Value.run (F := Ideal) m g)

theorem algebraic9 : Cert.algebraic_Kernel9Ideal_Reference9Ideal := by
  pair_intro
  · run_from Cert.Kernel9Ideal.Gen.run_main m g
  · run_from Cert.Reference9Ideal.Value.run m' g'
    rw [Cert.Kernel9Ideal.Value.array]
    funext i; idx_vars i
    pointwise [tn]
    exact Finset.sum_congr rfl fun k _ => mul_comm _ _

theorem frame_r9 : Cert.quiescent_Reference9Ideal := fun m g _ =>
  (θ_run _ _ _).mono (fun r h => ⟨fun c => ⟨(h c).2.1, (h c).2.2⟩, sem_eq_zero_of_no_sems (by decide) r.2⟩) (Cert.Reference9Ideal.Value.run (F := Ideal) m g)

theorem algebraic32 : Cert.algebraic_Kernel32Ideal_Reference32Ideal := by
  pair_intro
  · run_from Cert.Kernel32Ideal.Gen.run_main m g
  · run_from Cert.Reference32Ideal.Value.run m' g'
    rw [Cert.Kernel32Ideal.Value.array]
    funext i; idx_vars i
    pointwise [tn]
    exact Finset.sum_congr rfl fun k _ => mul_comm _ _

theorem frame_r32 : Cert.quiescent_Reference32Ideal := fun m g _ =>
  (θ_run _ _ _).mono (fun r h => ⟨fun c => ⟨(h c).2.1, (h c).2.2⟩, sem_eq_zero_of_no_sems (by decide) r.2⟩) (Cert.Reference32Ideal.Value.run (F := Ideal) m g)

theorem algebraic34 : Cert.algebraic_Kernel34Ideal_Reference34Ideal := by
  pair_intro
  · run_from Cert.Kernel34Ideal.Gen.run_main m g
  · run_from Cert.Reference34Ideal.Value.run m' g'
    rw [Cert.Kernel34Ideal.Value.array]
    funext i; idx_vars i
    pointwise [tn]
    exact Finset.sum_congr rfl fun k _ => mul_comm _ _

theorem frame_r34 : Cert.quiescent_Reference34Ideal := fun m g _ =>
  (θ_run _ _ _).mono (fun r h => ⟨fun c => ⟨(h c).2.1, (h c).2.2⟩, sem_eq_zero_of_no_sems (by decide) r.2⟩) (Cert.Reference34Ideal.Value.run (F := Ideal) m g)

end Cert.Proof

end
-- ==== Proof.Mm3.lean ====
/- The gradient of the up-projection's input: the kernel sums the four shards of the weights one after another. -/
module

public import proofs.«01_k».proof.Defs
public import proofs.«01_k».proof.Proof.Prod
public import proofs.«01_k».proof.Proof.Gen.Kernel3Ideal.Value
public import proofs.«01_k».proof.Proof.Gen.Reference3Ideal.Run

@[expose] public section

set_option maxRecDepth 16384

noncomputable section

namespace Cert.Kernel3Ideal.Value

open Cert.Kernel3Ideal.Gen Cert.Prod
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val / 8, t.val % 4] ∧ win0_1.index t = ![t.val % 4, t.val / 4 % 2, 0] ∧ win0_2.index t = ![t.val / 8, t.val / 4 % 2] :=
  (by decide +kernel : ∀ t : Fin grid0.N, _)

/-- The product of the blocks at a point. -/
def dot (t : Fin cfg0.N) (a b : Fin 1024) : EReal := k0_pay1 (iblk m c 0 t) (iblk m c 1 t) (ix2 a b)

theorem first (t : Fin cfg0.N) (h : t.val % 4 = 0) (a b : Fin 1024) : (outsAt0 m c t.val t.isLt).2 (ix2 a b) = dot m c t a b := by
  rw [outsAt0_A m c t h (by omega) (by omega)]
  frame_out
  pointwise [k0_pay2, dot]

theorem next (t : Fin cfg0.N) (h : 1 ≤ t.val % 4) (h3 : ¬t.val % 4 = 3) (a b : Fin 1024) :
    (outsAt0 m c t.val t.isLt).2 (ix2 a b) = (outsAt0 m c (t.val - 1) (by have := t.isLt; omega)).2 (ix2 a b) + dot m c t a b := by
  rw [outsAt0_B m c t (by omega) h h3]
  frame_out
  pointwise [k0_pay3, dot]
  exact congrArg (· + _) (congrFun ((Memref.isWhole_whole cc0_scratch0).read_unread _) _)

theorem last (t : Fin cfg0.N) (h : t.val % 4 = 3) (a b : Fin 1024) :
    (outsAt0 m c t.val t.isLt).1 (ix2 a b) = (outsAt0 m c (t.val - 1) (by have := t.isLt; omega)).2 (ix2 a b) + dot m c t a b := by
  rw [outsAt0_C m c t (by omega) (by omega) h]
  frame_out
  pointwise [k0_pay3, dot]
  exact congrArg (· + _) (congrFun ((Memref.isWhole_whole cc0_scratch0).read_unread _) _)

/-- One shard's part of the product. -/
def part (A : (⟨2, ![8192, 11264]⟩ : Shape).Idx → EReal) (W : (⟨3, ![4, 2048, 2816]⟩ : Shape).Idx → EReal) (s : Fin 4) (i : Fin 8192) (j : Fin 2048) : EReal :=
  ∑ k : Fin 2816, A (ix2 i (⟨s.val * 2816 + k.val, by omega⟩ : Fin 11264)) * W (ix3 s j k)

theorem sum_part (A : (⟨2, ![8192, 11264]⟩ : Shape).Idx → EReal) (W : (⟨3, ![4, 2048, 2816]⟩ : Shape).Idx → EReal) (i : Fin 8192) (j : Fin 2048) :
    part A W 0 i j + part A W 1 i j + part A W 2 i j + part A W 3 i j = nt A (whole W) (ix2 i j) := by
  rw [← Fin.sum_univ_four (fun s => part A W s i j)]
  refine Fin.sum_mul_add_congr (F := fun s k => A (ix2 i (⟨s.val * 2816 + k.val, by omega⟩ : Fin 11264)) * W (ix3 s j k)) (L := 11264) fun s k hl => ?_
  show _ = A (ix2 i ⟨s.val * 2816 + k.val, hl⟩) * W (ix3 _ j _)
  congr 3
  · exact Fin.ext (by show s.val = (s.val * 2816 + k.val) / 2816; omega)
  · exact Fin.ext (by show k.val = (s.val * 2816 + k.val) % 2816; omega)

/-- The product of the blocks at a point is a shard's part. -/
theorem dot_part (t : Fin cfg0.N) (s : Fin 4) (hs : t.val % 4 = s.val) (a b : Fin 1024) (i : Fin 8192) (hi : i.val = t.val / 8 * 1024 + a.val) (j : Fin 2048)
    (hj : j.val = t.val / 4 % 2 * 1024 + b.val) : dot m c t a b = part (m (c.tc.loc main_arg0)) (m (c.tc.loc main_arg1)) s i j := by
  have ht := lt_of_lt_of_eq t.isLt N_0
  have bi : t.val / 8 * 1024 + a.val < 8192 := by clear hi hj; omega
  have bj : t.val / 4 % 2 * 1024 + b.val < 2048 := by clear hi hj; omega
  obtain rfl : s = ⟨t.val % 4, Nat.mod_lt _ (by norm_num)⟩ := Fin.ext hs.symm
  obtain rfl : i = ⟨t.val / 8 * 1024 + a.val, bi⟩ := Fin.ext hi
  obtain rfl : j = ⟨t.val / 4 % 2 * 1024 + b.val, bj⟩ := Fin.ext hj
  pointwise [dot, k0_pay1, part]
  blk_point [iblk, V, idx t]

/-- What the last point of four leaves. -/
theorem four (r : ℕ) (hr : 4 * r + 3 < cfg0.N) (a b : Fin 1024) : (outsAt0 m c (4 * r + 3) hr).1 (ix2 a b)
    = dot m c ⟨4 * r, by omega⟩ a b + dot m c ⟨4 * r + 1, by omega⟩ a b + dot m c ⟨4 * r + 2, by omega⟩ a b + dot m c ⟨4 * r + 3, hr⟩ a b :=
  (last m c ⟨4 * r + 3, hr⟩ (by show (4 * r + 3) % 4 = 3; omega) a b).trans (congrArg (· + _)
    ((next m c ⟨4 * r + 2, by omega⟩ (by show 1 ≤ (4 * r + 2) % 4; omega) (by show ¬(4 * r + 2) % 4 = 3; omega) a b).trans (congrArg (· + _)
      ((next m c ⟨4 * r + 1, by omega⟩ (by show 1 ≤ (4 * r + 1) % 4; omega) (by show ¬(4 * r + 1) % 4 = 3; omega) a b).trans (congrArg (· + _)
        (first m c ⟨4 * r, by omega⟩ (by show 4 * r % 4 = 0; omega) a b))))))

/-- The array the kernel leaves is the whole product. -/
theorem array : (dats m 0 c).arrAt 2 cfg0.N = nt (m (c.tc.loc main_arg0)) (whole (m (c.tc.loc main_arg1))) := by
  refine (dats m 0 c).arrAt_eq_of_covers 2 _ (by decide +kernel) fun t hf y => ?_
  obtain ⟨n, hn⟩ := t
  obtain ⟨r, rfl⟩ : ∃ r, n = 4 * r + 3 := ⟨n / 4, by have h3 : n % 4 = 3 := (flush0_2 ⟨n, hn⟩).mp hf; omega⟩
  have hN := lt_of_lt_of_eq hn N_0
  blk_simp
  rw [after0_2]
  idx_vars y
  have key : ∀ (i : Fin 8192) (_ : i.val = r / 2 * 1024 + y0.val) (j : Fin 2048) (_ : j.val = r % 2 * 1024 + y1.val),
      (outsAt0 m c (4 * r + 3) hn).1 (ix2 y0 y1) = nt (m (c.tc.loc main_arg0)) (whole (m (c.tc.loc main_arg1))) (ix2 i j) := by
    intro i hi j hj
    rw [four, ← sum_part, dot_part m c ⟨4 * r, _⟩ 0 _ y0 y1 i _ j, dot_part m c ⟨4 * r + 1, _⟩ 1 _ y0 y1 i _ j, dot_part m c ⟨4 * r + 2, _⟩ 2 _ y0 y1 i _ j,
      dot_part m c ⟨4 * r + 3, _⟩ 3 _ y0 y1 i _ j]
    all_goals dsimp only
    all_goals omega
  refine (key ⟨r / 2 * 1024 + y0.val, by omega⟩ rfl ⟨r % 2 * 1024 + y1.val, by omega⟩ rfl).trans ?_
  obtain ⟨-, -, e⟩ := idx ⟨4 * r + 3, hn⟩
  have e0 : win0_2.index ⟨4 * r + 3, hn⟩ (0 : Fin 2) = (4 * r + 3) / 8 := congrFun e 0
  have e1 : win0_2.index ⟨4 * r + 3, hn⟩ (1 : Fin 2) = (4 * r + 3) / 4 % 2 := congrFun e 1
  refine congrArg _ (funext fun a => Fin.ext ?_)
  match a with
  | ⟨0, _⟩ => show r / 2 * 1024 + y0.val = win0_2.index ⟨4 * r + 3, hn⟩ (0 : Fin 2) * 1024 + 1 * y0.val; omega
  | ⟨1, _⟩ => show r % 2 * 1024 + y1.val = win0_2.index ⟨4 * r + 3, hn⟩ (1 : Fin 2) * 1024 + 1 * y1.val; omega

end Cert.Kernel3Ideal.Value

namespace Cert.Proof

open Cert.Prod
open Idealize.ShloMosaic Idealize.ShloMosaic.TcCoe Idealize.ShloMosaic.Tactic Idealize.SL.Sem

theorem algebraic3 : Cert.algebraic_Kernel3Ideal_Reference3Ideal := by
  pair_intro
  · run_from Cert.Kernel3Ideal.Gen.run_main m g
  · run_from Cert.Reference3Ideal.Value.run m' g'
    rw [Cert.Kernel3Ideal.Value.array]
    funext i; idx_vars i
    pointwise [nt, whole]
    refine Finset.sum_congr rfl fun k _ => ?_
    congr 1
    exact shard_of (fun s j => m (c.tc.loc Kernel3Ideal.main_arg1) (ix3 s i1 j)) k

theorem frame_r3 : Cert.quiescent_Reference3Ideal := fun m g _ =>
  (θ_run _ _ _).mono (fun r h => ⟨fun c => ⟨(h c).2.1, (h c).2.2⟩, sem_eq_zero_of_no_sems (by decide) r.2⟩) (Cert.Reference3Ideal.Value.run (F := Ideal) m g)

end Cert.Proof

end
-- ==== Proof.MmDx.lean ====
/- The gradients that products send back to their inputs: the blocks of each kernel are those of the whole product. -/
module

public import proofs.«01_k».proof.Defs
public import proofs.«01_k».proof.Proof.Prod
public import proofs.«01_k».proof.Proof.Gen.Kernel4Ideal.Value
public import proofs.«01_k».proof.Proof.Gen.Reference4Ideal.Run
public import proofs.«01_k».proof.Proof.Gen.Kernel6Ideal.Value
public import proofs.«01_k».proof.Proof.Gen.Reference6Ideal.Run
public import proofs.«01_k».proof.Proof.Gen.Kernel8Ideal.Value
public import proofs.«01_k».proof.Proof.Gen.Reference8Ideal.Run
public import proofs.«01_k».proof.Proof.Gen.Kernel10Ideal.Value
public import proofs.«01_k».proof.Proof.Gen.Reference10Ideal.Run
public import proofs.«01_k».proof.Proof.Gen.Kernel33Ideal.Value
public import proofs.«01_k».proof.Proof.Gen.Reference33Ideal.Run

@[expose] public section

set_option maxRecDepth 16384

noncomputable section

open Cert.Prod
open Idealize.ShloMosaic Idealize.ShloMosaic.TcCoe Idealize.ShloMosaic.Tactic Idealize.SL.Sem

/-! The gradient of the down-projection's input. -/

namespace Cert.Kernel4Ideal.Value

open Cert.Kernel4Ideal.Gen

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The array the kernel leaves is the whole product. -/
theorem array : (dats m 0 c).arrAt 2 cfg0.N = nt (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nt]
  blk_point [iblk, V, idx t]

end Cert.Kernel4Ideal.Value

/-! The gradient of the mixer's input projection's input. -/

namespace Cert.Kernel6Ideal.Value

open Cert.Kernel6Ideal.Gen

variable (m : (ℓ : Loc nD τ sig) → Buf (Elt Ideal) ℓ) (c : Dev nD)

theorem idx : ∀ t : Fin cfg0.N, win0_0.index t = ![t.val / 4, 0] ∧ win0_1.index t = ![t.val % 4, 0] ∧ win0_2.index t = ![t.val / 4, t.val % 4] :=
  (by decide +kernel : ∀ t : Fin grid0.N, _)

/-- The array the kernel leaves is the whole product. -/
theorem array : (dats m 0 c).arrAt 2 cfg0.N = nt (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nt]
  blk_point [iblk, V, idx t]

end Cert.Kernel6Ideal.Value

/-! The gradient of a square projection's input, in f32. -/

namespace Cert.Kernel8Ideal.Value

open Cert.Kernel8Ideal.Gen

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The array the kernel leaves is the whole product. -/
theorem array : (dats m 0 c).arrAt 2 cfg0.N = nt (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nt]
  blk_point [iblk, V, idx t]

end Cert.Kernel8Ideal.Value

/-! The gradient of a square projection's input, in bf16. -/

namespace Cert.Kernel10Ideal.Value

open Cert.Kernel10Ideal.Gen

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] :=
  (by decide +kernel : ∀ t : Fin grid0.N, _)

/-- The array the kernel leaves is the whole product. -/
theorem array : (dats m 0 c).arrAt 2 cfg0.N = nt (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nt]
  blk_point [iblk, V, idx t]

end Cert.Kernel10Ideal.Value

/-! The gradient of the memory's projection's input. -/

namespace Cert.Kernel33Ideal.Value

open Cert.Kernel33Ideal.Gen

variable (m : (ℓ : Loc nD τ sig) → Buf (Elt Ideal) ℓ) (c : Dev nD)

theorem idx : ∀ t : Fin cfg0.N, win0_0.index t = ![0, 0] ∧ win0_1.index t = ![t.val, 0] ∧ win0_2.index t = ![0, t.val] :=
  (by decide +kernel : ∀ t : Fin grid0.N, _)

/-- The array the kernel leaves is the whole product. -/
theorem array : (dats m 0 c).arrAt 2 cfg0.N = nt (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nt]
  blk_point [iblk, V, idx t]

end Cert.Kernel33Ideal.Value

namespace Cert.Proof

theorem algebraic4 : Cert.algebraic_Kernel4Ideal_Reference4Ideal := by
  pair_intro
  · run_from Cert.Kernel4Ideal.Gen.run_main m g
  · run_from Cert.Reference4Ideal.Value.run m' g'
    rw [Cert.Kernel4Ideal.Value.array]
    funext i; idx_vars i
    pointwise [nt]

theorem frame_r4 : Cert.quiescent_Reference4Ideal := fun m g _ =>
  (θ_run _ _ _).mono (fun r h => ⟨fun c => ⟨(h c).2.1, (h c).2.2⟩, sem_eq_zero_of_no_sems (by decide) r.2⟩) (Cert.Reference4Ideal.Value.run (F := Ideal) m g)

theorem algebraic6 : Cert.algebraic_Kernel6Ideal_Reference6Ideal := by
  pair_intro
  · run_from Cert.Kernel6Ideal.Gen.run_main m g
  · run_from Cert.Reference6Ideal.Value.run m' g'
    rw [Cert.Kernel6Ideal.Value.array]
    funext i; idx_vars i
    pointwise [nt]

theorem frame_r6 : Cert.quiescent_Reference6Ideal := fun m g _ =>
  (θ_run _ _ _).mono (fun r h => ⟨fun c => ⟨(h c).2.1, (h c).2.2⟩, sem_eq_zero_of_no_sems (by decide) r.2⟩) (Cert.Reference6Ideal.Value.run (F := Ideal) m g)

theorem algebraic8 : Cert.algebraic_Kernel8Ideal_Reference8Ideal := by
  pair_intro
  · run_from Cert.Kernel8Ideal.Gen.run_main m g
  · run_from Cert.Reference8Ideal.Value.run m' g'
    rw [Cert.Kernel8Ideal.Value.array]
    funext i; idx_vars i
    pointwise [nt]

theorem frame_r8 : Cert.quiescent_Reference8Ideal := fun m g _ =>
  (θ_run _ _ _).mono (fun r h => ⟨fun c => ⟨(h c).2.1, (h c).2.2⟩, sem_eq_zero_of_no_sems (by decide) r.2⟩) (Cert.Reference8Ideal.Value.run (F := Ideal) m g)

theorem algebraic10 : Cert.algebraic_Kernel10Ideal_Reference10Ideal := by
  pair_intro
  · run_from Cert.Kernel10Ideal.Gen.run_main m g
  · run_from Cert.Reference10Ideal.Value.run m' g'
    rw [Cert.Kernel10Ideal.Value.array]
    funext i; idx_vars i
    pointwise [nt]

theorem frame_r10 : Cert.quiescent_Reference10Ideal := fun m g _ =>
  (θ_run _ _ _).mono (fun r h => ⟨fun c => ⟨(h c).2.1, (h c).2.2⟩, sem_eq_zero_of_no_sems (by decide) r.2⟩) (Cert.Reference10Ideal.Value.run (F := Ideal) m g)

theorem algebraic33 : Cert.algebraic_Kernel33Ideal_Reference33Ideal := by
  pair_intro
  · run_from Cert.Kernel33Ideal.Gen.run_main m g
  · run_from Cert.Reference33Ideal.Value.run m' g'
    rw [Cert.Kernel33Ideal.Value.array]
    funext i; idx_vars i
    pointwise [nt]

theorem frame_r33 : Cert.quiescent_Reference33Ideal := fun m g _ =>
  (θ_run _ _ _).mono (fun r h => ⟨fun c => ⟨(h c).2.1, (h c).2.2⟩, sem_eq_zero_of_no_sems (by decide) r.2⟩) (Cert.Reference33Ideal.Value.run (F := Ideal) m g)

end Cert.Proof

end
-- ==== Proof.Mm11.lean ====
/- The up-projection: the blocks of the kernel are those of the whole product. -/
module

public import proofs.«01_k».proof.Defs
public import proofs.«01_k».proof.Proof.Prod
public import proofs.«01_k».proof.Proof.Gen.Kernel11Ideal.Value
public import proofs.«01_k».proof.Proof.Gen.Reference11Ideal.Run

@[expose] public section

set_option maxRecDepth 16384

noncomputable section

namespace Cert.Kernel11Ideal.Value

open Cert.Kernel11Ideal.Gen Cert.Prod
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val / 8, 0] ∧ win0_1.index t = ![t.val % 8 / 2, 0, t.val % 8 % 2] ∧ win0_2.index t = ![t.val / 8, t.val % 8] :=
  (by decide +kernel : ∀ t : Fin grid0.N, _)

/-- The array the kernel leaves is the whole product. -/
theorem array : (dats m 0 c).arrAt 2 cfg0.N = nn (m (c.tc.loc main_arg0)) (whole (m (c.tc.loc main_arg1))) := by
  refine (dats m 0 c).arrAt_eq_of_covers 2 _ (by decide +kernel) fun t _ y => ?_
  blk_simp
  rw [after0_2]
  frame_out
  idx_vars y
  pointwise [k0_pay1, nn, whole]
  blk_point [iblk, V, idx t]

end Cert.Kernel11Ideal.Value

namespace Cert.Proof

open Cert.Prod
open Idealize.ShloMosaic Idealize.ShloMosaic.TcCoe Idealize.ShloMosaic.Tactic Idealize.SL.Sem

theorem algebraic11 : Cert.algebraic_Kernel11Ideal_Reference11Ideal := by
  pair_intro
  · run_from Cert.Kernel11Ideal.Gen.run_main m g
  · run_from Cert.Reference11Ideal.Value.run m' g'
    rw [Cert.Kernel11Ideal.Value.array]
    funext i; idx_vars i
    pointwise [nn, whole]
    refine Finset.sum_congr rfl fun k _ => ?_
    congr 1
    exact shard_of (fun s j => m (c.tc.loc Kernel11Ideal.main_arg1) (ix3 s k j)) i1

theorem frame_r11 : Cert.quiescent_Reference11Ideal := fun m g _ =>
  (θ_run _ _ _).mono (fun r h => ⟨fun c => ⟨(h c).2.1, (h c).2.2⟩, sem_eq_zero_of_no_sems (by decide) r.2⟩) (Cert.Reference11Ideal.Value.run (F := Ideal) m g)

end Cert.Proof

end
-- ==== Proof.MmY.lean ====
/- The products with weights: the blocks of each kernel are those of the whole product. -/
module

public import proofs.«01_k».proof.Defs
public import proofs.«01_k».proof.Proof.Prod
public import proofs.«01_k».proof.Proof.Gen.Kernel12Ideal.Value
public import proofs.«01_k».proof.Proof.Gen.Reference12Ideal.Run
public import proofs.«01_k».proof.Proof.Gen.Kernel13Ideal.Value
public import proofs.«01_k».proof.Proof.Gen.Reference13Ideal.Run
public import proofs.«01_k».proof.Proof.Gen.Kernel14Ideal.Value
public import proofs.«01_k».proof.Proof.Gen.Reference14Ideal.Run
public import proofs.«01_k».proof.Proof.Gen.Kernel15Ideal.Value
public import proofs.«01_k».proof.Proof.Gen.Reference15Ideal.Run
public import proofs.«01_k».proof.Proof.Gen.Kernel35Ideal.Value
public import proofs.«01_k».proof.Proof.Gen.Reference35Ideal.Run
public import proofs.«01_k».proof.Proof.Gen.Kernel36Ideal.Value
public import proofs.«01_k».proof.Proof.Gen.Reference36Ideal.Run

@[expose] public section

set_option maxRecDepth 16384

noncomputable section

open Cert.Prod
open Idealize.ShloMosaic Idealize.ShloMosaic.TcCoe Idealize.ShloMosaic.Tactic Idealize.SL.Sem

/-! The down-projection, added to the residual. -/

namespace Cert.Kernel12Ideal.Value

open Cert.Kernel12Ideal.Gen

variable (m : (ℓ : Loc nD τ sig) → Buf (Elt Ideal) ℓ) (c : Dev nD)

theorem idx : ∀ t : Fin cfg0.N, win0_0.index t = ![t.val / 4, 0] ∧ win0_1.index t = ![0, t.val % 4] ∧ win0_2.index t = ![t.val / 4, t.val % 4] ∧ win0_3.index t = ![t.val / 4, t.val % 4] :=
  (by decide +kernel : ∀ t : Fin grid0.N, _)

/-- The array the kernel leaves is the whole product. -/
theorem array : (dats m 0 c).arrAt 3 cfg0.N = addnn (m (c.tc.loc main_arg2)) (m (c.tc.loc main_arg0)) (m (c.tc.loc main_arg1)) := by
  refine (dats m 0 c).arrAt_eq_of_covers 3 _ (by decide +kernel) fun t _ y => ?_
  blk_simp
  rw [after0_3]
  frame_out
  idx_vars y
  pointwise [k0_pay1, addnn, nn]
  blk_point [iblk, V, idx t]

end Cert.Kernel12Ideal.Value

/-! The mixer's input projection. -/

namespace Cert.Kernel13Ideal.Value

open Cert.Kernel13Ideal.Gen

variable (m : (ℓ : Loc nD τ sig) → Buf (Elt Ideal) ℓ) (c : Dev nD)

theorem idx : ∀ t : Fin cfg0.N, win0_0.index t = ![t.val / 7, 0] ∧ win0_1.index t = ![0, t.val % 7] ∧ win0_2.index t = ![t.val / 7, t.val % 7] :=
  (by decide +kernel : ∀ t : Fin grid0.N, _)

/-- The array the kernel leaves is the whole product. -/
theorem array : (dats m 0 c).arrAt 2 cfg0.N = nn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nn]
  blk_point [iblk, V, idx t]

end Cert.Kernel13Ideal.Value

/-! A square projection, added to the residual. -/

namespace Cert.Kernel14Ideal.Value

open Cert.Kernel14Ideal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] ∧ win0_3.index t = ![t.val / 2, t.val % 2] :=
  (by decide +kernel : ∀ t : Fin grid0.N, _)

/-- The array the kernel leaves is the whole product. -/
theorem array : (dats m 0 c).arrAt 3 cfg0.N = addnn (m (c.tc.loc main_arg2)) (m (c.tc.loc main_arg0)) (m (c.tc.loc main_arg1)) := by
  refine (dats m 0 c).arrAt_eq_of_covers 3 _ (by decide +kernel) fun t _ y => ?_
  blk_simp
  rw [after0_3]
  frame_out
  idx_vars y
  pointwise [k0_pay1, addnn, nn]
  blk_point [iblk, V, idx t]

end Cert.Kernel14Ideal.Value

/-! A square projection. -/

namespace Cert.Kernel15Ideal.Value

open Cert.Kernel15Ideal.Gen

variable (m : (ℓ : Loc nD τ sig) → Buf (Elt Ideal) ℓ) (c : Dev nD)

theorem idx : ∀ t : Fin cfg0.N, win0_0.index t = ![t.val / 2, 0] ∧ win0_1.index t = ![0, t.val % 2] ∧ win0_2.index t = ![t.val / 2, t.val % 2] :=
  (by decide +kernel : ∀ t : Fin grid0.N, _)

/-- The array the kernel leaves is the whole product. -/
theorem array : (dats m 0 c).arrAt 2 cfg0.N = nn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nn]
  blk_point [iblk, V, idx t]

end Cert.Kernel15Ideal.Value

/-! The gates' projection. -/

namespace Cert.Kernel35Ideal.Value

open Cert.Kernel35Ideal.Gen

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The array the kernel leaves is the whole product. -/
theorem array : (dats m 0 c).arrAt 2 cfg0.N = nn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nn]
  blk_point [iblk, V, idx t]

end Cert.Kernel35Ideal.Value

/-! The memory's projection. -/

namespace Cert.Kernel36Ideal.Value

open Cert.Kernel36Ideal.Gen

variable (m : (ℓ : Loc nD τ sig) → Buf (Elt Ideal) ℓ) (c : Dev nD)

theorem idx : ∀ t : Fin cfg0.N, win0_0.index t = ![0, 0] ∧ win0_1.index t = ![0, t.val] ∧ win0_2.index t = ![0, t.val] :=
  (by decide +kernel : ∀ t : Fin grid0.N, _)

/-- The array the kernel leaves is the whole product. -/
theorem array : (dats m 0 c).arrAt 2 cfg0.N = nn (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, nn]
  blk_point [iblk, V, idx t]

end Cert.Kernel36Ideal.Value

namespace Cert.Proof

theorem algebraic12 : Cert.algebraic_Kernel12Ideal_Reference12Ideal := by
  pair_intro
  · run_from Cert.Kernel12Ideal.Gen.run_main m g
  · run_from Cert.Reference12Ideal.Value.run m' g'
    rw [Cert.Kernel12Ideal.Value.array]
    funext i; idx_vars i
    pointwise [addnn, nn]

theorem frame_r12 : Cert.quiescent_Reference12Ideal := fun m g _ =>
  (θ_run _ _ _).mono (fun r h => ⟨fun c => ⟨(h c).2.1, (h c).2.2.1, (h c).2.2.2⟩, sem_eq_zero_of_no_sems (by decide) r.2⟩) (Cert.Reference12Ideal.Value.run (F := Ideal) m g)

theorem algebraic13 : Cert.algebraic_Kernel13Ideal_Reference13Ideal := by
  pair_intro
  · run_from Cert.Kernel13Ideal.Gen.run_main m g
  · run_from Cert.Reference13Ideal.Value.run m' g'
    rw [Cert.Kernel13Ideal.Value.array]
    funext i; idx_vars i
    pointwise [nn]

theorem frame_r13 : Cert.quiescent_Reference13Ideal := fun m g _ =>
  (θ_run _ _ _).mono (fun r h => ⟨fun c => ⟨(h c).2.1, (h c).2.2⟩, sem_eq_zero_of_no_sems (by decide) r.2⟩) (Cert.Reference13Ideal.Value.run (F := Ideal) m g)

theorem algebraic14 : Cert.algebraic_Kernel14Ideal_Reference14Ideal := by
  pair_intro
  · run_from Cert.Kernel14Ideal.Gen.run_main m g
  · run_from Cert.Reference14Ideal.Value.run m' g'
    rw [Cert.Kernel14Ideal.Value.array]
    funext i; idx_vars i
    pointwise [addnn, nn]

theorem frame_r14 : Cert.quiescent_Reference14Ideal := fun m g _ =>
  (θ_run _ _ _).mono (fun r h => ⟨fun c => ⟨(h c).2.1, (h c).2.2.1, (h c).2.2.2⟩, sem_eq_zero_of_no_sems (by decide) r.2⟩) (Cert.Reference14Ideal.Value.run (F := Ideal) m g)

theorem algebraic15 : Cert.algebraic_Kernel15Ideal_Reference15Ideal := by
  pair_intro
  · run_from Cert.Kernel15Ideal.Gen.run_main m g
  · run_from Cert.Reference15Ideal.Value.run m' g'
    rw [Cert.Kernel15Ideal.Value.array]
    funext i; idx_vars i
    pointwise [nn]

theorem frame_r15 : Cert.quiescent_Reference15Ideal := fun m g _ =>
  (θ_run _ _ _).mono (fun r h => ⟨fun c => ⟨(h c).2.1, (h c).2.2⟩, sem_eq_zero_of_no_sems (by decide) r.2⟩) (Cert.Reference15Ideal.Value.run (F := Ideal) m g)

theorem algebraic35 : Cert.algebraic_Kernel35Ideal_Reference35Ideal := by
  pair_intro
  · run_from Cert.Kernel35Ideal.Gen.run_main m g
  · run_from Cert.Reference35Ideal.Value.run m' g'
    rw [Cert.Kernel35Ideal.Value.array]
    funext i; idx_vars i
    pointwise [nn]

theorem frame_r35 : Cert.quiescent_Reference35Ideal := fun m g _ =>
  (θ_run _ _ _).mono (fun r h => ⟨fun c => ⟨(h c).2.1, (h c).2.2⟩, sem_eq_zero_of_no_sems (by decide) r.2⟩) (Cert.Reference35Ideal.Value.run (F := Ideal) m g)

theorem algebraic36 : Cert.algebraic_Kernel36Ideal_Reference36Ideal := by
  pair_intro
  · run_from Cert.Kernel36Ideal.Gen.run_main m g
  · run_from Cert.Reference36Ideal.Value.run m' g'
    rw [Cert.Kernel36Ideal.Value.array]
    funext i; idx_vars i
    pointwise [nn]

theorem frame_r36 : Cert.quiescent_Reference36Ideal := fun m g _ =>
  (θ_run _ _ _).mono (fun r h => ⟨fun c => ⟨(h c).2.1, (h c).2.2⟩, sem_eq_zero_of_no_sems (by decide) r.2⟩) (Cert.Reference36Ideal.Value.run (F := Ideal) m g)

end Cert.Proof

end
-- ==== Proof.Norm.lean ====
/- The RMS norm of the rows of an array and its gradient, entry by entry. -/
module

public import Idealize.ShloMosaic.Lib.Pipeline.ValueKit

@[expose] public section

noncomputable section

namespace Cert.Norm

open Idealize.ShloMosaic Idealize.ShloMosaic.Tactic

variable {a n : ℕ} (N : EReal)

/-- The mean of a row's squares and the small constant; `N` is the row's length. -/
def ms (X : (⟨2, ![a, n]⟩ : Shape).Idx → EReal) (r : Fin a) : EReal :=
  Ideal.div (∑ k : Fin n, X (ix2 r k) * X (ix2 r k)) N + Ideal.ofBits .f32 0x358637BD#32

/-- The norm itself. -/
def rms (X : (⟨2, ![a, n]⟩ : Shape).Idx → EReal) (G : (⟨1, ![n]⟩ : Shape).Idx → EReal) : (⟨2, ![a, n]⟩ : Shape).Idx → EReal :=
  fun i => X i * Ideal.rsqrt (ms N X (i 0)) * G (ix1 (i 1))

/-- What the mean of the squares sends back to the row's entries. -/
def back (X : (⟨2, ![a, n]⟩ : Shape).Idx → EReal) (G : (⟨1, ![n]⟩ : Shape).Idx → EReal) (D : (⟨2, ![a, n]⟩ : Shape).Idx → EReal) (r : Fin a) : EReal :=
  Ideal.div ((∑ k : Fin n, X (ix2 r k) * (D (ix2 r k) * G (ix1 k)))
    * (Ideal.ofBits .f32 0xBF000000#32 * Ideal.div (Ideal.rsqrt (ms N X r)) (ms N X r))) N

/-- The gradient of the rows. -/
def dx (X : (⟨2, ![a, n]⟩ : Shape).Idx → EReal) (G : (⟨1, ![n]⟩ : Shape).Idx → EReal) (D : (⟨2, ![a, n]⟩ : Shape).Idx → EReal) : (⟨2, ![a, n]⟩ : Shape).Idx → EReal :=
  fun i => D i * G (ix1 (i 1)) * Ideal.rsqrt (ms N X (i 0)) + X i * back N X G D (i 0) + back N X G D (i 0) * X i

/-- The gradient of the rows, added to an array. -/
def dxr (X : (⟨2, ![a, n]⟩ : Shape).Idx → EReal) (G : (⟨1, ![n]⟩ : Shape).Idx → EReal) (D R : (⟨2, ![a, n]⟩ : Shape).Idx → EReal) : (⟨2, ![a, n]⟩ : Shape).Idx → EReal :=
  fun i => dx N X G D i + R i

/-- The gradient of the gain: a sum over the rows. -/
def dg (X D : (⟨2, ![a, n]⟩ : Shape).Idx → EReal) : (⟨2, ![1, n]⟩ : Shape).Idx → EReal :=
  fun i => ∑ r : Fin a, X (ix2 r (i 1)) * Ideal.rsqrt (ms N X r) * D (ix2 r (i 1))

end Cert.Norm

end
-- ==== Proof.Nm16.lean ====
/- The gradient of the RMS norm of 8192 rows, by blocks of 256 rows. -/
module

public import proofs.«01_k».proof.Defs
public import proofs.«01_k».proof.Proof.Norm
public import proofs.«01_k».proof.Proof.Gen.Kernel16Ideal.Value
public import proofs.«01_k».proof.Proof.Gen.Reference16Ideal.Run

@[expose] public section

set_option maxRecDepth 16384

noncomputable section

namespace Cert.Kernel16Ideal.Value

open Cert.Kernel16Ideal.Gen Cert.Norm
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] ∧ win0_6.index t = ![0, 0] :=
  (by decide +kernel : ∀ t : Fin grid0.N, _)

/-- What a point writes for the rows of its block. -/
theorem rows (t : Fin cfg0.N) : (outsAt0 m c t.val t.isLt).1 = k0_pay6 (F := Ideal) (iblk m c 0 t) (iblk m c 1 t) (iblk m c 2 t) (iblk m c 3 t)
    ∧ (outsAt0 m c t.val t.isLt).2.1 = k0_pay1 (F := Ideal) (k0_pay6 (F := Ideal) (iblk m c 0 t) (iblk m c 1 t) (iblk m c 2 t) (iblk m c 3 t)) := by
  have hN : t.val < 32 := lt_of_lt_of_eq t.isLt (show cfg0.N = 32 from N_0)
  by_cases h : t.val % 32 = 0
  · rw [outsAt0_A m c t h (by omega)]
    frame_out
    exact ⟨trivial, trivial⟩
  · rw [outsAt0_B m c t h (by omega)]
    frame_out
    exact ⟨trivial, trivial⟩

/-- The gradients of the rows, in both formats. -/
theorem array_dx : (dats m 0 c).arrAt 4 cfg0.N = dxr (Ideal.ofBits .f32 0x45000000#32) (m (c.tc.loc main_arg0)) (m (c.tc.loc main_arg1)) (m (c.tc.loc main_arg2)) (m (c.tc.loc main_arg3)) := by
  refine (dats m 0 c).arrAt_eq_of_covers 4 _ (by decide +kernel) fun t _ y => ?_
  blk_simp
  rw [after0_4, (rows m c t).1]
  idx_vars y
  pointwise [k0_pay6, k0_pay4, k0_pay3, dxr, dx, back, ms]
  simp only [Fin.sum_univ_one]
  blk_point [iblk, V, idx t]

theorem array_dxb : (dats m 0 c).arrAt 5 cfg0.N = dxr (Ideal.ofBits .f32 0x45000000#32) (m (c.tc.loc main_arg0)) (m (c.tc.loc main_arg1)) (m (c.tc.loc main_arg2)) (m (c.tc.loc main_arg3)) := by
  refine (dats m 0 c).arrAt_eq_of_covers 5 _ (by decide +kernel) fun t _ y => ?_
  blk_simp
  rw [after0_5, (rows m c t).2]
  idx_vars y
  pointwise [k0_pay1, k0_pay6, k0_pay4, k0_pay3, dxr, dx, back, ms]
  simp only [Fin.sum_univ_one]
  blk_point [iblk, V, idx t]

/-- The gradient of the gain: the blocks' sums of rows, added up point by point. -/
theorem array_dg : (dats m 0 c).arrAt 6 cfg0.N = dg (Ideal.ofBits .f32 0x45000000#32) (m (c.tc.loc main_arg0)) (m (c.tc.loc main_arg2)) := by
  refine (dats m 0 c).arrAt_eq_of_covers 6 _ (by decide +kernel) fun t hf y => ?_
  have hN : ∀ t : Fin cfg0.N, t.val < 32 := fun t => lt_of_lt_of_eq t.isLt (show cfg0.N = 32 from N_0)
  blk_simp
  rw [after0_6, Pipeline.eq_sum_fin_of_reset_step_apply_of_flush (fun n h => (outsAt0 m c n h).2.2) 32 (fun _ => 0)
    (fun p j => k0_pay5 (F := Ideal) (iblk m c 0 p) (iblk m c 2 p) j)
    (fun t h j => by rw [outsAt0_A m c t h (by have := hN t; omega)]; frame_out; exact (zero_add _).symm)
    (fun t h j => by rw [outsAt0_B m c t h (by omega)]; frame_out; pointwise [k0_pay2])
    t ((flush0_6 t).mp hf) _, zero_add]
  idx_vars y
  pointwise [k0_pay5, k0_pay4, k0_pay3, dg, ms]
  refine Fin.sum_mul_add_congr fun s k hl => ?_
  blk_point [iblk, V, idx t, idx ⟨_, Pipeline.run_point_lt_of_flush t ((flush0_6 t).mp hf) s⟩]

end Cert.Kernel16Ideal.Value

namespace Cert.Proof

open Cert.Norm
open Idealize.ShloMosaic Idealize.ShloMosaic.TcCoe Idealize.ShloMosaic.Tactic Idealize.SL.Sem

theorem algebraic16 : Cert.algebraic_Kernel16Ideal_Reference16Ideal := by
  pair_intro
  · run_from Cert.Kernel16Ideal.Gen.run_main m g
  · run_from Cert.Reference16Ideal.Value.run m' g'
    · rw [Cert.Kernel16Ideal.Value.array_dx]
      funext i; idx_vars i
      pointwise [dxr, dx, back, ms]
      simp only [Fin.sum_univ_one]
      exact add_comm _ _
    · rw [Cert.Kernel16Ideal.Value.array_dxb]
      funext i; idx_vars i
      pointwise [dxr, dx, back, ms]
      simp only [Fin.sum_univ_one]
      exact add_comm _ _
    · rw [Cert.Kernel16Ideal.Value.array_dg]
      funext i; idx_vars i
      pointwise [dg, ms]
      try simp only [Fin.sum_univ_one]

theorem frame_r16 : Cert.quiescent_Reference16Ideal := fun m g _ =>
  (θ_run _ _ _).mono (fun r h => ⟨fun c => ⟨(h c).2.2.2.1, (h c).2.2.2.2.1, (h c).2.2.2.2.2.1, (h c).2.2.2.2.2.2⟩, sem_eq_zero_of_no_sems (by decide) r.2⟩) (Cert.Reference16Ideal.Value.run (F := Ideal) m g)

end Cert.Proof

end
-- ==== Proof.Nm17.lean ====
/- The gradient of the RMS norm of the memory's 256 rows, one block. -/
module

public import proofs.«01_k».proof.Defs
public import proofs.«01_k».proof.Proof.Norm
public import proofs.«01_k».proof.Proof.Gen.Kernel17Ideal.Value
public import proofs.«01_k».proof.Proof.Gen.Reference17Ideal.Run

@[expose] public section

set_option maxRecDepth 16384

noncomputable section

namespace Cert.Kernel17Ideal.Value

open Cert.Kernel17Ideal.Gen Cert.Norm
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The gradients of the rows and of the gain. -/
theorem arrays : (dats m 0 c).arrAt 3 cfg0.N = dx (Ideal.ofBits .f32 0x45000000#32) (m (c.tc.loc main_arg0)) (m (c.tc.loc main_arg1)) (m (c.tc.loc main_arg2))
    ∧ (dats m 0 c).arrAt 4 cfg0.N = dx (Ideal.ofBits .f32 0x45000000#32) (m (c.tc.loc main_arg0)) (m (c.tc.loc main_arg1)) (m (c.tc.loc main_arg2))
    ∧ (dats m 0 c).arrAt 5 cfg0.N = dg (Ideal.ofBits .f32 0x45000000#32) (m (c.tc.loc main_arg0)) (m (c.tc.loc main_arg2)) := by
  refine ⟨(dats m 0 c).arrAt_eq_of_covers 3 _ (by decide +kernel) fun t _ y => ?_, (dats m 0 c).arrAt_eq_of_covers 4 _ (by decide +kernel) fun t _ y => ?_,
    (dats m 0 c).arrAt_eq_of_covers 5 _ (by decide +kernel) fun t _ y => ?_⟩
  · blk_simp
    rw [after0_3]; unfold outsAt0; frame_out
    idx_vars y
    pointwise [k0_pay5, k0_pay3, k0_pay2, dx, back, ms]
    simp only [Fin.sum_univ_one]
    blk_point [iblk, V, idx t]
  · blk_simp
    rw [after0_4]; unfold outsAt0; frame_out
    idx_vars y
    pointwise [k0_pay6, k0_pay5, k0_pay3, k0_pay2, dx, back, ms]
    simp only [Fin.sum_univ_one]
    blk_point [iblk, V, idx t]
  · blk_simp
    rw [after0_5]; unfold outsAt0; frame_out
    idx_vars y
    pointwise [k0_pay4, k0_pay3, k0_pay2, dg, ms]
    blk_point [iblk, V, idx t]

end Cert.Kernel17Ideal.Value

namespace Cert.Proof

open Cert.Norm
open Idealize.ShloMosaic Idealize.ShloMosaic.TcCoe Idealize.ShloMosaic.Tactic Idealize.SL.Sem

theorem algebraic17 : Cert.algebraic_Kernel17Ideal_Reference17Ideal := by
  pair_intro
  · run_from Cert.Kernel17Ideal.Gen.run_main m g
  · run_from Cert.Reference17Ideal.Value.run m' g'
    · rw [(Cert.Kernel17Ideal.Value.arrays m c).1]
      funext i; idx_vars i
      pointwise [dx, back, ms]
      simp only [Fin.sum_univ_one]
    · rw [(Cert.Kernel17Ideal.Value.arrays m c).2.1]
      funext i; idx_vars i
      pointwise [dx, back, ms]
      simp only [Fin.sum_univ_one]
    · rw [(Cert.Kernel17Ideal.Value.arrays m c).2.2]
      funext i; idx_vars i
      pointwise [dg, ms]
      simp only [Fin.sum_univ_one]

theorem frame_r17 : Cert.quiescent_Reference17Ideal := fun m g _ =>
  (θ_run _ _ _).mono (fun r h => ⟨fun c => ⟨(h c).2.2.2.1, (h c).2.2.2.2.1, (h c).2.2.2.2.2⟩, sem_eq_zero_of_no_sems (by decide) r.2⟩) (Cert.Reference17Ideal.Value.run (F := Ideal) m g)

end Cert.Proof

end
-- ==== Proof.Conv.lean ====
/- The gradients of a causal convolution along the rows, one filter a column: the array's gradient reads the rows after,
   a filter tap's gradient the rows before. -/
module

public import Idealize.ShloMosaic.PureOps
public import Idealize.ShloMosaic.Lib.Pipeline.ValueKit

@[expose] public section

noncomputable section

namespace Cert.Conv

open Idealize.ShloMosaic Idealize.ShloMosaic.Tactic

variable {n k : ℕ}

/-- A choice on two counters being equal. -/
theorem pick {α : Type} (a b : ℕ) (ha : a < 2 ^ 32) (hb : b < 2 ^ 32) (x y : α) :
    Scalar.select (IntOp.cmpi .eq (BitVec.ofNat 32 a) (BitVec.ofNat 32 b)) x y = if a = b then x else y := by
  by_cases h : a = b
  · subst h; simp [Scalar.select, IntOp.cmpi]
  · have h' : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp only [Scalar.select, IntOp.cmpi, beq_eq_false_iff_ne.mpr h', if_neg h]
    exact if_neg (by decide)

/-- The rows moved down by `s`, zeros before the first. -/
def early (s : ℕ) (X : Fin 8192 → Fin n → EReal) (i : Fin 8192) (j : Fin n) : EReal :=
  if i.val < s then 0 else X ⟨i.val - s, by omega⟩ j

/-- The rows moved up by `s`, zeros after the last. -/
def late (s : ℕ) (D : Fin 8192 → Fin n → EReal) (i : Fin 8192) (j : Fin n) : EReal :=
  if h : i.val + s < 8192 then D ⟨i.val + s, h⟩ j else 0

theorem early_lt {s : ℕ} (X : Fin 8192 → Fin n → EReal) {i : Fin 8192} (j : Fin n) (h : i.val < s) : early s X i j = 0 := if_pos h
theorem early_ge {s : ℕ} (X : Fin 8192 → Fin n → EReal) {i : Fin 8192} (j : Fin n) (h : s ≤ i.val) : early s X i j = X ⟨i.val - s, by omega⟩ j := if_neg (by omega)
theorem late_lt {s : ℕ} (D : Fin 8192 → Fin n → EReal) {i : Fin 8192} (j : Fin n) (h : i.val + s < 8192) : late s D i j = D ⟨i.val + s, h⟩ j := dif_pos h
theorem late_ge {s : ℕ} (D : Fin 8192 → Fin n → EReal) {i : Fin 8192} (j : Fin n) (h : 8192 ≤ i.val + s) : late s D i j = 0 := dif_neg (by omega)

/-- The gradient of the tap that reads `s` rows back. -/
def tap (s : ℕ) (X D : Fin 8192 → Fin n → EReal) (j : Fin n) : EReal := ∑ i : Fin 8192, D i j * early s X i j

/-- A tap's gradient from the sums of 32 blocks of rows. -/
theorem sum_tap {X D : Fin 8192 → Fin n → EReal} {j : Fin n} {f : Fin 32 → Fin 256 → EReal} (hf : ∀ x r (i : Fin 8192), i.val = x.val * 256 + r.val → f x r = D i j)
    {s : ℕ} {g : Fin 32 → Fin 256 → EReal} (hg : ∀ x r (i : Fin 8192), i.val = x.val * 256 + r.val → g x r = early s X i j) :
    (∑ x : Fin 32, ∑ r : Fin 256, f x r * g x r) = tap s X D j :=
  Fin.sum_mul_add_congr fun x r hl => congrArg₂ (· * ·) (hf x r ⟨_, hl⟩ rfl) (hg x r ⟨_, hl⟩ rfl)

/-- The gradients of the array and of the filters at three taps and at four. -/
def dx3 (w : (⟨2, ![3, n]⟩ : Shape).Idx → EReal) (D : Fin 8192 → Fin n → EReal) (i : Fin 8192) (j : Fin n) : EReal :=
  D i j * w (ix2 2 j) + late 2 D i j * w (ix2 0 j) + late 1 D i j * w (ix2 1 j)

/-- The convolution itself at three taps. -/
def taps3 (w : (⟨2, ![3, n]⟩ : Shape).Idx → EReal) (X : Fin 8192 → Fin n → EReal) (i : Fin 8192) (j : Fin n) : EReal :=
  X i j * w (ix2 2 j) + early 2 X i j * w (ix2 0 j) + early 1 X i j * w (ix2 1 j)

/-- And at four. -/
def taps4 (w : (⟨2, ![4, n]⟩ : Shape).Idx → EReal) (X : Fin 8192 → Fin n → EReal) (i : Fin 8192) (j : Fin n) : EReal :=
  X i j * w (ix2 3 j) + early 3 X i j * w (ix2 0 j) + early 2 X i j * w (ix2 1 j) + early 1 X i j * w (ix2 2 j)

/-- The taps in the order of the rows. -/
theorem taps3_of {w : (⟨2, ![3, n]⟩ : Shape).Idx → EReal} {X : Fin 8192 → Fin n → EReal} {i : Fin 8192} {j : Fin n} {a b : EReal} (ha : a = early 2 X i j) (hb : b = early 1 X i j) :
    a * w (ix2 0 j) + b * w (ix2 1 j) + X i j * w (ix2 2 j) = taps3 w X i j := by
  rw [ha, hb, taps3, add_comm, ← add_assoc]

theorem taps4_of {w : (⟨2, ![4, n]⟩ : Shape).Idx → EReal} {X : Fin 8192 → Fin n → EReal} {i : Fin 8192} {j : Fin n} {a b e : EReal} (ha : a = early 3 X i j) (hb : b = early 2 X i j)
    (he : e = early 1 X i j) : a * w (ix2 0 j) + b * w (ix2 1 j) + e * w (ix2 2 j) + X i j * w (ix2 3 j) = taps4 w X i j := by
  rw [ha, hb, he, taps4, add_comm, ← add_assoc, ← add_assoc]

/-- A row of a block of 256 with the 16 rows before it, none before the first block. -/
theorem ext_of {s : ℕ} {X : Fin 8192 → Fin n → EReal} {i : Fin 8192} {j : Fin n} (t r : ℕ) (hs : s ≤ 16) (ht : t < 32) (hi : i.val = t * 256 + r) (hr : r < 256) {p : ℕ} (hp : p = 16 + r - s)
    {f : p < 16 → EReal} {g : ¬p < 16 → EReal} (hf : ∀ h, t ≠ 0 → ∀ k : Fin 8192, k.val = t * 256 + p - 16 → f h = X k j) (hg : ∀ h, ∀ k : Fin 8192, k.val = t * 256 + p - 16 → g h = X k j) :
    (if h : p < 16 then Scalar.select (IntOp.cmpi .eq (BitVec.ofNat 32 t) 0#32) 0 (f h) else g h) = early s X i j := by
  split
  · refine (pick t 0 (by omega) (by omega) _ _).trans ?_
    split
    · exact (early_lt _ _ (by omega)).symm
    · exact (hf _ ‹_› _ (by dsimp only; omega)).trans (early_ge _ _ (by omega)).symm
  · exact (hg _ _ (by dsimp only; omega)).trans (early_ge _ _ (by omega)).symm

def dw3 (X D : Fin 8192 → Fin n → EReal) (r : Fin 8) (j : Fin n) : EReal :=
  (if r.val = 2 then tap 0 X D j else 0) + (if r.val = 0 then tap 2 X D j else 0) + (if r.val = 1 then tap 1 X D j else 0)

def dx4 (w : (⟨2, ![4, n]⟩ : Shape).Idx → EReal) (D : Fin 8192 → Fin n → EReal) (i : Fin 8192) (j : Fin n) : EReal :=
  D i j * w (ix2 3 j) + late 3 D i j * w (ix2 0 j) + late 2 D i j * w (ix2 1 j) + late 1 D i j * w (ix2 2 j)

def dw4 (X D : Fin 8192 → Fin n → EReal) (r : Fin 8) (j : Fin n) : EReal :=
  (if r.val = 3 then tap 0 X D j else 0) + (if r.val = 0 then tap 3 X D j else 0) + (if r.val = 1 then tap 2 X D j else 0) + (if r.val = 2 then tap 1 X D j else 0)

theorem row_congr {p : Prop} [Decidable p] {a b : EReal} (h : a = b) : (if p then a else 0) = if p then b else 0 := by rw [h]

/-- A product with a row after, where there is one. -/
theorem late_of (s : ℕ) (D : Fin 8192 → Fin n → EReal) (i : Fin 8192) (j : Fin n) (w : EReal) {p : Prop} [Decidable p] (f : p → Fin 8192) (hp : p ↔ i.val + s < 8192)
    (hf : ∀ h, (f h).val = i.val + s) : (if h : p then D (f h) j * w else 0) = late s D i j * w := by
  by_cases h : p
  · rw [dif_pos h, late_lt D j (hp.mp h)]
    exact congrArg (fun k => D k j * w) (Fin.ext (hf h))
  · rw [dif_neg h, late_ge D j (not_lt.mp fun e => h (hp.mpr e)), zero_mul]

theorem early_of (s : ℕ) (X : Fin 8192 → Fin n → EReal) (i : Fin 8192) (j : Fin n) {p : Prop} [Decidable p] (f : ¬p → Fin 8192) (hp : p ↔ i.val < s)
    (hf : ∀ h, (f h).val = i.val - s) : (if h : p then 0 else X (f h) j) = early s X i j := by
  by_cases h : p
  · rw [dif_pos h, early_lt X j (hp.mp h)]
  · rw [dif_neg h, early_ge X j (not_lt.mp fun e => h (hp.mpr e))]
    exact congrArg (fun k => X k j) (Fin.ext (hf h))

/-- A tap's gradient as one sum. -/
theorem tap_of (s : ℕ) (X D : Fin 8192 → Fin n → EReal) (j : Fin n) (g : Fin 8192 → EReal) (hg : ∀ x, g x = early s X x j) : (∑ x, g x * D x j) = tap s X D j :=
  Finset.sum_congr rfl fun x _ => by rw [hg, mul_comm]

theorem tap_last (s l : ℕ) (hl : s + l = 8192) (X D : Fin 8192 → Fin n → EReal) (j : Fin n) :
    (∑ x : Fin s, 0 * D ⟨x.val, by omega⟩ j) + (∑ x : Fin l, X ⟨x.val, by omega⟩ j * D ⟨s + x.val, by omega⟩ j) = tap s X D j := by
  refine ((Fin.sum_congr' (fun x => D x j * early s X x j) hl).symm.trans ((Fin.sum_univ_add _).trans (congrArg₂ (· + ·)
    (Finset.sum_congr rfl fun x _ => ?_) (Finset.sum_congr rfl fun x _ => ?_)))).symm
  · rw [mul_comm, early_lt X j (by exact x.isLt)]
    rfl
  · rw [mul_comm, early_ge X j (by show s ≤ s + x.val; omega)]
    exact congrArg (fun k => X k j * _) (Fin.ext (by show s + x.val - s = x.val; omega))

/-- The filters' gradients, row by row. -/
theorem dw3_of {X D : Fin 8192 → Fin n → EReal} {r : Fin 8} {j : Fin n} {a b c : EReal} (ha : a = tap 0 X D j) (hb : b = tap 1 X D j) (hc : c = tap 2 X D j) :
    (if _h : r.val < 3 then (if _h : 2 ≤ r.val ∧ r.val - 2 < 1 then ∑ _x : Fin 1, a else 0) + (if _h : 1 ≤ r.val ∧ r.val - 1 < 1 then ∑ _x : Fin 1, b else 0)
      + (if _h : r.val < 1 then ∑ _x : Fin 1, c else 0) else 0) = dw3 X D r j := by
  unfold dw3
  rw [← ha, ← hb, ← hc]
  obtain ⟨r, hr⟩ := r
  clear ha hb hc
  interval_cases r <;> simp

theorem dw4_of {X D : Fin 8192 → Fin n → EReal} {r : Fin 8} {j : Fin n} {a b c e : EReal} (ha : a = tap 0 X D j) (hb : b = tap 1 X D j) (hc : c = tap 2 X D j) (he : e = tap 3 X D j) :
    (if _h : r.val < 4 then (if _h : 3 ≤ r.val ∧ r.val - 3 < 1 then ∑ _x : Fin 1, a else 0) + (if _h : 2 ≤ r.val ∧ r.val - 2 < 1 then ∑ _x : Fin 1, b else 0)
      + (if _h : 1 ≤ r.val ∧ r.val - 1 < 1 then ∑ _x : Fin 1, c else 0) + (if _h : r.val < 1 then ∑ _x : Fin 1, e else 0) else 0) = dw4 X D r j := by
  unfold dw4
  rw [← ha, ← hb, ← hc, ← he]
  obtain ⟨r, hr⟩ := r
  clear ha hb hc he
  interval_cases r <;> simp

end Cert.Conv

end
-- ==== Proof.Cv18.lean ====
/- The gradients of the feed-forward convolution, three taps: a point takes 256 rows of a column half and the rows beside
   them, and the filters' gradient is added up over the points. -/
module

public import proofs.«01_k».proof.Defs
public import proofs.«01_k».proof.Proof.Conv
public import proofs.«01_k».proof.Proof.Gen.Kernel18Ideal.Value
public import proofs.«01_k».proof.Proof.Gen.Reference18Ideal.Run

@[expose] public section

set_option maxRecDepth 16384

noncomputable section

namespace Cert.Kernel18Ideal.Value

open Cert.Kernel18Ideal.Gen Cert.Conv
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val % 32, t.val / 32] ∧ win0_1.index t = ![t.val % 32 * 16 - 1, t.val / 32] ∧ win0_2.index t = ![0, t.val / 32] ∧ win0_3.index t = ![t.val / 64 * 32 + t.val % 32, t.val / 32 % 2]
   ∧ win0_4.index t = ![t.val / 64 * 512 + min (t.val % 32 * 16 + 16) 511, t.val / 32 % 2] ∧ win0_5.index t = ![t.val % 32, t.val / 32] ∧ win0_6.index t = ![0, t.val / 32] ∧ grid0.coords t 1 = ⟨t.val % 32, Nat.mod_lt _ (by norm_num)⟩ :=
  (by decide +kernel : ∀ t : Fin grid0.N, _)

/-- The array and the result's gradient, by row and column. -/
def X (x : (⟨2, ![8192, 11264]⟩ : Shape).Idx → EReal) (i : Fin 8192) (j : Fin 11264) : EReal := x (ix2 i j)
def D (d : (⟨3, ![2, 8192, 5632]⟩ : Shape).Idx → EReal) (i : Fin 8192) (j : Fin 11264) : EReal :=
  if h : j.val < 5632 then d (ix3 0 i (⟨j.val, h⟩ : Fin 5632)) else d (ix3 1 i (⟨j.val - 5632, by omega⟩ : Fin 5632))

/-- The array's tile at a point, with the rows before it. -/
theorem x0 (t : Fin cfg0.N) (r : Fin 256) (y : Fin 2816) (i : Fin 8192) (hi : i.val = t.val % 32 * 256 + r.val) (j : Fin 11264) (hj : j.val = t.val / 32 * 2816 + y.val) :
    iblk m c 0 t (ix2 r y) = X (m (c.tc.loc main_arg0)) i j :=
  by unfold X; blk_ext [iblk, V, idx t]

theorem ext (t : Fin cfg0.N) (r : Fin 256) (y : Fin 2816) (s : ℕ) (hs : s ≤ 16) (p : Fin 272) (hp : p.val = 16 + r.val - s) (i : Fin 8192) (hi : i.val = t.val % 32 * 256 + r.val)
    (j : Fin 11264) (hj : j.val = t.val / 32 * 2816 + y.val) :
    k0_pay5 (F := Ideal) (grid0.coords t) (iblk m c 0 t) (iblk m c 1 t) (ix2 p y) = early s (X (m (c.tc.loc main_arg0))) i j := by
  pointwise [k0_pay5, k0_pay4]
  rw [(idx t).2.2.2.2.2.2.2]
  have ht := lt_of_lt_of_eq t.isLt N_0
  split
  · refine (pick (t.val % 32) 0 (by omega) (by omega) _ _).trans ?_
    split
    · exact (early_lt _ _ (by omega)).symm
    · refine Eq.trans ?_ (early_ge _ _ (by omega)).symm
      unfold X
      blk_ext [iblk, V, idx t]
  · exact (x0 m c t _ _ _ (by dsimp only; omega) _ hj).trans (early_ge _ _ (by omega)).symm

/-- The result's gradient's tile at a point, with the rows after it. -/
theorem d0 (t : Fin cfg0.N) (r : Fin 256) (y : Fin 2816) (i : Fin 8192) (hi : i.val = t.val % 32 * 256 + r.val) (j : Fin 11264) (hj : j.val = t.val / 32 * 2816 + y.val) :
    iblk m c 3 t (ix2 r y) = D (m (c.tc.loc main_arg2)) i j := by
  unfold D
  have ht := lt_of_lt_of_eq t.isLt N_0
  split <;> blk_ext! [iblk, V, idx t]

theorem ext' (t : Fin cfg0.N) (r : Fin 256) (y : Fin 2816) (s : ℕ) (hs : s ≤ 16) (p : Fin 272) (hp : p.val = r.val + s) (i : Fin 8192) (hi : i.val = t.val % 32 * 256 + r.val)
    (j : Fin 11264) (hj : j.val = t.val / 32 * 2816 + y.val) :
    k0_pay7 (F := Ideal) (grid0.coords t) (iblk m c 3 t) (iblk m c 4 t) (ix2 p y) = late s (D (m (c.tc.loc main_arg2))) i j := by
  pointwise [k0_pay7, k0_pay6]
  rw [(idx t).2.2.2.2.2.2.2]
  have ht := lt_of_lt_of_eq t.isLt N_0
  split
  · exact (d0 m c t _ _ _ (by dsimp only; omega) _ hj).trans (late_lt _ _ (by omega)).symm
  · refine (pick (t.val % 32) 31 (by omega) (by omega) _ _).trans ?_
    split
    · exact (late_ge _ _ (by omega)).symm
    · refine Eq.trans ?_ (late_lt _ _ (by omega)).symm
      unfold D
      split <;> blk_ext! [iblk, V, idx t]

theorem rows (t : Fin cfg0.N) : (outsAt0 m c t.val t.isLt).1 = k0_pay2 (F := Ideal) (iblk m c 2 t) (k0_pay7 (F := Ideal) (grid0.coords t) (iblk m c 3 t) (iblk m c 4 t))
        (k0_pay9 (F := Ideal) (grid0.coords t) (iblk m c 2 t) (iblk m c 3 t) (iblk m c 4 t)) := by
  by_cases h : t.val % 32 = 0
  · rw [outsAt0_A m c t h (by omega)]
    frame_out
  · rw [outsAt0_B m c t h (by omega)]
    frame_out

theorem array_dx : (dats m 0 c).arrAt 5 cfg0.N = fun i => dx3 (m (c.tc.loc main_arg1)) (D (m (c.tc.loc main_arg2))) (i 0) (i 1) := by
  refine (dats m 0 c).arrAt_eq_of_covers 5 _ (by decide +kernel) fun t _ y => ?_
  blk_simp
  rw [after0_5, rows m c t]
  idx_vars y
  pointwise [k0_pay2, k0_pay9, k0_pay6, dx3]
  have e0 : (((View.whole main_v1_0).slice (win0_5.rect t)).emb (ix2 y0 y1) 0).val = t.val % 32 * 256 + y0.val := by blk_simp [idx t]
  have e1 : (((View.whole main_v1_0).slice (win0_5.rect t)).emb (ix2 y0 y1) 1).val = t.val / 32 * 2816 + y1.val := by blk_simp [idx t]
  rw [d0 m c t y0 y1 _ e0 _ e1, ext' m c t y0 y1 2 _ _ _ _ e0 _ e1, ext' m c t y0 y1 1 _ _ _ _ e0 _ e1]
  · blk_point [iblk, V, idx t]
  all_goals first | omega | (dsimp only; omega)

/-- What a point adds to the filters' gradients. -/
abbrev part (t : Fin cfg0.N) : Vec Ideal S8x2816 .f32 := k0_pay1 (F := Ideal) (k0_pay5 (grid0.coords t) (iblk m c 0 t) (iblk m c 1 t)) (k0_pay6 (iblk m c 3 t)) (iota Kind.tc S8x2816 32 [0] iota_S8x2816_d0_w32)
  (k0_pay8 (iblk m c 0 t) (iblk m c 3 t)) (k0_pay10 (grid0.coords t) (iblk m c 0 t) (iblk m c 1 t))

theorem array_dw : (dats m 0 c).arrAt 6 cfg0.N = fun i => dw3 (X (m (c.tc.loc main_arg0))) (D (m (c.tc.loc main_arg2))) (i 0) (i 1) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0)
    (fun p j => part m c p j)
    (fun t h j => by rw [outsAt0_A m c t h (by omega)]; frame_out; exact (zero_add _).symm)
    (fun t h j => by rw [outsAt0_B m c t h (by omega)]; frame_out; pointwise [k0_pay3])
    t ((flush0_6 t).mp hf) _, zero_add]
  idx_vars y
  pointwise [part, k0_pay1, k0_pay8, k0_pay10, k0_pay6, k0_pay4, dw3]
  have e0 : (((View.whole main_v1_1).slice (win0_6.rect t)).emb (ix2 y0 y1) 0).val = y0.val := by blk_simp [idx t]
  have e1 : (((View.whole main_v1_1).slice (win0_6.rect t)).emb (ix2 y0 y1) 1).val = t.val / 32 * 2816 + y1.val := by blk_simp [idx t]
  simp only [pick y0.val _ (by omega) (show 0 < 2 ^ 32 by omega), pick y0.val _ (by omega) (show 1 < 2 ^ 32 by omega), pick y0.val _ (by omega) (show 2 < 2 ^ 32 by omega),
    Finset.sum_add_distrib, Finset.sum_ite_irrel, Finset.sum_const_zero, e0]
  have hd : ∀ (x : Fin 32) (r : Fin 256) (i : Fin 8192), i.val = x.val * 256 + r.val → iblk m c 3 ⟨32 * (t.val / 32) + x.val, Pipeline.run_point_lt_of_flush t ((flush0_6 t).mp hf) x⟩ (ix2 r y1)
      = D (m (c.tc.loc main_arg2)) i (((View.whole main_v1_1).slice (win0_6.rect t)).emb (ix2 y0 y1) 1) :=
    fun x r i hi => d0 m c _ r y1 i (by dsimp only; omega) _ (by dsimp only; omega)
  refine congrArg₂ (· + ·) (congrArg₂ (· + ·) (row_congr (sum_tap hd fun x r i hi => ?_)) (row_congr (sum_tap hd fun x r i hi => ?_))) (row_congr (sum_tap hd fun x r i hi => ?_))
  · exact x0 m c _ r y1 i (by dsimp only; omega) _ (by dsimp only; omega)
  all_goals exact ext m c _ r y1 _ (by omega) _ (by dsimp only; omega) i (by dsimp only; omega) _ (by dsimp only; omega)

end Cert.Kernel18Ideal.Value

namespace Cert.Proof

open Cert.Conv
open Cert.Kernel18Ideal.Value (X D)
open Idealize.ShloMosaic Idealize.ShloMosaic.TcCoe Idealize.ShloMosaic.Tactic Idealize.SL.Sem

theorem algebraic18 : Cert.algebraic_Kernel18Ideal_Reference18Ideal := by
  pair_intro
  · run_from Cert.Kernel18Ideal.Gen.run_main m g
  · run_from Cert.Reference18Ideal.Value.run m' g'
    · rw [Cert.Kernel18Ideal.Value.array_dx]
      funext i; idx_vars i
      rw [(hagree c).2.2]
      pointwise [dx3]
      refine (congrArg₂ (· + ·) (congrArg₂ (· + ·) rfl (late_of (p := 1 ≤ 2 + i0.val ∧ 2 + i0.val - 1 < 8192) 1 (D (m (c.tc.loc Cert.Kernel18Ideal.main_arg2))) i0 i1 _ (fun h => ⟨_, h.2⟩) ?_ ?_))
        (late_of (p := 2 + i0.val < 8192) 2 (D (m (c.tc.loc Cert.Kernel18Ideal.main_arg2))) i0 i1 _ (fun h => ⟨_, h⟩) ?_ ?_)).trans (add_right_comm _ _ _)
      all_goals first | omega | (intro h; dsimp only; omega)
    · rw [Cert.Kernel18Ideal.Value.array_dw]
      funext i; idx_vars i
      pointwise
      rw [(hagree c).2.2]
      refine dw3_of (tap_of 0 (X _) (D _) i1 _ fun x => rfl) (tap_of 1 (X _) (D _) i1 _ fun x => early_of 1 (X _) x i1 _ ?_ ?_)
        (tap_last 2 8190 rfl (X _) (D _) i1)
      all_goals first | omega | (intro h; dsimp only; omega)

theorem frame_r18 : Cert.quiescent_Reference18Ideal := fun m g _ =>
  (θ_run _ _ _).mono (fun r h => ⟨fun c => ⟨(h c).2.2.1, (h c).2.2.2.1, (h c).2.2.2.2⟩, sem_eq_zero_of_no_sems (by decide) r.2⟩) (Cert.Reference18Ideal.Value.run (F := Ideal) m g)

end Cert.Proof

end
-- ==== Proof.Cv19.lean ====
/- The gradients of the gated short convolution of 8192 rows, by blocks of 256 rows. -/
module

public import proofs.«01_k».proof.Defs
public import proofs.«01_k».proof.Proof.Conv
public import proofs.«01_k».proof.Proof.Gen.Kernel19Ideal.Value
public import proofs.«01_k».proof.Proof.Gen.Reference19Ideal.Run

@[expose] public section

set_option maxRecDepth 16384

noncomputable section

namespace Cert.Kernel19Ideal.Value

open Cert.Kernel19Ideal.Gen Cert.Conv
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val, 5] ∧ win0_1.index t = ![t.val * 16 - 1, 5] ∧ win0_2.index t = ![t.val, 6] ∧ win0_3.index t = ![t.val * 16 - 1, 6] ∧ win0_4.index t = ![0, 0]
   ∧ win0_5.index t = ![t.val, 1] ∧ win0_6.index t = ![min (t.val * 16 + 16) 511, 1] ∧ win0_7.index t = ![t.val, 4] ∧ win0_8.index t = ![min (t.val * 16 + 16) 511, 4] ∧ win0_9.index t = ![t.val, 0]
   ∧ win0_10.index t = ![t.val, 0] ∧ win0_11.index t = ![t.val, 0] ∧ win0_12.index t = ![0, 0] :=
  (by decide +kernel : ∀ t : Fin grid0.N, _)

theorem crd : ∀ t : Fin cfg0.N, (grid0.coords t 1).val = t.val := (by decide +kernel : ∀ t : Fin grid0.N, _)

/-- The two factors of the convolved array, by row and column, their product, and the gradient of the convolution's result. -/
def C (x : (⟨2, ![8192, 7168]⟩ : Shape).Idx → EReal) (i : Fin 8192) (j : Fin 1024) : EReal := x (ix2 i (⟨5120 + j.val, by omega⟩ : Fin 7168))
def H (x : (⟨2, ![8192, 7168]⟩ : Shape).Idx → EReal) (i : Fin 8192) (j : Fin 1024) : EReal := x (ix2 i (⟨6144 + j.val, by omega⟩ : Fin 7168))
def X (x : (⟨2, ![8192, 7168]⟩ : Shape).Idx → EReal) (i : Fin 8192) (j : Fin 1024) : EReal := C x i j * H x i j
def G (d : (⟨2, ![8192, 2048]⟩ : Shape).Idx → EReal) (i : Fin 8192) (j : Fin 1024) : EReal := d (ix2 i (⟨1024 + j.val, by omega⟩ : Fin 2048))
def D (x : (⟨2, ![8192, 7168]⟩ : Shape).Idx → EReal) (d : (⟨2, ![8192, 2048]⟩ : Shape).Idx → EReal) (i : Fin 8192) (j : Fin 1024) : EReal :=
  x (ix2 i (⟨4096 + j.val, by omega⟩ : Fin 7168)) * G d i j

/-- The array's tile at a point, with the rows before it. -/
theorem x0 (t : Fin cfg0.N) (r : Fin 256) (i : Fin 8192) (hi : i.val = t.val * 256 + r.val) (j : Fin 1024) :
    k0_pay5 (F := Ideal) (iblk m c 0 t) (iblk m c 2 t) (ix2 r j) = X (m (c.tc.loc main_arg0)) i j := by
  pointwise [k0_pay5, X, C, H]
  blk_point [iblk, V, idx t]

theorem ext (t : Fin cfg0.N) (r : Fin 256) (s : ℕ) (hs : s ≤ 16) (p : Fin 272) (hp : p.val = 16 + r.val - s) (i : Fin 8192) (hi : i.val = t.val * 256 + r.val) (j : Fin 1024) :
    k0_pay6 (F := Ideal) (grid0.coords t) (iblk m c 0 t) (iblk m c 1 t) (iblk m c 2 t) (iblk m c 3 t) (ix2 p j) = early s (X (m (c.tc.loc main_arg0))) i j := by
  pointwise [k0_pay6]
  rw [crd t]
  have ht := lt_of_lt_of_eq t.isLt N_0
  split
  · refine (pick t.val 0 (by omega) (by omega) _ _).trans ?_
    split
    · exact (early_lt _ _ (by omega)).symm
    · refine Eq.trans ?_ (early_ge _ _ (by omega)).symm
      unfold X C H
      blk_point [iblk, V, idx t]
  · exact (x0 m c t _ _ (by dsimp only; omega) _).trans (early_ge _ _ (by omega)).symm

/-- The result's gradient's tile at a point, with the rows after it. -/
theorem d0 (t : Fin cfg0.N) (r : Fin 256) (i : Fin 8192) (hi : i.val = t.val * 256 + r.val) (j : Fin 1024) :
    k0_pay8 (F := Ideal) (iblk m c 5 t) (iblk m c 7 t) (ix2 r j) = D (m (c.tc.loc main_arg0)) (m (c.tc.loc main_arg2)) i j := by
  pointwise [k0_pay8, D, G]
  refine (mul_comm _ _).trans ?_
  blk_point [iblk, V, idx t]

theorem ext' (t : Fin cfg0.N) (r : Fin 256) (s : ℕ) (hs : s ≤ 16) (p : ℕ) (hp : p = r.val + s) (i : Fin 8192) (hi : i.val = t.val * 256 + r.val) (j : Fin 1024) :
    (if h : p < 256 then k0_pay8 (F := Ideal) (iblk m c 5 t) (iblk m c 7 t) (ix2 ⟨p, h⟩ j)
      else Scalar.select (Scalar.cmpi .eq (BitVec.ofNat 32 (grid0.coords t 1).val) 31#32) 0 (HMul.hMul (α := EReal) (β := EReal) (γ := EReal) (iblk m c 6 t (ix2 (⟨p - 256, by omega⟩ : Fin 16) j)) (iblk m c 8 t (ix2 (⟨p - 256, by omega⟩ : Fin 16) j))))
      = late s (D (m (c.tc.loc main_arg0)) (m (c.tc.loc main_arg2))) i j := by
  have ht := lt_of_lt_of_eq t.isLt N_0
  rw [crd t]
  split
  · exact (d0 m c t _ _ (by dsimp only; omega) _).trans (late_lt _ _ (by omega)).symm
  · refine (pick t.val 31 (by omega) (by omega) _ _).trans ?_
    split
    · exact (late_ge _ _ (by omega)).symm
    · refine Eq.trans (mul_comm _ _) (Eq.trans ?_ (late_lt _ _ (by omega)).symm)
      unfold D G
      blk_point [iblk, V, idx t]

/-- The gradient of the convolved array at a point. -/
abbrev back (t : Fin cfg0.N) : Vec Ideal S256x1024 .f32 := k0_pay10 (F := Ideal) (BitVec.ofNat 32 (grid0.coords t 1).val) (iblk m c 4 t) (iblk m c 6 t) (k0_pay8 (F := Ideal) (iblk m c 5 t) (iblk m c 7 t)) (iblk m c 8 t)

theorem back_eq (t : Fin cfg0.N) (r : Fin 256) (i : Fin 8192) (hi : i.val = t.val * 256 + r.val) (j : Fin 1024) :
    back m c t (ix2 r j) = dx3 (m (c.tc.loc main_arg1)) (D (m (c.tc.loc main_arg0)) (m (c.tc.loc main_arg2))) i j := by
  pointwise [back, k0_pay10, dx3]
  refine congrArg₂ (· + ·) (congrArg₂ (· + ·) (congrArg₂ (· * ·) (d0 m c t r i hi j) ?_) (congrArg₂ (· * ·) (ext' m c t r 2 (by omega) ((r.val + 272 - 270) % 272) (by omega) i hi j) ?_)) (congrArg₂ (· * ·) (ext' m c t r 1 (by omega) ((r.val + 272 - 271) % 272) (by omega) i hi j) ?_)
  all_goals blk_point [iblk, V, idx t]

/-- What a point adds to the filters' gradients. -/
abbrev part (t : Fin cfg0.N) : Vec Ideal S8x1024 .f32 := k0_pay1 (F := Ideal) (iota Kind.tc S8x1024 32 [0] iota_S8x1024_d0_w32)
  (k0_pay9 (k0_pay5 (iblk m c 0 t) (iblk m c 2 t)) (k0_pay6 (grid0.coords t) (iblk m c 0 t) (iblk m c 1 t) (iblk m c 2 t) (iblk m c 3 t)) (k0_pay8 (iblk m c 5 t) (iblk m c 7 t)))
  (k0_pay11 (k0_pay6 (grid0.coords t) (iblk m c 0 t) (iblk m c 1 t) (iblk m c 2 t) (iblk m c 3 t)) (k0_pay8 (iblk m c 5 t) (iblk m c 7 t)))

theorem rows (t : Fin cfg0.N) : (outsAt0 m c t.val t.isLt).1 = k0_pay2 (F := Ideal) (iblk m c 2 t) (back m c t) ∧ (outsAt0 m c t.val t.isLt).2.1 = k0_pay3 (F := Ideal) (iblk m c 0 t) (back m c t)
    ∧ (outsAt0 m c t.val t.isLt).2.2.1 = k0_pay7 (F := Ideal) (grid0.coords t) (iblk m c 4 t) (iblk m c 0 t) (iblk m c 1 t) (iblk m c 2 t) (iblk m c 3 t) (iblk m c 5 t) := by
  have ht := lt_of_lt_of_eq t.isLt N_0
  by_cases h : t.val % 32 = 0
  · rw [outsAt0_A m c t h (by omega)]
    frame_out
    exact ⟨trivial, trivial, trivial⟩
  · rw [outsAt0_B m c t h (by omega)]
    frame_out
    exact ⟨trivial, trivial, trivial⟩

theorem array_dc : (dats m 0 c).arrAt 9 cfg0.N = fun i => dx3 (m (c.tc.loc main_arg1)) (D (m (c.tc.loc main_arg0)) (m (c.tc.loc main_arg2))) (i 0) (i 1) * H (m (c.tc.loc main_arg0)) (i 0) (i 1) := by
  refine (dats m 0 c).arrAt_eq_of_covers 9 _ (by decide +kernel) fun t _ y => ?_
  blk_simp
  rw [after0_9, (rows m c t).1]
  idx_vars y
  pointwise [k0_pay2]
  have e0 : (((View.whole main_v0_0).slice (win0_9.rect t)).emb (ix2 y0 y1) 0).val = t.val * 256 + y0.val := by blk_simp [idx t]
  have e1 : ((View.whole main_v0_0).slice (win0_9.rect t)).emb (ix2 y0 y1) 1 = y1 := Fin.ext (by blk_simp [idx t])
  rw [e1]
  refine congrArg₂ (· * ·) (back_eq m c t y0 _ e0 y1) ?_
  unfold H
  blk_ext [iblk, V, idx t]

theorem array_dh : (dats m 0 c).arrAt 10 cfg0.N = fun i => dx3 (m (c.tc.loc main_arg1)) (D (m (c.tc.loc main_arg0)) (m (c.tc.loc main_arg2))) (i 0) (i 1) * C (m (c.tc.loc main_arg0)) (i 0) (i 1) := by
  refine (dats m 0 c).arrAt_eq_of_covers 10 _ (by decide +kernel) fun t _ y => ?_
  blk_simp
  rw [after0_10, (rows m c t).2.1]
  idx_vars y
  pointwise [k0_pay3]
  have e0 : (((View.whole main_v0_1).slice (win0_10.rect t)).emb (ix2 y0 y1) 0).val = t.val * 256 + y0.val := by blk_simp [idx t]
  have e1 : ((View.whole main_v0_1).slice (win0_10.rect t)).emb (ix2 y0 y1) 1 = y1 := Fin.ext (by blk_simp [idx t])
  rw [e1]
  refine congrArg₂ (· * ·) (back_eq m c t y0 _ e0 y1) ?_
  unfold C
  blk_ext [iblk, V, idx t]

theorem array_db : (dats m 0 c).arrAt 11 cfg0.N = fun i => G (m (c.tc.loc main_arg2)) (i 0) (i 1) * taps3 (m (c.tc.loc main_arg1)) (X (m (c.tc.loc main_arg0))) (i 0) (i 1) := by
  refine (dats m 0 c).arrAt_eq_of_covers 11 _ (by decide +kernel) fun t _ y => ?_
  blk_simp
  rw [after0_11, (rows m c t).2.2]
  idx_vars y
  pointwise [k0_pay7, taps3]
  have e0 : (((View.whole main_v0_2).slice (win0_11.rect t)).emb (ix2 y0 y1) 0).val = t.val * 256 + y0.val := by blk_simp [idx t]
  have e1 : ((View.whole main_v0_2).slice (win0_11.rect t)).emb (ix2 y0 y1) 1 = y1 := Fin.ext (by blk_simp [idx t])
  rw [e1, ext m c t y0 0 _ _ _ _ e0 y1, ext m c t y0 2 _ _ _ _ e0 y1, ext m c t y0 1 _ _ _ _ e0 y1]
  · unfold G
    blk_point [iblk, V, idx t]
    exact congrArg (· * _) (early_ge _ _ (Nat.zero_le _))
  all_goals first | omega | (dsimp only; omega)

/-- The gradient of the filters: the points' sums, added up. -/
theorem array_dw : (dats m 0 c).arrAt 12 cfg0.N = fun i => dw3 (X (m (c.tc.loc main_arg0))) (D (m (c.tc.loc main_arg0)) (m (c.tc.loc main_arg2))) (i 0) (i 1) := by
  refine (dats m 0 c).arrAt_eq_of_covers 12 _ (by decide +kernel) fun t hf y => ?_
  have hN : ∀ t : Fin cfg0.N, t.val < 32 := fun t => lt_of_lt_of_eq t.isLt (show cfg0.N = 32 from N_0)
  have ht := hN t
  blk_simp
  rw [after0_12, Pipeline.eq_sum_fin_of_reset_step_apply_of_flush (fun n h => (outsAt0 m c n h).2.2.2) 32 (fun _ => 0)
    (fun p j => part m c p j)
    (fun t h j => by rw [outsAt0_A m c t h (by have := hN t; omega)]; frame_out; exact (zero_add _).symm)
    (fun t h j => by rw [outsAt0_B m c t h (by omega)]; frame_out; pointwise [k0_pay4])
    t ((flush0_12 t).mp hf) _, zero_add]
  idx_vars y
  pointwise [part, k0_pay1, k0_pay9, k0_pay11, dw3]
  have e0 : (((View.whole main_v0_3).slice (win0_12.rect t)).emb (ix2 y0 y1) 0).val = y0.val := by blk_simp [idx t]
  have e1 : ((View.whole main_v0_3).slice (win0_12.rect t)).emb (ix2 y0 y1) 1 = y1 := Fin.ext (by blk_simp [idx t])
  simp only [pick y0.val _ (by omega) (show 0 < 2 ^ 32 by omega), pick y0.val _ (by omega) (show 1 < 2 ^ 32 by omega), pick y0.val _ (by omega) (show 2 < 2 ^ 32 by omega),
    Finset.sum_add_distrib, Finset.sum_ite_irrel, Finset.sum_const_zero, e0, e1]
  refine congrArg₂ (· + ·) (congrArg₂ (· + ·) (row_congr (sum_tap (fun x r i hi => d0 m c _ r i ?_ y1) fun x r i hi => ?_)) (row_congr (sum_tap (fun x r i hi => d0 m c _ r i ?_ y1) fun x r i hi => ?_)))
    (row_congr (sum_tap (fun x r i hi => d0 m c _ r i ?_ y1) fun x r i hi => ?_))
  case refine_2 => exact x0 m c _ r i (by dsimp only; omega) y1
  case refine_4 => exact ext m c _ r 2 (by omega) _ (by dsimp only; omega) i (by dsimp only; omega) y1
  case refine_6 => exact ext m c _ r 1 (by omega) _ (by dsimp only; omega) i (by dsimp only; omega) y1
  all_goals dsimp only
  all_goals omega

end Cert.Kernel19Ideal.Value

namespace Cert.Proof

open Cert.Conv
open Cert.Kernel19Ideal.Value (X D)
open Idealize.ShloMosaic Idealize.ShloMosaic.TcCoe Idealize.ShloMosaic.Tactic Idealize.SL.Sem

theorem algebraic19 : Cert.algebraic_Kernel19Ideal_Reference19Ideal := by
  have dx : ∀ (w : (⟨2, ![3, 1024]⟩ : Shape).Idx → EReal) (x : (⟨2, ![8192, 7168]⟩ : Shape).Idx → EReal) (d : (⟨2, ![8192, 2048]⟩ : Shape).Idx → EReal) (i0 : Fin 8192) (i1 : Fin 1024),
      dx3 w (D x d) i0 i1 = (D x d i0 i1 * w (ix2 2 i1) + if h : 1 ≤ 2 + i0.val ∧ 2 + i0.val - 1 < 8192 then D x d ⟨2 + i0.val - 1, h.2⟩ i1 * w (ix2 1 i1) else 0)
        + if h : 2 + i0.val < 8192 then D x d ⟨2 + i0.val, h⟩ i1 * w (ix2 0 i1) else 0 := by
    intro w x d i0 i1
    refine ((congrArg₂ (· + ·) (congrArg₂ (· + ·) rfl (late_of 1 (D x d) i0 i1 _ _ ?_ ?_)) (late_of 2 (D x d) i0 i1 _ _ ?_ ?_)).trans (add_right_comm _ _ _)).symm
    all_goals first | omega | (intro h; dsimp only; omega)
  pair_intro
  · run_from Cert.Kernel19Ideal.Gen.run_main m g
  · run_from Cert.Reference19Ideal.Value.run m' g'
    · rw [Cert.Kernel19Ideal.Value.array_dc]
      funext i; idx_vars i
      pointwise [dx]
      with_unfolding_all rfl
    · rw [Cert.Kernel19Ideal.Value.array_dh]
      funext i; idx_vars i
      pointwise [dx]
      refine (mul_comm _ _).trans ?_
      with_unfolding_all rfl
    · rw [Cert.Kernel19Ideal.Value.array_db]
      funext i; idx_vars i
      pointwise [taps3]
      refine congrArg₂ (· * ·) rfl ((add_comm _ _).trans ((congrArg₂ (· + ·) rfl (congrArg₂ (· + ·) (congrArg (· * _) (early_of 2 (X _) i0 i1 (p := i0.val < 2) (fun h => ⟨i0.val - 2, by omega⟩) ?_ ?_))
        (congrArg (· * _) (early_of 1 (X _) i0 i1 (p := 1 + i0.val < 2) (fun h => ⟨1 + i0.val - 2, by omega⟩) ?_ ?_)))).trans (add_assoc _ _ _).symm))
      all_goals first | omega | (intro h; rfl) | (intro h; dsimp only; omega)
    · rw [Cert.Kernel19Ideal.Value.array_dw]
      funext i; idx_vars i
      pointwise
      rw [(hagree c).2.2]
      refine dw3_of (tap_of 0 (X _) (D _ _) i1 _ fun x => rfl) (tap_of 1 (X _) (D _ _) i1 _ fun x => early_of 1 (X _) x i1 _ ?_ ?_)
        (tap_last 2 8190 rfl (X _) (D _ _) i1)
      all_goals first | omega | (intro h; dsimp only; omega)

theorem frame_r19 : Cert.quiescent_Reference19Ideal := fun m g _ =>
  (θ_run _ _ _).mono (fun r h => ⟨fun c => ⟨(h c).2.2.2.2.1, (h c).2.2.2.2.2.1, (h c).2.2.2.2.2.2⟩, sem_eq_zero_of_no_sems (by decide) r.2⟩) (Cert.Reference19Ideal.Value.run (F := Ideal) m g)

end Cert.Proof

end
-- ==== Proof.Cv20.lean ====
/- The gradients of the four-tap convolution before the recurrence, by blocks of 256 rows. -/
module

public import proofs.«01_k».proof.Defs
public import proofs.«01_k».proof.Proof.Conv
public import proofs.«01_k».proof.Proof.Gen.Kernel20Ideal.Value
public import proofs.«01_k».proof.Proof.Gen.Reference20Ideal.Run

@[expose] public section

set_option maxRecDepth 16384

noncomputable section

namespace Cert.Kernel20Ideal.Value

open Cert.Kernel20Ideal.Gen Cert.Conv
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val % 32, t.val / 32] ∧ win0_1.index t = ![t.val % 32 * 16 - 1, t.val / 32] ∧ win0_2.index t = ![0, t.val / 32] ∧ win0_3.index t = ![t.val % 32, t.val / 32]
   ∧ win0_4.index t = ![min (t.val % 32 * 16 + 16) 511, t.val / 32] ∧ win0_5.index t = ![t.val % 32, t.val / 32] ∧ win0_6.index t = ![0, t.val / 32] ∧ grid0.coords t 1 = ⟨t.val % 32, Nat.mod_lt _ (by norm_num)⟩ :=
  (by decide +kernel : ∀ t : Fin grid0.N, _)

/-- The array and the result's gradient, by row and column. -/
def X (x : (⟨2, ![8192, 7168]⟩ : Shape).Idx → EReal) (i : Fin 8192) (j : Fin 3072) : EReal := x (ix2 i (⟨j.val, by omega⟩ : Fin 7168))
def D (d : (⟨2, ![8192, 3072]⟩ : Shape).Idx → EReal) (i : Fin 8192) (j : Fin 3072) : EReal := d (ix2 i j)

/-- The array's tile at a point, with the rows before it. -/
theorem x0 (t : Fin cfg0.N) (r : Fin 256) (y : Fin 1536) (i : Fin 8192) (hi : i.val = t.val % 32 * 256 + r.val) (j : Fin 3072) (hj : j.val = t.val / 32 * 1536 + y.val) :
    X0_0 m c t (ix2 r y) = X (m (c.tc.loc main_arg0)) i j :=
  (dif_pos (moved0_0 t _)).trans (by unfold X; blk_ext [iblk, V, idx t])

theorem ext (t : Fin cfg0.N) (r : Fin 256) (y : Fin 1536) (s : ℕ) (hs : s ≤ 16) (p : Fin 272) (hp : p.val = 16 + r.val - s) (i : Fin 8192) (hi : i.val = t.val % 32 * 256 + r.val)
    (j : Fin 3072) (hj : j.val = t.val / 32 * 1536 + y.val) :
    k0_pay2 (F := Ideal) (grid0.coords t) (X0_0 m c t) (X0_1 m c t) (ix2 p y) = early s (X (m (c.tc.loc main_arg0))) i j := by
  pointwise [k0_pay2]
  rw [(idx t).2.2.2.2.2.2.2]
  have ht := lt_of_lt_of_eq t.isLt N_0
  split
  · refine (pick (t.val % 32) 0 (by omega) (by omega) _ _).trans ?_
    split
    · exact (early_lt _ _ (by omega)).symm
    · refine (dif_pos (moved0_1 t _)).trans (Eq.trans ?_ (early_ge _ _ (by omega)).symm)
      unfold X
      blk_ext [iblk, V, idx t]
  · exact (x0 m c t _ _ _ (by dsimp only; omega) _ hj).trans (early_ge _ _ (by omega)).symm

/-- The result's gradient's tile at a point, with the rows after it. -/
theorem d0 (t : Fin cfg0.N) (r : Fin 256) (y : Fin 1536) (i : Fin 8192) (hi : i.val = t.val % 32 * 256 + r.val) (j : Fin 3072) (hj : j.val = t.val / 32 * 1536 + y.val) :
    iblk m c 3 t (ix2 r y) = D (m (c.tc.loc main_arg2)) i j := by
  unfold D; blk_ext [iblk, V, idx t]

theorem ext' (t : Fin cfg0.N) (r : Fin 256) (y : Fin 1536) (s : ℕ) (hs : s ≤ 16) (p : Fin 272) (hp : p.val = r.val + s) (i : Fin 8192) (hi : i.val = t.val % 32 * 256 + r.val)
    (j : Fin 3072) (hj : j.val = t.val / 32 * 1536 + y.val) :
    k0_pay3 (F := Ideal) (grid0.coords t) (iblk m c 3 t) (iblk m c 4 t) (ix2 p y) = late s (D (m (c.tc.loc main_arg2))) i j := by
  pointwise [k0_pay3]
  rw [(idx t).2.2.2.2.2.2.2]
  have ht := lt_of_lt_of_eq t.isLt N_0
  split
  · exact (d0 m c t _ _ _ (by dsimp only; omega) _ hj).trans (late_lt _ _ (by omega)).symm
  · refine (pick (t.val % 32) 31 (by omega) (by omega) _ _).trans ?_
    split
    · exact (late_ge _ _ (by omega)).symm
    · refine Eq.trans ?_ (late_lt _ _ (by omega)).symm
      unfold D
      blk_ext [iblk, V, idx t]

theorem rows (t : Fin cfg0.N) : (outsAt0 m c t.val t.isLt).1 = k0_pay8 (F := Ideal) (iblk m c 2 t) (k0_pay3 (F := Ideal) (grid0.coords t) (iblk m c 3 t) (iblk m c 4 t))
        (k0_pay5 (F := Ideal) (grid0.coords t) (iblk m c 2 t) (iblk m c 3 t) (iblk m c 4 t)) := by
  by_cases h : t.val % 32 = 0
  · rw [outsAt0_A m c t h (by omega)]
    frame_out
  · rw [outsAt0_B m c t h (by omega)]
    frame_out

theorem array_dx : (dats m 0 c).arrAt 5 cfg0.N = fun i => dx4 (m (c.tc.loc main_arg1)) (D (m (c.tc.loc main_arg2))) (i 0) (i 1) := by
  refine (dats m 0 c).arrAt_eq_of_covers 5 _ (by decide +kernel) fun t _ y => ?_
  blk_simp
  rw [after0_5, rows m c t]
  idx_vars y
  pointwise [k0_pay8, k0_pay5, dx4]
  have e0 : (((View.whole main_v0_0).slice (win0_5.rect t)).emb (ix2 y0 y1) 0).val = t.val % 32 * 256 + y0.val := by blk_simp [idx t]
  have e1 : (((View.whole main_v0_0).slice (win0_5.rect t)).emb (ix2 y0 y1) 1).val = t.val / 32 * 1536 + y1.val := by blk_simp [idx t]
  rw [d0 m c t y0 y1 _ e0 _ e1, ext' m c t y0 y1 3 _ _ _ _ e0 _ e1, ext' m c t y0 y1 2 _ _ _ _ e0 _ e1, ext' m c t y0 y1 1 _ _ _ _ e0 _ e1]
  · blk_point [iblk, V, idx t]
  all_goals first | omega | (dsimp only; omega)

/-- What a point adds to the filters' gradients. -/
abbrev part (t : Fin cfg0.N) : Vec Ideal S8x1536 .f32 := k0_pay7 (F := Ideal) (k0_pay2 (grid0.coords t) (X0_0 m c t) (X0_1 m c t)) (iblk m c 3 t) (iota Kind.tc S8x1536 32 [0] iota_S8x1536_d0_w32)
  (k0_pay4 (X0_0 m c t) (iblk m c 3 t)) (k0_pay6 (grid0.coords t) (X0_0 m c t) (X0_1 m c t) (iblk m c 3 t)) 0#32

theorem array_dw : (dats m 0 c).arrAt 6 cfg0.N = fun i => dw4 (X (m (c.tc.loc main_arg0))) (D (m (c.tc.loc main_arg2))) (i 0) (i 1) := by
  refine (dats m 0 c).arrAt_eq_of_covers 6 _ (by decide +kernel) fun t hf y => ?_
  blk_simp
  rw [after0_6, Pipeline.eq_sum_fin_of_reset_step_apply_of_flush (fun n h => (outsAt0 m c n h).2) 32 (fun _ => 0)
    (fun p j => part m c p j)
    (fun t h j => by rw [outsAt0_A m c t h (by omega)]; frame_out; exact (zero_add _).symm)
    (fun t h j => by rw [outsAt0_B m c t h (by omega)]; frame_out; pointwise [k0_pay1])
    t ((flush0_6 t).mp hf) _, zero_add]
  idx_vars y
  pointwise [part, k0_pay7, k0_pay4, k0_pay6, dw4]
  have e0 : (((View.whole main_v0_1).slice (win0_6.rect t)).emb (ix2 y0 y1) 0).val = y0.val := by blk_simp [idx t]
  have e1 : (((View.whole main_v0_1).slice (win0_6.rect t)).emb (ix2 y0 y1) 1).val = t.val / 32 * 1536 + y1.val := by blk_simp [idx t]
  simp only [pick y0.val _ (by omega) (show 0 < 2 ^ 32 by omega), pick y0.val _ (by omega) (show 1 < 2 ^ 32 by omega), pick y0.val _ (by omega) (show 2 < 2 ^ 32 by omega),
    pick y0.val _ (by omega) (show 3 < 2 ^ 32 by omega), Finset.sum_add_distrib, Finset.sum_ite_irrel, Finset.sum_const_zero, e0]
  have hd : ∀ (x : Fin 32) (r : Fin 256) (i : Fin 8192), i.val = x.val * 256 + r.val → iblk m c 3 ⟨32 * (t.val / 32) + x.val, Pipeline.run_point_lt_of_flush t ((flush0_6 t).mp hf) x⟩ (ix2 r y1)
      = D (m (c.tc.loc main_arg2)) i (((View.whole main_v0_1).slice (win0_6.rect t)).emb (ix2 y0 y1) 1) :=
    fun x r i hi => d0 m c _ r y1 i (by dsimp only; omega) _ (by dsimp only; omega)
  refine congrArg₂ (· + ·) (congrArg₂ (· + ·) (congrArg₂ (· + ·) (row_congr (sum_tap hd fun x r i hi => ?_)) (row_congr (sum_tap hd fun x r i hi => ?_))) (row_congr (sum_tap hd fun x r i hi => ?_))) (row_congr (sum_tap hd fun x r i hi => ?_))
  · exact x0 m c _ r y1 i (by dsimp only; omega) _ (by dsimp only; omega)
  all_goals exact ext m c _ r y1 _ (by omega) _ (by dsimp only; omega) i (by dsimp only; omega) _ (by dsimp only; omega)

end Cert.Kernel20Ideal.Value

namespace Cert.Proof

open Cert.Conv
open Cert.Kernel20Ideal.Value (X D)
open Idealize.ShloMosaic Idealize.ShloMosaic.TcCoe Idealize.ShloMosaic.Tactic Idealize.SL.Sem

theorem algebraic20 : Cert.algebraic_Kernel20Ideal_Reference20Ideal := by
  pair_intro
  · run_from Cert.Kernel20Ideal.Gen.run_main m g
  · run_from Cert.Reference20Ideal.Value.run m' g'
    · rw [Cert.Kernel20Ideal.Value.array_dx]
      funext i; idx_vars i
      pointwise [dx4]
      refine (congrArg₂ (· + ·) (congrArg₂ (· + ·) (congrArg₂ (· + ·) rfl (late_of 1 (D _) i0 i1 _ _ ?_ ?_)) (late_of 2 (D _) i0 i1 _ _ ?_ ?_)) (late_of 3 (D _) i0 i1 _ _ ?_ ?_)).trans
        ((add_right_comm _ _ _).trans (congrArg (· + _) (add_right_comm _ _ _)) |>.trans (add_right_comm _ _ _))
      all_goals first | omega | (intro h; dsimp only; omega)
    · rw [Cert.Kernel20Ideal.Value.array_dw]
      funext i; idx_vars i
      pointwise
      rw [(hagree c).2.2]
      refine dw4_of (tap_of 0 (X _) (D _) i1 _ fun x => rfl) (tap_of 1 (X _) (D _) i1 _ fun x => early_of 1 (X _) x i1 _ ?_ ?_) (tap_of 2 (X _) (D _) i1 _ fun x => early_of 2 (X _) x i1 _ ?_ ?_)
        (tap_last 3 8189 rfl (X _) (D _) i1)
      all_goals first | omega | (intro h; dsimp only; omega)

theorem frame_r20 : Cert.quiescent_Reference20Ideal := fun m g _ =>
  (θ_run _ _ _).mono (fun r h => ⟨fun c => ⟨(h c).2.2.1, (h c).2.2.2.1, (h c).2.2.2.2⟩, sem_eq_zero_of_no_sems (by decide) r.2⟩) (Cert.Reference20Ideal.Value.run (F := Ideal) m g)

end Cert.Proof

end
-- ==== Proof.Adam.lean ====
/- One step of AdamW, entry by entry. -/
module

public import Idealize.ShloMosaic.Lib.Pipeline.ValueKit

@[expose] public section

noncomputable section

namespace Cert.Adam

open Idealize.ShloMosaic

variable {s : Shape}

/-- The mean of the gradients. -/
def mean (g m : s.Idx → EReal) : s.Idx → EReal :=
  fun i => Ideal.ofBits .f32 0x3F666666#32 * m i + Ideal.ofBits .f32 0x3DCCCCCD#32 * g i

/-- The mean of their squares. -/
def square (g v : s.Idx → EReal) : s.Idx → EReal :=
  fun i => Ideal.ofBits .f32 0x3F7FBE77#32 * v i + Ideal.ofBits .f32 0x3A83126F#32 * (g i * g i)

/-- What the weights move by. -/
def delta (w g m v : s.Idx → EReal) : s.Idx → EReal :=
  fun i => Ideal.ofBits .f32 0xBA83126F#32 * (Ideal.div (Ideal.div (mean g m i) (Ideal.ofBits .f32 0x3F26BD02#32))
    (Ideal.sqrt (Ideal.div (square g v i) (Ideal.ofBits .f32 0x3C231ACC#32)) + Ideal.ofBits .f32 0x322BCC77#32)
    + Ideal.ofBits .f32 0x3C23D70A#32 * w i)

end Cert.Adam

end
-- ==== Proof.Ad21.lean ====
/- AdamW's calls. -/
module

public import proofs.«01_k».proof.Defs
public import proofs.«01_k».proof.Proof.Adam
public import proofs.«01_k».proof.Proof.Gen.Kernel21Ideal.Value
public import proofs.«01_k».proof.Proof.Gen.Reference21Ideal.Run
public import proofs.«01_k».proof.Proof.Gen.Kernel22Ideal.Value
public import proofs.«01_k».proof.Proof.Gen.Reference22Ideal.Run
public import proofs.«01_k».proof.Proof.Gen.Kernel23Ideal.Value
public import proofs.«01_k».proof.Proof.Gen.Reference23Ideal.Run
public import proofs.«01_k».proof.Proof.Gen.Kernel24Ideal.Value
public import proofs.«01_k».proof.Proof.Gen.Reference24Ideal.Run

@[expose] public section

set_option maxRecDepth 16384

noncomputable section

open Cert.Adam
open Idealize.ShloMosaic Idealize.ShloMosaic.TcCoe Idealize.ShloMosaic.Tactic Idealize.SL.Sem

namespace Cert.Kernel21Ideal.Value

open Cert.Kernel21Ideal.Gen

/-- The three arrays of the call for `w_mix_in`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel21Ideal.Value

namespace Cert.Kernel22Ideal.Value

open Cert.Kernel22Ideal.Gen

/-- The three arrays of the call for `w_ffn_up`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel22Ideal.Value

namespace Cert.Kernel23Ideal.Value

open Cert.Kernel23Ideal.Gen

/-- The three arrays of the call for the four attention weights and `w_mix_out`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel23Ideal.Value

namespace Cert.Kernel24Ideal.Value

open Cert.Kernel24Ideal.Gen

/-- The three arrays of the call for `w_ffn_down`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel24Ideal.Value

namespace Cert.Proof

theorem algebraic21 : Cert.algebraic_Kernel21Ideal_Reference21Ideal := by
  pair_intro
  · run_from Cert.Kernel21Ideal.Gen.run_main m g
  · run_from Cert.Reference21Ideal.Value.run m' g'
    all_goals
      simp only [Cert.Kernel21Ideal.Value.arrays m c]
      funext i; idx_vars i
      pointwise [delta, mean, square]

theorem frame_r21 : Cert.quiescent_Reference21Ideal := fun m g _ =>
  (θ_run _ _ _).mono (fun r h => ⟨fun c => (h c).2.2.2, sem_eq_zero_of_no_sems (by decide) r.2⟩) (Cert.Reference21Ideal.Value.run (F := Ideal) m g)

theorem algebraic22 : Cert.algebraic_Kernel22Ideal_Reference22Ideal := by
  pair_intro
  · run_from Cert.Kernel22Ideal.Gen.run_main m g
  · run_from Cert.Reference22Ideal.Value.run m' g'
    all_goals
      simp only [Cert.Kernel22Ideal.Value.arrays m c]
      funext i; idx_vars i
      pointwise [delta, mean, square]

theorem frame_r22 : Cert.quiescent_Reference22Ideal := fun m g _ =>
  (θ_run _ _ _).mono (fun r h => ⟨fun c => (h c).2.2.2, sem_eq_zero_of_no_sems (by decide) r.2⟩) (Cert.Reference22Ideal.Value.run (F := Ideal) m g)

theorem algebraic23 : Cert.algebraic_Kernel23Ideal_Reference23Ideal := by
  pair_intro
  · run_from Cert.Kernel23Ideal.Gen.run_main m g
  · run_from Cert.Reference23Ideal.Value.run m' g'
    all_goals
      simp only [Cert.Kernel23Ideal.Value.arrays m c]
      funext i; idx_vars i
      pointwise [delta, mean, square]

theorem frame_r23 : Cert.quiescent_Reference23Ideal := fun m g _ =>
  (θ_run _ _ _).mono (fun r h => ⟨fun c => (h c).2.2.2, sem_eq_zero_of_no_sems (by decide) r.2⟩) (Cert.Reference23Ideal.Value.run (F := Ideal) m g)

theorem algebraic24 : Cert.algebraic_Kernel24Ideal_Reference24Ideal := by
  pair_intro
  · run_from Cert.Kernel24Ideal.Gen.run_main m g
  · run_from Cert.Reference24Ideal.Value.run m' g'
    all_goals
      simp only [Cert.Kernel24Ideal.Value.arrays m c]
      funext i; idx_vars i
      pointwise [delta, mean, square]

theorem frame_r24 : Cert.quiescent_Reference24Ideal := fun m g _ =>
  (θ_run _ _ _).mono (fun r h => ⟨fun c => (h c).2.2.2, sem_eq_zero_of_no_sems (by decide) r.2⟩) (Cert.Reference24Ideal.Value.run (F := Ideal) m g)

end Cert.Proof

end
-- ==== Proof.Ad25.lean ====
/- AdamW's calls. -/
module

public import proofs.«01_k».proof.Defs
public import proofs.«01_k».proof.Proof.Adam
public import proofs.«01_k».proof.Proof.Gen.Kernel25Ideal.Value
public import proofs.«01_k».proof.Proof.Gen.Reference25Ideal.Run
public import proofs.«01_k».proof.Proof.Gen.Kernel26Ideal.Value
public import proofs.«01_k».proof.Proof.Gen.Reference26Ideal.Run
public import proofs.«01_k».proof.Proof.Gen.Kernel27Ideal.Value
public import proofs.«01_k».proof.Proof.Gen.Reference27Ideal.Run
public import proofs.«01_k».proof.Proof.Gen.Kernel28Ideal.Value
public import proofs.«01_k».proof.Proof.Gen.Reference28Ideal.Run

@[expose] public section

set_option maxRecDepth 16384

noncomputable section

open Cert.Adam
open Idealize.ShloMosaic Idealize.ShloMosaic.TcCoe Idealize.ShloMosaic.Tactic Idealize.SL.Sem

namespace Cert.Kernel25Ideal.Value

open Cert.Kernel25Ideal.Gen

/-- The three arrays of the call for `gdn_conv`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel25Ideal.Value

namespace Cert.Kernel26Ideal.Value

open Cert.Kernel26Ideal.Gen

/-- The three arrays of the call for `sc_conv`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel26Ideal.Value

namespace Cert.Kernel27Ideal.Value

open Cert.Kernel27Ideal.Gen

/-- The three arrays of the call for `ffn_conv`. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel27Ideal.Value

namespace Cert.Kernel28Ideal.Value

open Cert.Kernel28Ideal.Gen

/-- The three arrays of the call for the small weights, packed. -/
theorem arrays (m : (ℓ : Loc nD τ sig) → Buf (Elt Ideal) ℓ) (c : Dev nD) :
    (dats m 0 c).arrAt 4 cfg0.N = delta (m (c.tc.loc main_arg0)) (m (c.tc.loc main_arg1)) (m (c.tc.loc main_arg2)) (m (c.tc.loc main_arg3))
    ∧ (dats m 0 c).arrAt 5 cfg0.N = mean (m (c.tc.loc main_arg1)) (m (c.tc.loc main_arg2))
    ∧ (dats m 0 c).arrAt 6 cfg0.N = square (m (c.tc.loc main_arg1)) (m (c.tc.loc main_arg3)) := by
  refine ⟨(dats m 0 c).arrAt_eq_of_covers 4 _ (by decide +kernel) fun t _ y => ?_,
    (dats m 0 c).arrAt_eq_of_covers 5 _ (by decide +kernel) fun t _ y => ?_,
    (dats m 0 c).arrAt_eq_of_covers 6 _ (by decide +kernel) fun t _ y => ?_⟩
  all_goals
    blk_simp
    simp only [after0_4, after0_5, after0_6]
    frame_out
    idx_vars y
    pointwise [k0_pay3, k0_pay2, k0_pay1, delta, mean, square]
    blk_point [iblk, V]
    all_goals rfl

end Cert.Kernel28Ideal.Value

namespace Cert.Proof

theorem algebraic25 : Cert.algebraic_Kernel25Ideal_Reference25Ideal := by
  pair_intro
  · run_from Cert.Kernel25Ideal.Gen.run_main m g
  · run_from Cert.Reference25Ideal.Value.run m' g'
    all_goals
      simp only [Cert.Kernel25Ideal.Value.arrays m c]
      funext i; idx_vars i
      pointwise [delta, mean, square]

theorem frame_r25 : Cert.quiescent_Reference25Ideal := fun m g _ =>
  (θ_run _ _ _).mono (fun r h => ⟨fun c => (h c).2.2.2, sem_eq_zero_of_no_sems (by decide) r.2⟩) (Cert.Reference25Ideal.Value.run (F := Ideal) m g)

theorem algebraic26 : Cert.algebraic_Kernel26Ideal_Reference26Ideal := by
  pair_intro
  · run_from Cert.Kernel26Ideal.Gen.run_main m g
  · run_from Cert.Reference26Ideal.Value.run m' g'
    all_goals
      simp only [Cert.Kernel26Ideal.Value.arrays m c]
      funext i; idx_vars i
      pointwise [delta, mean, square]

theorem frame_r26 : Cert.quiescent_Reference26Ideal := fun m g _ =>
  (θ_run _ _ _).mono (fun r h => ⟨fun c => (h c).2.2.2, sem_eq_zero_of_no_sems (by decide) r.2⟩) (Cert.Reference26Ideal.Value.run (F := Ideal) m g)

theorem algebraic27 : Cert.algebraic_Kernel27Ideal_Reference27Ideal := by
  pair_intro
  · run_from Cert.Kernel27Ideal.Gen.run_main m g
  · run_from Cert.Reference27Ideal.Value.run m' g'
    all_goals
      simp only [Cert.Kernel27Ideal.Value.arrays m c]
      funext i; idx_vars i
      pointwise [delta, mean, square]

theorem frame_r27 : Cert.quiescent_Reference27Ideal := fun m g _ =>
  (θ_run _ _ _).mono (fun r h => ⟨fun c => (h c).2.2.2, sem_eq_zero_of_no_sems (by decide) r.2⟩) (Cert.Reference27Ideal.Value.run (F := Ideal) m g)

theorem algebraic28 : Cert.algebraic_Kernel28Ideal_Reference28Ideal := by
  pair_intro
  · run_from Cert.Kernel28Ideal.Gen.run_main m g
  · run_from Cert.Reference28Ideal.Value.run m' g'
    all_goals
      simp only [Cert.Kernel28Ideal.Value.arrays m c]
      funext i; idx_vars i
      pointwise [delta, mean, square]

theorem frame_r28 : Cert.quiescent_Reference28Ideal := fun m g _ =>
  (θ_run _ _ _).mono (fun r h => ⟨fun c => (h c).2.2.2, sem_eq_zero_of_no_sems (by decide) r.2⟩) (Cert.Reference28Ideal.Value.run (F := Ideal) m g)

end Cert.Proof

end
-- ==== Proof.Gt29.lean ====
/- The gradient of the SwiGLU: both halves of the up-projection's gradient, where the product's other factor and the
   gradient that comes in are finite. -/
module

public import proofs.«01_k».proof.Defs
public import proofs.«01_k».proof.Proof.Gen.Pre_finite
public import Idealize.ShloMosaic.Lib.Pipeline.ValueKit
public import Idealize.ShloMosaic.Lib.IdealHost
public import proofs.«01_k».proof.Proof.Gen.Kernel29Ideal.Value
public import proofs.«01_k».proof.Proof.Gen.Reference29Ideal.Run

@[expose] public section

set_option maxRecDepth 16384

noncomputable section

namespace Cert.Gate

open Idealize.ShloMosaic Idealize.ShloMosaic.TcCoe Idealize.ShloMosaic.Tactic

/-- The gate's gradient, the product's factors taken together. -/
def dgate (g u d : EReal) : EReal := (d * u) * (Ideal.logistic g * (1 + g * (1 - Ideal.logistic g)))

/-- The other factor's gradient. -/
def dup (g d : EReal) : EReal := d * (g * Ideal.logistic g)

/-- The product rule's two terms are the gate's gradient, at finite factors. -/
theorem dgate_eq (g u d : EReal) (hu : max u (-u) < ⊤) (hd : max d (-d) < ⊤) :
    (d * u) * Ideal.logistic g + (g * (d * u)) * (Ideal.logistic g * (1 - Ideal.logistic g)) = dgate g u d := by
  have real : ∀ x : EReal, max x (-x) < ⊤ → ∃ r : ℝ, x = r := fun x h => by
    induction x with
    | bot => simp at h
    | top => simp at h
    | coe r => exact ⟨r, rfl⟩
  obtain ⟨u, rfl⟩ := real u hu
  obtain ⟨d, rfl⟩ := real d hd
  rw [dgate, ← EReal.coe_mul]
  induction g with
  | bot => simp
  | top =>
    have e : (1 : EReal) - 1 = 0 := by rw [← EReal.coe_one, ← EReal.coe_sub, sub_self, EReal.coe_zero]
    simp [e]
  | coe g =>
    rw [Ideal.logistic_coe, ← EReal.coe_one, ← EReal.coe_sub]
    simp only [← EReal.coe_mul, ← EReal.coe_add]
    exact congrArg _ (by ring)

/-- What the precondition says at an index. -/
theorem finite_of (a b : EReal) (f : IntOp.andi (Ideal.cmp .olt (max a (-a)) (Ideal.ofBits .f32 0x7F800000#32)) (Ideal.cmp .olt (max b (-b)) (Ideal.ofBits .f32 0x7F800000#32)) = 1#1) :
    max a (-a) < ⊤ ∧ max b (-b) < ⊤ := by
  rw [show Ideal.ofBits .f32 0x7F800000#32 = ⊤ by simp [Ideal.ofBits, Ideal.ieee]] at f
  by_cases ha : max a (-a) < ⊤ <;> by_cases hb : max b (-b) < ⊤ <;> simp_all [Ideal.cmp, IntOp.andi]

end Cert.Gate

namespace Cert.Kernel29Ideal.Value

open Cert.Kernel29Ideal.Gen Cert.Gate
open Idealize.ShloMosaic Idealize.ShloMosaic.TcCoe Idealize.ShloMosaic.Tactic Idealize.SL.Sem

/-- The two halves, one above the other. -/
def halves {a b : ℕ} (G U D : Vec Ideal ⟨2, ![a, b]⟩ .bf16) : Vec Ideal ⟨3, ![2, a, b]⟩ .bf16 := fun i =>
  if (i 0).val = 0 then dgate (G (ix2 (i 1) (i 2))) (U (ix2 (i 1) (i 2))) (D (ix2 (i 1) (i 2))) else dup (G (ix2 (i 1) (i 2))) (D (ix2 (i 1) (i 2)))

theorem out (x0 x1 x2 : Vec Ideal S256x2816 .bf16) : out0_3 x0 x1 x2 = halves x0 x1 x2 := by
  funext y
  refine View.canon_eq_of_allAt _ y _ (cover0_3 _ _ y) (View.allAt_cons_unit _ _ _ _ _ (fun x hx => ?_) (View.allAt_cons_unit _ _ _ _ _ (fun x hx => ?_) (View.allAt_nil _ _)))
  all_goals
    idx_vars x
    idx_vars y
    have h0 := hx 0
    have h1 := hx 1
    have h2 := hx 2
    dsimp at h0 h1 h2
    obtain rfl : y1 = x1 := Fin.ext (by omega)
    obtain rfl : y2 = x2 := Fin.ext (by omega)
    simp only [r0_0, View.ld_unit_lit' (S := S256x2816) _ _ (show ∀ a, (![0, 0] : Fin 2 → ℕ) a = 0 by decide)]
    pointwise [k0_pay5, k0_pay4, k0_pay3, k0_pay2, k0_pay1, halves, dgate, dup, Ideal.logistic]
    rw [zero_sub]
  · rw [if_neg (show y0.val ≠ 0 by omega)]
  · rw [if_pos (show y0.val = 0 by omega)]

variable (m : (ℓ : Loc nD τ sig) → Buf (Elt Ideal) ℓ) (c : Dev nD)

theorem idx : ∀ t : Fin cfg0.N, win0_0.index t = ![t.val / 2, t.val % 2] ∧ win0_1.index t = ![t.val / 2, t.val % 2] ∧ win0_2.index t = ![t.val / 2, t.val % 2] ∧ win0_3.index t = ![0, t.val / 2, t.val % 2] :=
  (by decide +kernel : ∀ t : Fin grid0.N, _)

/-- The array the kernel leaves. -/
theorem array : (dats m 0 c).arrAt 3 cfg0.N = halves (m (c.tc.loc main_arg0)) (m (c.tc.loc main_arg1)) (m (c.tc.loc main_arg2)) := by
  refine (dats m 0 c).arrAt_eq_of_covers 3 _ (by decide +kernel) fun t _ y => ?_
  blk_simp
  rw [after0_3, out]
  idx_vars y
  simp only [halves]
  blk_point [iblk, V, idx t]

end Cert.Kernel29Ideal.Value

namespace Cert.Proof

open Cert.Gate
open Idealize.ShloMosaic Idealize.ShloMosaic.TcCoe Idealize.ShloMosaic.Tactic Idealize.SL.Sem

theorem algebraic29 : Cert.algebraic_Kernel29Ideal_Reference29Ideal_pre_finite := by
  pair_intro
  · run_from Cert.Kernel29Ideal.Gen.run_main m g
  · run_from Cert.Reference29Ideal.Value.run m' g'
    rw [Cert.Kernel29Ideal.Value.array]
    have fin := hpre c
    funext i; idx_vars i
    have f := finite_of _ _ (congrFun fin (ix2 i1 i2))
    rw [(hagree c).2.2]
    pointwise [Cert.Kernel29Ideal.Value.halves]
    by_cases h : i0.val = 0
    · rw [dif_pos (by omega), if_pos h]
      exact dgate_eq _ _ _ f.1 f.2
    · rw [dif_neg (by omega), if_neg h]
      exact mul_comm _ _

theorem frame_r29 : Cert.quiescent_Reference29Ideal := fun m g _ =>
  (θ_run _ _ _).mono (fun r h => ⟨fun c => (h c).2, sem_eq_zero_of_no_sems (by decide) r.2⟩) (Cert.Reference29Ideal.Value.run (F := Ideal) m g)

end Cert.Proof

end
-- ==== Proof.Gn30.lean ====
/- The gradient of the gated norm of the DeltaNet heads: every head of a token is a row of 128 entries. -/
module

public import proofs.«01_k».proof.Defs
public import Idealize.ShloMosaic.Lib.Pipeline.ValueKit
public import Idealize.ShloMosaic.Lib.IdealHost
public import proofs.«01_k».proof.Proof.Gen.Kernel30Ideal.Value
public import proofs.«01_k».proof.Proof.Gen.Reference30Ideal.Run

@[expose] public section

set_option maxRecDepth 65536

noncomputable section

namespace Cert.GatedNorm

open Idealize.ShloMosaic Idealize.ShloMosaic.TcCoe Idealize.ShloMosaic.Tactic

/-- The mean of a row's squares and the small constant. -/
def ms (X : Fin 128 → EReal) : EReal :=
  Ideal.div (∑ k, X k * X k) (Ideal.ofBits .f32 0x43000000#32) + Ideal.ofBits .f32 0x358637BD#32

/-- The gradient that comes in, times the gate. -/
def gate (Z D : Fin 128 → EReal) (k : Fin 128) : EReal := D k * (Z k * Ideal.logistic (Z k))

/-- What the mean of the squares sends back to the row's entries. -/
def back (X Z G D : Fin 128 → EReal) : EReal :=
  Ideal.div ((∑ k, X k * (gate Z D k * G k)) * (Ideal.ofBits .f32 0xBF000000#32 * Ideal.div (Ideal.rsqrt (ms X)) (ms X))) (Ideal.ofBits .f32 0x43000000#32)

/-- The gradient of a row. -/
def dx (X Z G D : Fin 128 → EReal) (k : Fin 128) : EReal :=
  gate Z D k * G k * Ideal.rsqrt (ms X) + X k * back X Z G D + back X Z G D * X k

/-- The gradient of the gate's argument. -/
def dz (X Z G D : Fin 128 → EReal) (k : Fin 128) : EReal :=
  X k * Ideal.rsqrt (ms X) * G k * D k * Ideal.logistic (Z k)
    + Z k * (X k * Ideal.rsqrt (ms X) * G k * D k) * (Ideal.logistic (Z k) * (1 - Ideal.logistic (Z k)))

/-- The slope of the logistic function, written with the exponential. -/
theorem slope (w z : EReal) : -(-(w * Ideal.div 1 ((1 + Ideal.exp (-z)) * (1 + Ideal.exp (-z)))) * Ideal.exp (-z)) = w * (Ideal.logistic z * (1 - Ideal.logistic z)) := by
  rw [EReal.neg_mul, neg_neg, mul_assoc]
  congr 1
  induction z with
  | bot => simp [Ideal.div, EReal.add_top_of_ne_bot (show (1 : EReal) ≠ ⊥ from EReal.coe_ne_bot 1)]
  | top =>
    have e : (1 : EReal) - 1 = 0 := by rw [← EReal.coe_one, ← EReal.coe_sub, sub_self, EReal.coe_zero]
    simp [e]
  | coe z =>
    have h : (0 : ℝ) < 1 + Real.exp (-z) := by positivity
    rw [Ideal.logistic_coe, ← EReal.coe_neg, Ideal.exp_coe, ← EReal.coe_one, ← EReal.coe_add, ← EReal.coe_mul, Ideal.div_coe (by positivity), ← EReal.coe_sub]
    simp only [← EReal.coe_mul]
    congr 1
    field_simp
    ring

/-- A row's part of the gradient of the gain. -/
def dg (X Z D : Fin 128 → EReal) (k : Fin 128) : EReal := X k * Ideal.rsqrt (ms X) * gate Z D k

/-- The row of an array that an entry lies in, `o` columns on. -/
def row {a b : ℕ} (o : ℕ) (A : (⟨2, ![a, b]⟩ : Shape).Idx → EReal) (h : o + 1024 ≤ b) (r : Fin a) (p : Fin 8) (k : Fin 128) : EReal :=
  A (ix2 r ⟨o + 128 * p.val + k.val, by omega⟩)

/-- The head that a column lies in, and its place in the head. -/
def hd (l : Fin 1024) : Fin 8 := ⟨l.val / 128, by omega⟩
def ln (l : Fin 1024) : Fin 128 := ⟨l.val % 128, by omega⟩

variable {a b d : ℕ} (o : ℕ) (X : (⟨2, ![a, 1024]⟩ : Shape).Idx → EReal) (Z : (⟨2, ![a, b]⟩ : Shape).Idx → EReal)
  (G : Fin 128 → EReal) (D : (⟨2, ![a, d]⟩ : Shape).Idx → EReal) (hb : o + 1024 ≤ b) (hd' : 0 + 1024 ≤ d)

/-- The gradient of the heads, of the gate's arguments and of the gain, over all rows of the arrays. -/
def dxs : (⟨2, ![a, 1024]⟩ : Shape).Idx → EReal := fun i =>
  dx (row 0 X le_rfl (i 0) (hd (i 1))) (row o Z hb (i 0) (hd (i 1))) G (row 0 D hd' (i 0) (hd (i 1))) (ln (i 1))
def dzs : (⟨2, ![a, 1024]⟩ : Shape).Idx → EReal := fun i =>
  dz (row 0 X le_rfl (i 0) (hd (i 1))) (row o Z hb (i 0) (hd (i 1))) G (row 0 D hd' (i 0) (hd (i 1))) (ln (i 1))
def dgs : (⟨2, ![1, 128]⟩ : Shape).Idx → EReal := fun i =>
  ∑ r : Fin a, ∑ p : Fin 8, dg (row 0 X le_rfl r p) (row o Z hb r p) (row 0 D hd' r p) (i 1)

end Cert.GatedNorm

namespace Cert.Kernel30Ideal.Value

open Cert.Kernel30Ideal.Gen Cert.GatedNorm
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val, 0] ∧ win0_1.index t = ![t.val, 3] ∧ win0_2.index t = ![0, 0] ∧ win0_3.index t = ![t.val, 0] ∧ win0_4.index t = ![t.val, 0] ∧ win0_5.index t = ![t.val, 0] ∧ win0_6.index t = ![0, 0] :=
  (by decide +kernel : ∀ t : Fin grid0.N, _)

theorem lt32 (t : Fin cfg0.N) : t.val < 32 := lt_of_lt_of_eq t.isLt (show cfg0.N = 32 from N_0)

theorem rows_dx (t : Fin cfg0.N) : (outsAt0 (F := Ideal) m c t.val t.isLt).1 = dxs 0 (iblk m c 0 t) (iblk m c 1 t) (fun k => iblk m c 2 t (ix2 0 k)) (iblk m c 3 t) le_rfl le_rfl := by
  have hN := lt32 t
  funext y
  idx_vars y
  by_cases h : t.val % 32 = 0
  all_goals
    first | rw [outsAt0_A m c t h (by omega)] | rw [outsAt0_B m c t h (by omega)]
    frame_out
    canon_tiles x hx
    all_goals
      open_payloads
      idx_vars x
      pointwise [dxs, dx, back, gate, ms, row, hd, ln, Ideal.logistic]
      simp only [Fin.sum_univ_one, zero_sub]
      blk_point []

theorem rows_dz (t : Fin cfg0.N) : (outsAt0 (F := Ideal) m c t.val t.isLt).2.1 = dzs 0 (iblk m c 0 t) (iblk m c 1 t) (fun k => iblk m c 2 t (ix2 0 k)) (iblk m c 3 t) le_rfl le_rfl := by
  have hN := lt32 t
  funext y
  idx_vars y
  by_cases h : t.val % 32 = 0
  all_goals
    first | rw [outsAt0_A m c t h (by omega)] | rw [outsAt0_B m c t h (by omega)]
    frame_out
    canon_tiles x hx
    all_goals
      open_payloads
      idx_vars x
      pointwise [dzs, dz, ms, row, hd, ln]
      simp only [Fin.sum_univ_one, zero_sub]
      rw [slope]
      simp only [Ideal.logistic]
      blk_point []

theorem rows_dg (t : Fin cfg0.N) (h : t.val % 32 = 0) (y : S1x128.Idx) : (outsAt0 (F := Ideal) m c t.val t.isLt).2.2 y = dgs 0 (iblk m c 0 t) (iblk m c 1 t) (iblk m c 3 t) le_rfl le_rfl y := by
  have hN := lt32 t
  idx_vars y
  rw [outsAt0_A m c t h (by omega)]
  frame_out
  open_payloads
  pointwise [dgs, dg, gate, ms, row, Ideal.logistic]
  simp only [Fin.sum_univ_one, zero_sub]
  rw [Finset.sum_comm]
  simp only [Fin.sum_univ_eight]
  blk_point []

theorem step_dg (t : Fin cfg0.N) (h : ¬t.val % 32 = 0) (y : S1x128.Idx) : (outsAt0 (F := Ideal) m c t.val t.isLt).2.2 y =
    (outsAt0 (F := Ideal) m c (t.val - 1) (Nat.lt_of_le_of_lt (Nat.sub_le _ _) t.isLt)).2.2 y + dgs 0 (iblk m c 0 t) (iblk m c 1 t) (iblk m c 3 t) le_rfl le_rfl y := by
  have hN := lt32 t
  idx_vars y
  rw [outsAt0_B m c t h (by omega)]
  frame_out
  open_payloads
  pointwise [dgs, dg, gate, ms, row, Ideal.logistic]
  simp only [Fin.sum_univ_one, zero_sub]
  rw [Finset.sum_comm]
  simp only [Fin.sum_univ_eight]
  blk_point []

/-- The arrays the kernel leaves. -/
theorem array_dx : (dats m 0 c).arrAt 4 cfg0.N = dxs 3072 (m (c.tc.loc main_arg0)) (m (c.tc.loc main_arg1)) (fun k => m (c.tc.loc main_arg2) (ix1 k)) (m (c.tc.loc main_arg3)) (by decide) (by decide) := by
  refine (dats m 0 c).arrAt_eq_of_covers 4 _ (by decide +kernel) fun t _ y => ?_
  blk_simp
  rw [after0_4, rows_dx m c t]
  idx_vars y
  simp only [dxs, dx, back, gate, ms, row, hd, ln]
  blk_point [iblk, V, idx t]

theorem array_dz : (dats m 0 c).arrAt 5 cfg0.N = dzs 3072 (m (c.tc.loc main_arg0)) (m (c.tc.loc main_arg1)) (fun k => m (c.tc.loc main_arg2) (ix1 k)) (m (c.tc.loc main_arg3)) (by decide) (by decide) := by
  refine (dats m 0 c).arrAt_eq_of_covers 5 _ (by decide +kernel) fun t _ y => ?_
  blk_simp
  rw [after0_5, rows_dz m c t]
  idx_vars y
  simp only [dzs, dz, ms, row, hd, ln]
  blk_point [iblk, V, idx t]

theorem array_dg : (dats m 0 c).arrAt 6 cfg0.N = dgs 3072 (m (c.tc.loc main_arg0)) (m (c.tc.loc main_arg1)) (m (c.tc.loc main_arg3)) (by decide) (by decide) := by
  refine (dats m 0 c).arrAt_eq_of_covers 6 _ (by decide +kernel) fun t hf y => ?_
  blk_simp
  rw [after0_6, Pipeline.eq_sum_fin_of_reset_step_apply_of_flush (fun n h => (outsAt0 m c n h).2.2) 32 (fun _ => 0)
    (fun p j => dgs 0 (iblk m c 0 p) (iblk m c 1 p) (iblk m c 3 p) le_rfl le_rfl j)
    (fun t h j => (rows_dg m c t h j).trans (zero_add _).symm) (fun t h j => step_dg m c t h j)
    t ((flush0_6 t).mp hf) _, zero_add]
  idx_vars y
  simp only [dgs, dg, gate, ms, row]
  refine Fin.sum_mul_add_congr fun s k hl => ?_
  blk_point [iblk, V, idx t, idx ⟨_, Pipeline.run_point_lt_of_flush t ((flush0_6 t).mp hf) s⟩]

end Cert.Kernel30Ideal.Value

namespace Cert.Reference30Ideal.Value

open Cert.Reference30Ideal Cert.Reference30Ideal.Gen Cert.GatedNorm
open Idealize.ShloMosaic Idealize.ShloMosaic.TcCoe Idealize.ShloMosaic.Tactic

theorem div8 (r : Fin 8192) (p : ℕ) (hp : p < 8) (h : (r.val * 8 + p) / 8 < 8192) : (⟨(r.val * 8 + p) / 8, h⟩ : Fin 8192) = r := Fin.ext (show (r.val * 8 + p) / 8 = r.val by omega)
theorem mod8 (r : Fin 8192) (p : ℕ) (hp : p < 8) (h : (r.val * 8 + p) % 8 < 8) : (⟨(r.val * 8 + p) % 8, h⟩ : Fin 8) = ⟨p, hp⟩ := Fin.ext (show (r.val * 8 + p) % 8 = p by omega)

/-- The heads of the tokens, one below the other: the rows of the three arrays. -/
theorem heads (A : Vec Ideal S8192x1024 .f32) (r : Fin 65536) (k : Fin 128) :
    shapeCast S65536x128 A shapeCasts_S8192x1024_S65536x128 (ix2 r k) = row 0 A le_rfl (⟨r.val / 8, by omega⟩ : Fin 8192) ⟨r.val % 8, by omega⟩ k := by
  pointwise [row]
  blk_point []

theorem headsz (A : Vec Ideal S8192x7168 .f32) (r : Fin 65536) (k : Fin 128) :
    shapeCast S65536x128 (extractStridedSlice S8192x1024 ![0, 3072] A slices_S8192x7168_S8192x1024_0_3072) shapeCasts_S8192x1024_S65536x128 (ix2 r k) = row 3072 A (by decide) (⟨r.val / 8, by omega⟩ : Fin 8192) ⟨r.val % 8, by omega⟩ k := by
  pointwise [row]
  blk_point []

theorem headsd (A : Vec Ideal S8192x2048 .f32) (r : Fin 65536) (k : Fin 128) :
    shapeCast S65536x128 (extractStridedSlice S8192x1024 ![0, 0] A slices_S8192x2048_S8192x1024_0_0) shapeCasts_S8192x1024_S65536x128 (ix2 r k) = row 0 A (by decide) (⟨r.val / 8, by omega⟩ : Fin 8192) ⟨r.val % 8, by omega⟩ k := by
  pointwise [row]
  blk_point []

end Cert.Reference30Ideal.Value

namespace Cert.Proof

open Cert.GatedNorm Cert.Reference30Ideal.Value
open Idealize.ShloMosaic Idealize.ShloMosaic.TcCoe Idealize.ShloMosaic.Tactic Idealize.SL.Sem

theorem algebraic30 : Cert.algebraic_Kernel30Ideal_Reference30Ideal := by
  pair_intro
  · run_from Cert.Kernel30Ideal.Gen.run_main m g
  · run_from Cert.Reference30Ideal.Value.run m' g'
    all_goals
      have hx := heads (m (c.tc.loc Cert.Kernel30Ideal.main_arg0))
      have hz := headsz (m (c.tc.loc Cert.Kernel30Ideal.main_arg1))
      have hd := headsd (m (c.tc.loc Cert.Kernel30Ideal.main_arg3))
      first
        | rw [Cert.Kernel30Ideal.Value.array_dx, Cert.Reference30Ideal.Value.res_main_v46]; simp only [hagree c]
        | rw [Cert.Kernel30Ideal.Value.array_dz]
        | rw [Cert.Kernel30Ideal.Value.array_dg]
      generalize shapeCast _ (m (c.tc.loc Cert.Kernel30Ideal.main_arg0)) _ = X at hx ⊢
      generalize shapeCast _ (extractStridedSlice _ _ (m (c.tc.loc Cert.Kernel30Ideal.main_arg1)) _) _ = Z at hz ⊢
      generalize shapeCast _ (extractStridedSlice _ _ (m (c.tc.loc Cert.Kernel30Ideal.main_arg3)) _) _ = D at hd ⊢
      funext i; idx_vars i
      pointwise []
      simp only [hx, hz, hd, Fin.sum_univ_one]
    · simp (disch := omega) only [div8, mod8]
      rfl
    · simp (disch := omega) only [div8, mod8]
      rfl
    · refine (Fin.sum_mul_add_congr (S := 8192) (n := 8) fun r p hl => ?_).symm
      simp (disch := omega) only [div8, mod8]
      rfl

theorem frame_r30 : Cert.quiescent_Reference30Ideal := fun m g _ =>
  (θ_run _ _ _).mono (fun r h => ⟨fun c => ⟨(h c).2.2.2.1, (h c).2.2.2.2.1, (h c).2.2.2.2.2.1, (h c).2.2.2.2.2.2⟩, sem_eq_zero_of_no_sems (by decide) r.2⟩) (Cert.Reference30Ideal.Value.run (F := Ideal) m g)

end Cert.Proof

end
-- ==== Proof.Mm31.lean ====
/- The gradient that the gates' projection sends back, added to the mixer's: the blocks of the kernel are those of the whole product. -/
module

public import proofs.«01_k».proof.Defs
public import proofs.«01_k».proof.Proof.Prod
public import proofs.«01_k».proof.Proof.Gen.Kernel31Ideal.Value
public import proofs.«01_k».proof.Proof.Gen.Reference31Ideal.Run

@[expose] public section

set_option maxRecDepth 16384

noncomputable section

namespace Cert.Kernel31Ideal.Value

open Cert.Kernel31Ideal.Gen Cert.Prod
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val / 2, 0] ∧ win0_1.index t = ![t.val % 2, 0] ∧ win0_2.index t = ![t.val / 2, t.val % 2] ∧ win0_3.index t = ![t.val / 2, t.val % 2] :=
  (by decide +kernel : ∀ t : Fin grid0.N, _)

/-- The array the kernel leaves is the whole product. -/
theorem array : (dats m 0 c).arrAt 3 cfg0.N = addnt (m (c.tc.loc main_arg2)) (m (c.tc.loc main_arg0)) (m (c.tc.loc main_arg1)) := by
  refine (dats m 0 c).arrAt_eq_of_covers 3 _ (by decide +kernel) fun t _ y => ?_
  blk_simp
  rw [after0_3]
  frame_out
  idx_vars y
  pointwise [k0_pay1, addnt, nt]
  blk_point [iblk, V, idx t]

end Cert.Kernel31Ideal.Value

namespace Cert.Proof

open Cert.Prod
open Idealize.ShloMosaic Idealize.ShloMosaic.TcCoe Idealize.ShloMosaic.Tactic Idealize.SL.Sem

theorem algebraic31 : Cert.algebraic_Kernel31Ideal_Reference31Ideal := by
  pair_intro
  · run_from Cert.Kernel31Ideal.Gen.run_main m g
  · run_from Cert.Reference31Ideal.Value.run m' g'
    rw [Cert.Kernel31Ideal.Value.array]
    funext i; idx_vars i
    pointwise [addnt, nt]

theorem frame_r31 : Cert.quiescent_Reference31Ideal := fun m g _ =>
  (θ_run _ _ _).mono (fun r h => ⟨fun c => ⟨(h c).2.1, (h c).2.2.1, (h c).2.2.2⟩, sem_eq_zero_of_no_sems (by decide) r.2⟩) (Cert.Reference31Ideal.Value.run (F := Ideal) m g)

end Cert.Proof

end
-- ==== Proof.Nm37.lean ====
/- The RMS norm of 8192 rows, by blocks of 512 rows, and of the memory's 256 rows, one block. -/
module

public import proofs.«01_k».proof.Defs
public import proofs.«01_k».proof.Proof.Norm
public import proofs.«01_k».proof.Proof.Gen.Kernel37Ideal.Value
public import proofs.«01_k».proof.Proof.Gen.Reference37Ideal.Run
public import proofs.«01_k».proof.Proof.Gen.Kernel38Ideal.Value
public import proofs.«01_k».proof.Proof.Gen.Reference38Ideal.Run

@[expose] public section

set_option maxRecDepth 16384

noncomputable section

namespace Cert.Kernel37Ideal.Value

open Cert.Kernel37Ideal.Gen Cert.Norm
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The array the kernel leaves. -/
theorem array : (dats m 0 c).arrAt 2 cfg0.N = rms (Ideal.ofBits .f32 0x45000000#32) (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, rms, ms]
  blk_point [iblk, V, idx t]

end Cert.Kernel37Ideal.Value

namespace Cert.Kernel38Ideal.Value

open Cert.Kernel38Ideal.Gen Cert.Norm
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The array the kernel leaves. -/
theorem array : (dats m 0 c).arrAt 2 cfg0.N = rms (Ideal.ofBits .f32 0x45000000#32) (m (c.tc.loc main_arg0)) (m (c.tc.loc main_arg1)) := by
  refine (dats m 0 c).arrAt_eq_of_covers 2 _ (by decide +kernel) fun t _ y => ?_
  blk_simp
  rw [after0_2]
  frame_out
  idx_vars y
  pointwise [k0_pay1, rms, ms]
  blk_point [iblk, V, idx t]

end Cert.Kernel38Ideal.Value

namespace Cert.Proof

open Cert.Norm
open Idealize.ShloMosaic Idealize.ShloMosaic.TcCoe Idealize.ShloMosaic.Tactic Idealize.SL.Sem

theorem algebraic37 : Cert.algebraic_Kernel37Ideal_Reference37Ideal := by
  pair_intro
  · run_from Cert.Kernel37Ideal.Gen.run_main m g
  · run_from Cert.Reference37Ideal.Value.run m' g'
    rw [Cert.Kernel37Ideal.Value.array]
    funext i; idx_vars i
    pointwise [rms, ms]

theorem frame_r37 : Cert.quiescent_Reference37Ideal := fun m g _ =>
  (θ_run _ _ _).mono (fun r h => ⟨fun c => (h c).2, sem_eq_zero_of_no_sems (by decide) r.2⟩) (Cert.Reference37Ideal.Value.run (F := Ideal) m g)

theorem algebraic38 : Cert.algebraic_Kernel38Ideal_Reference38Ideal := by
  pair_intro
  · run_from Cert.Kernel38Ideal.Gen.run_main m g
  · run_from Cert.Reference38Ideal.Value.run m' g'
    rw [Cert.Kernel38Ideal.Value.array]
    funext i; idx_vars i
    pointwise [rms, ms]

theorem frame_r38 : Cert.quiescent_Reference38Ideal := fun m g _ =>
  (θ_run _ _ _).mono (fun r h => ⟨fun c => (h c).2, sem_eq_zero_of_no_sems (by decide) r.2⟩) (Cert.Reference38Ideal.Value.run (F := Ideal) m g)

end Cert.Proof

end
-- ==== Proof.Cv39.lean ====
/- The convolution before the recurrence and the gated short convolution, by blocks of 256 rows. -/
module

public import proofs.«01_k».proof.Defs
public import proofs.«01_k».proof.Proof.Conv
public import proofs.«01_k».proof.Proof.Gen.Kernel39Ideal.Value
public import proofs.«01_k».proof.Proof.Gen.Reference39Ideal.Run
public import proofs.«01_k».proof.Proof.Gen.Kernel40Ideal.Value
public import proofs.«01_k».proof.Proof.Gen.Reference40Ideal.Run

@[expose] public section

set_option maxRecDepth 16384

noncomputable section

open Cert.Conv
open Idealize.ShloMosaic Idealize.ShloMosaic.TcCoe Idealize.ShloMosaic.Tactic Idealize.SL.Sem

/-! The four-tap convolution before the recurrence. -/

namespace Cert.Kernel39Ideal.Value

open Cert.Kernel39Ideal.Gen

variable (m : (ℓ : Loc nD τ sig) → Buf (Elt Ideal) ℓ) (c : Dev nD)

theorem idx : ∀ t : Fin cfg0.N, win0_0.index t = ![t.val % 32, t.val / 32] ∧ win0_1.index t = ![t.val % 32 * 16 - 1, t.val / 32] ∧ win0_2.index t = ![0, t.val / 32] ∧ win0_3.index t = ![t.val % 32, t.val / 32]
   ∧ (grid0.coords t 1).val = t.val % 32 :=
  (by decide +kernel : ∀ t : Fin grid0.N, _)

/-- The array, by row and column. -/
def X (x : (⟨2, ![8192, 7168]⟩ : Shape).Idx → EReal) (i : Fin 8192) (j : Fin 3072) : EReal := x (ix2 i (⟨j.val, by omega⟩ : Fin 7168))

/-- The array's tile at a point, with the rows before it. -/
theorem ext (t : Fin cfg0.N) (r : Fin 256) (y : Fin 1536) (s : ℕ) (hs : s ≤ 16) (p : ℕ) (hp : p = 16 + r.val - s) (i : Fin 8192) (hi : i.val = t.val % 32 * 256 + r.val) (j : Fin 3072) (hj : j.val = t.val / 32 * 1536 + y.val) :
    (if h : p < 16 then Scalar.select (α := EReal) (IntOp.cmpi .eq (BitVec.ofNat 32 (grid0.coords t 1).val) 0#32) 0 (X0_1 m c t (ix2 (⟨p, h⟩ : Fin 16) y)) else X0_0 m c t (ix2 (⟨p - 16, by omega⟩ : Fin 256) y))
      = early s (X (m (c.tc.loc main_arg0))) i j := by
  rw [(idx t).2.2.2.2]
  refine ext_of (t.val % 32) r.val hs (by omega) hi r.isLt hp (fun h h0 k hk => (dif_pos (moved0_1 t _)).trans ?_) (fun h k hk => (dif_pos (moved0_0 t _)).trans ?_)
  all_goals
    unfold X
    blk_ext [iblk, V, idx t]

/-- The array the kernel leaves. -/
theorem array : (dats m 0 c).arrAt 3 cfg0.N = fun i => taps4 (m (c.tc.loc main_arg1)) (X (m (c.tc.loc main_arg0))) (i 0) (i 1) := by
  refine (dats m 0 c).arrAt_eq_of_covers 3 _ (by decide +kernel) fun t _ y => ?_
  blk_simp
  rw [after0_3]
  unfold outsAt0
  frame_out
  idx_vars y
  pointwise [k0_pay1, taps4]
  have e0 : (((View.whole main_v0).slice (win0_3.rect t)).emb (ix2 y0 y1) 0).val = t.val % 32 * 256 + y0.val := by blk_simp [idx t]
  have e1 : (((View.whole main_v0).slice (win0_3.rect t)).emb (ix2 y0 y1) 1).val = t.val / 32 * 1536 + y1.val := by blk_simp [idx t]
  refine congrArg₂ (· + ·) (congrArg₂ (· + ·) (congrArg₂ (· + ·) (congrArg₂ (· * ·) ((dif_pos (moved0_0 t _)).trans ?_) ?_) (congrArg₂ (· * ·) (ext m c t y0 y1 3 (by omega) _ ?_ _ e0 _ e1) ?_))
    (congrArg₂ (· * ·) (ext m c t y0 y1 2 (by omega) _ ?_ _ e0 _ e1) ?_)) (congrArg₂ (· * ·) (ext m c t y0 y1 1 (by omega) _ ?_ _ e0 _ e1) ?_)
  all_goals first | omega | (try unfold X); blk_point [iblk, V, idx t]

end Cert.Kernel39Ideal.Value

namespace Cert.Proof

open Cert.Kernel39Ideal.Value (X)

theorem algebraic39 : Cert.algebraic_Kernel39Ideal_Reference39Ideal := by
  pair_intro
  · run_from Cert.Kernel39Ideal.Gen.run_main m g
  · run_from Cert.Reference39Ideal.Value.run m' g'
    rw [Cert.Kernel39Ideal.Value.array]
    funext i; idx_vars i
    pointwise
    refine taps4_of (X := X _) (early_of 3 (X _) i0 i1 _ ?_ ?_) (early_of 2 (X _) i0 i1 _ ?_ ?_) (early_of 1 (X _) i0 i1 _ ?_ ?_)
    all_goals first | omega | (intro h; rfl) | (intro h; dsimp only; omega)

theorem frame_r39 : Cert.quiescent_Reference39Ideal := fun m g _ =>
  (θ_run _ _ _).mono (fun r h => ⟨fun c => (h c).2, sem_eq_zero_of_no_sems (by decide) r.2⟩) (Cert.Reference39Ideal.Value.run (F := Ideal) m g)

end Cert.Proof

/-! The gated short convolution. -/

namespace Cert.Kernel40Ideal.Value

open Cert.Kernel40Ideal.Gen

variable (m : (ℓ : Loc nD τ sig) → Buf (Elt Ideal) ℓ) (c : Dev nD)

theorem idx : ∀ t : Fin cfg0.N, win0_0.index t = ![t.val, 5] ∧ win0_1.index t = ![t.val * 16 - 1, 5] ∧ win0_2.index t = ![t.val, 6] ∧ win0_3.index t = ![t.val * 16 - 1, 6] ∧ win0_4.index t = ![0, 0]
   ∧ win0_5.index t = ![t.val, 4] ∧ win0_6.index t = ![t.val, 0] ∧ (grid0.coords t 1).val = t.val :=
  (by decide +kernel : ∀ t : Fin grid0.N, _)

/-- The convolved array, a product, and the gate, by row and column. -/
def X (x : (⟨2, ![8192, 7168]⟩ : Shape).Idx → EReal) (i : Fin 8192) (j : Fin 1024) : EReal := x (ix2 i (⟨5120 + j.val, by omega⟩ : Fin 7168)) * x (ix2 i (⟨6144 + j.val, by omega⟩ : Fin 7168))
def B (x : (⟨2, ![8192, 7168]⟩ : Shape).Idx → EReal) (i : Fin 8192) (j : Fin 1024) : EReal := x (ix2 i (⟨4096 + j.val, by omega⟩ : Fin 7168))

/-- The array's tile at a point, with the rows before it. -/
theorem ext (t : Fin cfg0.N) (r : Fin 256) (s : ℕ) (hs : s ≤ 16) (p : ℕ) (hp : p = 16 + r.val - s) (i : Fin 8192) (hi : i.val = t.val * 256 + r.val) (j : Fin 1024) :
    (if h : p < 16 then Scalar.select (IntOp.cmpi .eq (BitVec.ofNat 32 (grid0.coords t 1).val) 0#32) 0
        (HMul.hMul (α := EReal) (β := EReal) (γ := EReal) (iblk m c 1 t (ix2 (⟨p, h⟩ : Fin 16) j)) (iblk m c 3 t (ix2 (⟨p, h⟩ : Fin 16) j)))
      else HMul.hMul (α := EReal) (β := EReal) (γ := EReal) (iblk m c 0 t (ix2 (⟨p - 16, by omega⟩ : Fin 256) j)) (iblk m c 2 t (ix2 (⟨p - 16, by omega⟩ : Fin 256) j))) = early s (X (m (c.tc.loc main_arg0))) i j := by
  rw [(idx t).2.2.2.2.2.2.2]
  have ht := lt_of_lt_of_eq t.isLt N_0
  refine ext_of t.val r.val hs (by omega) hi r.isLt hp (fun h h0 k hk => ?_) (fun h k hk => ?_)
  all_goals
    unfold X
    blk_point [iblk, V, idx t]

/-- The array the kernel leaves. -/
theorem array : (dats m 0 c).arrAt 6 cfg0.N = fun i => B (m (c.tc.loc main_arg0)) (i 0) (i 1) * taps3 (m (c.tc.loc main_arg1)) (X (m (c.tc.loc main_arg0))) (i 0) (i 1) := by
  refine (dats m 0 c).arrAt_eq_of_covers 6 _ (by decide +kernel) fun t _ y => ?_
  blk_simp
  rw [after0_6]
  frame_out
  idx_vars y
  pointwise [k0_pay1, taps3]
  have e0 : (((View.whole main_v0).slice (win0_6.rect t)).emb (ix2 y0 y1) 0).val = t.val * 256 + y0.val := by blk_simp [idx t]
  have e1 : ((View.whole main_v0).slice (win0_6.rect t)).emb (ix2 y0 y1) 1 = y1 := Fin.ext (by blk_simp [idx t])
  rw [e1]
  refine (mul_comm _ _).trans (congrArg₂ (· * ·) ?_ (congrArg₂ (· + ·) (congrArg₂ (· + ·) (congrArg₂ (· * ·) ?_ ?_) (congrArg₂ (· * ·) (ext m c t y0 2 (by omega) _ ?_ _ e0 y1) ?_))
    (congrArg₂ (· * ·) (ext m c t y0 1 (by omega) _ ?_ _ e0 y1) ?_)))
  all_goals first | omega | (try unfold X); (try unfold B); blk_point [iblk, V, idx t]

end Cert.Kernel40Ideal.Value

namespace Cert.Proof

open Cert.Kernel40Ideal.Value (X)

theorem algebraic40 : Cert.algebraic_Kernel40Ideal_Reference40Ideal := by
  pair_intro
  · run_from Cert.Kernel40Ideal.Gen.run_main m g
  · run_from Cert.Reference40Ideal.Value.run m' g'
    rw [Cert.Kernel40Ideal.Value.array]
    funext i; idx_vars i
    pointwise
    refine congrArg₂ (· * ·) rfl (taps3_of (X := X _) (early_of 2 (X _) i0 i1 _ ?_ ?_) (early_of 1 (X _) i0 i1 _ ?_ ?_))
    all_goals first | omega | (intro h; rfl) | (intro h; dsimp only; omega)

theorem frame_r40 : Cert.quiescent_Reference40Ideal := fun m g _ =>
  (θ_run _ _ _).mono (fun r h => ⟨fun c => (h c).2, sem_eq_zero_of_no_sems (by decide) r.2⟩) (Cert.Reference40Ideal.Value.run (F := Ideal) m g)

end Cert.Proof

end
-- ==== Proof.Gn41.lean ====
/- The gated norm of the DeltaNet heads. -/
module

public import proofs.«01_k».proof.Defs
public import proofs.«01_k».proof.Proof.Gn30
public import proofs.«01_k».proof.Proof.Gen.Kernel41Ideal.Value
public import proofs.«01_k».proof.Proof.Gen.Reference41Ideal.Run

@[expose] public section

set_option maxRecDepth 65536

noncomputable section

namespace Cert.GatedNorm

open Idealize.ShloMosaic Idealize.ShloMosaic.TcCoe Idealize.ShloMosaic.Tactic

/-- The norm of the heads, times the gate, over all rows of the arrays. -/
def gated {a b : ℕ} (o : ℕ) (X : (⟨2, ![a, 1024]⟩ : Shape).Idx → EReal) (Z : (⟨2, ![a, b]⟩ : Shape).Idx → EReal) (G : Fin 128 → EReal) (hb : o + 1024 ≤ b) :
    (⟨2, ![a, 1024]⟩ : Shape).Idx → EReal := fun i =>
  row 0 X le_rfl (i 0) (hd (i 1)) (ln (i 1)) * Ideal.rsqrt (ms (row 0 X le_rfl (i 0) (hd (i 1)))) * G (ln (i 1))
    * (row o Z hb (i 0) (hd (i 1)) (ln (i 1)) * Ideal.logistic (row o Z hb (i 0) (hd (i 1)) (ln (i 1))))

end Cert.GatedNorm

namespace Cert.Kernel41Ideal.Value

open Cert.Kernel41Ideal.Gen Cert.GatedNorm
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val, 0] ∧ win0_1.index t = ![t.val, 3] ∧ win0_2.index t = ![0, 0] ∧ win0_3.index t = ![t.val, 0] :=
  (by decide +kernel : ∀ t : Fin grid0.N, _)

theorem rows (x0 x1 : Vec Ideal S256x1024 .f32) (x2 : Vec Ideal S1x128 .f32) : out0_3 x0 x1 x2 = gated 0 x0 x1 (fun k => x2 (ix2 0 k)) le_rfl := by
  funext y
  idx_vars y
  frame_out
  canon_tiles x hx
  all_goals
    open_payloads
    idx_vars x
    pointwise [gated, ms, row, hd, ln, Ideal.logistic]
    simp only [zero_sub]
    blk_point []

/-- The array the kernel leaves. -/
theorem array : (dats m 0 c).arrAt 3 cfg0.N = gated 3072 (m (c.tc.loc main_arg0)) (m (c.tc.loc main_arg1)) (fun k => m (c.tc.loc main_arg2) (ix1 k)) (by decide) := by
  refine (dats m 0 c).arrAt_eq_of_covers 3 _ (by decide +kernel) fun t _ y => ?_
  blk_simp
  rw [after0_3, rows]
  idx_vars y
  simp only [gated, ms, row, hd, ln]
  blk_point [iblk, V, idx t]

end Cert.Kernel41Ideal.Value

namespace Cert.Proof

open Cert.GatedNorm Cert.Reference30Ideal.Value
open Idealize.ShloMosaic Idealize.ShloMosaic.TcCoe Idealize.ShloMosaic.Tactic Idealize.SL.Sem

theorem algebraic41 : Cert.algebraic_Kernel41Ideal_Reference41Ideal := by
  pair_intro
  · run_from Cert.Kernel41Ideal.Gen.run_main m g
  · run_from Cert.Reference41Ideal.Value.run m' g'
    have hx := heads (m (c.tc.loc Cert.Kernel41Ideal.main_arg0))
    have hz := headsz (m (c.tc.loc Cert.Kernel41Ideal.main_arg1))
    rw [Cert.Kernel41Ideal.Value.array]
    generalize shapeCast _ (m (c.tc.loc Cert.Kernel41Ideal.main_arg0)) _ = X at hx ⊢
    generalize shapeCast _ (extractStridedSlice _ _ (m (c.tc.loc Cert.Kernel41Ideal.main_arg1)) _) _ = Z at hz ⊢
    funext i; idx_vars i
    pointwise []
    simp only [hx, hz]
    simp (disch := omega) only [div8, mod8]
    rfl

theorem frame_r41 : Cert.quiescent_Reference41Ideal := fun m g _ =>
  (θ_run _ _ _).mono (fun r h => ⟨fun c => (h c).2, sem_eq_zero_of_no_sems (by decide) r.2⟩) (Cert.Reference41Ideal.Value.run (F := Ideal) m g)

end Cert.Proof

end
-- ==== Proof.Gt42.lean ====
/- The three-tap convolution of both halves of the up-projection and their gated product, by blocks of 256 rows. -/
module

public import proofs.«01_k».proof.Defs
public import proofs.«01_k».proof.Proof.Conv
public import proofs.«01_k».proof.Proof.Gen.Kernel42Ideal.Value
public import proofs.«01_k».proof.Proof.Gen.Reference42Ideal.Run

@[expose] public section

set_option maxRecDepth 16384

noncomputable section

namespace Cert.Kernel42Ideal.Value

open Cert.Kernel42Ideal.Gen Cert.Conv
open Idealize.ShloMosaic Idealize.ShloMosaic.TcCoe Idealize.ShloMosaic.Tactic Idealize.SL.Sem

variable (m : (ℓ : Loc nD τ sig) → Buf (Elt Ideal) ℓ) (c : Dev nD)

theorem idx : ∀ t : Fin cfg0.N, win0_0.index t = ![t.val % 32, t.val / 32] ∧ win0_1.index t = ![t.val % 32 * 16 - 1, t.val / 32] ∧ win0_2.index t = ![t.val % 32, 2 + t.val / 32] ∧ win0_3.index t = ![t.val % 32 * 16 - 1, 2 + t.val / 32]
   ∧ win0_4.index t = ![0, t.val / 32] ∧ win0_5.index t = ![0, 2 + t.val / 32] ∧ win0_6.index t = ![t.val % 32, t.val / 32] ∧ win0_7.index t = ![t.val % 32, t.val / 32] ∧ win0_8.index t = ![t.val % 32, t.val / 32]
   ∧ (grid0.coords t 1).val = t.val % 32 :=
  (by decide +kernel : ∀ t : Fin grid0.N, _)

/-- The array, by row and column, and the columns of its two halves. -/
def X (x : (⟨2, ![8192, 11264]⟩ : Shape).Idx → EReal) (i : Fin 8192) (j : Fin 11264) : EReal := x (ix2 i j)
def lo (j : Fin 5632) : Fin 11264 := ⟨j.val, by omega⟩
def up (j : Fin 5632) : Fin 11264 := ⟨5632 + j.val, by omega⟩

/-- A half's tile at a point, with the rows before it. -/
theorem ext (t : Fin cfg0.N) (r : Fin 256) (y : Fin 2816) (s : ℕ) (hs : s ≤ 16) (p : ℕ) (hp : p = 16 + r.val - s) (i : Fin 8192) (hi : i.val = t.val % 32 * 256 + r.val) (j : Fin 5632) (hj : j.val = t.val / 32 * 2816 + y.val) :
    (if h : p < 16 then Scalar.select (α := EReal) (IntOp.cmpi .eq (BitVec.ofNat 32 (grid0.coords t 1).val) 0#32) 0 (iblk m c 1 t (ix2 (⟨p, h⟩ : Fin 16) y)) else iblk m c 0 t (ix2 (⟨p - 16, by omega⟩ : Fin 256) y))
      = early s (X (m (c.tc.loc main_arg0))) i (lo j)
    ∧ (if h : p < 16 then Scalar.select (α := EReal) (IntOp.cmpi .eq (BitVec.ofNat 32 (grid0.coords t 1).val) 0#32) 0 (iblk m c 3 t (ix2 (⟨p, h⟩ : Fin 16) y)) else iblk m c 2 t (ix2 (⟨p - 16, by omega⟩ : Fin 256) y))
      = early s (X (m (c.tc.loc main_arg0))) i (up j) := by
  rw [(idx t).2.2.2.2.2.2.2.2.2]
  constructor
  all_goals
    refine ext_of (t.val % 32) r.val hs (by omega) hi r.isLt hp (fun h h0 k hk => ?_) (fun h k hk => ?_)
    all_goals
      unfold X
      try unfold lo
      try unfold up
      blk_ext [iblk, V, idx t]

/-- The convolution of the halves at a point. -/
theorem gate_eq (t : Fin cfg0.N) (r : Fin 256) (y : Fin 2816) (i : Fin 8192) (hi : i.val = t.val % 32 * 256 + r.val) (j : Fin 5632) (hj : j.val = t.val / 32 * 2816 + y.val) :
    k0_pay5 (F := Ideal) (grid0.coords t) (iblk m c 1 t) (iblk m c 0 t) (iblk m c 4 t) (ix2 r y) = taps3 (m (c.tc.loc main_arg1)) (X (m (c.tc.loc main_arg0))) i (lo j) := by
  pointwise [k0_pay5, taps3]
  refine congrArg₂ (· + ·) (congrArg₂ (· + ·) (congrArg₂ (· * ·) ?_ ?_) (congrArg₂ (· * ·) (ext m c t r y 2 (by omega) _ ?_ i hi j hj).1 ?_)) (congrArg₂ (· * ·) (ext m c t r y 1 (by omega) _ ?_ i hi j hj).1 ?_)
  all_goals first | omega | (try unfold X); unfold lo; blk_point [iblk, V, idx t]

theorem up_eq (t : Fin cfg0.N) (r : Fin 256) (y : Fin 2816) (i : Fin 8192) (hi : i.val = t.val % 32 * 256 + r.val) (j : Fin 5632) (hj : j.val = t.val / 32 * 2816 + y.val) :
    k0_pay1 (F := Ideal) (k0_pay6 (grid0.coords t) (iblk m c 3 t) (iblk m c 2 t)) (iblk m c 5 t) (k0_pay7 (grid0.coords t) (iblk m c 3 t) (iblk m c 2 t) (iblk m c 5 t)) (k0_pay8 (grid0.coords t) (iblk m c 3 t) (iblk m c 2 t))
      (k0_pay9 (iblk m c 5 t)) (ix2 r y) = taps3 (m (c.tc.loc main_arg1)) (X (m (c.tc.loc main_arg0))) i (up j) := by
  pointwise [k0_pay1, k0_pay7, k0_pay8, k0_pay9, k0_pay6, taps3]
  refine congrArg₂ (· + ·) (congrArg₂ (· + ·) (congrArg₂ (· * ·) ?_ ?_) (congrArg₂ (· * ·) (ext m c t r y 2 (by omega) _ ?_ i hi j hj).2 ?_)) (congrArg₂ (· * ·) (ext m c t r y 1 (by omega) _ ?_ i hi j hj).2 ?_)
  all_goals first | omega | (try unfold X); unfold up; blk_point [iblk, V, idx t]

/-- The convolved halves and their gated product. -/
def conv (w : (⟨2, ![3, 11264]⟩ : Shape).Idx → EReal) (x : (⟨2, ![8192, 11264]⟩ : Shape).Idx → EReal) (h : Fin 5632 → Fin 11264) : (⟨2, ![8192, 5632]⟩ : Shape).Idx → EReal :=
  fun i => taps3 w (X x) (i 0) (h (i 1))
def act (w : (⟨2, ![3, 11264]⟩ : Shape).Idx → EReal) (x : (⟨2, ![8192, 11264]⟩ : Shape).Idx → EReal) : (⟨2, ![8192, 5632]⟩ : Shape).Idx → EReal :=
  fun i => conv w x lo i * Ideal.logistic (conv w x lo i) * conv w x up i

/-- The arrays the kernel leaves. -/
theorem arrays : (dats m 0 c).arrAt 6 cfg0.N = conv (m (c.tc.loc main_arg1)) (m (c.tc.loc main_arg0)) lo
    ∧ (dats m 0 c).arrAt 7 cfg0.N = conv (m (c.tc.loc main_arg1)) (m (c.tc.loc main_arg0)) up ∧ (dats m 0 c).arrAt 8 cfg0.N = act (m (c.tc.loc main_arg1)) (m (c.tc.loc main_arg0)) := by
  refine ⟨(dats m 0 c).arrAt_eq_of_covers 6 _ (by decide +kernel) fun t _ y => ?_, (dats m 0 c).arrAt_eq_of_covers 7 _ (by decide +kernel) fun t _ y => ?_,
    (dats m 0 c).arrAt_eq_of_covers 8 _ (by decide +kernel) fun t _ y => ?_⟩
  · blk_simp
    rw [after0_6]
    unfold out0_6 k0_pay10
    frame_out
    idx_vars y
    pointwise [k0_pay2, conv]
    exact gate_eq m c t y0 y1 _ (by blk_simp [idx t]) _ (by blk_simp [idx t])
  · blk_simp
    rw [after0_7]
    unfold out0_7 k0_pay14 k0_pay13 k0_pay12 k0_pay11
    frame_out
    idx_vars y
    pointwise [k0_pay3, conv]
    exact up_eq m c t y0 y1 _ (by blk_simp [idx t]) _ (by blk_simp [idx t])
  · blk_simp
    rw [after0_8]
    unfold out0_8 k0_pay14 k0_pay13 k0_pay12 k0_pay11 k0_pay10
    frame_out
    idx_vars y
    pointwise [k0_pay4, act, conv, Ideal.logistic]
    have e0 : (((View.whole main_v0_2).slice (win0_8.rect t)).emb (ix2 y0 y1) 0).val = t.val % 32 * 256 + y0.val := by blk_simp [idx t]
    have e1 : (((View.whole main_v0_2).slice (win0_8.rect t)).emb (ix2 y0 y1) 1).val = t.val / 32 * 2816 + y1.val := by blk_simp [idx t]
    rw [gate_eq m c t y0 y1 _ e0 _ e1, up_eq m c t y0 y1 _ e0 _ e1, zero_sub]

end Cert.Kernel42Ideal.Value

namespace Cert.Proof

open Cert.Conv
open Cert.Kernel42Ideal.Value (X lo up conv act)
open Idealize.ShloMosaic Idealize.ShloMosaic.TcCoe Idealize.ShloMosaic.Tactic Idealize.SL.Sem

/-- The taps of a column as the reference joins them on. -/
theorem taps42 (w : (⟨2, ![3, 11264]⟩ : Shape).Idx → EReal) (x : (⟨2, ![8192, 11264]⟩ : Shape).Idx → EReal) (i : Fin 8192) (j : Fin 11264) :
    (if h : i.val < 2 then 0 else X x ⟨i.val - 2, by omega⟩ j) * w (ix2 0 j) + (if h : 1 + i.val < 2 then 0 else X x ⟨1 + i.val - 2, by omega⟩ j) * w (ix2 1 j) + X x i j * w (ix2 2 j) = taps3 w (X x) i j := by
  refine taps3_of (early_of 2 (X x) i j (p := i.val < 2) (fun h => ⟨i.val - 2, by omega⟩) ?_ ?_) (early_of 1 (X x) i j (p := 1 + i.val < 2) (fun h => ⟨1 + i.val - 2, by omega⟩) ?_ ?_)
  all_goals first | omega | (intro h; rfl) | (intro h; dsimp only; omega)

theorem algebraic42 : Cert.algebraic_Kernel42Ideal_Reference42Ideal := by
  pair_intro
  · run_from Cert.Kernel42Ideal.Gen.run_main m g
  · run_from Cert.Reference42Ideal.Value.run m' g'
    · rw [(Cert.Kernel42Ideal.Value.arrays m c).1]
      funext i; idx_vars i
      pointwise [conv]
      exact taps42 _ _ i0 (lo i1)
    · rw [(Cert.Kernel42Ideal.Value.arrays m c).2.1]
      funext i; idx_vars i
      pointwise [conv]
      exact taps42 _ _ i0 (up i1)
    · rw [(Cert.Kernel42Ideal.Value.arrays m c).2.2]
      unfold Cert.Reference42Ideal.Value.res_main_v29
      rw [(hagree c).1, (hagree c).2]
      funext i; idx_vars i
      pointwise [act, conv, Ideal.logistic]
      have e := taps42 (m (c.tc.loc Cert.Kernel42Ideal.main_arg1)) (m (c.tc.loc Cert.Kernel42Ideal.main_arg0)) i0
      exact congrArg₂ (· * ·) (congrArg₂ (· * ·) (e (lo i1)) (congrArg (fun z => Ideal.div 1 (1 + Ideal.exp (-z))) (e (lo i1)))) (e (up i1))

theorem frame_r42 : Cert.quiescent_Reference42Ideal := fun m g _ =>
  (θ_run _ _ _).mono (fun r h => ⟨fun c => (h c).2.2.2, sem_eq_zero_of_no_sems (by decide) r.2⟩) (Cert.Reference42Ideal.Value.run (F := Ideal) m g)

end Cert.Proof

end
-- ==== Proof.lean ====
/- The claims, assembled: the frames of the programs, and the equality of their results. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Both
public import proofs.«01_k».proof.Proof.RefRun
public import proofs.«01_k».proof.Proof.Pair
public import proofs.«01_k».proof.Proof.Gen.Kernel2.Frame
public import proofs.«01_k».proof.Proof.MmDw
public import proofs.«01_k».proof.Proof.Gen.Kernel3.Frame
public import proofs.«01_k».proof.Proof.Mm3
public import proofs.«01_k».proof.Proof.Gen.Kernel4.Frame
public import proofs.«01_k».proof.Proof.MmDx
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Mm11
public import proofs.«01_k».proof.Proof.Gen.Kernel12.Frame
public import proofs.«01_k».proof.Proof.MmY
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Nm16
public import proofs.«01_k».proof.Proof.Gen.Kernel17.Frame
public import proofs.«01_k».proof.Proof.Nm17
public import proofs.«01_k».proof.Proof.Gen.Kernel18.Frame
public import proofs.«01_k».proof.Proof.Cv18
public import proofs.«01_k».proof.Proof.Gen.Kernel19.Frame
public import proofs.«01_k».proof.Proof.Cv19
public import proofs.«01_k».proof.Proof.Gen.Kernel20.Frame
public import proofs.«01_k».proof.Proof.Cv20
public import proofs.«01_k».proof.Proof.Gen.Kernel21.Frame
public import proofs.«01_k».proof.Proof.Ad21
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Ad25
public import proofs.«01_k».proof.Proof.Gen.Kernel26.Frame
public import proofs.«01_k».proof.Proof.Gen.Kernel27.Frame
public import proofs.«01_k».proof.Proof.Gen.Kernel28.Frame
public import proofs.«01_k».proof.Proof.Gen.Kernel29.Frame
public import proofs.«01_k».proof.Proof.Gt29
public import proofs.«01_k».proof.Proof.Gen.Kernel30.Frame
public import proofs.«01_k».proof.Proof.Gn30
public import proofs.«01_k».proof.Proof.Gen.Kernel31.Frame
public import proofs.«01_k».proof.Proof.Mm31
public import proofs.«01_k».proof.Proof.Gen.Kernel32.Frame
public import proofs.«01_k».proof.Proof.Gen.Kernel33.Frame
public import proofs.«01_k».proof.Proof.Gen.Kernel34.Frame
public import proofs.«01_k».proof.Proof.Gen.Kernel35.Frame
public import proofs.«01_k».proof.Proof.Gen.Kernel36.Frame
public import proofs.«01_k».proof.Proof.Gen.Kernel37.Frame
public import proofs.«01_k».proof.Proof.Nm37
public import proofs.«01_k».proof.Proof.Gen.Kernel38.Frame
public import proofs.«01_k».proof.Proof.Gen.Kernel39.Frame
public import proofs.«01_k».proof.Proof.Cv39
public import proofs.«01_k».proof.Proof.Gen.Kernel40.Frame
public import proofs.«01_k».proof.Proof.Gen.Kernel41.Frame
public import proofs.«01_k».proof.Proof.Gn41
public import proofs.«01_k».proof.Proof.Gen.Kernel42.Frame
public import proofs.«01_k».proof.Proof.Gt42

@[expose] public section

noncomputable section

namespace Cert.Proof

open Idealize.ShloMosaic Idealize.SL.Sem

/-- The run stated for any floats, at the bit-level ones. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

/-- The bit-level program is the same text, so the two statements are the same. -/
theorem frameAtBits_eq : Cert.quiescent_Kernel = FrameAtBits := by chain_rfl

theorem frame_kernel : Cert.quiescent_Kernel := frameAtBits_eq ▸ fun m ρ _ => Cert.KernelIdeal.Both.frame (F := Bits) m ρ

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Kernel42.Gen.facts, Cert.Kernel42Ideal.Gen.facts, Cert.Reference42Ideal.Gen.facts,
  Cert.Pre_finite.Gen.facts,
  frame_kernel, fun m ρ _ => Cert.KernelIdeal.Both.frame m ρ, fun m ρ _ => Cert.ReferenceIdeal.Run.frame m ρ,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Gen.frame m ρ, fun m ρ _ => Cert.Kernel5Ideal.Gen.frame m ρ, frame_r5,
  fun m ρ _ => Cert.Kernel6.Gen.frame m ρ, fun m ρ _ => Cert.Kernel6Ideal.Gen.frame m ρ, frame_r6,
  fun m ρ _ => Cert.Kernel7.Gen.frame m ρ, fun m ρ _ => Cert.Kernel7Ideal.Gen.frame m ρ, frame_r7,
  fun m ρ _ => Cert.Kernel8.Gen.frame m ρ, fun m ρ _ => Cert.Kernel8Ideal.Gen.frame m ρ, frame_r8,
  fun m ρ _ => Cert.Kernel9.Gen.frame m ρ, fun m ρ _ => Cert.Kernel9Ideal.Gen.frame m ρ, frame_r9,
  fun m ρ _ => Cert.Kernel10.Gen.frame m ρ, fun m ρ _ => Cert.Kernel10Ideal.Gen.frame m ρ, frame_r10,
  fun m ρ _ => Cert.Kernel11.Gen.frame m ρ, fun m ρ _ => Cert.Kernel11Ideal.Gen.frame m ρ, frame_r11,
  fun m ρ _ => Cert.Kernel12.Gen.frame m ρ, fun m ρ _ => Cert.Kernel12Ideal.Gen.frame m ρ, frame_r12,
  fun m ρ _ => Cert.Kernel13.Gen.frame m ρ, fun m ρ _ => Cert.Kernel13Ideal.Gen.frame m ρ, frame_r13,
  fun m ρ _ => Cert.Kernel14.Gen.frame m ρ, fun m ρ _ => Cert.Kernel14Ideal.Gen.frame m ρ, frame_r14,
  fun m ρ _ => Cert.Kernel15.Gen.frame m ρ, fun m ρ _ => Cert.Kernel15Ideal.Gen.frame m ρ, frame_r15,
  fun m ρ _ => Cert.Kernel16.Gen.frame m ρ, fun m ρ _ => Cert.Kernel16Ideal.Gen.frame m ρ, frame_r16,
  fun m ρ _ => Cert.Kernel17.Gen.frame m ρ, fun m ρ _ => Cert.Kernel17Ideal.Gen.frame m ρ, frame_r17,
  fun m ρ _ => Cert.Kernel18.Gen.frame m ρ, fun m ρ _ => Cert.Kernel18Ideal.Gen.frame m ρ, frame_r18,
  fun m ρ _ => Cert.Kernel19.Gen.frame m ρ, fun m ρ _ => Cert.Kernel19Ideal.Gen.frame m ρ, frame_r19,
  fun m ρ _ => Cert.Kernel20.Gen.frame m ρ, fun m ρ _ => Cert.Kernel20Ideal.Gen.frame m ρ, frame_r20,
  fun m ρ _ => Cert.Kernel21.Gen.frame m ρ, fun m ρ _ => Cert.Kernel21Ideal.Gen.frame m ρ, frame_r21,
  fun m ρ _ => Cert.Kernel22.Gen.frame m ρ, fun m ρ _ => Cert.Kernel22Ideal.Gen.frame m ρ, frame_r22,
  fun m ρ _ => Cert.Kernel23.Gen.frame m ρ, fun m ρ _ => Cert.Kernel23Ideal.Gen.frame m ρ, frame_r23,
  fun m ρ _ => Cert.Kernel24.Gen.frame m ρ, fun m ρ _ => Cert.Kernel24Ideal.Gen.frame m ρ, frame_r24,
  fun m ρ _ => Cert.Kernel25.Gen.frame m ρ, fun m ρ _ => Cert.Kernel25Ideal.Gen.frame m ρ, frame_r25,
  fun m ρ _ => Cert.Kernel26.Gen.frame m ρ, fun m ρ _ => Cert.Kernel26Ideal.Gen.frame m ρ, frame_r26,
  fun m ρ _ => Cert.Kernel27.Gen.frame m ρ, fun m ρ _ => Cert.Kernel27Ideal.Gen.frame m ρ, frame_r27,
  fun m ρ _ => Cert.Kernel28.Gen.frame m ρ, fun m ρ _ => Cert.Kernel28Ideal.Gen.frame m ρ, frame_r28,
  fun m ρ _ => Cert.Kernel29.Gen.frame m ρ, fun m ρ _ => Cert.Kernel29Ideal.Gen.frame m ρ, fun m ρ _ => Cert.Kernel29Ideal.Gen.frame m ρ, frame_r29, fun m g _ => frame_r29 m g trivial,
  fun m ρ _ => Cert.Kernel30.Gen.frame m ρ, fun m ρ _ => Cert.Kernel30Ideal.Gen.frame m ρ, frame_r30,
  fun m ρ _ => Cert.Kernel31.Gen.frame m ρ, fun m ρ _ => Cert.Kernel31Ideal.Gen.frame m ρ, frame_r31,
  fun m ρ _ => Cert.Kernel32.Gen.frame m ρ, fun m ρ _ => Cert.Kernel32Ideal.Gen.frame m ρ, frame_r32,
  fun m ρ _ => Cert.Kernel33.Gen.frame m ρ, fun m ρ _ => Cert.Kernel33Ideal.Gen.frame m ρ, frame_r33,
  fun m ρ _ => Cert.Kernel34.Gen.frame m ρ, fun m ρ _ => Cert.Kernel34Ideal.Gen.frame m ρ, frame_r34,
  fun m ρ _ => Cert.Kernel35.Gen.frame m ρ, fun m ρ _ => Cert.Kernel35Ideal.Gen.frame m ρ, frame_r35,
  fun m ρ _ => Cert.Kernel36.Gen.frame m ρ, fun m ρ _ => Cert.Kernel36Ideal.Gen.frame m ρ, frame_r36,
  fun m ρ _ => Cert.Kernel37.Gen.frame m ρ, fun m ρ _ => Cert.Kernel37Ideal.Gen.frame m ρ, frame_r37,
  fun m ρ _ => Cert.Kernel38.Gen.frame m ρ, fun m ρ _ => Cert.Kernel38Ideal.Gen.frame m ρ, frame_r38,
  fun m ρ _ => Cert.Kernel39.Gen.frame m ρ, fun m ρ _ => Cert.Kernel39Ideal.Gen.frame m ρ, frame_r39,
  fun m ρ _ => Cert.Kernel40.Gen.frame m ρ, fun m ρ _ => Cert.Kernel40Ideal.Gen.frame m ρ, frame_r40,
  fun m ρ _ => Cert.Kernel41.Gen.frame m ρ, fun m ρ _ => Cert.Kernel41Ideal.Gen.frame m ρ, frame_r41,
  fun m ρ _ => Cert.Kernel42.Gen.frame m ρ, fun m ρ _ => Cert.Kernel42Ideal.Gen.frame m ρ, frame_r42,
  trivial, algebraic, trivial, algebraic2, trivial, algebraic3, trivial, algebraic4, trivial, algebraic5, trivial, algebraic6, trivial, algebraic7, trivial, algebraic8, trivial, algebraic9, trivial, algebraic10, trivial, algebraic11, trivial, algebraic12, trivial, algebraic13, trivial, algebraic14, trivial, algebraic15, trivial, algebraic16, trivial, algebraic17, trivial, algebraic18, trivial, algebraic19, trivial, algebraic20, trivial, algebraic21, trivial, algebraic22, trivial, algebraic23, trivial, algebraic24, trivial, algebraic25, trivial, algebraic26, trivial, algebraic27, trivial, algebraic28, trivial, algebraic29, trivial, algebraic30, trivial, algebraic31, trivial, algebraic32, trivial, algebraic33, trivial, algebraic34, trivial, algebraic35, trivial, algebraic36, trivial, algebraic37, trivial, algebraic38, trivial, algebraic39, trivial, algebraic40, trivial, algebraic41, trivial, algebraic42⟩

end Cert.Proof

end
